-- ==== Defs.lean ====
def Pre_ConfBwd (m : (ℓ : Loc Cert.ConfBwd.nD Cert.ConfBwd.τ Cert.ConfBwd.sig) → Buf (Elt Bits) ℓ) : Prop :=
  True

def Pre_ConfBwdIdeal (m : (ℓ : Loc Cert.ConfBwdIdeal.nD Cert.ConfBwdIdeal.τ Cert.ConfBwdIdeal.sig) → Buf (Elt Ideal) ℓ) : Prop :=
  True

def Pre_ConfGradIdeal (m : (ℓ : Loc Cert.ConfGradIdeal.nD Cert.ConfGradIdeal.τ Cert.ConfGradIdeal.sig) → Buf (Elt Ideal) ℓ) : Prop :=
  True

def Pre_DownWgrad (m : (ℓ : Loc Cert.DownWgrad.nD Cert.DownWgrad.τ Cert.DownWgrad.sig) → Buf (Elt Bits) ℓ) : Prop :=
  True

def Pre_DownWgradIdeal (m : (ℓ : Loc Cert.DownWgradIdeal.nD Cert.DownWgradIdeal.τ Cert.DownWgradIdeal.sig) → Buf (Elt Ideal) ℓ) : Prop :=
  True

def Pre_DownGradIdeal (m : (ℓ : Loc Cert.DownGradIdeal.nD Cert.DownGradIdeal.τ Cert.DownGradIdeal.sig) → Buf (Elt Ideal) ℓ) : Prop :=
  True

def Pre_UpWgrad (m : (ℓ : Loc Cert.UpWgrad.nD Cert.UpWgrad.τ Cert.UpWgrad.sig) → Buf (Elt Bits) ℓ) : Prop :=
  True

def Pre_UpWgradIdeal (m : (ℓ : Loc Cert.UpWgradIdeal.nD Cert.UpWgradIdeal.τ Cert.UpWgradIdeal.sig) → Buf (Elt Ideal) ℓ) : Prop :=
  True

def Pre_UpGradIdeal (m : (ℓ : Loc Cert.UpGradIdeal.nD Cert.UpGradIdeal.τ Cert.UpGradIdeal.sig) → Buf (Elt Ideal) ℓ) : Prop :=
  True

def Pre_OutWgrad (m : (ℓ : Loc Cert.OutWgrad.nD Cert.OutWgrad.τ Cert.OutWgrad.sig) → Buf (Elt Bits) ℓ) : Prop :=
  True

def Pre_OutWgradIdeal (m : (ℓ : Loc Cert.OutWgradIdeal.nD Cert.OutWgradIdeal.τ Cert.OutWgradIdeal.sig) → Buf (Elt Ideal) ℓ) : Prop :=
  True

def Pre_OutGradIdeal (m : (ℓ : Loc Cert.OutGradIdeal.nD Cert.OutGradIdeal.τ Cert.OutGradIdeal.sig) → Buf (Elt Ideal) ℓ) : Prop :=
  True

def Pre_InWgrad (m : (ℓ : Loc Cert.InWgrad.nD Cert.InWgrad.τ Cert.InWgrad.sig) → Buf (Elt Bits) ℓ) : Prop :=
  True

def Pre_InWgradIdeal (m : (ℓ : Loc Cert.InWgradIdeal.nD Cert.InWgradIdeal.τ Cert.InWgradIdeal.sig) → Buf (Elt Ideal) ℓ) : Prop :=
  True

def Pre_InGradIdeal (m : (ℓ : Loc Cert.InGradIdeal.nD Cert.InGradIdeal.τ Cert.InGradIdeal.sig) → Buf (Elt Ideal) ℓ) : Prop :=
  True

def Pre_UpProj (m : (ℓ : Loc Cert.UpProj.nD Cert.UpProj.τ Cert.UpProj.sig) → Buf (Elt Bits) ℓ) : Prop :=
  True

def Pre_UpProjIdeal (m : (ℓ : Loc Cert.UpProjIdeal.nD Cert.UpProjIdeal.τ Cert.UpProjIdeal.sig) → Buf (Elt Ideal) ℓ) : Prop :=
  True

def Pre_UpIdeal (m : (ℓ : Loc Cert.UpIdeal.nD Cert.UpIdeal.τ Cert.UpIdeal.sig) → Buf (Elt Ideal) ℓ) : Prop :=
  True

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InIdeal (m : (ℓ : Loc Cert.InIdeal.nD Cert.InIdeal.τ Cert.InIdeal.sig) → Buf (Elt Ideal) ℓ) : Prop :=
  True

def Pre_Norm2Bwd (m : (ℓ : Loc Cert.Norm2Bwd.nD Cert.Norm2Bwd.τ Cert.Norm2Bwd.sig) → Buf (Elt Bits) ℓ) : Prop :=
  True

def Pre_Norm2BwdIdeal (m : (ℓ : Loc Cert.Norm2BwdIdeal.nD Cert.Norm2BwdIdeal.τ Cert.Norm2BwdIdeal.sig) → Buf (Elt Ideal) ℓ) : Prop :=
  True

def Pre_Norm2GradIdeal (m : (ℓ : Loc Cert.Norm2GradIdeal.nD Cert.Norm2GradIdeal.τ Cert.Norm2GradIdeal.sig) → Buf (Elt Ideal) ℓ) : Prop :=
  True

def Pre_Norm1Bwd (m : (ℓ : Loc Cert.Norm1Bwd.nD Cert.Norm1Bwd.τ Cert.Norm1Bwd.sig) → Buf (Elt Bits) ℓ) : Prop :=
  True

def Pre_Norm1BwdIdeal (m : (ℓ : Loc Cert.Norm1BwdIdeal.nD Cert.Norm1BwdIdeal.τ Cert.Norm1BwdIdeal.sig) → Buf (Elt Ideal) ℓ) : Prop :=
  True

def Pre_Norm1GradIdeal (m : (ℓ : Loc Cert.Norm1GradIdeal.nD Cert.Norm1GradIdeal.τ Cert.Norm1GradIdeal.sig) → Buf (Elt Ideal) ℓ) : Prop :=
  True

def Pre_AdamIn (m : (ℓ : Loc Cert.AdamIn.nD Cert.AdamIn.τ Cert.AdamIn.sig) → Buf (Elt Bits) ℓ) : Prop :=
  True

def Pre_AdamInIdeal (m : (ℓ : Loc Cert.AdamInIdeal.nD Cert.AdamInIdeal.τ Cert.AdamInIdeal.sig) → Buf (Elt Ideal) ℓ) : Prop :=
  True

def Pre_StepInIdeal (m : (ℓ : Loc Cert.StepInIdeal.nD Cert.StepInIdeal.τ Cert.StepInIdeal.sig) → Buf (Elt Ideal) ℓ) : Prop :=
  True

def Pre_AdamUp (m : (ℓ : Loc Cert.AdamUp.nD Cert.AdamUp.τ Cert.AdamUp.sig) → Buf (Elt Bits) ℓ) : Prop :=
  True

def Pre_AdamUpIdeal (m : (ℓ : Loc Cert.AdamUpIdeal.nD Cert.AdamUpIdeal.τ Cert.AdamUpIdeal.sig) → Buf (Elt Ideal) ℓ) : Prop :=
  True

def Pre_StepUpIdeal (m : (ℓ : Loc Cert.StepUpIdeal.nD Cert.StepUpIdeal.τ Cert.StepUpIdeal.sig) → Buf (Elt Ideal) ℓ) : Prop :=
  True

def Pre_AdamOut (m : (ℓ : Loc Cert.AdamOut.nD Cert.AdamOut.τ Cert.AdamOut.sig) → Buf (Elt Bits) ℓ) : Prop :=
  True

def Pre_AdamOutIdeal (m : (ℓ : Loc Cert.AdamOutIdeal.nD Cert.AdamOutIdeal.τ Cert.AdamOutIdeal.sig) → Buf (Elt Ideal) ℓ) : Prop :=
  True

def Pre_StepOutIdeal (m : (ℓ : Loc Cert.StepOutIdeal.nD Cert.StepOutIdeal.τ Cert.StepOutIdeal.sig) → Buf (Elt Ideal) ℓ) : Prop :=
  True

def Pre_AdamDown (m : (ℓ : Loc Cert.AdamDown.nD Cert.AdamDown.τ Cert.AdamDown.sig) → Buf (Elt Bits) ℓ) : Prop :=
  True

def Pre_AdamDownIdeal (m : (ℓ : Loc Cert.AdamDownIdeal.nD Cert.AdamDownIdeal.τ Cert.AdamDownIdeal.sig) → Buf (Elt Ideal) ℓ) : Prop :=
  True

def Pre_StepDownIdeal (m : (ℓ : Loc Cert.StepDownIdeal.nD Cert.StepDownIdeal.τ Cert.StepDownIdeal.sig) → Buf (Elt Ideal) ℓ) : Prop :=
  True

def Pre_AdaWgrad (m : (ℓ : Loc Cert.AdaWgrad.nD Cert.AdaWgrad.τ Cert.AdaWgrad.sig) → Buf (Elt Bits) ℓ) : Prop :=
  True

def Pre_AdaWgradIdeal (m : (ℓ : Loc Cert.AdaWgradIdeal.nD Cert.AdaWgradIdeal.τ Cert.AdaWgradIdeal.sig) → Buf (Elt Ideal) ℓ) : Prop :=
  True

def Pre_AdaGradIdeal (m : (ℓ : Loc Cert.AdaGradIdeal.nD Cert.AdaGradIdeal.τ Cert.AdaGradIdeal.sig) → Buf (Elt Ideal) ℓ) : Prop :=
  True

def Pre_SmallSum (m : (ℓ : Loc Cert.SmallSum.nD Cert.SmallSum.τ Cert.SmallSum.sig) → Buf (Elt Bits) ℓ) : Prop :=
  True

def Pre_SmallSumIdeal (m : (ℓ : Loc Cert.SmallSumIdeal.nD Cert.SmallSumIdeal.τ Cert.SmallSumIdeal.sig) → Buf (Elt Ideal) ℓ) : Prop :=
  True

def Pre_SmallGradIdeal (m : (ℓ : Loc Cert.SmallGradIdeal.nD Cert.SmallGradIdeal.τ Cert.SmallGradIdeal.sig) → Buf (Elt Ideal) ℓ) : Prop :=
  True

def Pre_DownLoss (m : (ℓ : Loc Cert.DownLoss.nD Cert.DownLoss.τ Cert.DownLoss.sig) → Buf (Elt Bits) ℓ) : Prop :=
  True

def Pre_DownLossIdeal (m : (ℓ : Loc Cert.DownLossIdeal.nD Cert.DownLossIdeal.τ Cert.DownLossIdeal.sig) → Buf (Elt Ideal) ℓ) : Prop :=
  True

def Pre_LossGradIdeal (m : (ℓ : Loc Cert.LossGradIdeal.nD Cert.LossGradIdeal.τ Cert.LossGradIdeal.sig) → Buf (Elt Ideal) ℓ) : Prop :=
  True

def Pre_MixOut (m : (ℓ : Loc Cert.MixOut.nD Cert.MixOut.τ Cert.MixOut.sig) → Buf (Elt Bits) ℓ) : Prop :=
  True

def Pre_MixOutIdeal (m : (ℓ : Loc Cert.MixOutIdeal.nD Cert.MixOutIdeal.τ Cert.MixOutIdeal.sig) → Buf (Elt Ideal) ℓ) : Prop :=
  True

def Pre_MixIdeal (m : (ℓ : Loc Cert.MixIdeal.nD Cert.MixIdeal.τ Cert.MixIdeal.sig) → Buf (Elt Ideal) ℓ) : Prop :=
  True

def Pre_FfnConv (m : (ℓ : Loc Cert.FfnConv.nD Cert.FfnConv.τ Cert.FfnConv.sig) → Buf (Elt Bits) ℓ) : Prop :=
  True

def Pre_FfnConvIdeal (m : (ℓ : Loc Cert.FfnConvIdeal.nD Cert.FfnConvIdeal.τ Cert.FfnConvIdeal.sig) → Buf (Elt Ideal) ℓ) : Prop :=
  True

def Pre_FfnIdeal (m : (ℓ : Loc Cert.FfnIdeal.nD Cert.FfnIdeal.τ Cert.FfnIdeal.sig) → Buf (Elt Ideal) ℓ) : Prop :=
  True

def Pre_SsdConv (m : (ℓ : Loc Cert.SsdConv.nD Cert.SsdConv.τ Cert.SsdConv.sig) → Buf (Elt Bits) ℓ) : Prop :=
  True

def Pre_SsdConvIdeal (m : (ℓ : Loc Cert.SsdConvIdeal.nD Cert.SsdConvIdeal.τ Cert.SsdConvIdeal.sig) → Buf (Elt Ideal) ℓ) : Prop :=
  True

def Pre_XbcIdeal (m : (ℓ : Loc Cert.XbcIdeal.nD Cert.XbcIdeal.τ Cert.XbcIdeal.sig) → Buf (Elt Ideal) ℓ) : Prop :=
  True

def Pre_AdaMod (m : (ℓ : Loc Cert.AdaMod.nD Cert.AdaMod.τ Cert.AdaMod.sig) → Buf (Elt Bits) ℓ) : Prop :=
  True

def Pre_AdaModIdeal (m : (ℓ : Loc Cert.AdaModIdeal.nD Cert.AdaModIdeal.τ Cert.AdaModIdeal.sig) → Buf (Elt Ideal) ℓ) : Prop :=
  True

def Pre_ModulIdeal (m : (ℓ : Loc Cert.ModulIdeal.nD Cert.ModulIdeal.τ Cert.ModulIdeal.sig) → Buf (Elt Ideal) ℓ) : Prop :=
  True

def quiescent_ConfBwd [hConfBwd : Cert.ConfBwd.Facts] : Prop :=
  ∀ (m : (ℓ : Loc Cert.ConfBwd.nD Cert.ConfBwd.τ Cert.ConfBwd.sig) → Buf (Elt Bits) ℓ) (g : Dev Cert.ConfBwd.nD → PrngReg), Pre_ConfBwd m →
    θ_run (Cert.ConfBwd.defs (F := Bits)) (onTc (τ := Cert.ConfBwd.τ) (Cert.ConfBwd.main (F := Bits))) ⟨m, fun _ => 0, g⟩ (fun r => (∀ c : Dev Cert.ConfBwd.nD,
      r.2.mem ((c.tc : Thread Cert.ConfBwd.nD Cert.ConfBwd.τ).loc Cert.ConfBwd.main_arg0) = m ((c.tc : Thread Cert.ConfBwd.nD Cert.ConfBwd.τ).loc Cert.ConfBwd.main_arg0)
      ∧ r.2.mem ((c.tc : Thread Cert.ConfBwd.nD Cert.ConfBwd.τ).loc Cert.ConfBwd.main_arg1) = m ((c.tc : Thread Cert.ConfBwd.nD Cert.ConfBwd.τ).loc Cert.ConfBwd.main_arg1)
      ∧ r.2.mem ((c.tc : Thread Cert.ConfBwd.nD Cert.ConfBwd.τ).loc Cert.ConfBwd.main_arg2) = m ((c.tc : Thread Cert.ConfBwd.nD Cert.ConfBwd.τ).loc Cert.ConfBwd.main_arg2)
      ∧ r.2.mem ((c.tc : Thread Cert.ConfBwd.nD Cert.ConfBwd.τ).loc Cert.ConfBwd.main_arg3) = m ((c.tc : Thread Cert.ConfBwd.nD Cert.ConfBwd.τ).loc Cert.ConfBwd.main_arg3))
      ∧ r.2.sem = fun _ => 0)

def quiescent_ConfBwdIdeal [hConfBwdIdeal : Cert.ConfBwdIdeal.Facts] : Prop :=
  ∀ (m : (ℓ : Loc Cert.ConfBwdIdeal.nD Cert.ConfBwdIdeal.τ Cert.ConfBwdIdeal.sig) → Buf (Elt Ideal) ℓ) (g : Dev Cert.ConfBwdIdeal.nD → PrngReg), Pre_ConfBwdIdeal m →
    θ_run (Cert.ConfBwdIdeal.defs (F := Ideal)) (onTc (τ := Cert.ConfBwdIdeal.τ) (Cert.ConfBwdIdeal.main (F := Ideal))) ⟨m, fun _ => 0, g⟩ (fun r => (∀ c : Dev Cert.ConfBwdIdeal.nD,
      r.2.mem ((c.tc : Thread Cert.ConfBwdIdeal.nD Cert.ConfBwdIdeal.τ).loc Cert.ConfBwdIdeal.main_arg0) = m ((c.tc : Thread Cert.ConfBwdIdeal.nD Cert.ConfBwdIdeal.τ).loc Cert.ConfBwdIdeal.main_arg0)
      ∧ r.2.mem ((c.tc : Thread Cert.ConfBwdIdeal.nD Cert.ConfBwdIdeal.τ).loc Cert.ConfBwdIdeal.main_arg1) = m ((c.tc : Thread Cert.ConfBwdIdeal.nD Cert.ConfBwdIdeal.τ).loc Cert.ConfBwdIdeal.main_arg1)
      ∧ r.2.mem ((c.tc : Thread Cert.ConfBwdIdeal.nD Cert.ConfBwdIdeal.τ).loc Cert.ConfBwdIdeal.main_arg2) = m ((c.tc : Thread Cert.ConfBwdIdeal.nD Cert.ConfBwdIdeal.τ).loc Cert.ConfBwdIdeal.main_arg2)
      ∧ r.2.mem ((c.tc : Thread Cert.ConfBwdIdeal.nD Cert.ConfBwdIdeal.τ).loc Cert.ConfBwdIdeal.main_arg3) = m ((c.tc : Thread Cert.ConfBwdIdeal.nD Cert.ConfBwdIdeal.τ).loc Cert.ConfBwdIdeal.main_arg3))
      ∧ r.2.sem = fun _ => 0)

def quiescent_ConfGradIdeal [hConfGradIdeal : Cert.ConfGradIdeal.Facts] : Prop :=
  ∀ (m : (ℓ : Loc Cert.ConfGradIdeal.nD Cert.ConfGradIdeal.τ Cert.ConfGradIdeal.sig) → Buf (Elt Ideal) ℓ) (g : Dev Cert.ConfGradIdeal.nD → PrngReg), Pre_ConfGradIdeal m →
    θ_run (Cert.ConfGradIdeal.defs (F := Ideal)) (onTc (τ := Cert.ConfGradIdeal.τ) (Cert.ConfGradIdeal.main (F := Ideal))) ⟨m, fun _ => 0, g⟩ (fun r => (∀ c : Dev Cert.ConfGradIdeal.nD,
      r.2.mem ((c.tc : Thread Cert.ConfGradIdeal.nD Cert.ConfGradIdeal.τ).loc Cert.ConfGradIdeal.main_arg0) = m ((c.tc : Thread Cert.ConfGradIdeal.nD Cert.ConfGradIdeal.τ).loc Cert.ConfGradIdeal.main_arg0)
      ∧ r.2.mem ((c.tc : Thread Cert.ConfGradIdeal.nD Cert.ConfGradIdeal.τ).loc Cert.ConfGradIdeal.main_arg1) = m ((c.tc : Thread Cert.ConfGradIdeal.nD Cert.ConfGradIdeal.τ).loc Cert.ConfGradIdeal.main_arg1)
      ∧ r.2.mem ((c.tc : Thread Cert.ConfGradIdeal.nD Cert.ConfGradIdeal.τ).loc Cert.ConfGradIdeal.main_arg2) = m ((c.tc : Thread Cert.ConfGradIdeal.nD Cert.ConfGradIdeal.τ).loc Cert.ConfGradIdeal.main_arg2)
      ∧ r.2.mem ((c.tc : Thread Cert.ConfGradIdeal.nD Cert.ConfGradIdeal.τ).loc Cert.ConfGradIdeal.main_arg3) = m ((c.tc : Thread Cert.ConfGradIdeal.nD Cert.ConfGradIdeal.τ).loc Cert.ConfGradIdeal.main_arg3))
      ∧ r.2.sem = fun _ => 0)

def quiescent_DownWgrad [hDownWgrad : Cert.DownWgrad.Facts] : Prop :=
  ∀ (m : (ℓ : Loc Cert.DownWgrad.nD Cert.DownWgrad.τ Cert.DownWgrad.sig) → Buf (Elt Bits) ℓ) (g : Dev Cert.DownWgrad.nD → PrngReg), Pre_DownWgrad m →
    θ_run (Cert.DownWgrad.defs (F := Bits)) (onTc (τ := Cert.DownWgrad.τ) (Cert.DownWgrad.main (F := Bits))) ⟨m, fun _ => 0, g⟩ (fun r => (∀ c : Dev Cert.DownWgrad.nD,
      r.2.mem ((c.tc : Thread Cert.DownWgrad.nD Cert.DownWgrad.τ).loc Cert.DownWgrad.main_arg0) = m ((c.tc : Thread Cert.DownWgrad.nD Cert.DownWgrad.τ).loc Cert.DownWgrad.main_arg0)
      ∧ r.2.mem ((c.tc : Thread Cert.DownWgrad.nD Cert.DownWgrad.τ).loc Cert.DownWgrad.main_arg1) = m ((c.tc : Thread Cert.DownWgrad.nD Cert.DownWgrad.τ).loc Cert.DownWgrad.main_arg1))
      ∧ r.2.sem = fun _ => 0)

def quiescent_DownWgradIdeal [hDownWgradIdeal : Cert.DownWgradIdeal.Facts] : Prop :=
  ∀ (m : (ℓ : Loc Cert.DownWgradIdeal.nD Cert.DownWgradIdeal.τ Cert.DownWgradIdeal.sig) → Buf (Elt Ideal) ℓ) (g : Dev Cert.DownWgradIdeal.nD → PrngReg), Pre_DownWgradIdeal m →
    θ_run (Cert.DownWgradIdeal.defs (F := Ideal)) (onTc (τ := Cert.DownWgradIdeal.τ) (Cert.DownWgradIdeal.main (F := Ideal))) ⟨m, fun _ => 0, g⟩ (fun r => (∀ c : Dev Cert.DownWgradIdeal.nD,
      r.2.mem ((c.tc : Thread Cert.DownWgradIdeal.nD Cert.DownWgradIdeal.τ).loc Cert.DownWgradIdeal.main_arg0) = m ((c.tc : Thread Cert.DownWgradIdeal.nD Cert.DownWgradIdeal.τ).loc Cert.DownWgradIdeal.main_arg0)
      ∧ r.2.mem ((c.tc : Thread Cert.DownWgradIdeal.nD Cert.DownWgradIdeal.τ).loc Cert.DownWgradIdeal.main_arg1) = m ((c.tc : Thread Cert.DownWgradIdeal.nD Cert.DownWgradIdeal.τ).loc Cert.DownWgradIdeal.main_arg1))
      ∧ r.2.sem = fun _ => 0)

def quiescent_DownGradIdeal [hDownGradIdeal : Cert.DownGradIdeal.Facts] : Prop :=
  ∀ (m : (ℓ : Loc Cert.DownGradIdeal.nD Cert.DownGradIdeal.τ Cert.DownGradIdeal.sig) → Buf (Elt Ideal) ℓ) (g : Dev Cert.DownGradIdeal.nD → PrngReg), Pre_DownGradIdeal m →
    θ_run (Cert.DownGradIdeal.defs (F := Ideal)) (onTc (τ := Cert.DownGradIdeal.τ) (Cert.DownGradIdeal.main (F := Ideal))) ⟨m, fun _ => 0, g⟩ (fun r => (∀ c : Dev Cert.DownGradIdeal.nD,
      r.2.mem ((c.tc : Thread Cert.DownGradIdeal.nD Cert.DownGradIdeal.τ).loc Cert.DownGradIdeal.main_arg0) = m ((c.tc : Thread Cert.DownGradIdeal.nD Cert.DownGradIdeal.τ).loc Cert.DownGradIdeal.main_arg0)
      ∧ r.2.mem ((c.tc : Thread Cert.DownGradIdeal.nD Cert.DownGradIdeal.τ).loc Cert.DownGradIdeal.main_arg1) = m ((c.tc : Thread Cert.DownGradIdeal.nD Cert.DownGradIdeal.τ).loc Cert.DownGradIdeal.main_arg1))
      ∧ r.2.sem = fun _ => 0)

def quiescent_UpWgrad [hUpWgrad : Cert.UpWgrad.Facts] : Prop :=
  ∀ (m : (ℓ : Loc Cert.UpWgrad.nD Cert.UpWgrad.τ Cert.UpWgrad.sig) → Buf (Elt Bits) ℓ) (g : Dev Cert.UpWgrad.nD → PrngReg), Pre_UpWgrad m →
    θ_run (Cert.UpWgrad.defs (F := Bits)) (onTc (τ := Cert.UpWgrad.τ) (Cert.UpWgrad.main (F := Bits))) ⟨m, fun _ => 0, g⟩ (fun r => (∀ c : Dev Cert.UpWgrad.nD,
      r.2.mem ((c.tc : Thread Cert.UpWgrad.nD Cert.UpWgrad.τ).loc Cert.UpWgrad.main_arg0) = m ((c.tc : Thread Cert.UpWgrad.nD Cert.UpWgrad.τ).loc Cert.UpWgrad.main_arg0)
      ∧ r.2.mem ((c.tc : Thread Cert.UpWgrad.nD Cert.UpWgrad.τ).loc Cert.UpWgrad.main_arg1) = m ((c.tc : Thread Cert.UpWgrad.nD Cert.UpWgrad.τ).loc Cert.UpWgrad.main_arg1)
      ∧ r.2.mem ((c.tc : Thread Cert.UpWgrad.nD Cert.UpWgrad.τ).loc Cert.UpWgrad.main_arg2) = m ((c.tc : Thread Cert.UpWgrad.nD Cert.UpWgrad.τ).loc Cert.UpWgrad.main_arg2))
      ∧ r.2.sem = fun _ => 0)

def quiescent_UpWgradIdeal [hUpWgradIdeal : Cert.UpWgradIdeal.Facts] : Prop :=
  ∀ (m : (ℓ : Loc Cert.UpWgradIdeal.nD Cert.UpWgradIdeal.τ Cert.UpWgradIdeal.sig) → Buf (Elt Ideal) ℓ) (g : Dev Cert.UpWgradIdeal.nD → PrngReg), Pre_UpWgradIdeal m →
    θ_run (Cert.UpWgradIdeal.defs (F := Ideal)) (onTc (τ := Cert.UpWgradIdeal.τ) (Cert.UpWgradIdeal.main (F := Ideal))) ⟨m, fun _ => 0, g⟩ (fun r => (∀ c : Dev Cert.UpWgradIdeal.nD,
      r.2.mem ((c.tc : Thread Cert.UpWgradIdeal.nD Cert.UpWgradIdeal.τ).loc Cert.UpWgradIdeal.main_arg0) = m ((c.tc : Thread Cert.UpWgradIdeal.nD Cert.UpWgradIdeal.τ).loc Cert.UpWgradIdeal.main_arg0)
      ∧ r.2.mem ((c.tc : Thread Cert.UpWgradIdeal.nD Cert.UpWgradIdeal.τ).loc Cert.UpWgradIdeal.main_arg1) = m ((c.tc : Thread Cert.UpWgradIdeal.nD Cert.UpWgradIdeal.τ).loc Cert.UpWgradIdeal.main_arg1)
      ∧ r.2.mem ((c.tc : Thread Cert.UpWgradIdeal.nD Cert.UpWgradIdeal.τ).loc Cert.UpWgradIdeal.main_arg2) = m ((c.tc : Thread Cert.UpWgradIdeal.nD Cert.UpWgradIdeal.τ).loc Cert.UpWgradIdeal.main_arg2))
      ∧ r.2.sem = fun _ => 0)

def quiescent_UpGradIdeal [hUpGradIdeal : Cert.UpGradIdeal.Facts] : Prop :=
  ∀ (m : (ℓ : Loc Cert.UpGradIdeal.nD Cert.UpGradIdeal.τ Cert.UpGradIdeal.sig) → Buf (Elt Ideal) ℓ) (g : Dev Cert.UpGradIdeal.nD → PrngReg), Pre_UpGradIdeal m →
    θ_run (Cert.UpGradIdeal.defs (F := Ideal)) (onTc (τ := Cert.UpGradIdeal.τ) (Cert.UpGradIdeal.main (F := Ideal))) ⟨m, fun _ => 0, g⟩ (fun r => (∀ c : Dev Cert.UpGradIdeal.nD,
      r.2.mem ((c.tc : Thread Cert.UpGradIdeal.nD Cert.UpGradIdeal.τ).loc Cert.UpGradIdeal.main_arg0) = m ((c.tc : Thread Cert.UpGradIdeal.nD Cert.UpGradIdeal.τ).loc Cert.UpGradIdeal.main_arg0)
      ∧ r.2.mem ((c.tc : Thread Cert.UpGradIdeal.nD Cert.UpGradIdeal.τ).loc Cert.UpGradIdeal.main_arg1) = m ((c.tc : Thread Cert.UpGradIdeal.nD Cert.UpGradIdeal.τ).loc Cert.UpGradIdeal.main_arg1)
      ∧ r.2.mem ((c.tc : Thread Cert.UpGradIdeal.nD Cert.UpGradIdeal.τ).loc Cert.UpGradIdeal.main_arg2) = m ((c.tc : Thread Cert.UpGradIdeal.nD Cert.UpGradIdeal.τ).loc Cert.UpGradIdeal.main_arg2))
      ∧ r.2.sem = fun _ => 0)

def quiescent_OutWgrad [hOutWgrad : Cert.OutWgrad.Facts] : Prop :=
  ∀ (m : (ℓ : Loc Cert.OutWgrad.nD Cert.OutWgrad.τ Cert.OutWgrad.sig) → Buf (Elt Bits) ℓ) (g : Dev Cert.OutWgrad.nD → PrngReg), Pre_OutWgrad m →
    θ_run (Cert.OutWgrad.defs (F := Bits)) (onTc (τ := Cert.OutWgrad.τ) (Cert.OutWgrad.main (F := Bits))) ⟨m, fun _ => 0, g⟩ (fun r => (∀ c : Dev Cert.OutWgrad.nD,
      r.2.mem ((c.tc : Thread Cert.OutWgrad.nD Cert.OutWgrad.τ).loc Cert.OutWgrad.main_arg0) = m ((c.tc : Thread Cert.OutWgrad.nD Cert.OutWgrad.τ).loc Cert.OutWgrad.main_arg0)
      ∧ r.2.mem ((c.tc : Thread Cert.OutWgrad.nD Cert.OutWgrad.τ).loc Cert.OutWgrad.main_arg1) = m ((c.tc : Thread Cert.OutWgrad.nD Cert.OutWgrad.τ).loc Cert.OutWgrad.main_arg1)
      ∧ r.2.mem ((c.tc : Thread Cert.OutWgrad.nD Cert.OutWgrad.τ).loc Cert.OutWgrad.main_arg2) = m ((c.tc : Thread Cert.OutWgrad.nD Cert.OutWgrad.τ).loc Cert.OutWgrad.main_arg2))
      ∧ r.2.sem = fun _ => 0)

def quiescent_OutWgradIdeal [hOutWgradIdeal : Cert.OutWgradIdeal.Facts] : Prop :=
  ∀ (m : (ℓ : Loc Cert.OutWgradIdeal.nD Cert.OutWgradIdeal.τ Cert.OutWgradIdeal.sig) → Buf (Elt Ideal) ℓ) (g : Dev Cert.OutWgradIdeal.nD → PrngReg), Pre_OutWgradIdeal m →
    θ_run (Cert.OutWgradIdeal.defs (F := Ideal)) (onTc (τ := Cert.OutWgradIdeal.τ) (Cert.OutWgradIdeal.main (F := Ideal))) ⟨m, fun _ => 0, g⟩ (fun r => (∀ c : Dev Cert.OutWgradIdeal.nD,
      r.2.mem ((c.tc : Thread Cert.OutWgradIdeal.nD Cert.OutWgradIdeal.τ).loc Cert.OutWgradIdeal.main_arg0) = m ((c.tc : Thread Cert.OutWgradIdeal.nD Cert.OutWgradIdeal.τ).loc Cert.OutWgradIdeal.main_arg0)
      ∧ r.2.mem ((c.tc : Thread Cert.OutWgradIdeal.nD Cert.OutWgradIdeal.τ).loc Cert.OutWgradIdeal.main_arg1) = m ((c.tc : Thread Cert.OutWgradIdeal.nD Cert.OutWgradIdeal.τ).loc Cert.OutWgradIdeal.main_arg1)
      ∧ r.2.mem ((c.tc : Thread Cert.OutWgradIdeal.nD Cert.OutWgradIdeal.τ).loc Cert.OutWgradIdeal.main_arg2) = m ((c.tc : Thread Cert.OutWgradIdeal.nD Cert.OutWgradIdeal.τ).loc Cert.OutWgradIdeal.main_arg2))
      ∧ r.2.sem = fun _ => 0)

def quiescent_OutGradIdeal [hOutGradIdeal : Cert.OutGradIdeal.Facts] : Prop :=
  ∀ (m : (ℓ : Loc Cert.OutGradIdeal.nD Cert.OutGradIdeal.τ Cert.OutGradIdeal.sig) → Buf (Elt Ideal) ℓ) (g : Dev Cert.OutGradIdeal.nD → PrngReg), Pre_OutGradIdeal m →
    θ_run (Cert.OutGradIdeal.defs (F := Ideal)) (onTc (τ := Cert.OutGradIdeal.τ) (Cert.OutGradIdeal.main (F := Ideal))) ⟨m, fun _ => 0, g⟩ (fun r => (∀ c : Dev Cert.OutGradIdeal.nD,
      r.2.mem ((c.tc : Thread Cert.OutGradIdeal.nD Cert.OutGradIdeal.τ).loc Cert.OutGradIdeal.main_arg0) = m ((c.tc : Thread Cert.OutGradIdeal.nD Cert.OutGradIdeal.τ).loc Cert.OutGradIdeal.main_arg0)
      ∧ r.2.mem ((c.tc : Thread Cert.OutGradIdeal.nD Cert.OutGradIdeal.τ).loc Cert.OutGradIdeal.main_arg1) = m ((c.tc : Thread Cert.OutGradIdeal.nD Cert.OutGradIdeal.τ).loc Cert.OutGradIdeal.main_arg1)
      ∧ r.2.mem ((c.tc : Thread Cert.OutGradIdeal.nD Cert.OutGradIdeal.τ).loc Cert.OutGradIdeal.main_arg2) = m ((c.tc : Thread Cert.OutGradIdeal.nD Cert.OutGradIdeal.τ).loc Cert.OutGradIdeal.main_arg2))
      ∧ r.2.sem = fun _ => 0)

def quiescent_InWgrad [hInWgrad : Cert.InWgrad.Facts] : Prop :=
  ∀ (m : (ℓ : Loc Cert.InWgrad.nD Cert.InWgrad.τ Cert.InWgrad.sig) → Buf (Elt Bits) ℓ) (g : Dev Cert.InWgrad.nD → PrngReg), Pre_InWgrad m →
    θ_run (Cert.InWgrad.defs (F := Bits)) (onTc (τ := Cert.InWgrad.τ) (Cert.InWgrad.main (F := Bits))) ⟨m, fun _ => 0, g⟩ (fun r => (∀ c : Dev Cert.InWgrad.nD,
      r.2.mem ((c.tc : Thread Cert.InWgrad.nD Cert.InWgrad.τ).loc Cert.InWgrad.main_arg0) = m ((c.tc : Thread Cert.InWgrad.nD Cert.InWgrad.τ).loc Cert.InWgrad.main_arg0)
      ∧ r.2.mem ((c.tc : Thread Cert.InWgrad.nD Cert.InWgrad.τ).loc Cert.InWgrad.main_arg1) = m ((c.tc : Thread Cert.InWgrad.nD Cert.InWgrad.τ).loc Cert.InWgrad.main_arg1)
      ∧ r.2.mem ((c.tc : Thread Cert.InWgrad.nD Cert.InWgrad.τ).loc Cert.InWgrad.main_arg2) = m ((c.tc : Thread Cert.InWgrad.nD Cert.InWgrad.τ).loc Cert.InWgrad.main_arg2)
      ∧ r.2.mem ((c.tc : Thread Cert.InWgrad.nD Cert.InWgrad.τ).loc Cert.InWgrad.main_arg3) = m ((c.tc : Thread Cert.InWgrad.nD Cert.InWgrad.τ).loc Cert.InWgrad.main_arg3)
      ∧ r.2.mem ((c.tc : Thread Cert.InWgrad.nD Cert.InWgrad.τ).loc Cert.InWgrad.main_arg4) = m ((c.tc : Thread Cert.InWgrad.nD Cert.InWgrad.τ).loc Cert.InWgrad.main_arg4)
      ∧ r.2.mem ((c.tc : Thread Cert.InWgrad.nD Cert.InWgrad.τ).loc Cert.InWgrad.main_arg5) = m ((c.tc : Thread Cert.InWgrad.nD Cert.InWgrad.τ).loc Cert.InWgrad.main_arg5))
      ∧ r.2.sem = fun _ => 0)

def quiescent_InWgradIdeal [hInWgradIdeal : Cert.InWgradIdeal.Facts] : Prop :=
  ∀ (m : (ℓ : Loc Cert.InWgradIdeal.nD Cert.InWgradIdeal.τ Cert.InWgradIdeal.sig) → Buf (Elt Ideal) ℓ) (g : Dev Cert.InWgradIdeal.nD → PrngReg), Pre_InWgradIdeal m →
    θ_run (Cert.InWgradIdeal.defs (F := Ideal)) (onTc (τ := Cert.InWgradIdeal.τ) (Cert.InWgradIdeal.main (F := Ideal))) ⟨m, fun _ => 0, g⟩ (fun r => (∀ c : Dev Cert.InWgradIdeal.nD,
      r.2.mem ((c.tc : Thread Cert.InWgradIdeal.nD Cert.InWgradIdeal.τ).loc Cert.InWgradIdeal.main_arg0) = m ((c.tc : Thread Cert.InWgradIdeal.nD Cert.InWgradIdeal.τ).loc Cert.InWgradIdeal.main_arg0)
      ∧ r.2.mem ((c.tc : Thread Cert.InWgradIdeal.nD Cert.InWgradIdeal.τ).loc Cert.InWgradIdeal.main_arg1) = m ((c.tc : Thread Cert.InWgradIdeal.nD Cert.InWgradIdeal.τ).loc Cert.InWgradIdeal.main_arg1)
      ∧ r.2.mem ((c.tc : Thread Cert.InWgradIdeal.nD Cert.InWgradIdeal.τ).loc Cert.InWgradIdeal.main_arg2) = m ((c.tc : Thread Cert.InWgradIdeal.nD Cert.InWgradIdeal.τ).loc Cert.InWgradIdeal.main_arg2)
      ∧ r.2.mem ((c.tc : Thread Cert.InWgradIdeal.nD Cert.InWgradIdeal.τ).loc Cert.InWgradIdeal.main_arg3) = m ((c.tc : Thread Cert.InWgradIdeal.nD Cert.InWgradIdeal.τ).loc Cert.InWgradIdeal.main_arg3)
      ∧ r.2.mem ((c.tc : Thread Cert.InWgradIdeal.nD Cert.InWgradIdeal.τ).loc Cert.InWgradIdeal.main_arg4) = m ((c.tc : Thread Cert.InWgradIdeal.nD Cert.InWgradIdeal.τ).loc Cert.InWgradIdeal.main_arg4)
      ∧ r.2.mem ((c.tc : Thread Cert.InWgradIdeal.nD Cert.InWgradIdeal.τ).loc Cert.InWgradIdeal.main_arg5) = m ((c.tc : Thread Cert.InWgradIdeal.nD Cert.InWgradIdeal.τ).loc Cert.InWgradIdeal.main_arg5))
      ∧ r.2.sem = fun _ => 0)

def quiescent_InGradIdeal [hInGradIdeal : Cert.InGradIdeal.Facts] : Prop :=
  ∀ (m : (ℓ : Loc Cert.InGradIdeal.nD Cert.InGradIdeal.τ Cert.InGradIdeal.sig) → Buf (Elt Ideal) ℓ) (g : Dev Cert.InGradIdeal.nD → PrngReg), Pre_InGradIdeal m →
    θ_run (Cert.InGradIdeal.defs (F := Ideal)) (onTc (τ := Cert.InGradIdeal.τ) (Cert.InGradIdeal.main (F := Ideal))) ⟨m, fun _ => 0, g⟩ (fun r => (∀ c : Dev Cert.InGradIdeal.nD,
      r.2.mem ((c.tc : Thread Cert.InGradIdeal.nD Cert.InGradIdeal.τ).loc Cert.InGradIdeal.main_arg0) = m ((c.tc : Thread Cert.InGradIdeal.nD Cert.InGradIdeal.τ).loc Cert.InGradIdeal.main_arg0)
      ∧ r.2.mem ((c.tc : Thread Cert.InGradIdeal.nD Cert.InGradIdeal.τ).loc Cert.InGradIdeal.main_arg1) = m ((c.tc : Thread Cert.InGradIdeal.nD Cert.InGradIdeal.τ).loc Cert.InGradIdeal.main_arg1)
      ∧ r.2.mem ((c.tc : Thread Cert.InGradIdeal.nD Cert.InGradIdeal.τ).loc Cert.InGradIdeal.main_arg2) = m ((c.tc : Thread Cert.InGradIdeal.nD Cert.InGradIdeal.τ).loc Cert.InGradIdeal.main_arg2)
      ∧ r.2.mem ((c.tc : Thread Cert.InGradIdeal.nD Cert.InGradIdeal.τ).loc Cert.InGradIdeal.main_arg3) = m ((c.tc : Thread Cert.InGradIdeal.nD Cert.InGradIdeal.τ).loc Cert.InGradIdeal.main_arg3)
      ∧ r.2.mem ((c.tc : Thread Cert.InGradIdeal.nD Cert.InGradIdeal.τ).loc Cert.InGradIdeal.main_arg4) = m ((c.tc : Thread Cert.InGradIdeal.nD Cert.InGradIdeal.τ).loc Cert.InGradIdeal.main_arg4)
      ∧ r.2.mem ((c.tc : Thread Cert.InGradIdeal.nD Cert.InGradIdeal.τ).loc Cert.InGradIdeal.main_arg5) = m ((c.tc : Thread Cert.InGradIdeal.nD Cert.InGradIdeal.τ).loc Cert.InGradIdeal.main_arg5))
      ∧ r.2.sem = fun _ => 0)

def quiescent_UpProj [hUpProj : Cert.UpProj.Facts] : Prop :=
  ∀ (m : (ℓ : Loc Cert.UpProj.nD Cert.UpProj.τ Cert.UpProj.sig) → Buf (Elt Bits) ℓ) (g : Dev Cert.UpProj.nD → PrngReg), Pre_UpProj m →
    θ_run (Cert.UpProj.defs (F := Bits)) (onTc (τ := Cert.UpProj.τ) (Cert.UpProj.main (F := Bits))) ⟨m, fun _ => 0, g⟩ (fun r => (∀ c : Dev Cert.UpProj.nD,
      r.2.mem ((c.tc : Thread Cert.UpProj.nD Cert.UpProj.τ).loc Cert.UpProj.main_arg0) = m ((c.tc : Thread Cert.UpProj.nD Cert.UpProj.τ).loc Cert.UpProj.main_arg0)
      ∧ r.2.mem ((c.tc : Thread Cert.UpProj.nD Cert.UpProj.τ).loc Cert.UpProj.main_arg1) = m ((c.tc : Thread Cert.UpProj.nD Cert.UpProj.τ).loc Cert.UpProj.main_arg1))
      ∧ r.2.sem = fun _ => 0)

def quiescent_UpProjIdeal [hUpProjIdeal : Cert.UpProjIdeal.Facts] : Prop :=
  ∀ (m : (ℓ : Loc Cert.UpProjIdeal.nD Cert.UpProjIdeal.τ Cert.UpProjIdeal.sig) → Buf (Elt Ideal) ℓ) (g : Dev Cert.UpProjIdeal.nD → PrngReg), Pre_UpProjIdeal m →
    θ_run (Cert.UpProjIdeal.defs (F := Ideal)) (onTc (τ := Cert.UpProjIdeal.τ) (Cert.UpProjIdeal.main (F := Ideal))) ⟨m, fun _ => 0, g⟩ (fun r => (∀ c : Dev Cert.UpProjIdeal.nD,
      r.2.mem ((c.tc : Thread Cert.UpProjIdeal.nD Cert.UpProjIdeal.τ).loc Cert.UpProjIdeal.main_arg0) = m ((c.tc : Thread Cert.UpProjIdeal.nD Cert.UpProjIdeal.τ).loc Cert.UpProjIdeal.main_arg0)
      ∧ r.2.mem ((c.tc : Thread Cert.UpProjIdeal.nD Cert.UpProjIdeal.τ).loc Cert.UpProjIdeal.main_arg1) = m ((c.tc : Thread Cert.UpProjIdeal.nD Cert.UpProjIdeal.τ).loc Cert.UpProjIdeal.main_arg1))
      ∧ r.2.sem = fun _ => 0)

def quiescent_UpIdeal [hUpIdeal : Cert.UpIdeal.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2)
      ∧ r.2.mem ((c.tc : Thread Cert.InProj.nD Cert.InProj.τ).loc Cert.InProj.main_arg3) = m ((c.tc : Thread Cert.InProj.nD Cert.InProj.τ).loc Cert.InProj.main_arg3))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
      ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3))
      ∧ r.2.sem = fun _ => 0)

def quiescent_InIdeal [hInIdeal : Cert.InIdeal.Facts] : Prop :=
  ∀ (m : (ℓ : Loc Cert.InIdeal.nD Cert.InIdeal.τ Cert.InIdeal.sig) → Buf (Elt Ideal) ℓ) (g : Dev Cert.InIdeal.nD → PrngReg), Pre_InIdeal m →
    θ_run (Cert.InIdeal.defs (F := Ideal)) (onTc (τ := Cert.InIdeal.τ) (Cert.InIdeal.main (F := Ideal))) ⟨m, fun _ => 0, g⟩ (fun r => (∀ c : Dev Cert.InIdeal.nD,
      r.2.mem ((c.tc : Thread Cert.InIdeal.nD Cert.InIdeal.τ).loc Cert.InIdeal.main_arg0) = m ((c.tc : Thread Cert.InIdeal.nD Cert.InIdeal.τ).loc Cert.InIdeal.main_arg0)
      ∧ r.2.mem ((c.tc : Thread Cert.InIdeal.nD Cert.InIdeal.τ).loc Cert.InIdeal.main_arg1) = m ((c.tc : Thread Cert.InIdeal.nD Cert.InIdeal.τ).loc Cert.InIdeal.main_arg1)
      ∧ r.2.mem ((c.tc : Thread Cert.InIdeal.nD Cert.InIdeal.τ).loc Cert.InIdeal.main_arg2) = m ((c.tc : Thread Cert.InIdeal.nD Cert.InIdeal.τ).loc Cert.InIdeal.main_arg2)
      ∧ r.2.mem ((c.tc : Thread Cert.InIdeal.nD Cert.InIdeal.τ).loc Cert.InIdeal.main_arg3) = m ((c.tc : Thread Cert.InIdeal.nD Cert.InIdeal.τ).loc Cert.InIdeal.main_arg3))
      ∧ r.2.sem = fun _ => 0)

def quiescent_Norm2Bwd [hNorm2Bwd : Cert.Norm2Bwd.Facts] : Prop :=
  ∀ (m : (ℓ : Loc Cert.Norm2Bwd.nD Cert.Norm2Bwd.τ Cert.Norm2Bwd.sig) → Buf (Elt Bits) ℓ) (g : Dev Cert.Norm2Bwd.nD → PrngReg), Pre_Norm2Bwd m →
    θ_run (Cert.Norm2Bwd.defs (F := Bits)) (onTc (τ := Cert.Norm2Bwd.τ) (Cert.Norm2Bwd.main (F := Bits))) ⟨m, fun _ => 0, g⟩ (fun r => (∀ c : Dev Cert.Norm2Bwd.nD,
      r.2.mem ((c.tc : Thread Cert.Norm2Bwd.nD Cert.Norm2Bwd.τ).loc Cert.Norm2Bwd.main_arg0) = m ((c.tc : Thread Cert.Norm2Bwd.nD Cert.Norm2Bwd.τ).loc Cert.Norm2Bwd.main_arg0)
      ∧ r.2.mem ((c.tc : Thread Cert.Norm2Bwd.nD Cert.Norm2Bwd.τ).loc Cert.Norm2Bwd.main_arg1) = m ((c.tc : Thread Cert.Norm2Bwd.nD Cert.Norm2Bwd.τ).loc Cert.Norm2Bwd.main_arg1)
      ∧ r.2.mem ((c.tc : Thread Cert.Norm2Bwd.nD Cert.Norm2Bwd.τ).loc Cert.Norm2Bwd.main_arg2) = m ((c.tc : Thread Cert.Norm2Bwd.nD Cert.Norm2Bwd.τ).loc Cert.Norm2Bwd.main_arg2)
      ∧ r.2.mem ((c.tc : Thread Cert.Norm2Bwd.nD Cert.Norm2Bwd.τ).loc Cert.Norm2Bwd.main_arg3) = m ((c.tc : Thread Cert.Norm2Bwd.nD Cert.Norm2Bwd.τ).loc Cert.Norm2Bwd.main_arg3)
      ∧ r.2.mem ((c.tc : Thread Cert.Norm2Bwd.nD Cert.Norm2Bwd.τ).loc Cert.Norm2Bwd.main_arg4) = m ((c.tc : Thread Cert.Norm2Bwd.nD Cert.Norm2Bwd.τ).loc Cert.Norm2Bwd.main_arg4)
      ∧ r.2.mem ((c.tc : Thread Cert.Norm2Bwd.nD Cert.Norm2Bwd.τ).loc Cert.Norm2Bwd.main_arg5) = m ((c.tc : Thread Cert.Norm2Bwd.nD Cert.Norm2Bwd.τ).loc Cert.Norm2Bwd.main_arg5)
      ∧ r.2.mem ((c.tc : Thread Cert.Norm2Bwd.nD Cert.Norm2Bwd.τ).loc Cert.Norm2Bwd.main_arg6) = m ((c.tc : Thread Cert.Norm2Bwd.nD Cert.Norm2Bwd.τ).loc Cert.Norm2Bwd.main_arg6)
      ∧ r.2.mem ((c.tc : Thread Cert.Norm2Bwd.nD Cert.Norm2Bwd.τ).loc Cert.Norm2Bwd.main_arg7) = m ((c.tc : Thread Cert.Norm2Bwd.nD Cert.Norm2Bwd.τ).loc Cert.Norm2Bwd.main_arg7))
      ∧ r.2.sem = fun _ => 0)

def quiescent_Norm2BwdIdeal [hNorm2BwdIdeal : Cert.Norm2BwdIdeal.Facts] : Prop :=
  ∀ (m : (ℓ : Loc Cert.Norm2BwdIdeal.nD Cert.Norm2BwdIdeal.τ Cert.Norm2BwdIdeal.sig) → Buf (Elt Ideal) ℓ) (g : Dev Cert.Norm2BwdIdeal.nD → PrngReg), Pre_Norm2BwdIdeal m →
    θ_run (Cert.Norm2BwdIdeal.defs (F := Ideal)) (onTc (τ := Cert.Norm2BwdIdeal.τ) (Cert.Norm2BwdIdeal.main (F := Ideal))) ⟨m, fun _ => 0, g⟩ (fun r => (∀ c : Dev Cert.Norm2BwdIdeal.nD,
      r.2.mem ((c.tc : Thread Cert.Norm2BwdIdeal.nD Cert.Norm2BwdIdeal.τ).loc Cert.Norm2BwdIdeal.main_arg0) = m ((c.tc : Thread Cert.Norm2BwdIdeal.nD Cert.Norm2BwdIdeal.τ).loc Cert.Norm2BwdIdeal.main_arg0)
      ∧ r.2.mem ((c.tc : Thread Cert.Norm2BwdIdeal.nD Cert.Norm2BwdIdeal.τ).loc Cert.Norm2BwdIdeal.main_arg1) = m ((c.tc : Thread Cert.Norm2BwdIdeal.nD Cert.Norm2BwdIdeal.τ).loc Cert.Norm2BwdIdeal.main_arg1)
      ∧ r.2.mem ((c.tc : Thread Cert.Norm2BwdIdeal.nD Cert.Norm2BwdIdeal.τ).loc Cert.Norm2BwdIdeal.main_arg2) = m ((c.tc : Thread Cert.Norm2BwdIdeal.nD Cert.Norm2BwdIdeal.τ).loc Cert.Norm2BwdIdeal.main_arg2)
      ∧ r.2.mem ((c.tc : Thread Cert.Norm2BwdIdeal.nD Cert.Norm2BwdIdeal.τ).loc Cert.Norm2BwdIdeal.main_arg3) = m ((c.tc : Thread Cert.Norm2BwdIdeal.nD Cert.Norm2BwdIdeal.τ).loc Cert.Norm2BwdIdeal.main_arg3)
      ∧ r.2.mem ((c.tc : Thread Cert.Norm2BwdIdeal.nD Cert.Norm2BwdIdeal.τ).loc Cert.Norm2BwdIdeal.main_arg4) = m ((c.tc : Thread Cert.Norm2BwdIdeal.nD Cert.Norm2BwdIdeal.τ).loc Cert.Norm2BwdIdeal.main_arg4)
      ∧ r.2.mem ((c.tc : Thread Cert.Norm2BwdIdeal.nD Cert.Norm2BwdIdeal.τ).loc Cert.Norm2BwdIdeal.main_arg5) = m ((c.tc : Thread Cert.Norm2BwdIdeal.nD Cert.Norm2BwdIdeal.τ).loc Cert.Norm2BwdIdeal.main_arg5)
      ∧ r.2.mem ((c.tc : Thread Cert.Norm2BwdIdeal.nD Cert.Norm2BwdIdeal.τ).loc Cert.Norm2BwdIdeal.main_arg6) = m ((c.tc : Thread Cert.Norm2BwdIdeal.nD Cert.Norm2BwdIdeal.τ).loc Cert.Norm2BwdIdeal.main_arg6)
      ∧ r.2.mem ((c.tc : Thread Cert.Norm2BwdIdeal.nD Cert.Norm2BwdIdeal.τ).loc Cert.Norm2BwdIdeal.main_arg7) = m ((c.tc : Thread Cert.Norm2BwdIdeal.nD Cert.Norm2BwdIdeal.τ).loc Cert.Norm2BwdIdeal.main_arg7))
      ∧ r.2.sem = fun _ => 0)

def quiescent_Norm2GradIdeal [hNorm2GradIdeal : Cert.Norm2GradIdeal.Facts] : Prop :=
  ∀ (m : (ℓ : Loc Cert.Norm2GradIdeal.nD Cert.Norm2GradIdeal.τ Cert.Norm2GradIdeal.sig) → Buf (Elt Ideal) ℓ) (g : Dev Cert.Norm2GradIdeal.nD → PrngReg), Pre_Norm2GradIdeal m →
    θ_run (Cert.Norm2GradIdeal.defs (F := Ideal)) (onTc (τ := Cert.Norm2GradIdeal.τ) (Cert.Norm2GradIdeal.main (F := Ideal))) ⟨m, fun _ => 0, g⟩ (fun r => (∀ c : Dev Cert.Norm2GradIdeal.nD,
      r.2.mem ((c.tc : Thread Cert.Norm2GradIdeal.nD Cert.Norm2GradIdeal.τ).loc Cert.Norm2GradIdeal.main_arg0) = m ((c.tc : Thread Cert.Norm2GradIdeal.nD Cert.Norm2GradIdeal.τ).loc Cert.Norm2GradIdeal.main_arg0)
      ∧ r.2.mem ((c.tc : Thread Cert.Norm2GradIdeal.nD Cert.Norm2GradIdeal.τ).loc Cert.Norm2GradIdeal.main_arg1) = m ((c.tc : Thread Cert.Norm2GradIdeal.nD Cert.Norm2GradIdeal.τ).loc Cert.Norm2GradIdeal.main_arg1)
      ∧ r.2.mem ((c.tc : Thread Cert.Norm2GradIdeal.nD Cert.Norm2GradIdeal.τ).loc Cert.Norm2GradIdeal.main_arg2) = m ((c.tc : Thread Cert.Norm2GradIdeal.nD Cert.Norm2GradIdeal.τ).loc Cert.Norm2GradIdeal.main_arg2)
      ∧ r.2.mem ((c.tc : Thread Cert.Norm2GradIdeal.nD Cert.Norm2GradIdeal.τ).loc Cert.Norm2GradIdeal.main_arg3) = m ((c.tc : Thread Cert.Norm2GradIdeal.nD Cert.Norm2GradIdeal.τ).loc Cert.Norm2GradIdeal.main_arg3)
      ∧ r.2.mem ((c.tc : Thread Cert.Norm2GradIdeal.nD Cert.Norm2GradIdeal.τ).loc Cert.Norm2GradIdeal.main_arg4) = m ((c.tc : Thread Cert.Norm2GradIdeal.nD Cert.Norm2GradIdeal.τ).loc Cert.Norm2GradIdeal.main_arg4)
      ∧ r.2.mem ((c.tc : Thread Cert.Norm2GradIdeal.nD Cert.Norm2GradIdeal.τ).loc Cert.Norm2GradIdeal.main_arg5) = m ((c.tc : Thread Cert.Norm2GradIdeal.nD Cert.Norm2GradIdeal.τ).loc Cert.Norm2GradIdeal.main_arg5)
      ∧ r.2.mem ((c.tc : Thread Cert.Norm2GradIdeal.nD Cert.Norm2GradIdeal.τ).loc Cert.Norm2GradIdeal.main_arg6) = m ((c.tc : Thread Cert.Norm2GradIdeal.nD Cert.Norm2GradIdeal.τ).loc Cert.Norm2GradIdeal.main_arg6)
      ∧ r.2.mem ((c.tc : Thread Cert.Norm2GradIdeal.nD Cert.Norm2GradIdeal.τ).loc Cert.Norm2GradIdeal.main_arg7) = m ((c.tc : Thread Cert.Norm2GradIdeal.nD Cert.Norm2GradIdeal.τ).loc Cert.Norm2GradIdeal.main_arg7))
      ∧ r.2.sem = fun _ => 0)

def quiescent_Norm1Bwd [hNorm1Bwd : Cert.Norm1Bwd.Facts] : Prop :=
  ∀ (m : (ℓ : Loc Cert.Norm1Bwd.nD Cert.Norm1Bwd.τ Cert.Norm1Bwd.sig) → Buf (Elt Bits) ℓ) (g : Dev Cert.Norm1Bwd.nD → PrngReg), Pre_Norm1Bwd m →
    θ_run (Cert.Norm1Bwd.defs (F := Bits)) (onTc (τ := Cert.Norm1Bwd.τ) (Cert.Norm1Bwd.main (F := Bits))) ⟨m, fun _ => 0, g⟩ (fun r => (∀ c : Dev Cert.Norm1Bwd.nD,
      r.2.mem ((c.tc : Thread Cert.Norm1Bwd.nD Cert.Norm1Bwd.τ).loc Cert.Norm1Bwd.main_arg0) = m ((c.tc : Thread Cert.Norm1Bwd.nD Cert.Norm1Bwd.τ).loc Cert.Norm1Bwd.main_arg0)
      ∧ r.2.mem ((c.tc : Thread Cert.Norm1Bwd.nD Cert.Norm1Bwd.τ).loc Cert.Norm1Bwd.main_arg1) = m ((c.tc : Thread Cert.Norm1Bwd.nD Cert.Norm1Bwd.τ).loc Cert.Norm1Bwd.main_arg1)
      ∧ r.2.mem ((c.tc : Thread Cert.Norm1Bwd.nD Cert.Norm1Bwd.τ).loc Cert.Norm1Bwd.main_arg2) = m ((c.tc : Thread Cert.Norm1Bwd.nD Cert.Norm1Bwd.τ).loc Cert.Norm1Bwd.main_arg2)
      ∧ r.2.mem ((c.tc : Thread Cert.Norm1Bwd.nD Cert.Norm1Bwd.τ).loc Cert.Norm1Bwd.main_arg3) = m ((c.tc : Thread Cert.Norm1Bwd.nD Cert.Norm1Bwd.τ).loc Cert.Norm1Bwd.main_arg3)
      ∧ r.2.mem ((c.tc : Thread Cert.Norm1Bwd.nD Cert.Norm1Bwd.τ).loc Cert.Norm1Bwd.main_arg4) = m ((c.tc : Thread Cert.Norm1Bwd.nD Cert.Norm1Bwd.τ).loc Cert.Norm1Bwd.main_arg4)
      ∧ r.2.mem ((c.tc : Thread Cert.Norm1Bwd.nD Cert.Norm1Bwd.τ).loc Cert.Norm1Bwd.main_arg5) = m ((c.tc : Thread Cert.Norm1Bwd.nD Cert.Norm1Bwd.τ).loc Cert.Norm1Bwd.main_arg5)
      ∧ r.2.mem ((c.tc : Thread Cert.Norm1Bwd.nD Cert.Norm1Bwd.τ).loc Cert.Norm1Bwd.main_arg6) = m ((c.tc : Thread Cert.Norm1Bwd.nD Cert.Norm1Bwd.τ).loc Cert.Norm1Bwd.main_arg6)
      ∧ r.2.mem ((c.tc : Thread Cert.Norm1Bwd.nD Cert.Norm1Bwd.τ).loc Cert.Norm1Bwd.main_arg7) = m ((c.tc : Thread Cert.Norm1Bwd.nD Cert.Norm1Bwd.τ).loc Cert.Norm1Bwd.main_arg7)
      ∧ r.2.mem ((c.tc : Thread Cert.Norm1Bwd.nD Cert.Norm1Bwd.τ).loc Cert.Norm1Bwd.main_arg8) = m ((c.tc : Thread Cert.Norm1Bwd.nD Cert.Norm1Bwd.τ).loc Cert.Norm1Bwd.main_arg8)
      ∧ r.2.mem ((c.tc : Thread Cert.Norm1Bwd.nD Cert.Norm1Bwd.τ).loc Cert.Norm1Bwd.main_arg9) = m ((c.tc : Thread Cert.Norm1Bwd.nD Cert.Norm1Bwd.τ).loc Cert.Norm1Bwd.main_arg9))
      ∧ r.2.sem = fun _ => 0)

def quiescent_Norm1BwdIdeal [hNorm1BwdIdeal : Cert.Norm1BwdIdeal.Facts] : Prop :=
  ∀ (m : (ℓ : Loc Cert.Norm1BwdIdeal.nD Cert.Norm1BwdIdeal.τ Cert.Norm1BwdIdeal.sig) → Buf (Elt Ideal) ℓ) (g : Dev Cert.Norm1BwdIdeal.nD → PrngReg), Pre_Norm1BwdIdeal m →
    θ_run (Cert.Norm1BwdIdeal.defs (F := Ideal)) (onTc (τ := Cert.Norm1BwdIdeal.τ) (Cert.Norm1BwdIdeal.main (F := Ideal))) ⟨m, fun _ => 0, g⟩ (fun r => (∀ c : Dev Cert.Norm1BwdIdeal.nD,
      r.2.mem ((c.tc : Thread Cert.Norm1BwdIdeal.nD Cert.Norm1BwdIdeal.τ).loc Cert.Norm1BwdIdeal.main_arg0) = m ((c.tc : Thread Cert.Norm1BwdIdeal.nD Cert.Norm1BwdIdeal.τ).loc Cert.Norm1BwdIdeal.main_arg0)
      ∧ r.2.mem ((c.tc : Thread Cert.Norm1BwdIdeal.nD Cert.Norm1BwdIdeal.τ).loc Cert.Norm1BwdIdeal.main_arg1) = m ((c.tc : Thread Cert.Norm1BwdIdeal.nD Cert.Norm1BwdIdeal.τ).loc Cert.Norm1BwdIdeal.main_arg1)
      ∧ r.2.mem ((c.tc : Thread Cert.Norm1BwdIdeal.nD Cert.Norm1BwdIdeal.τ).loc Cert.Norm1BwdIdeal.main_arg2) = m ((c.tc : Thread Cert.Norm1BwdIdeal.nD Cert.Norm1BwdIdeal.τ).loc Cert.Norm1BwdIdeal.main_arg2)
      ∧ r.2.mem ((c.tc : Thread Cert.Norm1BwdIdeal.nD Cert.Norm1BwdIdeal.τ).loc Cert.Norm1BwdIdeal.main_arg3) = m ((c.tc : Thread Cert.Norm1BwdIdeal.nD Cert.Norm1BwdIdeal.τ).loc Cert.Norm1BwdIdeal.main_arg3)
      ∧ r.2.mem ((c.tc : Thread Cert.Norm1BwdIdeal.nD Cert.Norm1BwdIdeal.τ).loc Cert.Norm1BwdIdeal.main_arg4) = m ((c.tc : Thread Cert.Norm1BwdIdeal.nD Cert.Norm1BwdIdeal.τ).loc Cert.Norm1BwdIdeal.main_arg4)
      ∧ r.2.mem ((c.tc : Thread Cert.Norm1BwdIdeal.nD Cert.Norm1BwdIdeal.τ).loc Cert.Norm1BwdIdeal.main_arg5) = m ((c.tc : Thread Cert.Norm1BwdIdeal.nD Cert.Norm1BwdIdeal.τ).loc Cert.Norm1BwdIdeal.main_arg5)
      ∧ r.2.mem ((c.tc : Thread Cert.Norm1BwdIdeal.nD Cert.Norm1BwdIdeal.τ).loc Cert.Norm1BwdIdeal.main_arg6) = m ((c.tc : Thread Cert.Norm1BwdIdeal.nD Cert.Norm1BwdIdeal.τ).loc Cert.Norm1BwdIdeal.main_arg6)
      ∧ r.2.mem ((c.tc : Thread Cert.Norm1BwdIdeal.nD Cert.Norm1BwdIdeal.τ).loc Cert.Norm1BwdIdeal.main_arg7) = m ((c.tc : Thread Cert.Norm1BwdIdeal.nD Cert.Norm1BwdIdeal.τ).loc Cert.Norm1BwdIdeal.main_arg7)
      ∧ r.2.mem ((c.tc : Thread Cert.Norm1BwdIdeal.nD Cert.Norm1BwdIdeal.τ).loc Cert.Norm1BwdIdeal.main_arg8) = m ((c.tc : Thread Cert.Norm1BwdIdeal.nD Cert.Norm1BwdIdeal.τ).loc Cert.Norm1BwdIdeal.main_arg8)
      ∧ r.2.mem ((c.tc : Thread Cert.Norm1BwdIdeal.nD Cert.Norm1BwdIdeal.τ).loc Cert.Norm1BwdIdeal.main_arg9) = m ((c.tc : Thread Cert.Norm1BwdIdeal.nD Cert.Norm1BwdIdeal.τ).loc Cert.Norm1BwdIdeal.main_arg9))
      ∧ r.2.sem = fun _ => 0)

def quiescent_Norm1GradIdeal [hNorm1GradIdeal : Cert.Norm1GradIdeal.Facts] : Prop :=
  ∀ (m : (ℓ : Loc Cert.Norm1GradIdeal.nD Cert.Norm1GradIdeal.τ Cert.Norm1GradIdeal.sig) → Buf (Elt Ideal) ℓ) (g : Dev Cert.Norm1GradIdeal.nD → PrngReg), Pre_Norm1GradIdeal m →
    θ_run (Cert.Norm1GradIdeal.defs (F := Ideal)) (onTc (τ := Cert.Norm1GradIdeal.τ) (Cert.Norm1GradIdeal.main (F := Ideal))) ⟨m, fun _ => 0, g⟩ (fun r => (∀ c : Dev Cert.Norm1GradIdeal.nD,
      r.2.mem ((c.tc : Thread Cert.Norm1GradIdeal.nD Cert.Norm1GradIdeal.τ).loc Cert.Norm1GradIdeal.main_arg0) = m ((c.tc : Thread Cert.Norm1GradIdeal.nD Cert.Norm1GradIdeal.τ).loc Cert.Norm1GradIdeal.main_arg0)
      ∧ r.2.mem ((c.tc : Thread Cert.Norm1GradIdeal.nD Cert.Norm1GradIdeal.τ).loc Cert.Norm1GradIdeal.main_arg1) = m ((c.tc : Thread Cert.Norm1GradIdeal.nD Cert.Norm1GradIdeal.τ).loc Cert.Norm1GradIdeal.main_arg1)
      ∧ r.2.mem ((c.tc : Thread Cert.Norm1GradIdeal.nD Cert.Norm1GradIdeal.τ).loc Cert.Norm1GradIdeal.main_arg2) = m ((c.tc : Thread Cert.Norm1GradIdeal.nD Cert.Norm1GradIdeal.τ).loc Cert.Norm1GradIdeal.main_arg2)
      ∧ r.2.mem ((c.tc : Thread Cert.Norm1GradIdeal.nD Cert.Norm1GradIdeal.τ).loc Cert.Norm1GradIdeal.main_arg3) = m ((c.tc : Thread Cert.Norm1GradIdeal.nD Cert.Norm1GradIdeal.τ).loc Cert.Norm1GradIdeal.main_arg3)
      ∧ r.2.mem ((c.tc : Thread Cert.Norm1GradIdeal.nD Cert.Norm1GradIdeal.τ).loc Cert.Norm1GradIdeal.main_arg4) = m ((c.tc : Thread Cert.Norm1GradIdeal.nD Cert.Norm1GradIdeal.τ).loc Cert.Norm1GradIdeal.main_arg4)
      ∧ r.2.mem ((c.tc : Thread Cert.Norm1GradIdeal.nD Cert.Norm1GradIdeal.τ).loc Cert.Norm1GradIdeal.main_arg5) = m ((c.tc : Thread Cert.Norm1GradIdeal.nD Cert.Norm1GradIdeal.τ).loc Cert.Norm1GradIdeal.main_arg5)
      ∧ r.2.mem ((c.tc : Thread Cert.Norm1GradIdeal.nD Cert.Norm1GradIdeal.τ).loc Cert.Norm1GradIdeal.main_arg6) = m ((c.tc : Thread Cert.Norm1GradIdeal.nD Cert.Norm1GradIdeal.τ).loc Cert.Norm1GradIdeal.main_arg6)
      ∧ r.2.mem ((c.tc : Thread Cert.Norm1GradIdeal.nD Cert.Norm1GradIdeal.τ).loc Cert.Norm1GradIdeal.main_arg7) = m ((c.tc : Thread Cert.Norm1GradIdeal.nD Cert.Norm1GradIdeal.τ).loc Cert.Norm1GradIdeal.main_arg7)
      ∧ r.2.mem ((c.tc : Thread Cert.Norm1GradIdeal.nD Cert.Norm1GradIdeal.τ).loc Cert.Norm1GradIdeal.main_arg8) = m ((c.tc : Thread Cert.Norm1GradIdeal.nD Cert.Norm1GradIdeal.τ).loc Cert.Norm1GradIdeal.main_arg8)
      ∧ r.2.mem ((c.tc : Thread Cert.Norm1GradIdeal.nD Cert.Norm1GradIdeal.τ).loc Cert.Norm1GradIdeal.main_arg9) = m ((c.tc : Thread Cert.Norm1GradIdeal.nD Cert.Norm1GradIdeal.τ).loc Cert.Norm1GradIdeal.main_arg9))
      ∧ r.2.sem = fun _ => 0)

def quiescent_AdamIn [hAdamIn : Cert.AdamIn.Facts] : Prop :=
  ∀ (m : (ℓ : Loc Cert.AdamIn.nD Cert.AdamIn.τ Cert.AdamIn.sig) → Buf (Elt Bits) ℓ) (g : Dev Cert.AdamIn.nD → PrngReg), Pre_AdamIn m →
    θ_run (Cert.AdamIn.defs (F := Bits)) (onTc (τ := Cert.AdamIn.τ) (Cert.AdamIn.main (F := Bits))) ⟨m, fun _ => 0, g⟩ (fun r => (∀ c : Dev Cert.AdamIn.nD,
      r.2.mem ((c.tc : Thread Cert.AdamIn.nD Cert.AdamIn.τ).loc Cert.AdamIn.main_arg0) = m ((c.tc : Thread Cert.AdamIn.nD Cert.AdamIn.τ).loc Cert.AdamIn.main_arg0)
      ∧ r.2.mem ((c.tc : Thread Cert.AdamIn.nD Cert.AdamIn.τ).loc Cert.AdamIn.main_arg1) = m ((c.tc : Thread Cert.AdamIn.nD Cert.AdamIn.τ).loc Cert.AdamIn.main_arg1)
      ∧ r.2.mem ((c.tc : Thread Cert.AdamIn.nD Cert.AdamIn.τ).loc Cert.AdamIn.main_arg2) = m ((c.tc : Thread Cert.AdamIn.nD Cert.AdamIn.τ).loc Cert.AdamIn.main_arg2)
      ∧ r.2.mem ((c.tc : Thread Cert.AdamIn.nD Cert.AdamIn.τ).loc Cert.AdamIn.main_arg3) = m ((c.tc : Thread Cert.AdamIn.nD Cert.AdamIn.τ).loc Cert.AdamIn.main_arg3))
      ∧ r.2.sem = fun _ => 0)

def quiescent_AdamInIdeal [hAdamInIdeal : Cert.AdamInIdeal.Facts] : Prop :=
  ∀ (m : (ℓ : Loc Cert.AdamInIdeal.nD Cert.AdamInIdeal.τ Cert.AdamInIdeal.sig) → Buf (Elt Ideal) ℓ) (g : Dev Cert.AdamInIdeal.nD → PrngReg), Pre_AdamInIdeal m →
    θ_run (Cert.AdamInIdeal.defs (F := Ideal)) (onTc (τ := Cert.AdamInIdeal.τ) (Cert.AdamInIdeal.main (F := Ideal))) ⟨m, fun _ => 0, g⟩ (fun r => (∀ c : Dev Cert.AdamInIdeal.nD,
      r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
      ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
      ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
      ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3))
      ∧ r.2.sem = fun _ => 0)

def quiescent_StepInIdeal [hStepInIdeal : Cert.StepInIdeal.Facts] : Prop :=
  ∀ (m : (ℓ : Loc Cert.StepInIdeal.nD Cert.StepInIdeal.τ Cert.StepInIdeal.sig) → Buf (Elt Ideal) ℓ) (g : Dev Cert.StepInIdeal.nD → PrngReg), Pre_StepInIdeal m →
    θ_run (Cert.StepInIdeal.defs (F := Ideal)) (onTc (τ := Cert.StepInIdeal.τ) (Cert.StepInIdeal.main (F := Ideal))) ⟨m, fun _ => 0, g⟩ (fun r => (∀ c : Dev Cert.StepInIdeal.nD,
      r.2.mem ((c.tc : Thread Cert.StepInIdeal.nD Cert.StepInIdeal.τ).loc Cert.StepInIdeal.main_arg0) = m ((c.tc : Thread Cert.StepInIdeal.nD Cert.StepInIdeal.τ).loc Cert.StepInIdeal.main_arg0)
      ∧ r.2.mem ((c.tc : Thread Cert.StepInIdeal.nD Cert.StepInIdeal.τ).loc Cert.StepInIdeal.main_arg1) = m ((c.tc : Thread Cert.StepInIdeal.nD Cert.StepInIdeal.τ).loc Cert.StepInIdeal.main_arg1)
      ∧ r.2.mem ((c.tc : Thread Cert.StepInIdeal.nD Cert.StepInIdeal.τ).loc Cert.StepInIdeal.main_arg2) = m ((c.tc : Thread Cert.StepInIdeal.nD Cert.StepInIdeal.τ).loc Cert.StepInIdeal.main_arg2)
      ∧ r.2.mem ((c.tc : Thread Cert.StepInIdeal.nD Cert.StepInIdeal.τ).loc Cert.StepInIdeal.main_arg3) = m ((c.tc : Thread Cert.StepInIdeal.nD Cert.StepInIdeal.τ).loc Cert.StepInIdeal.main_arg3))
      ∧ r.2.sem = fun _ => 0)

def quiescent_AdamUp [hAdamUp : Cert.AdamUp.Facts] : Prop :=
  ∀ (m : (ℓ : Loc Cert.AdamUp.nD Cert.AdamUp.τ Cert.AdamUp.sig) → Buf (Elt Bits) ℓ) (g : Dev Cert.AdamUp.nD → PrngReg), Pre_AdamUp m →
    θ_run (Cert.AdamUp.defs (F := Bits)) (onTc (τ := Cert.AdamUp.τ) (Cert.AdamUp.main (F := Bits))) ⟨m, fun _ => 0, g⟩ (fun r => (∀ c : Dev Cert.AdamUp.nD,
      r.2.mem ((c.tc : Thread Cert.AdamUp.nD Cert.AdamUp.τ).loc Cert.AdamUp.main_arg0) = m ((c.tc : Thread Cert.AdamUp.nD Cert.AdamUp.τ).loc Cert.AdamUp.main_arg0)
      ∧ r.2.mem ((c.tc : Thread Cert.AdamUp.nD Cert.AdamUp.τ).loc Cert.AdamUp.main_arg1) = m ((c.tc : Thread Cert.AdamUp.nD Cert.AdamUp.τ).loc Cert.AdamUp.main_arg1)
      ∧ r.2.mem ((c.tc : Thread Cert.AdamUp.nD Cert.AdamUp.τ).loc Cert.AdamUp.main_arg2) = m ((c.tc : Thread Cert.AdamUp.nD Cert.AdamUp.τ).loc Cert.AdamUp.main_arg2)
      ∧ r.2.mem ((c.tc : Thread Cert.AdamUp.nD Cert.AdamUp.τ).loc Cert.AdamUp.main_arg3) = m ((c.tc : Thread Cert.AdamUp.nD Cert.AdamUp.τ).loc Cert.AdamUp.main_arg3))
      ∧ r.2.sem = fun _ => 0)

def quiescent_AdamUpIdeal [hAdamUpIdeal : Cert.AdamUpIdeal.Facts] : Prop :=
  ∀ (m : (ℓ : Loc Cert.AdamUpIdeal.nD Cert.AdamUpIdeal.τ Cert.AdamUpIdeal.sig) → Buf (Elt Ideal) ℓ) (g : Dev Cert.AdamUpIdeal.nD → PrngReg), Pre_AdamUpIdeal m →
    θ_run (Cert.AdamUpIdeal.defs (F := Ideal)) (onTc (τ := Cert.AdamUpIdeal.τ) (Cert.AdamUpIdeal.main (F := Ideal))) ⟨m, fun _ => 0, g⟩ (fun r => (∀ c : Dev Cert.AdamUpIdeal.nD,
      r.2.mem ((c.tc : Thread Cert.AdamUpIdeal.nD Cert.AdamUpIdeal.τ).loc Cert.AdamUpIdeal.main_arg0) = m ((c.tc : Thread Cert.AdamUpIdeal.nD Cert.AdamUpIdeal.τ).loc Cert.AdamUpIdeal.main_arg0)
      ∧ r.2.mem ((c.tc : Thread Cert.AdamUpIdeal.nD Cert.AdamUpIdeal.τ).loc Cert.AdamUpIdeal.main_arg1) = m ((c.tc : Thread Cert.AdamUpIdeal.nD Cert.AdamUpIdeal.τ).loc Cert.AdamUpIdeal.main_arg1)
      ∧ r.2.mem ((c.tc : Thread Cert.AdamUpIdeal.nD Cert.AdamUpIdeal.τ).loc Cert.AdamUpIdeal.main_arg2) = m ((c.tc : Thread Cert.AdamUpIdeal.nD Cert.AdamUpIdeal.τ).loc Cert.AdamUpIdeal.main_arg2)
      ∧ r.2.mem ((c.tc : Thread Cert.AdamUpIdeal.nD Cert.AdamUpIdeal.τ).loc Cert.AdamUpIdeal.main_arg3) = m ((c.tc : Thread Cert.AdamUpIdeal.nD Cert.AdamUpIdeal.τ).loc Cert.AdamUpIdeal.main_arg3))
      ∧ r.2.sem = fun _ => 0)

def quiescent_StepUpIdeal [hStepUpIdeal : Cert.StepUpIdeal.Facts] : Prop :=
  ∀ (m : (ℓ : Loc Cert.StepUpIdeal.nD Cert.StepUpIdeal.τ Cert.StepUpIdeal.sig) → Buf (Elt Ideal) ℓ) (g : Dev Cert.StepUpIdeal.nD → PrngReg), Pre_StepUpIdeal m →
    θ_run (Cert.StepUpIdeal.defs (F := Ideal)) (onTc (τ := Cert.StepUpIdeal.τ) (Cert.StepUpIdeal.main (F := Ideal))) ⟨m, fun _ => 0, g⟩ (fun r => (∀ c : Dev Cert.StepUpIdeal.nD,
      r.2.mem ((c.tc : Thread Cert.StepUpIdeal.nD Cert.StepUpIdeal.τ).loc Cert.StepUpIdeal.main_arg0) = m ((c.tc : Thread Cert.StepUpIdeal.nD Cert.StepUpIdeal.τ).loc Cert.StepUpIdeal.main_arg0)
      ∧ r.2.mem ((c.tc : Thread Cert.StepUpIdeal.nD Cert.StepUpIdeal.τ).loc Cert.StepUpIdeal.main_arg1) = m ((c.tc : Thread Cert.StepUpIdeal.nD Cert.StepUpIdeal.τ).loc Cert.StepUpIdeal.main_arg1)
      ∧ r.2.mem ((c.tc : Thread Cert.StepUpIdeal.nD Cert.StepUpIdeal.τ).loc Cert.StepUpIdeal.main_arg2) = m ((c.tc : Thread Cert.StepUpIdeal.nD Cert.StepUpIdeal.τ).loc Cert.StepUpIdeal.main_arg2)
      ∧ r.2.mem ((c.tc : Thread Cert.StepUpIdeal.nD Cert.StepUpIdeal.τ).loc Cert.StepUpIdeal.main_arg3) = m ((c.tc : Thread Cert.StepUpIdeal.nD Cert.StepUpIdeal.τ).loc Cert.StepUpIdeal.main_arg3))
      ∧ r.2.sem = fun _ => 0)

def quiescent_AdamOut [hAdamOut : Cert.AdamOut.Facts] : Prop :=
  ∀ (m : (ℓ : Loc Cert.AdamOut.nD Cert.AdamOut.τ Cert.AdamOut.sig) → Buf (Elt Bits) ℓ) (g : Dev Cert.AdamOut.nD → PrngReg), Pre_AdamOut m →
    θ_run (Cert.AdamOut.defs (F := Bits)) (onTc (τ := Cert.AdamOut.τ) (Cert.AdamOut.main (F := Bits))) ⟨m, fun _ => 0, g⟩ (fun r => (∀ c : Dev Cert.AdamOut.nD,
      r.2.mem ((c.tc : Thread Cert.AdamOut.nD Cert.AdamOut.τ).loc Cert.AdamOut.main_arg0) = m ((c.tc : Thread Cert.AdamOut.nD Cert.AdamOut.τ).loc Cert.AdamOut.main_arg0)
      ∧ r.2.mem ((c.tc : Thread Cert.AdamOut.nD Cert.AdamOut.τ).loc Cert.AdamOut.main_arg1) = m ((c.tc : Thread Cert.AdamOut.nD Cert.AdamOut.τ).loc Cert.AdamOut.main_arg1)
      ∧ r.2.mem ((c.tc : Thread Cert.AdamOut.nD Cert.AdamOut.τ).loc Cert.AdamOut.main_arg2) = m ((c.tc : Thread Cert.AdamOut.nD Cert.AdamOut.τ).loc Cert.AdamOut.main_arg2)
      ∧ r.2.mem ((c.tc : Thread Cert.AdamOut.nD Cert.AdamOut.τ).loc Cert.AdamOut.main_arg3) = m ((c.tc : Thread Cert.AdamOut.nD Cert.AdamOut.τ).loc Cert.AdamOut.main_arg3))
      ∧ r.2.sem = fun _ => 0)

def quiescent_AdamOutIdeal [hAdamOutIdeal : Cert.AdamOutIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg), Pre_AdamOutIdeal m →
    θ_run (Cert.AdamOutIdeal.defs (F := Ideal)) (onTc (τ := Cert.AdamOutIdeal.τ) (Cert.AdamOutIdeal.main (F := Ideal))) ⟨m, fun _ => 0, g⟩ (fun r => (∀ c : Dev Cert.AdamOutIdeal.nD,
      r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
      ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
      ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
      ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3))
      ∧ r.2.sem = fun _ => 0)

def quiescent_StepOutIdeal [hStepOutIdeal : Cert.StepOutIdeal.Facts] : Prop :=
  ∀ (m : (ℓ : Loc Cert.StepOutIdeal.nD Cert.StepOutIdeal.τ Cert.StepOutIdeal.sig) → Buf (Elt Ideal) ℓ) (g : Dev Cert.StepOutIdeal.nD → PrngReg), Pre_StepOutIdeal m →
    θ_run (Cert.StepOutIdeal.defs (F := Ideal)) (onTc (τ := Cert.StepOutIdeal.τ) (Cert.StepOutIdeal.main (F := Ideal))) ⟨m, fun _ => 0, g⟩ (fun r => (∀ c : Dev Cert.StepOutIdeal.nD,
      r.2.mem ((c.tc : Thread Cert.StepOutIdeal.nD Cert.StepOutIdeal.τ).loc Cert.StepOutIdeal.main_arg0) = m ((c.tc : Thread Cert.StepOutIdeal.nD Cert.StepOutIdeal.τ).loc Cert.StepOutIdeal.main_arg0)
      ∧ r.2.mem ((c.tc : Thread Cert.StepOutIdeal.nD Cert.StepOutIdeal.τ).loc Cert.StepOutIdeal.main_arg1) = m ((c.tc : Thread Cert.StepOutIdeal.nD Cert.StepOutIdeal.τ).loc Cert.StepOutIdeal.main_arg1)
      ∧ r.2.mem ((c.tc : Thread Cert.StepOutIdeal.nD Cert.StepOutIdeal.τ).loc Cert.StepOutIdeal.main_arg2) = m ((c.tc : Thread Cert.StepOutIdeal.nD Cert.StepOutIdeal.τ).loc Cert.StepOutIdeal.main_arg2)
      ∧ r.2.mem ((c.tc : Thread Cert.StepOutIdeal.nD Cert.StepOutIdeal.τ).loc Cert.StepOutIdeal.main_arg3) = m ((c.tc : Thread Cert.StepOutIdeal.nD Cert.StepOutIdeal.τ).loc Cert.StepOutIdeal.main_arg3))
      ∧ r.2.sem = fun _ => 0)

def quiescent_AdamDown [hAdamDown : Cert.AdamDown.Facts] : Prop :=
  ∀ (m : (ℓ : Loc Cert.AdamDown.nD Cert.AdamDown.τ Cert.AdamDown.sig) → Buf (Elt Bits) ℓ) (g : Dev Cert.AdamDown.nD → PrngReg), Pre_AdamDown m →
    θ_run (Cert.AdamDown.defs (F := Bits)) (onTc (τ := Cert.AdamDown.τ) (Cert.AdamDown.main (F := Bits))) ⟨m, fun _ => 0, g⟩ (fun r => (∀ c : Dev Cert.AdamDown.nD,
      r.2.mem ((c.tc : Thread Cert.AdamDown.nD Cert.AdamDown.τ).loc Cert.AdamDown.main_arg0) = m ((c.tc : Thread Cert.AdamDown.nD Cert.AdamDown.τ).loc Cert.AdamDown.main_arg0)
      ∧ r.2.mem ((c.tc : Thread Cert.AdamDown.nD Cert.AdamDown.τ).loc Cert.AdamDown.main_arg1) = m ((c.tc : Thread Cert.AdamDown.nD Cert.AdamDown.τ).loc Cert.AdamDown.main_arg1)
      ∧ r.2.mem ((c.tc : Thread Cert.AdamDown.nD Cert.AdamDown.τ).loc Cert.AdamDown.main_arg2) = m ((c.tc : Thread Cert.AdamDown.nD Cert.AdamDown.τ).loc Cert.AdamDown.main_arg2)
      ∧ r.2.mem ((c.tc : Thread Cert.AdamDown.nD Cert.AdamDown.τ).loc Cert.AdamDown.main_arg3) = m ((c.tc : Thread Cert.AdamDown.nD Cert.AdamDown.τ).loc Cert.AdamDown.main_arg3))
      ∧ r.2.sem = fun _ => 0)

def quiescent_AdamDownIdeal [hAdamDownIdeal : Cert.AdamDownIdeal.Facts] : Prop :=
  ∀ (m : (ℓ : Loc Cert.AdamDownIdeal.nD Cert.AdamDownIdeal.τ Cert.AdamDownIdeal.sig) → Buf (Elt Ideal) ℓ) (g : Dev Cert.AdamDownIdeal.nD → PrngReg), Pre_AdamDownIdeal m →
    θ_run (Cert.AdamDownIdeal.defs (F := Ideal)) (onTc (τ := Cert.AdamDownIdeal.τ) (Cert.AdamDownIdeal.main (F := Ideal))) ⟨m, fun _ => 0, g⟩ (fun r => (∀ c : Dev Cert.AdamDownIdeal.nD,
      r.2.mem ((c.tc : Thread Cert.AdamDownIdeal.nD Cert.AdamDownIdeal.τ).loc Cert.AdamDownIdeal.main_arg0) = m ((c.tc : Thread Cert.AdamDownIdeal.nD Cert.AdamDownIdeal.τ).loc Cert.AdamDownIdeal.main_arg0)
      ∧ r.2.mem ((c.tc : Thread Cert.AdamDownIdeal.nD Cert.AdamDownIdeal.τ).loc Cert.AdamDownIdeal.main_arg1) = m ((c.tc : Thread Cert.AdamDownIdeal.nD Cert.AdamDownIdeal.τ).loc Cert.AdamDownIdeal.main_arg1)
      ∧ r.2.mem ((c.tc : Thread Cert.AdamDownIdeal.nD Cert.AdamDownIdeal.τ).loc Cert.AdamDownIdeal.main_arg2) = m ((c.tc : Thread Cert.AdamDownIdeal.nD Cert.AdamDownIdeal.τ).loc Cert.AdamDownIdeal.main_arg2)
      ∧ r.2.mem ((c.tc : Thread Cert.AdamDownIdeal.nD Cert.AdamDownIdeal.τ).loc Cert.AdamDownIdeal.main_arg3) = m ((c.tc : Thread Cert.AdamDownIdeal.nD Cert.AdamDownIdeal.τ).loc Cert.AdamDownIdeal.main_arg3))
      ∧ r.2.sem = fun _ => 0)

def quiescent_StepDownIdeal [hStepDownIdeal : Cert.StepDownIdeal.Facts] : Prop :=
  ∀ (m : (ℓ : Loc Cert.StepDownIdeal.nD Cert.StepDownIdeal.τ Cert.StepDownIdeal.sig) → Buf (Elt Ideal) ℓ) (g : Dev Cert.StepDownIdeal.nD → PrngReg), Pre_StepDownIdeal m →
    θ_run (Cert.StepDownIdeal.defs (F := Ideal)) (onTc (τ := Cert.StepDownIdeal.τ) (Cert.StepDownIdeal.main (F := Ideal))) ⟨m, fun _ => 0, g⟩ (fun r => (∀ c : Dev Cert.StepDownIdeal.nD,
      r.2.mem ((c.tc : Thread Cert.StepDownIdeal.nD Cert.StepDownIdeal.τ).loc Cert.StepDownIdeal.main_arg0) = m ((c.tc : Thread Cert.StepDownIdeal.nD Cert.StepDownIdeal.τ).loc Cert.StepDownIdeal.main_arg0)
      ∧ r.2.mem ((c.tc : Thread Cert.StepDownIdeal.nD Cert.StepDownIdeal.τ).loc Cert.StepDownIdeal.main_arg1) = m ((c.tc : Thread Cert.StepDownIdeal.nD Cert.StepDownIdeal.τ).loc Cert.StepDownIdeal.main_arg1)
      ∧ r.2.mem ((c.tc : Thread Cert.StepDownIdeal.nD Cert.StepDownIdeal.τ).loc Cert.StepDownIdeal.main_arg2) = m ((c.tc : Thread Cert.StepDownIdeal.nD Cert.StepDownIdeal.τ).loc Cert.StepDownIdeal.main_arg2)
      ∧ r.2.mem ((c.tc : Thread Cert.StepDownIdeal.nD Cert.StepDownIdeal.τ).loc Cert.StepDownIdeal.main_arg3) = m ((c.tc : Thread Cert.StepDownIdeal.nD Cert.StepDownIdeal.τ).loc Cert.StepDownIdeal.main_arg3))
      ∧ r.2.sem = fun _ => 0)

def quiescent_AdaWgrad [hAdaWgrad : Cert.AdaWgrad.Facts] : Prop :=
  ∀ (m : (ℓ : Loc Cert.AdaWgrad.nD Cert.AdaWgrad.τ Cert.AdaWgrad.sig) → Buf (Elt Bits) ℓ) (g : Dev Cert.AdaWgrad.nD → PrngReg), Pre_AdaWgrad m →
    θ_run (Cert.AdaWgrad.defs (F := Bits)) (onTc (τ := Cert.AdaWgrad.τ) (Cert.AdaWgrad.main (F := Bits))) ⟨m, fun _ => 0, g⟩ (fun r => (∀ c : Dev Cert.AdaWgrad.nD,
      r.2.mem ((c.tc : Thread Cert.AdaWgrad.nD Cert.AdaWgrad.τ).loc Cert.AdaWgrad.main_arg0) = m ((c.tc : Thread Cert.AdaWgrad.nD Cert.AdaWgrad.τ).loc Cert.AdaWgrad.main_arg0)
      ∧ r.2.mem ((c.tc : Thread Cert.AdaWgrad.nD Cert.AdaWgrad.τ).loc Cert.AdaWgrad.main_arg1) = m ((c.tc : Thread Cert.AdaWgrad.nD Cert.AdaWgrad.τ).loc Cert.AdaWgrad.main_arg1))
      ∧ r.2.sem = fun _ => 0)

def quiescent_AdaWgradIdeal [hAdaWgradIdeal : Cert.AdaWgradIdeal.Facts] : Prop :=
  ∀ (m : (ℓ : Loc Cert.AdaWgradIdeal.nD Cert.AdaWgradIdeal.τ Cert.AdaWgradIdeal.sig) → Buf (Elt Ideal) ℓ) (g : Dev Cert.AdaWgradIdeal.nD → PrngReg), Pre_AdaWgradIdeal m →
    θ_run (Cert.AdaWgradIdeal.defs (F := Ideal)) (onTc (τ := Cert.AdaWgradIdeal.τ) (Cert.AdaWgradIdeal.main (F := Ideal))) ⟨m, fun _ => 0, g⟩ (fun r => (∀ c : Dev Cert.AdaWgradIdeal.nD,
      r.2.mem ((c.tc : Thread Cert.AdaWgradIdeal.nD Cert.AdaWgradIdeal.τ).loc Cert.AdaWgradIdeal.main_arg0) = m ((c.tc : Thread Cert.AdaWgradIdeal.nD Cert.AdaWgradIdeal.τ).loc Cert.AdaWgradIdeal.main_arg0)
      ∧ r.2.mem ((c.tc : Thread Cert.AdaWgradIdeal.nD Cert.AdaWgradIdeal.τ).loc Cert.AdaWgradIdeal.main_arg1) = m ((c.tc : Thread Cert.AdaWgradIdeal.nD Cert.AdaWgradIdeal.τ).loc Cert.AdaWgradIdeal.main_arg1))
      ∧ r.2.sem = fun _ => 0)

def quiescent_AdaGradIdeal [hAdaGradIdeal : Cert.AdaGradIdeal.Facts] : Prop :=
  ∀ (m : (ℓ : Loc Cert.AdaGradIdeal.nD Cert.AdaGradIdeal.τ Cert.AdaGradIdeal.sig) → Buf (Elt Ideal) ℓ) (g : Dev Cert.AdaGradIdeal.nD → PrngReg), Pre_AdaGradIdeal m →
    θ_run (Cert.AdaGradIdeal.defs (F := Ideal)) (onTc (τ := Cert.AdaGradIdeal.τ) (Cert.AdaGradIdeal.main (F := Ideal))) ⟨m, fun _ => 0, g⟩ (fun r => (∀ c : Dev Cert.AdaGradIdeal.nD,
      r.2.mem ((c.tc : Thread Cert.AdaGradIdeal.nD Cert.AdaGradIdeal.τ).loc Cert.AdaGradIdeal.main_arg0) = m ((c.tc : Thread Cert.AdaGradIdeal.nD Cert.AdaGradIdeal.τ).loc Cert.AdaGradIdeal.main_arg0)
      ∧ r.2.mem ((c.tc : Thread Cert.AdaGradIdeal.nD Cert.AdaGradIdeal.τ).loc Cert.AdaGradIdeal.main_arg1) = m ((c.tc : Thread Cert.AdaGradIdeal.nD Cert.AdaGradIdeal.τ).loc Cert.AdaGradIdeal.main_arg1))
      ∧ r.2.sem = fun _ => 0)

def quiescent_SmallSum [hSmallSum : Cert.SmallSum.Facts] : Prop :=
  ∀ (m : (ℓ : Loc Cert.SmallSum.nD Cert.SmallSum.τ Cert.SmallSum.sig) → Buf (Elt Bits) ℓ) (g : Dev Cert.SmallSum.nD → PrngReg), Pre_SmallSum m →
    θ_run (Cert.SmallSum.defs (F := Bits)) (onTc (τ := Cert.SmallSum.τ) (Cert.SmallSum.main (F := Bits))) ⟨m, fun _ => 0, g⟩ (fun r => (∀ c : Dev Cert.SmallSum.nD,
      r.2.mem ((c.tc : Thread Cert.SmallSum.nD Cert.SmallSum.τ).loc Cert.SmallSum.main_arg0) = m ((c.tc : Thread Cert.SmallSum.nD Cert.SmallSum.τ).loc Cert.SmallSum.main_arg0)
      ∧ r.2.mem ((c.tc : Thread Cert.SmallSum.nD Cert.SmallSum.τ).loc Cert.SmallSum.main_arg1) = m ((c.tc : Thread Cert.SmallSum.nD Cert.SmallSum.τ).loc Cert.SmallSum.main_arg1)
      ∧ r.2.mem ((c.tc : Thread Cert.SmallSum.nD Cert.SmallSum.τ).loc Cert.SmallSum.main_arg2) = m ((c.tc : Thread Cert.SmallSum.nD Cert.SmallSum.τ).loc Cert.SmallSum.main_arg2)
      ∧ r.2.mem ((c.tc : Thread Cert.SmallSum.nD Cert.SmallSum.τ).loc Cert.SmallSum.main_arg3) = m ((c.tc : Thread Cert.SmallSum.nD Cert.SmallSum.τ).loc Cert.SmallSum.main_arg3))
      ∧ r.2.sem = fun _ => 0)

def quiescent_SmallSumIdeal [hSmallSumIdeal : Cert.SmallSumIdeal.Facts] : Prop :=
  ∀ (m : (ℓ : Loc Cert.SmallSumIdeal.nD Cert.SmallSumIdeal.τ Cert.SmallSumIdeal.sig) → Buf (Elt Ideal) ℓ) (g : Dev Cert.SmallSumIdeal.nD → PrngReg), Pre_SmallSumIdeal m →
    θ_run (Cert.SmallSumIdeal.defs (F := Ideal)) (onTc (τ := Cert.SmallSumIdeal.τ) (Cert.SmallSumIdeal.main (F := Ideal))) ⟨m, fun _ => 0, g⟩ (fun r => (∀ c : Dev Cert.SmallSumIdeal.nD,
      r.2.mem ((c.tc : Thread Cert.SmallSumIdeal.nD Cert.SmallSumIdeal.τ).loc Cert.SmallSumIdeal.main_arg0) = m ((c.tc : Thread Cert.SmallSumIdeal.nD Cert.SmallSumIdeal.τ).loc Cert.SmallSumIdeal.main_arg0)
      ∧ r.2.mem ((c.tc : Thread Cert.SmallSumIdeal.nD Cert.SmallSumIdeal.τ).loc Cert.SmallSumIdeal.main_arg1) = m ((c.tc : Thread Cert.SmallSumIdeal.nD Cert.SmallSumIdeal.τ).loc Cert.SmallSumIdeal.main_arg1)
      ∧ r.2.mem ((c.tc : Thread Cert.SmallSumIdeal.nD Cert.SmallSumIdeal.τ).loc Cert.SmallSumIdeal.main_arg2) = m ((c.tc : Thread Cert.SmallSumIdeal.nD Cert.SmallSumIdeal.τ).loc Cert.SmallSumIdeal.main_arg2)
      ∧ r.2.mem ((c.tc : Thread Cert.SmallSumIdeal.nD Cert.SmallSumIdeal.τ).loc Cert.SmallSumIdeal.main_arg3) = m ((c.tc : Thread Cert.SmallSumIdeal.nD Cert.SmallSumIdeal.τ).loc Cert.SmallSumIdeal.main_arg3))
      ∧ r.2.sem = fun _ => 0)

def quiescent_SmallGradIdeal [hSmallGradIdeal : Cert.SmallGradIdeal.Facts] : Prop :=
  ∀ (m : (ℓ : Loc Cert.SmallGradIdeal.nD Cert.SmallGradIdeal.τ Cert.SmallGradIdeal.sig) → Buf (Elt Ideal) ℓ) (g : Dev Cert.SmallGradIdeal.nD → PrngReg), Pre_SmallGradIdeal m →
    θ_run (Cert.SmallGradIdeal.defs (F := Ideal)) (onTc (τ := Cert.SmallGradIdeal.τ) (Cert.SmallGradIdeal.main (F := Ideal))) ⟨m, fun _ => 0, g⟩ (fun r => (∀ c : Dev Cert.SmallGradIdeal.nD,
      r.2.mem ((c.tc : Thread Cert.SmallGradIdeal.nD Cert.SmallGradIdeal.τ).loc Cert.SmallGradIdeal.main_arg0) = m ((c.tc : Thread Cert.SmallGradIdeal.nD Cert.SmallGradIdeal.τ).loc Cert.SmallGradIdeal.main_arg0)
      ∧ r.2.mem ((c.tc : Thread Cert.SmallGradIdeal.nD Cert.SmallGradIdeal.τ).loc Cert.SmallGradIdeal.main_arg1) = m ((c.tc : Thread Cert.SmallGradIdeal.nD Cert.SmallGradIdeal.τ).loc Cert.SmallGradIdeal.main_arg1)
      ∧ r.2.mem ((c.tc : Thread Cert.SmallGradIdeal.nD Cert.SmallGradIdeal.τ).loc Cert.SmallGradIdeal.main_arg2) = m ((c.tc : Thread Cert.SmallGradIdeal.nD Cert.SmallGradIdeal.τ).loc Cert.SmallGradIdeal.main_arg2)
      ∧ r.2.mem ((c.tc : Thread Cert.SmallGradIdeal.nD Cert.SmallGradIdeal.τ).loc Cert.SmallGradIdeal.main_arg3) = m ((c.tc : Thread Cert.SmallGradIdeal.nD Cert.SmallGradIdeal.τ).loc Cert.SmallGradIdeal.main_arg3))
      ∧ r.2.sem = fun _ => 0)

def quiescent_DownLoss [hDownLoss : Cert.DownLoss.Facts] : Prop :=
  ∀ (m : (ℓ : Loc Cert.DownLoss.nD Cert.DownLoss.τ Cert.DownLoss.sig) → Buf (Elt Bits) ℓ) (g : Dev Cert.DownLoss.nD → PrngReg), Pre_DownLoss m →
    θ_run (Cert.DownLoss.defs (F := Bits)) (onTc (τ := Cert.DownLoss.τ) (Cert.DownLoss.main (F := Bits))) ⟨m, fun _ => 0, g⟩ (fun r => (∀ c : Dev Cert.DownLoss.nD,
      r.2.mem ((c.tc : Thread Cert.DownLoss.nD Cert.DownLoss.τ).loc Cert.DownLoss.main_arg0) = m ((c.tc : Thread Cert.DownLoss.nD Cert.DownLoss.τ).loc Cert.DownLoss.main_arg0)
      ∧ r.2.mem ((c.tc : Thread Cert.DownLoss.nD Cert.DownLoss.τ).loc Cert.DownLoss.main_arg1) = m ((c.tc : Thread Cert.DownLoss.nD Cert.DownLoss.τ).loc Cert.DownLoss.main_arg1)
      ∧ r.2.mem ((c.tc : Thread Cert.DownLoss.nD Cert.DownLoss.τ).loc Cert.DownLoss.main_arg2) = m ((c.tc : Thread Cert.DownLoss.nD Cert.DownLoss.τ).loc Cert.DownLoss.main_arg2)
      ∧ r.2.mem ((c.tc : Thread Cert.DownLoss.nD Cert.DownLoss.τ).loc Cert.DownLoss.main_arg3) = m ((c.tc : Thread Cert.DownLoss.nD Cert.DownLoss.τ).loc Cert.DownLoss.main_arg3)
      ∧ r.2.mem ((c.tc : Thread Cert.DownLoss.nD Cert.DownLoss.τ).loc Cert.DownLoss.main_arg4) = m ((c.tc : Thread Cert.DownLoss.nD Cert.DownLoss.τ).loc Cert.DownLoss.main_arg4)
      ∧ r.2.mem ((c.tc : Thread Cert.DownLoss.nD Cert.DownLoss.τ).loc Cert.DownLoss.main_arg5) = m ((c.tc : Thread Cert.DownLoss.nD Cert.DownLoss.τ).loc Cert.DownLoss.main_arg5))
      ∧ r.2.sem = fun _ => 0)

def quiescent_DownLossIdeal [hDownLossIdeal : Cert.DownLossIdeal.Facts] : Prop :=
  ∀ (m : (ℓ : Loc Cert.DownLossIdeal.nD Cert.DownLossIdeal.τ Cert.DownLossIdeal.sig) → Buf (Elt Ideal) ℓ) (g : Dev Cert.DownLossIdeal.nD → PrngReg), Pre_DownLossIdeal m →
    θ_run (Cert.DownLossIdeal.defs (F := Ideal)) (onTc (τ := Cert.DownLossIdeal.τ) (Cert.DownLossIdeal.main (F := Ideal))) ⟨m, fun _ => 0, g⟩ (fun r => (∀ c : Dev Cert.DownLossIdeal.nD,
      r.2.mem ((c.tc : Thread Cert.DownLossIdeal.nD Cert.DownLossIdeal.τ).loc Cert.DownLossIdeal.main_arg0) = m ((c.tc : Thread Cert.DownLossIdeal.nD Cert.DownLossIdeal.τ).loc Cert.DownLossIdeal.main_arg0)
      ∧ r.2.mem ((c.tc : Thread Cert.DownLossIdeal.nD Cert.DownLossIdeal.τ).loc Cert.DownLossIdeal.main_arg1) = m ((c.tc : Thread Cert.DownLossIdeal.nD Cert.DownLossIdeal.τ).loc Cert.DownLossIdeal.main_arg1)
      ∧ r.2.mem ((c.tc : Thread Cert.DownLossIdeal.nD Cert.DownLossIdeal.τ).loc Cert.DownLossIdeal.main_arg2) = m ((c.tc : Thread Cert.DownLossIdeal.nD Cert.DownLossIdeal.τ).loc Cert.DownLossIdeal.main_arg2)
      ∧ r.2.mem ((c.tc : Thread Cert.DownLossIdeal.nD Cert.DownLossIdeal.τ).loc Cert.DownLossIdeal.main_arg3) = m ((c.tc : Thread Cert.DownLossIdeal.nD Cert.DownLossIdeal.τ).loc Cert.DownLossIdeal.main_arg3)
      ∧ r.2.mem ((c.tc : Thread Cert.DownLossIdeal.nD Cert.DownLossIdeal.τ).loc Cert.DownLossIdeal.main_arg4) = m ((c.tc : Thread Cert.DownLossIdeal.nD Cert.DownLossIdeal.τ).loc Cert.DownLossIdeal.main_arg4)
      ∧ r.2.mem ((c.tc : Thread Cert.DownLossIdeal.nD Cert.DownLossIdeal.τ).loc Cert.DownLossIdeal.main_arg5) = m ((c.tc : Thread Cert.DownLossIdeal.nD Cert.DownLossIdeal.τ).loc Cert.DownLossIdeal.main_arg5))
      ∧ r.2.sem = fun _ => 0)

def quiescent_LossGradIdeal [hLossGradIdeal : Cert.LossGradIdeal.Facts] : Prop :=
  ∀ (m : (ℓ : Loc Cert.LossGradIdeal.nD Cert.LossGradIdeal.τ Cert.LossGradIdeal.sig) → Buf (Elt Ideal) ℓ) (g : Dev Cert.LossGradIdeal.nD → PrngReg), Pre_LossGradIdeal m →
    θ_run (Cert.LossGradIdeal.defs (F := Ideal)) (onTc (τ := Cert.LossGradIdeal.τ) (Cert.LossGradIdeal.main (F := Ideal))) ⟨m, fun _ => 0, g⟩ (fun r => (∀ c : Dev Cert.LossGradIdeal.nD,
      r.2.mem ((c.tc : Thread Cert.LossGradIdeal.nD Cert.LossGradIdeal.τ).loc Cert.LossGradIdeal.main_arg0) = m ((c.tc : Thread Cert.LossGradIdeal.nD Cert.LossGradIdeal.τ).loc Cert.LossGradIdeal.main_arg0)
      ∧ r.2.mem ((c.tc : Thread Cert.LossGradIdeal.nD Cert.LossGradIdeal.τ).loc Cert.LossGradIdeal.main_arg1) = m ((c.tc : Thread Cert.LossGradIdeal.nD Cert.LossGradIdeal.τ).loc Cert.LossGradIdeal.main_arg1)
      ∧ r.2.mem ((c.tc : Thread Cert.LossGradIdeal.nD Cert.LossGradIdeal.τ).loc Cert.LossGradIdeal.main_arg2) = m ((c.tc : Thread Cert.LossGradIdeal.nD Cert.LossGradIdeal.τ).loc Cert.LossGradIdeal.main_arg2)
      ∧ r.2.mem ((c.tc : Thread Cert.LossGradIdeal.nD Cert.LossGradIdeal.τ).loc Cert.LossGradIdeal.main_arg3) = m ((c.tc : Thread Cert.LossGradIdeal.nD Cert.LossGradIdeal.τ).loc Cert.LossGradIdeal.main_arg3)
      ∧ r.2.mem ((c.tc : Thread Cert.LossGradIdeal.nD Cert.LossGradIdeal.τ).loc Cert.LossGradIdeal.main_arg4) = m ((c.tc : Thread Cert.LossGradIdeal.nD Cert.LossGradIdeal.τ).loc Cert.LossGradIdeal.main_arg4)
      ∧ r.2.mem ((c.tc : Thread Cert.LossGradIdeal.nD Cert.LossGradIdeal.τ).loc Cert.LossGradIdeal.main_arg5) = m ((c.tc : Thread Cert.LossGradIdeal.nD Cert.LossGradIdeal.τ).loc Cert.LossGradIdeal.main_arg5))
      ∧ r.2.sem = fun _ => 0)

def quiescent_MixOut [hMixOut : Cert.MixOut.Facts] : Prop :=
  ∀ (m : (ℓ : Loc Cert.MixOut.nD Cert.MixOut.τ Cert.MixOut.sig) → Buf (Elt Bits) ℓ) (g : Dev Cert.MixOut.nD → PrngReg), Pre_MixOut m →
    θ_run (Cert.MixOut.defs (F := Bits)) (onTc (τ := Cert.MixOut.τ) (Cert.MixOut.main (F := Bits))) ⟨m, fun _ => 0, g⟩ (fun r => (∀ c : Dev Cert.MixOut.nD,
      r.2.mem ((c.tc : Thread Cert.MixOut.nD Cert.MixOut.τ).loc Cert.MixOut.main_arg0) = m ((c.tc : Thread Cert.MixOut.nD Cert.MixOut.τ).loc Cert.MixOut.main_arg0)
      ∧ r.2.mem ((c.tc : Thread Cert.MixOut.nD Cert.MixOut.τ).loc Cert.MixOut.main_arg1) = m ((c.tc : Thread Cert.MixOut.nD Cert.MixOut.τ).loc Cert.MixOut.main_arg1)
      ∧ r.2.mem ((c.tc : Thread Cert.MixOut.nD Cert.MixOut.τ).loc Cert.MixOut.main_arg2) = m ((c.tc : Thread Cert.MixOut.nD Cert.MixOut.τ).loc Cert.MixOut.main_arg2)
      ∧ r.2.mem ((c.tc : Thread Cert.MixOut.nD Cert.MixOut.τ).loc Cert.MixOut.main_arg3) = m ((c.tc : Thread Cert.MixOut.nD Cert.MixOut.τ).loc Cert.MixOut.main_arg3)
      ∧ r.2.mem ((c.tc : Thread Cert.MixOut.nD Cert.MixOut.τ).loc Cert.MixOut.main_arg4) = m ((c.tc : Thread Cert.MixOut.nD Cert.MixOut.τ).loc Cert.MixOut.main_arg4)
      ∧ r.2.mem ((c.tc : Thread Cert.MixOut.nD Cert.MixOut.τ).loc Cert.MixOut.main_arg5) = m ((c.tc : Thread Cert.MixOut.nD Cert.MixOut.τ).loc Cert.MixOut.main_arg5)
      ∧ r.2.mem ((c.tc : Thread Cert.MixOut.nD Cert.MixOut.τ).loc Cert.MixOut.main_arg6) = m ((c.tc : Thread Cert.MixOut.nD Cert.MixOut.τ).loc Cert.MixOut.main_arg6)
      ∧ r.2.mem ((c.tc : Thread Cert.MixOut.nD Cert.MixOut.τ).loc Cert.MixOut.main_arg7) = m ((c.tc : Thread Cert.MixOut.nD Cert.MixOut.τ).loc Cert.MixOut.main_arg7))
      ∧ r.2.sem = fun _ => 0)

def quiescent_MixOutIdeal [hMixOutIdeal : Cert.MixOutIdeal.Facts] : Prop :=
  ∀ (m : (ℓ : Loc Cert.MixOutIdeal.nD Cert.MixOutIdeal.τ Cert.MixOutIdeal.sig) → Buf (Elt Ideal) ℓ) (g : Dev Cert.MixOutIdeal.nD → PrngReg), Pre_MixOutIdeal m →
    θ_run (Cert.MixOutIdeal.defs (F := Ideal)) (onTc (τ := Cert.MixOutIdeal.τ) (Cert.MixOutIdeal.main (F := Ideal))) ⟨m, fun _ => 0, g⟩ (fun r => (∀ c : Dev Cert.MixOutIdeal.nD,
      r.2.mem ((c.tc : Thread Cert.MixOutIdeal.nD Cert.MixOutIdeal.τ).loc Cert.MixOutIdeal.main_arg0) = m ((c.tc : Thread Cert.MixOutIdeal.nD Cert.MixOutIdeal.τ).loc Cert.MixOutIdeal.main_arg0)
      ∧ r.2.mem ((c.tc : Thread Cert.MixOutIdeal.nD Cert.MixOutIdeal.τ).loc Cert.MixOutIdeal.main_arg1) = m ((c.tc : Thread Cert.MixOutIdeal.nD Cert.MixOutIdeal.τ).loc Cert.MixOutIdeal.main_arg1)
      ∧ r.2.mem ((c.tc : Thread Cert.MixOutIdeal.nD Cert.MixOutIdeal.τ).loc Cert.MixOutIdeal.main_arg2) = m ((c.tc : Thread Cert.MixOutIdeal.nD Cert.MixOutIdeal.τ).loc Cert.MixOutIdeal.main_arg2)
      ∧ r.2.mem ((c.tc : Thread Cert.MixOutIdeal.nD Cert.MixOutIdeal.τ).loc Cert.MixOutIdeal.main_arg3) = m ((c.tc : Thread Cert.MixOutIdeal.nD Cert.MixOutIdeal.τ).loc Cert.MixOutIdeal.main_arg3)
      ∧ r.2.mem ((c.tc : Thread Cert.MixOutIdeal.nD Cert.MixOutIdeal.τ).loc Cert.MixOutIdeal.main_arg4) = m ((c.tc : Thread Cert.MixOutIdeal.nD Cert.MixOutIdeal.τ).loc Cert.MixOutIdeal.main_arg4)
      ∧ r.2.mem ((c.tc : Thread Cert.MixOutIdeal.nD Cert.MixOutIdeal.τ).loc Cert.MixOutIdeal.main_arg5) = m ((c.tc : Thread Cert.MixOutIdeal.nD Cert.MixOutIdeal.τ).loc Cert.MixOutIdeal.main_arg5)
      ∧ r.2.mem ((c.tc : Thread Cert.MixOutIdeal.nD Cert.MixOutIdeal.τ).loc Cert.MixOutIdeal.main_arg6) = m ((c.tc : Thread Cert.MixOutIdeal.nD Cert.MixOutIdeal.τ).loc Cert.MixOutIdeal.main_arg6)
      ∧ r.2.mem ((c.tc : Thread Cert.MixOutIdeal.nD Cert.MixOutIdeal.τ).loc Cert.MixOutIdeal.main_arg7) = m ((c.tc : Thread Cert.MixOutIdeal.nD Cert.MixOutIdeal.τ).loc Cert.MixOutIdeal.main_arg7))
      ∧ r.2.sem = fun _ => 0)

def quiescent_MixIdeal [hMixIdeal : Cert.MixIdeal.Facts] : Prop :=
  ∀ (m : (ℓ : Loc Cert.MixIdeal.nD Cert.MixIdeal.τ Cert.MixIdeal.sig) → Buf (Elt Ideal) ℓ) (g : Dev Cert.MixIdeal.nD → PrngReg), Pre_MixIdeal m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
      ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
      ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
      ∧ r.2.mem ((c.tc : Thread Cert.MixIdeal.nD Cert.MixIdeal.τ).loc Cert.MixIdeal.main_arg7) = m ((c.tc : Thread Cert.MixIdeal.nD Cert.MixIdeal.τ).loc Cert.MixIdeal.main_arg7))
      ∧ r.2.sem = fun _ => 0)

def quiescent_FfnConv [hFfnConv : Cert.FfnConv.Facts] : Prop :=
  ∀ (m : (ℓ : Loc Cert.FfnConv.nD Cert.FfnConv.τ Cert.FfnConv.sig) → Buf (Elt Bits) ℓ) (g : Dev Cert.FfnConv.nD → PrngReg), Pre_FfnConv m →
    θ_run (Cert.FfnConv.defs (F := Bits)) (onTc (τ := Cert.FfnConv.τ) (Cert.FfnConv.main (F := Bits))) ⟨m, fun _ => 0, g⟩ (fun r => (∀ c : Dev Cert.FfnConv.nD,
      r.2.mem ((c.tc : Thread Cert.FfnConv.nD Cert.FfnConv.τ).loc Cert.FfnConv.main_arg0) = m ((c.tc : Thread Cert.FfnConv.nD Cert.FfnConv.τ).loc Cert.FfnConv.main_arg0)
      ∧ r.2.mem ((c.tc : Thread Cert.FfnConv.nD Cert.FfnConv.τ).loc Cert.FfnConv.main_arg1) = m ((c.tc : Thread Cert.FfnConv.nD Cert.FfnConv.τ).loc Cert.FfnConv.main_arg1)
      ∧ r.2.mem ((c.tc : Thread Cert.FfnConv.nD Cert.FfnConv.τ).loc Cert.FfnConv.main_arg2) = m ((c.tc : Thread Cert.FfnConv.nD Cert.FfnConv.τ).loc Cert.FfnConv.main_arg2))
      ∧ r.2.sem = fun _ => 0)

def quiescent_FfnConvIdeal [hFfnConvIdeal : Cert.FfnConvIdeal.Facts] : Prop :=
  ∀ (m : (ℓ : Loc Cert.FfnConvIdeal.nD Cert.FfnConvIdeal.τ Cert.FfnConvIdeal.sig) → Buf (Elt Ideal) ℓ) (g : Dev Cert.FfnConvIdeal.nD → PrngReg), Pre_FfnConvIdeal m →
    θ_run (Cert.FfnConvIdeal.defs (F := Ideal)) (onTc (τ := Cert.FfnConvIdeal.τ) (Cert.FfnConvIdeal.main (F := Ideal))) ⟨m, fun _ => 0, g⟩ (fun r => (∀ c : Dev Cert.FfnConvIdeal.nD,
      r.2.mem ((c.tc : Thread Cert.FfnConvIdeal.nD Cert.FfnConvIdeal.τ).loc Cert.FfnConvIdeal.main_arg0) = m ((c.tc : Thread Cert.FfnConvIdeal.nD Cert.FfnConvIdeal.τ).loc Cert.FfnConvIdeal.main_arg0)
      ∧ r.2.mem ((c.tc : Thread Cert.FfnConvIdeal.nD Cert.FfnConvIdeal.τ).loc Cert.FfnConvIdeal.main_arg1) = m ((c.tc : Thread Cert.FfnConvIdeal.nD Cert.FfnConvIdeal.τ).loc Cert.FfnConvIdeal.main_arg1)
      ∧ r.2.mem ((c.tc : Thread Cert.FfnConvIdeal.nD Cert.FfnConvIdeal.τ).loc Cert.FfnConvIdeal.main_arg2) = m ((c.tc : Thread Cert.FfnConvIdeal.nD Cert.FfnConvIdeal.τ).loc Cert.FfnConvIdeal.main_arg2))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2))
      ∧ r.2.sem = fun _ => 0)

def quiescent_SsdConv [hSsdConv : Cert.SsdConv.Facts] : Prop :=
  ∀ (m : (ℓ : Loc Cert.SsdConv.nD Cert.SsdConv.τ Cert.SsdConv.sig) → Buf (Elt Bits) ℓ) (g : Dev Cert.SsdConv.nD → PrngReg), Pre_SsdConv m →
    θ_run (Cert.SsdConv.defs (F := Bits)) (onTc (τ := Cert.SsdConv.τ) (Cert.SsdConv.main (F := Bits))) ⟨m, fun _ => 0, g⟩ (fun r => (∀ c : Dev Cert.SsdConv.nD,
      r.2.mem ((c.tc : Thread Cert.SsdConv.nD Cert.SsdConv.τ).loc Cert.SsdConv.main_arg0) = m ((c.tc : Thread Cert.SsdConv.nD Cert.SsdConv.τ).loc Cert.SsdConv.main_arg0)
      ∧ r.2.mem ((c.tc : Thread Cert.SsdConv.nD Cert.SsdConv.τ).loc Cert.SsdConv.main_arg1) = m ((c.tc : Thread Cert.SsdConv.nD Cert.SsdConv.τ).loc Cert.SsdConv.main_arg1)
      ∧ r.2.mem ((c.tc : Thread Cert.SsdConv.nD Cert.SsdConv.τ).loc Cert.SsdConv.main_arg2) = m ((c.tc : Thread Cert.SsdConv.nD Cert.SsdConv.τ).loc Cert.SsdConv.main_arg2))
      ∧ r.2.sem = fun _ => 0)

def quiescent_SsdConvIdeal [hSsdConvIdeal : Cert.SsdConvIdeal.Facts] : Prop :=
  ∀ (m : (ℓ : Loc Cert.SsdConvIdeal.nD Cert.SsdConvIdeal.τ Cert.SsdConvIdeal.sig) → Buf (Elt Ideal) ℓ) (g : Dev Cert.SsdConvIdeal.nD → PrngReg), Pre_SsdConvIdeal m →
    θ_run (Cert.SsdConvIdeal.defs (F := Ideal)) (onTc (τ := Cert.SsdConvIdeal.τ) (Cert.SsdConvIdeal.main (F := Ideal))) ⟨m, fun _ => 0, g⟩ (fun r => (∀ c : Dev Cert.SsdConvIdeal.nD,
      r.2.mem ((c.tc : Thread Cert.SsdConvIdeal.nD Cert.SsdConvIdeal.τ).loc Cert.SsdConvIdeal.main_arg0) = m ((c.tc : Thread Cert.SsdConvIdeal.nD Cert.SsdConvIdeal.τ).loc Cert.SsdConvIdeal.main_arg0)
      ∧ r.2.mem ((c.tc : Thread Cert.SsdConvIdeal.nD Cert.SsdConvIdeal.τ).loc Cert.SsdConvIdeal.main_arg1) = m ((c.tc : Thread Cert.SsdConvIdeal.nD Cert.SsdConvIdeal.τ).loc Cert.SsdConvIdeal.main_arg1)
      ∧ r.2.mem ((c.tc : Thread Cert.SsdConvIdeal.nD Cert.SsdConvIdeal.τ).loc Cert.SsdConvIdeal.main_arg2) = m ((c.tc : Thread Cert.SsdConvIdeal.nD Cert.SsdConvIdeal.τ).loc Cert.SsdConvIdeal.main_arg2))
      ∧ r.2.sem = fun _ => 0)

def quiescent_XbcIdeal [hXbcIdeal : Cert.XbcIdeal.Facts] : Prop :=
  ∀ (m : (ℓ : Loc Cert.XbcIdeal.nD Cert.XbcIdeal.τ Cert.XbcIdeal.sig) → Buf (Elt Ideal) ℓ) (g : Dev Cert.XbcIdeal.nD → PrngReg), Pre_XbcIdeal m →
    θ_run (Cert.XbcIdeal.defs (F := Ideal)) (onTc (τ := Cert.XbcIdeal.τ) (Cert.XbcIdeal.main (F := Ideal))) ⟨m, fun _ => 0, g⟩ (fun r => (∀ c : Dev Cert.XbcIdeal.nD,
      r.2.mem ((c.tc : Thread Cert.XbcIdeal.nD Cert.XbcIdeal.τ).loc Cert.XbcIdeal.main_arg0) = m ((c.tc : Thread Cert.XbcIdeal.nD Cert.XbcIdeal.τ).loc Cert.XbcIdeal.main_arg0)
      ∧ r.2.mem ((c.tc : Thread Cert.XbcIdeal.nD Cert.XbcIdeal.τ).loc Cert.XbcIdeal.main_arg1) = m ((c.tc : Thread Cert.XbcIdeal.nD Cert.XbcIdeal.τ).loc Cert.XbcIdeal.main_arg1)
      ∧ r.2.mem ((c.tc : Thread Cert.XbcIdeal.nD Cert.XbcIdeal.τ).loc Cert.XbcIdeal.main_arg2) = m ((c.tc : Thread Cert.XbcIdeal.nD Cert.XbcIdeal.τ).loc Cert.XbcIdeal.main_arg2))
      ∧ r.2.sem = fun _ => 0)

def quiescent_AdaMod [hAdaMod : Cert.AdaMod.Facts] : Prop :=
  ∀ (m : (ℓ : Loc Cert.AdaMod.nD Cert.AdaMod.τ Cert.AdaMod.sig) → Buf (Elt Bits) ℓ) (g : Dev Cert.AdaMod.nD → PrngReg), Pre_AdaMod m →
    θ_run (Cert.AdaMod.defs (F := Bits)) (onTc (τ := Cert.AdaMod.τ) (Cert.AdaMod.main (F := Bits))) ⟨m, fun _ => 0, g⟩ (fun r => (∀ c : Dev Cert.AdaMod.nD,
      r.2.mem ((c.tc : Thread Cert.AdaMod.nD Cert.AdaMod.τ).loc Cert.AdaMod.main_arg0) = m ((c.tc : Thread Cert.AdaMod.nD Cert.AdaMod.τ).loc Cert.AdaMod.main_arg0)
      ∧ r.2.mem ((c.tc : Thread Cert.AdaMod.nD Cert.AdaMod.τ).loc Cert.AdaMod.main_arg1) = m ((c.tc : Thread Cert.AdaMod.nD Cert.AdaMod.τ).loc Cert.AdaMod.main_arg1)
      ∧ r.2.mem ((c.tc : Thread Cert.AdaMod.nD Cert.AdaMod.τ).loc Cert.AdaMod.main_arg2) = m ((c.tc : Thread Cert.AdaMod.nD Cert.AdaMod.τ).loc Cert.AdaMod.main_arg2))
      ∧ r.2.sem = fun _ => 0)

def quiescent_AdaModIdeal [hAdaModIdeal : Cert.AdaModIdeal.Facts] : Prop :=
  ∀ (m : (ℓ : Loc Cert.AdaModIdeal.nD Cert.AdaModIdeal.τ Cert.AdaModIdeal.sig) → Buf (Elt Ideal) ℓ) (g : Dev Cert.AdaModIdeal.nD → PrngReg), Pre_AdaModIdeal m →
    θ_run (Cert.AdaModIdeal.defs (F := Ideal)) (onTc (τ := Cert.AdaModIdeal.τ) (Cert.AdaModIdeal.main (F := Ideal))) ⟨m, fun _ => 0, g⟩ (fun r => (∀ c : Dev Cert.AdaModIdeal.nD,
      r.2.mem ((c.tc : Thread Cert.AdaModIdeal.nD Cert.AdaModIdeal.τ).loc Cert.AdaModIdeal.main_arg0) = m ((c.tc : Thread Cert.AdaModIdeal.nD Cert.AdaModIdeal.τ).loc Cert.AdaModIdeal.main_arg0)
      ∧ r.2.mem ((c.tc : Thread Cert.AdaModIdeal.nD Cert.AdaModIdeal.τ).loc Cert.AdaModIdeal.main_arg1) = m ((c.tc : Thread Cert.AdaModIdeal.nD Cert.AdaModIdeal.τ).loc Cert.AdaModIdeal.main_arg1)
      ∧ r.2.mem ((c.tc : Thread Cert.AdaModIdeal.nD Cert.AdaModIdeal.τ).loc Cert.AdaModIdeal.main_arg2) = m ((c.tc : Thread Cert.AdaModIdeal.nD Cert.AdaModIdeal.τ).loc Cert.AdaModIdeal.main_arg2))
      ∧ r.2.sem = fun _ => 0)

def quiescent_ModulIdeal [hModulIdeal : Cert.ModulIdeal.Facts] : Prop :=
  ∀ (m : (ℓ : Loc Cert.ModulIdeal.nD Cert.ModulIdeal.τ Cert.ModulIdeal.sig) → Buf (Elt Ideal) ℓ) (g : Dev Cert.ModulIdeal.nD → PrngReg), Pre_ModulIdeal m →
    θ_run (Cert.ModulIdeal.defs (F := Ideal)) (onTc (τ := Cert.ModulIdeal.τ) (Cert.ModulIdeal.main (F := Ideal))) ⟨m, fun _ => 0, g⟩ (fun r => (∀ c : Dev Cert.ModulIdeal.nD,
      r.2.mem ((c.tc : Thread Cert.ModulIdeal.nD Cert.ModulIdeal.τ).loc Cert.ModulIdeal.main_arg0) = m ((c.tc : Thread Cert.ModulIdeal.nD Cert.ModulIdeal.τ).loc Cert.ModulIdeal.main_arg0)
      ∧ r.2.mem ((c.tc : Thread Cert.ModulIdeal.nD Cert.ModulIdeal.τ).loc Cert.ModulIdeal.main_arg1) = m ((c.tc : Thread Cert.ModulIdeal.nD Cert.ModulIdeal.τ).loc Cert.ModulIdeal.main_arg1)
      ∧ r.2.mem ((c.tc : Thread Cert.ModulIdeal.nD Cert.ModulIdeal.τ).loc Cert.ModulIdeal.main_arg2) = m ((c.tc : Thread Cert.ModulIdeal.nD Cert.ModulIdeal.τ).loc Cert.ModulIdeal.main_arg2))
      ∧ r.2.sem = fun _ => 0)

def preserves_ConfBwd_ConfBwdIdeal : Prop :=
  True

def algebraic_ConfBwdIdeal_ConfGradIdeal [hConfBwdIdeal : Cert.ConfBwdIdeal.Facts] [hConfGradIdeal : Cert.ConfGradIdeal.Facts] : Prop :=
  ∀ (m : (ℓ : Loc Cert.ConfBwdIdeal.nD Cert.ConfBwdIdeal.τ Cert.ConfBwdIdeal.sig) → Buf (Elt Ideal) ℓ) (g : Dev Cert.ConfBwdIdeal.nD → PrngReg)
    (m' : (ℓ : Loc Cert.ConfGradIdeal.nD Cert.ConfGradIdeal.τ Cert.ConfGradIdeal.sig) → Buf (Elt Ideal) ℓ) (g' : Dev Cert.ConfGradIdeal.nD → PrngReg), Pre_ConfBwdIdeal m →
    (∀ c : Dev Cert.ConfBwdIdeal.nD,
      m' ((c.tc : Thread Cert.ConfGradIdeal.nD Cert.ConfGradIdeal.τ).loc Cert.ConfGradIdeal.main_arg0) = m ((c.tc : Thread Cert.ConfBwdIdeal.nD Cert.ConfBwdIdeal.τ).loc Cert.ConfBwdIdeal.main_arg0)
      ∧ m' ((c.tc : Thread Cert.ConfGradIdeal.nD Cert.ConfGradIdeal.τ).loc Cert.ConfGradIdeal.main_arg1) = m ((c.tc : Thread Cert.ConfBwdIdeal.nD Cert.ConfBwdIdeal.τ).loc Cert.ConfBwdIdeal.main_arg1)
      ∧ m' ((c.tc : Thread Cert.ConfGradIdeal.nD Cert.ConfGradIdeal.τ).loc Cert.ConfGradIdeal.main_arg2) = m ((c.tc : Thread Cert.ConfBwdIdeal.nD Cert.ConfBwdIdeal.τ).loc Cert.ConfBwdIdeal.main_arg2)
      ∧ m' ((c.tc : Thread Cert.ConfGradIdeal.nD Cert.ConfGradIdeal.τ).loc Cert.ConfGradIdeal.main_arg3) = m ((c.tc : Thread Cert.ConfBwdIdeal.nD Cert.ConfBwdIdeal.τ).loc Cert.ConfBwdIdeal.main_arg3)) →
    ∃ (v0 : (c : Dev Cert.ConfBwdIdeal.nD) → Buf (Elt Ideal) ((c.tc : Thread Cert.ConfBwdIdeal.nD Cert.ConfBwdIdeal.τ).loc Cert.ConfBwdIdeal.main_v0_0)) (v1 : (c : Dev Cert.ConfBwdIdeal.nD) → Buf (Elt Ideal) ((c.tc : Thread Cert.ConfBwdIdeal.nD Cert.ConfBwdIdeal.τ).loc Cert.ConfBwdIdeal.main_v0_1)) (v2 : (c : Dev Cert.ConfBwdIdeal.nD) → Buf (Elt Ideal) ((c.tc : Thread Cert.ConfBwdIdeal.nD Cert.ConfBwdIdeal.τ).loc Cert.ConfBwdIdeal.main_v0_2)),
      θ_run (Cert.ConfBwdIdeal.defs (F := Ideal)) (onTc (τ := Cert.ConfBwdIdeal.τ) (Cert.ConfBwdIdeal.main (F := Ideal))) ⟨m, fun _ => 0, g⟩ (fun r => ∀ c : Dev Cert.ConfBwdIdeal.nD,
          r.2.mem ((c.tc : Thread Cert.ConfBwdIdeal.nD Cert.ConfBwdIdeal.τ).loc Cert.ConfBwdIdeal.main_v0_0) = v0 c
          ∧ r.2.mem ((c.tc : Thread Cert.ConfBwdIdeal.nD Cert.ConfBwdIdeal.τ).loc Cert.ConfBwdIdeal.main_v0_1) = v1 c
          ∧ r.2.mem ((c.tc : Thread Cert.ConfBwdIdeal.nD Cert.ConfBwdIdeal.τ).loc Cert.ConfBwdIdeal.main_v0_2) = v2 c
          ∧ r.2.mem ((c.tc : Thread Cert.ConfBwdIdeal.nD Cert.ConfBwdIdeal.τ).loc Cert.ConfBwdIdeal.main_arg0) = m ((c.tc : Thread Cert.ConfBwdIdeal.nD Cert.ConfBwdIdeal.τ).loc Cert.ConfBwdIdeal.main_arg0)
          ∧ r.2.mem ((c.tc : Thread Cert.ConfBwdIdeal.nD Cert.ConfBwdIdeal.τ).loc Cert.ConfBwdIdeal.main_arg1) = m ((c.tc : Thread Cert.ConfBwdIdeal.nD Cert.ConfBwdIdeal.τ).loc Cert.ConfBwdIdeal.main_arg1)
          ∧ r.2.mem ((c.tc : Thread Cert.ConfBwdIdeal.nD Cert.ConfBwdIdeal.τ).loc Cert.ConfBwdIdeal.main_arg2) = m ((c.tc : Thread Cert.ConfBwdIdeal.nD Cert.ConfBwdIdeal.τ).loc Cert.ConfBwdIdeal.main_arg2)
          ∧ r.2.mem ((c.tc : Thread Cert.ConfBwdIdeal.nD Cert.ConfBwdIdeal.τ).loc Cert.ConfBwdIdeal.main_arg3) = m ((c.tc : Thread Cert.ConfBwdIdeal.nD Cert.ConfBwdIdeal.τ).loc Cert.ConfBwdIdeal.main_arg3))
      ∧ θ_run (Cert.ConfGradIdeal.defs (F := Ideal)) (onTc (τ := Cert.ConfGradIdeal.τ) (Cert.ConfGradIdeal.main (F := Ideal))) ⟨m', fun _ => 0, g'⟩ (fun r => ∀ c : Dev Cert.ConfGradIdeal.nD,
          r.2.mem ((c.tc : Thread Cert.ConfGradIdeal.nD Cert.ConfGradIdeal.τ).loc Cert.ConfGradIdeal.main_v228) = v0 c
          ∧ r.2.mem ((c.tc : Thread Cert.ConfGradIdeal.nD Cert.ConfGradIdeal.τ).loc Cert.ConfGradIdeal.main_v230) = v1 c
          ∧ r.2.mem ((c.tc : Thread Cert.ConfGradIdeal.nD Cert.ConfGradIdeal.τ).loc Cert.ConfGradIdeal.main_v231) = v2 c
          ∧ r.2.mem ((c.tc : Thread Cert.ConfGradIdeal.nD Cert.ConfGradIdeal.τ).loc Cert.ConfGradIdeal.main_arg0) = m' ((c.tc : Thread Cert.ConfGradIdeal.nD Cert.ConfGradIdeal.τ).loc Cert.ConfGradIdeal.main_arg0)
          ∧ r.2.mem ((c.tc : Thread Cert.ConfGradIdeal.nD Cert.ConfGradIdeal.τ).loc Cert.ConfGradIdeal.main_arg1) = m' ((c.tc : Thread Cert.ConfGradIdeal.nD Cert.ConfGradIdeal.τ).loc Cert.ConfGradIdeal.main_arg1)
          ∧ r.2.mem ((c.tc : Thread Cert.ConfGradIdeal.nD Cert.ConfGradIdeal.τ).loc Cert.ConfGradIdeal.main_arg2) = m' ((c.tc : Thread Cert.ConfGradIdeal.nD Cert.ConfGradIdeal.τ).loc Cert.ConfGradIdeal.main_arg2)
          ∧ r.2.mem ((c.tc : Thread Cert.ConfGradIdeal.nD Cert.ConfGradIdeal.τ).loc Cert.ConfGradIdeal.main_arg3) = m' ((c.tc : Thread Cert.ConfGradIdeal.nD Cert.ConfGradIdeal.τ).loc Cert.ConfGradIdeal.main_arg3))

def preserves_DownWgrad_DownWgradIdeal : Prop :=
  True

def algebraic_DownWgradIdeal_DownGradIdeal [hDownWgradIdeal : Cert.DownWgradIdeal.Facts] [hDownGradIdeal : Cert.DownGradIdeal.Facts] : Prop :=
  ∀ (m : (ℓ : Loc Cert.DownWgradIdeal.nD Cert.DownWgradIdeal.τ Cert.DownWgradIdeal.sig) → Buf (Elt Ideal) ℓ) (g : Dev Cert.DownWgradIdeal.nD → PrngReg)
    (m' : (ℓ : Loc Cert.DownGradIdeal.nD Cert.DownGradIdeal.τ Cert.DownGradIdeal.sig) → Buf (Elt Ideal) ℓ) (g' : Dev Cert.DownGradIdeal.nD → PrngReg), Pre_DownWgradIdeal m →
    (∀ c : Dev Cert.DownWgradIdeal.nD,
      m' ((c.tc : Thread Cert.DownGradIdeal.nD Cert.DownGradIdeal.τ).loc Cert.DownGradIdeal.main_arg0) = m ((c.tc : Thread Cert.DownWgradIdeal.nD Cert.DownWgradIdeal.τ).loc Cert.DownWgradIdeal.main_arg0)
      ∧ m' ((c.tc : Thread Cert.DownGradIdeal.nD Cert.DownGradIdeal.τ).loc Cert.DownGradIdeal.main_arg1) = m ((c.tc : Thread Cert.DownWgradIdeal.nD Cert.DownWgradIdeal.τ).loc Cert.DownWgradIdeal.main_arg1)) →
    ∃ (v0 : (c : Dev Cert.DownWgradIdeal.nD) → Buf (Elt Ideal) ((c.tc : Thread Cert.DownWgradIdeal.nD Cert.DownWgradIdeal.τ).loc Cert.DownWgradIdeal.main_v0)),
      θ_run (Cert.DownWgradIdeal.defs (F := Ideal)) (onTc (τ := Cert.DownWgradIdeal.τ) (Cert.DownWgradIdeal.main (F := Ideal))) ⟨m, fun _ => 0, g⟩ (fun r => ∀ c : Dev Cert.DownWgradIdeal.nD,
          r.2.mem ((c.tc : Thread Cert.DownWgradIdeal.nD Cert.DownWgradIdeal.τ).loc Cert.DownWgradIdeal.main_v0) = v0 c
          ∧ r.2.mem ((c.tc : Thread Cert.DownWgradIdeal.nD Cert.DownWgradIdeal.τ).loc Cert.DownWgradIdeal.main_arg0) = m ((c.tc : Thread Cert.DownWgradIdeal.nD Cert.DownWgradIdeal.τ).loc Cert.DownWgradIdeal.main_arg0)
          ∧ r.2.mem ((c.tc : Thread Cert.DownWgradIdeal.nD Cert.DownWgradIdeal.τ).loc Cert.DownWgradIdeal.main_arg1) = m ((c.tc : Thread Cert.DownWgradIdeal.nD Cert.DownWgradIdeal.τ).loc Cert.DownWgradIdeal.main_arg1))
      ∧ θ_run (Cert.DownGradIdeal.defs (F := Ideal)) (onTc (τ := Cert.DownGradIdeal.τ) (Cert.DownGradIdeal.main (F := Ideal))) ⟨m', fun _ => 0, g'⟩ (fun r => ∀ c : Dev Cert.DownGradIdeal.nD,
          r.2.mem ((c.tc : Thread Cert.DownGradIdeal.nD Cert.DownGradIdeal.τ).loc Cert.DownGradIdeal.main_v6) = v0 c
          ∧ r.2.mem ((c.tc : Thread Cert.DownGradIdeal.nD Cert.DownGradIdeal.τ).loc Cert.DownGradIdeal.main_arg0) = m' ((c.tc : Thread Cert.DownGradIdeal.nD Cert.DownGradIdeal.τ).loc Cert.DownGradIdeal.main_arg0)
          ∧ r.2.mem ((c.tc : Thread Cert.DownGradIdeal.nD Cert.DownGradIdeal.τ).loc Cert.DownGradIdeal.main_arg1) = m' ((c.tc : Thread Cert.DownGradIdeal.nD Cert.DownGradIdeal.τ).loc Cert.DownGradIdeal.main_arg1))

def preserves_UpWgrad_UpWgradIdeal : Prop :=
  True

def algebraic_UpWgradIdeal_UpGradIdeal [hUpWgradIdeal : Cert.UpWgradIdeal.Facts] [hUpGradIdeal : Cert.UpGradIdeal.Facts] : Prop :=
  ∀ (m : (ℓ : Loc Cert.UpWgradIdeal.nD Cert.UpWgradIdeal.τ Cert.UpWgradIdeal.sig) → Buf (Elt Ideal) ℓ) (g : Dev Cert.UpWgradIdeal.nD → PrngReg)
    (m' : (ℓ : Loc Cert.UpGradIdeal.nD Cert.UpGradIdeal.τ Cert.UpGradIdeal.sig) → Buf (Elt Ideal) ℓ) (g' : Dev Cert.UpGradIdeal.nD → PrngReg), Pre_UpWgradIdeal m →
    (∀ c : Dev Cert.UpWgradIdeal.nD,
      m' ((c.tc : Thread Cert.UpGradIdeal.nD Cert.UpGradIdeal.τ).loc Cert.UpGradIdeal.main_arg0) = m ((c.tc : Thread Cert.UpWgradIdeal.nD Cert.UpWgradIdeal.τ).loc Cert.UpWgradIdeal.main_arg0)
      ∧ m' ((c.tc : Thread Cert.UpGradIdeal.nD Cert.UpGradIdeal.τ).loc Cert.UpGradIdeal.main_arg1) = m ((c.tc : Thread Cert.UpWgradIdeal.nD Cert.UpWgradIdeal.τ).loc Cert.UpWgradIdeal.main_arg1)
      ∧ m' ((c.tc : Thread Cert.UpGradIdeal.nD Cert.UpGradIdeal.τ).loc Cert.UpGradIdeal.main_arg2) = m ((c.tc : Thread Cert.UpWgradIdeal.nD Cert.UpWgradIdeal.τ).loc Cert.UpWgradIdeal.main_arg2)) →
    ∃ (v0 : (c : Dev Cert.UpWgradIdeal.nD) → Buf (Elt Ideal) ((c.tc : Thread Cert.UpWgradIdeal.nD Cert.UpWgradIdeal.τ).loc Cert.UpWgradIdeal.main_v0)),
      θ_run (Cert.UpWgradIdeal.defs (F := Ideal)) (onTc (τ := Cert.UpWgradIdeal.τ) (Cert.UpWgradIdeal.main (F := Ideal))) ⟨m, fun _ => 0, g⟩ (fun r => ∀ c : Dev Cert.UpWgradIdeal.nD,
          r.2.mem ((c.tc : Thread Cert.UpWgradIdeal.nD Cert.UpWgradIdeal.τ).loc Cert.UpWgradIdeal.main_v0) = v0 c
          ∧ r.2.mem ((c.tc : Thread Cert.UpWgradIdeal.nD Cert.UpWgradIdeal.τ).loc Cert.UpWgradIdeal.main_arg0) = m ((c.tc : Thread Cert.UpWgradIdeal.nD Cert.UpWgradIdeal.τ).loc Cert.UpWgradIdeal.main_arg0)
          ∧ r.2.mem ((c.tc : Thread Cert.UpWgradIdeal.nD Cert.UpWgradIdeal.τ).loc Cert.UpWgradIdeal.main_arg1) = m ((c.tc : Thread Cert.UpWgradIdeal.nD Cert.UpWgradIdeal.τ).loc Cert.UpWgradIdeal.main_arg1)
          ∧ r.2.mem ((c.tc : Thread Cert.UpWgradIdeal.nD Cert.UpWgradIdeal.τ).loc Cert.UpWgradIdeal.main_arg2) = m ((c.tc : Thread Cert.UpWgradIdeal.nD Cert.UpWgradIdeal.τ).loc Cert.UpWgradIdeal.main_arg2))
      ∧ θ_run (Cert.UpGradIdeal.defs (F := Ideal)) (onTc (τ := Cert.UpGradIdeal.τ) (Cert.UpGradIdeal.main (F := Ideal))) ⟨m', fun _ => 0, g'⟩ (fun r => ∀ c : Dev Cert.UpGradIdeal.nD,
          r.2.mem ((c.tc : Thread Cert.UpGradIdeal.nD Cert.UpGradIdeal.τ).loc Cert.UpGradIdeal.main_v8) = v0 c
          ∧ r.2.mem ((c.tc : Thread Cert.UpGradIdeal.nD Cert.UpGradIdeal.τ).loc Cert.UpGradIdeal.main_arg0) = m' ((c.tc : Thread Cert.UpGradIdeal.nD Cert.UpGradIdeal.τ).loc Cert.UpGradIdeal.main_arg0)
          ∧ r.2.mem ((c.tc : Thread Cert.UpGradIdeal.nD Cert.UpGradIdeal.τ).loc Cert.UpGradIdeal.main_arg1) = m' ((c.tc : Thread Cert.UpGradIdeal.nD Cert.UpGradIdeal.τ).loc Cert.UpGradIdeal.main_arg1)
          ∧ r.2.mem ((c.tc : Thread Cert.UpGradIdeal.nD Cert.UpGradIdeal.τ).loc Cert.UpGradIdeal.main_arg2) = m' ((c.tc : Thread Cert.UpGradIdeal.nD Cert.UpGradIdeal.τ).loc Cert.UpGradIdeal.main_arg2))

def preserves_OutWgrad_OutWgradIdeal : Prop :=
  True

def algebraic_OutWgradIdeal_OutGradIdeal [hOutWgradIdeal : Cert.OutWgradIdeal.Facts] [hOutGradIdeal : Cert.OutGradIdeal.Facts] : Prop :=
  ∀ (m : (ℓ : Loc Cert.OutWgradIdeal.nD Cert.OutWgradIdeal.τ Cert.OutWgradIdeal.sig) → Buf (Elt Ideal) ℓ) (g : Dev Cert.OutWgradIdeal.nD → PrngReg)
    (m' : (ℓ : Loc Cert.OutGradIdeal.nD Cert.OutGradIdeal.τ Cert.OutGradIdeal.sig) → Buf (Elt Ideal) ℓ) (g' : Dev Cert.OutGradIdeal.nD → PrngReg), Pre_OutWgradIdeal m →
    (∀ c : Dev Cert.OutWgradIdeal.nD,
      m' ((c.tc : Thread Cert.OutGradIdeal.nD Cert.OutGradIdeal.τ).loc Cert.OutGradIdeal.main_arg0) = m ((c.tc : Thread Cert.OutWgradIdeal.nD Cert.OutWgradIdeal.τ).loc Cert.OutWgradIdeal.main_arg0)
      ∧ m' ((c.tc : Thread Cert.OutGradIdeal.nD Cert.OutGradIdeal.τ).loc Cert.OutGradIdeal.main_arg1) = m ((c.tc : Thread Cert.OutWgradIdeal.nD Cert.OutWgradIdeal.τ).loc Cert.OutWgradIdeal.main_arg1)
      ∧ m' ((c.tc : Thread Cert.OutGradIdeal.nD Cert.OutGradIdeal.τ).loc Cert.OutGradIdeal.main_arg2) = m ((c.tc : Thread Cert.OutWgradIdeal.nD Cert.OutWgradIdeal.τ).loc Cert.OutWgradIdeal.main_arg2)) →
    ∃ (v0 : (c : Dev Cert.OutWgradIdeal.nD) → Buf (Elt Ideal) ((c.tc : Thread Cert.OutWgradIdeal.nD Cert.OutWgradIdeal.τ).loc Cert.OutWgradIdeal.main_v0)),
      θ_run (Cert.OutWgradIdeal.defs (F := Ideal)) (onTc (τ := Cert.OutWgradIdeal.τ) (Cert.OutWgradIdeal.main (F := Ideal))) ⟨m, fun _ => 0, g⟩ (fun r => ∀ c : Dev Cert.OutWgradIdeal.nD,
          r.2.mem ((c.tc : Thread Cert.OutWgradIdeal.nD Cert.OutWgradIdeal.τ).loc Cert.OutWgradIdeal.main_v0) = v0 c
          ∧ r.2.mem ((c.tc : Thread Cert.OutWgradIdeal.nD Cert.OutWgradIdeal.τ).loc Cert.OutWgradIdeal.main_arg0) = m ((c.tc : Thread Cert.OutWgradIdeal.nD Cert.OutWgradIdeal.τ).loc Cert.OutWgradIdeal.main_arg0)
          ∧ r.2.mem ((c.tc : Thread Cert.OutWgradIdeal.nD Cert.OutWgradIdeal.τ).loc Cert.OutWgradIdeal.main_arg1) = m ((c.tc : Thread Cert.OutWgradIdeal.nD Cert.OutWgradIdeal.τ).loc Cert.OutWgradIdeal.main_arg1)
          ∧ r.2.mem ((c.tc : Thread Cert.OutWgradIdeal.nD Cert.OutWgradIdeal.τ).loc Cert.OutWgradIdeal.main_arg2) = m ((c.tc : Thread Cert.OutWgradIdeal.nD Cert.OutWgradIdeal.τ).loc Cert.OutWgradIdeal.main_arg2))
      ∧ θ_run (Cert.OutGradIdeal.defs (F := Ideal)) (onTc (τ := Cert.OutGradIdeal.τ) (Cert.OutGradIdeal.main (F := Ideal))) ⟨m', fun _ => 0, g'⟩ (fun r => ∀ c : Dev Cert.OutGradIdeal.nD,
          r.2.mem ((c.tc : Thread Cert.OutGradIdeal.nD Cert.OutGradIdeal.τ).loc Cert.OutGradIdeal.main_v7) = v0 c
          ∧ r.2.mem ((c.tc : Thread Cert.OutGradIdeal.nD Cert.OutGradIdeal.τ).loc Cert.OutGradIdeal.main_arg0) = m' ((c.tc : Thread Cert.OutGradIdeal.nD Cert.OutGradIdeal.τ).loc Cert.OutGradIdeal.main_arg0)
          ∧ r.2.mem ((c.tc : Thread Cert.OutGradIdeal.nD Cert.OutGradIdeal.τ).loc Cert.OutGradIdeal.main_arg1) = m' ((c.tc : Thread Cert.OutGradIdeal.nD Cert.OutGradIdeal.τ).loc Cert.OutGradIdeal.main_arg1)
          ∧ r.2.mem ((c.tc : Thread Cert.OutGradIdeal.nD Cert.OutGradIdeal.τ).loc Cert.OutGradIdeal.main_arg2) = m' ((c.tc : Thread Cert.OutGradIdeal.nD Cert.OutGradIdeal.τ).loc Cert.OutGradIdeal.main_arg2))

def preserves_InWgrad_InWgradIdeal : Prop :=
  True

def algebraic_InWgradIdeal_InGradIdeal [hInWgradIdeal : Cert.InWgradIdeal.Facts] [hInGradIdeal : Cert.InGradIdeal.Facts] : Prop :=
  ∀ (m : (ℓ : Loc Cert.InWgradIdeal.nD Cert.InWgradIdeal.τ Cert.InWgradIdeal.sig) → Buf (Elt Ideal) ℓ) (g : Dev Cert.InWgradIdeal.nD → PrngReg)
    (m' : (ℓ : Loc Cert.InGradIdeal.nD Cert.InGradIdeal.τ Cert.InGradIdeal.sig) → Buf (Elt Ideal) ℓ) (g' : Dev Cert.InGradIdeal.nD → PrngReg), Pre_InWgradIdeal m →
    (∀ c : Dev Cert.InWgradIdeal.nD,
      m' ((c.tc : Thread Cert.InGradIdeal.nD Cert.InGradIdeal.τ).loc Cert.InGradIdeal.main_arg0) = m ((c.tc : Thread Cert.InWgradIdeal.nD Cert.InWgradIdeal.τ).loc Cert.InWgradIdeal.main_arg0)
      ∧ m' ((c.tc : Thread Cert.InGradIdeal.nD Cert.InGradIdeal.τ).loc Cert.InGradIdeal.main_arg1) = m ((c.tc : Thread Cert.InWgradIdeal.nD Cert.InWgradIdeal.τ).loc Cert.InWgradIdeal.main_arg1)
      ∧ m' ((c.tc : Thread Cert.InGradIdeal.nD Cert.InGradIdeal.τ).loc Cert.InGradIdeal.main_arg2) = m ((c.tc : Thread Cert.InWgradIdeal.nD Cert.InWgradIdeal.τ).loc Cert.InWgradIdeal.main_arg2)
      ∧ m' ((c.tc : Thread Cert.InGradIdeal.nD Cert.InGradIdeal.τ).loc Cert.InGradIdeal.main_arg3) = m ((c.tc : Thread Cert.InWgradIdeal.nD Cert.InWgradIdeal.τ).loc Cert.InWgradIdeal.main_arg3)
      ∧ m' ((c.tc : Thread Cert.InGradIdeal.nD Cert.InGradIdeal.τ).loc Cert.InGradIdeal.main_arg4) = m ((c.tc : Thread Cert.InWgradIdeal.nD Cert.InWgradIdeal.τ).loc Cert.InWgradIdeal.main_arg4)
      ∧ m' ((c.tc : Thread Cert.InGradIdeal.nD Cert.InGradIdeal.τ).loc Cert.InGradIdeal.main_arg5) = m ((c.tc : Thread Cert.InWgradIdeal.nD Cert.InWgradIdeal.τ).loc Cert.InWgradIdeal.main_arg5)) →
    ∃ (v0 : (c : Dev Cert.InWgradIdeal.nD) → Buf (Elt Ideal) ((c.tc : Thread Cert.InWgradIdeal.nD Cert.InWgradIdeal.τ).loc Cert.InWgradIdeal.main_v0)),
      θ_run (Cert.InWgradIdeal.defs (F := Ideal)) (onTc (τ := Cert.InWgradIdeal.τ) (Cert.InWgradIdeal.main (F := Ideal))) ⟨m, fun _ => 0, g⟩ (fun r => ∀ c : Dev Cert.InWgradIdeal.nD,
          r.2.mem ((c.tc : Thread Cert.InWgradIdeal.nD Cert.InWgradIdeal.τ).loc Cert.InWgradIdeal.main_v0) = v0 c
          ∧ r.2.mem ((c.tc : Thread Cert.InWgradIdeal.nD Cert.InWgradIdeal.τ).loc Cert.InWgradIdeal.main_arg0) = m ((c.tc : Thread Cert.InWgradIdeal.nD Cert.InWgradIdeal.τ).loc Cert.InWgradIdeal.main_arg0)
          ∧ r.2.mem ((c.tc : Thread Cert.InWgradIdeal.nD Cert.InWgradIdeal.τ).loc Cert.InWgradIdeal.main_arg1) = m ((c.tc : Thread Cert.InWgradIdeal.nD Cert.InWgradIdeal.τ).loc Cert.InWgradIdeal.main_arg1)
          ∧ r.2.mem ((c.tc : Thread Cert.InWgradIdeal.nD Cert.InWgradIdeal.τ).loc Cert.InWgradIdeal.main_arg2) = m ((c.tc : Thread Cert.InWgradIdeal.nD Cert.InWgradIdeal.τ).loc Cert.InWgradIdeal.main_arg2)
          ∧ r.2.mem ((c.tc : Thread Cert.InWgradIdeal.nD Cert.InWgradIdeal.τ).loc Cert.InWgradIdeal.main_arg3) = m ((c.tc : Thread Cert.InWgradIdeal.nD Cert.InWgradIdeal.τ).loc Cert.InWgradIdeal.main_arg3)
          ∧ r.2.mem ((c.tc : Thread Cert.InWgradIdeal.nD Cert.InWgradIdeal.τ).loc Cert.InWgradIdeal.main_arg4) = m ((c.tc : Thread Cert.InWgradIdeal.nD Cert.InWgradIdeal.τ).loc Cert.InWgradIdeal.main_arg4)
          ∧ r.2.mem ((c.tc : Thread Cert.InWgradIdeal.nD Cert.InWgradIdeal.τ).loc Cert.InWgradIdeal.main_arg5) = m ((c.tc : Thread Cert.InWgradIdeal.nD Cert.InWgradIdeal.τ).loc Cert.InWgradIdeal.main_arg5))
      ∧ θ_run (Cert.InGradIdeal.defs (F := Ideal)) (onTc (τ := Cert.InGradIdeal.τ) (Cert.InGradIdeal.main (F := Ideal))) ⟨m', fun _ => 0, g'⟩ (fun r => ∀ c : Dev Cert.InGradIdeal.nD,
          r.2.mem ((c.tc : Thread Cert.InGradIdeal.nD Cert.InGradIdeal.τ).loc Cert.InGradIdeal.main_v10) = v0 c
          ∧ r.2.mem ((c.tc : Thread Cert.InGradIdeal.nD Cert.InGradIdeal.τ).loc Cert.InGradIdeal.main_arg0) = m' ((c.tc : Thread Cert.InGradIdeal.nD Cert.InGradIdeal.τ).loc Cert.InGradIdeal.main_arg0)
          ∧ r.2.mem ((c.tc : Thread Cert.InGradIdeal.nD Cert.InGradIdeal.τ).loc Cert.InGradIdeal.main_arg1) = m' ((c.tc : Thread Cert.InGradIdeal.nD Cert.InGradIdeal.τ).loc Cert.InGradIdeal.main_arg1)
          ∧ r.2.mem ((c.tc : Thread Cert.InGradIdeal.nD Cert.InGradIdeal.τ).loc Cert.InGradIdeal.main_arg2) = m' ((c.tc : Thread Cert.InGradIdeal.nD Cert.InGradIdeal.τ).loc Cert.InGradIdeal.main_arg2)
          ∧ r.2.mem ((c.tc : Thread Cert.InGradIdeal.nD Cert.InGradIdeal.τ).loc Cert.InGradIdeal.main_arg3) = m' ((c.tc : Thread Cert.InGradIdeal.nD Cert.InGradIdeal.τ).loc Cert.InGradIdeal.main_arg3)
          ∧ r.2.mem ((c.tc : Thread Cert.InGradIdeal.nD Cert.InGradIdeal.τ).loc Cert.InGradIdeal.main_arg4) = m' ((c.tc : Thread Cert.InGradIdeal.nD Cert.InGradIdeal.τ).loc Cert.InGradIdeal.main_arg4)
          ∧ r.2.mem ((c.tc : Thread Cert.InGradIdeal.nD Cert.InGradIdeal.τ).loc Cert.InGradIdeal.main_arg5) = m' ((c.tc : Thread Cert.InGradIdeal.nD Cert.InGradIdeal.τ).loc Cert.InGradIdeal.main_arg5))

def preserves_UpProj_UpProjIdeal : Prop :=
  True

def algebraic_UpProjIdeal_UpIdeal [hUpProjIdeal : Cert.UpProjIdeal.Facts] [hUpIdeal : Cert.UpIdeal.Facts] : Prop :=
  ∀ (m : (ℓ : Loc Cert.UpProjIdeal.nD Cert.UpProjIdeal.τ Cert.UpProjIdeal.sig) → Buf (Elt Ideal) ℓ) (g : Dev Cert.UpProjIdeal.nD → PrngReg)
    (m' : (ℓ : Loc Cert.UpIdeal.nD Cert.UpIdeal.τ Cert.UpIdeal.sig) → Buf (Elt Ideal) ℓ) (g' : Dev Cert.UpIdeal.nD → PrngReg), Pre_UpProjIdeal m →
    (∀ c : Dev Cert.UpProjIdeal.nD,
      m' ((c.tc : Thread Cert.UpIdeal.nD Cert.UpIdeal.τ).loc Cert.UpIdeal.main_arg0) = m ((c.tc : Thread Cert.UpProjIdeal.nD Cert.UpProjIdeal.τ).loc Cert.UpProjIdeal.main_arg0)
      ∧ m' ((c.tc : Thread Cert.UpIdeal.nD Cert.UpIdeal.τ).loc Cert.UpIdeal.main_arg1) = m ((c.tc : Thread Cert.UpProjIdeal.nD Cert.UpProjIdeal.τ).loc Cert.UpProjIdeal.main_arg1)) →
    ∃ (v0 : (c : Dev Cert.UpProjIdeal.nD) → Buf (Elt Ideal) ((c.tc : Thread Cert.UpProjIdeal.nD Cert.UpProjIdeal.τ).loc Cert.UpProjIdeal.main_v0)),
      θ_run (Cert.UpProjIdeal.defs (F := Ideal)) (onTc (τ := Cert.UpProjIdeal.τ) (Cert.UpProjIdeal.main (F := Ideal))) ⟨m, fun _ => 0, g⟩ (fun r => ∀ c : Dev Cert.UpProjIdeal.nD,
          r.2.mem ((c.tc : Thread Cert.UpProjIdeal.nD Cert.UpProjIdeal.τ).loc Cert.UpProjIdeal.main_v0) = v0 c
          ∧ r.2.mem ((c.tc : Thread Cert.UpProjIdeal.nD Cert.UpProjIdeal.τ).loc Cert.UpProjIdeal.main_arg0) = m ((c.tc : Thread Cert.UpProjIdeal.nD Cert.UpProjIdeal.τ).loc Cert.UpProjIdeal.main_arg0)
          ∧ r.2.mem ((c.tc : Thread Cert.UpProjIdeal.nD Cert.UpProjIdeal.τ).loc Cert.UpProjIdeal.main_arg1) = m ((c.tc : Thread Cert.UpProjIdeal.nD Cert.UpProjIdeal.τ).loc Cert.UpProjIdeal.main_arg1))
      ∧ θ_run (Cert.UpIdeal.defs (F := Ideal)) (onTc (τ := Cert.UpIdeal.τ) (Cert.UpIdeal.main (F := Ideal))) ⟨m', fun _ => 0, g'⟩ (fun r => ∀ c : Dev Cert.UpIdeal.nD,
          r.2.mem ((c.tc : Thread Cert.UpIdeal.nD Cert.UpIdeal.τ).loc Cert.UpIdeal.main_v3) = v0 c
          ∧ r.2.mem ((c.tc : Thread Cert.UpIdeal.nD Cert.UpIdeal.τ).loc Cert.UpIdeal.main_arg0) = m' ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m' ((c.tc : Thread Cert.UpIdeal.nD Cert.UpIdeal.τ).loc Cert.UpIdeal.main_arg1))

def preserves_InProj_InProjIdeal : Prop :=
  True

def algebraic_InProjIdeal_InIdeal [hInProjIdeal : Cert.InProjIdeal.Facts] [hInIdeal : Cert.InIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InIdeal.nD Cert.InIdeal.τ Cert.InIdeal.sig) → Buf (Elt Ideal) ℓ) (g' : Dev Cert.InIdeal.nD → PrngReg), Pre_InProjIdeal m →
    (∀ c : Dev Cert.InProjIdeal.nD,
      m' ((c.tc : Thread Cert.InIdeal.nD Cert.InIdeal.τ).loc Cert.InIdeal.main_arg0) = m ((c.tc : Thread Cert.InProjIdeal.nD Cert.InProjIdeal.τ).loc Cert.InProjIdeal.main_arg0)
      ∧ m' ((c.tc : Thread Cert.InIdeal.nD Cert.InIdeal.τ).loc Cert.InIdeal.main_arg1) = m ((c.tc : Thread Cert.InProjIdeal.nD Cert.InProjIdeal.τ).loc Cert.InProjIdeal.main_arg1)
      ∧ m' ((c.tc : Thread Cert.InIdeal.nD Cert.InIdeal.τ).loc Cert.InIdeal.main_arg2) = m ((c.tc : Thread Cert.InProjIdeal.nD Cert.InProjIdeal.τ).loc Cert.InProjIdeal.main_arg2)
      ∧ m' ((c.tc : Thread Cert.InIdeal.nD Cert.InIdeal.τ).loc Cert.InIdeal.main_arg3) = m ((c.tc : Thread Cert.InProjIdeal.nD Cert.InProjIdeal.τ).loc Cert.InProjIdeal.main_arg3)) →
    ∃ (v0 : (c : Dev Cert.InProjIdeal.nD) → Buf (Elt Ideal) ((c.tc : Thread Cert.InProjIdeal.nD Cert.InProjIdeal.τ).loc Cert.InProjIdeal.main_v4_0)) (v1 : (c : Dev Cert.InProjIdeal.nD) → Buf (Elt Ideal) ((c.tc : Thread Cert.InProjIdeal.nD Cert.InProjIdeal.τ).loc Cert.InProjIdeal.main_v4_1)) (v2 : (c : Dev Cert.InProjIdeal.nD) → Buf (Elt Ideal) ((c.tc : Thread Cert.InProjIdeal.nD Cert.InProjIdeal.τ).loc Cert.InProjIdeal.main_v4_2)) (v3 : (c : Dev Cert.InProjIdeal.nD) → Buf (Elt Ideal) ((c.tc : Thread Cert.InProjIdeal.nD Cert.InProjIdeal.τ).loc Cert.InProjIdeal.main_v4_3)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v4_0) = v0 c
          ∧ r.2.mem ((c.tc : Thread Cert.InProjIdeal.nD Cert.InProjIdeal.τ).loc Cert.InProjIdeal.main_v4_1) = v1 c
          ∧ r.2.mem ((c.tc : Thread Cert.InProjIdeal.nD Cert.InProjIdeal.τ).loc Cert.InProjIdeal.main_v4_2) = v2 c
          ∧ r.2.mem ((c.tc : Thread Cert.InProjIdeal.nD Cert.InProjIdeal.τ).loc Cert.InProjIdeal.main_v4_3) = v3 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
          ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3))
      ∧ θ_run (Cert.InIdeal.defs (F := Ideal)) (onTc (τ := Cert.InIdeal.τ) (Cert.InIdeal.main (F := Ideal))) ⟨m', fun _ => 0, g'⟩ (fun r => ∀ c : Dev Cert.InIdeal.nD,
          r.2.mem ((c.tc : Thread Cert.InIdeal.nD Cert.InIdeal.τ).loc Cert.InIdeal.main_v23) = v0 c
          ∧ r.2.mem ((c.tc : Thread Cert.InIdeal.nD Cert.InIdeal.τ).loc Cert.InIdeal.main_v24) = v1 c
          ∧ r.2.mem ((c.tc : Thread Cert.InIdeal.nD Cert.InIdeal.τ).loc Cert.InIdeal.main_v27) = v2 c
          ∧ r.2.mem ((c.tc : Thread Cert.InIdeal.nD Cert.InIdeal.τ).loc Cert.InIdeal.main_v28) = v3 c
          ∧ r.2.mem ((c.tc : Thread Cert.InIdeal.nD Cert.InIdeal.τ).loc Cert.InIdeal.main_arg0) = m' ((c.tc : Thread Cert.InIdeal.nD Cert.InIdeal.τ).loc Cert.InIdeal.main_arg0)
          ∧ r.2.mem ((c.tc : Thread Cert.InIdeal.nD Cert.InIdeal.τ).loc Cert.InIdeal.main_arg1) = m' ((c.tc : Thread Cert.InIdeal.nD Cert.InIdeal.τ).loc Cert.InIdeal.main_arg1)
          ∧ r.2.mem ((c.tc : Thread Cert.InIdeal.nD Cert.InIdeal.τ).loc Cert.InIdeal.main_arg2) = m' ((c.tc : Thread Cert.InIdeal.nD Cert.InIdeal.τ).loc Cert.InIdeal.main_arg2)
          ∧ r.2.mem ((c.tc : Thread Cert.InIdeal.nD Cert.InIdeal.τ).loc Cert.InIdeal.main_arg3) = m' ((c.tc : Thread Cert.InIdeal.nD Cert.InIdeal.τ).loc Cert.InIdeal.main_arg3))

def preserves_Norm2Bwd_Norm2BwdIdeal : Prop :=
  True

def algebraic_Norm2BwdIdeal_Norm2GradIdeal [hNorm2BwdIdeal : Cert.Norm2BwdIdeal.Facts] [hNorm2GradIdeal : Cert.Norm2GradIdeal.Facts] : Prop :=
  ∀ (m : (ℓ : Loc Cert.Norm2BwdIdeal.nD Cert.Norm2BwdIdeal.τ Cert.Norm2BwdIdeal.sig) → Buf (Elt Ideal) ℓ) (g : Dev Cert.Norm2BwdIdeal.nD → PrngReg)
    (m' : (ℓ : Loc Cert.Norm2GradIdeal.nD Cert.Norm2GradIdeal.τ Cert.Norm2GradIdeal.sig) → Buf (Elt Ideal) ℓ) (g' : Dev Cert.Norm2GradIdeal.nD → PrngReg), Pre_Norm2BwdIdeal m →
    (∀ c : Dev Cert.Norm2BwdIdeal.nD,
      m' ((c.tc : Thread Cert.Norm2GradIdeal.nD Cert.Norm2GradIdeal.τ).loc Cert.Norm2GradIdeal.main_arg0) = m ((c.tc : Thread Cert.Norm2BwdIdeal.nD Cert.Norm2BwdIdeal.τ).loc Cert.Norm2BwdIdeal.main_arg0)
      ∧ m' ((c.tc : Thread Cert.Norm2GradIdeal.nD Cert.Norm2GradIdeal.τ).loc Cert.Norm2GradIdeal.main_arg1) = m ((c.tc : Thread Cert.Norm2BwdIdeal.nD Cert.Norm2BwdIdeal.τ).loc Cert.Norm2BwdIdeal.main_arg1)
      ∧ m' ((c.tc : Thread Cert.Norm2GradIdeal.nD Cert.Norm2GradIdeal.τ).loc Cert.Norm2GradIdeal.main_arg2) = m ((c.tc : Thread Cert.Norm2BwdIdeal.nD Cert.Norm2BwdIdeal.τ).loc Cert.Norm2BwdIdeal.main_arg2)
      ∧ m' ((c.tc : Thread Cert.Norm2GradIdeal.nD Cert.Norm2GradIdeal.τ).loc Cert.Norm2GradIdeal.main_arg3) = m ((c.tc : Thread Cert.Norm2BwdIdeal.nD Cert.Norm2BwdIdeal.τ).loc Cert.Norm2BwdIdeal.main_arg3)
      ∧ m' ((c.tc : Thread Cert.Norm2GradIdeal.nD Cert.Norm2GradIdeal.τ).loc Cert.Norm2GradIdeal.main_arg4) = m ((c.tc : Thread Cert.Norm2BwdIdeal.nD Cert.Norm2BwdIdeal.τ).loc Cert.Norm2BwdIdeal.main_arg4)
      ∧ m' ((c.tc : Thread Cert.Norm2GradIdeal.nD Cert.Norm2GradIdeal.τ).loc Cert.Norm2GradIdeal.main_arg5) = m ((c.tc : Thread Cert.Norm2BwdIdeal.nD Cert.Norm2BwdIdeal.τ).loc Cert.Norm2BwdIdeal.main_arg5)
      ∧ m' ((c.tc : Thread Cert.Norm2GradIdeal.nD Cert.Norm2GradIdeal.τ).loc Cert.Norm2GradIdeal.main_arg6) = m ((c.tc : Thread Cert.Norm2BwdIdeal.nD Cert.Norm2BwdIdeal.τ).loc Cert.Norm2BwdIdeal.main_arg6)
      ∧ m' ((c.tc : Thread Cert.Norm2GradIdeal.nD Cert.Norm2GradIdeal.τ).loc Cert.Norm2GradIdeal.main_arg7) = m ((c.tc : Thread Cert.Norm2BwdIdeal.nD Cert.Norm2BwdIdeal.τ).loc Cert.Norm2BwdIdeal.main_arg7)) →
    ∃ (v0 : (c : Dev Cert.Norm2BwdIdeal.nD) → Buf (Elt Ideal) ((c.tc : Thread Cert.Norm2BwdIdeal.nD Cert.Norm2BwdIdeal.τ).loc Cert.Norm2BwdIdeal.main_v0_0)) (v1 : (c : Dev Cert.Norm2BwdIdeal.nD) → Buf (Elt Ideal) ((c.tc : Thread Cert.Norm2BwdIdeal.nD Cert.Norm2BwdIdeal.τ).loc Cert.Norm2BwdIdeal.main_v0_1)) (v2 : (c : Dev Cert.Norm2BwdIdeal.nD) → Buf (Elt Ideal) ((c.tc : Thread Cert.Norm2BwdIdeal.nD Cert.Norm2BwdIdeal.τ).loc Cert.Norm2BwdIdeal.main_v0_2)),
      θ_run (Cert.Norm2BwdIdeal.defs (F := Ideal)) (onTc (τ := Cert.Norm2BwdIdeal.τ) (Cert.Norm2BwdIdeal.main (F := Ideal))) ⟨m, fun _ => 0, g⟩ (fun r => ∀ c : Dev Cert.Norm2BwdIdeal.nD,
          r.2.mem ((c.tc : Thread Cert.Norm2BwdIdeal.nD Cert.Norm2BwdIdeal.τ).loc Cert.Norm2BwdIdeal.main_v0_0) = v0 c
          ∧ r.2.mem ((c.tc : Thread Cert.Norm2BwdIdeal.nD Cert.Norm2BwdIdeal.τ).loc Cert.Norm2BwdIdeal.main_v0_1) = v1 c
          ∧ r.2.mem ((c.tc : Thread Cert.Norm2BwdIdeal.nD Cert.Norm2BwdIdeal.τ).loc Cert.Norm2BwdIdeal.main_v0_2) = v2 c
          ∧ r.2.mem ((c.tc : Thread Cert.Norm2BwdIdeal.nD Cert.Norm2BwdIdeal.τ).loc Cert.Norm2BwdIdeal.main_arg0) = m ((c.tc : Thread Cert.Norm2BwdIdeal.nD Cert.Norm2BwdIdeal.τ).loc Cert.Norm2BwdIdeal.main_arg0)
          ∧ r.2.mem ((c.tc : Thread Cert.Norm2BwdIdeal.nD Cert.Norm2BwdIdeal.τ).loc Cert.Norm2BwdIdeal.main_arg1) = m ((c.tc : Thread Cert.Norm2BwdIdeal.nD Cert.Norm2BwdIdeal.τ).loc Cert.Norm2BwdIdeal.main_arg1)
          ∧ r.2.mem ((c.tc : Thread Cert.Norm2BwdIdeal.nD Cert.Norm2BwdIdeal.τ).loc Cert.Norm2BwdIdeal.main_arg2) = m ((c.tc : Thread Cert.Norm2BwdIdeal.nD Cert.Norm2BwdIdeal.τ).loc Cert.Norm2BwdIdeal.main_arg2)
          ∧ r.2.mem ((c.tc : Thread Cert.Norm2BwdIdeal.nD Cert.Norm2BwdIdeal.τ).loc Cert.Norm2BwdIdeal.main_arg3) = m ((c.tc : Thread Cert.Norm2BwdIdeal.nD Cert.Norm2BwdIdeal.τ).loc Cert.Norm2BwdIdeal.main_arg3)
          ∧ r.2.mem ((c.tc : Thread Cert.Norm2BwdIdeal.nD Cert.Norm2BwdIdeal.τ).loc Cert.Norm2BwdIdeal.main_arg4) = m ((c.tc : Thread Cert.Norm2BwdIdeal.nD Cert.Norm2BwdIdeal.τ).loc Cert.Norm2BwdIdeal.main_arg4)
          ∧ r.2.mem ((c.tc : Thread Cert.Norm2BwdIdeal.nD Cert.Norm2BwdIdeal.τ).loc Cert.Norm2BwdIdeal.main_arg5) = m ((c.tc : Thread Cert.Norm2BwdIdeal.nD Cert.Norm2BwdIdeal.τ).loc Cert.Norm2BwdIdeal.main_arg5)
          ∧ r.2.mem ((c.tc : Thread Cert.Norm2BwdIdeal.nD Cert.Norm2BwdIdeal.τ).loc Cert.Norm2BwdIdeal.main_arg6) = m ((c.tc : Thread Cert.Norm2BwdIdeal.nD Cert.Norm2BwdIdeal.τ).loc Cert.Norm2BwdIdeal.main_arg6)
          ∧ r.2.mem ((c.tc : Thread Cert.Norm2BwdIdeal.nD Cert.Norm2BwdIdeal.τ).loc Cert.Norm2BwdIdeal.main_arg7) = m ((c.tc : Thread Cert.Norm2BwdIdeal.nD Cert.Norm2BwdIdeal.τ).loc Cert.Norm2BwdIdeal.main_arg7))
      ∧ θ_run (Cert.Norm2GradIdeal.defs (F := Ideal)) (onTc (τ := Cert.Norm2GradIdeal.τ) (Cert.Norm2GradIdeal.main (F := Ideal))) ⟨m', fun _ => 0, g'⟩ (fun r => ∀ c : Dev Cert.Norm2GradIdeal.nD,
          r.2.mem ((c.tc : Thread Cert.Norm2GradIdeal.nD Cert.Norm2GradIdeal.τ).loc Cert.Norm2GradIdeal.main_v55) = v0 c
          ∧ r.2.mem ((c.tc : Thread Cert.Norm2GradIdeal.nD Cert.Norm2GradIdeal.τ).loc Cert.Norm2GradIdeal.main_v64) = v1 c
          ∧ r.2.mem ((c.tc : Thread Cert.Norm2GradIdeal.nD Cert.Norm2GradIdeal.τ).loc Cert.Norm2GradIdeal.main_v66) = v2 c
          ∧ r.2.mem ((c.tc : Thread Cert.Norm2GradIdeal.nD Cert.Norm2GradIdeal.τ).loc Cert.Norm2GradIdeal.main_arg0) = m' ((c.tc : Thread Cert.Norm2GradIdeal.nD Cert.Norm2GradIdeal.τ).loc Cert.Norm2GradIdeal.main_arg0)
          ∧ r.2.mem ((c.tc : Thread Cert.Norm2GradIdeal.nD Cert.Norm2GradIdeal.τ).loc Cert.Norm2GradIdeal.main_arg1) = m' ((c.tc : Thread Cert.Norm2GradIdeal.nD Cert.Norm2GradIdeal.τ).loc Cert.Norm2GradIdeal.main_arg1)
          ∧ r.2.mem ((c.tc : Thread Cert.Norm2GradIdeal.nD Cert.Norm2GradIdeal.τ).loc Cert.Norm2GradIdeal.main_arg2) = m' ((c.tc : Thread Cert.Norm2GradIdeal.nD Cert.Norm2GradIdeal.τ).loc Cert.Norm2GradIdeal.main_arg2)
          ∧ r.2.mem ((c.tc : Thread Cert.Norm2GradIdeal.nD Cert.Norm2GradIdeal.τ).loc Cert.Norm2GradIdeal.main_arg3) = m' ((c.tc : Thread Cert.Norm2GradIdeal.nD Cert.Norm2GradIdeal.τ).loc Cert.Norm2GradIdeal.main_arg3)
          ∧ r.2.mem ((c.tc : Thread Cert.Norm2GradIdeal.nD Cert.Norm2GradIdeal.τ).loc Cert.Norm2GradIdeal.main_arg4) = m' ((c.tc : Thread Cert.Norm2GradIdeal.nD Cert.Norm2GradIdeal.τ).loc Cert.Norm2GradIdeal.main_arg4)
          ∧ r.2.mem ((c.tc : Thread Cert.Norm2GradIdeal.nD Cert.Norm2GradIdeal.τ).loc Cert.Norm2GradIdeal.main_arg5) = m' ((c.tc : Thread Cert.Norm2GradIdeal.nD Cert.Norm2GradIdeal.τ).loc Cert.Norm2GradIdeal.main_arg5)
          ∧ r.2.mem ((c.tc : Thread Cert.Norm2GradIdeal.nD Cert.Norm2GradIdeal.τ).loc Cert.Norm2GradIdeal.main_arg6) = m' ((c.tc : Thread Cert.Norm2GradIdeal.nD Cert.Norm2GradIdeal.τ).loc Cert.Norm2GradIdeal.main_arg6)
          ∧ r.2.mem ((c.tc : Thread Cert.Norm2GradIdeal.nD Cert.Norm2GradIdeal.τ).loc Cert.Norm2GradIdeal.main_arg7) = m' ((c.tc : Thread Cert.Norm2GradIdeal.nD Cert.Norm2GradIdeal.τ).loc Cert.Norm2GradIdeal.main_arg7))

def preserves_Norm1Bwd_Norm1BwdIdeal : Prop :=
  True

def algebraic_Norm1BwdIdeal_Norm1GradIdeal [hNorm1BwdIdeal : Cert.Norm1BwdIdeal.Facts] [hNorm1GradIdeal : Cert.Norm1GradIdeal.Facts] : Prop :=
  ∀ (m : (ℓ : Loc Cert.Norm1BwdIdeal.nD Cert.Norm1BwdIdeal.τ Cert.Norm1BwdIdeal.sig) → Buf (Elt Ideal) ℓ) (g : Dev Cert.Norm1BwdIdeal.nD → PrngReg)
    (m' : (ℓ : Loc Cert.Norm1GradIdeal.nD Cert.Norm1GradIdeal.τ Cert.Norm1GradIdeal.sig) → Buf (Elt Ideal) ℓ) (g' : Dev Cert.Norm1GradIdeal.nD → PrngReg), Pre_Norm1BwdIdeal m →
    (∀ c : Dev Cert.Norm1BwdIdeal.nD,
      m' ((c.tc : Thread Cert.Norm1GradIdeal.nD Cert.Norm1GradIdeal.τ).loc Cert.Norm1GradIdeal.main_arg0) = m ((c.tc : Thread Cert.Norm1BwdIdeal.nD Cert.Norm1BwdIdeal.τ).loc Cert.Norm1BwdIdeal.main_arg0)
      ∧ m' ((c.tc : Thread Cert.Norm1GradIdeal.nD Cert.Norm1GradIdeal.τ).loc Cert.Norm1GradIdeal.main_arg1) = m ((c.tc : Thread Cert.Norm1BwdIdeal.nD Cert.Norm1BwdIdeal.τ).loc Cert.Norm1BwdIdeal.main_arg1)
      ∧ m' ((c.tc : Thread Cert.Norm1GradIdeal.nD Cert.Norm1GradIdeal.τ).loc Cert.Norm1GradIdeal.main_arg2) = m ((c.tc : Thread Cert.Norm1BwdIdeal.nD Cert.Norm1BwdIdeal.τ).loc Cert.Norm1BwdIdeal.main_arg2)
      ∧ m' ((c.tc : Thread Cert.Norm1GradIdeal.nD Cert.Norm1GradIdeal.τ).loc Cert.Norm1GradIdeal.main_arg3) = m ((c.tc : Thread Cert.Norm1BwdIdeal.nD Cert.Norm1BwdIdeal.τ).loc Cert.Norm1BwdIdeal.main_arg3)
      ∧ m' ((c.tc : Thread Cert.Norm1GradIdeal.nD Cert.Norm1GradIdeal.τ).loc Cert.Norm1GradIdeal.main_arg4) = m ((c.tc : Thread Cert.Norm1BwdIdeal.nD Cert.Norm1BwdIdeal.τ).loc Cert.Norm1BwdIdeal.main_arg4)
      ∧ m' ((c.tc : Thread Cert.Norm1GradIdeal.nD Cert.Norm1GradIdeal.τ).loc Cert.Norm1GradIdeal.main_arg5) = m ((c.tc : Thread Cert.Norm1BwdIdeal.nD Cert.Norm1BwdIdeal.τ).loc Cert.Norm1BwdIdeal.main_arg5)
      ∧ m' ((c.tc : Thread Cert.Norm1GradIdeal.nD Cert.Norm1GradIdeal.τ).loc Cert.Norm1GradIdeal.main_arg6) = m ((c.tc : Thread Cert.Norm1BwdIdeal.nD Cert.Norm1BwdIdeal.τ).loc Cert.Norm1BwdIdeal.main_arg6)
      ∧ m' ((c.tc : Thread Cert.Norm1GradIdeal.nD Cert.Norm1GradIdeal.τ).loc Cert.Norm1GradIdeal.main_arg7) = m ((c.tc : Thread Cert.Norm1BwdIdeal.nD Cert.Norm1BwdIdeal.τ).loc Cert.Norm1BwdIdeal.main_arg7)
      ∧ m' ((c.tc : Thread Cert.Norm1GradIdeal.nD Cert.Norm1GradIdeal.τ).loc Cert.Norm1GradIdeal.main_arg8) = m ((c.tc : Thread Cert.Norm1BwdIdeal.nD Cert.Norm1BwdIdeal.τ).loc Cert.Norm1BwdIdeal.main_arg8)
      ∧ m' ((c.tc : Thread Cert.Norm1GradIdeal.nD Cert.Norm1GradIdeal.τ).loc Cert.Norm1GradIdeal.main_arg9) = m ((c.tc : Thread Cert.Norm1BwdIdeal.nD Cert.Norm1BwdIdeal.τ).loc Cert.Norm1BwdIdeal.main_arg9)) →
    ∃ (v0 : (c : Dev Cert.Norm1BwdIdeal.nD) → Buf (Elt Ideal) ((c.tc : Thread Cert.Norm1BwdIdeal.nD Cert.Norm1BwdIdeal.τ).loc Cert.Norm1BwdIdeal.main_v4_0)) (v1 : (c : Dev Cert.Norm1BwdIdeal.nD) → Buf (Elt Ideal) ((c.tc : Thread Cert.Norm1BwdIdeal.nD Cert.Norm1BwdIdeal.τ).loc Cert.Norm1BwdIdeal.main_v4_1)),
      θ_run (Cert.Norm1BwdIdeal.defs (F := Ideal)) (onTc (τ := Cert.Norm1BwdIdeal.τ) (Cert.Norm1BwdIdeal.main (F := Ideal))) ⟨m, fun _ => 0, g⟩ (fun r => ∀ c : Dev Cert.Norm1BwdIdeal.nD,
          r.2.mem ((c.tc : Thread Cert.Norm1BwdIdeal.nD Cert.Norm1BwdIdeal.τ).loc Cert.Norm1BwdIdeal.main_v4_0) = v0 c
          ∧ r.2.mem ((c.tc : Thread Cert.Norm1BwdIdeal.nD Cert.Norm1BwdIdeal.τ).loc Cert.Norm1BwdIdeal.main_v4_1) = v1 c
          ∧ r.2.mem ((c.tc : Thread Cert.Norm1BwdIdeal.nD Cert.Norm1BwdIdeal.τ).loc Cert.Norm1BwdIdeal.main_arg0) = m ((c.tc : Thread Cert.Norm1BwdIdeal.nD Cert.Norm1BwdIdeal.τ).loc Cert.Norm1BwdIdeal.main_arg0)
          ∧ r.2.mem ((c.tc : Thread Cert.Norm1BwdIdeal.nD Cert.Norm1BwdIdeal.τ).loc Cert.Norm1BwdIdeal.main_arg1) = m ((c.tc : Thread Cert.Norm1BwdIdeal.nD Cert.Norm1BwdIdeal.τ).loc Cert.Norm1BwdIdeal.main_arg1)
          ∧ r.2.mem ((c.tc : Thread Cert.Norm1BwdIdeal.nD Cert.Norm1BwdIdeal.τ).loc Cert.Norm1BwdIdeal.main_arg2) = m ((c.tc : Thread Cert.Norm1BwdIdeal.nD Cert.Norm1BwdIdeal.τ).loc Cert.Norm1BwdIdeal.main_arg2)
          ∧ r.2.mem ((c.tc : Thread Cert.Norm1BwdIdeal.nD Cert.Norm1BwdIdeal.τ).loc Cert.Norm1BwdIdeal.main_arg3) = m ((c.tc : Thread Cert.Norm1BwdIdeal.nD Cert.Norm1BwdIdeal.τ).loc Cert.Norm1BwdIdeal.main_arg3)
          ∧ r.2.mem ((c.tc : Thread Cert.Norm1BwdIdeal.nD Cert.Norm1BwdIdeal.τ).loc Cert.Norm1BwdIdeal.main_arg4) = m ((c.tc : Thread Cert.Norm1BwdIdeal.nD Cert.Norm1BwdIdeal.τ).loc Cert.Norm1BwdIdeal.main_arg4)
          ∧ r.2.mem ((c.tc : Thread Cert.Norm1BwdIdeal.nD Cert.Norm1BwdIdeal.τ).loc Cert.Norm1BwdIdeal.main_arg5) = m ((c.tc : Thread Cert.Norm1BwdIdeal.nD Cert.Norm1BwdIdeal.τ).loc Cert.Norm1BwdIdeal.main_arg5)
          ∧ r.2.mem ((c.tc : Thread Cert.Norm1BwdIdeal.nD Cert.Norm1BwdIdeal.τ).loc Cert.Norm1BwdIdeal.main_arg6) = m ((c.tc : Thread Cert.Norm1BwdIdeal.nD Cert.Norm1BwdIdeal.τ).loc Cert.Norm1BwdIdeal.main_arg6)
          ∧ r.2.mem ((c.tc : Thread Cert.Norm1BwdIdeal.nD Cert.Norm1BwdIdeal.τ).loc Cert.Norm1BwdIdeal.main_arg7) = m ((c.tc : Thread Cert.Norm1BwdIdeal.nD Cert.Norm1BwdIdeal.τ).loc Cert.Norm1BwdIdeal.main_arg7)
          ∧ r.2.mem ((c.tc : Thread Cert.Norm1BwdIdeal.nD Cert.Norm1BwdIdeal.τ).loc Cert.Norm1BwdIdeal.main_arg8) = m ((c.tc : Thread Cert.Norm1BwdIdeal.nD Cert.Norm1BwdIdeal.τ).loc Cert.Norm1BwdIdeal.main_arg8)
          ∧ r.2.mem ((c.tc : Thread Cert.Norm1BwdIdeal.nD Cert.Norm1BwdIdeal.τ).loc Cert.Norm1BwdIdeal.main_arg9) = m ((c.tc : Thread Cert.Norm1BwdIdeal.nD Cert.Norm1BwdIdeal.τ).loc Cert.Norm1BwdIdeal.main_arg9))
      ∧ θ_run (Cert.Norm1GradIdeal.defs (F := Ideal)) (onTc (τ := Cert.Norm1GradIdeal.τ) (Cert.Norm1GradIdeal.main (F := Ideal))) ⟨m', fun _ => 0, g'⟩ (fun r => ∀ c : Dev Cert.Norm1GradIdeal.nD,
          r.2.mem ((c.tc : Thread Cert.Norm1GradIdeal.nD Cert.Norm1GradIdeal.τ).loc Cert.Norm1GradIdeal.main_v56) = v0 c
          ∧ r.2.mem ((c.tc : Thread Cert.Norm1GradIdeal.nD Cert.Norm1GradIdeal.τ).loc Cert.Norm1GradIdeal.main_v58) = v1 c
          ∧ r.2.mem ((c.tc : Thread Cert.Norm1GradIdeal.nD Cert.Norm1GradIdeal.τ).loc Cert.Norm1GradIdeal.main_arg0) = m' ((c.tc : Thread Cert.Norm1GradIdeal.nD Cert.Norm1GradIdeal.τ).loc Cert.Norm1GradIdeal.main_arg0)
          ∧ r.2.mem ((c.tc : Thread Cert.Norm1GradIdeal.nD Cert.Norm1GradIdeal.τ).loc Cert.Norm1GradIdeal.main_arg1) = m' ((c.tc : Thread Cert.Norm1GradIdeal.nD Cert.Norm1GradIdeal.τ).loc Cert.Norm1GradIdeal.main_arg1)
          ∧ r.2.mem ((c.tc : Thread Cert.Norm1GradIdeal.nD Cert.Norm1GradIdeal.τ).loc Cert.Norm1GradIdeal.main_arg2) = m' ((c.tc : Thread Cert.Norm1GradIdeal.nD Cert.Norm1GradIdeal.τ).loc Cert.Norm1GradIdeal.main_arg2)
          ∧ r.2.mem ((c.tc : Thread Cert.Norm1GradIdeal.nD Cert.Norm1GradIdeal.τ).loc Cert.Norm1GradIdeal.main_arg3) = m' ((c.tc : Thread Cert.Norm1GradIdeal.nD Cert.Norm1GradIdeal.τ).loc Cert.Norm1GradIdeal.main_arg3)
          ∧ r.2.mem ((c.tc : Thread Cert.Norm1GradIdeal.nD Cert.Norm1GradIdeal.τ).loc Cert.Norm1GradIdeal.main_arg4) = m' ((c.tc : Thread Cert.Norm1GradIdeal.nD Cert.Norm1GradIdeal.τ).loc Cert.Norm1GradIdeal.main_arg4)
          ∧ r.2.mem ((c.tc : Thread Cert.Norm1GradIdeal.nD Cert.Norm1GradIdeal.τ).loc Cert.Norm1GradIdeal.main_arg5) = m' ((c.tc : Thread Cert.Norm1GradIdeal.nD Cert.Norm1GradIdeal.τ).loc Cert.Norm1GradIdeal.main_arg5)
          ∧ r.2.mem ((c.tc : Thread Cert.Norm1GradIdeal.nD Cert.Norm1GradIdeal.τ).loc Cert.Norm1GradIdeal.main_arg6) = m' ((c.tc : Thread Cert.Norm1GradIdeal.nD Cert.Norm1GradIdeal.τ).loc Cert.Norm1GradIdeal.main_arg6)
          ∧ r.2.mem ((c.tc : Thread Cert.Norm1GradIdeal.nD Cert.Norm1GradIdeal.τ).loc Cert.Norm1GradIdeal.main_arg7) = m' ((c.tc : Thread Cert.Norm1GradIdeal.nD Cert.Norm1GradIdeal.τ).loc Cert.Norm1GradIdeal.main_arg7)
          ∧ r.2.mem ((c.tc : Thread Cert.Norm1GradIdeal.nD Cert.Norm1GradIdeal.τ).loc Cert.Norm1GradIdeal.main_arg8) = m' ((c.tc : Thread Cert.Norm1GradIdeal.nD Cert.Norm1GradIdeal.τ).loc Cert.Norm1GradIdeal.main_arg8)
          ∧ r.2.mem ((c.tc : Thread Cert.Norm1GradIdeal.nD Cert.Norm1GradIdeal.τ).loc Cert.Norm1GradIdeal.main_arg9) = m' ((c.tc : Thread Cert.Norm1GradIdeal.nD Cert.Norm1GradIdeal.τ).loc Cert.Norm1GradIdeal.main_arg9))

def preserves_AdamIn_AdamInIdeal : Prop :=
  True

def algebraic_AdamInIdeal_StepInIdeal [hAdamInIdeal : Cert.AdamInIdeal.Facts] [hStepInIdeal : Cert.StepInIdeal.Facts] : Prop :=
  ∀ (m : (ℓ : Loc Cert.AdamInIdeal.nD Cert.AdamInIdeal.τ Cert.AdamInIdeal.sig) → Buf (Elt Ideal) ℓ) (g : Dev Cert.AdamInIdeal.nD → PrngReg)
    (m' : (ℓ : Loc Cert.StepInIdeal.nD Cert.StepInIdeal.τ Cert.StepInIdeal.sig) → Buf (Elt Ideal) ℓ) (g' : Dev Cert.StepInIdeal.nD → PrngReg), Pre_AdamInIdeal m →
    (∀ c : Dev Cert.AdamInIdeal.nD,
      m' ((c.tc : Thread Cert.StepInIdeal.nD Cert.StepInIdeal.τ).loc Cert.StepInIdeal.main_arg0) = m ((c.tc : Thread Cert.AdamInIdeal.nD Cert.AdamInIdeal.τ).loc Cert.AdamInIdeal.main_arg0)
      ∧ m' ((c.tc : Thread Cert.StepInIdeal.nD Cert.StepInIdeal.τ).loc Cert.StepInIdeal.main_arg1) = m ((c.tc : Thread Cert.AdamInIdeal.nD Cert.AdamInIdeal.τ).loc Cert.AdamInIdeal.main_arg1)
      ∧ m' ((c.tc : Thread Cert.StepInIdeal.nD Cert.StepInIdeal.τ).loc Cert.StepInIdeal.main_arg2) = m ((c.tc : Thread Cert.AdamInIdeal.nD Cert.AdamInIdeal.τ).loc Cert.AdamInIdeal.main_arg2)
      ∧ m' ((c.tc : Thread Cert.StepInIdeal.nD Cert.StepInIdeal.τ).loc Cert.StepInIdeal.main_arg3) = m ((c.tc : Thread Cert.AdamInIdeal.nD Cert.AdamInIdeal.τ).loc Cert.AdamInIdeal.main_arg3)) →
    ∃ (v0 : (c : Dev Cert.AdamInIdeal.nD) → Buf (Elt Ideal) ((c.tc : Thread Cert.AdamInIdeal.nD Cert.AdamInIdeal.τ).loc Cert.AdamInIdeal.main_v6_0)) (v1 : (c : Dev Cert.AdamInIdeal.nD) → Buf (Elt Ideal) ((c.tc : Thread Cert.AdamInIdeal.nD Cert.AdamInIdeal.τ).loc Cert.AdamInIdeal.main_v6_1)) (v2 : (c : Dev Cert.AdamInIdeal.nD) → Buf (Elt Ideal) ((c.tc : Thread Cert.AdamInIdeal.nD Cert.AdamInIdeal.τ).loc Cert.AdamInIdeal.main_v6_2)) (v3 : (c : Dev Cert.AdamInIdeal.nD) → Buf (Elt Ideal) ((c.tc : Thread Cert.AdamInIdeal.nD Cert.AdamInIdeal.τ).loc Cert.AdamInIdeal.main_v6_3)),
      θ_run (Cert.AdamInIdeal.defs (F := Ideal)) (onTc (τ := Cert.AdamInIdeal.τ) (Cert.AdamInIdeal.main (F := Ideal))) ⟨m, fun _ => 0, g⟩ (fun r => ∀ c : Dev Cert.AdamInIdeal.nD,
          r.2.mem ((c.tc : Thread Cert.AdamInIdeal.nD Cert.AdamInIdeal.τ).loc Cert.AdamInIdeal.main_v6_0) = v0 c
          ∧ r.2.mem ((c.tc : Thread Cert.AdamInIdeal.nD Cert.AdamInIdeal.τ).loc Cert.AdamInIdeal.main_v6_1) = v1 c
          ∧ r.2.mem ((c.tc : Thread Cert.AdamInIdeal.nD Cert.AdamInIdeal.τ).loc Cert.AdamInIdeal.main_v6_2) = v2 c
          ∧ r.2.mem ((c.tc : Thread Cert.AdamInIdeal.nD Cert.AdamInIdeal.τ).loc Cert.AdamInIdeal.main_v6_3) = v3 c
          ∧ r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
          ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
          ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
          ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3))
      ∧ θ_run (Cert.StepInIdeal.defs (F := Ideal)) (onTc (τ := Cert.StepInIdeal.τ) (Cert.StepInIdeal.main (F := Ideal))) ⟨m', fun _ => 0, g'⟩ (fun r => ∀ c : Dev Cert.StepInIdeal.nD,
          r.2.mem ((c.tc : Thread Cert.StepInIdeal.nD Cert.StepInIdeal.τ).loc Cert.StepInIdeal.main_v1) = v0 c
          ∧ r.2.mem ((c.tc : Thread Cert.StepInIdeal.nD Cert.StepInIdeal.τ).loc Cert.StepInIdeal.main_v31) = v1 c
          ∧ r.2.mem ((c.tc : Thread Cert.StepInIdeal.nD Cert.StepInIdeal.τ).loc Cert.StepInIdeal.main_v12) = v2 c
          ∧ r.2.mem ((c.tc : Thread Cert.StepInIdeal.nD Cert.StepInIdeal.τ).loc Cert.StepInIdeal.main_v18) = v3 c
          ∧ r.2.mem ((c.tc : Thread Cert.StepInIdeal.nD Cert.StepInIdeal.τ).loc Cert.StepInIdeal.main_arg0) = m' ((c.tc : Thread Cert.StepInIdeal.nD Cert.StepInIdeal.τ).loc Cert.StepInIdeal.main_arg0)
          ∧ r.2.mem ((c.tc : Thread Cert.StepInIdeal.nD Cert.StepInIdeal.τ).loc Cert.StepInIdeal.main_arg1) = m' ((c.tc : Thread Cert.StepInIdeal.nD Cert.StepInIdeal.τ).loc Cert.StepInIdeal.main_arg1)
          ∧ r.2.mem ((c.tc : Thread Cert.StepInIdeal.nD Cert.StepInIdeal.τ).loc Cert.StepInIdeal.main_arg2) = m' ((c.tc : Thread Cert.StepInIdeal.nD Cert.StepInIdeal.τ).loc Cert.StepInIdeal.main_arg2)
          ∧ r.2.mem ((c.tc : Thread Cert.StepInIdeal.nD Cert.StepInIdeal.τ).loc Cert.StepInIdeal.main_arg3) = m' ((c.tc : Thread Cert.StepInIdeal.nD Cert.StepInIdeal.τ).loc Cert.StepInIdeal.main_arg3))

def preserves_AdamUp_AdamUpIdeal : Prop :=
  True

def algebraic_AdamUpIdeal_StepUpIdeal [hAdamUpIdeal : Cert.AdamUpIdeal.Facts] [hStepUpIdeal : Cert.StepUpIdeal.Facts] : Prop :=
  ∀ (m : (ℓ : Loc Cert.AdamUpIdeal.nD Cert.AdamUpIdeal.τ Cert.AdamUpIdeal.sig) → Buf (Elt Ideal) ℓ) (g : Dev Cert.AdamUpIdeal.nD → PrngReg)
    (m' : (ℓ : Loc Cert.StepUpIdeal.nD Cert.StepUpIdeal.τ Cert.StepUpIdeal.sig) → Buf (Elt Ideal) ℓ) (g' : Dev Cert.StepUpIdeal.nD → PrngReg), Pre_AdamUpIdeal m →
    (∀ c : Dev Cert.AdamUpIdeal.nD,
      m' ((c.tc : Thread Cert.StepUpIdeal.nD Cert.StepUpIdeal.τ).loc Cert.StepUpIdeal.main_arg0) = m ((c.tc : Thread Cert.AdamUpIdeal.nD Cert.AdamUpIdeal.τ).loc Cert.AdamUpIdeal.main_arg0)
      ∧ m' ((c.tc : Thread Cert.StepUpIdeal.nD Cert.StepUpIdeal.τ).loc Cert.StepUpIdeal.main_arg1) = m ((c.tc : Thread Cert.AdamUpIdeal.nD Cert.AdamUpIdeal.τ).loc Cert.AdamUpIdeal.main_arg1)
      ∧ m' ((c.tc : Thread Cert.StepUpIdeal.nD Cert.StepUpIdeal.τ).loc Cert.StepUpIdeal.main_arg2) = m ((c.tc : Thread Cert.AdamUpIdeal.nD Cert.AdamUpIdeal.τ).loc Cert.AdamUpIdeal.main_arg2)
      ∧ m' ((c.tc : Thread Cert.StepUpIdeal.nD Cert.StepUpIdeal.τ).loc Cert.StepUpIdeal.main_arg3) = m ((c.tc : Thread Cert.AdamUpIdeal.nD Cert.AdamUpIdeal.τ).loc Cert.AdamUpIdeal.main_arg3)) →
    ∃ (v0 : (c : Dev Cert.AdamUpIdeal.nD) → Buf (Elt Ideal) ((c.tc : Thread Cert.AdamUpIdeal.nD Cert.AdamUpIdeal.τ).loc Cert.AdamUpIdeal.main_v6_0)) (v1 : (c : Dev Cert.AdamUpIdeal.nD) → Buf (Elt Ideal) ((c.tc : Thread Cert.AdamUpIdeal.nD Cert.AdamUpIdeal.τ).loc Cert.AdamUpIdeal.main_v6_1)) (v2 : (c : Dev Cert.AdamUpIdeal.nD) → Buf (Elt Ideal) ((c.tc : Thread Cert.AdamUpIdeal.nD Cert.AdamUpIdeal.τ).loc Cert.AdamUpIdeal.main_v6_2)) (v3 : (c : Dev Cert.AdamUpIdeal.nD) → Buf (Elt Ideal) ((c.tc : Thread Cert.AdamUpIdeal.nD Cert.AdamUpIdeal.τ).loc Cert.AdamUpIdeal.main_v6_3)),
      θ_run (Cert.AdamUpIdeal.defs (F := Ideal)) (onTc (τ := Cert.AdamUpIdeal.τ) (Cert.AdamUpIdeal.main (F := Ideal))) ⟨m, fun _ => 0, g⟩ (fun r => ∀ c : Dev Cert.AdamUpIdeal.nD,
          r.2.mem ((c.tc : Thread Cert.AdamUpIdeal.nD Cert.AdamUpIdeal.τ).loc Cert.AdamUpIdeal.main_v6_0) = v0 c
          ∧ r.2.mem ((c.tc : Thread Cert.AdamUpIdeal.nD Cert.AdamUpIdeal.τ).loc Cert.AdamUpIdeal.main_v6_1) = v1 c
          ∧ r.2.mem ((c.tc : Thread Cert.AdamUpIdeal.nD Cert.AdamUpIdeal.τ).loc Cert.AdamUpIdeal.main_v6_2) = v2 c
          ∧ r.2.mem ((c.tc : Thread Cert.AdamUpIdeal.nD Cert.AdamUpIdeal.τ).loc Cert.AdamUpIdeal.main_v6_3) = v3 c
          ∧ r.2.mem ((c.tc : Thread Cert.AdamUpIdeal.nD Cert.AdamUpIdeal.τ).loc Cert.AdamUpIdeal.main_arg0) = m ((c.tc : Thread Cert.AdamUpIdeal.nD Cert.AdamUpIdeal.τ).loc Cert.AdamUpIdeal.main_arg0)
          ∧ r.2.mem ((c.tc : Thread Cert.AdamUpIdeal.nD Cert.AdamUpIdeal.τ).loc Cert.AdamUpIdeal.main_arg1) = m ((c.tc : Thread Cert.AdamUpIdeal.nD Cert.AdamUpIdeal.τ).loc Cert.AdamUpIdeal.main_arg1)
          ∧ r.2.mem ((c.tc : Thread Cert.AdamUpIdeal.nD Cert.AdamUpIdeal.τ).loc Cert.AdamUpIdeal.main_arg2) = m ((c.tc : Thread Cert.AdamUpIdeal.nD Cert.AdamUpIdeal.τ).loc Cert.AdamUpIdeal.main_arg2)
          ∧ r.2.mem ((c.tc : Thread Cert.AdamUpIdeal.nD Cert.AdamUpIdeal.τ).loc Cert.AdamUpIdeal.main_arg3) = m ((c.tc : Thread Cert.AdamUpIdeal.nD Cert.AdamUpIdeal.τ).loc Cert.AdamUpIdeal.main_arg3))
      ∧ θ_run (Cert.StepUpIdeal.defs (F := Ideal)) (onTc (τ := Cert.StepUpIdeal.τ) (Cert.StepUpIdeal.main (F := Ideal))) ⟨m', fun _ => 0, g'⟩ (fun r => ∀ c : Dev Cert.StepUpIdeal.nD,
          r.2.mem ((c.tc : Thread Cert.StepUpIdeal.nD Cert.StepUpIdeal.τ).loc Cert.StepUpIdeal.main_v1) = v0 c
          ∧ r.2.mem ((c.tc : Thread Cert.StepUpIdeal.nD Cert.StepUpIdeal.τ).loc Cert.StepUpIdeal.main_v31) = v1 c
          ∧ r.2.mem ((c.tc : Thread Cert.StepUpIdeal.nD Cert.StepUpIdeal.τ).loc Cert.StepUpIdeal.main_v12) = v2 c
          ∧ r.2.mem ((c.tc : Thread Cert.StepUpIdeal.nD Cert.StepUpIdeal.τ).loc Cert.StepUpIdeal.main_v18) = v3 c
          ∧ r.2.mem ((c.tc : Thread Cert.StepUpIdeal.nD Cert.StepUpIdeal.τ).loc Cert.StepUpIdeal.main_arg0) = m' ((c.tc : Thread Cert.StepUpIdeal.nD Cert.StepUpIdeal.τ).loc Cert.StepUpIdeal.main_arg0)
          ∧ r.2.mem ((c.tc : Thread Cert.StepUpIdeal.nD Cert.StepUpIdeal.τ).loc Cert.StepUpIdeal.main_arg1) = m' ((c.tc : Thread Cert.StepUpIdeal.nD Cert.StepUpIdeal.τ).loc Cert.StepUpIdeal.main_arg1)
          ∧ r.2.mem ((c.tc : Thread Cert.StepUpIdeal.nD Cert.StepUpIdeal.τ).loc Cert.StepUpIdeal.main_arg2) = m' ((c.tc : Thread Cert.StepUpIdeal.nD Cert.StepUpIdeal.τ).loc Cert.StepUpIdeal.main_arg2)
          ∧ r.2.mem ((c.tc : Thread Cert.StepUpIdeal.nD Cert.StepUpIdeal.τ).loc Cert.StepUpIdeal.main_arg3) = m' ((c.tc : Thread Cert.StepUpIdeal.nD Cert.StepUpIdeal.τ).loc Cert.StepUpIdeal.main_arg3))

def preserves_AdamOut_AdamOutIdeal : Prop :=
  True

def algebraic_AdamOutIdeal_StepOutIdeal [hAdamOutIdeal : Cert.AdamOutIdeal.Facts] [hStepOutIdeal : Cert.StepOutIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg)
    (m' : (ℓ : Loc Cert.StepOutIdeal.nD Cert.StepOutIdeal.τ Cert.StepOutIdeal.sig) → Buf (Elt Ideal) ℓ) (g' : Dev Cert.StepOutIdeal.nD → PrngReg), Pre_AdamOutIdeal m →
    (∀ c : Dev Cert.AdamOutIdeal.nD,
      m' ((c.tc : Thread Cert.StepOutIdeal.nD Cert.StepOutIdeal.τ).loc Cert.StepOutIdeal.main_arg0) = m ((c.tc : Thread Cert.AdamOutIdeal.nD Cert.AdamOutIdeal.τ).loc Cert.AdamOutIdeal.main_arg0)
      ∧ m' ((c.tc : Thread Cert.StepOutIdeal.nD Cert.StepOutIdeal.τ).loc Cert.StepOutIdeal.main_arg1) = m ((c.tc : Thread Cert.AdamOutIdeal.nD Cert.AdamOutIdeal.τ).loc Cert.AdamOutIdeal.main_arg1)
      ∧ m' ((c.tc : Thread Cert.StepOutIdeal.nD Cert.StepOutIdeal.τ).loc Cert.StepOutIdeal.main_arg2) = m ((c.tc : Thread Cert.AdamOutIdeal.nD Cert.AdamOutIdeal.τ).loc Cert.AdamOutIdeal.main_arg2)
      ∧ m' ((c.tc : Thread Cert.StepOutIdeal.nD Cert.StepOutIdeal.τ).loc Cert.StepOutIdeal.main_arg3) = m ((c.tc : Thread Cert.AdamOutIdeal.nD Cert.AdamOutIdeal.τ).loc Cert.AdamOutIdeal.main_arg3)) →
    ∃ (v0 : (c : Dev Cert.AdamOutIdeal.nD) → Buf (Elt Ideal) ((c.tc : Thread Cert.AdamOutIdeal.nD Cert.AdamOutIdeal.τ).loc Cert.AdamOutIdeal.main_v3_0)) (v1 : (c : Dev Cert.AdamOutIdeal.nD) → Buf (Elt Ideal) ((c.tc : Thread Cert.AdamOutIdeal.nD Cert.AdamOutIdeal.τ).loc Cert.AdamOutIdeal.main_v3_1)) (v2 : (c : Dev Cert.AdamOutIdeal.nD) → Buf (Elt Ideal) ((c.tc : Thread Cert.AdamOutIdeal.nD Cert.AdamOutIdeal.τ).loc Cert.AdamOutIdeal.main_v3_2)) (v3 : (c : Dev Cert.AdamOutIdeal.nD) → Buf (Elt Ideal) ((c.tc : Thread Cert.AdamOutIdeal.nD Cert.AdamOutIdeal.τ).loc Cert.AdamOutIdeal.main_v3_3)),
      θ_run (Cert.AdamOutIdeal.defs (F := Ideal)) (onTc (τ := Cert.AdamOutIdeal.τ) (Cert.AdamOutIdeal.main (F := Ideal))) ⟨m, fun _ => 0, g⟩ (fun r => ∀ c : Dev Cert.AdamOutIdeal.nD,
          r.2.mem ((c.tc : Thread Cert.AdamOutIdeal.nD Cert.AdamOutIdeal.τ).loc Cert.AdamOutIdeal.main_v3_0) = v0 c
          ∧ r.2.mem ((c.tc : Thread Cert.AdamOutIdeal.nD Cert.AdamOutIdeal.τ).loc Cert.AdamOutIdeal.main_v3_1) = v1 c
          ∧ r.2.mem ((c.tc : Thread Cert.AdamOutIdeal.nD Cert.AdamOutIdeal.τ).loc Cert.AdamOutIdeal.main_v3_2) = v2 c
          ∧ r.2.mem ((c.tc : Thread Cert.AdamOutIdeal.nD Cert.AdamOutIdeal.τ).loc Cert.AdamOutIdeal.main_v3_3) = v3 c
          ∧ r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
          ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
          ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
          ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3))
      ∧ θ_run (Cert.StepOutIdeal.defs (F := Ideal)) (onTc (τ := Cert.StepOutIdeal.τ) (Cert.StepOutIdeal.main (F := Ideal))) ⟨m', fun _ => 0, g'⟩ (fun r => ∀ c : Dev Cert.StepOutIdeal.nD,
          r.2.mem ((c.tc : Thread Cert.StepOutIdeal.nD Cert.StepOutIdeal.τ).loc Cert.StepOutIdeal.main_v1) = v0 c
          ∧ r.2.mem ((c.tc : Thread Cert.StepOutIdeal.nD Cert.StepOutIdeal.τ).loc Cert.StepOutIdeal.main_v28) = v1 c
          ∧ r.2.mem ((c.tc : Thread Cert.StepOutIdeal.nD Cert.StepOutIdeal.τ).loc Cert.StepOutIdeal.main_v9) = v2 c
          ∧ r.2.mem ((c.tc : Thread Cert.StepOutIdeal.nD Cert.StepOutIdeal.τ).loc Cert.StepOutIdeal.main_v15) = v3 c
          ∧ r.2.mem ((c.tc : Thread Cert.StepOutIdeal.nD Cert.StepOutIdeal.τ).loc Cert.StepOutIdeal.main_arg0) = m' ((c.tc : Thread Cert.StepOutIdeal.nD Cert.StepOutIdeal.τ).loc Cert.StepOutIdeal.main_arg0)
          ∧ r.2.mem ((c.tc : Thread Cert.StepOutIdeal.nD Cert.StepOutIdeal.τ).loc Cert.StepOutIdeal.main_arg1) = m' ((c.tc : Thread Cert.StepOutIdeal.nD Cert.StepOutIdeal.τ).loc Cert.StepOutIdeal.main_arg1)
          ∧ r.2.mem ((c.tc : Thread Cert.StepOutIdeal.nD Cert.StepOutIdeal.τ).loc Cert.StepOutIdeal.main_arg2) = m' ((c.tc : Thread Cert.StepOutIdeal.nD Cert.StepOutIdeal.τ).loc Cert.StepOutIdeal.main_arg2)
          ∧ r.2.mem ((c.tc : Thread Cert.StepOutIdeal.nD Cert.StepOutIdeal.τ).loc Cert.StepOutIdeal.main_arg3) = m' ((c.tc : Thread Cert.StepOutIdeal.nD Cert.StepOutIdeal.τ).loc Cert.StepOutIdeal.main_arg3))

def preserves_AdamDown_AdamDownIdeal : Prop :=
  True

def algebraic_AdamDownIdeal_StepDownIdeal [hAdamDownIdeal : Cert.AdamDownIdeal.Facts] [hStepDownIdeal : Cert.StepDownIdeal.Facts] : Prop :=
  ∀ (m : (ℓ : Loc Cert.AdamDownIdeal.nD Cert.AdamDownIdeal.τ Cert.AdamDownIdeal.sig) → Buf (Elt Ideal) ℓ) (g : Dev Cert.AdamDownIdeal.nD → PrngReg)
    (m' : (ℓ : Loc Cert.StepDownIdeal.nD Cert.StepDownIdeal.τ Cert.StepDownIdeal.sig) → Buf (Elt Ideal) ℓ) (g' : Dev Cert.StepDownIdeal.nD → PrngReg), Pre_AdamDownIdeal m →
    (∀ c : Dev Cert.AdamDownIdeal.nD,
      m' ((c.tc : Thread Cert.StepDownIdeal.nD Cert.StepDownIdeal.τ).loc Cert.StepDownIdeal.main_arg0) = m ((c.tc : Thread Cert.AdamDownIdeal.nD Cert.AdamDownIdeal.τ).loc Cert.AdamDownIdeal.main_arg0)
      ∧ m' ((c.tc : Thread Cert.StepDownIdeal.nD Cert.StepDownIdeal.τ).loc Cert.StepDownIdeal.main_arg1) = m ((c.tc : Thread Cert.AdamDownIdeal.nD Cert.AdamDownIdeal.τ).loc Cert.AdamDownIdeal.main_arg1)
      ∧ m' ((c.tc : Thread Cert.StepDownIdeal.nD Cert.StepDownIdeal.τ).loc Cert.StepDownIdeal.main_arg2) = m ((c.tc : Thread Cert.AdamDownIdeal.nD Cert.AdamDownIdeal.τ).loc Cert.AdamDownIdeal.main_arg2)
      ∧ m' ((c.tc : Thread Cert.StepDownIdeal.nD Cert.StepDownIdeal.τ).loc Cert.StepDownIdeal.main_arg3) = m ((c.tc : Thread Cert.AdamDownIdeal.nD Cert.AdamDownIdeal.τ).loc Cert.AdamDownIdeal.main_arg3)) →
    ∃ (v0 : (c : Dev Cert.AdamDownIdeal.nD) → Buf (Elt Ideal) ((c.tc : Thread Cert.AdamDownIdeal.nD Cert.AdamDownIdeal.τ).loc Cert.AdamDownIdeal.main_v3_0)) (v1 : (c : Dev Cert.AdamDownIdeal.nD) → Buf (Elt Ideal) ((c.tc : Thread Cert.AdamDownIdeal.nD Cert.AdamDownIdeal.τ).loc Cert.AdamDownIdeal.main_v3_1)) (v2 : (c : Dev Cert.AdamDownIdeal.nD) → Buf (Elt Ideal) ((c.tc : Thread Cert.AdamDownIdeal.nD Cert.AdamDownIdeal.τ).loc Cert.AdamDownIdeal.main_v3_2)) (v3 : (c : Dev Cert.AdamDownIdeal.nD) → Buf (Elt Ideal) ((c.tc : Thread Cert.AdamDownIdeal.nD Cert.AdamDownIdeal.τ).loc Cert.AdamDownIdeal.main_v3_3)),
      θ_run (Cert.AdamDownIdeal.defs (F := Ideal)) (onTc (τ := Cert.AdamDownIdeal.τ) (Cert.AdamDownIdeal.main (F := Ideal))) ⟨m, fun _ => 0, g⟩ (fun r => ∀ c : Dev Cert.AdamDownIdeal.nD,
          r.2.mem ((c.tc : Thread Cert.AdamDownIdeal.nD Cert.AdamDownIdeal.τ).loc Cert.AdamDownIdeal.main_v3_0) = v0 c
          ∧ r.2.mem ((c.tc : Thread Cert.AdamDownIdeal.nD Cert.AdamDownIdeal.τ).loc Cert.AdamDownIdeal.main_v3_1) = v1 c
          ∧ r.2.mem ((c.tc : Thread Cert.AdamDownIdeal.nD Cert.AdamDownIdeal.τ).loc Cert.AdamDownIdeal.main_v3_2) = v2 c
          ∧ r.2.mem ((c.tc : Thread Cert.AdamDownIdeal.nD Cert.AdamDownIdeal.τ).loc Cert.AdamDownIdeal.main_v3_3) = v3 c
          ∧ r.2.mem ((c.tc : Thread Cert.AdamDownIdeal.nD Cert.AdamDownIdeal.τ).loc Cert.AdamDownIdeal.main_arg0) = m ((c.tc : Thread Cert.AdamDownIdeal.nD Cert.AdamDownIdeal.τ).loc Cert.AdamDownIdeal.main_arg0)
          ∧ r.2.mem ((c.tc : Thread Cert.AdamDownIdeal.nD Cert.AdamDownIdeal.τ).loc Cert.AdamDownIdeal.main_arg1) = m ((c.tc : Thread Cert.AdamDownIdeal.nD Cert.AdamDownIdeal.τ).loc Cert.AdamDownIdeal.main_arg1)
          ∧ r.2.mem ((c.tc : Thread Cert.AdamDownIdeal.nD Cert.AdamDownIdeal.τ).loc Cert.AdamDownIdeal.main_arg2) = m ((c.tc : Thread Cert.AdamDownIdeal.nD Cert.AdamDownIdeal.τ).loc Cert.AdamDownIdeal.main_arg2)
          ∧ r.2.mem ((c.tc : Thread Cert.AdamDownIdeal.nD Cert.AdamDownIdeal.τ).loc Cert.AdamDownIdeal.main_arg3) = m ((c.tc : Thread Cert.AdamDownIdeal.nD Cert.AdamDownIdeal.τ).loc Cert.AdamDownIdeal.main_arg3))
      ∧ θ_run (Cert.StepDownIdeal.defs (F := Ideal)) (onTc (τ := Cert.StepDownIdeal.τ) (Cert.StepDownIdeal.main (F := Ideal))) ⟨m', fun _ => 0, g'⟩ (fun r => ∀ c : Dev Cert.StepDownIdeal.nD,
          r.2.mem ((c.tc : Thread Cert.StepDownIdeal.nD Cert.StepDownIdeal.τ).loc Cert.StepDownIdeal.main_v1) = v0 c
          ∧ r.2.mem ((c.tc : Thread Cert.StepDownIdeal.nD Cert.StepDownIdeal.τ).loc Cert.StepDownIdeal.main_v28) = v1 c
          ∧ r.2.mem ((c.tc : Thread Cert.StepDownIdeal.nD Cert.StepDownIdeal.τ).loc Cert.StepDownIdeal.main_v9) = v2 c
          ∧ r.2.mem ((c.tc : Thread Cert.StepDownIdeal.nD Cert.StepDownIdeal.τ).loc Cert.StepDownIdeal.main_v15) = v3 c
          ∧ r.2.mem ((c.tc : Thread Cert.StepDownIdeal.nD Cert.StepDownIdeal.τ).loc Cert.StepDownIdeal.main_arg0) = m' ((c.tc : Thread Cert.StepDownIdeal.nD Cert.StepDownIdeal.τ).loc Cert.StepDownIdeal.main_arg0)
          ∧ r.2.mem ((c.tc : Thread Cert.StepDownIdeal.nD Cert.StepDownIdeal.τ).loc Cert.StepDownIdeal.main_arg1) = m' ((c.tc : Thread Cert.StepDownIdeal.nD Cert.StepDownIdeal.τ).loc Cert.StepDownIdeal.main_arg1)
          ∧ r.2.mem ((c.tc : Thread Cert.StepDownIdeal.nD Cert.StepDownIdeal.τ).loc Cert.StepDownIdeal.main_arg2) = m' ((c.tc : Thread Cert.StepDownIdeal.nD Cert.StepDownIdeal.τ).loc Cert.StepDownIdeal.main_arg2)
          ∧ r.2.mem ((c.tc : Thread Cert.StepDownIdeal.nD Cert.StepDownIdeal.τ).loc Cert.StepDownIdeal.main_arg3) = m' ((c.tc : Thread Cert.StepDownIdeal.nD Cert.StepDownIdeal.τ).loc Cert.StepDownIdeal.main_arg3))

def preserves_AdaWgrad_AdaWgradIdeal : Prop :=
  True

def algebraic_AdaWgradIdeal_AdaGradIdeal [hAdaWgradIdeal : Cert.AdaWgradIdeal.Facts] [hAdaGradIdeal : Cert.AdaGradIdeal.Facts] : Prop :=
  ∀ (m : (ℓ : Loc Cert.AdaWgradIdeal.nD Cert.AdaWgradIdeal.τ Cert.AdaWgradIdeal.sig) → Buf (Elt Ideal) ℓ) (g : Dev Cert.AdaWgradIdeal.nD → PrngReg)
    (m' : (ℓ : Loc Cert.AdaGradIdeal.nD Cert.AdaGradIdeal.τ Cert.AdaGradIdeal.sig) → Buf (Elt Ideal) ℓ) (g' : Dev Cert.AdaGradIdeal.nD → PrngReg), Pre_AdaWgradIdeal m →
    (∀ c : Dev Cert.AdaWgradIdeal.nD,
      m' ((c.tc : Thread Cert.AdaGradIdeal.nD Cert.AdaGradIdeal.τ).loc Cert.AdaGradIdeal.main_arg0) = m ((c.tc : Thread Cert.AdaWgradIdeal.nD Cert.AdaWgradIdeal.τ).loc Cert.AdaWgradIdeal.main_arg0)
      ∧ m' ((c.tc : Thread Cert.AdaGradIdeal.nD Cert.AdaGradIdeal.τ).loc Cert.AdaGradIdeal.main_arg1) = m ((c.tc : Thread Cert.AdaWgradIdeal.nD Cert.AdaWgradIdeal.τ).loc Cert.AdaWgradIdeal.main_arg1)) →
    ∃ (v0 : (c : Dev Cert.AdaWgradIdeal.nD) → Buf (Elt Ideal) ((c.tc : Thread Cert.AdaWgradIdeal.nD Cert.AdaWgradIdeal.τ).loc Cert.AdaWgradIdeal.main_v0)),
      θ_run (Cert.AdaWgradIdeal.defs (F := Ideal)) (onTc (τ := Cert.AdaWgradIdeal.τ) (Cert.AdaWgradIdeal.main (F := Ideal))) ⟨m, fun _ => 0, g⟩ (fun r => ∀ c : Dev Cert.AdaWgradIdeal.nD,
          r.2.mem ((c.tc : Thread Cert.AdaWgradIdeal.nD Cert.AdaWgradIdeal.τ).loc Cert.AdaWgradIdeal.main_v0) = v0 c
          ∧ r.2.mem ((c.tc : Thread Cert.AdaWgradIdeal.nD Cert.AdaWgradIdeal.τ).loc Cert.AdaWgradIdeal.main_arg0) = m ((c.tc : Thread Cert.AdaWgradIdeal.nD Cert.AdaWgradIdeal.τ).loc Cert.AdaWgradIdeal.main_arg0)
          ∧ r.2.mem ((c.tc : Thread Cert.AdaWgradIdeal.nD Cert.AdaWgradIdeal.τ).loc Cert.AdaWgradIdeal.main_arg1) = m ((c.tc : Thread Cert.AdaWgradIdeal.nD Cert.AdaWgradIdeal.τ).loc Cert.AdaWgradIdeal.main_arg1))
      ∧ θ_run (Cert.AdaGradIdeal.defs (F := Ideal)) (onTc (τ := Cert.AdaGradIdeal.τ) (Cert.AdaGradIdeal.main (F := Ideal))) ⟨m', fun _ => 0, g'⟩ (fun r => ∀ c : Dev Cert.AdaGradIdeal.nD,
          r.2.mem ((c.tc : Thread Cert.AdaGradIdeal.nD Cert.AdaGradIdeal.τ).loc Cert.AdaGradIdeal.main_v3) = v0 c
          ∧ r.2.mem ((c.tc : Thread Cert.AdaGradIdeal.nD Cert.AdaGradIdeal.τ).loc Cert.AdaGradIdeal.main_arg0) = m' ((c.tc : Thread Cert.AdaGradIdeal.nD Cert.AdaGradIdeal.τ).loc Cert.AdaGradIdeal.main_arg0)
          ∧ r.2.mem ((c.tc : Thread Cert.AdaGradIdeal.nD Cert.AdaGradIdeal.τ).loc Cert.AdaGradIdeal.main_arg1) = m' ((c.tc : Thread Cert.AdaGradIdeal.nD Cert.AdaGradIdeal.τ).loc Cert.AdaGradIdeal.main_arg1))

def preserves_SmallSum_SmallSumIdeal : Prop :=
  True

def algebraic_SmallSumIdeal_SmallGradIdeal [hSmallSumIdeal : Cert.SmallSumIdeal.Facts] [hSmallGradIdeal : Cert.SmallGradIdeal.Facts] : Prop :=
  ∀ (m : (ℓ : Loc Cert.SmallSumIdeal.nD Cert.SmallSumIdeal.τ Cert.SmallSumIdeal.sig) → Buf (Elt Ideal) ℓ) (g : Dev Cert.SmallSumIdeal.nD → PrngReg)
    (m' : (ℓ : Loc Cert.SmallGradIdeal.nD Cert.SmallGradIdeal.τ Cert.SmallGradIdeal.sig) → Buf (Elt Ideal) ℓ) (g' : Dev Cert.SmallGradIdeal.nD → PrngReg), Pre_SmallSumIdeal m →
    (∀ c : Dev Cert.SmallSumIdeal.nD,
      m' ((c.tc : Thread Cert.SmallGradIdeal.nD Cert.SmallGradIdeal.τ).loc Cert.SmallGradIdeal.main_arg0) = m ((c.tc : Thread Cert.SmallSumIdeal.nD Cert.SmallSumIdeal.τ).loc Cert.SmallSumIdeal.main_arg0)
      ∧ m' ((c.tc : Thread Cert.SmallGradIdeal.nD Cert.SmallGradIdeal.τ).loc Cert.SmallGradIdeal.main_arg1) = m ((c.tc : Thread Cert.SmallSumIdeal.nD Cert.SmallSumIdeal.τ).loc Cert.SmallSumIdeal.main_arg1)
      ∧ m' ((c.tc : Thread Cert.SmallGradIdeal.nD Cert.SmallGradIdeal.τ).loc Cert.SmallGradIdeal.main_arg2) = m ((c.tc : Thread Cert.SmallSumIdeal.nD Cert.SmallSumIdeal.τ).loc Cert.SmallSumIdeal.main_arg2)
      ∧ m' ((c.tc : Thread Cert.SmallGradIdeal.nD Cert.SmallGradIdeal.τ).loc Cert.SmallGradIdeal.main_arg3) = m ((c.tc : Thread Cert.SmallSumIdeal.nD Cert.SmallSumIdeal.τ).loc Cert.SmallSumIdeal.main_arg3)) →
    ∃ (v0 : (c : Dev Cert.SmallSumIdeal.nD) → Buf (Elt Ideal) ((c.tc : Thread Cert.SmallSumIdeal.nD Cert.SmallSumIdeal.τ).loc Cert.SmallSumIdeal.main_v0_0)) (v1 : (c : Dev Cert.SmallSumIdeal.nD) → Buf (Elt Ideal) ((c.tc : Thread Cert.SmallSumIdeal.nD Cert.SmallSumIdeal.τ).loc Cert.SmallSumIdeal.main_v0_1)) (v2 : (c : Dev Cert.SmallSumIdeal.nD) → Buf (Elt Ideal) ((c.tc : Thread Cert.SmallSumIdeal.nD Cert.SmallSumIdeal.τ).loc Cert.SmallSumIdeal.main_v0_2)) (v3 : (c : Dev Cert.SmallSumIdeal.nD) → Buf (Elt Ideal) ((c.tc : Thread Cert.SmallSumIdeal.nD Cert.SmallSumIdeal.τ).loc Cert.SmallSumIdeal.main_v0_3)),
      θ_run (Cert.SmallSumIdeal.defs (F := Ideal)) (onTc (τ := Cert.SmallSumIdeal.τ) (Cert.SmallSumIdeal.main (F := Ideal))) ⟨m, fun _ => 0, g⟩ (fun r => ∀ c : Dev Cert.SmallSumIdeal.nD,
          r.2.mem ((c.tc : Thread Cert.SmallSumIdeal.nD Cert.SmallSumIdeal.τ).loc Cert.SmallSumIdeal.main_v0_0) = v0 c
          ∧ r.2.mem ((c.tc : Thread Cert.SmallSumIdeal.nD Cert.SmallSumIdeal.τ).loc Cert.SmallSumIdeal.main_v0_1) = v1 c
          ∧ r.2.mem ((c.tc : Thread Cert.SmallSumIdeal.nD Cert.SmallSumIdeal.τ).loc Cert.SmallSumIdeal.main_v0_2) = v2 c
          ∧ r.2.mem ((c.tc : Thread Cert.SmallSumIdeal.nD Cert.SmallSumIdeal.τ).loc Cert.SmallSumIdeal.main_v0_3) = v3 c
          ∧ r.2.mem ((c.tc : Thread Cert.SmallSumIdeal.nD Cert.SmallSumIdeal.τ).loc Cert.SmallSumIdeal.main_arg0) = m ((c.tc : Thread Cert.SmallSumIdeal.nD Cert.SmallSumIdeal.τ).loc Cert.SmallSumIdeal.main_arg0)
          ∧ r.2.mem ((c.tc : Thread Cert.SmallSumIdeal.nD Cert.SmallSumIdeal.τ).loc Cert.SmallSumIdeal.main_arg1) = m ((c.tc : Thread Cert.SmallSumIdeal.nD Cert.SmallSumIdeal.τ).loc Cert.SmallSumIdeal.main_arg1)
          ∧ r.2.mem ((c.tc : Thread Cert.SmallSumIdeal.nD Cert.SmallSumIdeal.τ).loc Cert.SmallSumIdeal.main_arg2) = m ((c.tc : Thread Cert.SmallSumIdeal.nD Cert.SmallSumIdeal.τ).loc Cert.SmallSumIdeal.main_arg2)
          ∧ r.2.mem ((c.tc : Thread Cert.SmallSumIdeal.nD Cert.SmallSumIdeal.τ).loc Cert.SmallSumIdeal.main_arg3) = m ((c.tc : Thread Cert.SmallSumIdeal.nD Cert.SmallSumIdeal.τ).loc Cert.SmallSumIdeal.main_arg3))
      ∧ θ_run (Cert.SmallGradIdeal.defs (F := Ideal)) (onTc (τ := Cert.SmallGradIdeal.τ) (Cert.SmallGradIdeal.main (F := Ideal))) ⟨m', fun _ => 0, g'⟩ (fun r => ∀ c : Dev Cert.SmallGradIdeal.nD,
          r.2.mem ((c.tc : Thread Cert.SmallGradIdeal.nD Cert.SmallGradIdeal.τ).loc Cert.SmallGradIdeal.main_v0) = v0 c
          ∧ r.2.mem ((c.tc : Thread Cert.SmallGradIdeal.nD Cert.SmallGradIdeal.τ).loc Cert.SmallGradIdeal.main_v1) = v1 c
          ∧ r.2.mem ((c.tc : Thread Cert.SmallGradIdeal.nD Cert.SmallGradIdeal.τ).loc Cert.SmallGradIdeal.main_v2) = v2 c
          ∧ r.2.mem ((c.tc : Thread Cert.SmallGradIdeal.nD Cert.SmallGradIdeal.τ).loc Cert.SmallGradIdeal.main_v3) = v3 c
          ∧ r.2.mem ((c.tc : Thread Cert.SmallGradIdeal.nD Cert.SmallGradIdeal.τ).loc Cert.SmallGradIdeal.main_arg0) = m' ((c.tc : Thread Cert.SmallGradIdeal.nD Cert.SmallGradIdeal.τ).loc Cert.SmallGradIdeal.main_arg0)
          ∧ r.2.mem ((c.tc : Thread Cert.SmallGradIdeal.nD Cert.SmallGradIdeal.τ).loc Cert.SmallGradIdeal.main_arg1) = m' ((c.tc : Thread Cert.SmallGradIdeal.nD Cert.SmallGradIdeal.τ).loc Cert.SmallGradIdeal.main_arg1)
          ∧ r.2.mem ((c.tc : Thread Cert.SmallGradIdeal.nD Cert.SmallGradIdeal.τ).loc Cert.SmallGradIdeal.main_arg2) = m' ((c.tc : Thread Cert.SmallGradIdeal.nD Cert.SmallGradIdeal.τ).loc Cert.SmallGradIdeal.main_arg2)
          ∧ r.2.mem ((c.tc : Thread Cert.SmallGradIdeal.nD Cert.SmallGradIdeal.τ).loc Cert.SmallGradIdeal.main_arg3) = m' ((c.tc : Thread Cert.SmallGradIdeal.nD Cert.SmallGradIdeal.τ).loc Cert.SmallGradIdeal.main_arg3))

def preserves_DownLoss_DownLossIdeal : Prop :=
  True

def algebraic_DownLossIdeal_LossGradIdeal [hDownLossIdeal : Cert.DownLossIdeal.Facts] [hLossGradIdeal : Cert.LossGradIdeal.Facts] : Prop :=
  ∀ (m : (ℓ : Loc Cert.DownLossIdeal.nD Cert.DownLossIdeal.τ Cert.DownLossIdeal.sig) → Buf (Elt Ideal) ℓ) (g : Dev Cert.DownLossIdeal.nD → PrngReg)
    (m' : (ℓ : Loc Cert.LossGradIdeal.nD Cert.LossGradIdeal.τ Cert.LossGradIdeal.sig) → Buf (Elt Ideal) ℓ) (g' : Dev Cert.LossGradIdeal.nD → PrngReg), Pre_DownLossIdeal m →
    (∀ c : Dev Cert.DownLossIdeal.nD,
      m' ((c.tc : Thread Cert.LossGradIdeal.nD Cert.LossGradIdeal.τ).loc Cert.LossGradIdeal.main_arg0) = m ((c.tc : Thread Cert.DownLossIdeal.nD Cert.DownLossIdeal.τ).loc Cert.DownLossIdeal.main_arg0)
      ∧ m' ((c.tc : Thread Cert.LossGradIdeal.nD Cert.LossGradIdeal.τ).loc Cert.LossGradIdeal.main_arg1) = m ((c.tc : Thread Cert.DownLossIdeal.nD Cert.DownLossIdeal.τ).loc Cert.DownLossIdeal.main_arg1)
      ∧ m' ((c.tc : Thread Cert.LossGradIdeal.nD Cert.LossGradIdeal.τ).loc Cert.LossGradIdeal.main_arg2) = m ((c.tc : Thread Cert.DownLossIdeal.nD Cert.DownLossIdeal.τ).loc Cert.DownLossIdeal.main_arg2)
      ∧ m' ((c.tc : Thread Cert.LossGradIdeal.nD Cert.LossGradIdeal.τ).loc Cert.LossGradIdeal.main_arg3) = m ((c.tc : Thread Cert.DownLossIdeal.nD Cert.DownLossIdeal.τ).loc Cert.DownLossIdeal.main_arg3)
      ∧ m' ((c.tc : Thread Cert.LossGradIdeal.nD Cert.LossGradIdeal.τ).loc Cert.LossGradIdeal.main_arg4) = m ((c.tc : Thread Cert.DownLossIdeal.nD Cert.DownLossIdeal.τ).loc Cert.DownLossIdeal.main_arg4)
      ∧ m' ((c.tc : Thread Cert.LossGradIdeal.nD Cert.LossGradIdeal.τ).loc Cert.LossGradIdeal.main_arg5) = m ((c.tc : Thread Cert.DownLossIdeal.nD Cert.DownLossIdeal.τ).loc Cert.DownLossIdeal.main_arg5)) →
    ∃ (v0 : (c : Dev Cert.DownLossIdeal.nD) → Buf (Elt Ideal) ((c.tc : Thread Cert.DownLossIdeal.nD Cert.DownLossIdeal.τ).loc Cert.DownLossIdeal.main_v0_0)) (v1 : (c : Dev Cert.DownLossIdeal.nD) → Buf (Elt Ideal) ((c.tc : Thread Cert.DownLossIdeal.nD Cert.DownLossIdeal.τ).loc Cert.DownLossIdeal.main_v0_1)) (v2 : (c : Dev Cert.DownLossIdeal.nD) → Buf (Elt Ideal) ((c.tc : Thread Cert.DownLossIdeal.nD Cert.DownLossIdeal.τ).loc Cert.DownLossIdeal.main_v0_2)) (v3 : (c : Dev Cert.DownLossIdeal.nD) → Buf (Elt Ideal) ((c.tc : Thread Cert.DownLossIdeal.nD Cert.DownLossIdeal.τ).loc Cert.DownLossIdeal.main_v0_3)),
      θ_run (Cert.DownLossIdeal.defs (F := Ideal)) (onTc (τ := Cert.DownLossIdeal.τ) (Cert.DownLossIdeal.main (F := Ideal))) ⟨m, fun _ => 0, g⟩ (fun r => ∀ c : Dev Cert.DownLossIdeal.nD,
          r.2.mem ((c.tc : Thread Cert.DownLossIdeal.nD Cert.DownLossIdeal.τ).loc Cert.DownLossIdeal.main_v0_0) = v0 c
          ∧ r.2.mem ((c.tc : Thread Cert.DownLossIdeal.nD Cert.DownLossIdeal.τ).loc Cert.DownLossIdeal.main_v0_1) = v1 c
          ∧ r.2.mem ((c.tc : Thread Cert.DownLossIdeal.nD Cert.DownLossIdeal.τ).loc Cert.DownLossIdeal.main_v0_2) = v2 c
          ∧ r.2.mem ((c.tc : Thread Cert.DownLossIdeal.nD Cert.DownLossIdeal.τ).loc Cert.DownLossIdeal.main_v0_3) = v3 c
          ∧ r.2.mem ((c.tc : Thread Cert.DownLossIdeal.nD Cert.DownLossIdeal.τ).loc Cert.DownLossIdeal.main_arg0) = m ((c.tc : Thread Cert.DownLossIdeal.nD Cert.DownLossIdeal.τ).loc Cert.DownLossIdeal.main_arg0)
          ∧ r.2.mem ((c.tc : Thread Cert.DownLossIdeal.nD Cert.DownLossIdeal.τ).loc Cert.DownLossIdeal.main_arg1) = m ((c.tc : Thread Cert.DownLossIdeal.nD Cert.DownLossIdeal.τ).loc Cert.DownLossIdeal.main_arg1)
          ∧ r.2.mem ((c.tc : Thread Cert.DownLossIdeal.nD Cert.DownLossIdeal.τ).loc Cert.DownLossIdeal.main_arg2) = m ((c.tc : Thread Cert.DownLossIdeal.nD Cert.DownLossIdeal.τ).loc Cert.DownLossIdeal.main_arg2)
          ∧ r.2.mem ((c.tc : Thread Cert.DownLossIdeal.nD Cert.DownLossIdeal.τ).loc Cert.DownLossIdeal.main_arg3) = m ((c.tc : Thread Cert.DownLossIdeal.nD Cert.DownLossIdeal.τ).loc Cert.DownLossIdeal.main_arg3)
          ∧ r.2.mem ((c.tc : Thread Cert.DownLossIdeal.nD Cert.DownLossIdeal.τ).loc Cert.DownLossIdeal.main_arg4) = m ((c.tc : Thread Cert.DownLossIdeal.nD Cert.DownLossIdeal.τ).loc Cert.DownLossIdeal.main_arg4)
          ∧ r.2.mem ((c.tc : Thread Cert.DownLossIdeal.nD Cert.DownLossIdeal.τ).loc Cert.DownLossIdeal.main_arg5) = m ((c.tc : Thread Cert.DownLossIdeal.nD Cert.DownLossIdeal.τ).loc Cert.DownLossIdeal.main_arg5))
      ∧ θ_run (Cert.LossGradIdeal.defs (F := Ideal)) (onTc (τ := Cert.LossGradIdeal.τ) (Cert.LossGradIdeal.main (F := Ideal))) ⟨m', fun _ => 0, g'⟩ (fun r => ∀ c : Dev Cert.LossGradIdeal.nD,
          r.2.mem ((c.tc : Thread Cert.LossGradIdeal.nD Cert.LossGradIdeal.τ).loc Cert.LossGradIdeal.main_v55) = v0 c
          ∧ r.2.mem ((c.tc : Thread Cert.LossGradIdeal.nD Cert.LossGradIdeal.τ).loc Cert.LossGradIdeal.main_v65) = v1 c
          ∧ r.2.mem ((c.tc : Thread Cert.LossGradIdeal.nD Cert.LossGradIdeal.τ).loc Cert.LossGradIdeal.main_v61) = v2 c
          ∧ r.2.mem ((c.tc : Thread Cert.LossGradIdeal.nD Cert.LossGradIdeal.τ).loc Cert.LossGradIdeal.main_v67) = v3 c
          ∧ r.2.mem ((c.tc : Thread Cert.LossGradIdeal.nD Cert.LossGradIdeal.τ).loc Cert.LossGradIdeal.main_arg0) = m' ((c.tc : Thread Cert.LossGradIdeal.nD Cert.LossGradIdeal.τ).loc Cert.LossGradIdeal.main_arg0)
          ∧ r.2.mem ((c.tc : Thread Cert.LossGradIdeal.nD Cert.LossGradIdeal.τ).loc Cert.LossGradIdeal.main_arg1) = m' ((c.tc : Thread Cert.LossGradIdeal.nD Cert.LossGradIdeal.τ).loc Cert.LossGradIdeal.main_arg1)
          ∧ r.2.mem ((c.tc : Thread Cert.LossGradIdeal.nD Cert.LossGradIdeal.τ).loc Cert.LossGradIdeal.main_arg2) = m' ((c.tc : Thread Cert.LossGradIdeal.nD Cert.LossGradIdeal.τ).loc Cert.LossGradIdeal.main_arg2)
          ∧ r.2.mem ((c.tc : Thread Cert.LossGradIdeal.nD Cert.LossGradIdeal.τ).loc Cert.LossGradIdeal.main_arg3) = m' ((c.tc : Thread Cert.LossGradIdeal.nD Cert.LossGradIdeal.τ).loc Cert.LossGradIdeal.main_arg3)
          ∧ r.2.mem ((c.tc : Thread Cert.LossGradIdeal.nD Cert.LossGradIdeal.τ).loc Cert.LossGradIdeal.main_arg4) = m' ((c.tc : Thread Cert.LossGradIdeal.nD Cert.LossGradIdeal.τ).loc Cert.LossGradIdeal.main_arg4)
          ∧ r.2.mem ((c.tc : Thread Cert.LossGradIdeal.nD Cert.LossGradIdeal.τ).loc Cert.LossGradIdeal.main_arg5) = m' ((c.tc : Thread Cert.LossGradIdeal.nD Cert.LossGradIdeal.τ).loc Cert.LossGradIdeal.main_arg5))

def preserves_MixOut_MixOutIdeal : Prop :=
  True

def algebraic_MixOutIdeal_MixIdeal [hMixOutIdeal : Cert.MixOutIdeal.Facts] [hMixIdeal : Cert.MixIdeal.Facts] : Prop :=
  ∀ (m : (ℓ : Loc Cert.MixOutIdeal.nD Cert.MixOutIdeal.τ Cert.MixOutIdeal.sig) → Buf (Elt Ideal) ℓ) (g : Dev Cert.MixOutIdeal.nD → PrngReg)
    (m' : (ℓ : Loc Cert.MixIdeal.nD Cert.MixIdeal.τ Cert.MixIdeal.sig) → Buf (Elt Ideal) ℓ) (g' : Dev Cert.MixIdeal.nD → PrngReg), Pre_MixOutIdeal m →
    (∀ c : Dev Cert.MixOutIdeal.nD,
      m' ((c.tc : Thread Cert.MixIdeal.nD Cert.MixIdeal.τ).loc Cert.MixIdeal.main_arg0) = m ((c.tc : Thread Cert.MixOutIdeal.nD Cert.MixOutIdeal.τ).loc Cert.MixOutIdeal.main_arg0)
      ∧ m' ((c.tc : Thread Cert.MixIdeal.nD Cert.MixIdeal.τ).loc Cert.MixIdeal.main_arg1) = m ((c.tc : Thread Cert.MixOutIdeal.nD Cert.MixOutIdeal.τ).loc Cert.MixOutIdeal.main_arg1)
      ∧ m' ((c.tc : Thread Cert.MixIdeal.nD Cert.MixIdeal.τ).loc Cert.MixIdeal.main_arg2) = m ((c.tc : Thread Cert.MixOutIdeal.nD Cert.MixOutIdeal.τ).loc Cert.MixOutIdeal.main_arg2)
      ∧ m' ((c.tc : Thread Cert.MixIdeal.nD Cert.MixIdeal.τ).loc Cert.MixIdeal.main_arg3) = m ((c.tc : Thread Cert.MixOutIdeal.nD Cert.MixOutIdeal.τ).loc Cert.MixOutIdeal.main_arg3)
      ∧ m' ((c.tc : Thread Cert.MixIdeal.nD Cert.MixIdeal.τ).loc Cert.MixIdeal.main_arg4) = m ((c.tc : Thread Cert.MixOutIdeal.nD Cert.MixOutIdeal.τ).loc Cert.MixOutIdeal.main_arg4)
      ∧ m' ((c.tc : Thread Cert.MixIdeal.nD Cert.MixIdeal.τ).loc Cert.MixIdeal.main_arg5) = m ((c.tc : Thread Cert.MixOutIdeal.nD Cert.MixOutIdeal.τ).loc Cert.MixOutIdeal.main_arg5)
      ∧ m' ((c.tc : Thread Cert.MixIdeal.nD Cert.MixIdeal.τ).loc Cert.MixIdeal.main_arg6) = m ((c.tc : Thread Cert.MixOutIdeal.nD Cert.MixOutIdeal.τ).loc Cert.MixOutIdeal.main_arg6)
      ∧ m' ((c.tc : Thread Cert.MixIdeal.nD Cert.MixIdeal.τ).loc Cert.MixIdeal.main_arg7) = m ((c.tc : Thread Cert.MixOutIdeal.nD Cert.MixOutIdeal.τ).loc Cert.MixOutIdeal.main_arg7)) →
    ∃ (v0 : (c : Dev Cert.MixOutIdeal.nD) → Buf (Elt Ideal) ((c.tc : Thread Cert.MixOutIdeal.nD Cert.MixOutIdeal.τ).loc Cert.MixOutIdeal.main_v0_0)) (v1 : (c : Dev Cert.MixOutIdeal.nD) → Buf (Elt Ideal) ((c.tc : Thread Cert.MixOutIdeal.nD Cert.MixOutIdeal.τ).loc Cert.MixOutIdeal.main_v0_1)) (v2 : (c : Dev Cert.MixOutIdeal.nD) → Buf (Elt Ideal) ((c.tc : Thread Cert.MixOutIdeal.nD Cert.MixOutIdeal.τ).loc Cert.MixOutIdeal.main_v0_2)) (v3 : (c : Dev Cert.MixOutIdeal.nD) → Buf (Elt Ideal) ((c.tc : Thread Cert.MixOutIdeal.nD Cert.MixOutIdeal.τ).loc Cert.MixOutIdeal.main_v0_3)),
      θ_run (Cert.MixOutIdeal.defs (F := Ideal)) (onTc (τ := Cert.MixOutIdeal.τ) (Cert.MixOutIdeal.main (F := Ideal))) ⟨m, fun _ => 0, g⟩ (fun r => ∀ c : Dev Cert.MixOutIdeal.nD,
          r.2.mem ((c.tc : Thread Cert.MixOutIdeal.nD Cert.MixOutIdeal.τ).loc Cert.MixOutIdeal.main_v0_0) = v0 c
          ∧ r.2.mem ((c.tc : Thread Cert.MixOutIdeal.nD Cert.MixOutIdeal.τ).loc Cert.MixOutIdeal.main_v0_1) = v1 c
          ∧ r.2.mem ((c.tc : Thread Cert.MixOutIdeal.nD Cert.MixOutIdeal.τ).loc Cert.MixOutIdeal.main_v0_2) = v2 c
          ∧ r.2.mem ((c.tc : Thread Cert.MixOutIdeal.nD Cert.MixOutIdeal.τ).loc Cert.MixOutIdeal.main_v0_3) = v3 c
          ∧ r.2.mem ((c.tc : Thread Cert.MixOutIdeal.nD Cert.MixOutIdeal.τ).loc Cert.MixOutIdeal.main_arg0) = m ((c.tc : Thread Cert.MixOutIdeal.nD Cert.MixOutIdeal.τ).loc Cert.MixOutIdeal.main_arg0)
          ∧ r.2.mem ((c.tc : Thread Cert.MixOutIdeal.nD Cert.MixOutIdeal.τ).loc Cert.MixOutIdeal.main_arg1) = m ((c.tc : Thread Cert.MixOutIdeal.nD Cert.MixOutIdeal.τ).loc Cert.MixOutIdeal.main_arg1)
          ∧ r.2.mem ((c.tc : Thread Cert.MixOutIdeal.nD Cert.MixOutIdeal.τ).loc Cert.MixOutIdeal.main_arg2) = m ((c.tc : Thread Cert.MixOutIdeal.nD Cert.MixOutIdeal.τ).loc Cert.MixOutIdeal.main_arg2)
          ∧ r.2.mem ((c.tc : Thread Cert.MixOutIdeal.nD Cert.MixOutIdeal.τ).loc Cert.MixOutIdeal.main_arg3) = m ((c.tc : Thread Cert.MixOutIdeal.nD Cert.MixOutIdeal.τ).loc Cert.MixOutIdeal.main_arg3)
          ∧ r.2.mem ((c.tc : Thread Cert.MixOutIdeal.nD Cert.MixOutIdeal.τ).loc Cert.MixOutIdeal.main_arg4) = m ((c.tc : Thread Cert.MixOutIdeal.nD Cert.MixOutIdeal.τ).loc Cert.MixOutIdeal.main_arg4)
          ∧ r.2.mem ((c.tc : Thread Cert.MixOutIdeal.nD Cert.MixOutIdeal.τ).loc Cert.MixOutIdeal.main_arg5) = m ((c.tc : Thread Cert.MixOutIdeal.nD Cert.MixOutIdeal.τ).loc Cert.MixOutIdeal.main_arg5)
          ∧ r.2.mem ((c.tc : Thread Cert.MixOutIdeal.nD Cert.MixOutIdeal.τ).loc Cert.MixOutIdeal.main_arg6) = m ((c.tc : Thread Cert.MixOutIdeal.nD Cert.MixOutIdeal.τ).loc Cert.MixOutIdeal.main_arg6)
          ∧ r.2.mem ((c.tc : Thread Cert.MixOutIdeal.nD Cert.MixOutIdeal.τ).loc Cert.MixOutIdeal.main_arg7) = m ((c.tc : Thread Cert.MixOutIdeal.nD Cert.MixOutIdeal.τ).loc Cert.MixOutIdeal.main_arg7))
      ∧ θ_run (Cert.MixIdeal.defs (F := Ideal)) (onTc (τ := Cert.MixIdeal.τ) (Cert.MixIdeal.main (F := Ideal))) ⟨m', fun _ => 0, g'⟩ (fun r => ∀ c : Dev Cert.MixIdeal.nD,
          r.2.mem ((c.tc : Thread Cert.MixIdeal.nD Cert.MixIdeal.τ).loc Cert.MixIdeal.main_v26) = v0 c
          ∧ r.2.mem ((c.tc : Thread Cert.MixIdeal.nD Cert.MixIdeal.τ).loc Cert.MixIdeal.main_v51) = v1 c
          ∧ r.2.mem ((c.tc : Thread Cert.MixIdeal.nD Cert.MixIdeal.τ).loc Cert.MixIdeal.main_v30) = v2 c
          ∧ r.2.mem ((c.tc : Thread Cert.MixIdeal.nD Cert.MixIdeal.τ).loc Cert.MixIdeal.main_v52) = v3 c
          ∧ r.2.mem ((c.tc : Thread Cert.MixIdeal.nD Cert.MixIdeal.τ).loc Cert.MixIdeal.main_arg0) = m' ((c.tc : Thread Cert.MixIdeal.nD Cert.MixIdeal.τ).loc Cert.MixIdeal.main_arg0)
          ∧ r.2.mem ((c.tc : Thread Cert.MixIdeal.nD Cert.MixIdeal.τ).loc Cert.MixIdeal.main_arg1) = m' ((c.tc : Thread Cert.MixIdeal.nD Cert.MixIdeal.τ).loc Cert.MixIdeal.main_arg1)
          ∧ r.2.mem ((c.tc : Thread Cert.MixIdeal.nD Cert.MixIdeal.τ).loc Cert.MixIdeal.main_arg2) = m' ((c.tc : Thread Cert.MixIdeal.nD Cert.MixIdeal.τ).loc Cert.MixIdeal.main_arg2)
          ∧ r.2.mem ((c.tc : Thread Cert.MixIdeal.nD Cert.MixIdeal.τ).loc Cert.MixIdeal.main_arg3) = m' ((c.tc : Thread Cert.MixIdeal.nD Cert.MixIdeal.τ).loc Cert.MixIdeal.main_arg3)
          ∧ r.2.mem ((c.tc : Thread Cert.MixIdeal.nD Cert.MixIdeal.τ).loc Cert.MixIdeal.main_arg4) = m' ((c.tc : Thread Cert.MixIdeal.nD Cert.MixIdeal.τ).loc Cert.MixIdeal.main_arg4)
          ∧ r.2.mem ((c.tc : Thread Cert.MixIdeal.nD Cert.MixIdeal.τ).loc Cert.MixIdeal.main_arg5) = m' ((c.tc : Thread Cert.MixIdeal.nD Cert.MixIdeal.τ).loc Cert.MixIdeal.main_arg5)
          ∧ r.2.mem ((c.tc : Thread Cert.MixIdeal.nD Cert.MixIdeal.τ).loc Cert.MixIdeal.main_arg6) = m' ((c.tc : Thread Cert.MixIdeal.nD Cert.MixIdeal.τ).loc Cert.MixIdeal.main_arg6)
          ∧ r.2.mem ((c.tc : Thread Cert.MixIdeal.nD Cert.MixIdeal.τ).loc Cert.MixIdeal.main_arg7) = m' ((c.tc : Thread Cert.MixIdeal.nD Cert.MixIdeal.τ).loc Cert.MixIdeal.main_arg7))

def preserves_FfnConv_FfnConvIdeal : Prop :=
  True

def algebraic_FfnConvIdeal_FfnIdeal [hFfnConvIdeal : Cert.FfnConvIdeal.Facts] [hFfnIdeal : Cert.FfnIdeal.Facts] : Prop :=
  ∀ (m : (ℓ : Loc Cert.FfnConvIdeal.nD Cert.FfnConvIdeal.τ Cert.FfnConvIdeal.sig) → Buf (Elt Ideal) ℓ) (g : Dev Cert.FfnConvIdeal.nD → PrngReg)
    (m' : (ℓ : Loc Cert.FfnIdeal.nD Cert.FfnIdeal.τ Cert.FfnIdeal.sig) → Buf (Elt Ideal) ℓ) (g' : Dev Cert.FfnIdeal.nD → PrngReg), Pre_FfnConvIdeal m →
    (∀ c : Dev Cert.FfnConvIdeal.nD,
      m' ((c.tc : Thread Cert.FfnIdeal.nD Cert.FfnIdeal.τ).loc Cert.FfnIdeal.main_arg0) = m ((c.tc : Thread Cert.FfnConvIdeal.nD Cert.FfnConvIdeal.τ).loc Cert.FfnConvIdeal.main_arg0)
      ∧ m' ((c.tc : Thread Cert.FfnIdeal.nD Cert.FfnIdeal.τ).loc Cert.FfnIdeal.main_arg1) = m ((c.tc : Thread Cert.FfnConvIdeal.nD Cert.FfnConvIdeal.τ).loc Cert.FfnConvIdeal.main_arg1)
      ∧ m' ((c.tc : Thread Cert.FfnIdeal.nD Cert.FfnIdeal.τ).loc Cert.FfnIdeal.main_arg2) = m ((c.tc : Thread Cert.FfnConvIdeal.nD Cert.FfnConvIdeal.τ).loc Cert.FfnConvIdeal.main_arg2)) →
    ∃ (v0 : (c : Dev Cert.FfnConvIdeal.nD) → Buf (Elt Ideal) ((c.tc : Thread Cert.FfnConvIdeal.nD Cert.FfnConvIdeal.τ).loc Cert.FfnConvIdeal.main_v0)),
      θ_run (Cert.FfnConvIdeal.defs (F := Ideal)) (onTc (τ := Cert.FfnConvIdeal.τ) (Cert.FfnConvIdeal.main (F := Ideal))) ⟨m, fun _ => 0, g⟩ (fun r => ∀ c : Dev Cert.FfnConvIdeal.nD,
          r.2.mem ((c.tc : Thread Cert.FfnConvIdeal.nD Cert.FfnConvIdeal.τ).loc Cert.FfnConvIdeal.main_v0) = v0 c
          ∧ r.2.mem ((c.tc : Thread Cert.FfnConvIdeal.nD Cert.FfnConvIdeal.τ).loc Cert.FfnConvIdeal.main_arg0) = m ((c.tc : Thread Cert.FfnConvIdeal.nD Cert.FfnConvIdeal.τ).loc Cert.FfnConvIdeal.main_arg0)
          ∧ r.2.mem ((c.tc : Thread Cert.FfnConvIdeal.nD Cert.FfnConvIdeal.τ).loc Cert.FfnConvIdeal.main_arg1) = m ((c.tc : Thread Cert.FfnConvIdeal.nD Cert.FfnConvIdeal.τ).loc Cert.FfnConvIdeal.main_arg1)
          ∧ r.2.mem ((c.tc : Thread Cert.FfnConvIdeal.nD Cert.FfnConvIdeal.τ).loc Cert.FfnConvIdeal.main_arg2) = m ((c.tc : Thread Cert.FfnConvIdeal.nD Cert.FfnConvIdeal.τ).loc Cert.FfnConvIdeal.main_arg2))
      ∧ θ_run (Cert.FfnIdeal.defs (F := Ideal)) (onTc (τ := Cert.FfnIdeal.τ) (Cert.FfnIdeal.main (F := Ideal))) ⟨m', fun _ => 0, g'⟩ (fun r => ∀ c : Dev Cert.FfnIdeal.nD,
          r.2.mem ((c.tc : Thread Cert.FfnIdeal.nD Cert.FfnIdeal.τ).loc Cert.FfnIdeal.main_v19) = v0 c
          ∧ r.2.mem ((c.tc : Thread Cert.FfnIdeal.nD Cert.FfnIdeal.τ).loc Cert.FfnIdeal.main_arg0) = m' ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m' ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m' ((c.tc : Thread Cert.FfnIdeal.nD Cert.FfnIdeal.τ).loc Cert.FfnIdeal.main_arg2))

def preserves_SsdConv_SsdConvIdeal : Prop :=
  True

def algebraic_SsdConvIdeal_XbcIdeal [hSsdConvIdeal : Cert.SsdConvIdeal.Facts] [hXbcIdeal : Cert.XbcIdeal.Facts] : Prop :=
  ∀ (m : (ℓ : Loc Cert.SsdConvIdeal.nD Cert.SsdConvIdeal.τ Cert.SsdConvIdeal.sig) → Buf (Elt Ideal) ℓ) (g : Dev Cert.SsdConvIdeal.nD → PrngReg)
    (m' : (ℓ : Loc Cert.XbcIdeal.nD Cert.XbcIdeal.τ Cert.XbcIdeal.sig) → Buf (Elt Ideal) ℓ) (g' : Dev Cert.XbcIdeal.nD → PrngReg), Pre_SsdConvIdeal m →
    (∀ c : Dev Cert.SsdConvIdeal.nD,
      m' ((c.tc : Thread Cert.XbcIdeal.nD Cert.XbcIdeal.τ).loc Cert.XbcIdeal.main_arg0) = m ((c.tc : Thread Cert.SsdConvIdeal.nD Cert.SsdConvIdeal.τ).loc Cert.SsdConvIdeal.main_arg0)
      ∧ m' ((c.tc : Thread Cert.XbcIdeal.nD Cert.XbcIdeal.τ).loc Cert.XbcIdeal.main_arg1) = m ((c.tc : Thread Cert.SsdConvIdeal.nD Cert.SsdConvIdeal.τ).loc Cert.SsdConvIdeal.main_arg1)
      ∧ m' ((c.tc : Thread Cert.XbcIdeal.nD Cert.XbcIdeal.τ).loc Cert.XbcIdeal.main_arg2) = m ((c.tc : Thread Cert.SsdConvIdeal.nD Cert.SsdConvIdeal.τ).loc Cert.SsdConvIdeal.main_arg2)) →
    ∃ (v0 : (c : Dev Cert.SsdConvIdeal.nD) → Buf (Elt Ideal) ((c.tc : Thread Cert.SsdConvIdeal.nD Cert.SsdConvIdeal.τ).loc Cert.SsdConvIdeal.main_v0)),
      θ_run (Cert.SsdConvIdeal.defs (F := Ideal)) (onTc (τ := Cert.SsdConvIdeal.τ) (Cert.SsdConvIdeal.main (F := Ideal))) ⟨m, fun _ => 0, g⟩ (fun r => ∀ c : Dev Cert.SsdConvIdeal.nD,
          r.2.mem ((c.tc : Thread Cert.SsdConvIdeal.nD Cert.SsdConvIdeal.τ).loc Cert.SsdConvIdeal.main_v0) = v0 c
          ∧ r.2.mem ((c.tc : Thread Cert.SsdConvIdeal.nD Cert.SsdConvIdeal.τ).loc Cert.SsdConvIdeal.main_arg0) = m ((c.tc : Thread Cert.SsdConvIdeal.nD Cert.SsdConvIdeal.τ).loc Cert.SsdConvIdeal.main_arg0)
          ∧ r.2.mem ((c.tc : Thread Cert.SsdConvIdeal.nD Cert.SsdConvIdeal.τ).loc Cert.SsdConvIdeal.main_arg1) = m ((c.tc : Thread Cert.SsdConvIdeal.nD Cert.SsdConvIdeal.τ).loc Cert.SsdConvIdeal.main_arg1)
          ∧ r.2.mem ((c.tc : Thread Cert.SsdConvIdeal.nD Cert.SsdConvIdeal.τ).loc Cert.SsdConvIdeal.main_arg2) = m ((c.tc : Thread Cert.SsdConvIdeal.nD Cert.SsdConvIdeal.τ).loc Cert.SsdConvIdeal.main_arg2))
      ∧ θ_run (Cert.XbcIdeal.defs (F := Ideal)) (onTc (τ := Cert.XbcIdeal.τ) (Cert.XbcIdeal.main (F := Ideal))) ⟨m', fun _ => 0, g'⟩ (fun r => ∀ c : Dev Cert.XbcIdeal.nD,
          r.2.mem ((c.tc : Thread Cert.XbcIdeal.nD Cert.XbcIdeal.τ).loc Cert.XbcIdeal.main_v18) = v0 c
          ∧ r.2.mem ((c.tc : Thread Cert.XbcIdeal.nD Cert.XbcIdeal.τ).loc Cert.XbcIdeal.main_arg0) = m' ((c.tc : Thread Cert.XbcIdeal.nD Cert.XbcIdeal.τ).loc Cert.XbcIdeal.main_arg0)
          ∧ r.2.mem ((c.tc : Thread Cert.XbcIdeal.nD Cert.XbcIdeal.τ).loc Cert.XbcIdeal.main_arg1) = m' ((c.tc : Thread Cert.XbcIdeal.nD Cert.XbcIdeal.τ).loc Cert.XbcIdeal.main_arg1)
          ∧ r.2.mem ((c.tc : Thread Cert.XbcIdeal.nD Cert.XbcIdeal.τ).loc Cert.XbcIdeal.main_arg2) = m' ((c.tc : Thread Cert.XbcIdeal.nD Cert.XbcIdeal.τ).loc Cert.XbcIdeal.main_arg2))

def preserves_AdaMod_AdaModIdeal : Prop :=
  True

def algebraic_AdaModIdeal_ModulIdeal [hAdaModIdeal : Cert.AdaModIdeal.Facts] [hModulIdeal : Cert.ModulIdeal.Facts] : Prop :=
  ∀ (m : (ℓ : Loc Cert.AdaModIdeal.nD Cert.AdaModIdeal.τ Cert.AdaModIdeal.sig) → Buf (Elt Ideal) ℓ) (g : Dev Cert.AdaModIdeal.nD → PrngReg)
    (m' : (ℓ : Loc Cert.ModulIdeal.nD Cert.ModulIdeal.τ Cert.ModulIdeal.sig) → Buf (Elt Ideal) ℓ) (g' : Dev Cert.ModulIdeal.nD → PrngReg), Pre_AdaModIdeal m →
    (∀ c : Dev Cert.AdaModIdeal.nD,
      m' ((c.tc : Thread Cert.ModulIdeal.nD Cert.ModulIdeal.τ).loc Cert.ModulIdeal.main_arg0) = m ((c.tc : Thread Cert.AdaModIdeal.nD Cert.AdaModIdeal.τ).loc Cert.AdaModIdeal.main_arg0)
      ∧ m' ((c.tc : Thread Cert.ModulIdeal.nD Cert.ModulIdeal.τ).loc Cert.ModulIdeal.main_arg1) = m ((c.tc : Thread Cert.AdaModIdeal.nD Cert.AdaModIdeal.τ).loc Cert.AdaModIdeal.main_arg1)
      ∧ m' ((c.tc : Thread Cert.ModulIdeal.nD Cert.ModulIdeal.τ).loc Cert.ModulIdeal.main_arg2) = m ((c.tc : Thread Cert.AdaModIdeal.nD Cert.AdaModIdeal.τ).loc Cert.AdaModIdeal.main_arg2)) →
    ∃ (v0 : (c : Dev Cert.AdaModIdeal.nD) → Buf (Elt Ideal) ((c.tc : Thread Cert.AdaModIdeal.nD Cert.AdaModIdeal.τ).loc Cert.AdaModIdeal.main_v0_0)) (v1 : (c : Dev Cert.AdaModIdeal.nD) → Buf (Elt Ideal) ((c.tc : Thread Cert.AdaModIdeal.nD Cert.AdaModIdeal.τ).loc Cert.AdaModIdeal.main_v0_1)),
      θ_run (Cert.AdaModIdeal.defs (F := Ideal)) (onTc (τ := Cert.AdaModIdeal.τ) (Cert.AdaModIdeal.main (F := Ideal))) ⟨m, fun _ => 0, g⟩ (fun r => ∀ c : Dev Cert.AdaModIdeal.nD,
          r.2.mem ((c.tc : Thread Cert.AdaModIdeal.nD Cert.AdaModIdeal.τ).loc Cert.AdaModIdeal.main_v0_0) = v0 c
          ∧ r.2.mem ((c.tc : Thread Cert.AdaModIdeal.nD Cert.AdaModIdeal.τ).loc Cert.AdaModIdeal.main_v0_1) = v1 c
          ∧ r.2.mem ((c.tc : Thread Cert.AdaModIdeal.nD Cert.AdaModIdeal.τ).loc Cert.AdaModIdeal.main_arg0) = m ((c.tc : Thread Cert.AdaModIdeal.nD Cert.AdaModIdeal.τ).loc Cert.AdaModIdeal.main_arg0)
          ∧ r.2.mem ((c.tc : Thread Cert.AdaModIdeal.nD Cert.AdaModIdeal.τ).loc Cert.AdaModIdeal.main_arg1) = m ((c.tc : Thread Cert.AdaModIdeal.nD Cert.AdaModIdeal.τ).loc Cert.AdaModIdeal.main_arg1)
          ∧ r.2.mem ((c.tc : Thread Cert.AdaModIdeal.nD Cert.AdaModIdeal.τ).loc Cert.AdaModIdeal.main_arg2) = m ((c.tc : Thread Cert.AdaModIdeal.nD Cert.AdaModIdeal.τ).loc Cert.AdaModIdeal.main_arg2))
      ∧ θ_run (Cert.ModulIdeal.defs (F := Ideal)) (onTc (τ := Cert.ModulIdeal.τ) (Cert.ModulIdeal.main (F := Ideal))) ⟨m', fun _ => 0, g'⟩ (fun r => ∀ c : Dev Cert.ModulIdeal.nD,
          r.2.mem ((c.tc : Thread Cert.ModulIdeal.nD Cert.ModulIdeal.τ).loc Cert.ModulIdeal.main_v3) = v0 c
          ∧ r.2.mem ((c.tc : Thread Cert.ModulIdeal.nD Cert.ModulIdeal.τ).loc Cert.ModulIdeal.main_v0) = v1 c
          ∧ r.2.mem ((c.tc : Thread Cert.ModulIdeal.nD Cert.ModulIdeal.τ).loc Cert.ModulIdeal.main_arg0) = m' ((c.tc : Thread Cert.ModulIdeal.nD Cert.ModulIdeal.τ).loc Cert.ModulIdeal.main_arg0)
          ∧ r.2.mem ((c.tc : Thread Cert.ModulIdeal.nD Cert.ModulIdeal.τ).loc Cert.ModulIdeal.main_arg1) = m' ((c.tc : Thread Cert.ModulIdeal.nD Cert.ModulIdeal.τ).loc Cert.ModulIdeal.main_arg1)
          ∧ r.2.mem ((c.tc : Thread Cert.ModulIdeal.nD Cert.ModulIdeal.τ).loc Cert.ModulIdeal.main_arg2) = m' ((c.tc : Thread Cert.ModulIdeal.nD Cert.ModulIdeal.τ).loc Cert.ModulIdeal.main_arg2))

def Claim : Prop :=
  ∃ (hConfBwd : Cert.ConfBwd.Facts) (hConfBwdIdeal : Cert.ConfBwdIdeal.Facts) (hConfGradIdeal : Cert.ConfGradIdeal.Facts) (hDownWgrad : Cert.DownWgrad.Facts) (hDownWgradIdeal : Cert.DownWgradIdeal.Facts) (hDownGradIdeal : Cert.DownGradIdeal.Facts) (hUpWgrad : Cert.UpWgrad.Facts) (hUpWgradIdeal : Cert.UpWgradIdeal.Facts) (hUpGradIdeal : Cert.UpGradIdeal.Facts) (hOutWgrad : Cert.OutWgrad.Facts) (hOutWgradIdeal : Cert.OutWgradIdeal.Facts) (hOutGradIdeal : Cert.OutGradIdeal.Facts) (hInWgrad : Cert.InWgrad.Facts) (hInWgradIdeal : Cert.InWgradIdeal.Facts) (hInGradIdeal : Cert.InGradIdeal.Facts) (hUpProj : Cert.UpProj.Facts) (hUpProjIdeal : Cert.UpProjIdeal.Facts) (hUpIdeal : Cert.UpIdeal.Facts) (hInProj : Cert.InProj.Facts) (hInProjIdeal : Cert.InProjIdeal.Facts) (hInIdeal : Cert.InIdeal.Facts) (hNorm2Bwd : Cert.Norm2Bwd.Facts) (hNorm2BwdIdeal : Cert.Norm2BwdIdeal.Facts) (hNorm2GradIdeal : Cert.Norm2GradIdeal.Facts) (hNorm1Bwd : Cert.Norm1Bwd.Facts) (hNorm1BwdIdeal : Cert.Norm1BwdIdeal.Facts) (hNorm1GradIdeal : Cert.Norm1GradIdeal.Facts) (hAdamIn : Cert.AdamIn.Facts) (hAdamInIdeal : Cert.AdamInIdeal.Facts) (hStepInIdeal : Cert.StepInIdeal.Facts) (hAdamUp : Cert.AdamUp.Facts) (hAdamUpIdeal : Cert.AdamUpIdeal.Facts) (hStepUpIdeal : Cert.StepUpIdeal.Facts) (hAdamOut : Cert.AdamOut.Facts) (hAdamOutIdeal : Cert.AdamOutIdeal.Facts) (hStepOutIdeal : Cert.StepOutIdeal.Facts) (hAdamDown : Cert.AdamDown.Facts) (hAdamDownIdeal : Cert.AdamDownIdeal.Facts) (hStepDownIdeal : Cert.StepDownIdeal.Facts) (hAdaWgrad : Cert.AdaWgrad.Facts) (hAdaWgradIdeal : Cert.AdaWgradIdeal.Facts) (hAdaGradIdeal : Cert.AdaGradIdeal.Facts) (hSmallSum : Cert.SmallSum.Facts) (hSmallSumIdeal : Cert.SmallSumIdeal.Facts) (hSmallGradIdeal : Cert.SmallGradIdeal.Facts) (hDownLoss : Cert.DownLoss.Facts) (hDownLossIdeal : Cert.DownLossIdeal.Facts) (hLossGradIdeal : Cert.LossGradIdeal.Facts) (hMixOut : Cert.MixOut.Facts) (hMixOutIdeal : Cert.MixOutIdeal.Facts) (hMixIdeal : Cert.MixIdeal.Facts) (hFfnConv : Cert.FfnConv.Facts) (hFfnConvIdeal : Cert.FfnConvIdeal.Facts) (hFfnIdeal : Cert.FfnIdeal.Facts) (hSsdConv : Cert.SsdConv.Facts) (hSsdConvIdeal : Cert.SsdConvIdeal.Facts) (hXbcIdeal : Cert.XbcIdeal.Facts) (hAdaMod : Cert.AdaMod.Facts) (hAdaModIdeal : Cert.AdaModIdeal.Facts) (hModulIdeal : Cert.ModulIdeal.Facts),
    quiescent_ConfBwd (hConfBwd := hConfBwd)
    ∧ quiescent_ConfBwdIdeal (hConfBwdIdeal := hConfBwdIdeal)
    ∧ quiescent_ConfGradIdeal (hConfGradIdeal := hConfGradIdeal)
    ∧ quiescent_DownWgrad (hDownWgrad := hDownWgrad)
    ∧ quiescent_DownWgradIdeal (hDownWgradIdeal := hDownWgradIdeal)
    ∧ quiescent_DownGradIdeal (hDownGradIdeal := hDownGradIdeal)
    ∧ quiescent_UpWgrad (hUpWgrad := hUpWgrad)
    ∧ quiescent_UpWgradIdeal (hUpWgradIdeal := hUpWgradIdeal)
    ∧ quiescent_UpGradIdeal (hUpGradIdeal := hUpGradIdeal)
    ∧ quiescent_OutWgrad (hOutWgrad := hOutWgrad)
    ∧ quiescent_OutWgradIdeal (hOutWgradIdeal := hOutWgradIdeal)
    ∧ quiescent_OutGradIdeal (hOutGradIdeal := hOutGradIdeal)
    ∧ quiescent_InWgrad (hInWgrad := hInWgrad)
    ∧ quiescent_InWgradIdeal (hInWgradIdeal := hInWgradIdeal)
    ∧ quiescent_InGradIdeal (hInGradIdeal := hInGradIdeal)
    ∧ quiescent_UpProj (hUpProj := hUpProj)
    ∧ quiescent_UpProjIdeal (hUpProjIdeal := hUpProjIdeal)
    ∧ quiescent_UpIdeal (hUpIdeal := hUpIdeal)
    ∧ quiescent_InProj (hInProj := hInProj)
    ∧ quiescent_InProjIdeal (hInProjIdeal := hInProjIdeal)
    ∧ quiescent_InIdeal (hInIdeal := hInIdeal)
    ∧ quiescent_Norm2Bwd (hNorm2Bwd := hNorm2Bwd)
    ∧ quiescent_Norm2BwdIdeal (hNorm2BwdIdeal := hNorm2BwdIdeal)
    ∧ quiescent_Norm2GradIdeal (hNorm2GradIdeal := hNorm2GradIdeal)
    ∧ quiescent_Norm1Bwd (hNorm1Bwd := hNorm1Bwd)
    ∧ quiescent_Norm1BwdIdeal (hNorm1BwdIdeal := hNorm1BwdIdeal)
    ∧ quiescent_Norm1GradIdeal (hNorm1GradIdeal := hNorm1GradIdeal)
    ∧ quiescent_AdamIn (hAdamIn := hAdamIn)
    ∧ quiescent_AdamInIdeal (hAdamInIdeal := hAdamInIdeal)
    ∧ quiescent_StepInIdeal (hStepInIdeal := hStepInIdeal)
    ∧ quiescent_AdamUp (hAdamUp := hAdamUp)
    ∧ quiescent_AdamUpIdeal (hAdamUpIdeal := hAdamUpIdeal)
    ∧ quiescent_StepUpIdeal (hStepUpIdeal := hStepUpIdeal)
    ∧ quiescent_AdamOut (hAdamOut := hAdamOut)
    ∧ quiescent_AdamOutIdeal (hAdamOutIdeal := hAdamOutIdeal)
    ∧ quiescent_StepOutIdeal (hStepOutIdeal := hStepOutIdeal)
    ∧ quiescent_AdamDown (hAdamDown := hAdamDown)
    ∧ quiescent_AdamDownIdeal (hAdamDownIdeal := hAdamDownIdeal)
    ∧ quiescent_StepDownIdeal (hStepDownIdeal := hStepDownIdeal)
    ∧ quiescent_AdaWgrad (hAdaWgrad := hAdaWgrad)
    ∧ quiescent_AdaWgradIdeal (hAdaWgradIdeal := hAdaWgradIdeal)
    ∧ quiescent_AdaGradIdeal (hAdaGradIdeal := hAdaGradIdeal)
    ∧ quiescent_SmallSum (hSmallSum := hSmallSum)
    ∧ quiescent_SmallSumIdeal (hSmallSumIdeal := hSmallSumIdeal)
    ∧ quiescent_SmallGradIdeal (hSmallGradIdeal := hSmallGradIdeal)
    ∧ quiescent_DownLoss (hDownLoss := hDownLoss)
    ∧ quiescent_DownLossIdeal (hDownLossIdeal := hDownLossIdeal)
    ∧ quiescent_LossGradIdeal (hLossGradIdeal := hLossGradIdeal)
    ∧ quiescent_MixOut (hMixOut := hMixOut)
    ∧ quiescent_MixOutIdeal (hMixOutIdeal := hMixOutIdeal)
    ∧ quiescent_MixIdeal (hMixIdeal := hMixIdeal)
    ∧ quiescent_FfnConv (hFfnConv := hFfnConv)
    ∧ quiescent_FfnConvIdeal (hFfnConvIdeal := hFfnConvIdeal)
    ∧ quiescent_FfnIdeal (hFfnIdeal := hFfnIdeal)
    ∧ quiescent_SsdConv (hSsdConv := hSsdConv)
    ∧ quiescent_SsdConvIdeal (hSsdConvIdeal := hSsdConvIdeal)
    ∧ quiescent_XbcIdeal (hXbcIdeal := hXbcIdeal)
    ∧ quiescent_AdaMod (hAdaMod := hAdaMod)
    ∧ quiescent_AdaModIdeal (hAdaModIdeal := hAdaModIdeal)
    ∧ quiescent_ModulIdeal (hModulIdeal := hModulIdeal)
    ∧ preserves_ConfBwd_ConfBwdIdeal
    ∧ algebraic_ConfBwdIdeal_ConfGradIdeal (hConfBwdIdeal := hConfBwdIdeal) (hConfGradIdeal := hConfGradIdeal)
    ∧ preserves_DownWgrad_DownWgradIdeal
    ∧ algebraic_DownWgradIdeal_DownGradIdeal (hDownWgradIdeal := hDownWgradIdeal) (hDownGradIdeal := hDownGradIdeal)
    ∧ preserves_UpWgrad_UpWgradIdeal
    ∧ algebraic_UpWgradIdeal_UpGradIdeal (hUpWgradIdeal := hUpWgradIdeal) (hUpGradIdeal := hUpGradIdeal)
    ∧ preserves_OutWgrad_OutWgradIdeal
    ∧ algebraic_OutWgradIdeal_OutGradIdeal (hOutWgradIdeal := hOutWgradIdeal) (hOutGradIdeal := hOutGradIdeal)
    ∧ preserves_InWgrad_InWgradIdeal
    ∧ algebraic_InWgradIdeal_InGradIdeal (hInWgradIdeal := hInWgradIdeal) (hInGradIdeal := hInGradIdeal)
    ∧ preserves_UpProj_UpProjIdeal
    ∧ algebraic_UpProjIdeal_UpIdeal (hUpProjIdeal := hUpProjIdeal) (hUpIdeal := hUpIdeal)
    ∧ preserves_InProj_InProjIdeal
    ∧ algebraic_InProjIdeal_InIdeal (hInProjIdeal := hInProjIdeal) (hInIdeal := hInIdeal)
    ∧ preserves_Norm2Bwd_Norm2BwdIdeal
    ∧ algebraic_Norm2BwdIdeal_Norm2GradIdeal (hNorm2BwdIdeal := hNorm2BwdIdeal) (hNorm2GradIdeal := hNorm2GradIdeal)
    ∧ preserves_Norm1Bwd_Norm1BwdIdeal
    ∧ algebraic_Norm1BwdIdeal_Norm1GradIdeal (hNorm1BwdIdeal := hNorm1BwdIdeal) (hNorm1GradIdeal := hNorm1GradIdeal)
    ∧ preserves_AdamIn_AdamInIdeal
    ∧ algebraic_AdamInIdeal_StepInIdeal (hAdamInIdeal := hAdamInIdeal) (hStepInIdeal := hStepInIdeal)
    ∧ preserves_AdamUp_AdamUpIdeal
    ∧ algebraic_AdamUpIdeal_StepUpIdeal (hAdamUpIdeal := hAdamUpIdeal) (hStepUpIdeal := hStepUpIdeal)
    ∧ preserves_AdamOut_AdamOutIdeal
    ∧ algebraic_AdamOutIdeal_StepOutIdeal (hAdamOutIdeal := hAdamOutIdeal) (hStepOutIdeal := hStepOutIdeal)
    ∧ preserves_AdamDown_AdamDownIdeal
    ∧ algebraic_AdamDownIdeal_StepDownIdeal (hAdamDownIdeal := hAdamDownIdeal) (hStepDownIdeal := hStepDownIdeal)
    ∧ preserves_AdaWgrad_AdaWgradIdeal
    ∧ algebraic_AdaWgradIdeal_AdaGradIdeal (hAdaWgradIdeal := hAdaWgradIdeal) (hAdaGradIdeal := hAdaGradIdeal)
    ∧ preserves_SmallSum_SmallSumIdeal
    ∧ algebraic_SmallSumIdeal_SmallGradIdeal (hSmallSumIdeal := hSmallSumIdeal) (hSmallGradIdeal := hSmallGradIdeal)
    ∧ preserves_DownLoss_DownLossIdeal
    ∧ algebraic_DownLossIdeal_LossGradIdeal (hDownLossIdeal := hDownLossIdeal) (hLossGradIdeal := hLossGradIdeal)
    ∧ preserves_MixOut_MixOutIdeal
    ∧ algebraic_MixOutIdeal_MixIdeal (hMixOutIdeal := hMixOutIdeal) (hMixIdeal := hMixIdeal)
    ∧ preserves_FfnConv_FfnConvIdeal
    ∧ algebraic_FfnConvIdeal_FfnIdeal (hFfnConvIdeal := hFfnConvIdeal) (hFfnIdeal := hFfnIdeal)
    ∧ preserves_SsdConv_SsdConvIdeal
    ∧ algebraic_SsdConvIdeal_XbcIdeal (hSsdConvIdeal := hSsdConvIdeal) (hXbcIdeal := hXbcIdeal)
    ∧ preserves_AdaMod_AdaModIdeal
    ∧ algebraic_AdaModIdeal_ModulIdeal (hAdaModIdeal := hAdaModIdeal) (hModulIdeal := hModulIdeal)
-- ==== ConfBwd.lean ====
abbrev S2048x2048 : Shape := ⟨2, ![2048, 2048]⟩
abbrev S31x1024 : Shape := ⟨2, ![31, 1024]⟩
abbrev S1x1024 : Shape := ⟨2, ![1, 1024]⟩
abbrev S2048x1024 : Shape := ⟨2, ![2048, 1024]⟩
abbrev S32x1024 : Shape := ⟨2, ![32, 1024]⟩
abbrev S32x256 : Shape := ⟨2, ![32, 256]⟩
abbrev S1024x256 : Shape := ⟨2, ![1024, 256]⟩
abbrev S31x256 : Shape := ⟨2, ![31, 256]⟩
abbrev S1056x256 : Shape := ⟨2, ![1056, 256]⟩
abbrev S1x256 : Shape := ⟨2, ![1, 256]⟩
abbrev S256 : Shape := ⟨1, ![256]⟩

abbrev nBuf : Space → Nat
  | .hbm => 7
  | .vmem => 22
  | .smem => 0
  | _ => 0

abbrev bufTy : (tb : Table) → Fin (tcTables nBuf tb) → BufTy
  | .hbm, ⟨0, _⟩ => ⟨S2048x2048, .f32⟩
  | .hbm, ⟨1, _⟩ => ⟨S31x1024, .f32⟩
  | .hbm, ⟨2, _⟩ => ⟨S1x1024, .f32⟩
  | .hbm, ⟨3, _⟩ => ⟨S2048x1024, .f32⟩
  | .hbm, ⟨4, _⟩ => ⟨S2048x1024, .bf16⟩
  | .hbm, ⟨5, _⟩ => ⟨S2048x1024, .bf16⟩
  | .hbm, ⟨6, _⟩ => ⟨S32x1024, .f32⟩
  | .local _ .vmem, ⟨0, _⟩ => ⟨S32x256, .f32⟩
  | .local _ .vmem, ⟨1, _⟩ => ⟨S32x256, .f32⟩
  | .local _ .vmem, ⟨2, _⟩ => ⟨S1024x256, .f32⟩
  | .local _ .vmem, ⟨3, _⟩ => ⟨S1024x256, .f32⟩
  | .local _ .vmem, ⟨4, _⟩ => ⟨S32x256, .f32⟩
  | .local _ .vmem, ⟨5, _⟩ => ⟨S32x256, .f32⟩
  | .local _ .vmem, ⟨6, _⟩ => ⟨S1024x256, .f32⟩
  | .local _ .vmem, ⟨7, _⟩ => ⟨S1024x256, .f32⟩
  | .local _ .vmem, ⟨8, _⟩ => ⟨S1024x256, .f32⟩
  | .local _ .vmem, ⟨9, _⟩ => ⟨S1024x256, .f32⟩
  | .local _ .vmem, ⟨10, _⟩ => ⟨S32x256, .f32⟩
  | .local _ .vmem, ⟨11, _⟩ => ⟨S32x256, .f32⟩
  | .local _ .vmem, ⟨12, _⟩ => ⟨S31x256, .f32⟩
  | .local _ .vmem, ⟨13, _⟩ => ⟨S31x256, .f32⟩
  | .local _ .vmem, ⟨14, _⟩ => ⟨S1024x256, .bf16⟩
  | .local _ .vmem, ⟨15, _⟩ => ⟨S1024x256, .bf16⟩
  | .local _ .vmem, ⟨16, _⟩ => ⟨S1024x256, .bf16⟩
  | .local _ .vmem, ⟨17, _⟩ => ⟨S1024x256, .bf16⟩
  | .local _ .vmem, ⟨18, _⟩ => ⟨S32x256, .f32⟩
  | .local _ .vmem, ⟨19, _⟩ => ⟨S32x256, .f32⟩
  | .local _ .vmem, ⟨20, _⟩ => ⟨S1056x256, .f32⟩
  | .local _ .vmem, ⟨21, _⟩ => ⟨S1056x256, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_scratch0 : Ref sig .tc := ⟨.vmem, 20, rfl⟩
abbrev cc0_scratch1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨2, ![4, 2], ![false, false]⟩

def cc0_transform_0 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let v3 : BitVec 32 := Scalar.addi arg0 c0_i32_0
  let c0_i32_1 : BitVec 32 := 0#32
  ![v2.toNat, v3.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c1_i32 : BitVec 32 := 1#32
  let v1 : BitVec 32 := Scalar.subi v0 c1_i32
  let c0_i32 : BitVec 32 := 0#32
  let v2 : BitVec 32 := Scalar.maxsi v1 c0_i32
  let c4_i32 : BitVec 32 := 4#32
  let v3 : BitVec 32 := Scalar.addi arg0 c4_i32
  let c0_i32_0 : BitVec 32 := 0#32
  ![v2.toNat, v3.toNat]

def cc0_transform_3 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi arg0 c4_i32
  let c0_i32 : BitVec 32 := 0#32
  ![arg1.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![arg1.toNat, v0.toNat]

def cc0_transform_5 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c1_i32_0 : BitVec 32 := 1#32
  let v1 : BitVec 32 := Scalar.minsi v0 c1_i32_0
  let c32_i32 : BitVec 32 := 32#32
  let v2 : BitVec 32 := Scalar.muli v1 c32_i32
  let c0_i32 : BitVec 32 := 0#32
  let v3 : BitVec 32 := Scalar.addi arg0 c0_i32
  let c0_i32_1 : BitVec 32 := 0#32
  ![v2.toNat, v3.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![arg1.toNat, v0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![arg1.toNat, v0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

abbrev stage0_0 : Fin 2 → Memref sig .tc .vmem S32x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S32x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S32x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S31x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1024x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1024x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S32x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]
-- ==== ConfGradIdeal.lean ====
abbrev S2048x2048 : Shape := ⟨2, ![2048, 2048]⟩
abbrev S31x1024 : Shape := ⟨2, ![31, 1024]⟩
abbrev S1x1024 : Shape := ⟨2, ![1, 1024]⟩
abbrev S2048x1024 : Shape := ⟨2, ![2048, 1024]⟩
abbrev S_ : Shape := ⟨0, ![]⟩
abbrev S30x1024 : Shape := ⟨2, ![30, 1024]⟩
abbrev S2078x1024 : Shape := ⟨2, ![2078, 1024]⟩
abbrev S1x2048x1024 : Shape := ⟨3, ![1, 2048, 1024]⟩
abbrev S16x2048x1024 : Shape := ⟨3, ![16, 2048, 1024]⟩
abbrev S15x2048x1024 : Shape := ⟨3, ![15, 2048, 1024]⟩
abbrev S31x2048x1024 : Shape := ⟨3, ![31, 2048, 1024]⟩
abbrev S31x1x1024 : Shape := ⟨3, ![31, 1, 1024]⟩
abbrev S1024 : Shape := ⟨1, ![1024]⟩
abbrev S32x1024 : Shape := ⟨2, ![32, 1024]⟩

abbrev nBuf : Space → Nat
  | .hbm => 278
  | .vmem => 0
  | .smem => 0
  | _ => 0

abbrev hbmTy0_0 (i : Nat) : BufTy := match i % 128 with
  | 0 => ⟨S2048x2048, .f32⟩
  | 1 => ⟨S31x1024, .f32⟩
  | 2 => ⟨S1x1024, .f32⟩
  | 3 => ⟨S2048x1024, .f32⟩
  | 4 => ⟨S2048x1024, .f32⟩
  | 5 => ⟨S2048x1024, .f32⟩
  | 6 => ⟨S2048x1024, .f32⟩
  | 7 => ⟨S2048x1024, .f32⟩
  | 8 => ⟨S_, .f32⟩
  | 9 => ⟨S2048x1024, .f32⟩
  | 10 => ⟨S2048x1024, .f32⟩
  | 11 => ⟨S_, .f32⟩
  | 12 => ⟨S2048x1024, .f32⟩
  | 13 => ⟨S2048x1024, .f32⟩
  | 14 => ⟨S_, .f32⟩
  | 15 => ⟨S2048x1024, .f32⟩
  | 16 => ⟨S2048x1024, .f32⟩
  | 17 => ⟨S2048x1024, .f32⟩
  | 18 => ⟨S2048x1024, .f32⟩
  | 19 => ⟨S_, .f32⟩
  | 20 => ⟨S30x1024, .f32⟩
  | 21 => ⟨S2078x1024, .f32⟩
  | 22 => ⟨S_, .f32⟩
  | 23 => ⟨S30x1024, .f32⟩
  | 24 => ⟨S2048x1024, .f32⟩
  | 25 => ⟨S2048x1024, .f32⟩
  | 26 => ⟨S2048x1024, .f32⟩
  | 27 => ⟨S2048x1024, .f32⟩
  | 28 => ⟨S2048x1024, .f32⟩
  | 29 => ⟨S2048x1024, .f32⟩
  | 30 => ⟨S2048x1024, .f32⟩
  | 31 => ⟨S2048x1024, .f32⟩
  | 32 => ⟨S2048x1024, .f32⟩
  | 33 => ⟨S2048x1024, .f32⟩
  | 34 => ⟨S2048x1024, .f32⟩
  | 35 => ⟨S2048x1024, .f32⟩
  | 36 => ⟨S2048x1024, .f32⟩
  | 37 => ⟨S2048x1024, .f32⟩
  | 38 => ⟨S2048x1024, .f32⟩
  | 39 => ⟨S2048x1024, .f32⟩
  | 40 => ⟨S2048x1024, .f32⟩
  | 41 => ⟨S2048x1024, .f32⟩
  | 42 => ⟨S2048x1024, .f32⟩
  | 43 => ⟨S2048x1024, .f32⟩
  | 44 => ⟨S2048x1024, .f32⟩
  | 45 => ⟨S2048x1024, .f32⟩
  | 46 => ⟨S2048x1024, .f32⟩
  | 47 => ⟨S2048x1024, .f32⟩
  | 48 => ⟨S2048x1024, .f32⟩
  | 49 => ⟨S2048x1024, .f32⟩
  | 50 => ⟨S2048x1024, .f32⟩
  | 51 => ⟨S2048x1024, .f32⟩
  | 52 => ⟨S2048x1024, .f32⟩
  | 53 => ⟨S2048x1024, .f32⟩
  | 54 => ⟨S2048x1024, .f32⟩
  | 55 => ⟨S1x2048x1024, .f32⟩
  | 56 => ⟨S1x2048x1024, .f32⟩
  | 57 => ⟨S1x2048x1024, .f32⟩
  | 58 => ⟨S1x2048x1024, .f32⟩
  | 59 => ⟨S1x2048x1024, .f32⟩
  | 60 => ⟨S1x2048x1024, .f32⟩
  | 61 => ⟨S1x2048x1024, .f32⟩
  | 62 => ⟨S1x2048x1024, .f32⟩
  | 63 => ⟨S1x2048x1024, .f32⟩
  | 64 => ⟨S1x2048x1024, .f32⟩
  | 65 => ⟨S1x2048x1024, .f32⟩
  | 66 => ⟨S1x2048x1024, .f32⟩
  | 67 => ⟨S1x2048x1024, .f32⟩
  | 68 => ⟨S1x2048x1024, .f32⟩
  | 69 => ⟨S1x2048x1024, .f32⟩
  | 70 => ⟨S1x2048x1024, .f32⟩
  | 71 => ⟨S1x2048x1024, .f32⟩
  | 72 => ⟨S1x2048x1024, .f32⟩
  | 73 => ⟨S1x2048x1024, .f32⟩
  | 74 => ⟨S1x2048x1024, .f32⟩
  | 75 => ⟨S1x2048x1024, .f32⟩
  | 76 => ⟨S1x2048x1024, .f32⟩
  | 77 => ⟨S1x2048x1024, .f32⟩
  | 78 => ⟨S1x2048x1024, .f32⟩
  | 79 => ⟨S1x2048x1024, .f32⟩
  | 80 => ⟨S1x2048x1024, .f32⟩
  | 81 => ⟨S1x2048x1024, .f32⟩
  | 82 => ⟨S1x2048x1024, .f32⟩
  | 83 => ⟨S1x2048x1024, .f32⟩
  | 84 => ⟨S1x2048x1024, .f32⟩
  | 85 => ⟨S1x2048x1024, .f32⟩
  | 86 => ⟨S16x2048x1024, .f32⟩
  | 87 => ⟨S15x2048x1024, .f32⟩
  | 88 => ⟨S31x2048x1024, .f32⟩
  | 89 => ⟨S31x1x1024, .f32⟩
  | 90 => ⟨S31x2048x1024, .f32⟩
  | 91 => ⟨S31x2048x1024, .f32⟩
  | 92 => ⟨S_, .f32⟩
  | 93 => ⟨S2048x1024, .f32⟩
  | 94 => ⟨S2048x1024, .f32⟩
  | 95 => ⟨S2048x1024, .f32⟩
  | 96 => ⟨S2048x1024, .f32⟩
  | 97 => ⟨S_, .f32⟩
  | 98 => ⟨S1024, .f32⟩
  | 99 => ⟨S1x1024, .f32⟩
  | 100 => ⟨S31x2048x1024, .f32⟩
  | 101 => ⟨S31x2048x1024, .f32⟩
  | 102 => ⟨S31x2048x1024, .f32⟩
  | 103 => ⟨S31x2048x1024, .f32⟩
  | 104 => ⟨S_, .f32⟩
  | 105 => ⟨S31x1024, .f32⟩
  | 106 => ⟨S31x1x1024, .f32⟩
  | 107 => ⟨S_, .f32⟩
  | 108 => ⟨S31x1024, .f32⟩
  | 109 => ⟨S1x2048x1024, .f32⟩
  | 110 => ⟨S2048x1024, .f32⟩
  | 111 => ⟨S1x2048x1024, .f32⟩
  | 112 => ⟨S2048x1024, .f32⟩
  | 113 => ⟨S1x2048x1024, .f32⟩
  | 114 => ⟨S2048x1024, .f32⟩
  | 115 => ⟨S1x2048x1024, .f32⟩
  | 116 => ⟨S2048x1024, .f32⟩
  | 117 => ⟨S1x2048x1024, .f32⟩
  | 118 => ⟨S2048x1024, .f32⟩
  | 119 => ⟨S1x2048x1024, .f32⟩
  | 120 => ⟨S2048x1024, .f32⟩
  | 121 => ⟨S1x2048x1024, .f32⟩
  | 122 => ⟨S2048x1024, .f32⟩
  | 123 => ⟨S1x2048x1024, .f32⟩
  | 124 => ⟨S2048x1024, .f32⟩
  | 125 => ⟨S1x2048x1024, .f32⟩
  | 126 => ⟨S2048x1024, .f32⟩
  | 127 => ⟨S1x2048x1024, .f32⟩
  | _ => ⟨S2048x2048, .f32⟩

abbrev hbmTy0_1 (i : Nat) : BufTy := match i % 128 with
  | 0 => ⟨S2048x1024, .f32⟩
  | 1 => ⟨S1x2048x1024, .f32⟩
  | 2 => ⟨S2048x1024, .f32⟩
  | 3 => ⟨S1x2048x1024, .f32⟩
  | 4 => ⟨S2048x1024, .f32⟩
  | 5 => ⟨S1x2048x1024, .f32⟩
  | 6 => ⟨S2048x1024, .f32⟩
  | 7 => ⟨S1x2048x1024, .f32⟩
  | 8 => ⟨S2048x1024, .f32⟩
  | 9 => ⟨S1x2048x1024, .f32⟩
  | 10 => ⟨S2048x1024, .f32⟩
  | 11 => ⟨S1x2048x1024, .f32⟩
  | 12 => ⟨S2048x1024, .f32⟩
  | 13 => ⟨S1x2048x1024, .f32⟩
  | 14 => ⟨S2048x1024, .f32⟩
  | 15 => ⟨S1x2048x1024, .f32⟩
  | 16 => ⟨S2048x1024, .f32⟩
  | 17 => ⟨S1x2048x1024, .f32⟩
  | 18 => ⟨S2048x1024, .f32⟩
  | 19 => ⟨S1x2048x1024, .f32⟩
  | 20 => ⟨S2048x1024, .f32⟩
  | 21 => ⟨S1x2048x1024, .f32⟩
  | 22 => ⟨S2048x1024, .f32⟩
  | 23 => ⟨S1x2048x1024, .f32⟩
  | 24 => ⟨S2048x1024, .f32⟩
  | 25 => ⟨S1x2048x1024, .f32⟩
  | 26 => ⟨S2048x1024, .f32⟩
  | 27 => ⟨S1x2048x1024, .f32⟩
  | 28 => ⟨S2048x1024, .f32⟩
  | 29 => ⟨S1x2048x1024, .f32⟩
  | 30 => ⟨S2048x1024, .f32⟩
  | 31 => ⟨S1x2048x1024, .f32⟩
  | 32 => ⟨S2048x1024, .f32⟩
  | 33 => ⟨S1x2048x1024, .f32⟩
  | 34 => ⟨S2048x1024, .f32⟩
  | 35 => ⟨S1x2048x1024, .f32⟩
  | 36 => ⟨S2048x1024, .f32⟩
  | 37 => ⟨S1x2048x1024, .f32⟩
  | 38 => ⟨S2048x1024, .f32⟩
  | 39 => ⟨S1x2048x1024, .f32⟩
  | 40 => ⟨S2048x1024, .f32⟩
  | 41 => ⟨S1x2048x1024, .f32⟩
  | 42 => ⟨S2048x1024, .f32⟩
  | 43 => ⟨S_, .f32⟩
  | 44 => ⟨S2078x1024, .f32⟩
  | 45 => ⟨S_, .f32⟩
  | 46 => ⟨S2078x1024, .f32⟩
  | 47 => ⟨S2078x1024, .f32⟩
  | 48 => ⟨S_, .f32⟩
  | 49 => ⟨S2078x1024, .f32⟩
  | 50 => ⟨S2078x1024, .f32⟩
  | 51 => ⟨S_, .f32⟩
  | 52 => ⟨S2078x1024, .f32⟩
  | 53 => ⟨S2078x1024, .f32⟩
  | 54 => ⟨S_, .f32⟩
  | 55 => ⟨S2078x1024, .f32⟩
  | 56 => ⟨S2078x1024, .f32⟩
  | 57 => ⟨S_, .f32⟩
  | 58 => ⟨S2078x1024, .f32⟩
  | 59 => ⟨S2078x1024, .f32⟩
  | 60 => ⟨S_, .f32⟩
  | 61 => ⟨S2078x1024, .f32⟩
  | 62 => ⟨S2078x1024, .f32⟩
  | 63 => ⟨S_, .f32⟩
  | 64 => ⟨S2078x1024, .f32⟩
  | 65 => ⟨S2078x1024, .f32⟩
  | 66 => ⟨S_, .f32⟩
  | 67 => ⟨S2078x1024, .f32⟩
  | 68 => ⟨S2078x1024, .f32⟩
  | 69 => ⟨S_, .f32⟩
  | 70 => ⟨S2078x1024, .f32⟩
  | 71 => ⟨S2078x1024, .f32⟩
  | 72 => ⟨S_, .f32⟩
  | 73 => ⟨S2078x1024, .f32⟩
  | 74 => ⟨S2078x1024, .f32⟩
  | 75 => ⟨S_, .f32⟩
  | 76 => ⟨S2078x1024, .f32⟩
  | 77 => ⟨S2078x1024, .f32⟩
  | 78 => ⟨S_, .f32⟩
  | 79 => ⟨S2078x1024, .f32⟩
  | 80 => ⟨S2078x1024, .f32⟩
  | 81 => ⟨S_, .f32⟩
  | 82 => ⟨S2078x1024, .f32⟩
  | 83 => ⟨S2078x1024, .f32⟩
  | 84 => ⟨S_, .f32⟩
  | 85 => ⟨S2078x1024, .f32⟩
  | 86 => ⟨S2078x1024, .f32⟩
  | 87 => ⟨S_, .f32⟩
  | 88 => ⟨S2078x1024, .f32⟩
  | 89 => ⟨S2078x1024, .f32⟩
  | 90 => ⟨S_, .f32⟩
  | 91 => ⟨S2078x1024, .f32⟩
  | 92 => ⟨S2078x1024, .f32⟩
  | 93 => ⟨S_, .f32⟩
  | 94 => ⟨S2078x1024, .f32⟩
  | 95 => ⟨S2078x1024, .f32⟩
  | 96 => ⟨S_, .f32⟩
  | 97 => ⟨S2078x1024, .f32⟩
  | 98 => ⟨S2078x1024, .f32⟩
  | 99 => ⟨S_, .f32⟩
  | 100 => ⟨S2078x1024, .f32⟩
  | 101 => ⟨S2078x1024, .f32⟩
  | 102 => ⟨S_, .f32⟩
  | 103 => ⟨S2078x1024, .f32⟩
  | 104 => ⟨S2078x1024, .f32⟩
  | 105 => ⟨S_, .f32⟩
  | 106 => ⟨S2078x1024, .f32⟩
  | 107 => ⟨S2078x1024, .f32⟩
  | 108 => ⟨S_, .f32⟩
  | 109 => ⟨S2078x1024, .f32⟩
  | 110 => ⟨S2078x1024, .f32⟩
  | 111 => ⟨S_, .f32⟩
  | 112 => ⟨S2078x1024, .f32⟩
  | 113 => ⟨S2078x1024, .f32⟩
  | 114 => ⟨S_, .f32⟩
  | 115 => ⟨S2078x1024, .f32⟩
  | 116 => ⟨S2078x1024, .f32⟩
  | 117 => ⟨S_, .f32⟩
  | 118 => ⟨S2078x1024, .f32⟩
  | 119 => ⟨S2078x1024, .f32⟩
  | 120 => ⟨S_, .f32⟩
  | 121 => ⟨S2078x1024, .f32⟩
  | 122 => ⟨S2078x1024, .f32⟩
  | 123 => ⟨S_, .f32⟩
  | 124 => ⟨S2078x1024, .f32⟩
  | 125 => ⟨S2078x1024, .f32⟩
  | 126 => ⟨S_, .f32⟩
  | 127 => ⟨S2078x1024, .f32⟩
  | _ => ⟨S2048x2048, .f32⟩

abbrev hbmTy0_2 (i : Nat) : BufTy := match i % 128 with
  | 0 => ⟨S2078x1024, .f32⟩
  | 1 => ⟨S_, .f32⟩
  | 2 => ⟨S2078x1024, .f32⟩
  | 3 => ⟨S2078x1024, .f32⟩
  | 4 => ⟨S_, .f32⟩
  | 5 => ⟨S2078x1024, .f32⟩
  | 6 => ⟨S2078x1024, .f32⟩
  | 7 => ⟨S30x1024, .f32⟩
  | 8 => ⟨S2048x1024, .f32⟩
  | 9 => ⟨S2048x1024, .f32⟩
  | 10 => ⟨S2048x1024, .f32⟩
  | 11 => ⟨S2048x1024, .f32⟩
  | 12 => ⟨S_, .f32⟩
  | 13 => ⟨S2048x2048, .f32⟩
  | 14 => ⟨S_, .f32⟩
  | 15 => ⟨S2048x2048, .f32⟩
  | 16 => ⟨S2048x2048, .f32⟩
  | 17 => ⟨S2048x1024, .f32⟩
  | 18 => ⟨S2048x1024, .bf16⟩
  | 19 => ⟨S2048x1024, .f32⟩
  | 20 => ⟨S2048x1024, .bf16⟩
  | 21 => ⟨S32x1024, .f32⟩
  | _ => ⟨S2048x2048, .f32⟩

abbrev hbmTy (i : Nat) : BufTy := match i / 128 with
  | 0 => hbmTy0_0 i
  | 1 => hbmTy0_1 i
  | 2 => hbmTy0_2 i
  | _ => ⟨S2048x2048, .f32⟩

abbrev bufTy : (tb : Table) → Fin (tcTables nBuf tb) → BufTy
  | .hbm, ⟨i, _⟩ => hbmTy i
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_cst_3 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_v58 : Ref sig .tc := ⟨.hbm, 67, rfl⟩
abbrev main_v59 : Ref sig .tc := ⟨.hbm, 68, rfl⟩
abbrev main_v60 : Ref sig .tc := ⟨.hbm, 69, rfl⟩
abbrev main_v61 : Ref sig .tc := ⟨.hbm, 70, rfl⟩
abbrev main_v62 : Ref sig .tc := ⟨.hbm, 71, rfl⟩
abbrev main_v63 : Ref sig .tc := ⟨.hbm, 72, rfl⟩
abbrev main_v64 : Ref sig .tc := ⟨.hbm, 73, rfl⟩
abbrev main_v65 : Ref sig .tc := ⟨.hbm, 74, rfl⟩
abbrev main_v66 : Ref sig .tc := ⟨.hbm, 75, rfl⟩
abbrev main_v67 : Ref sig .tc := ⟨.hbm, 76, rfl⟩
abbrev main_v68 : Ref sig .tc := ⟨.hbm, 77, rfl⟩
abbrev main_v69 : Ref sig .tc := ⟨.hbm, 78, rfl⟩
abbrev main_v70 : Ref sig .tc := ⟨.hbm, 79, rfl⟩
abbrev main_v71 : Ref sig .tc := ⟨.hbm, 80, rfl⟩
abbrev main_v72 : Ref sig .tc := ⟨.hbm, 81, rfl⟩
abbrev main_v73 : Ref sig .tc := ⟨.hbm, 82, rfl⟩
abbrev main_v74 : Ref sig .tc := ⟨.hbm, 83, rfl⟩
abbrev main_v75 : Ref sig .tc := ⟨.hbm, 84, rfl⟩
abbrev main_v76 : Ref sig .tc := ⟨.hbm, 85, rfl⟩
abbrev main_v77 : Ref sig .tc := ⟨.hbm, 86, rfl⟩
abbrev main_v78 : Ref sig .tc := ⟨.hbm, 87, rfl⟩
abbrev main_v79 : Ref sig .tc := ⟨.hbm, 88, rfl⟩
abbrev main_v80 : Ref sig .tc := ⟨.hbm, 89, rfl⟩
abbrev main_v81 : Ref sig .tc := ⟨.hbm, 90, rfl⟩
abbrev main_v82 : Ref sig .tc := ⟨.hbm, 91, rfl⟩
abbrev main_cst_4 : Ref sig .tc := ⟨.hbm, 92, rfl⟩
abbrev main_v83 : Ref sig .tc := ⟨.hbm, 93, rfl⟩
abbrev main_v84 : Ref sig .tc := ⟨.hbm, 94, rfl⟩
abbrev main_v85 : Ref sig .tc := ⟨.hbm, 95, rfl⟩
abbrev main_v86 : Ref sig .tc := ⟨.hbm, 96, rfl⟩
abbrev main_cst_5 : Ref sig .tc := ⟨.hbm, 97, rfl⟩
abbrev main_v87 : Ref sig .tc := ⟨.hbm, 98, rfl⟩
abbrev main_v88 : Ref sig .tc := ⟨.hbm, 99, rfl⟩
abbrev main_v89 : Ref sig .tc := ⟨.hbm, 100, rfl⟩
abbrev main_v90 : Ref sig .tc := ⟨.hbm, 101, rfl⟩
abbrev main_v91 : Ref sig .tc := ⟨.hbm, 102, rfl⟩
abbrev main_v92 : Ref sig .tc := ⟨.hbm, 103, rfl⟩
abbrev main_cst_6 : Ref sig .tc := ⟨.hbm, 104, rfl⟩
abbrev main_v93 : Ref sig .tc := ⟨.hbm, 105, rfl⟩
abbrev main_v94 : Ref sig .tc := ⟨.hbm, 106, rfl⟩
abbrev main_cst_7 : Ref sig .tc := ⟨.hbm, 107, rfl⟩
abbrev main_v95 : Ref sig .tc := ⟨.hbm, 108, rfl⟩
abbrev main_v96 : Ref sig .tc := ⟨.hbm, 109, rfl⟩
abbrev main_v97 : Ref sig .tc := ⟨.hbm, 110, rfl⟩
abbrev main_v98 : Ref sig .tc := ⟨.hbm, 111, rfl⟩
abbrev main_v99 : Ref sig .tc := ⟨.hbm, 112, rfl⟩
abbrev main_v100 : Ref sig .tc := ⟨.hbm, 113, rfl⟩
abbrev main_v101 : Ref sig .tc := ⟨.hbm, 114, rfl⟩
abbrev main_v102 : Ref sig .tc := ⟨.hbm, 115, rfl⟩
abbrev main_v103 : Ref sig .tc := ⟨.hbm, 116, rfl⟩
abbrev main_v104 : Ref sig .tc := ⟨.hbm, 117, rfl⟩
abbrev main_v105 : Ref sig .tc := ⟨.hbm, 118, rfl⟩
abbrev main_v106 : Ref sig .tc := ⟨.hbm, 119, rfl⟩
abbrev main_v107 : Ref sig .tc := ⟨.hbm, 120, rfl⟩
abbrev main_v108 : Ref sig .tc := ⟨.hbm, 121, rfl⟩
abbrev main_v109 : Ref sig .tc := ⟨.hbm, 122, rfl⟩
abbrev main_v110 : Ref sig .tc := ⟨.hbm, 123, rfl⟩
abbrev main_v111 : Ref sig .tc := ⟨.hbm, 124, rfl⟩
abbrev main_v112 : Ref sig .tc := ⟨.hbm, 125, rfl⟩
abbrev main_v113 : Ref sig .tc := ⟨.hbm, 126, rfl⟩
abbrev main_v114 : Ref sig .tc := ⟨.hbm, 127, rfl⟩
abbrev main_v115 : Ref sig .tc := ⟨.hbm, 128, rfl⟩
abbrev main_v116 : Ref sig .tc := ⟨.hbm, 129, rfl⟩
abbrev main_v117 : Ref sig .tc := ⟨.hbm, 130, rfl⟩
abbrev main_v118 : Ref sig .tc := ⟨.hbm, 131, rfl⟩
abbrev main_v119 : Ref sig .tc := ⟨.hbm, 132, rfl⟩
abbrev main_v120 : Ref sig .tc := ⟨.hbm, 133, rfl⟩
abbrev main_v121 : Ref sig .tc := ⟨.hbm, 134, rfl⟩
abbrev main_v122 : Ref sig .tc := ⟨.hbm, 135, rfl⟩
abbrev main_v123 : Ref sig .tc := ⟨.hbm, 136, rfl⟩
abbrev main_v124 : Ref sig .tc := ⟨.hbm, 137, rfl⟩
abbrev main_v125 : Ref sig .tc := ⟨.hbm, 138, rfl⟩
abbrev main_v126 : Ref sig .tc := ⟨.hbm, 139, rfl⟩
abbrev main_v127 : Ref sig .tc := ⟨.hbm, 140, rfl⟩
abbrev main_v128 : Ref sig .tc := ⟨.hbm, 141, rfl⟩
abbrev main_v129 : Ref sig .tc := ⟨.hbm, 142, rfl⟩
abbrev main_v130 : Ref sig .tc := ⟨.hbm, 143, rfl⟩
abbrev main_v131 : Ref sig .tc := ⟨.hbm, 144, rfl⟩
abbrev main_v132 : Ref sig .tc := ⟨.hbm, 145, rfl⟩
abbrev main_v133 : Ref sig .tc := ⟨.hbm, 146, rfl⟩
abbrev main_v134 : Ref sig .tc := ⟨.hbm, 147, rfl⟩
abbrev main_v135 : Ref sig .tc := ⟨.hbm, 148, rfl⟩
abbrev main_v136 : Ref sig .tc := ⟨.hbm, 149, rfl⟩
abbrev main_v137 : Ref sig .tc := ⟨.hbm, 150, rfl⟩
abbrev main_v138 : Ref sig .tc := ⟨.hbm, 151, rfl⟩
abbrev main_v139 : Ref sig .tc := ⟨.hbm, 152, rfl⟩
abbrev main_v140 : Ref sig .tc := ⟨.hbm, 153, rfl⟩
abbrev main_v141 : Ref sig .tc := ⟨.hbm, 154, rfl⟩
abbrev main_v142 : Ref sig .tc := ⟨.hbm, 155, rfl⟩
abbrev main_v143 : Ref sig .tc := ⟨.hbm, 156, rfl⟩
abbrev main_v144 : Ref sig .tc := ⟨.hbm, 157, rfl⟩
abbrev main_v145 : Ref sig .tc := ⟨.hbm, 158, rfl⟩
abbrev main_v146 : Ref sig .tc := ⟨.hbm, 159, rfl⟩
abbrev main_v147 : Ref sig .tc := ⟨.hbm, 160, rfl⟩
abbrev main_v148 : Ref sig .tc := ⟨.hbm, 161, rfl⟩
abbrev main_v149 : Ref sig .tc := ⟨.hbm, 162, rfl⟩
abbrev main_v150 : Ref sig .tc := ⟨.hbm, 163, rfl⟩
abbrev main_v151 : Ref sig .tc := ⟨.hbm, 164, rfl⟩
abbrev main_v152 : Ref sig .tc := ⟨.hbm, 165, rfl⟩
abbrev main_v153 : Ref sig .tc := ⟨.hbm, 166, rfl⟩
abbrev main_v154 : Ref sig .tc := ⟨.hbm, 167, rfl⟩
abbrev main_v155 : Ref sig .tc := ⟨.hbm, 168, rfl⟩
abbrev main_v156 : Ref sig .tc := ⟨.hbm, 169, rfl⟩
abbrev main_v157 : Ref sig .tc := ⟨.hbm, 170, rfl⟩
abbrev main_cst_8 : Ref sig .tc := ⟨.hbm, 171, rfl⟩
abbrev main_v158 : Ref sig .tc := ⟨.hbm, 172, rfl⟩
abbrev main_cst_9 : Ref sig .tc := ⟨.hbm, 173, rfl⟩
abbrev main_v159 : Ref sig .tc := ⟨.hbm, 174, rfl⟩
abbrev main_v160 : Ref sig .tc := ⟨.hbm, 175, rfl⟩
abbrev main_cst_10 : Ref sig .tc := ⟨.hbm, 176, rfl⟩
abbrev main_v161 : Ref sig .tc := ⟨.hbm, 177, rfl⟩
abbrev main_v162 : Ref sig .tc := ⟨.hbm, 178, rfl⟩
abbrev main_cst_11 : Ref sig .tc := ⟨.hbm, 179, rfl⟩
abbrev main_v163 : Ref sig .tc := ⟨.hbm, 180, rfl⟩
abbrev main_v164 : Ref sig .tc := ⟨.hbm, 181, rfl⟩
abbrev main_cst_12 : Ref sig .tc := ⟨.hbm, 182, rfl⟩
abbrev main_v165 : Ref sig .tc := ⟨.hbm, 183, rfl⟩
abbrev main_v166 : Ref sig .tc := ⟨.hbm, 184, rfl⟩
abbrev main_cst_13 : Ref sig .tc := ⟨.hbm, 185, rfl⟩
abbrev main_v167 : Ref sig .tc := ⟨.hbm, 186, rfl⟩
abbrev main_v168 : Ref sig .tc := ⟨.hbm, 187, rfl⟩
abbrev main_cst_14 : Ref sig .tc := ⟨.hbm, 188, rfl⟩
abbrev main_v169 : Ref sig .tc := ⟨.hbm, 189, rfl⟩
abbrev main_v170 : Ref sig .tc := ⟨.hbm, 190, rfl⟩
abbrev main_cst_15 : Ref sig .tc := ⟨.hbm, 191, rfl⟩
abbrev main_v171 : Ref sig .tc := ⟨.hbm, 192, rfl⟩
abbrev main_v172 : Ref sig .tc := ⟨.hbm, 193, rfl⟩
abbrev main_cst_16 : Ref sig .tc := ⟨.hbm, 194, rfl⟩
abbrev main_v173 : Ref sig .tc := ⟨.hbm, 195, rfl⟩
abbrev main_v174 : Ref sig .tc := ⟨.hbm, 196, rfl⟩
abbrev main_cst_17 : Ref sig .tc := ⟨.hbm, 197, rfl⟩
abbrev main_v175 : Ref sig .tc := ⟨.hbm, 198, rfl⟩
abbrev main_v176 : Ref sig .tc := ⟨.hbm, 199, rfl⟩
abbrev main_cst_18 : Ref sig .tc := ⟨.hbm, 200, rfl⟩
abbrev main_v177 : Ref sig .tc := ⟨.hbm, 201, rfl⟩
abbrev main_v178 : Ref sig .tc := ⟨.hbm, 202, rfl⟩
abbrev main_cst_19 : Ref sig .tc := ⟨.hbm, 203, rfl⟩
abbrev main_v179 : Ref sig .tc := ⟨.hbm, 204, rfl⟩
abbrev main_v180 : Ref sig .tc := ⟨.hbm, 205, rfl⟩
abbrev main_cst_20 : Ref sig .tc := ⟨.hbm, 206, rfl⟩
abbrev main_v181 : Ref sig .tc := ⟨.hbm, 207, rfl⟩
abbrev main_v182 : Ref sig .tc := ⟨.hbm, 208, rfl⟩
abbrev main_cst_21 : Ref sig .tc := ⟨.hbm, 209, rfl⟩
abbrev main_v183 : Ref sig .tc := ⟨.hbm, 210, rfl⟩
abbrev main_v184 : Ref sig .tc := ⟨.hbm, 211, rfl⟩
abbrev main_cst_22 : Ref sig .tc := ⟨.hbm, 212, rfl⟩
abbrev main_v185 : Ref sig .tc := ⟨.hbm, 213, rfl⟩
abbrev main_v186 : Ref sig .tc := ⟨.hbm, 214, rfl⟩
abbrev main_cst_23 : Ref sig .tc := ⟨.hbm, 215, rfl⟩
abbrev main_v187 : Ref sig .tc := ⟨.hbm, 216, rfl⟩
abbrev main_v188 : Ref sig .tc := ⟨.hbm, 217, rfl⟩
abbrev main_cst_24 : Ref sig .tc := ⟨.hbm, 218, rfl⟩
abbrev main_v189 : Ref sig .tc := ⟨.hbm, 219, rfl⟩
abbrev main_v190 : Ref sig .tc := ⟨.hbm, 220, rfl⟩
abbrev main_cst_25 : Ref sig .tc := ⟨.hbm, 221, rfl⟩
abbrev main_v191 : Ref sig .tc := ⟨.hbm, 222, rfl⟩
abbrev main_v192 : Ref sig .tc := ⟨.hbm, 223, rfl⟩
abbrev main_cst_26 : Ref sig .tc := ⟨.hbm, 224, rfl⟩
abbrev main_v193 : Ref sig .tc := ⟨.hbm, 225, rfl⟩
abbrev main_v194 : Ref sig .tc := ⟨.hbm, 226, rfl⟩
abbrev main_cst_27 : Ref sig .tc := ⟨.hbm, 227, rfl⟩
abbrev main_v195 : Ref sig .tc := ⟨.hbm, 228, rfl⟩
abbrev main_v196 : Ref sig .tc := ⟨.hbm, 229, rfl⟩
abbrev main_cst_28 : Ref sig .tc := ⟨.hbm, 230, rfl⟩
abbrev main_v197 : Ref sig .tc := ⟨.hbm, 231, rfl⟩
abbrev main_v198 : Ref sig .tc := ⟨.hbm, 232, rfl⟩
abbrev main_cst_29 : Ref sig .tc := ⟨.hbm, 233, rfl⟩
abbrev main_v199 : Ref sig .tc := ⟨.hbm, 234, rfl⟩
abbrev main_v200 : Ref sig .tc := ⟨.hbm, 235, rfl⟩
abbrev main_cst_30 : Ref sig .tc := ⟨.hbm, 236, rfl⟩
abbrev main_v201 : Ref sig .tc := ⟨.hbm, 237, rfl⟩
abbrev main_v202 : Ref sig .tc := ⟨.hbm, 238, rfl⟩
abbrev main_cst_31 : Ref sig .tc := ⟨.hbm, 239, rfl⟩
abbrev main_v203 : Ref sig .tc := ⟨.hbm, 240, rfl⟩
abbrev main_v204 : Ref sig .tc := ⟨.hbm, 241, rfl⟩
abbrev main_cst_32 : Ref sig .tc := ⟨.hbm, 242, rfl⟩
abbrev main_v205 : Ref sig .tc := ⟨.hbm, 243, rfl⟩
abbrev main_v206 : Ref sig .tc := ⟨.hbm, 244, rfl⟩
abbrev main_cst_33 : Ref sig .tc := ⟨.hbm, 245, rfl⟩
abbrev main_v207 : Ref sig .tc := ⟨.hbm, 246, rfl⟩
abbrev main_v208 : Ref sig .tc := ⟨.hbm, 247, rfl⟩
abbrev main_cst_34 : Ref sig .tc := ⟨.hbm, 248, rfl⟩
abbrev main_v209 : Ref sig .tc := ⟨.hbm, 249, rfl⟩
abbrev main_v210 : Ref sig .tc := ⟨.hbm, 250, rfl⟩
abbrev main_cst_35 : Ref sig .tc := ⟨.hbm, 251, rfl⟩
abbrev main_v211 : Ref sig .tc := ⟨.hbm, 252, rfl⟩
abbrev main_v212 : Ref sig .tc := ⟨.hbm, 253, rfl⟩
abbrev main_cst_36 : Ref sig .tc := ⟨.hbm, 254, rfl⟩
abbrev main_v213 : Ref sig .tc := ⟨.hbm, 255, rfl⟩
abbrev main_v214 : Ref sig .tc := ⟨.hbm, 256, rfl⟩
abbrev main_cst_37 : Ref sig .tc := ⟨.hbm, 257, rfl⟩
abbrev main_v215 : Ref sig .tc := ⟨.hbm, 258, rfl⟩
abbrev main_v216 : Ref sig .tc := ⟨.hbm, 259, rfl⟩
abbrev main_cst_38 : Ref sig .tc := ⟨.hbm, 260, rfl⟩
abbrev main_v217 : Ref sig .tc := ⟨.hbm, 261, rfl⟩
abbrev main_v218 : Ref sig .tc := ⟨.hbm, 262, rfl⟩
abbrev main_v219 : Ref sig .tc := ⟨.hbm, 263, rfl⟩
abbrev main_v220 : Ref sig .tc := ⟨.hbm, 264, rfl⟩
abbrev main_v221 : Ref sig .tc := ⟨.hbm, 265, rfl⟩
abbrev main_v222 : Ref sig .tc := ⟨.hbm, 266, rfl⟩
abbrev main_v223 : Ref sig .tc := ⟨.hbm, 267, rfl⟩
abbrev main_cst_39 : Ref sig .tc := ⟨.hbm, 268, rfl⟩
abbrev main_v224 : Ref sig .tc := ⟨.hbm, 269, rfl⟩
abbrev main_cst_40 : Ref sig .tc := ⟨.hbm, 270, rfl⟩
abbrev main_v225 : Ref sig .tc := ⟨.hbm, 271, rfl⟩
abbrev main_v226 : Ref sig .tc := ⟨.hbm, 272, rfl⟩
abbrev main_v227 : Ref sig .tc := ⟨.hbm, 273, rfl⟩
abbrev main_v228 : Ref sig .tc := ⟨.hbm, 274, rfl⟩
abbrev main_v229 : Ref sig .tc := ⟨.hbm, 275, rfl⟩
abbrev main_v230 : Ref sig .tc := ⟨.hbm, 276, rfl⟩
abbrev main_v231 : Ref sig .tc := ⟨.hbm, 277, rfl⟩

abbrev nD : Nat := 1
abbrev τ : Topo := Topo.v7x

variable {F : FTy → Type} [FloatOps F]
-- ==== DownWgrad.lean ====
abbrev S2048x2816 : Shape := ⟨2, ![2048, 2816]⟩
abbrev S2048x1024 : Shape := ⟨2, ![2048, 1024]⟩
abbrev S2816x1024 : Shape := ⟨2, ![2816, 1024]⟩
abbrev S512x2816 : Shape := ⟨2, ![512, 2816]⟩
abbrev S512x1024 : Shape := ⟨2, ![512, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2048x2816, .bf16⟩
  | .hbm, ⟨1, _⟩ => ⟨S2048x1024, .bf16⟩
  | .hbm, ⟨2, _⟩ => ⟨S2816x1024, .bf16⟩
  | .local _ .vmem, ⟨0, _⟩ => ⟨S512x2816, .bf16⟩
  | .local _ .vmem, ⟨1, _⟩ => ⟨S512x2816, .bf16⟩
  | .local _ .vmem, ⟨2, _⟩ => ⟨S512x1024, .bf16⟩
  | .local _ .vmem, ⟨3, _⟩ => ⟨S512x1024, .bf16⟩
  | .local _ .vmem, ⟨4, _⟩ => ⟨S2816x1024, .bf16⟩
  | .local _ .vmem, ⟨5, _⟩ => ⟨S2816x1024, .f32⟩
  | _, _ => ⟨S2048x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 4], ![false, false]⟩

def k0_cond2 (i : grid0.Coords) : BitVec 1 :=
  let arg1 : BitVec 32 := BitVec.ofNat 32 (i 1).val
  let c3_i32 : BitVec 32 := 3#32
  let v11 : BitVec 1 := Scalar.cmpi .eq arg1 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S2816x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== DownGradIdeal.lean ====
abbrev S2048x2816 : Shape := ⟨2, ![2048, 2816]⟩
abbrev S2048x1024 : Shape := ⟨2, ![2048, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 10
  | .vmem => 0
  | .smem => 0
  | _ => 0

abbrev bufTy : (tb : Table) → Fin (tcTables nBuf tb) → BufTy
  | .hbm, ⟨0, _⟩ => ⟨S2048x2816, .bf16⟩
  | .hbm, ⟨1, _⟩ => ⟨S2048x1024, .bf16⟩
  | .hbm, ⟨2, _⟩ => ⟨S2048x2816, .f32⟩
  | .hbm, ⟨3, _⟩ => ⟨S2048x1024, .f32⟩
  | .hbm, ⟨4, _⟩ => ⟨S_, .f32⟩
  | .hbm, ⟨5, _⟩ => ⟨S2816x1024, .f32⟩
  | .hbm, ⟨6, _⟩ => ⟨S2048x1024, .f32⟩
  | .hbm, ⟨7, _⟩ => ⟨S1024x2816, .f32⟩
  | .hbm, ⟨8, _⟩ => ⟨S2816x1024, .f32⟩
  | .hbm, ⟨9, _⟩ => ⟨S2816x1024, .bf16⟩
  | _, _ => ⟨S2048x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== UpWgrad.lean ====
abbrev S2048x2816 : Shape := ⟨2, ![2048, 2816]⟩
abbrev S2048x1024 : Shape := ⟨2, ![2048, 1024]⟩
abbrev S5632x1024 : Shape := ⟨2, ![5632, 1024]⟩
abbrev S512x2816 : Shape := ⟨2, ![512, 2816]⟩
abbrev S512x1024 : Shape := ⟨2, ![512, 1024]⟩
abbrev S2816x1024 : Shape := ⟨2, ![2816, 1024]⟩

abbrev nBuf : Space → Nat
  | .hbm => 4
  | .vmem => 9
  | .smem => 0
  | _ => 0

abbrev bufTy : (tb : Table) → Fin (tcTables nBuf tb) → BufTy
  | .hbm, ⟨0, _⟩ => ⟨S2048x2816, .bf16⟩
  | .hbm, ⟨1, _⟩ => ⟨S2048x2816, .bf16⟩
  | .hbm, ⟨2, _⟩ => ⟨S2048x1024, .bf16⟩
  | .hbm, ⟨3, _⟩ => ⟨S5632x1024, .bf16⟩
  | .local _ .vmem, ⟨0, _⟩ => ⟨S512x2816, .bf16⟩
  | .local _ .vmem, ⟨1, _⟩ => ⟨S512x2816, .bf16⟩
  | .local _ .vmem, ⟨2, _⟩ => ⟨S512x2816, .bf16⟩
  | .local _ .vmem, ⟨3, _⟩ => ⟨S512x2816, .bf16⟩
  | .local _ .vmem, ⟨4, _⟩ => ⟨S512x1024, .bf16⟩
  | .local _ .vmem, ⟨5, _⟩ => ⟨S512x1024, .bf16⟩
  | .local _ .vmem, ⟨6, _⟩ => ⟨S2816x1024, .bf16⟩
  | .local _ .vmem, ⟨7, _⟩ => ⟨S2816x1024, .bf16⟩
  | .local _ .vmem, ⟨8, _⟩ => ⟨S2816x1024, .f32⟩
  | _, _ => ⟨S2048x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 4], ![false, false]⟩

def k0_cond4 (i : grid0.Coords) : BitVec 1 :=
  let arg1 : BitVec 32 := BitVec.ofNat 32 (i 1).val
  let c3_i32 : BitVec 32 := 3#32
  let v9 : BitVec 1 := Scalar.cmpi .eq arg1 c3_i32
  let v10 : BitVec 32 := Scalar.extui v9
  let c0_i32_4 : BitVec 32 := 0#32
  let v11 : BitVec 1 := Scalar.cmpi .ne v10 c0_i32_4
  v11

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  ![v1.toNat, c0_i32_1.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 32 := Scalar.select v0 arg1 c0_i32
  let c0_i32_0 : BitVec 32 := 0#32
  let c0_i32_1 : BitVec 32 := 0#32
  ![v1.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2816x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]
-- ==== UpGradIdeal.lean ====
abbrev S2048x2816 : Shape := ⟨2, ![2048, 2816]⟩
abbrev S2048x1024 : Shape := ⟨2, ![2048, 1024]⟩
abbrev S2048x5632 : Shape := ⟨2, ![2048, 5632]⟩
abbrev S_ : Shape := ⟨0, ![]⟩
abbrev S1024x5632 : Shape := ⟨2, ![1024, 5632]⟩
abbrev S5632x1024 : Shape := ⟨2, ![5632, 1024]⟩

abbrev nBuf : Space → Nat
  | .hbm => 13
  | .vmem => 0
  | .smem => 0
  | _ => 0

abbrev bufTy : (tb : Table) → Fin (tcTables nBuf tb) → BufTy
  | .hbm, ⟨0, _⟩ => ⟨S2048x2816, .bf16⟩
  | .hbm, ⟨1, _⟩ => ⟨S2048x2816, .bf16⟩
  | .hbm, ⟨2, _⟩ => ⟨S2048x1024, .bf16⟩
  | .hbm, ⟨3, _⟩ => ⟨S2048x5632, .bf16⟩
  | .hbm, ⟨4, _⟩ => ⟨S2048x1024, .f32⟩
  | .hbm, ⟨5, _⟩ => ⟨S2048x5632, .f32⟩
  | .hbm, ⟨6, _⟩ => ⟨S_, .f32⟩
  | .hbm, ⟨7, _⟩ => ⟨S1024x5632, .f32⟩
  | .hbm, ⟨8, _⟩ => ⟨S2048x5632, .f32⟩
  | .hbm, ⟨9, _⟩ => ⟨S5632x1024, .f32⟩
  | .hbm, ⟨10, _⟩ => ⟨S1024x5632, .f32⟩
  | .hbm, ⟨11, _⟩ => ⟨S5632x1024, .f32⟩
  | .hbm, ⟨12, _⟩ => ⟨S5632x1024, .bf16⟩
  | _, _ => ⟨S2048x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]
-- ==== OutWgrad.lean ====
abbrev S2048x1024 : Shape := ⟨2, ![2048, 1024]⟩
abbrev S512x1024 : Shape := ⟨2, ![512, 1024]⟩
abbrev S1024x1024 : Shape := ⟨2, ![1024, 1024]⟩

abbrev nBuf : Space → Nat
  | .hbm => 4
  | .vmem => 9
  | .smem => 0
  | _ => 0

abbrev bufTy : (tb : Table) → Fin (tcTables nBuf tb) → BufTy
  | .hbm, ⟨0, _⟩ => ⟨S2048x1024, .bf16⟩
  | .hbm, ⟨1, _⟩ => ⟨S2048x1024, .bf16⟩
  | .hbm, ⟨2, _⟩ => ⟨S2048x1024, .bf16⟩
  | .hbm, ⟨3, _⟩ => ⟨S2048x1024, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1024x1024, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 4], ![false, false]⟩

def k0_cond4 (i : grid0.Coords) : BitVec 1 :=
  let arg1 : BitVec 32 := BitVec.ofNat 32 (i 1).val
  let c3_i32 : BitVec 32 := 3#32
  let v9 : BitVec 1 := Scalar.cmpi .eq arg1 c3_i32
  let v10 : BitVec 32 := Scalar.extui v9
  let c0_i32_4 : BitVec 32 := 0#32
  let v11 : BitVec 1 := Scalar.cmpi .ne v10 c0_i32_4
  v11

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  ![v1.toNat, c0_i32_1.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 32 := Scalar.select v0 arg1 c0_i32
  let c0_i32_0 : BitVec 32 := 0#32
  let c0_i32_1 : BitVec 32 := 0#32
  ![v1.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]
-- ==== OutGradIdeal.lean ====
abbrev S2048x1024 : Shape := ⟨2, ![2048, 1024]⟩
abbrev S2048x2048 : Shape := ⟨2, ![2048, 2048]⟩
abbrev S_ : Shape := ⟨0, ![]⟩
abbrev S1024x2048 : Shape := ⟨2, ![1024, 2048]⟩

abbrev nBuf : Space → Nat
  | .hbm => 12
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2048x1024, .bf16⟩
  | .hbm, ⟨2, _⟩ => ⟨S2048x1024, .bf16⟩
  | .hbm, ⟨3, _⟩ => ⟨S2048x2048, .bf16⟩
  | .hbm, ⟨4, _⟩ => ⟨S2048x2048, .f32⟩
  | .hbm, ⟨5, _⟩ => ⟨S2048x1024, .f32⟩
  | .hbm, ⟨6, _⟩ => ⟨S_, .f32⟩
  | .hbm, ⟨7, _⟩ => ⟨S2048x1024, .f32⟩
  | .hbm, ⟨8, _⟩ => ⟨S2048x1024, .f32⟩
  | .hbm, ⟨9, _⟩ => ⟨S1024x2048, .f32⟩
  | .hbm, ⟨10, _⟩ => ⟨S2048x1024, .f32⟩
  | .hbm, ⟨11, _⟩ => ⟨S2048x1024, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== InWgrad.lean ====
abbrev S2048x1024 : Shape := ⟨2, ![2048, 1024]⟩
abbrev S2048x1536 : Shape := ⟨2, ![2048, 1536]⟩
abbrev S2048x128 : Shape := ⟨2, ![2048, 128]⟩
abbrev S8x578x1024 : Shape := ⟨3, ![8, 578, 1024]⟩
abbrev S512x1024 : Shape := ⟨2, ![512, 1024]⟩
abbrev S512x1536 : Shape := ⟨2, ![512, 1536]⟩
abbrev S512x128 : Shape := ⟨2, ![512, 128]⟩
abbrev S4624x1024 : Shape := ⟨2, ![4624, 1024]⟩
abbrev S1024x1024 : Shape := ⟨2, ![1024, 1024]⟩
abbrev S1536x1024 : Shape := ⟨2, ![1536, 1024]⟩
abbrev S128x1024 : Shape := ⟨2, ![128, 1024]⟩
abbrev S16x1024 : Shape := ⟨2, ![16, 1024]⟩
abbrev S578x1024 : Shape := ⟨2, ![578, 1024]⟩
abbrev S1x578x1024 : Shape := ⟨3, ![1, 578, 1024]⟩

abbrev nBuf : Space → Nat
  | .hbm => 7
  | .vmem => 14
  | .smem => 0
  | _ => 0

abbrev bufTy : (tb : Table) → Fin (tcTables nBuf tb) → BufTy
  | .hbm, ⟨0, _⟩ => ⟨S2048x1024, .bf16⟩
  | .hbm, ⟨1, _⟩ => ⟨S2048x1536, .bf16⟩
  | .hbm, ⟨2, _⟩ => ⟨S2048x128, .bf16⟩
  | .hbm, ⟨3, _⟩ => ⟨S2048x1024, .bf16⟩
  | .hbm, ⟨4, _⟩ => ⟨S2048x1024, .bf16⟩
  | .hbm, ⟨5, _⟩ => ⟨S2048x1024, .bf16⟩
  | .hbm, ⟨6, _⟩ => ⟨S8x578x1024, .bf16⟩
  | .local _ .vmem, ⟨0, _⟩ => ⟨S512x1024, .bf16⟩
  | .local _ .vmem, ⟨1, _⟩ => ⟨S512x1024, .bf16⟩
  | .local _ .vmem, ⟨2, _⟩ => ⟨S512x1536, .bf16⟩
  | .local _ .vmem, ⟨3, _⟩ => ⟨S512x1536, .bf16⟩
  | .local _ .vmem, ⟨4, _⟩ => ⟨S512x128, .bf16⟩
  | .local _ .vmem, ⟨5, _⟩ => ⟨S512x128, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S8x578x1024, .bf16⟩
  | .local _ .vmem, ⟨13, _⟩ => ⟨S4624x1024, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12

abbrev nD : Nat := 1
abbrev τ : Topo := Topo.v7x

variable {F : FTy → Type} [FloatOps F]

abbrev grid0 : Pipeline.Grid := ⟨1, ![4], ![false]⟩

def k0_cond2 (i : grid0.Coords) : BitVec 1 :=
  let arg0 : BitVec 32 := BitVec.ofNat 32 (i 0).val
  let c3_i32 : BitVec 32 := 3#32
  let v40 : BitVec 1 := Scalar.cmpi .eq arg0 c3_i32
  let v41 : BitVec 32 := Scalar.extui v40
  let c0_i32_32 : BitVec 32 := 0#32
  let v42 : BitVec 1 := Scalar.cmpi .ne v41 c0_i32_32
  v42

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S8x578x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== InGradIdeal.lean ====
abbrev S2048x1024 : Shape := ⟨2, ![2048, 1024]⟩
abbrev S2048x1536 : Shape := ⟨2, ![2048, 1536]⟩
abbrev S2048x128 : Shape := ⟨2, ![2048, 128]⟩
abbrev S2048x16 : Shape := ⟨2, ![2048, 16]⟩
abbrev S2048x4624 : Shape := ⟨2, ![2048, 4624]⟩
abbrev S_ : Shape := ⟨0, ![]⟩
abbrev S1024x4624 : Shape := ⟨2, ![1024, 4624]⟩
abbrev S4624x1024 : Shape := ⟨2, ![4624, 1024]⟩
abbrev S8x578x1024 : Shape := ⟨3, ![8, 578, 1024]⟩

abbrev nBuf : Space → Nat
  | .hbm => 18
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2048x1536, .bf16⟩
  | .hbm, ⟨2, _⟩ => ⟨S2048x128, .bf16⟩
  | .hbm, ⟨3, _⟩ => ⟨S2048x1024, .bf16⟩
  | .hbm, ⟨4, _⟩ => ⟨S2048x1024, .bf16⟩
  | .hbm, ⟨5, _⟩ => ⟨S2048x1024, .bf16⟩
  | .hbm, ⟨6, _⟩ => ⟨S2048x16, .bf16⟩
  | .hbm, ⟨7, _⟩ => ⟨S2048x4624, .bf16⟩
  | .hbm, ⟨8, _⟩ => ⟨S2048x1024, .f32⟩
  | .hbm, ⟨9, _⟩ => ⟨S2048x4624, .f32⟩
  | .hbm, ⟨10, _⟩ => ⟨S_, .f32⟩
  | .hbm, ⟨11, _⟩ => ⟨S1024x4624, .f32⟩
  | .hbm, ⟨12, _⟩ => ⟨S2048x4624, .f32⟩
  | .hbm, ⟨13, _⟩ => ⟨S4624x1024, .f32⟩
  | .hbm, ⟨14, _⟩ => ⟨S1024x4624, .f32⟩
  | .hbm, ⟨15, _⟩ => ⟨S4624x1024, .f32⟩
  | .hbm, ⟨16, _⟩ => ⟨S8x578x1024, .f32⟩
  | .hbm, ⟨17, _⟩ => ⟨S8x578x1024, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩

abbrev nD : Nat := 1
abbrev τ : Topo := Topo.v7x

variable {F : FTy → Type} [FloatOps F]
-- ==== UpProj.lean ====
abbrev S2048x1024 : Shape := ⟨2, ![2048, 1024]⟩
abbrev S5632x1024 : Shape := ⟨2, ![5632, 1024]⟩
abbrev S2048x5632 : Shape := ⟨2, ![2048, 5632]⟩
abbrev S512x1024 : Shape := ⟨2, ![512, 1024]⟩
abbrev S2816x1024 : Shape := ⟨2, ![2816, 1024]⟩
abbrev S512x2816 : Shape := ⟨2, ![512, 2816]⟩

abbrev nBuf : Space → Nat
  | .hbm => 3
  | .vmem => 6
  | .smem => 0
  | _ => 0

abbrev bufTy : (tb : Table) → Fin (tcTables nBuf tb) → BufTy
  | .hbm, ⟨0, _⟩ => ⟨S2048x1024, .bf16⟩
  | .hbm, ⟨1, _⟩ => ⟨S5632x1024, .bf16⟩
  | .hbm, ⟨2, _⟩ => ⟨S2048x5632, .f32⟩
  | .local _ .vmem, ⟨0, _⟩ => ⟨S512x1024, .bf16⟩
  | .local _ .vmem, ⟨1, _⟩ => ⟨S512x1024, .bf16⟩
  | .local _ .vmem, ⟨2, _⟩ => ⟨S2816x1024, .bf16⟩
  | .local _ .vmem, ⟨3, _⟩ => ⟨S2816x1024, .bf16⟩
  | .local _ .vmem, ⟨4, _⟩ => ⟨S512x2816, .f32⟩
  | .local _ .vmem, ⟨5, _⟩ => ⟨S512x2816, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2816x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x2816 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== UpIdeal.lean ====
abbrev S2048x1024 : Shape := ⟨2, ![2048, 1024]⟩
abbrev S5632x1024 : Shape := ⟨2, ![5632, 1024]⟩
abbrev S1024x5632 : Shape := ⟨2, ![1024, 5632]⟩
abbrev S2048x5632 : Shape := ⟨2, ![2048, 5632]⟩

abbrev nBuf : Space → Nat
  | .hbm => 6
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S5632x1024, .bf16⟩
  | .hbm, ⟨2, _⟩ => ⟨S2048x1024, .f32⟩
  | .hbm, ⟨3, _⟩ => ⟨S1024x5632, .bf16⟩
  | .hbm, ⟨4, _⟩ => ⟨S1024x5632, .f32⟩
  | .hbm, ⟨5, _⟩ => ⟨S2048x5632, .f32⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== InProj.lean ====
abbrev S2048x1024 : Shape := ⟨2, ![2048, 1024]⟩
abbrev S8x1024 : Shape := ⟨2, ![8, 1024]⟩
abbrev S1x1024 : Shape := ⟨2, ![1, 1024]⟩
abbrev S4624x1024 : Shape := ⟨2, ![4624, 1024]⟩
abbrev S16x1024 : Shape := ⟨2, ![16, 1024]⟩
abbrev S16x64x1024 : Shape := ⟨3, ![16, 64, 1024]⟩
abbrev S1024x1024 : Shape := ⟨2, ![1024, 1024]⟩
abbrev S2048x2560 : Shape := ⟨2, ![2048, 2560]⟩
abbrev S2048x2048 : Shape := ⟨2, ![2048, 2048]⟩
abbrev S512x1024 : Shape := ⟨2, ![512, 1024]⟩
abbrev S2560x1024 : Shape := ⟨2, ![2560, 1024]⟩
abbrev S512x2560 : Shape := ⟨2, ![512, 2560]⟩
abbrev S512x2048 : Shape := ⟨2, ![512, 2048]⟩
abbrev S512 : Shape := ⟨1, ![512]⟩
abbrev S512x1 : Shape := ⟨2, ![512, 1]⟩

abbrev nBuf : Space → Nat
  | .hbm => 12
  | .vmem => 15
  | .smem => 0
  | _ => 0

abbrev bufTy : (tb : Table) → Fin (tcTables nBuf tb) → BufTy
  | .hbm, ⟨0, _⟩ => ⟨S2048x1024, .f32⟩
  | .hbm, ⟨1, _⟩ => ⟨S8x1024, .f32⟩
  | .hbm, ⟨2, _⟩ => ⟨S1x1024, .f32⟩
  | .hbm, ⟨3, _⟩ => ⟨S4624x1024, .bf16⟩
  | .hbm, ⟨4, _⟩ => ⟨S16x1024, .bf16⟩
  | .hbm, ⟨5, _⟩ => ⟨S16x64x1024, .bf16⟩
  | .hbm, ⟨6, _⟩ => ⟨S1024x1024, .bf16⟩
  | .hbm, ⟨7, _⟩ => ⟨S2048x1024, .bf16⟩
  | .hbm, ⟨8, _⟩ => ⟨S2048x1024, .bf16⟩
  | .hbm, ⟨9, _⟩ => ⟨S2048x2560, .f32⟩
  | .hbm, ⟨10, _⟩ => ⟨S2048x1024, .f32⟩
  | .hbm, ⟨11, _⟩ => ⟨S2048x2048, .f32⟩
  | .local _ .vmem, ⟨0, _⟩ => ⟨S512x1024, .f32⟩
  | .local _ .vmem, ⟨1, _⟩ => ⟨S512x1024, .f32⟩
  | .local _ .vmem, ⟨2, _⟩ => ⟨S8x1024, .f32⟩
  | .local _ .vmem, ⟨3, _⟩ => ⟨S1x1024, .f32⟩
  | .local _ .vmem, ⟨4, _⟩ => ⟨S2560x1024, .bf16⟩
  | .local _ .vmem, ⟨5, _⟩ => ⟨S1024x1024, .bf16⟩
  | .local _ .vmem, ⟨6, _⟩ => ⟨S2048x1024, .bf16⟩
  | .local _ .vmem, ⟨7, _⟩ => ⟨S512x1024, .bf16⟩
  | .local _ .vmem, ⟨8, _⟩ => ⟨S512x1024, .bf16⟩
  | .local _ .vmem, ⟨9, _⟩ => ⟨S512x2560, .f32⟩
  | .local _ .vmem, ⟨10, _⟩ => ⟨S512x2560, .f32⟩
  | .local _ .vmem, ⟨11, _⟩ => ⟨S512x1024, .f32⟩
  | .local _ .vmem, ⟨12, _⟩ => ⟨S512x1024, .f32⟩
  | .local _ .vmem, ⟨13, _⟩ => ⟨S512x2048, .f32⟩
  | .local _ .vmem, ⟨14, _⟩ => ⟨S512x2048, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v4_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2560x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2048x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x2560 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== InIdeal.lean ====
abbrev S2048x1024 : Shape := ⟨2, ![2048, 1024]⟩
abbrev S8x1024 : Shape := ⟨2, ![8, 1024]⟩
abbrev S1x1024 : Shape := ⟨2, ![1, 1024]⟩
abbrev S4624x1024 : Shape := ⟨2, ![4624, 1024]⟩
abbrev S_ : Shape := ⟨0, ![]⟩
abbrev S2048 : Shape := ⟨1, ![2048]⟩
abbrev S2048x1 : Shape := ⟨2, ![2048, 1]⟩
abbrev S1024x4624 : Shape := ⟨2, ![1024, 4624]⟩
abbrev S2048x4624 : Shape := ⟨2, ![2048, 4624]⟩
abbrev S2048x2560 : Shape := ⟨2, ![2048, 2560]⟩
abbrev S2048x16 : Shape := ⟨2, ![2048, 16]⟩
abbrev S2048x16x64 : Shape := ⟨3, ![2048, 16, 64]⟩
abbrev S2048x2048 : Shape := ⟨2, ![2048, 2048]⟩

abbrev nBuf : Space → Nat
  | .hbm => 37
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S8x1024, .f32⟩
  | .hbm, ⟨2, _⟩ => ⟨S1x1024, .f32⟩
  | .hbm, ⟨3, _⟩ => ⟨S4624x1024, .bf16⟩
  | .hbm, ⟨4, _⟩ => ⟨S2048x1024, .f32⟩
  | .hbm, ⟨5, _⟩ => ⟨S_, .f32⟩
  | .hbm, ⟨6, _⟩ => ⟨S2048, .f32⟩
  | .hbm, ⟨7, _⟩ => ⟨S2048x1, .f32⟩
  | .hbm, ⟨8, _⟩ => ⟨S_, .f32⟩
  | .hbm, ⟨9, _⟩ => ⟨S2048x1, .f32⟩
  | .hbm, ⟨10, _⟩ => ⟨S2048x1, .f32⟩
  | .hbm, ⟨11, _⟩ => ⟨S_, .f32⟩
  | .hbm, ⟨12, _⟩ => ⟨S2048x1, .f32⟩
  | .hbm, ⟨13, _⟩ => ⟨S2048x1, .f32⟩
  | .hbm, ⟨14, _⟩ => ⟨S2048x1, .f32⟩
  | .hbm, ⟨15, _⟩ => ⟨S2048x1024, .f32⟩
  | .hbm, ⟨16, _⟩ => ⟨S2048x1024, .f32⟩
  | .hbm, ⟨17, _⟩ => ⟨S2048x1024, .f32⟩
  | .hbm, ⟨18, _⟩ => ⟨S2048x1024, .f32⟩
  | .hbm, ⟨19, _⟩ => ⟨S1x1024, .f32⟩
  | .hbm, ⟨20, _⟩ => ⟨S_, .f32⟩
  | .hbm, ⟨21, _⟩ => ⟨S1x1024, .f32⟩
  | .hbm, ⟨22, _⟩ => ⟨S1x1024, .f32⟩
  | .hbm, ⟨23, _⟩ => ⟨S2048x1024, .f32⟩
  | .hbm, ⟨24, _⟩ => ⟨S2048x1024, .f32⟩
  | .hbm, ⟨25, _⟩ => ⟨S1x1024, .f32⟩
  | .hbm, ⟨26, _⟩ => ⟨S2048x1024, .f32⟩
  | .hbm, ⟨27, _⟩ => ⟨S2048x1024, .f32⟩
  | .hbm, ⟨28, _⟩ => ⟨S1024x4624, .bf16⟩
  | .hbm, ⟨29, _⟩ => ⟨S1024x4624, .f32⟩
  | .hbm, ⟨30, _⟩ => ⟨S2048x4624, .f32⟩
  | .hbm, ⟨31, _⟩ => ⟨S2048x1024, .bf16⟩
  | .hbm, ⟨32, _⟩ => ⟨S2048x2560, .f32⟩
  | .hbm, ⟨33, _⟩ => ⟨S2048x16, .f32⟩
  | .hbm, ⟨34, _⟩ => ⟨S2048x16x64, .f32⟩
  | .hbm, ⟨35, _⟩ => ⟨S2048x1024, .f32⟩
  | .hbm, ⟨36, _⟩ => ⟨S2048x2048, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩

abbrev nD : Nat := 1
abbrev τ : Topo := Topo.v7x

variable {F : FTy → Type} [FloatOps F]
-- ==== Norm2Bwd.lean ====
abbrev S2048x2816 : Shape := ⟨2, ![2048, 2816]⟩
abbrev S5632x1024 : Shape := ⟨2, ![5632, 1024]⟩
abbrev S2048x1024 : Shape := ⟨2, ![2048, 1024]⟩
abbrev S8x1024 : Shape := ⟨2, ![8, 1024]⟩
abbrev S1x1024 : Shape := ⟨2, ![1, 1024]⟩
abbrev S256x2816 : Shape := ⟨2, ![256, 2816]⟩
abbrev S2816x1024 : Shape := ⟨2, ![2816, 1024]⟩
abbrev S256x1024 : Shape := ⟨2, ![256, 1024]⟩
abbrev S256 : Shape := ⟨1, ![256]⟩
abbrev S256x1 : Shape := ⟨2, ![256, 1]⟩
abbrev S1024 : Shape := ⟨1, ![1024]⟩

abbrev nBuf : Space → Nat
  | .hbm => 11
  | .vmem => 19
  | .smem => 0
  | _ => 0

abbrev bufTy : (tb : Table) → Fin (tcTables nBuf tb) → BufTy
  | .hbm, ⟨0, _⟩ => ⟨S2048x2816, .bf16⟩
  | .hbm, ⟨1, _⟩ => ⟨S2048x2816, .bf16⟩
  | .hbm, ⟨2, _⟩ => ⟨S5632x1024, .bf16⟩
  | .hbm, ⟨3, _⟩ => ⟨S2048x1024, .f32⟩
  | .hbm, ⟨4, _⟩ => ⟨S2048x1024, .f32⟩
  | .hbm, ⟨5, _⟩ => ⟨S8x1024, .f32⟩
  | .hbm, ⟨6, _⟩ => ⟨S1x1024, .f32⟩
  | .hbm, ⟨7, _⟩ => ⟨S2048x1024, .f32⟩
  | .hbm, ⟨8, _⟩ => ⟨S2048x1024, .f32⟩
  | .hbm, ⟨9, _⟩ => ⟨S2048x1024, .bf16⟩
  | .hbm, ⟨10, _⟩ => ⟨S8x1024, .f32⟩
  | .local _ .vmem, ⟨0, _⟩ => ⟨S256x2816, .bf16⟩
  | .local _ .vmem, ⟨1, _⟩ => ⟨S256x2816, .bf16⟩
  | .local _ .vmem, ⟨2, _⟩ => ⟨S2816x1024, .bf16⟩
  | .local _ .vmem, ⟨3, _⟩ => ⟨S256x2816, .bf16⟩
  | .local _ .vmem, ⟨4, _⟩ => ⟨S256x2816, .bf16⟩
  | .local _ .vmem, ⟨5, _⟩ => ⟨S2816x1024, .bf16⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S8x1024, .f32⟩
  | .local _ .vmem, ⟨11, _⟩ => ⟨S1x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | .local _ .vmem, ⟨16, _⟩ => ⟨S256x1024, .bf16⟩
  | .local _ .vmem, ⟨17, _⟩ => ⟨S256x1024, .bf16⟩
  | .local _ .vmem, ⟨18, _⟩ => ⟨S8x1024, .f32⟩
  | _, _ => ⟨S2048x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c1_i32 : BitVec 32 := 1#32
  let c0_i32 : BitVec 32 := 0#32
  let c0_i32_0 : BitVec 32 := 0#32
  ![c1_i32.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S8x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S8x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== Norm2GradIdeal.lean ====
abbrev S2048x2816 : Shape := ⟨2, ![2048, 2816]⟩
abbrev S5632x1024 : Shape := ⟨2, ![5632, 1024]⟩
abbrev S2048x1024 : Shape := ⟨2, ![2048, 1024]⟩
abbrev S8x1024 : Shape := ⟨2, ![8, 1024]⟩
abbrev S1x1024 : Shape := ⟨2, ![1, 1024]⟩
abbrev S2048x5632 : Shape := ⟨2, ![2048, 5632]⟩
abbrev S_ : Shape := ⟨0, ![]⟩
abbrev S2048 : Shape := ⟨1, ![2048]⟩
abbrev S2048x1 : Shape := ⟨2, ![2048, 1]⟩
abbrev S1024x5632 : Shape := ⟨2, ![1024, 5632]⟩
abbrev S1024 : Shape := ⟨1, ![1024]⟩
abbrev S4x1024 : Shape := ⟨2, ![4, 1024]⟩

abbrev nBuf : Space → Nat
  | .hbm => 88
  | .vmem => 0
  | .smem => 0
  | _ => 0

abbrev bufTy : (tb : Table) → Fin (tcTables nBuf tb) → BufTy
  | .hbm, ⟨0, _⟩ => ⟨S2048x2816, .bf16⟩
  | .hbm, ⟨1, _⟩ => ⟨S2048x2816, .bf16⟩
  | .hbm, ⟨2, _⟩ => ⟨S5632x1024, .bf16⟩
  | .hbm, ⟨3, _⟩ => ⟨S2048x1024, .f32⟩
  | .hbm, ⟨4, _⟩ => ⟨S2048x1024, .f32⟩
  | .hbm, ⟨5, _⟩ => ⟨S8x1024, .f32⟩
  | .hbm, ⟨6, _⟩ => ⟨S1x1024, .f32⟩
  | .hbm, ⟨7, _⟩ => ⟨S2048x1024, .f32⟩
  | .hbm, ⟨8, _⟩ => ⟨S2048x5632, .bf16⟩
  | .hbm, ⟨9, _⟩ => ⟨S2048x5632, .f32⟩
  | .hbm, ⟨10, _⟩ => ⟨S1x1024, .f32⟩
  | .hbm, ⟨11, _⟩ => ⟨S1x1024, .f32⟩
  | .hbm, ⟨12, _⟩ => ⟨S2048x1024, .f32⟩
  | .hbm, ⟨13, _⟩ => ⟨S_, .f32⟩
  | .hbm, ⟨14, _⟩ => ⟨S2048, .f32⟩
  | .hbm, ⟨15, _⟩ => ⟨S2048x1, .f32⟩
  | .hbm, ⟨16, _⟩ => ⟨S_, .f32⟩
  | .hbm, ⟨17, _⟩ => ⟨S2048x1, .f32⟩
  | .hbm, ⟨18, _⟩ => ⟨S2048x1, .f32⟩
  | .hbm, ⟨19, _⟩ => ⟨S_, .f32⟩
  | .hbm, ⟨20, _⟩ => ⟨S2048x1, .f32⟩
  | .hbm, ⟨21, _⟩ => ⟨S2048x1, .f32⟩
  | .hbm, ⟨22, _⟩ => ⟨S2048x1, .f32⟩
  | .hbm, ⟨23, _⟩ => ⟨S2048x1, .f32⟩
  | .hbm, ⟨24, _⟩ => ⟨S_, .f32⟩
  | .hbm, ⟨25, _⟩ => ⟨S2048x1, .f32⟩
  | .hbm, ⟨26, _⟩ => ⟨S2048x1, .f32⟩
  | .hbm, ⟨27, _⟩ => ⟨S2048x1024, .f32⟩
  | .hbm, ⟨28, _⟩ => ⟨S2048x1024, .f32⟩
  | .hbm, ⟨29, _⟩ => ⟨S2048x1024, .f32⟩
  | .hbm, ⟨30, _⟩ => ⟨S2048x1024, .f32⟩
  | .hbm, ⟨31, _⟩ => ⟨S_, .f32⟩
  | .hbm, ⟨32, _⟩ => ⟨S1x1024, .f32⟩
  | .hbm, ⟨33, _⟩ => ⟨S1x1024, .f32⟩
  | .hbm, ⟨34, _⟩ => ⟨S2048x1024, .f32⟩
  | .hbm, ⟨35, _⟩ => ⟨S2048x1024, .f32⟩
  | .hbm, ⟨36, _⟩ => ⟨S2048x1024, .f32⟩
  | .hbm, ⟨37, _⟩ => ⟨S2048x1024, .f32⟩
  | .hbm, ⟨38, _⟩ => ⟨S1024x5632, .bf16⟩
  | .hbm, ⟨39, _⟩ => ⟨S1024x5632, .f32⟩
  | .hbm, ⟨40, _⟩ => ⟨S2048x5632, .f32⟩
  | .hbm, ⟨41, _⟩ => ⟨S2048x1024, .f32⟩
  | .hbm, ⟨42, _⟩ => ⟨S_, .f32⟩
  | .hbm, ⟨43, _⟩ => ⟨S1024, .f32⟩
  | .hbm, ⟨44, _⟩ => ⟨S1x1024, .f32⟩
  | .hbm, ⟨45, _⟩ => ⟨S2048x1024, .f32⟩
  | .hbm, ⟨46, _⟩ => ⟨S_, .f32⟩
  | .hbm, ⟨47, _⟩ => ⟨S1024, .f32⟩
  | .hbm, ⟨48, _⟩ => ⟨S1x1024, .f32⟩
  | .hbm, ⟨49, _⟩ => ⟨S2048x1024, .f32⟩
  | .hbm, ⟨50, _⟩ => ⟨S2048x1024, .f32⟩
  | .hbm, ⟨51, _⟩ => ⟨S2048x1024, .f32⟩
  | .hbm, ⟨52, _⟩ => ⟨S_, .f32⟩
  | .hbm, ⟨53, _⟩ => ⟨S1024, .f32⟩
  | .hbm, ⟨54, _⟩ => ⟨S1x1024, .f32⟩
  | .hbm, ⟨55, _⟩ => ⟨S2048x1024, .f32⟩
  | .hbm, ⟨56, _⟩ => ⟨S2048x1024, .f32⟩
  | .hbm, ⟨57, _⟩ => ⟨S2048x1024, .f32⟩
  | .hbm, ⟨58, _⟩ => ⟨S_, .f32⟩
  | .hbm, ⟨59, _⟩ => ⟨S2048, .f32⟩
  | .hbm, ⟨60, _⟩ => ⟨S2048x1, .f32⟩
  | .hbm, ⟨61, _⟩ => ⟨S2048x1024, .f32⟩
  | .hbm, ⟨62, _⟩ => ⟨S2048x1024, .f32⟩
  | .hbm, ⟨63, _⟩ => ⟨S2048x1, .f32⟩
  | .hbm, ⟨64, _⟩ => ⟨S_, .f32⟩
  | .hbm, ⟨65, _⟩ => ⟨S2048x1, .f32⟩
  | .hbm, ⟨66, _⟩ => ⟨S2048x1, .f32⟩
  | .hbm, ⟨67, _⟩ => ⟨S_, .f32⟩
  | .hbm, ⟨68, _⟩ => ⟨S2048, .f32⟩
  | .hbm, ⟨69, _⟩ => ⟨S2048x1024, .f32⟩
  | .hbm, ⟨70, _⟩ => ⟨S2048x1024, .f32⟩
  | .hbm, ⟨71, _⟩ => ⟨S2048x1024, .f32⟩
  | .hbm, ⟨72, _⟩ => ⟨S2048x1024, .f32⟩
  | .hbm, ⟨73, _⟩ => ⟨S2048x1024, .f32⟩
  | .hbm, ⟨74, _⟩ => ⟨S2048x1024, .f32⟩
  | .hbm, ⟨75, _⟩ => ⟨S1x1024, .f32⟩
  | .hbm, ⟨76, _⟩ => ⟨S2048x1024, .f32⟩
  | .hbm, ⟨77, _⟩ => ⟨S2048x1024, .f32⟩
  | .hbm, ⟨78, _⟩ => ⟨S2048x1024, .f32⟩
  | .hbm, ⟨79, _⟩ => ⟨S2048x1024, .f32⟩
  | .hbm, ⟨80, _⟩ => ⟨S2048x1024, .f32⟩
  | .hbm, ⟨81, _⟩ => ⟨S_, .f32⟩
  | .hbm, ⟨82, _⟩ => ⟨S1024, .f32⟩
  | .hbm, ⟨83, _⟩ => ⟨S1x1024, .f32⟩
  | .hbm, ⟨84, _⟩ => ⟨S2048x1024, .bf16⟩
  | .hbm, ⟨85, _⟩ => ⟨S_, .f32⟩
  | .hbm, ⟨86, _⟩ => ⟨S4x1024, .f32⟩
  | .hbm, ⟨87, _⟩ => ⟨S8x1024, .f32⟩
  | _, _ => ⟨S2048x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst : Ref sig .tc := ⟨.hbm, 13, rfl⟩
abbrev main_v5 : Ref sig .tc := ⟨.hbm, 14, rfl⟩
abbrev main_v6 : Ref sig .tc := ⟨.hbm, 15, rfl⟩
abbrev main_cst_0 : Ref sig .tc := ⟨.hbm, 16, rfl⟩
abbrev main_v7 : Ref sig .tc := ⟨.hbm, 17, rfl⟩
abbrev main_v8 : Ref sig .tc := ⟨.hbm, 18, rfl⟩
abbrev main_cst_1 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_3 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_4 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_cst_5 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_6 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_cst_7 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_cst_8 : Ref sig .tc := ⟨.hbm, 64, rfl⟩
abbrev main_v47 : Ref sig .tc := ⟨.hbm, 65, rfl⟩
abbrev main_v48 : Ref sig .tc := ⟨.hbm, 66, rfl⟩
abbrev main_cst_9 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_cst_10 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_cst_11 : Ref sig .tc := ⟨.hbm, 85, rfl⟩
abbrev main_v65 : Ref sig .tc := ⟨.hbm, 86, rfl⟩
abbrev main_v66 : Ref sig .tc := ⟨.hbm, 87, rfl⟩

abbrev nD : Nat := 1
abbrev τ : Topo := Topo.v7x

variable {F : FTy → Type} [FloatOps F]
-- ==== Norm1Bwd.lean ====
abbrev S2048x1024 : Shape := ⟨2, ![2048, 1024]⟩
abbrev S2048x128 : Shape := ⟨2, ![2048, 128]⟩
abbrev S2048x1536 : Shape := ⟨2, ![2048, 1536]⟩
abbrev S4624x1024 : Shape := ⟨2, ![4624, 1024]⟩
abbrev S8x1024 : Shape := ⟨2, ![8, 1024]⟩
abbrev S1x1024 : Shape := ⟨2, ![1, 1024]⟩
abbrev S16x1024 : Shape := ⟨2, ![16, 1024]⟩
abbrev S_ : Shape := ⟨0, ![]⟩
abbrev S128x1024 : Shape := ⟨2, ![128, 1024]⟩
abbrev S1536x1024 : Shape := ⟨2, ![1536, 1024]⟩
abbrev S256x1024 : Shape := ⟨2, ![256, 1024]⟩
abbrev S1024x1024 : Shape := ⟨2, ![1024, 1024]⟩
abbrev S256x128 : Shape := ⟨2, ![256, 128]⟩
abbrev S256x1536 : Shape := ⟨2, ![256, 1536]⟩
abbrev S256 : Shape := ⟨1, ![256]⟩
abbrev S256x1 : Shape := ⟨2, ![256, 1]⟩
abbrev S1024 : Shape := ⟨1, ![1024]⟩

abbrev nBuf : Space → Nat
  | .hbm => 18
  | .vmem => 24
  | .smem => 0
  | _ => 0

abbrev bufTy : (tb : Table) → Fin (tcTables nBuf tb) → BufTy
  | .hbm, ⟨0, _⟩ => ⟨S2048x1024, .bf16⟩
  | .hbm, ⟨1, _⟩ => ⟨S2048x128, .bf16⟩
  | .hbm, ⟨2, _⟩ => ⟨S2048x1024, .bf16⟩
  | .hbm, ⟨3, _⟩ => ⟨S2048x1024, .bf16⟩
  | .hbm, ⟨4, _⟩ => ⟨S2048x1536, .bf16⟩
  | .hbm, ⟨5, _⟩ => ⟨S4624x1024, .bf16⟩
  | .hbm, ⟨6, _⟩ => ⟨S2048x1024, .f32⟩
  | .hbm, ⟨7, _⟩ => ⟨S2048x1024, .f32⟩
  | .hbm, ⟨8, _⟩ => ⟨S8x1024, .f32⟩
  | .hbm, ⟨9, _⟩ => ⟨S1x1024, .f32⟩
  | .hbm, ⟨10, _⟩ => ⟨S16x1024, .bf16⟩
  | .hbm, ⟨11, _⟩ => ⟨S2048x1024, .bf16⟩
  | .hbm, ⟨12, _⟩ => ⟨S_, .i32⟩
  | .hbm, ⟨13, _⟩ => ⟨S_, .bf16⟩
  | .hbm, ⟨14, _⟩ => ⟨S128x1024, .bf16⟩
  | .hbm, ⟨15, _⟩ => ⟨S1536x1024, .bf16⟩
  | .hbm, ⟨16, _⟩ => ⟨S2048x1024, .f32⟩
  | .hbm, ⟨17, _⟩ => ⟨S8x1024, .f32⟩
  | .local _ .vmem, ⟨0, _⟩ => ⟨S256x1024, .bf16⟩
  | .local _ .vmem, ⟨1, _⟩ => ⟨S256x1024, .bf16⟩
  | .local _ .vmem, ⟨2, _⟩ => ⟨S1024x1024, .bf16⟩
  | .local _ .vmem, ⟨3, _⟩ => ⟨S256x128, .bf16⟩
  | .local _ .vmem, ⟨4, _⟩ => ⟨S256x128, .bf16⟩
  | .local _ .vmem, ⟨5, _⟩ => ⟨S128x1024, .bf16⟩
  | .local _ .vmem, ⟨6, _⟩ => ⟨S256x1024, .bf16⟩
  | .local _ .vmem, ⟨7, _⟩ => ⟨S256x1024, .bf16⟩
  | .local _ .vmem, ⟨8, _⟩ => ⟨S1024x1024, .bf16⟩
  | .local _ .vmem, ⟨9, _⟩ => ⟨S256x1024, .bf16⟩
  | .local _ .vmem, ⟨10, _⟩ => ⟨S256x1024, .bf16⟩
  | .local _ .vmem, ⟨11, _⟩ => ⟨S1024x1024, .bf16⟩
  | .local _ .vmem, ⟨12, _⟩ => ⟨S256x1536, .bf16⟩
  | .local _ .vmem, ⟨13, _⟩ => ⟨S256x1536, .bf16⟩
  | .local _ .vmem, ⟨14, _⟩ => ⟨S1536x1024, .bf16⟩
  | .local _ .vmem, ⟨15, _⟩ => ⟨S256x1024, .f32⟩
  | .local _ .vmem, ⟨16, _⟩ => ⟨S256x1024, .f32⟩
  | .local _ .vmem, ⟨17, _⟩ => ⟨S256x1024, .f32⟩
  | .local _ .vmem, ⟨18, _⟩ => ⟨S256x1024, .f32⟩
  | .local _ .vmem, ⟨19, _⟩ => ⟨S8x1024, .f32⟩
  | .local _ .vmem, ⟨20, _⟩ => ⟨S1x1024, .f32⟩
  | .local _ .vmem, ⟨21, _⟩ => ⟨S256x1024, .f32⟩
  | .local _ .vmem, ⟨22, _⟩ => ⟨S256x1024, .f32⟩
  | .local _ .vmem, ⟨23, _⟩ => ⟨S8x1024, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_c : Ref sig .tc := ⟨.hbm, 12, rfl⟩
abbrev main_call0_v0 : Ref sig .tc := ⟨.hbm, 13, rfl⟩
abbrev main_v2 : Ref sig .tc := ⟨.hbm, 14, rfl⟩
abbrev main_v3 : Ref sig .tc := ⟨.hbm, 15, rfl⟩
abbrev main_v4_0 : Ref sig .tc := ⟨.hbm, 16, rfl⟩
abbrev main_v4_1 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg13_0 : Ref sig .tc := ⟨.vmem, 20, rfl⟩
abbrev cc0_stg14_0 : Ref sig .tc := ⟨.vmem, 21, rfl⟩
abbrev cc0_stg14_1 : Ref sig .tc := ⟨.vmem, 22, rfl⟩
abbrev cc0_stg15_0 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem13_0 : DmaSem sig := 20
abbrev cc0_sem14_0 : DmaSem sig := 21
abbrev cc0_sem14_1 : DmaSem sig := 22
abbrev cc0_sem15_0 : DmaSem sig := 23

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c1_i32 : BitVec 32 := 1#32
  let c0_i32 : BitVec 32 := 0#32
  let c0_i32_0 : BitVec 32 := 0#32
  ![c1_i32.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x1536 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1536x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S8x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S256x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 1 → Memref sig .tc .vmem S8x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]
-- ==== Norm1GradIdeal.lean ====
abbrev S2048x1024 : Shape := ⟨2, ![2048, 1024]⟩
abbrev S2048x128 : Shape := ⟨2, ![2048, 128]⟩
abbrev S2048x1536 : Shape := ⟨2, ![2048, 1536]⟩
abbrev S4624x1024 : Shape := ⟨2, ![4624, 1024]⟩
abbrev S8x1024 : Shape := ⟨2, ![8, 1024]⟩
abbrev S1x1024 : Shape := ⟨2, ![1, 1024]⟩
abbrev S2048x16 : Shape := ⟨2, ![2048, 16]⟩
abbrev S2048x4624 : Shape := ⟨2, ![2048, 4624]⟩
abbrev S_ : Shape := ⟨0, ![]⟩
abbrev S2048 : Shape := ⟨1, ![2048]⟩
abbrev S2048x1 : Shape := ⟨2, ![2048, 1]⟩
abbrev S1024x4624 : Shape := ⟨2, ![1024, 4624]⟩
abbrev S1024 : Shape := ⟨1, ![1024]⟩
abbrev S5x1024 : Shape := ⟨2, ![5, 1024]⟩

abbrev nBuf : Space → Nat
  | .hbm => 81
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2048x128, .bf16⟩
  | .hbm, ⟨2, _⟩ => ⟨S2048x1024, .bf16⟩
  | .hbm, ⟨3, _⟩ => ⟨S2048x1024, .bf16⟩
  | .hbm, ⟨4, _⟩ => ⟨S2048x1536, .bf16⟩
  | .hbm, ⟨5, _⟩ => ⟨S4624x1024, .bf16⟩
  | .hbm, ⟨6, _⟩ => ⟨S2048x1024, .f32⟩
  | .hbm, ⟨7, _⟩ => ⟨S2048x1024, .f32⟩
  | .hbm, ⟨8, _⟩ => ⟨S8x1024, .f32⟩
  | .hbm, ⟨9, _⟩ => ⟨S1x1024, .f32⟩
  | .hbm, ⟨10, _⟩ => ⟨S2048x16, .bf16⟩
  | .hbm, ⟨11, _⟩ => ⟨S2048x4624, .bf16⟩
  | .hbm, ⟨12, _⟩ => ⟨S2048x4624, .f32⟩
  | .hbm, ⟨13, _⟩ => ⟨S1x1024, .f32⟩
  | .hbm, ⟨14, _⟩ => ⟨S1x1024, .f32⟩
  | .hbm, ⟨15, _⟩ => ⟨S2048x1024, .f32⟩
  | .hbm, ⟨16, _⟩ => ⟨S_, .f32⟩
  | .hbm, ⟨17, _⟩ => ⟨S2048, .f32⟩
  | .hbm, ⟨18, _⟩ => ⟨S2048x1, .f32⟩
  | .hbm, ⟨19, _⟩ => ⟨S_, .f32⟩
  | .hbm, ⟨20, _⟩ => ⟨S2048x1, .f32⟩
  | .hbm, ⟨21, _⟩ => ⟨S2048x1, .f32⟩
  | .hbm, ⟨22, _⟩ => ⟨S_, .f32⟩
  | .hbm, ⟨23, _⟩ => ⟨S2048x1, .f32⟩
  | .hbm, ⟨24, _⟩ => ⟨S2048x1, .f32⟩
  | .hbm, ⟨25, _⟩ => ⟨S2048x1, .f32⟩
  | .hbm, ⟨26, _⟩ => ⟨S2048x1, .f32⟩
  | .hbm, ⟨27, _⟩ => ⟨S_, .f32⟩
  | .hbm, ⟨28, _⟩ => ⟨S2048x1, .f32⟩
  | .hbm, ⟨29, _⟩ => ⟨S2048x1, .f32⟩
  | .hbm, ⟨30, _⟩ => ⟨S2048x1024, .f32⟩
  | .hbm, ⟨31, _⟩ => ⟨S2048x1024, .f32⟩
  | .hbm, ⟨32, _⟩ => ⟨S2048x1024, .f32⟩
  | .hbm, ⟨33, _⟩ => ⟨S2048x1024, .f32⟩
  | .hbm, ⟨34, _⟩ => ⟨S_, .f32⟩
  | .hbm, ⟨35, _⟩ => ⟨S1x1024, .f32⟩
  | .hbm, ⟨36, _⟩ => ⟨S1x1024, .f32⟩
  | .hbm, ⟨37, _⟩ => ⟨S2048x1024, .f32⟩
  | .hbm, ⟨38, _⟩ => ⟨S2048x1024, .f32⟩
  | .hbm, ⟨39, _⟩ => ⟨S2048x1024, .f32⟩
  | .hbm, ⟨40, _⟩ => ⟨S2048x1024, .f32⟩
  | .hbm, ⟨41, _⟩ => ⟨S1024x4624, .bf16⟩
  | .hbm, ⟨42, _⟩ => ⟨S1024x4624, .f32⟩
  | .hbm, ⟨43, _⟩ => ⟨S2048x4624, .f32⟩
  | .hbm, ⟨44, _⟩ => ⟨S2048x1024, .f32⟩
  | .hbm, ⟨45, _⟩ => ⟨S_, .f32⟩
  | .hbm, ⟨46, _⟩ => ⟨S1024, .f32⟩
  | .hbm, ⟨47, _⟩ => ⟨S1x1024, .f32⟩
  | .hbm, ⟨48, _⟩ => ⟨S2048x1024, .f32⟩
  | .hbm, ⟨49, _⟩ => ⟨S_, .f32⟩
  | .hbm, ⟨50, _⟩ => ⟨S1024, .f32⟩
  | .hbm, ⟨51, _⟩ => ⟨S1x1024, .f32⟩
  | .hbm, ⟨52, _⟩ => ⟨S2048x1024, .f32⟩
  | .hbm, ⟨53, _⟩ => ⟨S2048x1024, .f32⟩
  | .hbm, ⟨54, _⟩ => ⟨S2048x1024, .f32⟩
  | .hbm, ⟨55, _⟩ => ⟨S_, .f32⟩
  | .hbm, ⟨56, _⟩ => ⟨S1024, .f32⟩
  | .hbm, ⟨57, _⟩ => ⟨S1x1024, .f32⟩
  | .hbm, ⟨58, _⟩ => ⟨S2048x1024, .f32⟩
  | .hbm, ⟨59, _⟩ => ⟨S2048x1024, .f32⟩
  | .hbm, ⟨60, _⟩ => ⟨S2048x1024, .f32⟩
  | .hbm, ⟨61, _⟩ => ⟨S_, .f32⟩
  | .hbm, ⟨62, _⟩ => ⟨S2048, .f32⟩
  | .hbm, ⟨63, _⟩ => ⟨S2048x1, .f32⟩
  | .hbm, ⟨64, _⟩ => ⟨S2048x1024, .f32⟩
  | .hbm, ⟨65, _⟩ => ⟨S2048x1024, .f32⟩
  | .hbm, ⟨66, _⟩ => ⟨S2048x1, .f32⟩
  | .hbm, ⟨67, _⟩ => ⟨S_, .f32⟩
  | .hbm, ⟨68, _⟩ => ⟨S2048x1, .f32⟩
  | .hbm, ⟨69, _⟩ => ⟨S2048x1, .f32⟩
  | .hbm, ⟨70, _⟩ => ⟨S_, .f32⟩
  | .hbm, ⟨71, _⟩ => ⟨S2048, .f32⟩
  | .hbm, ⟨72, _⟩ => ⟨S2048x1024, .f32⟩
  | .hbm, ⟨73, _⟩ => ⟨S2048x1024, .f32⟩
  | .hbm, ⟨74, _⟩ => ⟨S2048x1024, .f32⟩
  | .hbm, ⟨75, _⟩ => ⟨S2048x1024, .f32⟩
  | .hbm, ⟨76, _⟩ => ⟨S2048x1024, .f32⟩
  | .hbm, ⟨77, _⟩ => ⟨S2048x1024, .f32⟩
  | .hbm, ⟨78, _⟩ => ⟨S_, .f32⟩
  | .hbm, ⟨79, _⟩ => ⟨S5x1024, .f32⟩
  | .hbm, ⟨80, _⟩ => ⟨S8x1024, .f32⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_cst : Ref sig .tc := ⟨.hbm, 16, rfl⟩
abbrev main_v6 : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_cst_1 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_2 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_3 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_cst_4 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_cst_5 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_cst_6 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_7 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_cst_8 : Ref sig .tc := ⟨.hbm, 67, rfl⟩
abbrev main_v48 : Ref sig .tc := ⟨.hbm, 68, rfl⟩
abbrev main_v49 : Ref sig .tc := ⟨.hbm, 69, rfl⟩
abbrev main_cst_9 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_cst_10 : Ref sig .tc := ⟨.hbm, 78, rfl⟩
abbrev main_v57 : Ref sig .tc := ⟨.hbm, 79, rfl⟩
abbrev main_v58 : Ref sig .tc := ⟨.hbm, 80, rfl⟩

abbrev nD : Nat := 1
abbrev τ : Topo := Topo.v7x

variable {F : FTy → Type} [FloatOps F]
-- ==== AdamIn.lean ====
abbrev S1x1024x578 : Shape := ⟨3, ![1, 1024, 578]⟩
abbrev S8x578x1024 : Shape := ⟨3, ![8, 578, 1024]⟩
abbrev S1x578x1024 : Shape := ⟨3, ![1, 578, 1024]⟩
abbrev S578x1024 : Shape := ⟨2, ![578, 1024]⟩
abbrev S578x512 : Shape := ⟨2, ![578, 512]⟩
abbrev S8x578x512 : Shape := ⟨3, ![8, 578, 512]⟩
abbrev S1x578x512 : Shape := ⟨3, ![1, 578, 512]⟩

abbrev nBuf : Space → Nat
  | .hbm => 14
  | .vmem => 16
  | .smem => 0
  | _ => 0

abbrev bufTy : (tb : Table) → Fin (tcTables nBuf tb) → BufTy
  | .hbm, ⟨0, _⟩ => ⟨S1x1024x578, .f32⟩
  | .hbm, ⟨1, _⟩ => ⟨S8x578x1024, .bf16⟩
  | .hbm, ⟨2, _⟩ => ⟨S1x1024x578, .f32⟩
  | .hbm, ⟨3, _⟩ => ⟨S1x1024x578, .f32⟩
  | .hbm, ⟨4, _⟩ => ⟨S1x578x1024, .f32⟩
  | .hbm, ⟨5, _⟩ => ⟨S578x1024, .f32⟩
  | .hbm, ⟨6, _⟩ => ⟨S1x578x1024, .f32⟩
  | .hbm, ⟨7, _⟩ => ⟨S578x1024, .f32⟩
  | .hbm, ⟨8, _⟩ => ⟨S1x578x1024, .f32⟩
  | .hbm, ⟨9, _⟩ => ⟨S578x1024, .f32⟩
  | .hbm, ⟨10, _⟩ => ⟨S578x1024, .f32⟩
  | .hbm, ⟨11, _⟩ => ⟨S578x1024, .f32⟩
  | .hbm, ⟨12, _⟩ => ⟨S578x1024, .f32⟩
  | .hbm, ⟨13, _⟩ => ⟨S578x1024, .f32⟩
  | .local _ .vmem, ⟨0, _⟩ => ⟨S578x512, .f32⟩
  | .local _ .vmem, ⟨1, _⟩ => ⟨S578x512, .f32⟩
  | .local _ .vmem, ⟨2, _⟩ => ⟨S8x578x512, .bf16⟩
  | .local _ .vmem, ⟨3, _⟩ => ⟨S8x578x512, .bf16⟩
  | .local _ .vmem, ⟨4, _⟩ => ⟨S578x512, .f32⟩
  | .local _ .vmem, ⟨5, _⟩ => ⟨S578x512, .f32⟩
  | .local _ .vmem, ⟨6, _⟩ => ⟨S578x512, .f32⟩
  | .local _ .vmem, ⟨7, _⟩ => ⟨S578x512, .f32⟩
  | .local _ .vmem, ⟨8, _⟩ => ⟨S578x512, .f32⟩
  | .local _ .vmem, ⟨9, _⟩ => ⟨S578x512, .f32⟩
  | .local _ .vmem, ⟨10, _⟩ => ⟨S578x512, .f32⟩
  | .local _ .vmem, ⟨11, _⟩ => ⟨S578x512, .f32⟩
  | .local _ .vmem, ⟨12, _⟩ => ⟨S578x512, .f32⟩
  | .local _ .vmem, ⟨13, _⟩ => ⟨S578x512, .f32⟩
  | .local _ .vmem, ⟨14, _⟩ => ⟨S578x512, .f32⟩
  | .local _ .vmem, ⟨15, _⟩ => ⟨S578x512, .f32⟩
  | _, _ => ⟨S1x1024x578, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6_0 : Ref sig .tc := ⟨.hbm, 10, rfl⟩
abbrev main_v6_1 : Ref sig .tc := ⟨.hbm, 11, rfl⟩
abbrev main_v6_2 : Ref sig .tc := ⟨.hbm, 12, rfl⟩
abbrev main_v6_3 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S578x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x578x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S578x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S578x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S578x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S578x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S578x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S578x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== StepInIdeal.lean ====
abbrev S1x1024x578 : Shape := ⟨3, ![1, 1024, 578]⟩
abbrev S8x578x1024 : Shape := ⟨3, ![8, 578, 1024]⟩
abbrev S_ : Shape := ⟨0, ![]⟩
abbrev S578x1024 : Shape := ⟨2, ![578, 1024]⟩
abbrev S1024x578 : Shape := ⟨2, ![1024, 578]⟩

abbrev nBuf : Space → Nat
  | .hbm => 46
  | .vmem => 0
  | .smem => 0
  | _ => 0

abbrev bufTy : (tb : Table) → Fin (tcTables nBuf tb) → BufTy
  | .hbm, ⟨0, _⟩ => ⟨S1x1024x578, .f32⟩
  | .hbm, ⟨1, _⟩ => ⟨S8x578x1024, .bf16⟩
  | .hbm, ⟨2, _⟩ => ⟨S1x1024x578, .f32⟩
  | .hbm, ⟨3, _⟩ => ⟨S1x1024x578, .f32⟩
  | .hbm, ⟨4, _⟩ => ⟨S8x578x1024, .f32⟩
  | .hbm, ⟨5, _⟩ => ⟨S_, .f32⟩
  | .hbm, ⟨6, _⟩ => ⟨S578x1024, .f32⟩
  | .hbm, ⟨7, _⟩ => ⟨S1024x578, .f32⟩
  | .hbm, ⟨8, _⟩ => ⟨S578x1024, .f32⟩
  | .hbm, ⟨9, _⟩ => ⟨S1024x578, .f32⟩
  | .hbm, ⟨10, _⟩ => ⟨S578x1024, .f32⟩
  | .hbm, ⟨11, _⟩ => ⟨S1024x578, .f32⟩
  | .hbm, ⟨12, _⟩ => ⟨S578x1024, .f32⟩
  | .hbm, ⟨13, _⟩ => ⟨S_, .f32⟩
  | .hbm, ⟨14, _⟩ => ⟨S578x1024, .f32⟩
  | .hbm, ⟨15, _⟩ => ⟨S578x1024, .f32⟩
  | .hbm, ⟨16, _⟩ => ⟨S_, .f32⟩
  | .hbm, ⟨17, _⟩ => ⟨S578x1024, .f32⟩
  | .hbm, ⟨18, _⟩ => ⟨S578x1024, .f32⟩
  | .hbm, ⟨19, _⟩ => ⟨S578x1024, .f32⟩
  | .hbm, ⟨20, _⟩ => ⟨S_, .f32⟩
  | .hbm, ⟨21, _⟩ => ⟨S578x1024, .f32⟩
  | .hbm, ⟨22, _⟩ => ⟨S578x1024, .f32⟩
  | .hbm, ⟨23, _⟩ => ⟨S578x1024, .f32⟩
  | .hbm, ⟨24, _⟩ => ⟨S_, .f32⟩
  | .hbm, ⟨25, _⟩ => ⟨S578x1024, .f32⟩
  | .hbm, ⟨26, _⟩ => ⟨S578x1024, .f32⟩
  | .hbm, ⟨27, _⟩ => ⟨S578x1024, .f32⟩
  | .hbm, ⟨28, _⟩ => ⟨S_, .f32⟩
  | .hbm, ⟨29, _⟩ => ⟨S578x1024, .f32⟩
  | .hbm, ⟨30, _⟩ => ⟨S578x1024, .f32⟩
  | .hbm, ⟨31, _⟩ => ⟨S_, .f32⟩
  | .hbm, ⟨32, _⟩ => ⟨S578x1024, .f32⟩
  | .hbm, ⟨33, _⟩ => ⟨S578x1024, .f32⟩
  | .hbm, ⟨34, _⟩ => ⟨S578x1024, .f32⟩
  | .hbm, ⟨35, _⟩ => ⟨S_, .f32⟩
  | .hbm, ⟨36, _⟩ => ⟨S578x1024, .f32⟩
  | .hbm, ⟨37, _⟩ => ⟨S578x1024, .f32⟩
  | .hbm, ⟨38, _⟩ => ⟨S578x1024, .f32⟩
  | .hbm, ⟨39, _⟩ => ⟨S_, .f32⟩
  | .hbm, ⟨40, _⟩ => ⟨S578x1024, .f32⟩
  | .hbm, ⟨41, _⟩ => ⟨S578x1024, .f32⟩
  | .hbm, ⟨42, _⟩ => ⟨S578x1024, .f32⟩
  | .hbm, ⟨43, _⟩ => ⟨S_, .f32⟩
  | .hbm, ⟨44, _⟩ => ⟨S578x1024, .f32⟩
  | .hbm, ⟨45, _⟩ => ⟨S578x1024, .f32⟩
  | _, _ => ⟨S1x1024x578, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_4 : Ref sig .tc := ⟨.hbm, 28, rfl⟩
abbrev main_v19 : Ref sig .tc := ⟨.hbm, 29, rfl⟩
abbrev main_v20 : Ref sig .tc := ⟨.hbm, 30, rfl⟩
abbrev main_cst_5 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_6 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_7 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_8 : Ref sig .tc := ⟨.hbm, 43, rfl⟩
abbrev main_v30 : Ref sig .tc := ⟨.hbm, 44, rfl⟩
abbrev main_v31 : Ref sig .tc := ⟨.hbm, 45, rfl⟩

abbrev nD : Nat := 1
abbrev τ : Topo := Topo.v7x

variable {F : FTy → Type} [FloatOps F]
-- ==== AdamUp.lean ====
abbrev S1x1024x704 : Shape := ⟨3, ![1, 1024, 704]⟩
abbrev S8x704x1024 : Shape := ⟨3, ![8, 704, 1024]⟩
abbrev S1x704x1024 : Shape := ⟨3, ![1, 704, 1024]⟩
abbrev S704x1024 : Shape := ⟨2, ![704, 1024]⟩
abbrev S704x512 : Shape := ⟨2, ![704, 512]⟩
abbrev S8x704x512 : Shape := ⟨3, ![8, 704, 512]⟩
abbrev S1x704x512 : Shape := ⟨3, ![1, 704, 512]⟩

abbrev nBuf : Space → Nat
  | .hbm => 14
  | .vmem => 16
  | .smem => 0
  | _ => 0

abbrev bufTy : (tb : Table) → Fin (tcTables nBuf tb) → BufTy
  | .hbm, ⟨0, _⟩ => ⟨S1x1024x704, .f32⟩
  | .hbm, ⟨1, _⟩ => ⟨S8x704x1024, .bf16⟩
  | .hbm, ⟨2, _⟩ => ⟨S1x1024x704, .f32⟩
  | .hbm, ⟨3, _⟩ => ⟨S1x1024x704, .f32⟩
  | .hbm, ⟨4, _⟩ => ⟨S1x704x1024, .f32⟩
  | .hbm, ⟨5, _⟩ => ⟨S704x1024, .f32⟩
  | .hbm, ⟨6, _⟩ => ⟨S1x704x1024, .f32⟩
  | .hbm, ⟨7, _⟩ => ⟨S704x1024, .f32⟩
  | .hbm, ⟨8, _⟩ => ⟨S1x704x1024, .f32⟩
  | .hbm, ⟨9, _⟩ => ⟨S704x1024, .f32⟩
  | .hbm, ⟨10, _⟩ => ⟨S704x1024, .f32⟩
  | .hbm, ⟨11, _⟩ => ⟨S704x1024, .f32⟩
  | .hbm, ⟨12, _⟩ => ⟨S704x1024, .f32⟩
  | .hbm, ⟨13, _⟩ => ⟨S704x1024, .f32⟩
  | .local _ .vmem, ⟨0, _⟩ => ⟨S704x512, .f32⟩
  | .local _ .vmem, ⟨1, _⟩ => ⟨S704x512, .f32⟩
  | .local _ .vmem, ⟨2, _⟩ => ⟨S8x704x512, .bf16⟩
  | .local _ .vmem, ⟨3, _⟩ => ⟨S8x704x512, .bf16⟩
  | .local _ .vmem, ⟨4, _⟩ => ⟨S704x512, .f32⟩
  | .local _ .vmem, ⟨5, _⟩ => ⟨S704x512, .f32⟩
  | .local _ .vmem, ⟨6, _⟩ => ⟨S704x512, .f32⟩
  | .local _ .vmem, ⟨7, _⟩ => ⟨S704x512, .f32⟩
  | .local _ .vmem, ⟨8, _⟩ => ⟨S704x512, .f32⟩
  | .local _ .vmem, ⟨9, _⟩ => ⟨S704x512, .f32⟩
  | .local _ .vmem, ⟨10, _⟩ => ⟨S704x512, .f32⟩
  | .local _ .vmem, ⟨11, _⟩ => ⟨S704x512, .f32⟩
  | .local _ .vmem, ⟨12, _⟩ => ⟨S704x512, .f32⟩
  | .local _ .vmem, ⟨13, _⟩ => ⟨S704x512, .f32⟩
  | .local _ .vmem, ⟨14, _⟩ => ⟨S704x512, .f32⟩
  | .local _ .vmem, ⟨15, _⟩ => ⟨S704x512, .f32⟩
  | _, _ => ⟨S1x1024x704, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6_0 : Ref sig .tc := ⟨.hbm, 10, rfl⟩
abbrev main_v6_1 : Ref sig .tc := ⟨.hbm, 11, rfl⟩
abbrev main_v6_2 : Ref sig .tc := ⟨.hbm, 12, rfl⟩
abbrev main_v6_3 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S704x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x704x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S704x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S704x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S704x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S704x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S704x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S704x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== StepUpIdeal.lean ====
abbrev S1x1024x704 : Shape := ⟨3, ![1, 1024, 704]⟩
abbrev S8x704x1024 : Shape := ⟨3, ![8, 704, 1024]⟩
abbrev S_ : Shape := ⟨0, ![]⟩
abbrev S704x1024 : Shape := ⟨2, ![704, 1024]⟩
abbrev S1024x704 : Shape := ⟨2, ![1024, 704]⟩

abbrev nBuf : Space → Nat
  | .hbm => 46
  | .vmem => 0
  | .smem => 0
  | _ => 0

abbrev bufTy : (tb : Table) → Fin (tcTables nBuf tb) → BufTy
  | .hbm, ⟨0, _⟩ => ⟨S1x1024x704, .f32⟩
  | .hbm, ⟨1, _⟩ => ⟨S8x704x1024, .bf16⟩
  | .hbm, ⟨2, _⟩ => ⟨S1x1024x704, .f32⟩
  | .hbm, ⟨3, _⟩ => ⟨S1x1024x704, .f32⟩
  | .hbm, ⟨4, _⟩ => ⟨S8x704x1024, .f32⟩
  | .hbm, ⟨5, _⟩ => ⟨S_, .f32⟩
  | .hbm, ⟨6, _⟩ => ⟨S704x1024, .f32⟩
  | .hbm, ⟨7, _⟩ => ⟨S1024x704, .f32⟩
  | .hbm, ⟨8, _⟩ => ⟨S704x1024, .f32⟩
  | .hbm, ⟨9, _⟩ => ⟨S1024x704, .f32⟩
  | .hbm, ⟨10, _⟩ => ⟨S704x1024, .f32⟩
  | .hbm, ⟨11, _⟩ => ⟨S1024x704, .f32⟩
  | .hbm, ⟨12, _⟩ => ⟨S704x1024, .f32⟩
  | .hbm, ⟨13, _⟩ => ⟨S_, .f32⟩
  | .hbm, ⟨14, _⟩ => ⟨S704x1024, .f32⟩
  | .hbm, ⟨15, _⟩ => ⟨S704x1024, .f32⟩
  | .hbm, ⟨16, _⟩ => ⟨S_, .f32⟩
  | .hbm, ⟨17, _⟩ => ⟨S704x1024, .f32⟩
  | .hbm, ⟨18, _⟩ => ⟨S704x1024, .f32⟩
  | .hbm, ⟨19, _⟩ => ⟨S704x1024, .f32⟩
  | .hbm, ⟨20, _⟩ => ⟨S_, .f32⟩
  | .hbm, ⟨21, _⟩ => ⟨S704x1024, .f32⟩
  | .hbm, ⟨22, _⟩ => ⟨S704x1024, .f32⟩
  | .hbm, ⟨23, _⟩ => ⟨S704x1024, .f32⟩
  | .hbm, ⟨24, _⟩ => ⟨S_, .f32⟩
  | .hbm, ⟨25, _⟩ => ⟨S704x1024, .f32⟩
  | .hbm, ⟨26, _⟩ => ⟨S704x1024, .f32⟩
  | .hbm, ⟨27, _⟩ => ⟨S704x1024, .f32⟩
  | .hbm, ⟨28, _⟩ => ⟨S_, .f32⟩
  | .hbm, ⟨29, _⟩ => ⟨S704x1024, .f32⟩
  | .hbm, ⟨30, _⟩ => ⟨S704x1024, .f32⟩
  | .hbm, ⟨31, _⟩ => ⟨S_, .f32⟩
  | .hbm, ⟨32, _⟩ => ⟨S704x1024, .f32⟩
  | .hbm, ⟨33, _⟩ => ⟨S704x1024, .f32⟩
  | .hbm, ⟨34, _⟩ => ⟨S704x1024, .f32⟩
  | .hbm, ⟨35, _⟩ => ⟨S_, .f32⟩
  | .hbm, ⟨36, _⟩ => ⟨S704x1024, .f32⟩
  | .hbm, ⟨37, _⟩ => ⟨S704x1024, .f32⟩
  | .hbm, ⟨38, _⟩ => ⟨S704x1024, .f32⟩
  | .hbm, ⟨39, _⟩ => ⟨S_, .f32⟩
  | .hbm, ⟨40, _⟩ => ⟨S704x1024, .f32⟩
  | .hbm, ⟨41, _⟩ => ⟨S704x1024, .f32⟩
  | .hbm, ⟨42, _⟩ => ⟨S704x1024, .f32⟩
  | .hbm, ⟨43, _⟩ => ⟨S_, .f32⟩
  | .hbm, ⟨44, _⟩ => ⟨S704x1024, .f32⟩
  | .hbm, ⟨45, _⟩ => ⟨S704x1024, .f32⟩
  | _, _ => ⟨S1x1024x704, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_4 : Ref sig .tc := ⟨.hbm, 28, rfl⟩
abbrev main_v19 : Ref sig .tc := ⟨.hbm, 29, rfl⟩
abbrev main_v20 : Ref sig .tc := ⟨.hbm, 30, rfl⟩
abbrev main_cst_5 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_6 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_7 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_8 : Ref sig .tc := ⟨.hbm, 43, rfl⟩
abbrev main_v30 : Ref sig .tc := ⟨.hbm, 44, rfl⟩
abbrev main_v31 : Ref sig .tc := ⟨.hbm, 45, rfl⟩

abbrev nD : Nat := 1
abbrev τ : Topo := Topo.v7x

variable {F : FTy → Type} [FloatOps F]
-- ==== AdamOut.lean ====
abbrev S1x256x1024 : Shape := ⟨3, ![1, 256, 1024]⟩
abbrev S8x256x1024 : Shape := ⟨3, ![8, 256, 1024]⟩
abbrev S256x1024 : Shape := ⟨2, ![256, 1024]⟩
abbrev S256x512 : Shape := ⟨2, ![256, 512]⟩
abbrev S8x256x512 : Shape := ⟨3, ![8, 256, 512]⟩
abbrev S1x256x512 : Shape := ⟨3, ![1, 256, 512]⟩

abbrev nBuf : Space → Nat
  | .hbm => 11
  | .vmem => 16
  | .smem => 0
  | _ => 0

abbrev bufTy : (tb : Table) → Fin (tcTables nBuf tb) → BufTy
  | .hbm, ⟨0, _⟩ => ⟨S1x256x1024, .f32⟩
  | .hbm, ⟨1, _⟩ => ⟨S8x256x1024, .bf16⟩
  | .hbm, ⟨2, _⟩ => ⟨S1x256x1024, .f32⟩
  | .hbm, ⟨3, _⟩ => ⟨S1x256x1024, .f32⟩
  | .hbm, ⟨4, _⟩ => ⟨S256x1024, .f32⟩
  | .hbm, ⟨5, _⟩ => ⟨S256x1024, .f32⟩
  | .hbm, ⟨6, _⟩ => ⟨S256x1024, .f32⟩
  | .hbm, ⟨7, _⟩ => ⟨S256x1024, .f32⟩
  | .hbm, ⟨8, _⟩ => ⟨S256x1024, .f32⟩
  | .hbm, ⟨9, _⟩ => ⟨S256x1024, .f32⟩
  | .hbm, ⟨10, _⟩ => ⟨S256x1024, .f32⟩
  | .local _ .vmem, ⟨0, _⟩ => ⟨S256x512, .f32⟩
  | .local _ .vmem, ⟨1, _⟩ => ⟨S256x512, .f32⟩
  | .local _ .vmem, ⟨2, _⟩ => ⟨S8x256x512, .bf16⟩
  | .local _ .vmem, ⟨3, _⟩ => ⟨S8x256x512, .bf16⟩
  | .local _ .vmem, ⟨4, _⟩ => ⟨S256x512, .f32⟩
  | .local _ .vmem, ⟨5, _⟩ => ⟨S256x512, .f32⟩
  | .local _ .vmem, ⟨6, _⟩ => ⟨S256x512, .f32⟩
  | .local _ .vmem, ⟨7, _⟩ => ⟨S256x512, .f32⟩
  | .local _ .vmem, ⟨8, _⟩ => ⟨S256x512, .f32⟩
  | .local _ .vmem, ⟨9, _⟩ => ⟨S256x512, .f32⟩
  | .local _ .vmem, ⟨10, _⟩ => ⟨S256x512, .f32⟩
  | .local _ .vmem, ⟨11, _⟩ => ⟨S256x512, .f32⟩
  | .local _ .vmem, ⟨12, _⟩ => ⟨S256x512, .f32⟩
  | .local _ .vmem, ⟨13, _⟩ => ⟨S256x512, .f32⟩
  | .local _ .vmem, ⟨14, _⟩ => ⟨S256x512, .f32⟩
  | .local _ .vmem, ⟨15, _⟩ => ⟨S256x512, .f32⟩
  | _, _ => ⟨S1x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev main_v3_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== StepOutIdeal.lean ====
abbrev S1x256x1024 : Shape := ⟨3, ![1, 256, 1024]⟩
abbrev S8x256x1024 : Shape := ⟨3, ![8, 256, 1024]⟩
abbrev S_ : Shape := ⟨0, ![]⟩
abbrev S256x1024 : Shape := ⟨2, ![256, 1024]⟩

abbrev nBuf : Space → Nat
  | .hbm => 43
  | .vmem => 0
  | .smem => 0
  | _ => 0

abbrev bufTy : (tb : Table) → Fin (tcTables nBuf tb) → BufTy
  | .hbm, ⟨0, _⟩ => ⟨S1x256x1024, .f32⟩
  | .hbm, ⟨1, _⟩ => ⟨S8x256x1024, .bf16⟩
  | .hbm, ⟨2, _⟩ => ⟨S1x256x1024, .f32⟩
  | .hbm, ⟨3, _⟩ => ⟨S1x256x1024, .f32⟩
  | .hbm, ⟨4, _⟩ => ⟨S8x256x1024, .f32⟩
  | .hbm, ⟨5, _⟩ => ⟨S_, .f32⟩
  | .hbm, ⟨6, _⟩ => ⟨S256x1024, .f32⟩
  | .hbm, ⟨7, _⟩ => ⟨S256x1024, .f32⟩
  | .hbm, ⟨8, _⟩ => ⟨S256x1024, .f32⟩
  | .hbm, ⟨9, _⟩ => ⟨S256x1024, .f32⟩
  | .hbm, ⟨10, _⟩ => ⟨S_, .f32⟩
  | .hbm, ⟨11, _⟩ => ⟨S256x1024, .f32⟩
  | .hbm, ⟨12, _⟩ => ⟨S256x1024, .f32⟩
  | .hbm, ⟨13, _⟩ => ⟨S_, .f32⟩
  | .hbm, ⟨14, _⟩ => ⟨S256x1024, .f32⟩
  | .hbm, ⟨15, _⟩ => ⟨S256x1024, .f32⟩
  | .hbm, ⟨16, _⟩ => ⟨S256x1024, .f32⟩
  | .hbm, ⟨17, _⟩ => ⟨S_, .f32⟩
  | .hbm, ⟨18, _⟩ => ⟨S256x1024, .f32⟩
  | .hbm, ⟨19, _⟩ => ⟨S256x1024, .f32⟩
  | .hbm, ⟨20, _⟩ => ⟨S256x1024, .f32⟩
  | .hbm, ⟨21, _⟩ => ⟨S_, .f32⟩
  | .hbm, ⟨22, _⟩ => ⟨S256x1024, .f32⟩
  | .hbm, ⟨23, _⟩ => ⟨S256x1024, .f32⟩
  | .hbm, ⟨24, _⟩ => ⟨S256x1024, .f32⟩
  | .hbm, ⟨25, _⟩ => ⟨S_, .f32⟩
  | .hbm, ⟨26, _⟩ => ⟨S256x1024, .f32⟩
  | .hbm, ⟨27, _⟩ => ⟨S256x1024, .f32⟩
  | .hbm, ⟨28, _⟩ => ⟨S_, .f32⟩
  | .hbm, ⟨29, _⟩ => ⟨S256x1024, .f32⟩
  | .hbm, ⟨30, _⟩ => ⟨S256x1024, .f32⟩
  | .hbm, ⟨31, _⟩ => ⟨S256x1024, .f32⟩
  | .hbm, ⟨32, _⟩ => ⟨S_, .f32⟩
  | .hbm, ⟨33, _⟩ => ⟨S256x1024, .f32⟩
  | .hbm, ⟨34, _⟩ => ⟨S256x1024, .f32⟩
  | .hbm, ⟨35, _⟩ => ⟨S256x1024, .f32⟩
  | .hbm, ⟨36, _⟩ => ⟨S_, .f32⟩
  | .hbm, ⟨37, _⟩ => ⟨S256x1024, .f32⟩
  | .hbm, ⟨38, _⟩ => ⟨S256x1024, .f32⟩
  | .hbm, ⟨39, _⟩ => ⟨S256x1024, .f32⟩
  | .hbm, ⟨40, _⟩ => ⟨S_, .f32⟩
  | .hbm, ⟨41, _⟩ => ⟨S256x1024, .f32⟩
  | .hbm, ⟨42, _⟩ => ⟨S256x1024, .f32⟩
  | _, _ => ⟨S1x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_4 : Ref sig .tc := ⟨.hbm, 25, rfl⟩
abbrev main_v16 : Ref sig .tc := ⟨.hbm, 26, rfl⟩
abbrev main_v17 : Ref sig .tc := ⟨.hbm, 27, rfl⟩
abbrev main_cst_5 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_6 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_7 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_8 : Ref sig .tc := ⟨.hbm, 40, rfl⟩
abbrev main_v27 : Ref sig .tc := ⟨.hbm, 41, rfl⟩
abbrev main_v28 : Ref sig .tc := ⟨.hbm, 42, rfl⟩

abbrev nD : Nat := 1
abbrev τ : Topo := Topo.v7x

variable {F : FTy → Type} [FloatOps F]
-- ==== AdamDown.lean ====
abbrev S1x352x1024 : Shape := ⟨3, ![1, 352, 1024]⟩
abbrev S8x352x1024 : Shape := ⟨3, ![8, 352, 1024]⟩
abbrev S352x1024 : Shape := ⟨2, ![352, 1024]⟩
abbrev S352x512 : Shape := ⟨2, ![352, 512]⟩
abbrev S8x352x512 : Shape := ⟨3, ![8, 352, 512]⟩
abbrev S1x352x512 : Shape := ⟨3, ![1, 352, 512]⟩

abbrev nBuf : Space → Nat
  | .hbm => 11
  | .vmem => 16
  | .smem => 0
  | _ => 0

abbrev bufTy : (tb : Table) → Fin (tcTables nBuf tb) → BufTy
  | .hbm, ⟨0, _⟩ => ⟨S1x352x1024, .f32⟩
  | .hbm, ⟨1, _⟩ => ⟨S8x352x1024, .bf16⟩
  | .hbm, ⟨2, _⟩ => ⟨S1x352x1024, .f32⟩
  | .hbm, ⟨3, _⟩ => ⟨S1x352x1024, .f32⟩
  | .hbm, ⟨4, _⟩ => ⟨S352x1024, .f32⟩
  | .hbm, ⟨5, _⟩ => ⟨S352x1024, .f32⟩
  | .hbm, ⟨6, _⟩ => ⟨S352x1024, .f32⟩
  | .hbm, ⟨7, _⟩ => ⟨S352x1024, .f32⟩
  | .hbm, ⟨8, _⟩ => ⟨S352x1024, .f32⟩
  | .hbm, ⟨9, _⟩ => ⟨S352x1024, .f32⟩
  | .hbm, ⟨10, _⟩ => ⟨S352x1024, .f32⟩
  | .local _ .vmem, ⟨0, _⟩ => ⟨S352x512, .f32⟩
  | .local _ .vmem, ⟨1, _⟩ => ⟨S352x512, .f32⟩
  | .local _ .vmem, ⟨2, _⟩ => ⟨S8x352x512, .bf16⟩
  | .local _ .vmem, ⟨3, _⟩ => ⟨S8x352x512, .bf16⟩
  | .local _ .vmem, ⟨4, _⟩ => ⟨S352x512, .f32⟩
  | .local _ .vmem, ⟨5, _⟩ => ⟨S352x512, .f32⟩
  | .local _ .vmem, ⟨6, _⟩ => ⟨S352x512, .f32⟩
  | .local _ .vmem, ⟨7, _⟩ => ⟨S352x512, .f32⟩
  | .local _ .vmem, ⟨8, _⟩ => ⟨S352x512, .f32⟩
  | .local _ .vmem, ⟨9, _⟩ => ⟨S352x512, .f32⟩
  | .local _ .vmem, ⟨10, _⟩ => ⟨S352x512, .f32⟩
  | .local _ .vmem, ⟨11, _⟩ => ⟨S352x512, .f32⟩
  | .local _ .vmem, ⟨12, _⟩ => ⟨S352x512, .f32⟩
  | .local _ .vmem, ⟨13, _⟩ => ⟨S352x512, .f32⟩
  | .local _ .vmem, ⟨14, _⟩ => ⟨S352x512, .f32⟩
  | .local _ .vmem, ⟨15, _⟩ => ⟨S352x512, .f32⟩
  | _, _ => ⟨S1x352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev main_v3_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S352x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x352x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S352x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S352x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S352x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S352x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S352x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S352x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== StepDownIdeal.lean ====
abbrev S1x352x1024 : Shape := ⟨3, ![1, 352, 1024]⟩
abbrev S8x352x1024 : Shape := ⟨3, ![8, 352, 1024]⟩
abbrev S_ : Shape := ⟨0, ![]⟩
abbrev S352x1024 : Shape := ⟨2, ![352, 1024]⟩

abbrev nBuf : Space → Nat
  | .hbm => 43
  | .vmem => 0
  | .smem => 0
  | _ => 0

abbrev bufTy : (tb : Table) → Fin (tcTables nBuf tb) → BufTy
  | .hbm, ⟨0, _⟩ => ⟨S1x352x1024, .f32⟩
  | .hbm, ⟨1, _⟩ => ⟨S8x352x1024, .bf16⟩
  | .hbm, ⟨2, _⟩ => ⟨S1x352x1024, .f32⟩
  | .hbm, ⟨3, _⟩ => ⟨S1x352x1024, .f32⟩
  | .hbm, ⟨4, _⟩ => ⟨S8x352x1024, .f32⟩
  | .hbm, ⟨5, _⟩ => ⟨S_, .f32⟩
  | .hbm, ⟨6, _⟩ => ⟨S352x1024, .f32⟩
  | .hbm, ⟨7, _⟩ => ⟨S352x1024, .f32⟩
  | .hbm, ⟨8, _⟩ => ⟨S352x1024, .f32⟩
  | .hbm, ⟨9, _⟩ => ⟨S352x1024, .f32⟩
  | .hbm, ⟨10, _⟩ => ⟨S_, .f32⟩
  | .hbm, ⟨11, _⟩ => ⟨S352x1024, .f32⟩
  | .hbm, ⟨12, _⟩ => ⟨S352x1024, .f32⟩
  | .hbm, ⟨13, _⟩ => ⟨S_, .f32⟩
  | .hbm, ⟨14, _⟩ => ⟨S352x1024, .f32⟩
  | .hbm, ⟨15, _⟩ => ⟨S352x1024, .f32⟩
  | .hbm, ⟨16, _⟩ => ⟨S352x1024, .f32⟩
  | .hbm, ⟨17, _⟩ => ⟨S_, .f32⟩
  | .hbm, ⟨18, _⟩ => ⟨S352x1024, .f32⟩
  | .hbm, ⟨19, _⟩ => ⟨S352x1024, .f32⟩
  | .hbm, ⟨20, _⟩ => ⟨S352x1024, .f32⟩
  | .hbm, ⟨21, _⟩ => ⟨S_, .f32⟩
  | .hbm, ⟨22, _⟩ => ⟨S352x1024, .f32⟩
  | .hbm, ⟨23, _⟩ => ⟨S352x1024, .f32⟩
  | .hbm, ⟨24, _⟩ => ⟨S352x1024, .f32⟩
  | .hbm, ⟨25, _⟩ => ⟨S_, .f32⟩
  | .hbm, ⟨26, _⟩ => ⟨S352x1024, .f32⟩
  | .hbm, ⟨27, _⟩ => ⟨S352x1024, .f32⟩
  | .hbm, ⟨28, _⟩ => ⟨S_, .f32⟩
  | .hbm, ⟨29, _⟩ => ⟨S352x1024, .f32⟩
  | .hbm, ⟨30, _⟩ => ⟨S352x1024, .f32⟩
  | .hbm, ⟨31, _⟩ => ⟨S352x1024, .f32⟩
  | .hbm, ⟨32, _⟩ => ⟨S_, .f32⟩
  | .hbm, ⟨33, _⟩ => ⟨S352x1024, .f32⟩
  | .hbm, ⟨34, _⟩ => ⟨S352x1024, .f32⟩
  | .hbm, ⟨35, _⟩ => ⟨S352x1024, .f32⟩
  | .hbm, ⟨36, _⟩ => ⟨S_, .f32⟩
  | .hbm, ⟨37, _⟩ => ⟨S352x1024, .f32⟩
  | .hbm, ⟨38, _⟩ => ⟨S352x1024, .f32⟩
  | .hbm, ⟨39, _⟩ => ⟨S352x1024, .f32⟩
  | .hbm, ⟨40, _⟩ => ⟨S_, .f32⟩
  | .hbm, ⟨41, _⟩ => ⟨S352x1024, .f32⟩
  | .hbm, ⟨42, _⟩ => ⟨S352x1024, .f32⟩
  | _, _ => ⟨S1x352x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_4 : Ref sig .tc := ⟨.hbm, 25, rfl⟩
abbrev main_v16 : Ref sig .tc := ⟨.hbm, 26, rfl⟩
abbrev main_v17 : Ref sig .tc := ⟨.hbm, 27, rfl⟩
abbrev main_cst_5 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_6 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_7 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_8 : Ref sig .tc := ⟨.hbm, 40, rfl⟩
abbrev main_v27 : Ref sig .tc := ⟨.hbm, 41, rfl⟩
abbrev main_v28 : Ref sig .tc := ⟨.hbm, 42, rfl⟩

abbrev nD : Nat := 1
abbrev τ : Topo := Topo.v7x

variable {F : FTy → Type} [FloatOps F]
-- ==== AdaWgrad.lean ====
abbrev S8x1024 : Shape := ⟨2, ![8, 1024]⟩
abbrev S8x768 : Shape := ⟨2, ![8, 768]⟩
abbrev S1024x768 : Shape := ⟨2, ![1024, 768]⟩

abbrev nBuf : Space → Nat
  | .hbm => 3
  | .vmem => 3
  | .smem => 0
  | _ => 0

abbrev bufTy : (tb : Table) → Fin (tcTables nBuf tb) → BufTy
  | .hbm, ⟨0, _⟩ => ⟨S8x1024, .f32⟩
  | .hbm, ⟨1, _⟩ => ⟨S8x768, .f32⟩
  | .hbm, ⟨2, _⟩ => ⟨S1024x768, .f32⟩
  | .local _ .vmem, ⟨0, _⟩ => ⟨S8x1024, .f32⟩
  | .local _ .vmem, ⟨1, _⟩ => ⟨S8x768, .f32⟩
  | .local _ .vmem, ⟨2, _⟩ => ⟨S1024x768, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== AdaGradIdeal.lean ====
abbrev S8x1024 : Shape := ⟨2, ![8, 1024]⟩
abbrev S8x768 : Shape := ⟨2, ![8, 768]⟩
abbrev S_ : Shape := ⟨0, ![]⟩
abbrev S1024x768 : Shape := ⟨2, ![1024, 768]⟩
abbrev S768x1024 : Shape := ⟨2, ![768, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S8x768, .f32⟩
  | .hbm, ⟨2, _⟩ => ⟨S_, .f32⟩
  | .hbm, ⟨3, _⟩ => ⟨S1024x768, .f32⟩
  | .hbm, ⟨4, _⟩ => ⟨S8x768, .f32⟩
  | .hbm, ⟨5, _⟩ => ⟨S768x1024, .f32⟩
  | .hbm, ⟨6, _⟩ => ⟨S1024x768, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== SmallSum.lean ====
abbrev S8x32x1024 : Shape := ⟨3, ![8, 32, 1024]⟩
abbrev S8x4x192 : Shape := ⟨3, ![8, 4, 192]⟩
abbrev S8x31x128 : Shape := ⟨3, ![8, 31, 128]⟩
abbrev S8x3x704 : Shape := ⟨3, ![8, 3, 704]⟩
abbrev S32x1024 : Shape := ⟨2, ![32, 1024]⟩
abbrev S4x192 : Shape := ⟨2, ![4, 192]⟩
abbrev S31x128 : Shape := ⟨2, ![31, 128]⟩
abbrev S3x704 : Shape := ⟨2, ![3, 704]⟩
abbrev S1x32x1024 : Shape := ⟨3, ![1, 32, 1024]⟩
abbrev S1x4x192 : Shape := ⟨3, ![1, 4, 192]⟩
abbrev S1x31x128 : Shape := ⟨3, ![1, 31, 128]⟩
abbrev S1x3x704 : Shape := ⟨3, ![1, 3, 704]⟩

abbrev nBuf : Space → Nat
  | .hbm => 8
  | .vmem => 8
  | .smem => 0
  | _ => 0

abbrev bufTy : (tb : Table) → Fin (tcTables nBuf tb) → BufTy
  | .hbm, ⟨0, _⟩ => ⟨S8x32x1024, .f32⟩
  | .hbm, ⟨1, _⟩ => ⟨S8x4x192, .f32⟩
  | .hbm, ⟨2, _⟩ => ⟨S8x31x128, .f32⟩
  | .hbm, ⟨3, _⟩ => ⟨S8x3x704, .f32⟩
  | .hbm, ⟨4, _⟩ => ⟨S32x1024, .f32⟩
  | .hbm, ⟨5, _⟩ => ⟨S4x192, .f32⟩
  | .hbm, ⟨6, _⟩ => ⟨S31x128, .f32⟩
  | .hbm, ⟨7, _⟩ => ⟨S3x704, .f32⟩
  | .local _ .vmem, ⟨0, _⟩ => ⟨S8x32x1024, .f32⟩
  | .local _ .vmem, ⟨1, _⟩ => ⟨S8x4x192, .f32⟩
  | .local _ .vmem, ⟨2, _⟩ => ⟨S8x31x128, .f32⟩
  | .local _ .vmem, ⟨3, _⟩ => ⟨S8x3x704, .f32⟩
  | .local _ .vmem, ⟨4, _⟩ => ⟨S32x1024, .f32⟩
  | .local _ .vmem, ⟨5, _⟩ => ⟨S4x192, .f32⟩
  | .local _ .vmem, ⟨6, _⟩ => ⟨S31x128, .f32⟩
  | .local _ .vmem, ⟨7, _⟩ => ⟨S3x704, .f32⟩
  | _, _ => ⟨S8x32x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S8x32x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x4x192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x31x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x3x704 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S32x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S4x192 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S31x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S3x704 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== SmallGradIdeal.lean ====
abbrev S8x32x1024 : Shape := ⟨3, ![8, 32, 1024]⟩
abbrev S8x4x192 : Shape := ⟨3, ![8, 4, 192]⟩
abbrev S8x31x128 : Shape := ⟨3, ![8, 31, 128]⟩
abbrev S8x3x704 : Shape := ⟨3, ![8, 3, 704]⟩
abbrev S_ : Shape := ⟨0, ![]⟩
abbrev S32x1024 : Shape := ⟨2, ![32, 1024]⟩
abbrev S4x192 : Shape := ⟨2, ![4, 192]⟩
abbrev S31x128 : Shape := ⟨2, ![31, 128]⟩
abbrev S3x704 : Shape := ⟨2, ![3, 704]⟩

abbrev nBuf : Space → Nat
  | .hbm => 12
  | .vmem => 0
  | .smem => 0
  | _ => 0

abbrev bufTy : (tb : Table) → Fin (tcTables nBuf tb) → BufTy
  | .hbm, ⟨0, _⟩ => ⟨S8x32x1024, .f32⟩
  | .hbm, ⟨1, _⟩ => ⟨S8x4x192, .f32⟩
  | .hbm, ⟨2, _⟩ => ⟨S8x31x128, .f32⟩
  | .hbm, ⟨3, _⟩ => ⟨S8x3x704, .f32⟩
  | .hbm, ⟨4, _⟩ => ⟨S_, .f32⟩
  | .hbm, ⟨5, _⟩ => ⟨S32x1024, .f32⟩
  | .hbm, ⟨6, _⟩ => ⟨S_, .f32⟩
  | .hbm, ⟨7, _⟩ => ⟨S4x192, .f32⟩
  | .hbm, ⟨8, _⟩ => ⟨S_, .f32⟩
  | .hbm, ⟨9, _⟩ => ⟨S31x128, .f32⟩
  | .hbm, ⟨10, _⟩ => ⟨S_, .f32⟩
  | .hbm, ⟨11, _⟩ => ⟨S3x704, .f32⟩
  | _, _ => ⟨S8x32x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_cst_1 : Ref sig .tc := ⟨.hbm, 8, rfl⟩
abbrev main_v2 : Ref sig .tc := ⟨.hbm, 9, rfl⟩
abbrev main_cst_2 : Ref sig .tc := ⟨.hbm, 10, rfl⟩
abbrev main_v3 : Ref sig .tc := ⟨.hbm, 11, rfl⟩

abbrev nD : Nat := 1
abbrev τ : Topo := Topo.v7x

variable {F : FTy → Type} [FloatOps F]
-- ==== DownLoss.lean ====
abbrev S2048x2816 : Shape := ⟨2, ![2048, 2816]⟩
abbrev S2816x1024 : Shape := ⟨2, ![2816, 1024]⟩
abbrev S2048x1024 : Shape := ⟨2, ![2048, 1024]⟩
abbrev S8x1024 : Shape := ⟨2, ![8, 1024]⟩
abbrev S1x1024 : Shape := ⟨2, ![1, 1024]⟩
abbrev S256x2816 : Shape := ⟨2, ![256, 2816]⟩
abbrev S256x1024 : Shape := ⟨2, ![256, 1024]⟩
abbrev S256 : Shape := ⟨1, ![256]⟩
abbrev S256x1 : Shape := ⟨2, ![256, 1]⟩
abbrev S1024 : Shape := ⟨1, ![1024]⟩

abbrev nBuf : Space → Nat
  | .hbm => 10
  | .vmem => 16
  | .smem => 0
  | _ => 0

abbrev bufTy : (tb : Table) → Fin (tcTables nBuf tb) → BufTy
  | .hbm, ⟨0, _⟩ => ⟨S2048x2816, .bf16⟩
  | .hbm, ⟨1, _⟩ => ⟨S2816x1024, .bf16⟩
  | .hbm, ⟨2, _⟩ => ⟨S2048x1024, .f32⟩
  | .hbm, ⟨3, _⟩ => ⟨S8x1024, .f32⟩
  | .hbm, ⟨4, _⟩ => ⟨S1x1024, .f32⟩
  | .hbm, ⟨5, _⟩ => ⟨S2048x1024, .f32⟩
  | .hbm, ⟨6, _⟩ => ⟨S2048x1024, .f32⟩
  | .hbm, ⟨7, _⟩ => ⟨S2048x1024, .bf16⟩
  | .hbm, ⟨8, _⟩ => ⟨S2048x2816, .f32⟩
  | .hbm, ⟨9, _⟩ => ⟨S8x1024, .f32⟩
  | .local _ .vmem, ⟨0, _⟩ => ⟨S256x2816, .bf16⟩
  | .local _ .vmem, ⟨1, _⟩ => ⟨S256x2816, .bf16⟩
  | .local _ .vmem, ⟨2, _⟩ => ⟨S2816x1024, .bf16⟩
  | .local _ .vmem, ⟨3, _⟩ => ⟨S256x1024, .f32⟩
  | .local _ .vmem, ⟨4, _⟩ => ⟨S256x1024, .f32⟩
  | .local _ .vmem, ⟨5, _⟩ => ⟨S8x1024, .f32⟩
  | .local _ .vmem, ⟨6, _⟩ => ⟨S1x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .bf16⟩
  | .local _ .vmem, ⟨12, _⟩ => ⟨S256x1024, .bf16⟩
  | .local _ .vmem, ⟨13, _⟩ => ⟨S256x2816, .f32⟩
  | .local _ .vmem, ⟨14, _⟩ => ⟨S256x2816, .f32⟩
  | .local _ .vmem, ⟨15, _⟩ => ⟨S8x1024, .f32⟩
  | _, _ => ⟨S2048x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x2816 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S8x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== LossGradIdeal.lean ====
abbrev S2048x2816 : Shape := ⟨2, ![2048, 2816]⟩
abbrev S2816x1024 : Shape := ⟨2, ![2816, 1024]⟩
abbrev S2048x1024 : Shape := ⟨2, ![2048, 1024]⟩
abbrev S8x1024 : Shape := ⟨2, ![8, 1024]⟩
abbrev S1x1024 : Shape := ⟨2, ![1, 1024]⟩
abbrev S_ : Shape := ⟨0, ![]⟩
abbrev S2048 : Shape := ⟨1, ![2048]⟩
abbrev S2048x1 : Shape := ⟨2, ![2048, 1]⟩
abbrev S1024 : Shape := ⟨1, ![1024]⟩
abbrev S5x1024 : Shape := ⟨2, ![5, 1024]⟩

abbrev nBuf : Space → Nat
  | .hbm => 93
  | .vmem => 0
  | .smem => 0
  | _ => 0

abbrev bufTy : (tb : Table) → Fin (tcTables nBuf tb) → BufTy
  | .hbm, ⟨0, _⟩ => ⟨S2048x2816, .bf16⟩
  | .hbm, ⟨1, _⟩ => ⟨S2816x1024, .bf16⟩
  | .hbm, ⟨2, _⟩ => ⟨S2048x1024, .f32⟩
  | .hbm, ⟨3, _⟩ => ⟨S8x1024, .f32⟩
  | .hbm, ⟨4, _⟩ => ⟨S1x1024, .f32⟩
  | .hbm, ⟨5, _⟩ => ⟨S2048x1024, .f32⟩
  | .hbm, ⟨6, _⟩ => ⟨S2048x2816, .f32⟩
  | .hbm, ⟨7, _⟩ => ⟨S2816x1024, .f32⟩
  | .hbm, ⟨8, _⟩ => ⟨S2048x1024, .f32⟩
  | .hbm, ⟨9, _⟩ => ⟨S1x1024, .f32⟩
  | .hbm, ⟨10, _⟩ => ⟨S2048x1024, .f32⟩
  | .hbm, ⟨11, _⟩ => ⟨S2048x1024, .f32⟩
  | .hbm, ⟨12, _⟩ => ⟨S2048x1024, .f32⟩
  | .hbm, ⟨13, _⟩ => ⟨S2048x1024, .f32⟩
  | .hbm, ⟨14, _⟩ => ⟨S_, .f32⟩
  | .hbm, ⟨15, _⟩ => ⟨S2048, .f32⟩
  | .hbm, ⟨16, _⟩ => ⟨S2048x1, .f32⟩
  | .hbm, ⟨17, _⟩ => ⟨S_, .f32⟩
  | .hbm, ⟨18, _⟩ => ⟨S2048x1, .f32⟩
  | .hbm, ⟨19, _⟩ => ⟨S2048x1, .f32⟩
  | .hbm, ⟨20, _⟩ => ⟨S_, .f32⟩
  | .hbm, ⟨21, _⟩ => ⟨S2048x1, .f32⟩
  | .hbm, ⟨22, _⟩ => ⟨S2048x1, .f32⟩
  | .hbm, ⟨23, _⟩ => ⟨S2048x1, .f32⟩
  | .hbm, ⟨24, _⟩ => ⟨S2048x1, .f32⟩
  | .hbm, ⟨25, _⟩ => ⟨S_, .f32⟩
  | .hbm, ⟨26, _⟩ => ⟨S2048x1, .f32⟩
  | .hbm, ⟨27, _⟩ => ⟨S2048x1, .f32⟩
  | .hbm, ⟨28, _⟩ => ⟨S2048x1024, .f32⟩
  | .hbm, ⟨29, _⟩ => ⟨S2048x1024, .f32⟩
  | .hbm, ⟨30, _⟩ => ⟨S2048x1024, .f32⟩
  | .hbm, ⟨31, _⟩ => ⟨S2048x1024, .f32⟩
  | .hbm, ⟨32, _⟩ => ⟨S2048x1024, .f32⟩
  | .hbm, ⟨33, _⟩ => ⟨S2048x1024, .f32⟩
  | .hbm, ⟨34, _⟩ => ⟨S_, .f32⟩
  | .hbm, ⟨35, _⟩ => ⟨S2048x1024, .f32⟩
  | .hbm, ⟨36, _⟩ => ⟨S2048x1024, .f32⟩
  | .hbm, ⟨37, _⟩ => ⟨S_, .f32⟩
  | .hbm, ⟨38, _⟩ => ⟨S2048, .f32⟩
  | .hbm, ⟨39, _⟩ => ⟨S_, .f32⟩
  | .hbm, ⟨40, _⟩ => ⟨S2048, .f32⟩
  | .hbm, ⟨41, _⟩ => ⟨S2048, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S2048, .f32⟩
  | .hbm, ⟨50, _⟩ => ⟨S_, .f32⟩
  | .hbm, ⟨51, _⟩ => ⟨S2048, .f32⟩
  | .hbm, ⟨52, _⟩ => ⟨S2048, .f32⟩
  | .hbm, ⟨53, _⟩ => ⟨S2048x1024, .f32⟩
  | .hbm, ⟨54, _⟩ => ⟨S2048x1024, .f32⟩
  | .hbm, ⟨55, _⟩ => ⟨S2048x1024, .f32⟩
  | .hbm, ⟨56, _⟩ => ⟨S_, .f32⟩
  | .hbm, ⟨57, _⟩ => ⟨S1024, .f32⟩
  | .hbm, ⟨58, _⟩ => ⟨S1x1024, .f32⟩
  | .hbm, ⟨59, _⟩ => ⟨S2048x1024, .f32⟩
  | .hbm, ⟨60, _⟩ => ⟨S2048x1024, .f32⟩
  | .hbm, ⟨61, _⟩ => ⟨S2048x1024, .f32⟩
  | .hbm, ⟨62, _⟩ => ⟨S_, .f32⟩
  | .hbm, ⟨63, _⟩ => ⟨S2048, .f32⟩
  | .hbm, ⟨64, _⟩ => ⟨S2048x1, .f32⟩
  | .hbm, ⟨65, _⟩ => ⟨S2048x1024, .f32⟩
  | .hbm, ⟨66, _⟩ => ⟨S2048x1024, .f32⟩
  | .hbm, ⟨67, _⟩ => ⟨S2048x1, .f32⟩
  | .hbm, ⟨68, _⟩ => ⟨S_, .f32⟩
  | .hbm, ⟨69, _⟩ => ⟨S2048x1, .f32⟩
  | .hbm, ⟨70, _⟩ => ⟨S2048x1, .f32⟩
  | .hbm, ⟨71, _⟩ => ⟨S_, .f32⟩
  | .hbm, ⟨72, _⟩ => ⟨S2048, .f32⟩
  | .hbm, ⟨73, _⟩ => ⟨S2048x1024, .f32⟩
  | .hbm, ⟨74, _⟩ => ⟨S2048x1024, .f32⟩
  | .hbm, ⟨75, _⟩ => ⟨S2048x1024, .f32⟩
  | .hbm, ⟨76, _⟩ => ⟨S2048x1024, .f32⟩
  | .hbm, ⟨77, _⟩ => ⟨S2048x1024, .f32⟩
  | .hbm, ⟨78, _⟩ => ⟨S2048x1024, .f32⟩
  | .hbm, ⟨79, _⟩ => ⟨S2048x1024, .f32⟩
  | .hbm, ⟨80, _⟩ => ⟨S2048x1024, .f32⟩
  | .hbm, ⟨81, _⟩ => ⟨S_, .f32⟩
  | .hbm, ⟨82, _⟩ => ⟨S1024, .f32⟩
  | .hbm, ⟨83, _⟩ => ⟨S1x1024, .f32⟩
  | .hbm, ⟨84, _⟩ => ⟨S2048x2816, .f32⟩
  | .hbm, ⟨85, _⟩ => ⟨S2048x1024, .f32⟩
  | .hbm, ⟨86, _⟩ => ⟨S_, .f32⟩
  | .hbm, ⟨87, _⟩ => ⟨S1024, .f32⟩
  | .hbm, ⟨88, _⟩ => ⟨S1x1024, .f32⟩
  | .hbm, ⟨89, _⟩ => ⟨S2048x1024, .bf16⟩
  | .hbm, ⟨90, _⟩ => ⟨S_, .f32⟩
  | .hbm, ⟨91, _⟩ => ⟨S5x1024, .f32⟩
  | .hbm, ⟨92, _⟩ => ⟨S8x1024, .f32⟩
  | _, _ => ⟨S2048x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_v9 : Ref sig .tc := ⟨.hbm, 16, rfl⟩
abbrev main_cst_0 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_2 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_3 : Ref sig .tc := ⟨.hbm, 34, rfl⟩
abbrev main_v24 : Ref sig .tc := ⟨.hbm, 35, rfl⟩
abbrev main_v25 : Ref sig .tc := ⟨.hbm, 36, rfl⟩
abbrev main_cst_4 : Ref sig .tc := ⟨.hbm, 37, rfl⟩
abbrev main_v26 : Ref sig .tc := ⟨.hbm, 38, rfl⟩
abbrev main_cst_5 : Ref sig .tc := ⟨.hbm, 39, rfl⟩
abbrev main_v27 : Ref sig .tc := ⟨.hbm, 40, rfl⟩
abbrev main_v28 : Ref sig .tc := ⟨.hbm, 41, rfl⟩
abbrev main_cst_6 : Ref sig .tc := ⟨.hbm, 42, rfl⟩
abbrev main_v29 : Ref sig .tc := ⟨.hbm, 43, rfl⟩
abbrev main_cst_7 : Ref sig .tc := ⟨.hbm, 44, rfl⟩
abbrev main_v30 : Ref sig .tc := ⟨.hbm, 45, rfl⟩
abbrev main_cst_8 : Ref sig .tc := ⟨.hbm, 46, rfl⟩
abbrev main_cst_9 : Ref sig .tc := ⟨.hbm, 47, rfl⟩
abbrev main_v31 : Ref sig .tc := ⟨.hbm, 48, rfl⟩
abbrev main_v32 : Ref sig .tc := ⟨.hbm, 49, rfl⟩
abbrev main_cst_10 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_cst_11 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_12 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_cst_13 : Ref sig .tc := ⟨.hbm, 68, rfl⟩
abbrev main_v48 : Ref sig .tc := ⟨.hbm, 69, rfl⟩
abbrev main_v49 : Ref sig .tc := ⟨.hbm, 70, rfl⟩
abbrev main_cst_14 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_cst_15 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_cst_16 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_cst_17 : Ref sig .tc := ⟨.hbm, 90, rfl⟩
abbrev main_v66 : Ref sig .tc := ⟨.hbm, 91, rfl⟩
abbrev main_v67 : Ref sig .tc := ⟨.hbm, 92, rfl⟩

abbrev nD : Nat := 1
abbrev τ : Topo := Topo.v7x

variable {F : FTy → Type} [FloatOps F]
-- ==== MixOut.lean ====
abbrev S2048x1024 : Shape := ⟨2, ![2048, 1024]⟩
abbrev S1x1024 : Shape := ⟨2, ![1, 1024]⟩
abbrev S8x1024 : Shape := ⟨2, ![8, 1024]⟩
abbrev S512x1024 : Shape := ⟨2, ![512, 1024]⟩
abbrev S512 : Shape := ⟨1, ![512]⟩
abbrev S512x1 : Shape := ⟨2, ![512, 1]⟩
abbrev S1024x1024 : Shape := ⟨2, ![1024, 1024]⟩

abbrev nBuf : Space → Nat
  | .hbm => 12
  | .vmem => 19
  | .smem => 0
  | _ => 0

abbrev bufTy : (tb : Table) → Fin (tcTables nBuf tb) → BufTy
  | .hbm, ⟨0, _⟩ => ⟨S2048x1024, .bf16⟩
  | .hbm, ⟨1, _⟩ => ⟨S2048x1024, .f32⟩
  | .hbm, ⟨2, _⟩ => ⟨S1x1024, .f32⟩
  | .hbm, ⟨3, _⟩ => ⟨S1x1024, .f32⟩
  | .hbm, ⟨4, _⟩ => ⟨S2048x1024, .bf16⟩
  | .hbm, ⟨5, _⟩ => ⟨S2048x1024, .f32⟩
  | .hbm, ⟨6, _⟩ => ⟨S8x1024, .f32⟩
  | .hbm, ⟨7, _⟩ => ⟨S1x1024, .f32⟩
  | .hbm, ⟨8, _⟩ => ⟨S2048x1024, .f32⟩
  | .hbm, ⟨9, _⟩ => ⟨S2048x1024, .bf16⟩
  | .hbm, ⟨10, _⟩ => ⟨S2048x1024, .f32⟩
  | .hbm, ⟨11, _⟩ => ⟨S2048x1024, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S1x1024, .f32⟩
  | .local _ .vmem, ⟨6, _⟩ => ⟨S2048x1024, .bf16⟩
  | .local _ .vmem, ⟨7, _⟩ => ⟨S512x1024, .f32⟩
  | .local _ .vmem, ⟨8, _⟩ => ⟨S512x1024, .f32⟩
  | .local _ .vmem, ⟨9, _⟩ => ⟨S8x1024, .f32⟩
  | .local _ .vmem, ⟨10, _⟩ => ⟨S1x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .bf16⟩
  | .local _ .vmem, ⟨14, _⟩ => ⟨S512x1024, .bf16⟩
  | .local _ .vmem, ⟨15, _⟩ => ⟨S512x1024, .f32⟩
  | .local _ .vmem, ⟨16, _⟩ => ⟨S512x1024, .f32⟩
  | .local _ .vmem, ⟨17, _⟩ => ⟨S512x1024, .bf16⟩
  | .local _ .vmem, ⟨18, _⟩ => ⟨S512x1024, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2048x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S8x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== MixIdeal.lean ====
abbrev S2048x1024 : Shape := ⟨2, ![2048, 1024]⟩
abbrev S1x1024 : Shape := ⟨2, ![1, 1024]⟩
abbrev S8x1024 : Shape := ⟨2, ![8, 1024]⟩
abbrev S_ : Shape := ⟨0, ![]⟩
abbrev S2048 : Shape := ⟨1, ![2048]⟩
abbrev S2048x1 : Shape := ⟨2, ![2048, 1]⟩
abbrev S2048x2048 : Shape := ⟨2, ![2048, 2048]⟩

abbrev nBuf : Space → Nat
  | .hbm => 78
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2048x1024, .f32⟩
  | .hbm, ⟨2, _⟩ => ⟨S1x1024, .f32⟩
  | .hbm, ⟨3, _⟩ => ⟨S1x1024, .f32⟩
  | .hbm, ⟨4, _⟩ => ⟨S2048x1024, .bf16⟩
  | .hbm, ⟨5, _⟩ => ⟨S2048x1024, .f32⟩
  | .hbm, ⟨6, _⟩ => ⟨S8x1024, .f32⟩
  | .hbm, ⟨7, _⟩ => ⟨S1x1024, .f32⟩
  | .hbm, ⟨8, _⟩ => ⟨S_, .f32⟩
  | .hbm, ⟨9, _⟩ => ⟨S2048, .f32⟩
  | .hbm, ⟨10, _⟩ => ⟨S2048x1, .f32⟩
  | .hbm, ⟨11, _⟩ => ⟨S_, .f32⟩
  | .hbm, ⟨12, _⟩ => ⟨S2048x1, .f32⟩
  | .hbm, ⟨13, _⟩ => ⟨S2048x1, .f32⟩
  | .hbm, ⟨14, _⟩ => ⟨S2048x1024, .f32⟩
  | .hbm, ⟨15, _⟩ => ⟨S2048x1024, .f32⟩
  | .hbm, ⟨16, _⟩ => ⟨S2048x1024, .f32⟩
  | .hbm, ⟨17, _⟩ => ⟨S_, .f32⟩
  | .hbm, ⟨18, _⟩ => ⟨S2048, .f32⟩
  | .hbm, ⟨19, _⟩ => ⟨S2048x1, .f32⟩
  | .hbm, ⟨20, _⟩ => ⟨S_, .f32⟩
  | .hbm, ⟨21, _⟩ => ⟨S2048x1, .f32⟩
  | .hbm, ⟨22, _⟩ => ⟨S2048x1, .f32⟩
  | .hbm, ⟨23, _⟩ => ⟨S2048x1024, .f32⟩
  | .hbm, ⟨24, _⟩ => ⟨S2048x1024, .f32⟩
  | .hbm, ⟨25, _⟩ => ⟨S_, .f32⟩
  | .hbm, ⟨26, _⟩ => ⟨S2048x1, .f32⟩
  | .hbm, ⟨27, _⟩ => ⟨S2048x1, .f32⟩
  | .hbm, ⟨28, _⟩ => ⟨S2048x1, .f32⟩
  | .hbm, ⟨29, _⟩ => ⟨S2048x1024, .f32⟩
  | .hbm, ⟨30, _⟩ => ⟨S2048x1024, .f32⟩
  | .hbm, ⟨31, _⟩ => ⟨S2048x1024, .f32⟩
  | .hbm, ⟨32, _⟩ => ⟨S2048x1024, .f32⟩
  | .hbm, ⟨33, _⟩ => ⟨S2048x1024, .f32⟩
  | .hbm, ⟨34, _⟩ => ⟨S2048x1024, .f32⟩
  | .hbm, ⟨35, _⟩ => ⟨S2048x1024, .f32⟩
  | .hbm, ⟨36, _⟩ => ⟨S2048x1024, .f32⟩
  | .hbm, ⟨37, _⟩ => ⟨S_, .f32⟩
  | .hbm, ⟨38, _⟩ => ⟨S2048x1024, .f32⟩
  | .hbm, ⟨39, _⟩ => ⟨S2048x1024, .f32⟩
  | .hbm, ⟨40, _⟩ => ⟨S_, .f32⟩
  | .hbm, ⟨41, _⟩ => ⟨S2048x1024, .f32⟩
  | .hbm, ⟨42, _⟩ => ⟨S2048x1024, .f32⟩
  | .hbm, ⟨43, _⟩ => ⟨S2048x1024, .f32⟩
  | .hbm, ⟨44, _⟩ => ⟨S2048x1024, .f32⟩
  | .hbm, ⟨45, _⟩ => ⟨S2048x2048, .f32⟩
  | .hbm, ⟨46, _⟩ => ⟨S2048x1024, .f32⟩
  | .hbm, ⟨47, _⟩ => ⟨S2048x1024, .f32⟩
  | .hbm, ⟨48, _⟩ => ⟨S1x1024, .f32⟩
  | .hbm, ⟨49, _⟩ => ⟨S2048x1024, .f32⟩
  | .hbm, ⟨50, _⟩ => ⟨S2048x1024, .f32⟩
  | .hbm, ⟨51, _⟩ => ⟨S2048x1024, .f32⟩
  | .hbm, ⟨52, _⟩ => ⟨S2048x1024, .f32⟩
  | .hbm, ⟨53, _⟩ => ⟨S_, .f32⟩
  | .hbm, ⟨54, _⟩ => ⟨S2048, .f32⟩
  | .hbm, ⟨55, _⟩ => ⟨S2048x1, .f32⟩
  | .hbm, ⟨56, _⟩ => ⟨S_, .f32⟩
  | .hbm, ⟨57, _⟩ => ⟨S2048x1, .f32⟩
  | .hbm, ⟨58, _⟩ => ⟨S2048x1, .f32⟩
  | .hbm, ⟨59, _⟩ => ⟨S_, .f32⟩
  | .hbm, ⟨60, _⟩ => ⟨S2048x1, .f32⟩
  | .hbm, ⟨61, _⟩ => ⟨S2048x1, .f32⟩
  | .hbm, ⟨62, _⟩ => ⟨S2048x1, .f32⟩
  | .hbm, ⟨63, _⟩ => ⟨S2048x1024, .f32⟩
  | .hbm, ⟨64, _⟩ => ⟨S2048x1024, .f32⟩
  | .hbm, ⟨65, _⟩ => ⟨S2048x1024, .f32⟩
  | .hbm, ⟨66, _⟩ => ⟨S2048x1024, .f32⟩
  | .hbm, ⟨67, _⟩ => ⟨S1x1024, .f32⟩
  | .hbm, ⟨68, _⟩ => ⟨S_, .f32⟩
  | .hbm, ⟨69, _⟩ => ⟨S1x1024, .f32⟩
  | .hbm, ⟨70, _⟩ => ⟨S1x1024, .f32⟩
  | .hbm, ⟨71, _⟩ => ⟨S2048x1024, .f32⟩
  | .hbm, ⟨72, _⟩ => ⟨S2048x1024, .f32⟩
  | .hbm, ⟨73, _⟩ => ⟨S1x1024, .f32⟩
  | .hbm, ⟨74, _⟩ => ⟨S2048x1024, .f32⟩
  | .hbm, ⟨75, _⟩ => ⟨S2048x1024, .f32⟩
  | .hbm, ⟨76, _⟩ => ⟨S2048x1024, .bf16⟩
  | .hbm, ⟨77, _⟩ => ⟨S2048x1024, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_cst_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_1 : Ref sig .tc := ⟨.hbm, 17, rfl⟩
abbrev main_v7 : Ref sig .tc := ⟨.hbm, 18, rfl⟩
abbrev main_v8 : Ref sig .tc := ⟨.hbm, 19, rfl⟩
abbrev main_cst_2 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst_3 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_call0_v0 : Ref sig .tc := ⟨.hbm, 35, rfl⟩
abbrev main_call0_v1 : Ref sig .tc := ⟨.hbm, 36, rfl⟩
abbrev main_call0_cst : Ref sig .tc := ⟨.hbm, 37, rfl⟩
abbrev main_call0_v2 : Ref sig .tc := ⟨.hbm, 38, rfl⟩
abbrev main_call0_v3 : Ref sig .tc := ⟨.hbm, 39, rfl⟩
abbrev main_call0_cst_0 : Ref sig .tc := ⟨.hbm, 40, rfl⟩
abbrev main_call0_v4 : Ref sig .tc := ⟨.hbm, 41, rfl⟩
abbrev main_call0_v5 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_cst_4 : Ref sig .tc := ⟨.hbm, 53, rfl⟩
abbrev main_v32 : Ref sig .tc := ⟨.hbm, 54, rfl⟩
abbrev main_v33 : Ref sig .tc := ⟨.hbm, 55, rfl⟩
abbrev main_cst_5 : Ref sig .tc := ⟨.hbm, 56, rfl⟩
abbrev main_v34 : Ref sig .tc := ⟨.hbm, 57, rfl⟩
abbrev main_v35 : Ref sig .tc := ⟨.hbm, 58, rfl⟩
abbrev main_cst_6 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_cst_7 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩

abbrev nD : Nat := 1
abbrev τ : Topo := Topo.v7x

variable {F : FTy → Type} [FloatOps F]
-- ==== FfnConv.lean ====
abbrev S2048x5632 : Shape := ⟨2, ![2048, 5632]⟩
abbrev S3x5632 : Shape := ⟨2, ![3, 5632]⟩
abbrev S1x5632 : Shape := ⟨2, ![1, 5632]⟩
abbrev S2048x2816 : Shape := ⟨2, ![2048, 2816]⟩
abbrev S8x256 : Shape := ⟨2, ![8, 256]⟩
abbrev S2048x256 : Shape := ⟨2, ![2048, 256]⟩
abbrev S3x256 : Shape := ⟨2, ![3, 256]⟩
abbrev S1x256 : Shape := ⟨2, ![1, 256]⟩
abbrev S2056x256 : Shape := ⟨2, ![2056, 256]⟩

abbrev nBuf : Space → Nat
  | .hbm => 4
  | .vmem => 20
  | .smem => 0
  | _ => 0

abbrev bufTy : (tb : Table) → Fin (tcTables nBuf tb) → BufTy
  | .hbm, ⟨0, _⟩ => ⟨S2048x5632, .f32⟩
  | .hbm, ⟨1, _⟩ => ⟨S3x5632, .f32⟩
  | .hbm, ⟨2, _⟩ => ⟨S1x5632, .f32⟩
  | .hbm, ⟨3, _⟩ => ⟨S2048x2816, .bf16⟩
  | .local _ .vmem, ⟨0, _⟩ => ⟨S8x256, .f32⟩
  | .local _ .vmem, ⟨1, _⟩ => ⟨S8x256, .f32⟩
  | .local _ .vmem, ⟨2, _⟩ => ⟨S2048x256, .f32⟩
  | .local _ .vmem, ⟨3, _⟩ => ⟨S2048x256, .f32⟩
  | .local _ .vmem, ⟨4, _⟩ => ⟨S8x256, .f32⟩
  | .local _ .vmem, ⟨5, _⟩ => ⟨S8x256, .f32⟩
  | .local _ .vmem, ⟨6, _⟩ => ⟨S2048x256, .f32⟩
  | .local _ .vmem, ⟨7, _⟩ => ⟨S2048x256, .f32⟩
  | .local _ .vmem, ⟨8, _⟩ => ⟨S3x256, .f32⟩
  | .local _ .vmem, ⟨9, _⟩ => ⟨S3x256, .f32⟩
  | .local _ .vmem, ⟨10, _⟩ => ⟨S3x256, .f32⟩
  | .local _ .vmem, ⟨11, _⟩ => ⟨S3x256, .f32⟩
  | .local _ .vmem, ⟨12, _⟩ => ⟨S1x256, .f32⟩
  | .local _ .vmem, ⟨13, _⟩ => ⟨S1x256, .f32⟩
  | .local _ .vmem, ⟨14, _⟩ => ⟨S1x256, .f32⟩
  | .local _ .vmem, ⟨15, _⟩ => ⟨S1x256, .f32⟩
  | .local _ .vmem, ⟨16, _⟩ => ⟨S2048x256, .bf16⟩
  | .local _ .vmem, ⟨17, _⟩ => ⟨S2048x256, .bf16⟩
  | .local _ .vmem, ⟨18, _⟩ => ⟨S2056x256, .f32⟩
  | .local _ .vmem, ⟨19, _⟩ => ⟨S2056x256, .f32⟩
  | _, _ => ⟨S2048x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_scratch1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![11, 1], ![false, false]⟩

def cc0_transform_0 (i : grid0.Coords) : Fin 2 → Nat :=
  let arg0 : BitVec 32 := BitVec.ofNat 32 (i 0).val
  let arg1 : BitVec 32 := BitVec.ofNat 32 (i 1).val
  let c256_i32 : BitVec 32 := 256#32
  let v0 : BitVec 32 := Scalar.muli arg1 c256_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let v3 : BitVec 32 := Scalar.addi arg0 c0_i32_0
  let c0_i32_1 : BitVec 32 := 0#32
  ![v2.toNat, v3.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c256_i32 : BitVec 32 := 256#32
  let v0 : BitVec 32 := Scalar.muli arg1 c256_i32
  let c1_i32 : BitVec 32 := 1#32
  let v1 : BitVec 32 := Scalar.subi v0 c1_i32
  let c0_i32 : BitVec 32 := 0#32
  let v2 : BitVec 32 := Scalar.maxsi v1 c0_i32
  let c11_i32 : BitVec 32 := 11#32
  let v3 : BitVec 32 := Scalar.addi arg0 c11_i32
  let c0_i32_0 : BitVec 32 := 0#32
  ![v2.toNat, v3.toNat]

def cc0_transform_3 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi arg0 c11_i32
  let c0_i32 : BitVec 32 := 0#32
  ![arg1.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_5 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi arg0 c11_i32
  let c0_i32 : BitVec 32 := 0#32
  let c0_i32_0 : BitVec 32 := 0#32
  ![c0_i32.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_7 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi arg0 c11_i32
  let c0_i32 : BitVec 32 := 0#32
  let c0_i32_0 : BitVec 32 := 0#32
  ![c0_i32.toNat, v0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![arg1.toNat, v0.toNat]

abbrev stage0_0 : Fin 2 → Memref sig .tc .vmem S8x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S3x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S3x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S2048x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== FfnIdeal.lean ====
abbrev S2048x5632 : Shape := ⟨2, ![2048, 5632]⟩
abbrev S3x5632 : Shape := ⟨2, ![3, 5632]⟩
abbrev S1x5632 : Shape := ⟨2, ![1, 5632]⟩
abbrev S_ : Shape := ⟨0, ![]⟩
abbrev S2x5632 : Shape := ⟨2, ![2, 5632]⟩
abbrev S2050x5632 : Shape := ⟨2, ![2050, 5632]⟩
abbrev S1x2048x5632 : Shape := ⟨3, ![1, 2048, 5632]⟩
abbrev S3x2048x5632 : Shape := ⟨3, ![3, 2048, 5632]⟩
abbrev S3x1x5632 : Shape := ⟨3, ![3, 1, 5632]⟩
abbrev S2048x2816 : Shape := ⟨2, ![2048, 2816]⟩

abbrev nBuf : Space → Nat
  | .hbm => 33
  | .vmem => 0
  | .smem => 0
  | _ => 0

abbrev bufTy : (tb : Table) → Fin (tcTables nBuf tb) → BufTy
  | .hbm, ⟨0, _⟩ => ⟨S2048x5632, .f32⟩
  | .hbm, ⟨1, _⟩ => ⟨S3x5632, .f32⟩
  | .hbm, ⟨2, _⟩ => ⟨S1x5632, .f32⟩
  | .hbm, ⟨3, _⟩ => ⟨S_, .f32⟩
  | .hbm, ⟨4, _⟩ => ⟨S2x5632, .f32⟩
  | .hbm, ⟨5, _⟩ => ⟨S2050x5632, .f32⟩
  | .hbm, ⟨6, _⟩ => ⟨S2048x5632, .f32⟩
  | .hbm, ⟨7, _⟩ => ⟨S2048x5632, .f32⟩
  | .hbm, ⟨8, _⟩ => ⟨S2048x5632, .f32⟩
  | .hbm, ⟨9, _⟩ => ⟨S1x2048x5632, .f32⟩
  | .hbm, ⟨10, _⟩ => ⟨S1x2048x5632, .f32⟩
  | .hbm, ⟨11, _⟩ => ⟨S1x2048x5632, .f32⟩
  | .hbm, ⟨12, _⟩ => ⟨S3x2048x5632, .f32⟩
  | .hbm, ⟨13, _⟩ => ⟨S3x1x5632, .f32⟩
  | .hbm, ⟨14, _⟩ => ⟨S3x2048x5632, .f32⟩
  | .hbm, ⟨15, _⟩ => ⟨S3x2048x5632, .f32⟩
  | .hbm, ⟨16, _⟩ => ⟨S_, .f32⟩
  | .hbm, ⟨17, _⟩ => ⟨S2048x5632, .f32⟩
  | .hbm, ⟨18, _⟩ => ⟨S2048x5632, .f32⟩
  | .hbm, ⟨19, _⟩ => ⟨S2048x5632, .f32⟩
  | .hbm, ⟨20, _⟩ => ⟨S2048x2816, .f32⟩
  | .hbm, ⟨21, _⟩ => ⟨S2048x2816, .f32⟩
  | .hbm, ⟨22, _⟩ => ⟨S2048x2816, .f32⟩
  | .hbm, ⟨23, _⟩ => ⟨S2048x2816, .f32⟩
  | .hbm, ⟨24, _⟩ => ⟨S_, .f32⟩
  | .hbm, ⟨25, _⟩ => ⟨S2048x2816, .f32⟩
  | .hbm, ⟨26, _⟩ => ⟨S2048x2816, .f32⟩
  | .hbm, ⟨27, _⟩ => ⟨S_, .f32⟩
  | .hbm, ⟨28, _⟩ => ⟨S2048x2816, .f32⟩
  | .hbm, ⟨29, _⟩ => ⟨S2048x2816, .f32⟩
  | .hbm, ⟨30, _⟩ => ⟨S2048x2816, .f32⟩
  | .hbm, ⟨31, _⟩ => ⟨S2048x2816, .f32⟩
  | .hbm, ⟨32, _⟩ => ⟨S2048x2816, .bf16⟩
  | _, _ => ⟨S2048x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_0 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_call0_v0 : Ref sig .tc := ⟨.hbm, 22, rfl⟩
abbrev main_call0_v1 : Ref sig .tc := ⟨.hbm, 23, rfl⟩
abbrev main_call0_cst : Ref sig .tc := ⟨.hbm, 24, rfl⟩
abbrev main_call0_v2 : Ref sig .tc := ⟨.hbm, 25, rfl⟩
abbrev main_call0_v3 : Ref sig .tc := ⟨.hbm, 26, rfl⟩
abbrev main_call0_cst_0 : Ref sig .tc := ⟨.hbm, 27, rfl⟩
abbrev main_call0_v4 : Ref sig .tc := ⟨.hbm, 28, rfl⟩
abbrev main_call0_v5 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩

abbrev nD : Nat := 1
abbrev τ : Topo := Topo.v7x

variable {F : FTy → Type} [FloatOps F]
-- ==== SsdConv.lean ====
abbrev S2048x2560 : Shape := ⟨2, ![2048, 2560]⟩
abbrev S4x1536 : Shape := ⟨2, ![4, 1536]⟩
abbrev S1x1536 : Shape := ⟨2, ![1, 1536]⟩
abbrev S2048x1536 : Shape := ⟨2, ![2048, 1536]⟩
abbrev S8x256 : Shape := ⟨2, ![8, 256]⟩
abbrev S2048x256 : Shape := ⟨2, ![2048, 256]⟩
abbrev S4x256 : Shape := ⟨2, ![4, 256]⟩
abbrev S1x256 : Shape := ⟨2, ![1, 256]⟩
abbrev S2056x256 : Shape := ⟨2, ![2056, 256]⟩

abbrev nBuf : Space → Nat
  | .hbm => 4
  | .vmem => 11
  | .smem => 0
  | _ => 0

abbrev bufTy : (tb : Table) → Fin (tcTables nBuf tb) → BufTy
  | .hbm, ⟨0, _⟩ => ⟨S2048x2560, .f32⟩
  | .hbm, ⟨1, _⟩ => ⟨S4x1536, .f32⟩
  | .hbm, ⟨2, _⟩ => ⟨S1x1536, .f32⟩
  | .hbm, ⟨3, _⟩ => ⟨S2048x1536, .f32⟩
  | .local _ .vmem, ⟨0, _⟩ => ⟨S8x256, .f32⟩
  | .local _ .vmem, ⟨1, _⟩ => ⟨S8x256, .f32⟩
  | .local _ .vmem, ⟨2, _⟩ => ⟨S2048x256, .f32⟩
  | .local _ .vmem, ⟨3, _⟩ => ⟨S2048x256, .f32⟩
  | .local _ .vmem, ⟨4, _⟩ => ⟨S4x256, .f32⟩
  | .local _ .vmem, ⟨5, _⟩ => ⟨S4x256, .f32⟩
  | .local _ .vmem, ⟨6, _⟩ => ⟨S1x256, .f32⟩
  | .local _ .vmem, ⟨7, _⟩ => ⟨S1x256, .f32⟩
  | .local _ .vmem, ⟨8, _⟩ => ⟨S2048x256, .f32⟩
  | .local _ .vmem, ⟨9, _⟩ => ⟨S2048x256, .f32⟩
  | .local _ .vmem, ⟨10, _⟩ => ⟨S2056x256, .f32⟩
  | _, _ => ⟨S2048x2560, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![6, 1], ![false, false]⟩

def cc0_transform_0 (i : grid0.Coords) : Fin 2 → Nat :=
  let arg0 : BitVec 32 := BitVec.ofNat 32 (i 0).val
  let arg1 : BitVec 32 := BitVec.ofNat 32 (i 1).val
  let c256_i32 : BitVec 32 := 256#32
  let v0 : BitVec 32 := Scalar.muli arg1 c256_i32
  let c1_i32 : BitVec 32 := 1#32
  let v1 : BitVec 32 := Scalar.subi v0 c1_i32
  let c0_i32 : BitVec 32 := 0#32
  let v2 : BitVec 32 := Scalar.maxsi v1 c0_i32
  let c4_i32 : BitVec 32 := 4#32
  let v3 : BitVec 32 := Scalar.addi arg0 c4_i32
  let c0_i32_0 : BitVec 32 := 0#32
  ![v2.toNat, v3.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi arg0 c4_i32
  let c0_i32 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![arg1.toNat, v0.toNat]

abbrev stage0_0 : Fin 2 → Memref sig .tc .vmem S8x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S4x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S2048x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== XbcIdeal.lean ====
abbrev S2048x2560 : Shape := ⟨2, ![2048, 2560]⟩
abbrev S4x1536 : Shape := ⟨2, ![4, 1536]⟩
abbrev S1x1536 : Shape := ⟨2, ![1, 1536]⟩
abbrev S2048x1536 : Shape := ⟨2, ![2048, 1536]⟩
abbrev S_ : Shape := ⟨0, ![]⟩
abbrev S3x1536 : Shape := ⟨2, ![3, 1536]⟩
abbrev S2051x1536 : Shape := ⟨2, ![2051, 1536]⟩
abbrev S1x2048x1536 : Shape := ⟨3, ![1, 2048, 1536]⟩
abbrev S4x2048x1536 : Shape := ⟨3, ![4, 2048, 1536]⟩
abbrev S4x1x1536 : Shape := ⟨3, ![4, 1, 1536]⟩

abbrev nBuf : Space → Nat
  | .hbm => 32
  | .vmem => 0
  | .smem => 0
  | _ => 0

abbrev bufTy : (tb : Table) → Fin (tcTables nBuf tb) → BufTy
  | .hbm, ⟨0, _⟩ => ⟨S2048x2560, .f32⟩
  | .hbm, ⟨1, _⟩ => ⟨S4x1536, .f32⟩
  | .hbm, ⟨2, _⟩ => ⟨S1x1536, .f32⟩
  | .hbm, ⟨3, _⟩ => ⟨S2048x1536, .f32⟩
  | .hbm, ⟨4, _⟩ => ⟨S_, .f32⟩
  | .hbm, ⟨5, _⟩ => ⟨S3x1536, .f32⟩
  | .hbm, ⟨6, _⟩ => ⟨S2051x1536, .f32⟩
  | .hbm, ⟨7, _⟩ => ⟨S2048x1536, .f32⟩
  | .hbm, ⟨8, _⟩ => ⟨S2048x1536, .f32⟩
  | .hbm, ⟨9, _⟩ => ⟨S2048x1536, .f32⟩
  | .hbm, ⟨10, _⟩ => ⟨S2048x1536, .f32⟩
  | .hbm, ⟨11, _⟩ => ⟨S1x2048x1536, .f32⟩
  | .hbm, ⟨12, _⟩ => ⟨S1x2048x1536, .f32⟩
  | .hbm, ⟨13, _⟩ => ⟨S1x2048x1536, .f32⟩
  | .hbm, ⟨14, _⟩ => ⟨S1x2048x1536, .f32⟩
  | .hbm, ⟨15, _⟩ => ⟨S4x2048x1536, .f32⟩
  | .hbm, ⟨16, _⟩ => ⟨S4x1x1536, .f32⟩
  | .hbm, ⟨17, _⟩ => ⟨S4x2048x1536, .f32⟩
  | .hbm, ⟨18, _⟩ => ⟨S4x2048x1536, .f32⟩
  | .hbm, ⟨19, _⟩ => ⟨S_, .f32⟩
  | .hbm, ⟨20, _⟩ => ⟨S2048x1536, .f32⟩
  | .hbm, ⟨21, _⟩ => ⟨S2048x1536, .f32⟩
  | .hbm, ⟨22, _⟩ => ⟨S2048x1536, .f32⟩
  | .hbm, ⟨23, _⟩ => ⟨S2048x1536, .f32⟩
  | .hbm, ⟨24, _⟩ => ⟨S2048x1536, .f32⟩
  | .hbm, ⟨25, _⟩ => ⟨S_, .f32⟩
  | .hbm, ⟨26, _⟩ => ⟨S2048x1536, .f32⟩
  | .hbm, ⟨27, _⟩ => ⟨S2048x1536, .f32⟩
  | .hbm, ⟨28, _⟩ => ⟨S_, .f32⟩
  | .hbm, ⟨29, _⟩ => ⟨S2048x1536, .f32⟩
  | .hbm, ⟨30, _⟩ => ⟨S2048x1536, .f32⟩
  | .hbm, ⟨31, _⟩ => ⟨S2048x1536, .f32⟩
  | _, _ => ⟨S2048x2560, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_cst_0 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_call0_v0 : Ref sig .tc := ⟨.hbm, 23, rfl⟩
abbrev main_call0_v1 : Ref sig .tc := ⟨.hbm, 24, rfl⟩
abbrev main_call0_cst : Ref sig .tc := ⟨.hbm, 25, rfl⟩
abbrev main_call0_v2 : Ref sig .tc := ⟨.hbm, 26, rfl⟩
abbrev main_call0_v3 : Ref sig .tc := ⟨.hbm, 27, rfl⟩
abbrev main_call0_cst_0 : Ref sig .tc := ⟨.hbm, 28, rfl⟩
abbrev main_call0_v4 : Ref sig .tc := ⟨.hbm, 29, rfl⟩
abbrev main_call0_v5 : Ref sig .tc := ⟨.hbm, 30, rfl⟩
abbrev main_v18 : Ref sig .tc := ⟨.hbm, 31, rfl⟩

abbrev nD : Nat := 1
abbrev τ : Topo := Topo.v7x

variable {F : FTy → Type} [FloatOps F]
-- ==== AdaMod.lean ====
abbrev S8x1024 : Shape := ⟨2, ![8, 1024]⟩
abbrev S1024x768 : Shape := ⟨2, ![1024, 768]⟩
abbrev S1x768 : Shape := ⟨2, ![1, 768]⟩
abbrev S8x768 : Shape := ⟨2, ![8, 768]⟩

abbrev nBuf : Space → Nat
  | .hbm => 5
  | .vmem => 5
  | .smem => 0
  | _ => 0

abbrev bufTy : (tb : Table) → Fin (tcTables nBuf tb) → BufTy
  | .hbm, ⟨0, _⟩ => ⟨S8x1024, .f32⟩
  | .hbm, ⟨1, _⟩ => ⟨S1024x768, .f32⟩
  | .hbm, ⟨2, _⟩ => ⟨S1x768, .f32⟩
  | .hbm, ⟨3, _⟩ => ⟨S8x768, .f32⟩
  | .hbm, ⟨4, _⟩ => ⟨S8x1024, .f32⟩
  | .local _ .vmem, ⟨0, _⟩ => ⟨S8x1024, .f32⟩
  | .local _ .vmem, ⟨1, _⟩ => ⟨S1024x768, .f32⟩
  | .local _ .vmem, ⟨2, _⟩ => ⟨S1x768, .f32⟩
  | .local _ .vmem, ⟨3, _⟩ => ⟨S8x768, .f32⟩
  | .local _ .vmem, ⟨4, _⟩ => ⟨S8x1024, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== ModulIdeal.lean ====
abbrev S8x1024 : Shape := ⟨2, ![8, 1024]⟩
abbrev S1024x768 : Shape := ⟨2, ![1024, 768]⟩
abbrev S1x768 : Shape := ⟨2, ![1, 768]⟩
abbrev S_ : Shape := ⟨0, ![]⟩
abbrev S8x768 : Shape := ⟨2, ![8, 768]⟩

abbrev nBuf : Space → Nat
  | .hbm => 15
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S1024x768, .f32⟩
  | .hbm, ⟨2, _⟩ => ⟨S1x768, .f32⟩
  | .hbm, ⟨3, _⟩ => ⟨S8x1024, .f32⟩
  | .hbm, ⟨4, _⟩ => ⟨S8x1024, .f32⟩
  | .hbm, ⟨5, _⟩ => ⟨S_, .f32⟩
  | .hbm, ⟨6, _⟩ => ⟨S8x1024, .f32⟩
  | .hbm, ⟨7, _⟩ => ⟨S8x1024, .f32⟩
  | .hbm, ⟨8, _⟩ => ⟨S_, .f32⟩
  | .hbm, ⟨9, _⟩ => ⟨S8x1024, .f32⟩
  | .hbm, ⟨10, _⟩ => ⟨S8x1024, .f32⟩
  | .hbm, ⟨11, _⟩ => ⟨S8x1024, .f32⟩
  | .hbm, ⟨12, _⟩ => ⟨S8x768, .f32⟩
  | .hbm, ⟨13, _⟩ => ⟨S8x768, .f32⟩
  | .hbm, ⟨14, _⟩ => ⟨S8x768, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩

abbrev nD : Nat := 1
abbrev τ : Topo := Topo.v7x

variable {F : FTy → Type} [FloatOps F]
-- ==== Proof.ConfTaps.lean ====
module

public import proofs.«01_k».proof.Proof.Gen.ConfBwdIdeal.Value
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.ConfBwdIdeal.Conf
open Cert.ConfBwdIdeal Cert.ConfBwdIdeal.Gen

/-- 1024 rows followed by 32 rows. -/
def joinD (a : Vec Ideal S1024x256 .f32) (b : Vec Ideal S32x256 .f32) : Vec Ideal S1056x256 .f32 :=
  fun y => if h : (y 0).val < 1024 then a (ix2 ⟨(y 0).val, h⟩ (y 1)) else b (ix2 ⟨(y 0).val - 1024, by have := (y 0).isLt; change _ < 1056 at this; omega⟩ (y 1))

/-- 32 rows followed by 1024 rows. -/
def joinU (b : Vec Ideal S32x256 .f32) (a : Vec Ideal S1024x256 .f32) : Vec Ideal S1056x256 .f32 :=
  fun y => if h : (y 0).val < 32 then b (ix2 ⟨(y 0).val, h⟩ (y 1)) else a (ix2 ⟨(y 0).val - 32, by have := (y 0).isLt; change _ < 1056 at this; omega⟩ (y 1))

/-! A load of a whole scratch after the two stores that fill it reads the two pieces side by side. -/

theorem readD {sig' : RefSig} {κ : Kind} {sp : Space} (v : View sig' κ sp S1056x256 .f32) (a : Vec Ideal S1024x256 .f32) (b : Vec Ideal S32x256 .f32) (h1 h2 h3) :
    v.readCov (Val := Elt Ideal) [⟨Rect.unit (s := S1056x256) ![1024, 0] ![32, 256] h1, b⟩, ⟨Rect.unit (s := S1056x256) ![0, 0] ![1024, 256] h2, a⟩]
      (Rect.unit (s := S1056x256) ![0, 0] ![1056, 256] h3).toLoadRect = joinD a b := by
  rw [View.readCov_eq_canon']
  funext j
  have e : (Rect.unit (s := S1056x256) ![0, 0] ![1056, 256] h3).idx j = j := by
    funext a; apply Fin.ext
    fin_cases a <;> simp [LoadRect.idx]
  show View.canon _ ((Rect.unit (s := S1056x256) ![0, 0] ![1056, 256] h3).idx j) = _
  rw [e]
  clear e
  revert j
  intro (j : S1056x256.Idx)
  have hb0 := (j 0).isLt
  change _ < 1056 at hb0
  have hb1 := (j 1).isLt
  change _ < 256 at hb1
  have hc : ∃ p ∈ ([⟨Rect.unit ![1024, 0] ![32, 256] h1, b⟩, ⟨Rect.unit ![0, 0] ![1024, 256] h2, a⟩] : List (View.Piece (Elt Ideal) S1056x256 .f32)), j ∈ p.fst.set := by
    by_cases hj : (j 0).val < 1024
    · have mm : j ∈ (Rect.unit (s := S1056x256) ![0, 0] ![1024, 256] h2).set := Rect.mem_set_unit.mpr fun q => by
        fin_cases q
        · show 0 ≤ (j 0).val ∧ (j 0).val < 0 + 1024
          omega
        · show 0 ≤ (j 1).val ∧ (j 1).val < 0 + 256
          omega
      exact ⟨⟨Rect.unit (s := S1056x256) ![0, 0] ![1024, 256] h2, a⟩, by simp, mm⟩
    · have mm : j ∈ (Rect.unit (s := S1056x256) ![1024, 0] ![32, 256] h1).set := Rect.mem_set_unit.mpr fun q => by
        fin_cases q
        · show 1024 ≤ (j 0).val ∧ (j 0).val < 1024 + 32
          omega
        · show 0 ≤ (j 1).val ∧ (j 1).val < 0 + 256
          omega
      exact ⟨⟨Rect.unit (s := S1056x256) ![1024, 0] ![32, 256] h1, b⟩, by simp, mm⟩
  canon_tiles x h using hc
  · show b x = dite _ _ _
    rw [dif_neg (by omega)]
    congr 1
    funext q
    fin_cases q
    · apply Fin.ext
      show (x 0).val = (j 0).val - 1024
      omega
    · apply Fin.ext
      show (x 1).val = (j 1).val
      omega
  · show a x = dite _ _ _
    rw [dif_pos (by omega)]
    congr 1
    funext q
    fin_cases q
    · apply Fin.ext
      show (x 0).val = (j 0).val
      omega
    · apply Fin.ext
      show (x 1).val = (j 1).val
      omega

theorem readU {sig' : RefSig} {κ : Kind} {sp : Space} (v : View sig' κ sp S1056x256 .f32) (a : Vec Ideal S1024x256 .f32) (b : Vec Ideal S32x256 .f32) (h1 h2 h3) :
    v.readCov (Val := Elt Ideal) [⟨Rect.unit (s := S1056x256) ![32, 0] ![1024, 256] h1, a⟩, ⟨Rect.unit (s := S1056x256) ![0, 0] ![32, 256] h2, b⟩]
      (Rect.unit (s := S1056x256) ![0, 0] ![1056, 256] h3).toLoadRect = joinU b a := by
  rw [View.readCov_eq_canon']
  funext j
  have e : (Rect.unit (s := S1056x256) ![0, 0] ![1056, 256] h3).idx j = j := by
    funext a; apply Fin.ext
    fin_cases a <;> simp [LoadRect.idx]
  show View.canon _ ((Rect.unit (s := S1056x256) ![0, 0] ![1056, 256] h3).idx j) = _
  rw [e]
  clear e
  revert j
  intro (j : S1056x256.Idx)
  have hb0 := (j 0).isLt
  change _ < 1056 at hb0
  have hb1 := (j 1).isLt
  change _ < 256 at hb1
  have hc : ∃ p ∈ ([⟨Rect.unit ![32, 0] ![1024, 256] h1, a⟩, ⟨Rect.unit ![0, 0] ![32, 256] h2, b⟩] : List (View.Piece (Elt Ideal) S1056x256 .f32)), j ∈ p.fst.set := by
    by_cases hj : (j 0).val < 32
    · have mm : j ∈ (Rect.unit (s := S1056x256) ![0, 0] ![32, 256] h2).set := Rect.mem_set_unit.mpr fun q => by
        fin_cases q
        · show 0 ≤ (j 0).val ∧ (j 0).val < 0 + 32
          omega
        · show 0 ≤ (j 1).val ∧ (j 1).val < 0 + 256
          omega
      exact ⟨⟨Rect.unit (s := S1056x256) ![0, 0] ![32, 256] h2, b⟩, by simp, mm⟩
    · have mm : j ∈ (Rect.unit (s := S1056x256) ![32, 0] ![1024, 256] h1).set := Rect.mem_set_unit.mpr fun q => by
        fin_cases q
        · show 32 ≤ (j 0).val ∧ (j 0).val < 32 + 1024
          omega
        · show 0 ≤ (j 1).val ∧ (j 1).val < 0 + 256
          omega
      exact ⟨⟨Rect.unit (s := S1056x256) ![32, 0] ![1024, 256] h1, a⟩, by simp, mm⟩
  canon_tiles x h using hc
  · show a x = dite _ _ _
    rw [dif_neg (by omega)]
    congr 1
    funext q
    fin_cases q
    · apply Fin.ext
      show (x 0).val = (j 0).val - 32
      omega
    · apply Fin.ext
      show (x 1).val = (j 1).val
      omega
  · show b x = dite _ _ _
    rw [dif_pos (by omega)]
    congr 1
    funext q
    fin_cases q
    · apply Fin.ext
      show (x 0).val = (j 0).val
      omega
    · apply Fin.ext
      show (x 1).val = (j 1).val
      omega

/-- The shifted rows that the rotations and slices read, as plain offsets. -/
theorem shifts (n : ℕ) (hn : n < 1024) :
    ((n + 1056 - 1055) % 1056 = n + 1) ∧
    ((8 + n + 1056 - 1055) % 1056 = n + 9) ∧
    ((16 + n + 1056 - 1055) % 1056 = n + 17) ∧
    ((24 + n + 1056 - 1055) % 1056 = n + 25) ∧
    ((n + 1056 - 1054) % 1056 = n + 2) ∧
    ((8 + n + 1056 - 1054) % 1056 = n + 10) ∧
    ((16 + n + 1056 - 1054) % 1056 = n + 18) ∧
    ((24 + n + 1056 - 1054) % 1056 = n + 26) ∧
    ((n + 1056 - 1053) % 1056 = n + 3) ∧
    ((8 + n + 1056 - 1053) % 1056 = n + 11) ∧
    ((16 + n + 1056 - 1053) % 1056 = n + 19) ∧
    ((24 + n + 1056 - 1053) % 1056 = n + 27) ∧
    ((n + 1056 - 1052) % 1056 = n + 4) ∧
    ((8 + n + 1056 - 1052) % 1056 = n + 12) ∧
    ((16 + n + 1056 - 1052) % 1056 = n + 20) ∧
    ((24 + n + 1056 - 1052) % 1056 = n + 28) ∧
    ((n + 1056 - 1051) % 1056 = n + 5) ∧
    ((8 + n + 1056 - 1051) % 1056 = n + 13) ∧
    ((16 + n + 1056 - 1051) % 1056 = n + 21) ∧
    ((24 + n + 1056 - 1051) % 1056 = n + 29) ∧
    ((n + 1056 - 1050) % 1056 = n + 6) ∧
    ((8 + n + 1056 - 1050) % 1056 = n + 14) ∧
    ((16 + n + 1056 - 1050) % 1056 = n + 22) ∧
    ((24 + n + 1056 - 1050) % 1056 = n + 30) ∧
    ((n + 1056 - 1049) % 1056 = n + 7) ∧
    ((8 + n + 1056 - 1049) % 1056 = n + 15) ∧
    ((16 + n + 1056 - 1049) % 1056 = n + 23) ∧
    ((24 + n + 1056 - 1049) % 1056 = n + 31) ∧
    (8 + n = n + 8) ∧
    (16 + n = n + 16) ∧
    (24 + n = n + 24) := by
  omega

/-- A column of the taps, as a function of the tap's number. -/
def wAt (w : Vec Ideal S31x256 .f32) (c : Fin 256) (k : ℕ) : EReal := if h : k < 31 then w (ix2 ⟨k, h⟩ c) else 0

/-- A column of a scratch, as a function of the row's number. -/
def eAt (E : Vec Ideal S1056x256 .f32) (c : Fin 256) (n : ℕ) : EReal := if h : n < 1056 then E (ix2 ⟨n, h⟩ c) else 0

theorem wAt_eq (w : Vec Ideal S31x256 .f32) (c : Fin 256) (k : Fin 31) : w (ix2 k c) = wAt w c k.val := by
  unfold wAt; rw [dif_pos k.isLt]

theorem eAt_eq (E : Vec Ideal S1056x256 .f32) (c : Fin 256) (n : Fin 1056) : E (ix2 n c) = eAt E c n.val := by
  unfold eAt; rw [dif_pos n.isLt]

/-- The nested payload that sums the 31 shifted rows, as the body composes it from the rows' scratch and the taps. -/
def du0 (E : Vec Ideal S1056x256 .f32) (x6 : Vec Ideal S31x256 .f32) : FVec Ideal S1024x256 .f32 :=
  k0_pay21 (k0_pay18 E (k0_pay15 E (k0_pay12 E (k0_pay9 E (View.ld x6 (Rect.unit ![6, 0] ![1, 256] inb_S31x256_S1x256_6_0)) (View.ld x6 (Rect.unit ![14, 0] ![1, 256] inb_S31x256_S1x256_14_0)) (View.ld x6 (Rect.unit ![22, 0] ![1, 256] inb_S31x256_S1x256_22_0)) (View.ld x6 (Rect.unit ![30, 0] ![1, 256] inb_S31x256_S1x256_30_0))) (k0_pay10 E) (k0_pay11 E (View.ld x6 (Rect.unit ![5, 0] ![1, 256] inb_S31x256_S1x256_5_0))) (View.ld x6 (Rect.unit ![13, 0] ![1, 256] inb_S31x256_S1x256_13_0)) (View.ld x6 (Rect.unit ![21, 0] ![1, 256] inb_S31x256_S1x256_21_0)) (View.ld x6 (Rect.unit ![29, 0] ![1, 256] inb_S31x256_S1x256_29_0)) (View.ld x6 (Rect.unit ![4, 0] ![1, 256] inb_S31x256_S1x256_4_0)) (View.ld x6 (Rect.unit ![12, 0] ![1, 256] inb_S31x256_S1x256_12_0)) (View.ld x6 (Rect.unit ![20, 0] ![1, 256] inb_S31x256_S1x256_20_0)) (View.ld x6 (Rect.unit ![28, 0] ![1, 256] inb_S31x256_S1x256_28_0))) (k0_pay13 E) (k0_pay14 E (View.ld x6 (Rect.unit ![3, 0] ![1, 256] inb_S31x256_S1x256_3_0))) (View.ld x6 (Rect.unit ![11, 0] ![1, 256] inb_S31x256_S1x256_11_0)) (View.ld x6 (Rect.unit ![19, 0] ![1, 256] inb_S31x256_S1x256_19_0)) (View.ld x6 (Rect.unit ![27, 0] ![1, 256] inb_S31x256_S1x256_27_0)) (View.ld x6 (Rect.unit ![2, 0] ![1, 256] inb_S31x256_S1x256_2_0)) (View.ld x6 (Rect.unit ![10, 0] ![1, 256] inb_S31x256_S1x256_10_0)) (View.ld x6 (Rect.unit ![18, 0] ![1, 256] inb_S31x256_S1x256_18_0)) (View.ld x6 (Rect.unit ![26, 0] ![1, 256] inb_S31x256_S1x256_26_0))) (k0_pay16 E) (k0_pay17 E (View.ld x6 (Rect.unit ![1, 0] ![1, 256] inb_S31x256_S1x256_1_0))) (View.ld x6 (Rect.unit ![9, 0] ![1, 256] inb_S31x256_S1x256_9_0)) (View.ld x6 (Rect.unit ![17, 0] ![1, 256] inb_S31x256_S1x256_17_0)) (View.ld x6 (Rect.unit ![25, 0] ![1, 256] inb_S31x256_S1x256_25_0)) (View.ld x6 (Rect.unit ![0, 0] ![1, 256] inb_S31x256_S1x256_0_0)) (View.ld x6 (Rect.unit ![8, 0] ![1, 256] inb_S31x256_S1x256_8_0)) (View.ld x6 (Rect.unit ![16, 0] ![1, 256] inb_S31x256_S1x256_16_0)) (View.ld x6 (Rect.unit ![24, 0] ![1, 256] inb_S31x256_S1x256_24_0))) (k0_pay19 E) (k0_pay20 E (View.ld x6 (Rect.unit ![7, 0] ![1, 256] inb_S31x256_S1x256_7_0))) (View.ld x6 (Rect.unit ![15, 0] ![1, 256] inb_S31x256_S1x256_15_0)) (View.ld x6 (Rect.unit ![23, 0] ![1, 256] inb_S31x256_S1x256_23_0))

/-- Tap `k`'s term at row `n`. -/
def tap (w : Vec Ideal S31x256 .f32) (E : Vec Ideal S1056x256 .f32) (c : Fin 256) (n k : ℕ) : EReal := wAt w c k * eAt E c (n + (30 - k))

theorem p9_apply (E : Vec Ideal S1056x256 .f32) (x6 : Vec Ideal S31x256 .f32) (n : Fin 1024) (c : Fin 256) :
    (k0_pay9 E (View.ld x6 (Rect.unit ![6, 0] ![1, 256] inb_S31x256_S1x256_6_0)) (View.ld x6 (Rect.unit ![14, 0] ![1, 256] inb_S31x256_S1x256_14_0)) (View.ld x6 (Rect.unit ![22, 0] ![1, 256] inb_S31x256_S1x256_22_0)) (View.ld x6 (Rect.unit ![30, 0] ![1, 256] inb_S31x256_S1x256_30_0))) (ix2 n c) = tap x6 E c n.val 6 + tap x6 E c n.val 14 + tap x6 E c n.val 22 + tap x6 E c n.val 30 := by
  unfold_payloads
  pointwise
  simp only [wAt_eq, eAt_eq]
  obtain ⟨f1_0, f1_8, f1_16, f1_24, f2_0, f2_8, f2_16, f2_24, f3_0, f3_8, f3_16, f3_24, f4_0, f4_8, f4_16, f4_24, f5_0, f5_8, f5_16, f5_24, f6_0, f6_8, f6_16, f6_24, f7_0, f7_8, f7_16, f7_24, f0_8, f0_16, f0_24⟩ := shifts n.val n.isLt
  try simp only [f1_0, f1_8, f1_16, f1_24, f2_0, f2_8, f2_16, f2_24, f3_0, f3_8, f3_16, f3_24, f4_0, f4_8, f4_16, f4_24, f5_0, f5_8, f5_16, f5_24, f6_0, f6_8, f6_16, f6_24, f7_0, f7_8, f7_16, f7_24]
  simp only [f0_8, f0_16, f0_24, tap, Nat.reduceSub]
  rfl

theorem p12_apply (E : Vec Ideal S1056x256 .f32) (x6 : Vec Ideal S31x256 .f32) (n : Fin 1024) (c : Fin 256) (A : FVec Ideal S1024x256 .f32) :
    (k0_pay12 E A (k0_pay10 E) (k0_pay11 E (View.ld x6 (Rect.unit ![5, 0] ![1, 256] inb_S31x256_S1x256_5_0))) (View.ld x6 (Rect.unit ![13, 0] ![1, 256] inb_S31x256_S1x256_13_0)) (View.ld x6 (Rect.unit ![21, 0] ![1, 256] inb_S31x256_S1x256_21_0)) (View.ld x6 (Rect.unit ![29, 0] ![1, 256] inb_S31x256_S1x256_29_0)) (View.ld x6 (Rect.unit ![4, 0] ![1, 256] inb_S31x256_S1x256_4_0)) (View.ld x6 (Rect.unit ![12, 0] ![1, 256] inb_S31x256_S1x256_12_0)) (View.ld x6 (Rect.unit ![20, 0] ![1, 256] inb_S31x256_S1x256_20_0)) (View.ld x6 (Rect.unit ![28, 0] ![1, 256] inb_S31x256_S1x256_28_0))) (ix2 n c) = A (ix2 n c) + tap x6 E c n.val 5 + tap x6 E c n.val 13 + tap x6 E c n.val 21 + tap x6 E c n.val 29 + tap x6 E c n.val 4 + tap x6 E c n.val 12 + tap x6 E c n.val 20 + tap x6 E c n.val 28 := by
  unfold_payloads
  pointwise
  simp only [wAt_eq, eAt_eq]
  obtain ⟨f1_0, f1_8, f1_16, f1_24, f2_0, f2_8, f2_16, f2_24, f3_0, f3_8, f3_16, f3_24, f4_0, f4_8, f4_16, f4_24, f5_0, f5_8, f5_16, f5_24, f6_0, f6_8, f6_16, f6_24, f7_0, f7_8, f7_16, f7_24, f0_8, f0_16, f0_24⟩ := shifts n.val n.isLt
  try simp only [f1_0, f1_8, f1_16, f1_24, f2_0, f2_8, f2_16, f2_24, f3_0, f3_8, f3_16, f3_24, f4_0, f4_8, f4_16, f4_24, f5_0, f5_8, f5_16, f5_24, f6_0, f6_8, f6_16, f6_24, f7_0, f7_8, f7_16, f7_24]
  simp only [f0_8, f0_16, f0_24, tap, Nat.reduceSub]
  rfl

theorem p15_apply (E : Vec Ideal S1056x256 .f32) (x6 : Vec Ideal S31x256 .f32) (n : Fin 1024) (c : Fin 256) (A : FVec Ideal S1024x256 .f32) :
    (k0_pay15 E A (k0_pay13 E) (k0_pay14 E (View.ld x6 (Rect.unit ![3, 0] ![1, 256] inb_S31x256_S1x256_3_0))) (View.ld x6 (Rect.unit ![11, 0] ![1, 256] inb_S31x256_S1x256_11_0)) (View.ld x6 (Rect.unit ![19, 0] ![1, 256] inb_S31x256_S1x256_19_0)) (View.ld x6 (Rect.unit ![27, 0] ![1, 256] inb_S31x256_S1x256_27_0)) (View.ld x6 (Rect.unit ![2, 0] ![1, 256] inb_S31x256_S1x256_2_0)) (View.ld x6 (Rect.unit ![10, 0] ![1, 256] inb_S31x256_S1x256_10_0)) (View.ld x6 (Rect.unit ![18, 0] ![1, 256] inb_S31x256_S1x256_18_0)) (View.ld x6 (Rect.unit ![26, 0] ![1, 256] inb_S31x256_S1x256_26_0))) (ix2 n c) = A (ix2 n c) + tap x6 E c n.val 3 + tap x6 E c n.val 11 + tap x6 E c n.val 19 + tap x6 E c n.val 27 + tap x6 E c n.val 2 + tap x6 E c n.val 10 + tap x6 E c n.val 18 + tap x6 E c n.val 26 := by
  unfold_payloads
  pointwise
  simp only [wAt_eq, eAt_eq]
  obtain ⟨f1_0, f1_8, f1_16, f1_24, f2_0, f2_8, f2_16, f2_24, f3_0, f3_8, f3_16, f3_24, f4_0, f4_8, f4_16, f4_24, f5_0, f5_8, f5_16, f5_24, f6_0, f6_8, f6_16, f6_24, f7_0, f7_8, f7_16, f7_24, f0_8, f0_16, f0_24⟩ := shifts n.val n.isLt
  try simp only [f1_0, f1_8, f1_16, f1_24, f2_0, f2_8, f2_16, f2_24, f3_0, f3_8, f3_16, f3_24, f4_0, f4_8, f4_16, f4_24, f5_0, f5_8, f5_16, f5_24, f6_0, f6_8, f6_16, f6_24, f7_0, f7_8, f7_16, f7_24]
  simp only [f0_8, f0_16, f0_24, tap, Nat.reduceSub]
  rfl

theorem p18_apply (E : Vec Ideal S1056x256 .f32) (x6 : Vec Ideal S31x256 .f32) (n : Fin 1024) (c : Fin 256) (A : FVec Ideal S1024x256 .f32) :
    (k0_pay18 E A (k0_pay16 E) (k0_pay17 E (View.ld x6 (Rect.unit ![1, 0] ![1, 256] inb_S31x256_S1x256_1_0))) (View.ld x6 (Rect.unit ![9, 0] ![1, 256] inb_S31x256_S1x256_9_0)) (View.ld x6 (Rect.unit ![17, 0] ![1, 256] inb_S31x256_S1x256_17_0)) (View.ld x6 (Rect.unit ![25, 0] ![1, 256] inb_S31x256_S1x256_25_0)) (View.ld x6 (Rect.unit ![0, 0] ![1, 256] inb_S31x256_S1x256_0_0)) (View.ld x6 (Rect.unit ![8, 0] ![1, 256] inb_S31x256_S1x256_8_0)) (View.ld x6 (Rect.unit ![16, 0] ![1, 256] inb_S31x256_S1x256_16_0)) (View.ld x6 (Rect.unit ![24, 0] ![1, 256] inb_S31x256_S1x256_24_0))) (ix2 n c) = A (ix2 n c) + tap x6 E c n.val 1 + tap x6 E c n.val 9 + tap x6 E c n.val 17 + tap x6 E c n.val 25 + tap x6 E c n.val 0 + tap x6 E c n.val 8 + tap x6 E c n.val 16 + tap x6 E c n.val 24 := by
  unfold_payloads
  pointwise
  simp only [wAt_eq, eAt_eq]
  obtain ⟨f1_0, f1_8, f1_16, f1_24, f2_0, f2_8, f2_16, f2_24, f3_0, f3_8, f3_16, f3_24, f4_0, f4_8, f4_16, f4_24, f5_0, f5_8, f5_16, f5_24, f6_0, f6_8, f6_16, f6_24, f7_0, f7_8, f7_16, f7_24, f0_8, f0_16, f0_24⟩ := shifts n.val n.isLt
  try simp only [f1_0, f1_8, f1_16, f1_24, f2_0, f2_8, f2_16, f2_24, f3_0, f3_8, f3_16, f3_24, f4_0, f4_8, f4_16, f4_24, f5_0, f5_8, f5_16, f5_24, f6_0, f6_8, f6_16, f6_24, f7_0, f7_8, f7_16, f7_24]
  simp only [f0_8, f0_16, f0_24, tap, Nat.reduceSub]
  rfl

theorem p21_apply (E : Vec Ideal S1056x256 .f32) (x6 : Vec Ideal S31x256 .f32) (n : Fin 1024) (c : Fin 256) (A : FVec Ideal S1024x256 .f32) :
    k0_pay21 A (k0_pay19 E) (k0_pay20 E (View.ld x6 (Rect.unit ![7, 0] ![1, 256] inb_S31x256_S1x256_7_0))) (View.ld x6 (Rect.unit ![15, 0] ![1, 256] inb_S31x256_S1x256_15_0)) (View.ld x6 (Rect.unit ![23, 0] ![1, 256] inb_S31x256_S1x256_23_0)) (ix2 n c) = A (ix2 n c) + tap x6 E c n.val 7 + tap x6 E c n.val 15 + tap x6 E c n.val 23 := by
  unfold_payloads
  pointwise
  simp only [wAt_eq, eAt_eq]
  obtain ⟨f1_0, f1_8, f1_16, f1_24, f2_0, f2_8, f2_16, f2_24, f3_0, f3_8, f3_16, f3_24, f4_0, f4_8, f4_16, f4_24, f5_0, f5_8, f5_16, f5_24, f6_0, f6_8, f6_16, f6_24, f7_0, f7_8, f7_16, f7_24, f0_8, f0_16, f0_24⟩ := shifts n.val n.isLt
  try simp only [f1_0, f1_8, f1_16, f1_24, f2_0, f2_8, f2_16, f2_24, f3_0, f3_8, f3_16, f3_24, f4_0, f4_8, f4_16, f4_24, f5_0, f5_8, f5_16, f5_24, f6_0, f6_8, f6_16, f6_24, f7_0, f7_8, f7_16, f7_24]
  simp only [f0_8, f0_16, f0_24, tap, Nat.reduceSub]
  rfl

theorem du0_apply (E : Vec Ideal S1056x256 .f32) (x6 : Vec Ideal S31x256 .f32) (n : Fin 1024) (c : Fin 256) :
    du0 E x6 (ix2 n c) = ∑ k ∈ Finset.range 31, tap x6 E c n.val k := by
  unfold du0
  rw [p21_apply, p18_apply, p15_apply, p12_apply, p9_apply]
  generalize tap x6 E c n.val = t
  simp only [Finset.sum_range_succ, Finset.sum_range_zero, zero_add]
  ac_rfl
-- ==== Proof.ConfTile.lean ====
module

public import proofs.«01_k».proof.Proof.Gen.ConfBwdIdeal.Value
public import Idealize.ShloMosaic.Lib.Pipeline.ValueKit
public import Idealize.ShloMosaic.Lib.Pipeline.ReadBack
public import Idealize.ShloMosaic.Lib.Pointwise
public import proofs.«01_k».proof.Proof.ConfTaps

@[expose] public section

set_option maxRecDepth 16384

noncomputable section

open Idealize.ShloMosaic Idealize.ShloMosaic.TcCoe Idealize.SL.Sem
open Idealize.ShloMosaic.Pipeline (Dat)

namespace Cert.ConfBwdIdeal.Conf
open Cert.ConfBwdIdeal Cert.ConfBwdIdeal.Gen

theorem pay4_apply (x : Vec Ideal S1024x256 .f32) (y : S1024x256.Idx) : k0_pay4 x y = Ideal.logistic (x y) := by
  pointwise [k0_pay4]
  rw [zero_sub]
  rfl

theorem pay22_apply (s A : FVec Ideal S1024x256 .f32) (E : Vec Ideal S1056x256 .f32) (B : FVec Ideal S1024x256 .f32) (w1 w2 : Vec Ideal S1x256 .f32) (y : S1024x256.Idx) :
    k0_pay22 s A (k0_pay19 E) B w1 w2 y = k0_pay21 A (k0_pay19 E) B w1 w2 y * s y := rfl

theorem pay23_apply (a s A : FVec Ideal S1024x256 .f32) (E : Vec Ideal S1056x256 .f32) (B : FVec Ideal S1024x256 .f32) (w1 w2 : Vec Ideal S1x256 .f32) (y : S1024x256.Idx) :
    k0_pay23 a s A (k0_pay19 E) B w1 w2 y = k0_pay21 A (k0_pay19 E) B w1 w2 y * a y * s y * (1 - s y) := by
  show _ * _ * _ * (Scalar.ofBits (F := Ideal) .f32 0x3F800000#32 - _) = _
  pointwise

variable (c : Dev nD) (i : grid0.Coords) (arg2 : Memref sig .tc .vmem S32x256 .f32) (harg2 : arg2.IsWhole) (arg3 : Memref sig .tc .vmem S1024x256 .f32) (harg3 : arg3.IsWhole) (arg4 : Memref sig .tc .vmem S32x256 .f32) (harg4 : arg4.IsWhole) (arg5 : Memref sig .tc .vmem S1024x256 .f32) (harg5 : arg5.IsWhole) (arg6 : Memref sig .tc .vmem S1024x256 .f32) (harg6 : arg6.IsWhole) (arg7 : Memref sig .tc .vmem S32x256 .f32) (harg7 : arg7.IsWhole) (arg8 : Memref sig .tc .vmem S31x256 .f32) (harg8 : arg8.IsWhole) (arg9 : Memref sig .tc .vmem S1024x256 .bf16) (harg9 : arg9.IsWhole) (arg10 : Memref sig .tc .vmem S1024x256 .bf16) (harg10 : arg10.IsWhole) (arg11 : Memref sig .tc .vmem S32x256 .f32) (harg11 : arg11.IsWhole) (arg12 : Memref sig .tc .vmem S1056x256 .f32) (harg12 : arg12.IsWhole) (arg13 : Memref sig .tc .vmem S1056x256 .f32) (harg13 : arg13.IsWhole) (x0 : Vec Ideal S32x256 .f32) (x1 : Vec Ideal S1024x256 .f32) (x2 : Vec Ideal S32x256 .f32) (x3 : Vec Ideal S1024x256 .f32) (x4 : Vec Ideal S1024x256 .f32) (x5 : Vec Ideal S32x256 .f32) (x6 : Vec Ideal S31x256 .f32) (xo9 : Vec Ideal S32x256 .f32)

/-- The first output block of one point: the shifted sums times the gate. -/
theorem out7_A (hc0 : cond0_0 i) (y : S1024x256.Idx) : out0_A_7 c i arg2 harg2 arg3 harg3 arg4 harg4 arg5 harg5 arg6 harg6 arg7 harg7 arg8 harg8 arg9 harg9 arg10 harg10 arg11 harg11 arg12 harg12 arg13 harg13 hc0 x0 x1 x2 x3 x4 x5 x6 y
    = du0 (joinD (k0_pay7 x4) (k0_pay8 (BitVec.ofNat 32 (i 1).val) x5)) x6 y * Ideal.logistic (x3 y) := by
  frame_open
  simp (disch := decide) only [↓ View.readCov_skip, ↓ View.readCov_cons_toLoadRect, ↓ View.readCov_fill]
  frame_out
  simp only [readD, readU]
  refine Eq.trans (pay22_apply _ _ _ _ _ _ y) ?_
  rw [pay4_apply]
  rfl

/-- The second output block of one point. -/
theorem out8_A (hc0 : cond0_0 i) (y : S1024x256.Idx) : out0_A_8 c i arg2 harg2 arg3 harg3 arg4 harg4 arg5 harg5 arg6 harg6 arg7 harg7 arg8 harg8 arg9 harg9 arg10 harg10 arg11 harg11 arg12 harg12 arg13 harg13 hc0 x0 x1 x2 x3 x4 x5 x6 y
    = du0 (joinD (k0_pay7 x4) (k0_pay8 (BitVec.ofNat 32 (i 1).val) x5)) x6 y * x1 y * Ideal.logistic (x3 y) * (1 - Ideal.logistic (x3 y)) := by
  frame_open
  simp (disch := decide) only [↓ View.readCov_skip, ↓ View.readCov_cons_toLoadRect, ↓ View.readCov_fill]
  frame_out
  simp only [readD, readU]
  refine Eq.trans (pay23_apply _ _ _ _ _ _ _ y) ?_
  rw [pay4_apply]
  rfl

/-- The first output block of one point: the shifted sums times the gate. -/
theorem out7_B (hc0 : ¬cond0_0 i) (y : S1024x256.Idx) : out0_B_7 c i arg2 harg2 arg3 harg3 arg4 harg4 arg5 harg5 arg6 harg6 arg7 harg7 arg8 harg8 arg9 harg9 arg10 harg10 arg11 harg11 arg12 harg12 arg13 harg13 hc0 x0 x1 x2 x3 x4 x5 x6 xo9 y
    = du0 (joinD (k0_pay7 x4) (k0_pay8 (BitVec.ofNat 32 (i 1).val) x5)) x6 y * Ideal.logistic (x3 y) := by
  frame_open
  simp (disch := decide) only [↓ View.readCov_skip, ↓ View.readCov_cons_toLoadRect, ↓ View.readCov_fill]
  frame_out
  simp only [readD, readU]
  refine Eq.trans (pay22_apply _ _ _ _ _ _ y) ?_
  rw [pay4_apply]
  rfl

/-- The second output block of one point. -/
theorem out8_B (hc0 : ¬cond0_0 i) (y : S1024x256.Idx) : out0_B_8 c i arg2 harg2 arg3 harg3 arg4 harg4 arg5 harg5 arg6 harg6 arg7 harg7 arg8 harg8 arg9 harg9 arg10 harg10 arg11 harg11 arg12 harg12 arg13 harg13 hc0 x0 x1 x2 x3 x4 x5 x6 xo9 y
    = du0 (joinD (k0_pay7 x4) (k0_pay8 (BitVec.ofNat 32 (i 1).val) x5)) x6 y * x1 y * Ideal.logistic (x3 y) * (1 - Ideal.logistic (x3 y)) := by
  frame_open
  simp (disch := decide) only [↓ View.readCov_skip, ↓ View.readCov_cons_toLoadRect, ↓ View.readCov_fill]
  frame_out
  simp only [readD, readU]
  refine Eq.trans (pay23_apply _ _ _ _ _ _ _ y) ?_
  rw [pay4_apply]
  rfl
-- ==== Proof.ConfRows.lean ====
module

public import proofs.«01_k».proof.Proof.Gen.ConfBwdIdeal.Value
public import Idealize.ShloMosaic.Lib.Pipeline.ValueKit
public import Idealize.ShloMosaic.Lib.Pipeline.ReadBack
public import Idealize.ShloMosaic.Lib.Pointwise
public import proofs.«01_k».proof.Proof.ConfTaps

@[expose] public section

set_option maxRecDepth 16384

noncomputable section

open Idealize.ShloMosaic Idealize.ShloMosaic.TcCoe Idealize.SL.Sem
open Idealize.ShloMosaic.Pipeline (Dat)

namespace Cert.ConfBwdIdeal.Conf
open Cert.ConfBwdIdeal Cert.ConfBwdIdeal.Gen

/-- Row `k` of the taps' gradient over one row tile, added to what was there: the products of the cotangent's rows with the rows `k + 2` on of
    the scratch, and in row 31 the plain sum of the cotangent's rows. -/
def rowTerm (d : Vec Ideal S1024x256 .f32) (E : Vec Ideal S1056x256 .f32) (c : Fin 256) (k : ℕ) : EReal :=
  if k < 31 then ∑ t : Fin 1024, d (ix2 t c) * eAt E c (t.val + (k + 2)) else ∑ t : Fin 1024, d (ix2 t c)

/-- The block of the taps' gradient after one row tile. -/
def rowG (acc : Vec Ideal S32x256 .f32) (d : Vec Ideal S1024x256 .f32) (E : Vec Ideal S1056x256 .f32) : Vec Ideal S32x256 .f32 :=
  fun y => acc y + rowTerm d E (y 1) (y 0).val

theorem row_emb (k : ℕ) (hk : k < 32) (inb) (c : Fin 256) :
    (Rect.unit (s := S32x256) ![k, 0] ![1, 256] inb).emb (ix2 0 c) = ix2 ⟨k, hk⟩ c := by
  funext a
  apply Fin.ext
  fin_cases a
  · show k + 1 * 0 = k
    omega
  · show 0 + 1 * c.val = c.val
    omega

theorem rowG_row (acc : Vec Ideal S32x256 .f32) (d : Vec Ideal S1024x256 .f32) (E : Vec Ideal S1056x256 .f32) (k : ℕ) (hk : k < 31) (inb)
    (x : S1x256.Idx) (p : S1x256.Idx → EReal)
    (h : ∀ c : Fin 256, p (ix2 0 c) = acc (ix2 ⟨k, by omega⟩ c) + ∑ t : Fin 1024, d (ix2 t c) * eAt E c (t.val + (k + 2))) :
    p x = rowG acc d E ((Rect.unit (s := S32x256) ![k, 0] ![1, 256] inb).emb x) := by
  obtain ⟨c, rfl⟩ : ∃ c : Fin 256, x = ix2 0 c := ⟨x 1, by rw [eq_ix2 x]; congr 1; exact Subsingleton.elim _ _⟩
  rw [row_emb k (by omega) inb c, h c]
  exact congrArg (fun z : EReal => acc (ix2 ⟨k, by omega⟩ c) + z) (if_pos hk).symm

theorem rowG_last (acc : Vec Ideal S32x256 .f32) (d : Vec Ideal S1024x256 .f32) (E : Vec Ideal S1056x256 .f32) (inb)
    (x : S1x256.Idx) (p : S1x256.Idx → EReal)
    (h : ∀ c : Fin 256, p (ix2 0 c) = acc (ix2 31 c) + ∑ t : Fin 1024, d (ix2 t c)) :
    p x = rowG acc d E ((Rect.unit (s := S32x256) ![31, 0] ![1, 256] inb).emb x) := by
  obtain ⟨c, rfl⟩ : ∃ c : Fin 256, x = ix2 0 c := ⟨x 1, by rw [eq_ix2 x]; congr 1; exact Subsingleton.elim _ _⟩
  rw [row_emb 31 (by omega) inb c, h c]
  exact congrArg (fun z : EReal => acc (ix2 31 c) + z) (if_neg (by omega : ¬ (31 < 31))).symm

theorem canon_dropLast {S : Shape} {e : EltTy} (G : S.Idx → Elt Ideal e) (L : List (View.Piece (Elt Ideal) S e)) (h : View.PiecesOf G L.dropLast) (y : S.Idx)
    (hc : ∃ p ∈ L.dropLast, y ∈ p.1.set) : View.canon L y = G y := by
  have hL : L ≠ [] := by
    rintro rfl
    simp at hc
  rw [← List.dropLast_append_getLast hL]
  exact View.canon_append_of_piecesOf G _ _ h y hc

variable (c : Dev nD) (i : grid0.Coords) (arg2 : Memref sig .tc .vmem S32x256 .f32) (harg2 : arg2.IsWhole) (arg3 : Memref sig .tc .vmem S1024x256 .f32) (harg3 : arg3.IsWhole) (arg4 : Memref sig .tc .vmem S32x256 .f32) (harg4 : arg4.IsWhole) (arg5 : Memref sig .tc .vmem S1024x256 .f32) (harg5 : arg5.IsWhole) (arg6 : Memref sig .tc .vmem S1024x256 .f32) (harg6 : arg6.IsWhole) (arg7 : Memref sig .tc .vmem S32x256 .f32) (harg7 : arg7.IsWhole) (arg8 : Memref sig .tc .vmem S31x256 .f32) (harg8 : arg8.IsWhole) (arg9 : Memref sig .tc .vmem S1024x256 .bf16) (harg9 : arg9.IsWhole) (arg10 : Memref sig .tc .vmem S1024x256 .bf16) (harg10 : arg10.IsWhole) (arg11 : Memref sig .tc .vmem S32x256 .f32) (harg11 : arg11.IsWhole) (arg12 : Memref sig .tc .vmem S1056x256 .f32) (harg12 : arg12.IsWhole) (arg13 : Memref sig .tc .vmem S1056x256 .f32) (harg13 : arg13.IsWhole) (x0 : Vec Ideal S32x256 .f32) (x1 : Vec Ideal S1024x256 .f32) (x2 : Vec Ideal S32x256 .f32) (x3 : Vec Ideal S1024x256 .f32) (x4 : Vec Ideal S1024x256 .f32) (x5 : Vec Ideal S32x256 .f32) (x6 : Vec Ideal S31x256 .f32) (xo9 : Vec Ideal S32x256 .f32)

set_option maxHeartbeats 2000000 in
/-- What the body leaves in the taps' gradient block in case A. -/
theorem out9_A (hc0 : cond0_0 i) (y : S32x256.Idx) : out0_A_9 c i arg2 harg2 arg3 harg3 arg4 harg4 arg5 harg5 arg6 harg6 arg7 harg7 arg8 harg8 arg9 harg9 arg10 harg10 arg11 harg11 arg12 harg12 arg13 harg13 hc0 x0 x1 x2 x3 x4 x5 x6 y = rowG (k0_pay3 (F := Ideal)) x4 (joinU (k0_pay5 i x0 x2) (k0_pay6 x1 x3)) y := by
  frame_open
  simp (disch := decide) only [↓ View.readCov_skip, ↓ View.readCov_cons_toLoadRect, ↓ View.readCov_fill]
  frame_out
  simp only [readD, readU]
  generalize joinU (k0_pay5 i x0 x2) (k0_pay6 x1 x3) = E
  generalize k0_pay3 (F := Ideal) = acc
  refine canon_dropLast _ _ ?_ _ (View.cover_of_tiledBy _ ![1, 256] (by sl_kernel_rfl) y)
  simp only [List.dropLast, View.PiecesOf, and_true]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩
  all_goals (intro x)
  · refine rowG_last _ _ _ _ x _ fun c => ?_
    unfold_payloads
    pointwise
  all_goals
    refine rowG_row _ _ _ _ (by omega) _ x _ fun c => ?_
    unfold_payloads
    pointwise
    refine congrArg _ (Finset.sum_congr rfl fun t _ => congrArg _ ?_)
    refine Eq.trans (eAt_eq E c _) (congrArg (eAt E c) ?_)
    have := t.isLt
    dsimp only
    omega

set_option maxHeartbeats 2000000 in
/-- What the body leaves in the taps' gradient block in case B. -/
theorem out9_B (hc0 : ¬cond0_0 i) (y : S32x256.Idx) : out0_B_9 c i arg2 harg2 arg3 harg3 arg4 harg4 arg5 harg5 arg6 harg6 arg7 harg7 arg8 harg8 arg9 harg9 arg10 harg10 arg11 harg11 arg12 harg12 arg13 harg13 hc0 x0 x1 x2 x3 x4 x5 x6 xo9 y = rowG xo9 x4 (joinU (k0_pay5 i x0 x2) (k0_pay6 x1 x3)) y := by
  frame_open
  simp (disch := decide) only [↓ View.readCov_skip, ↓ View.readCov_cons_toLoadRect, ↓ View.readCov_fill]
  frame_out
  simp only [readD, readU]
  generalize joinU (k0_pay5 i x0 x2) (k0_pay6 x1 x3) = E

  refine View.canon_apply_of_pieces _ _ (View.PiecesOf.mem ?_) _ (View.cover_of_tiledBy _ ![1, 256] (by sl_kernel_rfl) y)
  simp only [List.dropLast, View.PiecesOf, and_true]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩
  all_goals (intro x)
  · refine rowG_last _ _ _ _ x _ fun c => ?_
    unfold_payloads
    pointwise
  all_goals
    refine rowG_row _ _ _ _ (by omega) _ x _ fun c => ?_
    unfold_payloads
    pointwise
    refine congrArg _ (Finset.sum_congr rfl fun t _ => congrArg _ ?_)
    refine Eq.trans (eAt_eq E c _) (congrArg (eAt E c) ?_)
    have := t.isLt
    dsimp only
    omega
-- ==== Proof.ConfKernel.lean ====
module

public import proofs.«01_k».proof.Proof.Gen.ConfBwdIdeal.Value
public import Idealize.ShloMosaic.Lib.Pipeline.ValueKit
public import Idealize.ShloMosaic.Lib.Pipeline.ReadBack
public import Idealize.ShloMosaic.Lib.Pointwise
public import proofs.«01_k».proof.Proof.ConfTaps
public import proofs.«01_k».proof.Proof.ConfTile
public import proofs.«01_k».proof.Proof.ConfRows

@[expose] public section

set_option maxRecDepth 16384

noncomputable section

open Idealize.ShloMosaic Idealize.ShloMosaic.TcCoe Idealize.SL.Sem
open Idealize.ShloMosaic.Pipeline (Dat)

namespace Cert.ConfBwdIdeal.Conf
open Cert.ConfBwdIdeal Cert.ConfBwdIdeal.Gen

/-! ## The closed forms: the three gradients as functions of the arrays -/

/-- The cotangent at row `q`, column `k`, zero past the last row. -/
def gD (C : FVec Ideal S2048x1024 .f32) (q k : ℕ) : EReal := if h : q < 2048 ∧ k < 1024 then C (ix2 ⟨q, h.1⟩ ⟨k, h.2⟩) else 0

/-- The gated input 30 rows up, zero before the first row. -/
def gU (P : FVec Ideal S2048x2048 .f32) (q k : ℕ) : EReal :=
  if h : (30 ≤ q ∧ q < 2078) ∧ k < 1024 then P (ix2 ⟨q - 30, by omega⟩ ⟨k, by omega⟩) * Ideal.logistic (P (ix2 ⟨q - 30, by omega⟩ ⟨k + 1024, by omega⟩)) else 0

/-- Tap `j` of column `k`. -/
def gW (W : FVec Ideal S31x1024 .f32) (j k : ℕ) : EReal := if h : j < 31 ∧ k < 1024 then W (ix2 ⟨j, h.1⟩ ⟨k, h.2⟩) else 0

/-- The gradient at the gated input: the taps run backwards over the cotangent. -/
def gDu (W : FVec Ideal S31x1024 .f32) (C : FVec Ideal S2048x1024 .f32) (q k : ℕ) : EReal := ∑ j ∈ Finset.range 31, gW W j k * gD C (q + (30 - j)) k

def DA (P : FVec Ideal S2048x2048 .f32) (W : FVec Ideal S31x1024 .f32) (C : FVec Ideal S2048x1024 .f32) (q : Fin 2048) (k : Fin 1024) : EReal :=
  gDu W C q.val k.val * Ideal.logistic (P (ix2 q ⟨k.val + 1024, by omega⟩))

def DG (P : FVec Ideal S2048x2048 .f32) (W : FVec Ideal S31x1024 .f32) (C : FVec Ideal S2048x1024 .f32) (q : Fin 2048) (k : Fin 1024) : EReal :=
  gDu W C q.val k.val * P (ix2 q ⟨k.val, by omega⟩) * Ideal.logistic (P (ix2 q ⟨k.val + 1024, by omega⟩)) * (1 - Ideal.logistic (P (ix2 q ⟨k.val + 1024, by omega⟩)))

def DW (P : FVec Ideal S2048x2048 .f32) (C : FVec Ideal S2048x1024 .f32) (j k : ℕ) : EReal :=
  if j < 31 then ∑ t : Fin 2048, gD C t.val k * gU P (t.val + j) k else ∑ t : Fin 2048, gD C t.val k

/-! ## The blocks of one point -/

variable (m : (ℓ : Loc nD τ sig) → Buf (Elt Ideal) ℓ)

theorem idx : ∀ t : Fin cfg0.N, win0_0.index t = ![(t.val % 2) * 31, t.val / 2] ∧ win0_1.index t = ![t.val % 2, t.val / 2]
    ∧ win0_2.index t = ![(t.val % 2) * 31, t.val / 2 + 4] ∧ win0_3.index t = ![t.val % 2, t.val / 2 + 4] ∧ win0_4.index t = ![t.val % 2, t.val / 2]
    ∧ win0_5.index t = ![32, t.val / 2] ∧ win0_6.index t = ![0, t.val / 2] ∧ win0_7.index t = ![t.val % 2, t.val / 2]
    ∧ win0_8.index t = ![t.val % 2, t.val / 2] ∧ win0_9.index t = ![0, t.val / 2] ∧ t.val < 8 :=
  (by decide +kernel : ∀ t : Fin grid0.N, _)

theorem coord1 : ∀ t : Fin cfg0.N, (grid0.coords t 1).val = t.val % 2 := (by decide +kernel : ∀ t : Fin grid0.N, _)

theorem pay8_zero (x : Vec Ideal S32x256 .f32) (y : S32x256.Idx) : k0_pay8 (BitVec.ofNat 32 0) x y = x y := by
  pointwise [k0_pay8]
  rfl

theorem pay8_one (x : Vec Ideal S32x256 .f32) (y : S32x256.Idx) : k0_pay8 (BitVec.ofNat 32 1) x y = 0 := by
  pointwise [k0_pay8]
  rfl

theorem pay5_zero (i : grid0.Coords) (hi : (i 1).val = 0) (a g : Vec Ideal S32x256 .f32) (y : S32x256.Idx) : k0_pay5 i a g y = 0 := by
  unfold k0_pay5
  rw [hi]
  pointwise
  rfl

theorem pay5_one (i : grid0.Coords) (hi : (i 1).val = 1) (a g : Vec Ideal S32x256 .f32) (y : S32x256.Idx) : k0_pay5 i a g y = a y * Ideal.logistic (g y) := by
  unfold k0_pay5
  rw [hi]
  pointwise
  rw [zero_sub]
  rfl

theorem pay6_apply (a g : Vec Ideal S1024x256 .f32) (y : S1024x256.Idx) : k0_pay6 a g y = a y * Ideal.logistic (g y) := by
  pointwise [k0_pay6]
  rw [pay4_apply]

/-- The cotangent's scratch at point `t` holds the cotangent's rows from the tile's first row on. -/
theorem tileD (c : Dev nD) (t : Fin cfg0.N) (k : Fin 256) (r : ℕ) (hr : r < 1056) :
    eAt (joinD (k0_pay7 (iblk m c 4 t)) (k0_pay8 (BitVec.ofNat 32 (grid0.coords t 1).val) (iblk m c 5 t))) k r
      = gD (m ((c : Thread nD τ).loc main_arg3)) (t.val % 2 * 1024 + r) (t.val / 2 * 256 + k.val) := by
  have hk := k.isLt
  have ht := (idx t).2.2.2.2.2.2.2.2.2.2
  unfold eAt
  rw [dif_pos hr]
  by_cases h : r < 1024
  · unfold gD
    rw [dif_pos ⟨by omega, by omega⟩]
    refine Eq.trans (dif_pos h) ?_
    pointwise [k0_pay7]
    blk_ext [iblk, V, idx t]
  · refine Eq.trans (dif_neg h) ?_
    rw [coord1]
    by_cases h0 : t.val % 2 = 0
    · rw [h0]
      refine Eq.trans (pay8_zero _ _) ?_
      unfold gD
      rw [dif_pos ⟨by omega, by omega⟩]
      blk_ext [iblk, V, idx t]
    · rw [show t.val % 2 = 1 by omega]
      refine Eq.trans (pay8_one _ _) ?_
      unfold gD
      rw [dif_neg (by omega)]

/-- The gated input's scratch at point `t`, from its row 2 on, holds the gated input's rows from 30 rows before the tile's first row on. -/
theorem tileU (c : Dev nD) (t : Fin cfg0.N) (k : Fin 256) (r : ℕ) (hr : r + 2 < 1056) :
    eAt (joinU (k0_pay5 (grid0.coords t) (iblk m c 0 t) (iblk m c 2 t)) (k0_pay6 (iblk m c 1 t) (iblk m c 3 t))) k (r + 2)
      = gU (m ((c : Thread nD τ).loc main_arg0)) (t.val % 2 * 1024 + r) (t.val / 2 * 256 + k.val) := by
  have hk := k.isLt
  have ht := (idx t).2.2.2.2.2.2.2.2.2.2
  unfold eAt
  rw [dif_pos hr]
  by_cases h : r + 2 < 32
  · refine Eq.trans (dif_pos h) ?_
    by_cases h0 : t.val % 2 = 0
    · rw [pay5_zero _ ((coord1 t).trans h0)]
      unfold gU
      rw [dif_neg (by omega)]
    · rw [pay5_one _ ((coord1 t).trans (by omega))]
      unfold gU
      rw [dif_pos ⟨⟨by omega, by omega⟩, by omega⟩]
      blk_point [iblk, V, idx t]
  · refine Eq.trans (dif_neg h) ?_
    rw [pay6_apply]
    unfold gU
    rw [dif_pos ⟨⟨by omega, by omega⟩, by omega⟩]
    blk_point [iblk, V, idx t]

theorem tileW (c : Dev nD) (t : Fin cfg0.N) (k : Fin 256) (j : ℕ) (hj : j < 31) :
    wAt (iblk m c 6 t) k j = gW (m ((c : Thread nD τ).loc main_arg1)) j (t.val / 2 * 256 + k.val) := by
  have hk := k.isLt
  have ht := (idx t).2.2.2.2.2.2.2.2.2.2
  unfold wAt gW
  rw [dif_pos hj, dif_pos ⟨hj, by omega⟩]
  blk_ext [iblk, V, idx t]

theorem tileDu (c : Dev nD) (t : Fin cfg0.N) (n : Fin 1024) (k : Fin 256) :
    du0 (joinD (k0_pay7 (iblk m c 4 t)) (k0_pay8 (BitVec.ofNat 32 (grid0.coords t 1).val) (iblk m c 5 t))) (iblk m c 6 t) (ix2 n k)
      = gDu (m ((c : Thread nD τ).loc main_arg1)) (m ((c : Thread nD τ).loc main_arg3)) (t.val % 2 * 1024 + n.val) (t.val / 2 * 256 + k.val) := by
  refine Eq.trans (du0_apply _ _ n k) ?_
  unfold gDu
  refine Finset.sum_congr rfl fun j hj => ?_
  have hj' := Finset.mem_range.mp hj
  unfold tap
  rw [tileW m c t k j hj', tileD m c t k _ (by have := n.isLt; omega), Nat.add_assoc]

/-! ## What the body leaves at one point -/

theorem outs7 (c : Dev nD) (t : Fin cfg0.N) (y : S1024x256.Idx) : (outsAt0 m c t.val t.isLt).1 y
    = du0 (joinD (k0_pay7 (iblk m c 4 t)) (k0_pay8 (BitVec.ofNat 32 (grid0.coords t 1).val) (iblk m c 5 t))) (iblk m c 6 t) y
      * Ideal.logistic ((iblk m c 3 t : Vec Ideal S1024x256 .f32) y) := by
  by_cases h0 : t.val % 2 = 0
  · rw [outsAt0_A m c t h0]
    dsimp only
    rw [out7_A]
  · rw [outsAt0_B m c t h0]
    dsimp only
    rw [out7_B]

theorem outs8 (c : Dev nD) (t : Fin cfg0.N) (y : S1024x256.Idx) : (outsAt0 m c t.val t.isLt).2.1 y
    = du0 (joinD (k0_pay7 (iblk m c 4 t)) (k0_pay8 (BitVec.ofNat 32 (grid0.coords t 1).val) (iblk m c 5 t))) (iblk m c 6 t) y
      * (iblk m c 1 t : Vec Ideal S1024x256 .f32) y * Ideal.logistic ((iblk m c 3 t : Vec Ideal S1024x256 .f32) y)
      * (1 - Ideal.logistic ((iblk m c 3 t : Vec Ideal S1024x256 .f32) y)) := by
  by_cases h0 : t.val % 2 = 0
  · rw [outsAt0_A m c t h0]
    dsimp only
    rw [out8_A]
  · rw [outsAt0_B m c t h0]
    dsimp only
    rw [out8_B]

theorem tileDA (c : Dev nD) (t : Fin cfg0.N) (n : Fin 1024) (k : Fin 256) (q : Fin 2048) (kk : Fin 1024) (hq : q.val = t.val % 2 * 1024 + n.val) (hk : kk.val = t.val / 2 * 256 + k.val) :
    (outsAt0 m c t.val t.isLt).1 (ix2 n k)
      = DA (m ((c : Thread nD τ).loc main_arg0)) (m ((c : Thread nD τ).loc main_arg1)) (m ((c : Thread nD τ).loc main_arg3)) q kk := by
  refine Eq.trans (outs7 m c t (ix2 n k)) ?_
  rw [tileDu m c t n k]
  unfold DA
  rw [← hq, ← hk]
  refine congrArg (fun z : EReal => _ * Ideal.logistic z) ?_
  blk_ext [iblk, V, idx t]

theorem tileDG (c : Dev nD) (t : Fin cfg0.N) (n : Fin 1024) (k : Fin 256) (q : Fin 2048) (kk : Fin 1024) (hq : q.val = t.val % 2 * 1024 + n.val) (hk : kk.val = t.val / 2 * 256 + k.val) :
    (outsAt0 m c t.val t.isLt).2.1 (ix2 n k)
      = DG (m ((c : Thread nD τ).loc main_arg0)) (m ((c : Thread nD τ).loc main_arg1)) (m ((c : Thread nD τ).loc main_arg3)) q kk := by
  refine Eq.trans (outs8 m c t (ix2 n k)) ?_
  rw [tileDu m c t n k]
  unfold DG
  rw [← hq, ← hk]
  have e1 : (iblk m c 1 t : Vec Ideal S1024x256 .f32) (ix2 n k) = m ((c : Thread nD τ).loc main_arg0) (ix2 q ⟨kk.val, by omega⟩) := by blk_ext [iblk, V, idx t]
  have e3 : (iblk m c 3 t : Vec Ideal S1024x256 .f32) (ix2 n k) = m ((c : Thread nD τ).loc main_arg0) (ix2 q ⟨kk.val + 1024, by omega⟩) := by blk_ext [iblk, V, idx t]
  rw [e1, e3]

/-! ## The arrays after the run -/

theorem final7 (c : Dev nD) : (dats m 0 c).arrAt 7 (cfgs 0).N
    = fun y : S2048x1024.Idx => DA (m ((c : Thread nD τ).loc main_arg0)) (m ((c : Thread nD τ).loc main_arg1)) (m ((c : Thread nD τ).loc main_arg3)) (y 0) (y 1) := by
  refine (dats m 0 c).arrAt_eq_of_covers 7 _ (by decide +kernel) fun t _ (y : S1024x256.Idx) => ?_
  blk_simp
  rw [after0_7]
  obtain ⟨n, k, rfl⟩ : ∃ (n : Fin 1024) (k : Fin 256), y = ix2 n k := ⟨y 0, y 1, eq_ix2 y⟩
  refine tileDA m c t n k _ _ ?_ ?_ <;> blk_simp [idx t] <;> rfl

theorem final8 (c : Dev nD) : (dats m 0 c).arrAt 8 (cfgs 0).N
    = fun y : S2048x1024.Idx => DG (m ((c : Thread nD τ).loc main_arg0)) (m ((c : Thread nD τ).loc main_arg1)) (m ((c : Thread nD τ).loc main_arg3)) (y 0) (y 1) := by
  refine (dats m 0 c).arrAt_eq_of_covers 8 _ (by decide +kernel) fun t _ (y : S1024x256.Idx) => ?_
  blk_simp
  rw [after0_8]
  obtain ⟨n, k, rfl⟩ : ∃ (n : Fin 1024) (k : Fin 256), y = ix2 n k := ⟨y 0, y 1, eq_ix2 y⟩
  refine tileDG m c t n k _ _ ?_ ?_ <;> blk_simp [idx t] <;> rfl

/-- The taps' gradient over the rows of one point. -/
theorem tileRow (c : Dev nD) (t : Fin cfg0.N) (j : ℕ) (hj : j < 32) (k : Fin 256) :
    rowTerm (iblk m c 4 t) (joinU (k0_pay5 (grid0.coords t) (iblk m c 0 t) (iblk m c 2 t)) (k0_pay6 (iblk m c 1 t) (iblk m c 3 t))) k j
      = if j < 31 then ∑ s : Fin 1024, gD (m ((c : Thread nD τ).loc main_arg3)) (t.val % 2 * 1024 + s.val) (t.val / 2 * 256 + k.val)
            * gU (m ((c : Thread nD τ).loc main_arg0)) (t.val % 2 * 1024 + s.val + j) (t.val / 2 * 256 + k.val)
        else ∑ s : Fin 1024, gD (m ((c : Thread nD τ).loc main_arg3)) (t.val % 2 * 1024 + s.val) (t.val / 2 * 256 + k.val) := by
  have hd : ∀ s : Fin 1024, (iblk m c 4 t : Vec Ideal S1024x256 .f32) (ix2 s k) = gD (m ((c : Thread nD τ).loc main_arg3)) (t.val % 2 * 1024 + s.val) (t.val / 2 * 256 + k.val) := by
    intro s
    have hk := k.isLt
    have ht := (idx t).2.2.2.2.2.2.2.2.2.2
    unfold gD
    rw [dif_pos ⟨by omega, by omega⟩]
    blk_ext [iblk, V, idx t]
  unfold rowTerm
  by_cases h : j < 31
  · rw [if_pos h, if_pos h]
    refine Finset.sum_congr rfl fun s _ => ?_
    have hs := s.isLt
    rw [hd, ← Nat.add_assoc, tileU m c t k _ (by omega), Nat.add_assoc]
  · rw [if_neg h, if_neg h]
    exact Finset.sum_congr rfl fun s _ => hd s

/-- The two row tiles' sums are the sum over all rows. -/
theorem sum_tiles (f : ℕ → EReal) : (∑ s : Fin 1024, f (0 * 1024 + s.val)) + (∑ s : Fin 1024, f (1 * 1024 + s.val)) = ∑ t : Fin 2048, f t.val := by
  have e2 : ∑ s : Fin 2048, f s.val = ∑ s : Fin 1024, f s.val + ∑ s : Fin 1024, f (1024 + s.val) := Fin.sum_univ_add (a := 1024) (b := 1024) fun s => f s.val
  simp only [Nat.zero_mul, Nat.zero_add, Nat.one_mul, e2]

theorem outs9_A (c : Dev nD) (t : Fin cfg0.N) (h0 : t.val % 2 = 0) (y : S32x256.Idx) : (outsAt0 m c t.val t.isLt).2.2 y
    = rowTerm (iblk m c 4 t) (joinU (k0_pay5 (grid0.coords t) (iblk m c 0 t) (iblk m c 2 t)) (k0_pay6 (iblk m c 1 t) (iblk m c 3 t))) (y 1) (y 0).val := by
  rw [outsAt0_A m c t h0]
  dsimp only
  rw [out9_A]
  unfold rowG
  rw [show k0_pay3 (F := Ideal) y = 0 by pointwise [k0_pay3], zero_add]

theorem outs9_B (c : Dev nD) (t : Fin cfg0.N) (h0 : ¬t.val % 2 = 0) (y : S32x256.Idx) : (outsAt0 m c t.val t.isLt).2.2 y
    = (outsAt0 m c (t.val - 1) (Nat.lt_of_le_of_lt (Nat.sub_le _ _) t.isLt)).2.2 y
      + rowTerm (iblk m c 4 t) (joinU (k0_pay5 (grid0.coords t) (iblk m c 0 t) (iblk m c 2 t)) (k0_pay6 (iblk m c 1 t) (iblk m c 3 t))) (y 1) (y 0).val := by
  rw [outsAt0_B m c t h0]
  dsimp only
  rw [out9_B]
  rfl

theorem tileDW (c : Dev nD) (t : Fin cfg0.N) (h1 : t.val % 2 = 1) (j : Fin 32) (k : Fin 256) :
    (outsAt0 m c t.val t.isLt).2.2 (ix2 j k)
      = DW (m ((c : Thread nD τ).loc main_arg0)) (m ((c : Thread nD τ).loc main_arg3)) j.val (t.val / 2 * 256 + k.val) := by
  have hlt : t.val - 1 < cfg0.N := Nat.lt_of_le_of_lt (Nat.sub_le _ _) t.isLt
  refine Eq.trans (outs9_B m c t (by omega) (ix2 j k)) ?_
  have e := outs9_A m c ⟨t.val - 1, hlt⟩ (by show (t.val - 1) % 2 = 0; omega) (ix2 j k)
  rw [show (outsAt0 m c (t.val - 1) hlt).2.2 (ix2 j k) = _ from e]
  show rowTerm _ _ k j.val + rowTerm _ _ k j.val = _
  rw [tileRow m c _ j.val j.isLt k, tileRow m c t j.val j.isLt k]
  have e0 : (t.val - 1) % 2 = 0 := by omega
  have e1 : (t.val - 1) / 2 = t.val / 2 := by omega
  unfold DW
  by_cases h : j.val < 31
  · rw [if_pos h, if_pos h, if_pos h]
    simp only [e0, e1, h1]
    exact sum_tiles fun s => gD (m ((c : Thread nD τ).loc main_arg3)) s (t.val / 2 * 256 + k.val) * gU (m ((c : Thread nD τ).loc main_arg0)) (s + j.val) (t.val / 2 * 256 + k.val)
  · rw [if_neg h, if_neg h, if_neg h]
    simp only [e0, e1, h1]
    exact sum_tiles fun s => gD (m ((c : Thread nD τ).loc main_arg3)) s (t.val / 2 * 256 + k.val)

theorem tileDW' (c : Dev nD) (t : Fin cfg0.N) (h1 : t.val % 2 = 1) (j : Fin 32) (k : Fin 256) (jj kk : ℕ) (hj : jj = j.val) (hk : kk = t.val / 2 * 256 + k.val) :
    (outsAt0 m c t.val t.isLt).2.2 (ix2 j k)
      = DW (m ((c : Thread nD τ).loc main_arg0)) (m ((c : Thread nD τ).loc main_arg3)) jj kk := by
  subst hj; subst hk
  exact tileDW m c t h1 j k

theorem final9 (c : Dev nD) : (dats m 0 c).arrAt 9 (cfgs 0).N
    = fun y : S32x1024.Idx => DW (m ((c : Thread nD τ).loc main_arg0)) (m ((c : Thread nD τ).loc main_arg3)) (y 0).val (y 1).val := by
  refine (dats m 0 c).arrAt_eq_of_covers 9 _ (by decide +kernel) fun t hf (y : S32x256.Idx) => ?_
  have h1 : t.val % 2 = 1 := (flush0_9 t).mp hf
  blk_simp
  rw [after0_9]
  obtain ⟨j, k, rfl⟩ : ∃ (j : Fin 32) (k : Fin 256), y = ix2 j k := ⟨y 0, y 1, eq_ix2 y⟩
  refine tileDW' m c t h1 j k _ _ ?_ ?_ <;> blk_simp [idx t] <;> rfl

end Cert.ConfBwdIdeal.Conf
-- ==== Proof.ConfRef.lean ====
module

public import proofs.«01_k».proof.Proof.Gen.ConfGradIdeal.Read
public import Idealize.ShloMosaic.Lib.Pipeline.ValueKit
public import Idealize.ShloMosaic.Lib.Pointwise
public import Idealize.ShloMosaic.Lib.KernelVsHost
public import proofs.«01_k».proof.Proof.ConfKernel

@[expose] public section

set_option maxRecDepth 16384

noncomputable section

open Idealize.ShloMosaic Idealize.ShloMosaic.TcCoe Idealize.SL.Sem

namespace Cert.ConfGradIdeal.Conf
open Cert.ConfGradIdeal Cert.ConfGradIdeal.Gen Cert.ConfGradIdeal.Read
open Cert.ConfBwdIdeal.Conf (gD gU gW gDu DA DG DW)

theorem v7_at (x0 : FVec Ideal S2048x2048 .f32) (n : Fin 2048) (k : Fin 1024) :
    val_main_v7 (F := Ideal) x0 (ix2 n k) = Ideal.logistic (x0 (ix2 n ⟨k.val + 1024, by omega⟩)) := by
  pointwise [val_main_v7, val_main_v6, val_main_v5, val_main_v4, val_main_v3, val_main_v2, val_main_v1, val_main_cst, val_main_cst_0]
  unfold Ideal.logistic
  congr 5
  blk_ext

/-- The input with 30 zero rows before it. -/
theorem v13_at (x0 : FVec Ideal S2048x2048 .f32) (q : Fin 2078) (k : Fin 1024) :
    val_main_v13 (F := Ideal) x0 (ix2 q k) = gU x0 q.val k.val := by
  pointwise [val_main_v13]
  unfold gU
  by_cases h : q.val < 30
  · rw [dif_pos h, dif_neg (by omega)]
    pointwise [val_main_v12, val_main_cst_2]
  · rw [dif_neg h, dif_pos ⟨⟨by omega, by omega⟩, by omega⟩]
    have e : val_main_v11 (F := Ideal) x0 (ix2 ⟨q.val - 30, by omega⟩ k) = _ := val_main_v11_apply (F := Ideal) x0 (ix2 ⟨q.val - 30, by omega⟩ k)
    refine Eq.trans e ?_
    rw [v7_at]
    refine congrArg (fun z : EReal => z * _) ?_
    pointwise [val_main_v0]
    blk_ext

/-- Plane `j` of the stacked taps is the input from row `j` on. -/
theorem tap_at (x0 : FVec Ideal S2048x2048 .f32) (j : ℕ) (h : S2078x1024.Slices ![j, 0] S2048x1024) (b) (n : Fin 2048) (k : Fin 1024) (hj : j < 31) :
    broadcastInDim S1x2048x1024 ![1, 2] b (extractStridedSlice S2048x1024 ![j, 0] (val_main_v13 (F := Ideal) x0) h) (ix3 0 n k) = gU x0 (n.val + j) k.val := by
  have := v13_at x0 ⟨j + n.val, by omega⟩ k
  pointwise
  rw [Nat.add_comm n.val j]
  exact this

theorem v77_at (x0 : FVec Ideal S2048x2048 .f32) (j : Fin 16) (n : Fin 2048) (k : Fin 1024) :
    val_main_v77 (F := Ideal) x0 (ix3 j n k) = gU x0 (n.val + (j.val + 0)) k.val := by
  refine Eq.trans (concatenate_ofFn_unit_apply (t := S16x2048x1024) (s₁ := S1x2048x1024) (0 : Fin 3) (N := 16) ![val_main_v46 (F := Ideal) x0, val_main_v47 (F := Ideal) x0, val_main_v48 (F := Ideal) x0, val_main_v49 (F := Ideal) x0, val_main_v50 (F := Ideal) x0, val_main_v51 (F := Ideal) x0, val_main_v52 (F := Ideal) x0, val_main_v53 (F := Ideal) x0, val_main_v54 (F := Ideal) x0, val_main_v55 (F := Ideal) x0, val_main_v56 (F := Ideal) x0, val_main_v57 (F := Ideal) x0, val_main_v58 (F := Ideal) x0, val_main_v59 (F := Ideal) x0, val_main_v60 (F := Ideal) x0, val_main_v61 (F := Ideal) x0] _ rfl rfl (ix3 j n k) j rfl (ix3 0 n k) ?_) ?_
  · intro b hb
    fin_cases b
    · exact absurd rfl hb
    · rfl
    · rfl
  · fin_cases j
    · exact tap_at x0 0 slices_S2078x1024_S2048x1024_0_0 bcast_S2048x1024_S1x2048x1024_1_2 n k (by omega)
    · exact tap_at x0 1 slices_S2078x1024_S2048x1024_1_0 bcast_S2048x1024_S1x2048x1024_1_2 n k (by omega)
    · exact tap_at x0 2 slices_S2078x1024_S2048x1024_2_0 bcast_S2048x1024_S1x2048x1024_1_2 n k (by omega)
    · exact tap_at x0 3 slices_S2078x1024_S2048x1024_3_0 bcast_S2048x1024_S1x2048x1024_1_2 n k (by omega)
    · exact tap_at x0 4 slices_S2078x1024_S2048x1024_4_0 bcast_S2048x1024_S1x2048x1024_1_2 n k (by omega)
    · exact tap_at x0 5 slices_S2078x1024_S2048x1024_5_0 bcast_S2048x1024_S1x2048x1024_1_2 n k (by omega)
    · exact tap_at x0 6 slices_S2078x1024_S2048x1024_6_0 bcast_S2048x1024_S1x2048x1024_1_2 n k (by omega)
    · exact tap_at x0 7 slices_S2078x1024_S2048x1024_7_0 bcast_S2048x1024_S1x2048x1024_1_2 n k (by omega)
    · exact tap_at x0 8 slices_S2078x1024_S2048x1024_8_0 bcast_S2048x1024_S1x2048x1024_1_2 n k (by omega)
    · exact tap_at x0 9 slices_S2078x1024_S2048x1024_9_0 bcast_S2048x1024_S1x2048x1024_1_2 n k (by omega)
    · exact tap_at x0 10 slices_S2078x1024_S2048x1024_10_0 bcast_S2048x1024_S1x2048x1024_1_2 n k (by omega)
    · exact tap_at x0 11 slices_S2078x1024_S2048x1024_11_0 bcast_S2048x1024_S1x2048x1024_1_2 n k (by omega)
    · exact tap_at x0 12 slices_S2078x1024_S2048x1024_12_0 bcast_S2048x1024_S1x2048x1024_1_2 n k (by omega)
    · exact tap_at x0 13 slices_S2078x1024_S2048x1024_13_0 bcast_S2048x1024_S1x2048x1024_1_2 n k (by omega)
    · exact tap_at x0 14 slices_S2078x1024_S2048x1024_14_0 bcast_S2048x1024_S1x2048x1024_1_2 n k (by omega)
    · exact tap_at x0 15 slices_S2078x1024_S2048x1024_15_0 bcast_S2048x1024_S1x2048x1024_1_2 n k (by omega)

theorem v78_at (x0 : FVec Ideal S2048x2048 .f32) (j : Fin 15) (n : Fin 2048) (k : Fin 1024) :
    val_main_v78 (F := Ideal) x0 (ix3 j n k) = gU x0 (n.val + (j.val + 16)) k.val := by
  refine Eq.trans (concatenate_ofFn_unit_apply (t := S15x2048x1024) (s₁ := S1x2048x1024) (0 : Fin 3) (N := 15) ![val_main_v62 (F := Ideal) x0, val_main_v63 (F := Ideal) x0, val_main_v64 (F := Ideal) x0, val_main_v65 (F := Ideal) x0, val_main_v66 (F := Ideal) x0, val_main_v67 (F := Ideal) x0, val_main_v68 (F := Ideal) x0, val_main_v69 (F := Ideal) x0, val_main_v70 (F := Ideal) x0, val_main_v71 (F := Ideal) x0, val_main_v72 (F := Ideal) x0, val_main_v73 (F := Ideal) x0, val_main_v74 (F := Ideal) x0, val_main_v75 (F := Ideal) x0, val_main_v76 (F := Ideal) x0] _ rfl rfl (ix3 j n k) j rfl (ix3 0 n k) ?_) ?_
  · intro b hb
    fin_cases b
    · exact absurd rfl hb
    · rfl
    · rfl
  · fin_cases j
    · exact tap_at x0 16 slices_S2078x1024_S2048x1024_16_0 bcast_S2048x1024_S1x2048x1024_1_2 n k (by omega)
    · exact tap_at x0 17 slices_S2078x1024_S2048x1024_17_0 bcast_S2048x1024_S1x2048x1024_1_2 n k (by omega)
    · exact tap_at x0 18 slices_S2078x1024_S2048x1024_18_0 bcast_S2048x1024_S1x2048x1024_1_2 n k (by omega)
    · exact tap_at x0 19 slices_S2078x1024_S2048x1024_19_0 bcast_S2048x1024_S1x2048x1024_1_2 n k (by omega)
    · exact tap_at x0 20 slices_S2078x1024_S2048x1024_20_0 bcast_S2048x1024_S1x2048x1024_1_2 n k (by omega)
    · exact tap_at x0 21 slices_S2078x1024_S2048x1024_21_0 bcast_S2048x1024_S1x2048x1024_1_2 n k (by omega)
    · exact tap_at x0 22 slices_S2078x1024_S2048x1024_22_0 bcast_S2048x1024_S1x2048x1024_1_2 n k (by omega)
    · exact tap_at x0 23 slices_S2078x1024_S2048x1024_23_0 bcast_S2048x1024_S1x2048x1024_1_2 n k (by omega)
    · exact tap_at x0 24 slices_S2078x1024_S2048x1024_24_0 bcast_S2048x1024_S1x2048x1024_1_2 n k (by omega)
    · exact tap_at x0 25 slices_S2078x1024_S2048x1024_25_0 bcast_S2048x1024_S1x2048x1024_1_2 n k (by omega)
    · exact tap_at x0 26 slices_S2078x1024_S2048x1024_26_0 bcast_S2048x1024_S1x2048x1024_1_2 n k (by omega)
    · exact tap_at x0 27 slices_S2078x1024_S2048x1024_27_0 bcast_S2048x1024_S1x2048x1024_1_2 n k (by omega)
    · exact tap_at x0 28 slices_S2078x1024_S2048x1024_28_0 bcast_S2048x1024_S1x2048x1024_1_2 n k (by omega)
    · exact tap_at x0 29 slices_S2078x1024_S2048x1024_29_0 bcast_S2048x1024_S1x2048x1024_1_2 n k (by omega)
    · exact tap_at x0 30 slices_S2078x1024_S2048x1024_30_0 bcast_S2048x1024_S1x2048x1024_1_2 n k (by omega)

theorem v79_at (x0 : FVec Ideal S2048x2048 .f32) (j : Fin 31) (n : Fin 2048) (k : Fin 1024) :
    val_main_v79 (F := Ideal) x0 (ix3 j n k) = gU x0 (n.val + j.val) k.val := by
  pointwise [val_main_v79]
  by_cases h : j.val < 16
  · rw [dif_pos h]
    exact v77_at x0 ⟨j.val, h⟩ n k
  · rw [dif_neg h]
    refine Eq.trans (v78_at x0 ⟨j.val - 16, by omega⟩ n k) ?_
    congr 2
    show j.val - 16 + 16 = j.val
    omega

theorem gD_at (x3 : FVec Ideal S2048x1024 .f32) (n : Fin 2048) (k : Fin 1024) : gD x3 n.val k.val = x3 (ix2 n k) := dif_pos ⟨n.isLt, k.isLt⟩

theorem gW_at (x1 : FVec Ideal S31x1024 .f32) (j : Fin 31) (k : Fin 1024) : gW x1 j.val k.val = x1 (ix2 j k) := dif_pos ⟨j.isLt, k.isLt⟩

theorem v91_at (x1 : FVec Ideal S31x1024 .f32) (x3 : FVec Ideal S2048x1024 .f32) (j : Fin 31) (n : Fin 2048) (k : Fin 1024) :
    val_main_v91 (F := Ideal) x1 x3 (ix3 j n k) = gW x1 j.val k.val * gD x3 n.val k.val := by
  rw [gD_at, gW_at]
  pointwise [val_main_v91, val_main_v90, val_main_v89, val_main_v86, val_main_v80]

/-- One tap's plane moved down by `j` rows, read from row 30 on. -/
theorem pad_at (x1 : FVec Ideal S31x1024 .f32) (x3 : FVec Ideal S2048x1024 .f32) (j : ℕ) (hj : j < 31) (v : S_.Idx → EReal) (hv : ∀ i, v i = 0) (h1) (h2) (h3) (h4)
    (n : Fin 2048) (k : Fin 1024) :
    pad S2078x1024 ![j, 0] ![30 - j, 0] ![0, 0]
      (shapeCast S2048x1024 (extractStridedSlice S1x2048x1024 ![j, 0, 0] (val_main_v91 (F := Ideal) x1 x3) h1) h2 : FVec Ideal S2048x1024 .f32) v h3 h4 (ix2 ⟨n.val + 30, by omega⟩ k)
      = gW x1 j k.val * gD x3 (n.val + (30 - j)) k.val := by
  by_cases h : n.val + (30 - j) < 2048
  · refine Eq.trans (pad_apply_of_inside _ _ _ _ _ h3 h4 _ (ix2 ⟨n.val + (30 - j), h⟩ k) ?_) ?_
    · intro a
      fin_cases a
      · show n.val + 30 = j + (n.val + (30 - j)) * 1
        omega
      · show k.val = 0 + k.val * 1
        omega
    · have e := v91_at x1 x3 ⟨j, hj⟩ ⟨n.val + (30 - j), h⟩ k
      refine Eq.trans ?_ e
      generalize val_main_v91 (F := Ideal) x1 x3 = y
      pointwise
      try blk_ext
  · refine Eq.trans (pad_apply_of_not_inside _ _ _ _ _ h3 h4 _ 0 ?_) ?_
    · show ¬ (j ≤ n.val + 30 ∧ (n.val + 30 - j) % (0 + 1) = 0 ∧ (n.val + 30 - j) / (0 + 1) < 2048)
      omega
    · unfold gD
      rw [dif_neg (by omega), hv, mul_zero]

theorem zero_at (i : S_.Idx) : (constant (F := Ideal) S_ .f32 0x00000000#32) i = (0 : EReal) := by pointwise

/-- The gradient at the input of the taps: the 31 moved planes summed. -/
theorem v220_at (x1 : FVec Ideal S31x1024 .f32) (x3 : FVec Ideal S2048x1024 .f32) (n : Fin 2048) (k : Fin 1024) :
    val_main_v220 (F := Ideal) x1 x3 (ix2 n k) = gDu x1 x3 n.val k.val := by
  have e : val_main_v220 (F := Ideal) x1 x3 (ix2 n k) = val_main_v218 (F := Ideal) x1 x3 (ix2 ⟨n.val + 30, by omega⟩ k) := by
    pointwise [val_main_v220]
    congr 1
    blk_ext
  rw [e]
  have e158 : val_main_v158 (F := Ideal) x1 x3 (ix2 ⟨n.val + 30, by omega⟩ k) = _ := pad_at x1 x3 30 (by omega) _ zero_at _ _ _ _ n k
  have e159 : val_main_v159 (F := Ideal) x1 x3 (ix2 ⟨n.val + 30, by omega⟩ k) = _ := pad_at x1 x3 29 (by omega) _ zero_at _ _ _ _ n k
  have e161 : val_main_v161 (F := Ideal) x1 x3 (ix2 ⟨n.val + 30, by omega⟩ k) = _ := pad_at x1 x3 28 (by omega) _ zero_at _ _ _ _ n k
  have e163 : val_main_v163 (F := Ideal) x1 x3 (ix2 ⟨n.val + 30, by omega⟩ k) = _ := pad_at x1 x3 27 (by omega) _ zero_at _ _ _ _ n k
  have e165 : val_main_v165 (F := Ideal) x1 x3 (ix2 ⟨n.val + 30, by omega⟩ k) = _ := pad_at x1 x3 26 (by omega) _ zero_at _ _ _ _ n k
  have e167 : val_main_v167 (F := Ideal) x1 x3 (ix2 ⟨n.val + 30, by omega⟩ k) = _ := pad_at x1 x3 25 (by omega) _ zero_at _ _ _ _ n k
  have e169 : val_main_v169 (F := Ideal) x1 x3 (ix2 ⟨n.val + 30, by omega⟩ k) = _ := pad_at x1 x3 24 (by omega) _ zero_at _ _ _ _ n k
  have e171 : val_main_v171 (F := Ideal) x1 x3 (ix2 ⟨n.val + 30, by omega⟩ k) = _ := pad_at x1 x3 23 (by omega) _ zero_at _ _ _ _ n k
  have e173 : val_main_v173 (F := Ideal) x1 x3 (ix2 ⟨n.val + 30, by omega⟩ k) = _ := pad_at x1 x3 22 (by omega) _ zero_at _ _ _ _ n k
  have e175 : val_main_v175 (F := Ideal) x1 x3 (ix2 ⟨n.val + 30, by omega⟩ k) = _ := pad_at x1 x3 21 (by omega) _ zero_at _ _ _ _ n k
  have e177 : val_main_v177 (F := Ideal) x1 x3 (ix2 ⟨n.val + 30, by omega⟩ k) = _ := pad_at x1 x3 20 (by omega) _ zero_at _ _ _ _ n k
  have e179 : val_main_v179 (F := Ideal) x1 x3 (ix2 ⟨n.val + 30, by omega⟩ k) = _ := pad_at x1 x3 19 (by omega) _ zero_at _ _ _ _ n k
  have e181 : val_main_v181 (F := Ideal) x1 x3 (ix2 ⟨n.val + 30, by omega⟩ k) = _ := pad_at x1 x3 18 (by omega) _ zero_at _ _ _ _ n k
  have e183 : val_main_v183 (F := Ideal) x1 x3 (ix2 ⟨n.val + 30, by omega⟩ k) = _ := pad_at x1 x3 17 (by omega) _ zero_at _ _ _ _ n k
  have e185 : val_main_v185 (F := Ideal) x1 x3 (ix2 ⟨n.val + 30, by omega⟩ k) = _ := pad_at x1 x3 16 (by omega) _ zero_at _ _ _ _ n k
  have e187 : val_main_v187 (F := Ideal) x1 x3 (ix2 ⟨n.val + 30, by omega⟩ k) = _ := pad_at x1 x3 15 (by omega) _ zero_at _ _ _ _ n k
  have e189 : val_main_v189 (F := Ideal) x1 x3 (ix2 ⟨n.val + 30, by omega⟩ k) = _ := pad_at x1 x3 14 (by omega) _ zero_at _ _ _ _ n k
  have e191 : val_main_v191 (F := Ideal) x1 x3 (ix2 ⟨n.val + 30, by omega⟩ k) = _ := pad_at x1 x3 13 (by omega) _ zero_at _ _ _ _ n k
  have e193 : val_main_v193 (F := Ideal) x1 x3 (ix2 ⟨n.val + 30, by omega⟩ k) = _ := pad_at x1 x3 12 (by omega) _ zero_at _ _ _ _ n k
  have e195 : val_main_v195 (F := Ideal) x1 x3 (ix2 ⟨n.val + 30, by omega⟩ k) = _ := pad_at x1 x3 11 (by omega) _ zero_at _ _ _ _ n k
  have e197 : val_main_v197 (F := Ideal) x1 x3 (ix2 ⟨n.val + 30, by omega⟩ k) = _ := pad_at x1 x3 10 (by omega) _ zero_at _ _ _ _ n k
  have e199 : val_main_v199 (F := Ideal) x1 x3 (ix2 ⟨n.val + 30, by omega⟩ k) = _ := pad_at x1 x3 9 (by omega) _ zero_at _ _ _ _ n k
  have e201 : val_main_v201 (F := Ideal) x1 x3 (ix2 ⟨n.val + 30, by omega⟩ k) = _ := pad_at x1 x3 8 (by omega) _ zero_at _ _ _ _ n k
  have e203 : val_main_v203 (F := Ideal) x1 x3 (ix2 ⟨n.val + 30, by omega⟩ k) = _ := pad_at x1 x3 7 (by omega) _ zero_at _ _ _ _ n k
  have e205 : val_main_v205 (F := Ideal) x1 x3 (ix2 ⟨n.val + 30, by omega⟩ k) = _ := pad_at x1 x3 6 (by omega) _ zero_at _ _ _ _ n k
  have e207 : val_main_v207 (F := Ideal) x1 x3 (ix2 ⟨n.val + 30, by omega⟩ k) = _ := pad_at x1 x3 5 (by omega) _ zero_at _ _ _ _ n k
  have e209 : val_main_v209 (F := Ideal) x1 x3 (ix2 ⟨n.val + 30, by omega⟩ k) = _ := pad_at x1 x3 4 (by omega) _ zero_at _ _ _ _ n k
  have e211 : val_main_v211 (F := Ideal) x1 x3 (ix2 ⟨n.val + 30, by omega⟩ k) = _ := pad_at x1 x3 3 (by omega) _ zero_at _ _ _ _ n k
  have e213 : val_main_v213 (F := Ideal) x1 x3 (ix2 ⟨n.val + 30, by omega⟩ k) = _ := pad_at x1 x3 2 (by omega) _ zero_at _ _ _ _ n k
  have e215 : val_main_v215 (F := Ideal) x1 x3 (ix2 ⟨n.val + 30, by omega⟩ k) = _ := pad_at x1 x3 1 (by omega) _ zero_at _ _ _ _ n k
  have e217 : val_main_v217 (F := Ideal) x1 x3 (ix2 ⟨n.val + 30, by omega⟩ k) = _ := pad_at x1 x3 0 (by omega) _ zero_at _ _ _ _ n k
  simp only [val_main_v160_apply, val_main_v162_apply, val_main_v164_apply, val_main_v166_apply, val_main_v168_apply, val_main_v170_apply, val_main_v172_apply, val_main_v174_apply, val_main_v176_apply, val_main_v178_apply, val_main_v180_apply, val_main_v182_apply, val_main_v184_apply, val_main_v186_apply, val_main_v188_apply, val_main_v190_apply, val_main_v192_apply, val_main_v194_apply, val_main_v196_apply, val_main_v198_apply, val_main_v200_apply, val_main_v202_apply, val_main_v204_apply, val_main_v206_apply, val_main_v208_apply, val_main_v210_apply, val_main_v212_apply, val_main_v214_apply, val_main_v216_apply, val_main_v218_apply]
  rw [e158, e159, e161, e163, e165, e167, e169, e171, e173, e175, e177, e179, e181, e183, e185, e187, e189, e191, e193, e195, e197, e199, e201, e203, e205, e207, e209, e211, e213, e215, e217]
  unfold gDu
  generalize hT : (fun j : ℕ => gW x1 j k.val * gD x3 (n.val + (30 - j)) k.val) = T
  have hT' : ∀ j : ℕ, gW x1 j k.val * gD x3 (n.val + (30 - j)) k.val = T j := fun j => congrFun hT j
  simp only [hT', Ideal.addf_def]
  simp only [Finset.sum_range_succ, Finset.sum_range_zero, zero_add]
  ac_rfl

theorem da_at (x0 : FVec Ideal S2048x2048 .f32) (x1 : FVec Ideal S31x1024 .f32) (x3 : FVec Ideal S2048x1024 .f32) (n : Fin 2048) (k : Fin 1024) :
    val_main_v228 (F := Ideal) x0 x1 x3 (ix2 n k) = DA x0 x1 x3 n k := by
  have e : val_main_v228 (F := Ideal) x0 x1 x3 (ix2 n k) = val_main_v224 (F := Ideal) x0 x1 x3 (ix2 n ⟨k.val, by omega⟩) + val_main_v225 (F := Ideal) x0 x1 x3 (ix2 n ⟨k.val, by omega⟩) := by
    pointwise [val_main_v228, val_main_v227, val_main_v226]
    try (congr 1 <;> blk_ext)
  have e1 : val_main_v224 (F := Ideal) x0 x1 x3 (ix2 n ⟨k.val, by omega⟩) = 0 :=
    (pad_apply_of_not_inside _ _ _ _ _ _ _ _ 1 (by show ¬ (1024 ≤ k.val ∧ _ ∧ _); omega)).trans (zero_at _)
  have e2 : val_main_v225 (F := Ideal) x0 x1 x3 (ix2 n ⟨k.val, by omega⟩) = val_main_v222 (F := Ideal) x0 x1 x3 (ix2 n k) :=
    pad_apply_of_inside _ _ _ _ _ _ _ _ (ix2 n k) (by
      intro a
      fin_cases a
      · show n.val = 0 + n.val * 1
        omega
      · show k.val = 0 + k.val * 1
        omega)
  rw [e, e1, e2, zero_add, val_main_v222_apply, v220_at, v7_at]
  rfl

theorem dg_at (x0 : FVec Ideal S2048x2048 .f32) (x1 : FVec Ideal S31x1024 .f32) (x3 : FVec Ideal S2048x1024 .f32) (n : Fin 2048) (k : Fin 1024) :
    val_main_v230 (F := Ideal) x0 x1 x3 (ix2 n k) = DG x0 x1 x3 n k := by
  have e : val_main_v230 (F := Ideal) x0 x1 x3 (ix2 n k) = val_main_v224 (F := Ideal) x0 x1 x3 (ix2 n ⟨k.val + 1024, by omega⟩) + val_main_v225 (F := Ideal) x0 x1 x3 (ix2 n ⟨k.val + 1024, by omega⟩) := by
    pointwise [val_main_v230, val_main_v229, val_main_v226]
    congr 1 <;> blk_ext
  have e1 : val_main_v225 (F := Ideal) x0 x1 x3 (ix2 n ⟨k.val + 1024, by omega⟩) = 0 :=
    (pad_apply_of_not_inside _ _ _ _ _ _ _ _ 1 (by show ¬ (0 ≤ k.val + 1024 ∧ (k.val + 1024 - 0) % (0 + 1) = 0 ∧ (k.val + 1024 - 0) / (0 + 1) < 1024); omega)).trans (zero_at _)
  have e2 : val_main_v224 (F := Ideal) x0 x1 x3 (ix2 n ⟨k.val + 1024, by omega⟩) = val_main_v223 (F := Ideal) x0 x1 x3 (ix2 n k) :=
    pad_apply_of_inside _ _ _ _ _ _ _ _ (ix2 n k) (by
      intro a
      fin_cases a
      · show n.val = 0 + n.val * 1
        omega
      · show k.val + 1024 = 1024 + k.val * 1
        omega)
  have e0 : val_main_v0 (F := Ideal) x0 (ix2 n k) = x0 (ix2 n ⟨k.val, by omega⟩) := by
    pointwise [val_main_v0]
    try blk_ext
  have e9 : val_main_v9 (F := Ideal) x0 (ix2 n k) = 1 - Ideal.logistic (x0 (ix2 n ⟨k.val + 1024, by omega⟩)) := by
    rw [val_main_v9_apply, v7_at]
    pointwise [val_main_v8, val_main_cst_1]
  rw [e, e1, e2, add_zero, val_main_v223_apply, val_main_v221_apply, val_main_v10_apply, v220_at, e0, e9, v7_at]
  unfold DG
  simp only [Ideal.mulf_def]
  ac_rfl

theorem dw_at (x0 : FVec Ideal S2048x2048 .f32) (x3 : FVec Ideal S2048x1024 .f32) (j : Fin 32) (k : Fin 1024) :
    val_main_v231 (F := Ideal) x0 x3 (ix2 j k) = DW x0 x3 j.val k.val := by
  pointwise [val_main_v231]
  unfold DW
  by_cases h : j.val < 31
  · rw [dif_pos h, if_pos h]
    have e : val_main_v95 (F := Ideal) x0 x3 (ix2 ⟨j.val, h⟩ k) = val_main_v93 (F := Ideal) x0 x3 (ix2 ⟨j.val, h⟩ k) := by
      pointwise [val_main_v95, val_main_v94, val_main_cst_7]
      exact Fin.sum_univ_one _
    refine Eq.trans e ?_
    rw [val_main_v93_apply, val_main_cst_6_apply]
    rw [show FloatOps.ofBits (F := Ideal) .f32 0x00000000#32 = (0 : EReal) from zero_at (Shape.Idx.first h_S_), zero_add]
    refine Finset.sum_congr rfl fun t _ => ?_
    have ei : idx_main_v93 (ix2 ⟨j.val, h⟩ k) t = ix3 ⟨j.val, h⟩ t k := by blk_ext
    rw [ei, val_main_v92_apply, v79_at, gD_at]
    refine congrArg (fun z : EReal => z * _) ?_
    pointwise [val_main_v89, val_main_v86]
  · rw [dif_neg h, if_neg h]
    pointwise [val_main_v88, val_main_v87, val_main_cst_5]
    refine Finset.sum_congr rfl fun t _ => ?_
    rw [gD_at]
    try blk_ext

end Cert.ConfGradIdeal.Conf
-- ==== Proof.ConfValue.lean ====
module

public import proofs.«01_k».proof.Defs
public import proofs.«01_k».proof.Proof.ConfKernel
public import proofs.«01_k».proof.Proof.ConfRef
public import Idealize.ShloMosaic.Lib.Claim
public import Idealize.ShloMosaic.Lib.Quiescent

@[expose] public section

set_option maxRecDepth 16384

noncomputable section

open Idealize.ShloMosaic Idealize.ShloMosaic.TcCoe Idealize.SL.Sem

namespace Cert.Conf

/-- The reference leaves its arguments alone, and it has no semaphore. -/
theorem reference_frame : Cert.quiescent_ConfGradIdeal := by
  intro m g _
  exact (θ_run _ _ _).mono (fun r h => ⟨fun c => (h c).2.2.2, sem_eq_zero_of_no_sems (by decide) r.2⟩) (Cert.ConfGradIdeal.Value.run m g)

theorem algebraic : Cert.algebraic_ConfBwdIdeal_ConfGradIdeal := by
  pair_intro
  · run_from Cert.ConfBwdIdeal.Value.run_blocks m g
  · run_from Cert.ConfGradIdeal.Value.run m' g'
    · refine ((Cert.ConfGradIdeal.Read.val_main_v228_eq _).trans ?_).trans (Cert.ConfBwdIdeal.Conf.final7 m c).symm
      refine Eq.trans (b := Cert.ConfGradIdeal.Read.val_main_v228 (F := Ideal) (m' (c.tc.loc Cert.ConfGradIdeal.main_arg0)) (m' (c.tc.loc Cert.ConfGradIdeal.main_arg1)) (m' (c.tc.loc Cert.ConfGradIdeal.main_arg3))) rfl ?_
      rw [(hagree c).1, (hagree c).2.1, (hagree c).2.2.2]
      funext (y : Cert.ConfGradIdeal.S2048x1024.Idx)
      obtain ⟨n, k, rfl⟩ : ∃ (n : Fin 2048) (k : Fin 1024), y = ix2 n k := ⟨y 0, y 1, eq_ix2 y⟩
      exact Cert.ConfGradIdeal.Conf.da_at _ _ _ n k
    · refine ((Cert.ConfGradIdeal.Read.val_main_v230_eq _).trans ?_).trans (Cert.ConfBwdIdeal.Conf.final8 m c).symm
      refine Eq.trans (b := Cert.ConfGradIdeal.Read.val_main_v230 (F := Ideal) (m' (c.tc.loc Cert.ConfGradIdeal.main_arg0)) (m' (c.tc.loc Cert.ConfGradIdeal.main_arg1)) (m' (c.tc.loc Cert.ConfGradIdeal.main_arg3))) rfl ?_
      rw [(hagree c).1, (hagree c).2.1, (hagree c).2.2.2]
      funext (y : Cert.ConfGradIdeal.S2048x1024.Idx)
      obtain ⟨n, k, rfl⟩ : ∃ (n : Fin 2048) (k : Fin 1024), y = ix2 n k := ⟨y 0, y 1, eq_ix2 y⟩
      exact Cert.ConfGradIdeal.Conf.dg_at _ _ _ n k
    · refine Eq.trans (b := Cert.ConfGradIdeal.Read.val_main_v231 (F := Ideal) (m' (c.tc.loc Cert.ConfGradIdeal.main_arg0)) (m' (c.tc.loc Cert.ConfGradIdeal.main_arg3))) rfl ?_
      refine Eq.trans ?_ (Cert.ConfBwdIdeal.Conf.final9 m c).symm
      rw [(hagree c).1, (hagree c).2.2.2]
      funext (y : Cert.ConfGradIdeal.S32x1024.Idx)
      obtain ⟨j, k, rfl⟩ : ∃ (j : Fin 32) (k : Fin 1024), y = ix2 j k := ⟨y 0, y 1, eq_ix2 y⟩
      exact Cert.ConfGradIdeal.Conf.dw_at _ _ j k

end Cert.Conf
-- ==== Proof.DownValue.lean ====
module

public import proofs.«01_k».proof.Defs
public import proofs.«01_k».proof.Proof.Gen.DownWgradIdeal.Value
public import proofs.«01_k».proof.Proof.Gen.DownGradIdeal.Read
public import Idealize.ShloMosaic.Lib.Pipeline.ValueKit
public import Idealize.ShloMosaic.Lib.Pipeline.ReadBack
public import Idealize.ShloMosaic.Lib.Pointwise
public import Idealize.ShloMosaic.Lib.Claim
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.DownWgradIdeal.Sum
open Cert.DownWgradIdeal Cert.DownWgradIdeal.Gen

/-- The product of the transposed activations with the cotangent: a sum over the tokens. -/
def G (X : FVec Ideal S2048x2816 .bf16) (Y : FVec Ideal S2048x1024 .bf16) : FVec Ideal S2816x1024 .bf16 :=
  fun i => ∑ q : Fin 2048, X (ix2 q (i 0)) * Y (ix2 q (i 1))

variable (m : (ℓ : Loc nD τ sig) → Buf (Elt Ideal) ℓ)

theorem idx : ∀ t : Fin cfg0.N, win0_0.index t = ![t.val % 4, 0] ∧ win0_1.index t = ![t.val % 4, 0] ∧ win0_2.index t = ![0, 0] ∧ t.val < 4 :=
  (by decide +kernel : ∀ t : Fin grid0.N, _)

theorem hzero (j : S2816x1024.Idx) : k0_pay1 (F := Ideal) j = 0 := by pointwise [k0_pay1]

theorem hpay (acc : Vec Ideal S2816x1024 .f32) (x : Vec Ideal S512x2816 .bf16) (y : Vec Ideal S512x1024 .bf16) (j : S2816x1024.Idx) :
    k0_pay2 acc x y j = acc j + ∑ k : Fin 512, x (ix2 k (j 0)) * y (ix2 k (j 1)) := by pointwise [k0_pay2]

/-- The last point of a run stores the scratch it has just added into. -/
theorem out_last (c : Dev nD) (t : Fin cfg0.N) (h : t.val % 4 = 3) (j : S2816x1024.Idx) :
    (outsAt0 m c t.val t.isLt).1 j = (outsAt0 m c t.val t.isLt).2 j := by
  rw [outsAt0_C m c t (by omega) h]
  frame_out
  pointwise [k0_pay3]

theorem final (c : Dev nD) : (dats m 0 c).arrAt 2 (cfgs 0).N = G (m ((c : Thread nD τ).loc main_arg0)) (m ((c : Thread nD τ).loc main_arg1)) := by
  refine (dats m 0 c).arrAt_eq_of_covers 2 _ (by decide +kernel) fun t hf y => ?_
  blk_simp
  rw [after0_2, out_last m c t ((flush0_2 t).mp hf), Pipeline.eq_sum_fin_of_reset_step_apply_of_flush (fun n h => (outsAt0 m c n h).2) 4 (fun _ => 0) _
    (fun t h j => by rw [outsAt0_A m c t h (by omega)]; frame_out; rw [hpay, hzero])
    (fun t h j => by
      by_cases h1 : t.val % 4 = 3
      · rw [outsAt0_C m c t h h1]; frame_out; rw [hpay, read_unread_whole]
      · rw [outsAt0_B m c t h h1]; frame_out; rw [hpay, read_unread_whole])
    t ((flush0_2 t).mp hf) _, zero_add]
  unfold G
  refine Fin.sum_mul_add_congr fun s k hl => ?_
  blk_point [iblk, V, idx t, idx ⟨_, Pipeline.run_point_lt_of_flush t ((flush0_2 t).mp hf) s⟩]

end Cert.DownWgradIdeal.Sum

namespace Cert.Down

theorem reference_at (X : FVec Ideal Cert.DownGradIdeal.S2048x2816 .bf16) (Y : FVec Ideal Cert.DownGradIdeal.S2048x1024 .bf16) :
    Cert.DownGradIdeal.Read.val_main_v6 (F := Ideal) X Y = Cert.DownWgradIdeal.Sum.G X Y := by
  funext i
  pointwise [Cert.DownGradIdeal.Read.val_main_v6, Cert.DownGradIdeal.Read.val_main_v5, Cert.DownGradIdeal.Read.val_main_v4, Cert.DownGradIdeal.Read.val_main_v1, Cert.DownGradIdeal.Read.val_main_v0, Cert.DownWgradIdeal.Sum.G]
  exact Finset.sum_congr rfl fun q _ => mul_comm _ _

/-- The reference leaves its arguments alone, and it has no semaphore. -/
theorem reference_frame : Cert.quiescent_DownGradIdeal := by
  intro m g _
  exact (θ_run _ _ _).mono (fun r h => ⟨fun c => (h c).2, sem_eq_zero_of_no_sems (by decide) r.2⟩) (Cert.DownGradIdeal.Value.run m g)

theorem algebraic : Cert.algebraic_DownWgradIdeal_DownGradIdeal := by
  pair_intro
  · run_from Cert.DownWgradIdeal.Value.run_blocks m g
  · run_from Cert.DownGradIdeal.Value.run m' g'
    refine ((Cert.DownGradIdeal.Read.val_main_v6_eq _ _).trans ?_).trans (Cert.DownWgradIdeal.Sum.final m c).symm
    exact reference_at _ _

end Cert.Down
-- ==== Proof.UpWgrad.lean ====
module

public import proofs.«01_k».proof.Defs
public import proofs.«01_k».proof.Proof.Gen.UpWgradIdeal.Value
public import proofs.«01_k».proof.Proof.Gen.UpGradIdeal.Read
public import Idealize.ShloMosaic.Lib.Pipeline.ValueKit
public import Idealize.ShloMosaic.Lib.Pipeline.ReadBack
public import Idealize.ShloMosaic.Lib.Pointwise
public import Idealize.ShloMosaic.Lib.Claim
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.UpWgradIdeal.Sum
open Cert.UpWgradIdeal Cert.UpWgradIdeal.Gen

/-- Two transposed arrays, one above the other, times a third: a sum over the tokens. -/
def G (A B : FVec Ideal S2048x2816 .bf16) (Y : FVec Ideal S2048x1024 .bf16) : FVec Ideal S5632x1024 .bf16 :=
  fun i => if h : (i 0).val < 2816 then ∑ q : Fin 2048, A (ix2 q ⟨(i 0).val, h⟩) * Y (ix2 q (i 1))
    else ∑ q : Fin 2048, B (ix2 q ⟨(i 0).val - 2816, by have := (i 0).isLt; change (i 0).val < 5632 at this; omega⟩) * Y (ix2 q (i 1))

variable (m : (ℓ : Loc nD τ sig) → Buf (Elt Ideal) ℓ)

theorem idx : ∀ t : Fin cfg0.N, (t.val < 4 → win0_0.index t = ![t.val % 4, 0]) ∧ (¬t.val < 4 → win0_1.index t = ![t.val % 4, 0])
    ∧ win0_2.index t = ![t.val % 4, 0] ∧ win0_3.index t = ![t.val / 4, 0] ∧ t.val < 8 :=
  (by decide +kernel : ∀ t : Fin grid0.N, _)

theorem hzero (j : S2816x1024.Idx) : k0_pay1 (F := Ideal) j = 0 := by pointwise [k0_pay1]

theorem hpay2 (acc : Vec Ideal S2816x1024 .f32) (x : Vec Ideal S512x2816 .bf16) (y : Vec Ideal S512x1024 .bf16) (j : S2816x1024.Idx) :
    k0_pay2 acc x y j = acc j + ∑ k : Fin 512, x (ix2 k (j 0)) * y (ix2 k (j 1)) := by pointwise [k0_pay2]

theorem hpay3 (acc : Vec Ideal S2816x1024 .f32) (x : Vec Ideal S512x2816 .bf16) (y : Vec Ideal S512x1024 .bf16) (j : S2816x1024.Idx) :
    k0_pay3 acc x y j = acc j + ∑ k : Fin 512, x (ix2 k (j 0)) * y (ix2 k (j 1)) := by pointwise [k0_pay3]

/-- The block the point multiplies: the first array's in the first run, the second array's in the second. -/
def part (c : Dev nD) (t : Fin cfg0.N) : FVec Ideal S512x2816 .bf16 := if t.val < 4 then iblk m c 0 t else iblk m c 1 t

def term (c : Dev nD) (t : Fin cfg0.N) (j : S2816x1024.Idx) : EReal :=
  ∑ k : Fin 512, part m c t (ix2 k (j 0)) * (show FVec Ideal S512x1024 .bf16 from iblk m c 2 t) (ix2 k (j 1))

theorem term_lo (c : Dev nD) (t : Fin cfg0.N) (h : t.val < 4) (j : S2816x1024.Idx) :
    term m c t j = ∑ k : Fin 512, (show FVec Ideal S512x2816 .bf16 from iblk m c 0 t) (ix2 k (j 0)) * (show FVec Ideal S512x1024 .bf16 from iblk m c 2 t) (ix2 k (j 1)) := by
  unfold term part
  rw [if_pos h]

theorem term_hi (c : Dev nD) (t : Fin cfg0.N) (h : ¬t.val < 4) (j : S2816x1024.Idx) :
    term m c t j = ∑ k : Fin 512, (show FVec Ideal S512x2816 .bf16 from iblk m c 1 t) (ix2 k (j 0)) * (show FVec Ideal S512x1024 .bf16 from iblk m c 2 t) (ix2 k (j 1)) := by
  unfold term part
  rw [if_neg h]

theorem reset (c : Dev nD) (t : Fin cfg0.N) (h : t.val % 4 = 0) (j : S2816x1024.Idx) : (outsAt0 m c t.val t.isLt).2 j = 0 + term m c t j := by
  by_cases h1 : t.val < 4
  · rw [outsAt0_A m c t h h1 (by omega) (by omega), term_lo m c t h1]
    frame_out
    rw [hpay2, hzero]
  · rw [outsAt0_D m c t h h1 (by omega) (by omega), term_hi m c t h1]
    frame_out
    rw [hpay3, hzero]

theorem step (c : Dev nD) (t : Fin cfg0.N) (h : ¬t.val % 4 = 0) (j : S2816x1024.Idx) :
    (outsAt0 m c t.val t.isLt).2 j = (outsAt0 m c (t.val - 1) (Nat.lt_of_le_of_lt (Nat.sub_le _ _) t.isLt)).2 j + term m c t j := by
  by_cases h1 : t.val < 4
  · rw [term_lo m c t h1]
    by_cases h3 : t.val % 4 = 3
    · rw [outsAt0_C m c t h h1 (by omega) h3]
      frame_out
      rw [hpay2, read_unread_whole]
    · rw [outsAt0_B m c t h h1 (by omega) h3]
      frame_out
      rw [hpay2, read_unread_whole]
  · rw [term_hi m c t h1]
    by_cases h3 : t.val % 4 = 3
    · rw [outsAt0_F m c t h h1 (by omega) h3]
      frame_out
      rw [hpay3, read_unread_whole]
    · rw [outsAt0_E m c t h h1 (by omega) h3]
      frame_out
      rw [hpay3, read_unread_whole]

/-- The last point of a run stores the scratch it has just added into. -/
theorem out_last (c : Dev nD) (t : Fin cfg0.N) (h : t.val % 4 = 3) (j : S2816x1024.Idx) :
    (outsAt0 m c t.val t.isLt).1 j = (outsAt0 m c t.val t.isLt).2 j := by
  by_cases h1 : t.val < 4
  · rw [outsAt0_C m c t (by omega) h1 (by omega) h]
    frame_out
    pointwise [k0_pay4]
  · rw [outsAt0_F m c t (by omega) h1 (by omega) h]
    frame_out
    pointwise [k0_pay4]

theorem final (c : Dev nD) : (dats m 0 c).arrAt 3 (cfgs 0).N
    = G (m ((c : Thread nD τ).loc main_arg0)) (m ((c : Thread nD τ).loc main_arg1)) (m ((c : Thread nD τ).loc main_arg2)) := by
  refine (dats m 0 c).arrAt_eq_of_covers 3 _ (by decide +kernel) fun t hf y => ?_
  have ht := (idx t).2.2.2.2
  have hf' := (flush0_3 t).mp hf
  blk_simp
  rw [after0_3, out_last m c t hf', Pipeline.eq_sum_fin_of_reset_step_apply_of_flush (fun n h => (outsAt0 m c n h).2) 4 (fun _ => 0) (term m c)
    (reset m c) (step m c) t hf' _, zero_add]
  unfold G
  have hy : (y 0).val < 2816 := (y 0).isLt
  have he : ((((cfg0.win 3).blk t).view.emb y) 0).val = t.val / 4 * 2816 + (y 0).val := by blk_simp [idx t]
  by_cases h1 : t.val < 4
  · rw [dif_pos (by rw [he]; omega), Finset.sum_congr rfl fun s _ => term_lo m c _ (by show 4 * (t.val / 4) + s.val < 4; omega) _]
    refine Fin.sum_mul_add_congr fun s k hl => ?_
    have hs : (4 * (t.val / 4) + s.val) < 4 := by omega
    have hw := idx ⟨_, Pipeline.run_point_lt_of_flush t hf' s⟩
    have hw0 := hw.1 hs
    blk_point [iblk, V, (idx t).2, hw0, hw.2]
  · rw [dif_neg (by rw [he]; omega), Finset.sum_congr rfl fun s _ => term_hi m c _ (by show ¬4 * (t.val / 4) + s.val < 4; omega) _]
    refine Fin.sum_mul_add_congr fun s k hl => ?_
    have hs : ¬(4 * (t.val / 4) + s.val) < 4 := by omega
    have hw := idx ⟨_, Pipeline.run_point_lt_of_flush t hf' s⟩
    have hw1 := hw.2.1 hs
    blk_point [iblk, V, (idx t).2.2, hw1, hw.2.2]

end Cert.UpWgradIdeal.Sum
-- ==== Proof.UpValue.lean ====
module

public import proofs.«01_k».proof.Defs
public import proofs.«01_k».proof.Proof.UpWgrad
public import proofs.«01_k».proof.Proof.Gen.UpGradIdeal.Read
public import Idealize.ShloMosaic.Lib.Pipeline.ValueKit
public import Idealize.ShloMosaic.Lib.Pipeline.ReadBack
public import Idealize.ShloMosaic.Lib.Pointwise
public import Idealize.ShloMosaic.Lib.Claim
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.Up

theorem reference_at (A B : FVec Ideal Cert.UpGradIdeal.S2048x2816 .bf16) (Y : FVec Ideal Cert.UpGradIdeal.S2048x1024 .bf16) :
    Cert.UpGradIdeal.Read.val_main_v8 (F := Ideal) A B Y = Cert.UpWgradIdeal.Sum.G A B Y := by
  funext i
  pointwise [Cert.UpGradIdeal.Read.val_main_v8, Cert.UpGradIdeal.Read.val_main_v7, Cert.UpGradIdeal.Read.val_main_v6, Cert.UpGradIdeal.Read.val_main_v5, Cert.UpGradIdeal.Read.val_main_v2, Cert.UpGradIdeal.Read.val_main_v1, Cert.UpGradIdeal.Read.val_main_v0, Cert.UpWgradIdeal.Sum.G]
  by_cases h : (i 0).val < 2816
  · rw [dif_pos h]
    refine Finset.sum_congr rfl fun q _ => ?_
    simp only [dif_pos h]
  · rw [dif_neg h]
    refine Finset.sum_congr rfl fun q _ => ?_
    simp only [dif_neg h]

/-- The reference leaves its arguments alone, and it has no semaphore. -/
theorem reference_frame : Cert.quiescent_UpGradIdeal := by
  intro m g _
  exact (θ_run _ _ _).mono (fun r h => ⟨fun c => (h c).2, sem_eq_zero_of_no_sems (by decide) r.2⟩) (Cert.UpGradIdeal.Value.run m g)

theorem algebraic : Cert.algebraic_UpWgradIdeal_UpGradIdeal := by
  pair_intro
  · run_from Cert.UpWgradIdeal.Value.run_blocks m g
  · run_from Cert.UpGradIdeal.Value.run m' g'
    refine ((Cert.UpGradIdeal.Read.val_main_v8_eq _ _ _).trans ?_).trans (Cert.UpWgradIdeal.Sum.final m c).symm
    exact reference_at _ _ _

end Cert.Up
-- ==== Proof.OutWgrad.lean ====
module

public import proofs.«01_k».proof.Defs
public import proofs.«01_k».proof.Proof.Gen.OutWgradIdeal.Value
public import proofs.«01_k».proof.Proof.Gen.OutGradIdeal.Read
public import Idealize.ShloMosaic.Lib.Pipeline.ValueKit
public import Idealize.ShloMosaic.Lib.Pipeline.ReadBack
public import Idealize.ShloMosaic.Lib.Pointwise
public import Idealize.ShloMosaic.Lib.Claim
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.OutWgradIdeal.Sum
open Cert.OutWgradIdeal Cert.OutWgradIdeal.Gen

/-- Two transposed arrays, one above the other, times a third: a sum over the tokens. -/
def G (A B : FVec Ideal S2048x1024 .bf16) (Y : FVec Ideal S2048x1024 .bf16) : FVec Ideal S2048x1024 .bf16 :=
  fun i => if h : (i 0).val < 1024 then ∑ q : Fin 2048, A (ix2 q ⟨(i 0).val, h⟩) * Y (ix2 q (i 1))
    else ∑ q : Fin 2048, B (ix2 q ⟨(i 0).val - 1024, by have := (i 0).isLt; change (i 0).val < 2048 at this; omega⟩) * Y (ix2 q (i 1))

variable (m : (ℓ : Loc nD τ sig) → Buf (Elt Ideal) ℓ)

theorem idx : ∀ t : Fin cfg0.N, (t.val < 4 → win0_0.index t = ![t.val % 4, 0]) ∧ (¬t.val < 4 → win0_1.index t = ![t.val % 4, 0])
    ∧ win0_2.index t = ![t.val % 4, 0] ∧ win0_3.index t = ![t.val / 4, 0] ∧ t.val < 8 :=
  (by decide +kernel : ∀ t : Fin grid0.N, _)

theorem hzero (j : S1024x1024.Idx) : k0_pay1 (F := Ideal) j = 0 := by pointwise [k0_pay1]

theorem hpay2 (acc : Vec Ideal S1024x1024 .f32) (x : Vec Ideal S512x1024 .bf16) (y : Vec Ideal S512x1024 .bf16) (j : S1024x1024.Idx) :
    k0_pay2 acc x y j = acc j + ∑ k : Fin 512, x (ix2 k (j 0)) * y (ix2 k (j 1)) := by pointwise [k0_pay2]

theorem hpay3 (acc : Vec Ideal S1024x1024 .f32) (x : Vec Ideal S512x1024 .bf16) (y : Vec Ideal S512x1024 .bf16) (j : S1024x1024.Idx) :
    k0_pay3 acc x y j = acc j + ∑ k : Fin 512, x (ix2 k (j 0)) * y (ix2 k (j 1)) := by pointwise [k0_pay3]

/-- The block the point multiplies: the first array's in the first run, the second array's in the second. -/
def part (c : Dev nD) (t : Fin cfg0.N) : FVec Ideal S512x1024 .bf16 := if t.val < 4 then iblk m c 0 t else iblk m c 1 t

def term (c : Dev nD) (t : Fin cfg0.N) (j : S1024x1024.Idx) : EReal :=
  ∑ k : Fin 512, part m c t (ix2 k (j 0)) * (show FVec Ideal S512x1024 .bf16 from iblk m c 2 t) (ix2 k (j 1))

theorem term_lo (c : Dev nD) (t : Fin cfg0.N) (h : t.val < 4) (j : S1024x1024.Idx) :
    term m c t j = ∑ k : Fin 512, (show FVec Ideal S512x1024 .bf16 from iblk m c 0 t) (ix2 k (j 0)) * (show FVec Ideal S512x1024 .bf16 from iblk m c 2 t) (ix2 k (j 1)) := by
  unfold term part
  rw [if_pos h]

theorem term_hi (c : Dev nD) (t : Fin cfg0.N) (h : ¬t.val < 4) (j : S1024x1024.Idx) :
    term m c t j = ∑ k : Fin 512, (show FVec Ideal S512x1024 .bf16 from iblk m c 1 t) (ix2 k (j 0)) * (show FVec Ideal S512x1024 .bf16 from iblk m c 2 t) (ix2 k (j 1)) := by
  unfold term part
  rw [if_neg h]

theorem reset (c : Dev nD) (t : Fin cfg0.N) (h : t.val % 4 = 0) (j : S1024x1024.Idx) : (outsAt0 m c t.val t.isLt).2 j = 0 + term m c t j := by
  by_cases h1 : t.val < 4
  · rw [outsAt0_A m c t h h1 (by omega) (by omega), term_lo m c t h1]
    frame_out
    rw [hpay2, hzero]
  · rw [outsAt0_D m c t h h1 (by omega) (by omega), term_hi m c t h1]
    frame_out
    rw [hpay3, hzero]

theorem step (c : Dev nD) (t : Fin cfg0.N) (h : ¬t.val % 4 = 0) (j : S1024x1024.Idx) :
    (outsAt0 m c t.val t.isLt).2 j = (outsAt0 m c (t.val - 1) (Nat.lt_of_le_of_lt (Nat.sub_le _ _) t.isLt)).2 j + term m c t j := by
  by_cases h1 : t.val < 4
  · rw [term_lo m c t h1]
    by_cases h3 : t.val % 4 = 3
    · rw [outsAt0_C m c t h h1 (by omega) h3]
      frame_out
      rw [hpay2, read_unread_whole]
    · rw [outsAt0_B m c t h h1 (by omega) h3]
      frame_out
      rw [hpay2, read_unread_whole]
  · rw [term_hi m c t h1]
    by_cases h3 : t.val % 4 = 3
    · rw [outsAt0_F m c t h h1 (by omega) h3]
      frame_out
      rw [hpay3, read_unread_whole]
    · rw [outsAt0_E m c t h h1 (by omega) h3]
      frame_out
      rw [hpay3, read_unread_whole]

/-- The last point of a run stores the scratch it has just added into. -/
theorem out_last (c : Dev nD) (t : Fin cfg0.N) (h : t.val % 4 = 3) (j : S1024x1024.Idx) :
    (outsAt0 m c t.val t.isLt).1 j = (outsAt0 m c t.val t.isLt).2 j := by
  by_cases h1 : t.val < 4
  · rw [outsAt0_C m c t (by omega) h1 (by omega) h]
    frame_out
    pointwise [k0_pay4]
  · rw [outsAt0_F m c t (by omega) h1 (by omega) h]
    frame_out
    pointwise [k0_pay4]

theorem final (c : Dev nD) : (dats m 0 c).arrAt 3 (cfgs 0).N
    = G (m ((c : Thread nD τ).loc main_arg0)) (m ((c : Thread nD τ).loc main_arg1)) (m ((c : Thread nD τ).loc main_arg2)) := by
  refine (dats m 0 c).arrAt_eq_of_covers 3 _ (by decide +kernel) fun t hf y => ?_
  have ht := (idx t).2.2.2.2
  have hf' := (flush0_3 t).mp hf
  blk_simp
  rw [after0_3, out_last m c t hf', Pipeline.eq_sum_fin_of_reset_step_apply_of_flush (fun n h => (outsAt0 m c n h).2) 4 (fun _ => 0) (term m c)
    (reset m c) (step m c) t hf' _, zero_add]
  unfold G
  have hy : (y 0).val < 1024 := (y 0).isLt
  have he : ((((cfg0.win 3).blk t).view.emb y) 0).val = t.val / 4 * 1024 + (y 0).val := by blk_simp [idx t]
  by_cases h1 : t.val < 4
  · rw [dif_pos (by rw [he]; omega), Finset.sum_congr rfl fun s _ => term_lo m c _ (by show 4 * (t.val / 4) + s.val < 4; omega) _]
    refine Fin.sum_mul_add_congr fun s k hl => ?_
    have hs : (4 * (t.val / 4) + s.val) < 4 := by omega
    have hw := idx ⟨_, Pipeline.run_point_lt_of_flush t hf' s⟩
    have hw0 := hw.1 hs
    blk_point [iblk, V, (idx t).2, hw0, hw.2]
  · rw [dif_neg (by rw [he]; omega), Finset.sum_congr rfl fun s _ => term_hi m c _ (by show ¬4 * (t.val / 4) + s.val < 4; omega) _]
    refine Fin.sum_mul_add_congr fun s k hl => ?_
    have hs : ¬(4 * (t.val / 4) + s.val) < 4 := by omega
    have hw := idx ⟨_, Pipeline.run_point_lt_of_flush t hf' s⟩
    have hw1 := hw.2.1 hs
    blk_point [iblk, V, (idx t).2.2, hw1, hw.2.2]

end Cert.OutWgradIdeal.Sum
-- ==== Proof.OutValue.lean ====
module

public import proofs.«01_k».proof.Defs
public import proofs.«01_k».proof.Proof.OutWgrad
public import proofs.«01_k».proof.Proof.Gen.OutGradIdeal.Read
public import Idealize.ShloMosaic.Lib.Pipeline.ValueKit
public import Idealize.ShloMosaic.Lib.Pipeline.ReadBack
public import Idealize.ShloMosaic.Lib.Pointwise
public import Idealize.ShloMosaic.Lib.Claim
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.Out

theorem reference_at (A B : FVec Ideal Cert.OutGradIdeal.S2048x1024 .bf16) (Y : FVec Ideal Cert.OutGradIdeal.S2048x1024 .bf16) :
    Cert.OutGradIdeal.Read.val_main_v7 (F := Ideal) A B Y = Cert.OutWgradIdeal.Sum.G A B Y := by
  funext i
  pointwise [Cert.OutGradIdeal.Read.val_main_v7, Cert.OutGradIdeal.Read.val_main_v6, Cert.OutGradIdeal.Read.val_main_v5, Cert.OutGradIdeal.Read.val_main_v4, Cert.OutGradIdeal.Read.val_main_v3, Cert.OutGradIdeal.Read.val_main_v2, Cert.OutGradIdeal.Read.val_main_v1, Cert.OutGradIdeal.Read.val_main_v0, Cert.OutWgradIdeal.Sum.G]
  by_cases h : (i 0).val < 1024
  · rw [dif_pos h]
    refine Finset.sum_congr rfl fun q _ => ?_
    simp only [dif_pos h]
    exact mul_comm _ _
  · rw [dif_neg h]
    refine Finset.sum_congr rfl fun q _ => ?_
    simp only [dif_neg h]
    exact mul_comm _ _

/-- The reference leaves its arguments alone, and it has no semaphore. -/
theorem reference_frame : Cert.quiescent_OutGradIdeal := by
  intro m g _
  exact (θ_run _ _ _).mono (fun r h => ⟨fun c => (h c).2, sem_eq_zero_of_no_sems (by decide) r.2⟩) (Cert.OutGradIdeal.Value.run m g)

theorem algebraic : Cert.algebraic_OutWgradIdeal_OutGradIdeal := by
  pair_intro
  · run_from Cert.OutWgradIdeal.Value.run_blocks m g
  · run_from Cert.OutGradIdeal.Value.run m' g'
    refine ((Cert.OutGradIdeal.Read.val_main_v7_eq _ _ _).trans ?_).trans (Cert.OutWgradIdeal.Sum.final m c).symm
    exact reference_at _ _ _

end Cert.Out
-- ==== Proof.InWgrad.lean ====
module

public import proofs.«01_k».proof.Defs
public import proofs.«01_k».proof.Proof.Gen.InWgradIdeal.Value
public import Idealize.ShloMosaic.Lib.Pipeline.ValueKit
public import Idealize.ShloMosaic.Lib.Pipeline.ReadBack
public import Idealize.ShloMosaic.Lib.Pointwise
public import Idealize.ShloMosaic.Lib.Claim
public import Idealize.ShloMosaic.Lib.Quiescent
public import proofs.«01_k».proof.Proof.Gen.InGradIdeal.Read

@[expose] public section

set_option maxRecDepth 16384

noncomputable section

open Idealize.ShloMosaic Idealize.ShloMosaic.TcCoe Idealize.SL.Sem
open Idealize.ShloMosaic.Pipeline (Dat)

namespace Cert.InWgradIdeal.Sum
open Cert.InWgradIdeal Cert.InWgradIdeal.Gen

variable (m : (ℓ : Loc nD τ sig) → Buf (Elt Ideal) ℓ)

theorem idx : ∀ t : Fin cfg0.N, win0_0.index t = ![t.val % 4, 0] ∧ win0_1.index t = ![t.val % 4, 0] ∧ win0_2.index t = ![t.val % 4, 0]
    ∧ win0_3.index t = ![t.val % 4, 0] ∧ win0_4.index t = ![t.val % 4, 0] ∧ win0_5.index t = ![t.val % 4, 0] ∧ win0_6.index t = ![0, 0, 0] ∧ t.val < 4 :=
  (by decide +kernel : ∀ t : Fin grid0.N, _)

theorem hzero (j : S4624x1024.Idx) : k0_pay12 (F := Ideal) j = 0 := by pointwise [k0_pay12]

theorem hpay13 (g a : Vec Ideal S512x1024 .bf16) (acc : Vec Ideal S1024x1024 .f32) (j : S1024x1024.Idx) :
    k0_pay13 g a acc j = acc j + ∑ k : Fin 512, a (ix2 k (j 0)) * g (ix2 k (j 1)) := by pointwise [k0_pay13]

theorem hpay14 (g : Vec Ideal S512x1024 .bf16) (a : Vec Ideal S512x1536 .bf16) (acc : Vec Ideal S1536x1024 .f32) (j : S1536x1024.Idx) :
    k0_pay14 g a acc j = acc j + ∑ k : Fin 512, a (ix2 k (j 0)) * g (ix2 k (j 1)) := by pointwise [k0_pay14]

theorem hpay15 (g : Vec Ideal S512x1024 .bf16) (a : Vec Ideal S512x128 .bf16) (acc : Vec Ideal S16x1024 .f32) (j : S16x1024.Idx) :
    k0_pay15 g a acc j = acc j + ∑ k : Fin 512, a (ix2 k ⟨(j 0).val, Nat.lt_of_lt_of_le (j 0).isLt (by decide)⟩) * g (ix2 k (j 1)) := by pointwise [k0_pay15]

theorem hpay1 (g a : Vec Ideal S512x1024 .bf16) (acc : Vec Ideal S1024x1024 .f32) (j : S1024x1024.Idx) :
    k0_pay1 g a (constant S1024x1024 FTy.f32 0#32) acc j = acc j + ∑ k : Fin 512, a (ix2 k (j 0)) * g (ix2 k (j 1)) := by pointwise [k0_pay1]

theorem hpay2 (g a : Vec Ideal S512x1024 .bf16) (acc : Vec Ideal S1024x1024 .f32) (j : S1024x1024.Idx) :
    k0_pay2 g a acc j = acc j + ∑ k : Fin 512, a (ix2 k (j 0)) * g (ix2 k (j 1)) := by pointwise [k0_pay2]

/-- Five arrays side by side: row `q`, column `r` of the whole. -/
def cols {n : Nat} (A : FVec Ideal ⟨2, ![n, 1024]⟩ .bf16) (B : FVec Ideal ⟨2, ![n, 1536]⟩ .bf16) (C : FVec Ideal ⟨2, ![n, 128]⟩ .bf16)
    (D E : FVec Ideal ⟨2, ![n, 1024]⟩ .bf16) (q : Fin n) (r : Fin 4624) : EReal :=
  if h0 : r.val < 1024 then A (ix2 q ⟨r.val, h0⟩)
  else if h1 : r.val < 2560 then B (ix2 q ⟨r.val - 1024, by omega⟩)
  else if h2 : r.val < 2576 then C (ix2 q ⟨r.val - 2560, by omega⟩)
  else if h3 : r.val < 3600 then D (ix2 q ⟨r.val - 2576, by omega⟩)
  else E (ix2 q ⟨r.val - 3600, by have := r.isLt; omega⟩)

/-- What one point adds to the scratch. -/
def term (c : Dev nD) (t : Fin cfg0.N) (j : S4624x1024.Idx) : EReal :=
  ∑ k : Fin 512, cols (n := 512) (iblk m c 0 t) (iblk m c 1 t) (iblk m c 2 t) (iblk m c 3 t) (iblk m c 4 t) k (j 0)
    * (show FVec Ideal S512x1024 .bf16 from iblk m c 5 t) (ix2 k (j 1))

theorem row_mem (o n : Nat) (h : ∀ a, ![o, 0] a + ![n, 1024] a ≤ S4624x1024.size a) (j : S4624x1024.Idx) (h1 : o ≤ (j 0).val) (h2 : (j 0).val < o + n) :
    j ∈ (Rect.unit (s := S4624x1024) ![o, 0] ![n, 1024] h).set := Rect.mem_set_unit.mpr fun q => by
  fin_cases q
  · exact ⟨h1, h2⟩
  · exact ⟨Nat.zero_le _, by show (j 1).val < 0 + 1024; have := (j 1).isLt; change (j 1).val < 1024 at this; omega⟩

theorem cover (h0 h1 h2 h3 h4) (p0 p1 p2 p3 p4) (L : List (View.Piece (Elt Ideal) S4624x1024 .f32)) (j : S4624x1024.Idx) :
    ∃ p ∈ ((⟨Rect.unit (s := S4624x1024) ![3600, 0] ![1024, 1024] h4, p4⟩ : View.Piece (Elt Ideal) S4624x1024 .f32)
      :: ⟨Rect.unit (s := S4624x1024) ![2576, 0] ![1024, 1024] h3, p3⟩ :: ⟨Rect.unit (s := S4624x1024) ![2560, 0] ![16, 1024] h2, p2⟩
      :: ⟨Rect.unit (s := S4624x1024) ![1024, 0] ![1536, 1024] h1, p1⟩ :: ⟨Rect.unit (s := S4624x1024) ![0, 0] ![1024, 1024] h0, p0⟩ :: L), j ∈ p.1.set := by
  have hj := (j 0).isLt
  change (j 0).val < 4624 at hj
  by_cases c0 : (j 0).val < 1024
  · exact ⟨_, .tail _ (.tail _ (.tail _ (.tail _ (.head _)))), row_mem 0 1024 h0 j (by omega) (by omega)⟩
  by_cases c1 : (j 0).val < 2560
  · exact ⟨_, .tail _ (.tail _ (.tail _ (.head _))), row_mem 1024 1536 h1 j (by omega) (by omega)⟩
  by_cases c2 : (j 0).val < 2576
  · exact ⟨_, .tail _ (.tail _ (.head _)), row_mem 2560 16 h2 j (by omega) (by omega)⟩
  by_cases c3 : (j 0).val < 3600
  · exact ⟨_, .tail _ (.head _), row_mem 2576 1024 h3 j (by omega) (by omega)⟩
  · exact ⟨_, .head _, row_mem 3600 1024 h4 j (by omega) (by omega)⟩

theorem unit_idx (o n : Nat) (h : ∀ a, ![o, 0] a + ![n, 1024] a ≤ S4624x1024.size a) (x : (Rect.unit (s := S4624x1024) ![o, 0] ![n, 1024] h).shape.Idx) (j : S4624x1024.Idx)
    (h0 : (j 0).val = o + (x 0).val) (h1 : (j 1).val = (x 1).val) : (Rect.unit (s := S4624x1024) ![o, 0] ![n, 1024] h).idx x = j := by
  funext q
  refine Fin.ext ?_
  fin_cases q
  · show o + 1 * (x 0).val = (j 0).val
    omega
  · show 0 + 1 * (x 1).val = (j 1).val
    omega

theorem canon_append {S : Shape} {e : EltTy} (y : S.Idx) (R : List (View.Piece (Elt Ideal) S e)) :
    ∀ L : List (View.Piece (Elt Ideal) S e), (∃ p ∈ L, y ∈ p.1.set) → View.canon (L ++ R) y = View.canon L y
  | [], h => by obtain ⟨p, hp, _⟩ := h; cases hp
  | p :: L, h => by
    rw [List.cons_append]
    by_cases hy : y ∈ p.1.set
    · obtain ⟨r, w⟩ := p
      obtain ⟨x, rfl⟩ : ∃ x, r.emb x = y := r.exists_idx_of_mem hy
      rw [View.canon_cons_emb, View.canon_cons_emb]
    · rw [View.canon_cons_of_not_mem p _ hy, View.canon_cons_of_not_mem p _ hy]
      refine canon_append y R L ?_
      obtain ⟨q, hq, hy'⟩ := h
      rcases List.mem_cons.mp hq with e | e
      · exact absurd (e ▸ hy') hy
      · exact ⟨q, e, hy'⟩

set_option maxHeartbeats 1000000 in
theorem stepB (c : Dev nD) (t : Fin cfg0.N) (h : ¬t.val % 4 = 0) (h1 : ¬t.val % 4 = 3) (j : S4624x1024.Idx) :
    (outsAt0 m c t.val t.isLt).2 j = (outsAt0 m c (t.val - 1) (Nat.lt_of_le_of_lt (Nat.sub_le _ _) t.isLt)).2 j + term m c t j := by
  rw [outsAt0_B m c t h h1]
  frame_out
  simp only [read_unread_whole]
  canon_tiles x hx using (cover _ _ _ _ _ _ _ _ _ _ [] j)
  all_goals first | rw [hpay13] | rw [hpay14] | rw [hpay15] | rw [hpay1] | rw [hpay2]
  all_goals unfold term cols
  all_goals
    refine congrArg₂ (· + ·) (congrArg _ (unit_idx _ _ _ x j (by omega) hx1)) ?_
    blk_point [] <;> (exfalso; omega)

set_option maxHeartbeats 1000000 in
theorem stepC (c : Dev nD) (t : Fin cfg0.N) (h : ¬t.val % 4 = 0) (h1 : t.val % 4 = 3) (j : S4624x1024.Idx) :
    (outsAt0 m c t.val t.isLt).2 j = (outsAt0 m c (t.val - 1) (Nat.lt_of_le_of_lt (Nat.sub_le _ _) t.isLt)).2 j + term m c t j := by
  rw [outsAt0_C m c t h h1]
  frame_out
  simp only [read_unread_whole]
  canon_tiles x hx using (cover _ _ _ _ _ _ _ _ _ _ [] j)
  all_goals first | rw [hpay13] | rw [hpay14] | rw [hpay15] | rw [hpay1] | rw [hpay2]
  all_goals unfold term cols
  all_goals
    refine congrArg₂ (· + ·) (congrArg _ (unit_idx _ _ _ x j (by omega) hx1)) ?_
    blk_point [] <;> (exfalso; omega)

set_option maxHeartbeats 1000000 in
theorem reset (c : Dev nD) (t : Fin cfg0.N) (h : t.val % 4 = 0) (j : S4624x1024.Idx) :
    (outsAt0 m c t.val t.isLt).2 j = 0 + term m c t j := by
  rw [outsAt0_A m c t h (by omega)]
  frame_out
  simp (disch := decide) only [↓ View.readCov_skip, ↓ View.readCov_cons_toLoadRect, ↓ View.readCov_fill]
  show View.canon ([_, _, _, _, _] ++ [_]) j = _
  rw [canon_append j _ _ (cover _ _ _ _ _ _ _ _ _ _ [] j)]
  canon_tiles x hx using (cover _ _ _ _ _ _ _ _ _ _ [] j)
  all_goals first | rw [hpay13] | rw [hpay14] | rw [hpay15] | rw [hpay1] | rw [hpay2]
  all_goals unfold term cols
  all_goals
    congr 1
    · exact hzero _
    · blk_point [] <;> (exfalso; omega)

/-- The last point stores the scratch, slab by slab. -/
theorem out_last (c : Dev nD) (t : Fin cfg0.N) (h : t.val % 4 = 3) (j : S8x578x1024.Idx) (i : S4624x1024.Idx)
    (h0 : (i 0).val = (j 0).val * 578 + (j 1).val) (h1 : (i 1).val = (j 2).val) :
    (outsAt0 m c t.val t.isLt).1 j = (outsAt0 m c t.val t.isLt).2 i := by
  rw [outsAt0_C m c t (by omega) h]
  frame_out
  simp only [View.readCov_eq_canon']
  set X : S4624x1024.Idx → EReal := View.canon (Val := Elt Ideal) (s := S4624x1024) (e := .f32) _
  clear_value X
  canon_tiles x hx
  all_goals
    pointwise [k0_pay3, k0_pay4, k0_pay5, k0_pay6, k0_pay7, k0_pay8, k0_pay9, k0_pay10, k0_pay11]
    blk_point []

/-- Row `r` of the transposed side-by-side arrays times the last array, cut into eight slabs of 578 rows. -/
def G (A : FVec Ideal S2048x1024 .bf16) (B : FVec Ideal S2048x1536 .bf16) (C : FVec Ideal S2048x128 .bf16)
    (D E Y : FVec Ideal S2048x1024 .bf16) : FVec Ideal S8x578x1024 .bf16 :=
  fun j => ∑ q : Fin 2048, cols (n := 2048) A B C D E q ⟨(j 0).val * 578 + (j 1).val, by
      have h0 := (j 0).isLt
      have h1 := (j 1).isLt
      change (j 0).val < 8 at h0
      change (j 1).val < 578 at h1
      omega⟩ * Y (ix2 q (j 2))

theorem cols_blk (c : Dev nD) (t : Fin cfg0.N) (k : Fin 512) (r r' : Fin 4624) (q : Fin 2048) (hq : q.val = t.val % 4 * 512 + k.val) (hr : r.val = r'.val) :
    cols (n := 512) (iblk m c 0 t) (iblk m c 1 t) (iblk m c 2 t) (iblk m c 3 t) (iblk m c 4 t) k r
      = cols (n := 2048) (m ((c : Thread nD τ).loc main_arg0)) (m ((c : Thread nD τ).loc main_arg1)) (m ((c : Thread nD τ).loc main_arg2))
        (m ((c : Thread nD τ).loc main_arg3)) (m ((c : Thread nD τ).loc main_arg4)) q r' := by
  obtain rfl : r = r' := Fin.ext hr
  unfold cols
  by_cases h0 : r.val < 1024
  · rw [dif_pos h0, dif_pos h0]
    blk_point [iblk, V, idx t]
  rw [dif_neg h0, dif_neg h0]
  by_cases h1 : r.val < 2560
  · rw [dif_pos h1, dif_pos h1]
    blk_point [iblk, V, idx t]
  rw [dif_neg h1, dif_neg h1]
  by_cases h2 : r.val < 2576
  · rw [dif_pos h2, dif_pos h2]
    blk_point [iblk, V, idx t]
  rw [dif_neg h2, dif_neg h2]
  by_cases h3 : r.val < 3600
  · rw [dif_pos h3, dif_pos h3]
    blk_point [iblk, V, idx t]
  rw [dif_neg h3, dif_neg h3]
  blk_point [iblk, V, idx t]

theorem step (c : Dev nD) (t : Fin cfg0.N) (h : ¬t.val % 4 = 0) (j : S4624x1024.Idx) :
    (outsAt0 m c t.val t.isLt).2 j = (outsAt0 m c (t.val - 1) (Nat.lt_of_le_of_lt (Nat.sub_le _ _) t.isLt)).2 j + term m c t j := by
  by_cases h3 : t.val % 4 = 3
  · exact stepC m c t h h3 j
  · exact stepB m c t h h3 j

theorem final (c : Dev nD) : (dats m 0 c).arrAt 6 (cfgs 0).N
    = G (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) := by
  refine (dats m 0 c).arrAt_eq_of_covers 6 _ (by decide +kernel) fun t hf y => ?_
  have ht := (idx t).2.2.2.2.2.2.2
  have hf' := (flush0_6 t).mp hf
  have hb0 : (y 0).val < 8 := (y 0).isLt
  have hb1 : (y 1).val < 578 := (y 1).isLt
  obtain_idx i : S4624x1024 := [(y 0 : ℕ) * 578 + (y 1 : ℕ), (y 2 : ℕ)] with hi
  have e0 : ((((cfg0.win 6).blk t).view.emb y) 0).val = (y 0).val := by blk_simp [idx t]
  have e1 : ((((cfg0.win 6).blk t).view.emb y) 1).val = (y 1).val := by blk_simp [idx t]
  blk_simp
  rw [after0_6, out_last m c t hf' y i hi0 hi1, Pipeline.eq_sum_fin_of_reset_step_apply_of_flush (fun n h => (outsAt0 m c n h).2) 4 (fun _ => 0) (term m c)
    (reset m c) (step m c) t hf' _, zero_add]
  unfold G
  refine Fin.sum_mul_add_congr fun s k hl => ?_
  have hw := idx ⟨_, Pipeline.run_point_lt_of_flush t hf' s⟩
  refine congrArg₂ (· * ·) (cols_blk m c _ k _ _ _ ?_ ?_) ?_
  · show s.val * 512 + k.val = (4 * (t.val / 4) + s.val) % 4 * 512 + k.val
    omega
  · show (i 0).val = _ * 578 + _
    rw [e0, e1, hi0]
  · blk_point [iblk, V, idx t, hw]

end Cert.InWgradIdeal.Sum

namespace Cert.In5

theorem concat_at (A : FVec Ideal Cert.InGradIdeal.S2048x1024 .bf16) (B : FVec Ideal Cert.InGradIdeal.S2048x1536 .bf16) (C : FVec Ideal Cert.InGradIdeal.S2048x128 .bf16)
    (D E : FVec Ideal Cert.InGradIdeal.S2048x1024 .bf16) (i : Cert.InGradIdeal.S2048x4624.Idx) :
    Cert.InGradIdeal.Read.val_main_v1 (F := Ideal) A B C D E i = Cert.InWgradIdeal.Sum.cols (n := 2048) A B C D E (i 0) (i 1) := by
  pointwise [Cert.InGradIdeal.Read.val_main_v1, Cert.InGradIdeal.Read.val_main_v0, Cert.InWgradIdeal.Sum.cols]
  blk_point [] <;> (exfalso; omega)

theorem reference_at (A : FVec Ideal Cert.InGradIdeal.S2048x1024 .bf16) (B : FVec Ideal Cert.InGradIdeal.S2048x1536 .bf16) (C : FVec Ideal Cert.InGradIdeal.S2048x128 .bf16)
    (D E Y : FVec Ideal Cert.InGradIdeal.S2048x1024 .bf16) :
    Cert.InGradIdeal.Read.val_main_v10 (F := Ideal) A B C D E Y = Cert.InWgradIdeal.Sum.G A B C D E Y := by
  funext i
  pointwise [Cert.InGradIdeal.Read.val_main_v10, Cert.InGradIdeal.Read.val_main_v9, Cert.InGradIdeal.Read.val_main_v8, Cert.InGradIdeal.Read.val_main_v7,
    Cert.InGradIdeal.Read.val_main_v6, Cert.InGradIdeal.Read.val_main_v3, Cert.InGradIdeal.Read.val_main_v2, Cert.InWgradIdeal.Sum.G]
  refine Finset.sum_congr rfl fun q _ => ?_
  rw [concat_at]
  rfl

/-- The reference leaves its arguments alone, and it has no semaphore. -/
theorem reference_frame : Cert.quiescent_InGradIdeal := by
  intro m g _
  exact (θ_run _ _ _).mono (fun r h => ⟨fun c => (h c).2, sem_eq_zero_of_no_sems (by decide) r.2⟩) (Cert.InGradIdeal.Value.run m g)

theorem algebraic : Cert.algebraic_InWgradIdeal_InGradIdeal := by
  pair_intro
  · run_from Cert.InWgradIdeal.Value.run_blocks m g
  · run_from Cert.InGradIdeal.Value.run m' g'
    refine ((Cert.InGradIdeal.Read.val_main_v10_eq _ _ _ _ _ _).trans ?_).trans (Cert.InWgradIdeal.Sum.final m c).symm
    rw [(hagree c).2.2.2.2.1]
    exact reference_at _ _ _ _ _ _

end Cert.In5
-- ==== Proof.UpProjValue.lean ====
module

public import proofs.«01_k».proof.Defs
public import proofs.«01_k».proof.Proof.Gen.UpProjIdeal.Value
public import proofs.«01_k».proof.Proof.Gen.UpIdeal.Read
public import Idealize.ShloMosaic.Lib.Pipeline.ValueKit
public import Idealize.ShloMosaic.Lib.Pipeline.ReadBack
public import Idealize.ShloMosaic.Lib.Pointwise
public import Idealize.ShloMosaic.Lib.Claim
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.UpProjIdeal.Sum
open Cert.UpProjIdeal Cert.UpProjIdeal.Gen

/-- The rows of one array against the rows of another. -/
def G (X : FVec Ideal S2048x1024 .bf16) (W : FVec Ideal S5632x1024 .bf16) : FVec Ideal S2048x5632 .f32 :=
  fun i => ∑ q : Fin 1024, X (ix2 (i 0) q) * W (ix2 (i 1) q)

variable (m : (ℓ : Loc nD τ sig) → Buf (Elt Ideal) ℓ)

theorem idx : ∀ t : Fin cfg0.N, win0_0.index t = ![t.val % 4, 0] ∧ win0_1.index t = ![t.val / 4, 0] ∧ win0_2.index t = ![t.val % 4, t.val / 4] ∧ t.val < 8 :=
  (by decide +kernel : ∀ t : Fin grid0.N, _)

theorem point (c : Dev nD) (t : Fin cfg0.N) (y) : k0_pay1 (iblk m c 0 t) (iblk m c 1 t) y
    = G (m ((c : Thread nD τ).loc main_arg0)) (m ((c : Thread nD τ).loc main_arg1)) (((cfg0.win 2).blk t).view.emb y) := by
  pointwise [k0_pay1, G]
  blk_point [iblk, V, idx t]

theorem final (c : Dev nD) : (dats m 0 c).arrAt 2 (cfgs 0).N = G (m ((c : Thread nD τ).loc main_arg0)) (m ((c : Thread nD τ).loc main_arg1)) := by
  refine (dats m 0 c).arrAt_eq_of_covers 2 _ (by decide +kernel) fun t _ y => ?_
  blk_simp
  rw [after0_2]
  frame_out
  exact point m c t y

end Cert.UpProjIdeal.Sum

namespace Cert.UpP

theorem reference_at (X : FVec Ideal Cert.UpIdeal.S2048x1024 .bf16) (W : FVec Ideal Cert.UpIdeal.S5632x1024 .bf16) :
    Cert.UpIdeal.Read.val_main_v3 (F := Ideal) X W = Cert.UpProjIdeal.Sum.G X W := by
  funext i
  pointwise [Cert.UpIdeal.Read.val_main_v3, Cert.UpIdeal.Read.val_main_v2, Cert.UpIdeal.Read.val_main_v1, Cert.UpIdeal.Read.val_main_v0, Cert.UpProjIdeal.Sum.G]

/-- The reference leaves its arguments alone, and it has no semaphore. -/
theorem reference_frame : Cert.quiescent_UpIdeal := by
  intro m g _
  exact (θ_run _ _ _).mono (fun r h => ⟨fun c => (h c).2, sem_eq_zero_of_no_sems (by decide) r.2⟩) (Cert.UpIdeal.Value.run m g)

theorem algebraic : Cert.algebraic_UpProjIdeal_UpIdeal := by
  pair_intro
  · run_from Cert.UpProjIdeal.Value.run_blocks m g
  · run_from Cert.UpIdeal.Value.run m' g'
    refine ((Cert.UpIdeal.Read.val_main_v3_eq _ _).trans ?_).trans (Cert.UpProjIdeal.Sum.final m c).symm
    exact reference_at _ _

end Cert.UpP
-- ==== Proof.InProjValue.lean ====
module

public import proofs.«01_k».proof.Defs
public import proofs.«01_k».proof.Proof.Gen.InProjIdeal.Value
public import proofs.«01_k».proof.Proof.Gen.InIdeal.Read
public import Idealize.ShloMosaic.Lib.Pipeline.ValueKit
public import Idealize.ShloMosaic.Lib.Pipeline.ReadBack
public import Idealize.ShloMosaic.Lib.Pointwise
public import Idealize.ShloMosaic.Lib.Claim
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.InProjIdeal.Sum
open Cert.InProjIdeal Cert.InProjIdeal.Gen

variable (m : (ℓ : Loc nD τ sig) → Buf (Elt Ideal) ℓ)

theorem idx : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![0, 0] ∧ win0_6.index t = ![t.val, 0] ∧ win0_7.index t = ![t.val, 0]
    ∧ win0_8.index t = ![t.val, 0] ∧ win0_9.index t = ![t.val, 0] ∧ t.val < 4 :=
  (by decide +kernel : ∀ t : Fin grid0.N, _)

theorem x3 (c : Dev nD) (t : Fin cfg0.N) (a : Fin 2560) (b : Fin 1024) :
    (show FVec Ideal S2560x1024 .bf16 from X0_3 m c t) (ix2 a b) = (show FVec Ideal S4624x1024 .bf16 from m ((c : Thread nD τ).loc main_arg3)) (ix2 ⟨a.val, by omega⟩ b) := by
  show X0_3 m c t (ix2 a b) = _
  unfold X0_3 Pipeline.Window.fill
  rw [dif_pos (moved0_3 t _)]
  blk_point [iblk, V, idx t]

theorem x4 (c : Dev nD) (t : Fin cfg0.N) (a : Fin 1024) (b : Fin 1024) :
    (show FVec Ideal S1024x1024 .bf16 from iblk m c 4 t) (ix2 a b) = (show FVec Ideal S4624x1024 .bf16 from m ((c : Thread nD τ).loc main_arg3)) (ix2 ⟨2560 + a.val / 64, by omega⟩ b) := by
  blk_point [iblk, V, idx t]

theorem x5 (c : Dev nD) (t : Fin cfg0.N) (a : Fin 2048) (b : Fin 1024) :
    (show FVec Ideal S2048x1024 .bf16 from iblk m c 5 t) (ix2 a b) = (show FVec Ideal S4624x1024 .bf16 from m ((c : Thread nD τ).loc main_arg3)) (ix2 ⟨2576 + a.val, by omega⟩ b) := by
  blk_point [iblk, V, idx t]

/-- A row of the first norm after its modulation: entry `k` of token `n`. -/
def hTok (X : FVec Ideal S2048x1024 .f32) (M : FVec Ideal S8x1024 .f32) (W : FVec Ideal S1x1024 .f32) (n : Fin 2048) (k : Fin 1024) : EReal :=
  X (ix2 n k) * Ideal.rsqrt (Ideal.div (∑ q : Fin 1024, X (ix2 n q) * X (ix2 n q)) (Ideal.ofBits FTy.f32 1149239296#32) + Ideal.ofBits FTy.f32 897988541#32)
    * W (ix2 0 k) * (1 + M (ix2 1 k)) + M (ix2 0 k)

/-- The projection of token `n` on row `r` of the weight. -/
def proj (X : FVec Ideal S2048x1024 .f32) (M : FVec Ideal S8x1024 .f32) (W : FVec Ideal S1x1024 .f32) (F : FVec Ideal S4624x1024 .bf16) (n : Fin 2048) (r : Fin 4624) : EReal :=
  ∑ q : Fin 1024, hTok X M W n q * F (ix2 r q)

theorem hblk (x : Vec Ideal S512x1024 .f32) (w s b : Vec Ideal S1x1024 .f32) (X : FVec Ideal S2048x1024 .f32) (M : FVec Ideal S8x1024 .f32) (W : FVec Ideal S1x1024 .f32)
    (n : Fin 512) (n' : Fin 2048) (hx : ∀ k, x (ix2 n k) = X (ix2 n' k)) (hw : ∀ k, w (ix2 0 k) = W (ix2 0 k)) (hs : ∀ k, s (ix2 0 k) = M (ix2 1 k))
    (hb : ∀ k, b (ix2 0 k) = M (ix2 0 k)) (k : Fin 1024) : k0_pay2 x w s b (ix2 n k) = hTok X M W n' k := by
  pointwise [k0_pay2, hTok]
  simp only [hx, hw, hs, hb]

theorem hpay1 (h : FVec Ideal S512x1024 .bf16) (w : Vec Ideal S2048x1024 .bf16) (n : Fin 512) (r : Fin 2048) :
    k0_pay1 h w (ix2 n r) = ∑ q : Fin 1024, h (ix2 n q) * w (ix2 r q) := by pointwise [k0_pay1]

theorem hpay3 (x : Vec Ideal S512x1024 .f32) (a s b : Vec Ideal S1x1024 .f32) (w : Vec Ideal S2560x1024 .bf16) (n : Fin 512) (r : Fin 2560) :
    k0_pay3 x a s b w (ix2 n r) = ∑ q : Fin 1024, k0_pay2 x a s b (ix2 n q) * w (ix2 r q) := by pointwise [k0_pay3]

theorem hpay4 (x : Vec Ideal S512x1024 .f32) (a s b : Vec Ideal S1x1024 .f32) (w : Vec Ideal S1024x1024 .bf16) (n : Fin 512) (r : Fin 1024) :
    k0_pay4 x a s b w (ix2 n r) = ∑ q : Fin 1024, k0_pay2 x a s b (ix2 n q) * w (ix2 r q) := by pointwise [k0_pay4]

def G6 (X : FVec Ideal S2048x1024 .f32) (M : FVec Ideal S8x1024 .f32) (W : FVec Ideal S1x1024 .f32) : FVec Ideal S2048x1024 .bf16 :=
  fun i => hTok X M W (i 0) (i 1)

def G7 (X : FVec Ideal S2048x1024 .f32) (M : FVec Ideal S8x1024 .f32) (W : FVec Ideal S1x1024 .f32) (F : FVec Ideal S4624x1024 .bf16) : FVec Ideal S2048x2560 .f32 :=
  fun i => proj X M W F (i 0) ⟨(i 1).val, by have := (i 1).isLt; change (i 1).val < 2560 at this; omega⟩

def G8 (X : FVec Ideal S2048x1024 .f32) (M : FVec Ideal S8x1024 .f32) (W : FVec Ideal S1x1024 .f32) (F : FVec Ideal S4624x1024 .bf16) : FVec Ideal S2048x1024 .f32 :=
  fun i => proj X M W F (i 0) ⟨2560 + (i 1).val / 64, by have := (i 1).isLt; change (i 1).val < 1024 at this; omega⟩

def G9 (X : FVec Ideal S2048x1024 .f32) (M : FVec Ideal S8x1024 .f32) (W : FVec Ideal S1x1024 .f32) (F : FVec Ideal S4624x1024 .bf16) : FVec Ideal S2048x2048 .f32 :=
  fun i => proj X M W F (i 0) ⟨2576 + (i 1).val, by have := (i 1).isLt; change (i 1).val < 2048 at this; omega⟩

theorem final6 (c : Dev nD) : (dats m 0 c).arrAt 6 (cfgs 0).N = G6 (m ((c : Thread nD τ).loc main_arg0)) (m ((c : Thread nD τ).loc main_arg1)) (m ((c : Thread nD τ).loc main_arg2)) := by
  refine (dats m 0 c).arrAt_eq_of_covers 6 _ (by decide +kernel) fun t _ y => ?_
  have ht := (idx t).2.2.2.2.2.2.2.2.2.2
  have e0 : ((((cfg0.win 6).blk t).view.emb y) 0).val = t.val * 512 + (y 0).val := by blk_simp [idx t]
  have e1 : ((((cfg0.win 6).blk t).view.emb y) 1).val = (y 1).val := by blk_simp [idx t]
  blk_simp
  rw [after0_6]
  unfold outsAt0
  frame_out
  revert e0 e1
  generalize ((cfg0.win 6).blk t).view.emb y = z
  intro e0 e1
  obtain ⟨n, k, rfl⟩ : ∃ (n : Fin 512) (k : Fin 1024), y = ix2 n k := ⟨y 0, y 1, eq_ix2 y⟩
  have e0 : (z 0).val = t.val * 512 + n.val := e0
  have e1 : (z 1).val = k.val := e1
  refine (hblk _ _ _ _ (m ((c : Thread nD τ).loc main_arg0)) (m ((c : Thread nD τ).loc main_arg1)) (m ((c : Thread nD τ).loc main_arg2)) n (z 0)
    (fun k => by blk_point [iblk, V, idx t]) (fun k => by blk_point [iblk, V, idx t]) (fun k => by blk_point [iblk, V, idx t]) (fun k => by blk_point [iblk, V, idx t]) k).trans ?_
  unfold G6
  rw [show (z 1) = k from Fin.ext e1]

theorem final7 (c : Dev nD) : (dats m 0 c).arrAt 7 (cfgs 0).N = G7 (m ((c : Thread nD τ).loc main_arg0)) (m ((c : Thread nD τ).loc main_arg1)) (m ((c : Thread nD τ).loc main_arg2)) (m ((c : Thread nD τ).loc main_arg3)) := by
  refine (dats m 0 c).arrAt_eq_of_covers 7 _ (by decide +kernel) fun t _ y => ?_
  have ht := (idx t).2.2.2.2.2.2.2.2.2.2
  have e0 : ((((cfg0.win 7).blk t).view.emb y) 0).val = t.val * 512 + (y 0).val := by blk_simp [idx t]
  have e1 : ((((cfg0.win 7).blk t).view.emb y) 1).val = (y 1).val := by blk_simp [idx t]
  blk_simp
  rw [after0_7]
  unfold outsAt0
  frame_out
  revert e0 e1
  generalize ((cfg0.win 7).blk t).view.emb y = z
  intro e0 e1
  obtain ⟨n, k, rfl⟩ : ∃ (n : Fin 512) (k : Fin 2560), y = ix2 n k := ⟨y 0, y 1, eq_ix2 y⟩
  have e0 : (z 0).val = t.val * 512 + n.val := e0
  have e1 : (z 1).val = k.val := e1
  rw [hpay3]
  unfold G7 proj
  refine Fin.sum_fin_congr fun q => congrArg₂ (· * ·) (hblk _ _ _ _ (m ((c : Thread nD τ).loc main_arg0)) (m ((c : Thread nD τ).loc main_arg1)) (m ((c : Thread nD τ).loc main_arg2)) n (z 0)
    (fun k => by blk_point [iblk, V, idx t]) (fun k => by blk_point [iblk, V, idx t]) (fun k => by blk_point [iblk, V, idx t]) (fun k => by blk_point [iblk, V, idx t]) q) (((x3 m c t k q)).trans ?_)
  simp only [e1]

theorem final8 (c : Dev nD) : (dats m 0 c).arrAt 8 (cfgs 0).N = G8 (m ((c : Thread nD τ).loc main_arg0)) (m ((c : Thread nD τ).loc main_arg1)) (m ((c : Thread nD τ).loc main_arg2)) (m ((c : Thread nD τ).loc main_arg3)) := by
  refine (dats m 0 c).arrAt_eq_of_covers 8 _ (by decide +kernel) fun t _ y => ?_
  have ht := (idx t).2.2.2.2.2.2.2.2.2.2
  have e0 : ((((cfg0.win 8).blk t).view.emb y) 0).val = t.val * 512 + (y 0).val := by blk_simp [idx t]
  have e1 : ((((cfg0.win 8).blk t).view.emb y) 1).val = (y 1).val := by blk_simp [idx t]
  blk_simp
  rw [after0_8]
  unfold outsAt0
  frame_out
  revert e0 e1
  generalize ((cfg0.win 8).blk t).view.emb y = z
  intro e0 e1
  obtain ⟨n, k, rfl⟩ : ∃ (n : Fin 512) (k : Fin 1024), y = ix2 n k := ⟨y 0, y 1, eq_ix2 y⟩
  have e0 : (z 0).val = t.val * 512 + n.val := e0
  have e1 : (z 1).val = k.val := e1
  rw [hpay4]
  unfold G8 proj
  refine Fin.sum_fin_congr fun q => congrArg₂ (· * ·) (hblk _ _ _ _ (m ((c : Thread nD τ).loc main_arg0)) (m ((c : Thread nD τ).loc main_arg1)) (m ((c : Thread nD τ).loc main_arg2)) n (z 0)
    (fun k => by blk_point [iblk, V, idx t]) (fun k => by blk_point [iblk, V, idx t]) (fun k => by blk_point [iblk, V, idx t]) (fun k => by blk_point [iblk, V, idx t]) q) (((x4 m c t k q)).trans ?_)
  simp only [e1]

theorem final9 (c : Dev nD) : (dats m 0 c).arrAt 9 (cfgs 0).N = G9 (m ((c : Thread nD τ).loc main_arg0)) (m ((c : Thread nD τ).loc main_arg1)) (m ((c : Thread nD τ).loc main_arg2)) (m ((c : Thread nD τ).loc main_arg3)) := by
  refine (dats m 0 c).arrAt_eq_of_covers 9 _ (by decide +kernel) fun t _ y => ?_
  have ht := (idx t).2.2.2.2.2.2.2.2.2.2
  have e0 : ((((cfg0.win 9).blk t).view.emb y) 0).val = t.val * 512 + (y 0).val := by blk_simp [idx t]
  have e1 : ((((cfg0.win 9).blk t).view.emb y) 1).val = (y 1).val := by blk_simp [idx t]
  blk_simp
  rw [after0_9]
  unfold outsAt0
  frame_out
  revert e0 e1
  generalize ((cfg0.win 9).blk t).view.emb y = z
  intro e0 e1
  obtain ⟨n, k, rfl⟩ : ∃ (n : Fin 512) (k : Fin 2048), y = ix2 n k := ⟨y 0, y 1, eq_ix2 y⟩
  have e0 : (z 0).val = t.val * 512 + n.val := e0
  have e1 : (z 1).val = k.val := e1
  rw [hpay1]
  unfold G9 proj
  refine Fin.sum_fin_congr fun q => congrArg₂ (· * ·) (hblk _ _ _ _ (m ((c : Thread nD τ).loc main_arg0)) (m ((c : Thread nD τ).loc main_arg1)) (m ((c : Thread nD τ).loc main_arg2)) n (z 0)
    (fun k => by blk_point [iblk, V, idx t]) (fun k => by blk_point [iblk, V, idx t]) (fun k => by blk_point [iblk, V, idx t]) (fun k => by blk_point [iblk, V, idx t]) q) (((x5 m c t k q)).trans ?_)
  simp only [e1]

end Cert.InProjIdeal.Sum

namespace Cert.InI

theorem h_at (X : FVec Ideal Cert.InIdeal.S2048x1024 .f32) (M : FVec Ideal Cert.InIdeal.S8x1024 .f32) (W : FVec Ideal Cert.InIdeal.S1x1024 .f32) (n : Fin 2048) (k : Fin 1024) :
    Cert.InIdeal.Read.val_main_v19 (F := Ideal) X M W (ix2 n k) = Cert.InProjIdeal.Sum.hTok X M W n k := by
  pointwise [Cert.InIdeal.Read.val_main_v19, Cert.InIdeal.Read.val_main_v18, Cert.InIdeal.Read.val_main_v17, Cert.InIdeal.Read.val_main_v16, Cert.InIdeal.Read.val_main_v15, Cert.InIdeal.Read.val_main_v14, Cert.InIdeal.Read.val_main_v13, Cert.InIdeal.Read.val_main_cst_2, Cert.InIdeal.Read.val_main_v12, Cert.InIdeal.Read.val_main_v11, Cert.InIdeal.Read.val_main_v10, Cert.InIdeal.Read.val_main_v9, Cert.InIdeal.Read.val_main_v8, Cert.InIdeal.Read.val_main_v7, Cert.InIdeal.Read.val_main_v6, Cert.InIdeal.Read.val_main_v5, Cert.InIdeal.Read.val_main_cst_1, Cert.InIdeal.Read.val_main_v4, Cert.InIdeal.Read.val_main_v3, Cert.InIdeal.Read.val_main_cst_0, Cert.InIdeal.Read.val_main_v2, Cert.InIdeal.Read.val_main_v1, Cert.InIdeal.Read.val_main_cst, Cert.InIdeal.Read.val_main_v0, Cert.InProjIdeal.Sum.hTok]

theorem p_at (X : FVec Ideal Cert.InIdeal.S2048x1024 .f32) (M : FVec Ideal Cert.InIdeal.S8x1024 .f32) (W : FVec Ideal Cert.InIdeal.S1x1024 .f32)
    (F : FVec Ideal Cert.InIdeal.S4624x1024 .bf16) (n : Fin 2048) (k : Fin 4624) :
    Cert.InIdeal.Read.val_main_v22 (F := Ideal) X M W F (ix2 n k) = Cert.InProjIdeal.Sum.proj X M W F n k := by
  pointwise [Cert.InIdeal.Read.val_main_v22, Cert.InIdeal.Read.val_main_v21, Cert.InIdeal.Read.val_main_v20]
  exact Finset.sum_congr rfl fun q _ => congrArg (· * _) (h_at X M W n q)

theorem at6 (X : FVec Ideal Cert.InIdeal.S2048x1024 .f32) (M : FVec Ideal Cert.InIdeal.S8x1024 .f32) (W : FVec Ideal Cert.InIdeal.S1x1024 .f32) :
    Cert.InIdeal.Read.val_main_v23 (F := Ideal) X M W = Cert.InProjIdeal.Sum.G6 X M W := by
  funext (y : Cert.InIdeal.S2048x1024.Idx)
  obtain ⟨n, k, rfl⟩ : ∃ (n : Fin 2048) (k : Fin 1024), y = ix2 n k := ⟨y 0, y 1, eq_ix2 y⟩
  pointwise [Cert.InIdeal.Read.val_main_v23]
  exact h_at X M W n k

theorem at24 (X : FVec Ideal Cert.InIdeal.S2048x1024 .f32) (M : FVec Ideal Cert.InIdeal.S8x1024 .f32) (W : FVec Ideal Cert.InIdeal.S1x1024 .f32)
    (F : FVec Ideal Cert.InIdeal.S4624x1024 .bf16) : Cert.InIdeal.Read.val_main_v24 (F := Ideal) X M W F = Cert.InProjIdeal.Sum.G7 X M W F := by
  funext (y : Cert.InIdeal.S2048x2560.Idx)
  obtain ⟨n, k, rfl⟩ : ∃ (n : Fin 2048) (k : Fin 2560), y = ix2 n k := ⟨y 0, y 1, eq_ix2 y⟩
  pointwise [Cert.InIdeal.Read.val_main_v24]
  exact p_at X M W F n _

theorem at27 (X : FVec Ideal Cert.InIdeal.S2048x1024 .f32) (M : FVec Ideal Cert.InIdeal.S8x1024 .f32) (W : FVec Ideal Cert.InIdeal.S1x1024 .f32)
    (F : FVec Ideal Cert.InIdeal.S4624x1024 .bf16) : Cert.InIdeal.Read.val_main_v27 (F := Ideal) X M W F = Cert.InProjIdeal.Sum.G8 X M W F := by
  funext (y : Cert.InIdeal.S2048x1024.Idx)
  obtain ⟨n, k, rfl⟩ : ∃ (n : Fin 2048) (k : Fin 1024), y = ix2 n k := ⟨y 0, y 1, eq_ix2 y⟩
  pointwise [Cert.InIdeal.Read.val_main_v27, Cert.InIdeal.Read.val_main_v26, Cert.InIdeal.Read.val_main_v25]
  exact p_at X M W F n _

theorem at28 (X : FVec Ideal Cert.InIdeal.S2048x1024 .f32) (M : FVec Ideal Cert.InIdeal.S8x1024 .f32) (W : FVec Ideal Cert.InIdeal.S1x1024 .f32)
    (F : FVec Ideal Cert.InIdeal.S4624x1024 .bf16) : Cert.InIdeal.Read.val_main_v28 (F := Ideal) X M W F = Cert.InProjIdeal.Sum.G9 X M W F := by
  funext (y : Cert.InIdeal.S2048x2048.Idx)
  obtain ⟨n, k, rfl⟩ : ∃ (n : Fin 2048) (k : Fin 2048), y = ix2 n k := ⟨y 0, y 1, eq_ix2 y⟩
  pointwise [Cert.InIdeal.Read.val_main_v28]
  exact p_at X M W F n _

/-- The reference leaves its arguments alone, and it has no semaphore. -/
theorem reference_frame : Cert.quiescent_InIdeal := by
  intro m g _
  exact (θ_run _ _ _).mono (fun r h => ⟨fun c => (h c).2.2.2.2, sem_eq_zero_of_no_sems (by decide) r.2⟩) (Cert.InIdeal.Value.run m g)

theorem algebraic : Cert.algebraic_InProjIdeal_InIdeal := by
  pair_intro
  · run_from Cert.InProjIdeal.Value.run_blocks m g
  · run_from Cert.InIdeal.Value.run m' g'
    · refine ((Cert.InIdeal.Read.val_main_v23_eq _ _ _).trans ?_).trans (Cert.InProjIdeal.Sum.final6 m c).symm
      exact at6 _ _ _
    · refine ((Cert.InIdeal.Read.val_main_v24_eq _ _ _ _).trans ?_).trans (Cert.InProjIdeal.Sum.final7 m c).symm
      exact at24 _ _ _ _
    · refine ((Cert.InIdeal.Read.val_main_v27_eq _ _ _ _).trans ?_).trans (Cert.InProjIdeal.Sum.final8 m c).symm
      exact at27 _ _ _ _
    · refine ((Cert.InIdeal.Read.val_main_v28_eq _ _ _ _).trans ?_).trans (Cert.InProjIdeal.Sum.final9 m c).symm
      exact at28 _ _ _ _

end Cert.InI
-- ==== Proof.Rms.lean ====
module

public import Idealize.ShloMosaic.PureOps
public import Idealize.ShloMosaic.Lib.IdealHost

@[expose] public section

noncomputable section

open Idealize.ShloMosaic

/-! The gradient of a root-mean-square norm, on the extended reals: two ways of writing it that agree at every value, infinities included. -/

namespace Cert.Rms

theorem lit_1024 : Ideal.ofBits FTy.f32 1149239296#32 = ((1024 : ℝ) : EReal) := by
  simp [Ideal.ofBits, Ideal.ieee]
  rw [← EReal.coe_mul]
  norm_num

theorem lit_neg_half : Ideal.ofBits FTy.f32 3204448256#32 = ((-(1 / 2) : ℝ) : EReal) := by
  simp [Ideal.ofBits, Ideal.ieee]
  rw [← EReal.coe_mul]
  norm_num

theorem lit_eps : ∃ e : ℝ, 0 < e ∧ Ideal.ofBits FTy.f32 897988541#32 = (e : EReal) := by
  refine ⟨_, ?_, by simp [Ideal.ofBits, Ideal.ieee]; rfl⟩
  norm_num

/-- A nonnegative real factor comes out of a finite sum. -/
theorem sum_mul_real {ι : Type*} (s : Finset ι) (f : ι → EReal) (r : ℝ) (hr : 0 ≤ r) : ∑ i ∈ s, f i * (r : EReal) = (∑ i ∈ s, f i) * (r : EReal) := by
  classical
  induction s using Finset.induction_on with
  | empty => simp
  | insert a s ha ih =>
    rw [Finset.sum_insert ha, Finset.sum_insert ha, ih, EReal.right_distrib_of_nonneg_of_ne_top (by exact_mod_cast hr) (EReal.coe_ne_top r)]

theorem sq_nonneg' (x : EReal) : 0 ≤ x * x := by
  induction x with
  | bot => simp
  | top => simp
  | coe x => exact_mod_cast mul_self_nonneg x

/-- Either some entry of the row is infinite, and then its squares add up to `⊤`; or every entry is a real. -/
theorem row_cases {n : ℕ} (x : Fin n → EReal) : ∑ q, x q * x q = ⊤ ∨ ∃ y : Fin n → ℝ, ∀ q, x q = (y q : EReal) := by
  by_cases h : ∀ q, ∃ y : ℝ, x q = (y : EReal)
  · right
    choose y hy using h
    exact ⟨y, hy⟩
  · left
    obtain ⟨q, hq⟩ := not_forall.1 h
    have hx : x q * x q = ⊤ := by
      generalize x q = v at hq
      induction v with
      | bot => simp
      | top => simp
      | coe v => exact absurd ⟨v, rfl⟩ hq
    exact top_le_iff.1 (hx ▸ Finset.single_le_sum (f := fun q => x q * x q) (fun i _ => sq_nonneg' (x i)) (Finset.mem_univ q))

theorem coe_sum {n : ℕ} (f : Fin n → ℝ) : ((∑ q, f q : ℝ) : EReal) = ∑ q, (f q : EReal) :=
  map_sum (⟨⟨fun a : ℝ => (a : EReal), EReal.coe_zero⟩, EReal.coe_add⟩ : ℝ →+ EReal) f Finset.univ

theorem two_terms (z : EReal) : z + z = z * ((2 : ℝ) : EReal) := by
  have h : ((2 : ℝ) : EReal) = 1 + 1 := by norm_cast
  rw [h, EReal.left_distrib_of_nonneg (by norm_num) (by norm_num), mul_one]

/-- The gradient of the norm at entry `k`: on the left as it is usually written for a kernel, on the right as differentiating the formula gives it. -/
theorem bwd (x d : Fin 1024 → EReal) (k : Fin 1024) (s r : EReal)
    (hs : s = Ideal.div (∑ q, x q * x q) (Ideal.ofBits FTy.f32 1149239296#32) + Ideal.ofBits FTy.f32 897988541#32) (hr : r = Ideal.rsqrt s) :
    r * (d k - x k * r * Ideal.div (∑ q, d q * (x q * r)) (Ideal.ofBits FTy.f32 1149239296#32))
      = d k * r + x k * Ideal.div ((∑ q, x q * d q) * (Ideal.ofBits FTy.f32 3204448256#32 * Ideal.div r s)) (Ideal.ofBits FTy.f32 1149239296#32)
        + Ideal.div ((∑ q, x q * d q) * (Ideal.ofBits FTy.f32 3204448256#32 * Ideal.div r s)) (Ideal.ofBits FTy.f32 1149239296#32) * x k := by
  obtain ⟨e, he, heq⟩ := lit_eps
  rw [heq, lit_1024, Ideal.div_coe (by norm_num)] at hs
  rw [lit_1024, lit_neg_half, Ideal.div_coe (by norm_num), Ideal.div_coe (by norm_num)]
  rcases row_cases x with h | ⟨y, hy⟩
  · have hst : s = ⊤ := by
      rw [hs, h, EReal.top_mul_coe_of_pos (by norm_num)]
      exact EReal.top_add_coe e
    subst hst
    have hr0 : r = 0 := hr
    subst hr0
    have : Ideal.div 0 ⊤ = 0 := by simp [Ideal.div]
    simp [this]
  · have hsum : ∑ q, x q * x q = ((∑ q, y q * y q : ℝ) : EReal) := by
      rw [coe_sum]
      exact Finset.sum_congr rfl fun q _ => by rw [hy q, EReal.coe_mul]
    set σ : ℝ := (∑ q, y q * y q) * (1 / 1024) + e with hσ
    have hσp : 0 < σ := add_pos_of_nonneg_of_pos (mul_nonneg (Finset.sum_nonneg fun q _ => mul_self_nonneg (y q)) (by norm_num)) he
    have hsσ : s = (σ : EReal) := by rw [hs, hsum, hσ]; push_cast; rfl
    set ρ : ℝ := (Real.sqrt σ)⁻¹ with hρ
    have hρp : 0 < ρ := inv_pos.2 (Real.sqrt_pos.2 hσp)
    have hrρ : r = (ρ : EReal) := by
      rw [hr, hsσ, Ideal.rsqrt_coe, if_neg (not_lt.2 hσp.le), if_neg hσp.ne']
    have hρσ : ρ * (1 / σ) = ρ * ρ * ρ := by
      have : ρ * ρ = 1 / σ := by
        rw [hρ, ← mul_inv, Real.mul_self_sqrt hσp.le, one_div]
      rw [← this]
      ring
    have hdist : ∑ q, d q * (x q * r) = (∑ q, x q * d q) * (ρ : EReal) := by
      rw [← sum_mul_real _ _ _ hρp.le]
      exact Finset.sum_congr rfl fun q _ => by rw [hrρ, ← mul_assoc, mul_comm (d q)]
    rw [hdist, hsσ, Ideal.div_coe hσp.ne', hrρ, hy k]
    generalize (∑ q, x q * d q) = S
    generalize d k = D
    rw [sub_eq_add_neg, EReal.left_distrib_of_nonneg_of_ne_top (by exact_mod_cast hρp.le) (EReal.coe_ne_top ρ), mul_comm (ρ : EReal) D, add_assoc]
    congr 1
    rw [mul_comm (S * _ * _) (y k : EReal), two_terms]
    have e1 : (ρ : EReal) * -((y k : EReal) * (ρ : EReal) * (S * (ρ : EReal) * ((1 / 1024 : ℝ) : EReal))) = S * ((-(ρ * (y k * ρ * ρ * (1 / 1024))) : ℝ) : EReal) := by
      rw [mul_neg, EReal.coe_neg, mul_neg]
      congr 1
      push_cast
      ac_rfl
    have e2 : (y k : EReal) * (S * (((-(1 / 2) : ℝ) : EReal) * ((ρ : EReal) * ((1 / σ : ℝ) : EReal))) * ((1 / 1024 : ℝ) : EReal)) * ((2 : ℝ) : EReal)
        = S * ((y k * (-(1 / 2) * (ρ * (1 / σ)) * (1 / 1024)) * 2 : ℝ) : EReal) := by
      simp only [EReal.coe_mul]
      ac_rfl
    rw [e1, e2, hρσ]
    congr 2
    ring

/-- The reciprocal root of a row's mean square. -/
def rinv (x : Fin 1024 → EReal) : EReal :=
  Ideal.rsqrt (Ideal.div (∑ q, x q * x q) (Ideal.ofBits FTy.f32 1149239296#32) + Ideal.ofBits FTy.f32 897988541#32)

/-- The gradient through the norm of the row `x`, of the cotangent `d` after the weight. -/
def back (x d : Fin 1024 → EReal) (k : Fin 1024) : EReal :=
  rinv x * (d k - x k * rinv x * Ideal.div (∑ q, d q * (x q * rinv x)) (Ideal.ofBits FTy.f32 1149239296#32))

end Cert.Rms

end
-- ==== Proof.Rows.lean ====
module

public import Idealize.ShloMosaic.Lib.Pipeline.ValueKit
public import Idealize.ShloMosaic.Lib.Pipeline.ReadBack
public import Idealize.ShloMosaic.Lib.Pointwise
public import Idealize.ShloMosaic.Lib.WritesUnit

@[expose] public section

noncomputable section

open Idealize.ShloMosaic

/-! Rows stored into an 8 × 1024 block, one at a time. -/

namespace Cert.Rows

theorem row_mem (o : ℕ) (h : ∀ a, ![o, 0] a + ![1, 1024] a ≤ (⟨2, ![8, 1024]⟩ : Shape).size a) (j : Fin 8) (k : Fin 1024) :
    (ix2 j k : (⟨2, ![8, 1024]⟩ : Shape).Idx) ∈ (Rect.unit (s := ⟨2, ![8, 1024]⟩) ![o, 0] ![1, 1024] h).set ↔ j.val = o := by
  rw [Rect.mem_set_unit]
  constructor
  · intro H
    have H0 := H 0
    change o ≤ j.val ∧ j.val < o + 1 at H0
    omega
  · intro H q
    fin_cases q
    · show o ≤ j.val ∧ j.val < o + 1
      omega
    · show 0 ≤ k.val ∧ k.val < 0 + 1024
      have := k.isLt
      omega

theorem row_emb (o : ℕ) (h : ∀ a, ![o, 0] a + ![1, 1024] a ≤ (⟨2, ![8, 1024]⟩ : Shape).size a) (j : Fin 8) (k : Fin 1024) (hj : j.val = o) :
    (Rect.unit (s := ⟨2, ![8, 1024]⟩) ![o, 0] ![1, 1024] h).emb (ix2 (0 : Fin 1) k) = (ix2 j k : (⟨2, ![8, 1024]⟩ : Shape).Idx) := by
  funext q
  refine Fin.ext ?_
  fin_cases q
  · show o + 1 * 0 = j.val
    omega
  · show 0 + 1 * k.val = k.val
    omega

theorem canon_row (o : ℕ) (h : ∀ a, ![o, 0] a + ![1, 1024] a ≤ (⟨2, ![8, 1024]⟩ : Shape).size a)
    (w : (Rect.unit (s := ⟨2, ![8, 1024]⟩) ![o, 0] ![1, 1024] h).shape.Idx → Elt Ideal .f32) (L : List (View.Piece (Elt Ideal) ⟨2, ![8, 1024]⟩ .f32)) (j : Fin 8) (k : Fin 1024) :
    View.canon ((⟨Rect.unit (s := ⟨2, ![8, 1024]⟩) ![o, 0] ![1, 1024] h, w⟩ : View.Piece (Elt Ideal) ⟨2, ![8, 1024]⟩ .f32) :: L) (ix2 j k)
      = if j.val = o then w (ix2 (0 : Fin 1) k) else View.canon L (ix2 j k) := by
  by_cases hj : j.val = o
  · rw [if_pos hj, ← row_emb o h j k hj, View.canon_cons_emb]
  · rw [if_neg hj]
    exact View.canon_cons_of_not_mem (⟨Rect.unit (s := ⟨2, ![8, 1024]⟩) ![o, 0] ![1, 1024] h, w⟩ : View.Piece (Elt Ideal) ⟨2, ![8, 1024]⟩ .f32) L (fun H => hj ((row_mem o h j k).mp H))

theorem canon_whole (h : ∀ a, ![0, 0] a + ![8, 1024] a ≤ (⟨2, ![8, 1024]⟩ : Shape).size a)
    (w : (Rect.unit (s := ⟨2, ![8, 1024]⟩) ![0, 0] ![8, 1024] h).shape.Idx → Elt Ideal .f32) (L : List (View.Piece (Elt Ideal) ⟨2, ![8, 1024]⟩ .f32)) (j : Fin 8) (k : Fin 1024) :
    View.canon ((⟨Rect.unit (s := ⟨2, ![8, 1024]⟩) ![0, 0] ![8, 1024] h, w⟩ : View.Piece (Elt Ideal) ⟨2, ![8, 1024]⟩ .f32) :: L) (ix2 j k) = w (ix2 j k) := by
  have h0 : (![0, 0] : Fin 2 → ℕ) = fun _ => 0 := by funext q; fin_cases q <;> rfl
  exact congrFun (View.canon_cons_unit_zero (Val := Elt Ideal) (S := ⟨2, ![8, 1024]⟩) h0 h w L) (ix2 j k)

theorem ld_row (o : ℕ) (h : ∀ a, ![o, 0] a + ![1, 1024] a ≤ (⟨2, ![8, 1024]⟩ : Shape).size a) (X : (⟨2, ![8, 1024]⟩ : Shape).Idx → Elt Ideal .f32) (j : Fin 8) (k : Fin 1024) (hj : j.val = o) :
    View.ld X (Rect.unit (s := ⟨2, ![8, 1024]⟩) ![o, 0] ![1, 1024] h) (ix2 (0 : Fin 1) k) = X (ix2 j k) :=
  congrArg X (row_emb o h j k hj)

theorem read_row {sig : RefSig} {κ : Kind} {sp : Space} (v : View sig κ sp (⟨2, ![8, 1024]⟩ : Shape) .f32) (f : v.ty.Contents (Elt Ideal))
    (o : ℕ) (h : ∀ a, ![o, 0] a + ![1, 1024] a ≤ (⟨2, ![8, 1024]⟩ : Shape).size a)
    (w : (Rect.unit (s := ⟨2, ![8, 1024]⟩) ![o, 0] ![1, 1024] h).shape.Idx → Elt Ideal .f32) (L : List (View.Piece (Elt Ideal) ⟨2, ![8, 1024]⟩ .f32)) (j : Fin 8) (k : Fin 1024) :
    v.read (Elt Ideal) (v.writes (Elt Ideal) f ((⟨Rect.unit (s := ⟨2, ![8, 1024]⟩) ![o, 0] ![1, 1024] h, w⟩ : View.Piece (Elt Ideal) ⟨2, ![8, 1024]⟩ .f32) :: L)) (ix2 j k)
      = if j.val = o then w (ix2 (0 : Fin 1) k) else v.read (Elt Ideal) (v.writes (Elt Ideal) f L) (ix2 j k) := by
  by_cases hj : j.val = o
  · rw [if_pos hj]
    exact View.read_writes_cons_rows_of_mem (o := o) v f h w L (ix2 j k) (ix2 (0 : Fin 1) k) rfl (by show j.val = o + 0; omega) rfl
  · rw [if_neg hj]
    exact View.read_writes_cons_rows_of_not_mem (o := o) (W := 1) v f h w L (ix2 j k) rfl rfl (by show j.val < o ∨ o + 1 ≤ j.val; omega)

end Cert.Rows

end
-- ==== Proof.Norm2Value.lean ====
module

public import proofs.«01_k».proof.Defs
public import proofs.«01_k».proof.Proof.Rms
public import proofs.«01_k».proof.Proof.Rows
public import proofs.«01_k».proof.Proof.Gen.Norm2BwdIdeal.Value
public import proofs.«01_k».proof.Proof.Gen.Norm2GradIdeal.Read
public import Idealize.ShloMosaic.Lib.Pipeline.ValueKit
public import Idealize.ShloMosaic.Lib.Pipeline.ReadBack
public import Idealize.ShloMosaic.Lib.Pointwise
public import Idealize.ShloMosaic.Lib.Claim
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.Norm2BwdIdeal.Sum
open Cert.Norm2BwdIdeal Cert.Norm2BwdIdeal.Gen Cert.Rms

variable (m : (ℓ : Loc nD τ sig) → Buf (Elt Ideal) ℓ)

theorem idx : ∀ t : Fin cfg0.N, win0_0.index t = ![t.val, 0] ∧ win0_1.index t = ![0, 0] ∧ win0_2.index t = ![t.val, 0]
    ∧ win0_3.index t = ![1, 0] ∧ win0_4.index t = ![t.val, 0] ∧ win0_5.index t = ![t.val, 0] ∧ win0_6.index t = ![0, 0] ∧ win0_7.index t = ![0, 0]
    ∧ win0_8.index t = ![t.val, 0] ∧ win0_9.index t = ![t.val, 0] ∧ win0_10.index t = ![t.val, 0] ∧ win0_11.index t = ![0, 0] ∧ t.val < 8 :=
  (by decide +kernel : ∀ t : Fin grid0.N, _)

/-- The cotangents of the two halves and their weights: the gradient that reaches the modulated norm, entry `k` of one token. -/
def dh (A B : FVec Ideal S2048x2816 .bf16) (F : FVec Ideal S5632x1024 .bf16) (n : Fin 2048) (k : Fin 1024) : EReal :=
  ∑ q : Fin 2816, A (ix2 n q) * F (ix2 ⟨q.val, by omega⟩ k) + ∑ q : Fin 2816, B (ix2 n q) * F (ix2 ⟨2816 + q.val, by omega⟩ k)

/-- The normalised row, before the weight. -/
def xn (X : FVec Ideal S2048x1024 .f32) (n : Fin 2048) (k : Fin 1024) : EReal := X (ix2 n k) * rinv (fun q => X (ix2 n q))

/-- The gradient before the modulation's scale. -/
def ds (A B : FVec Ideal S2048x2816 .bf16) (F : FVec Ideal S5632x1024 .bf16) (M : FVec Ideal S8x1024 .f32) (n : Fin 2048) (k : Fin 1024) : EReal :=
  dh A B F n k * (1 + M (ix2 4 k))

/-- The gradient of the residual stream at token `n`. -/
def dx (A B : FVec Ideal S2048x2816 .bf16) (F : FVec Ideal S5632x1024 .bf16) (X Z : FVec Ideal S2048x1024 .f32) (M : FVec Ideal S8x1024 .f32)
    (W : FVec Ideal S1x1024 .f32) (n : Fin 2048) (k : Fin 1024) : EReal :=
  back (fun q => X (ix2 n q)) (fun q => ds A B F M n q * W (ix2 0 q)) k + Z (ix2 n k)

/-- What token `n` adds to row `j` of the vector gradients: shift, scale, norm weight, gate, and nothing below. -/
def row (A B : FVec Ideal S2048x2816 .bf16) (F : FVec Ideal S5632x1024 .bf16) (X Z : FVec Ideal S2048x1024 .f32) (M : FVec Ideal S8x1024 .f32)
    (W : FVec Ideal S1x1024 .f32) (Y : FVec Ideal S2048x1024 .f32) (j : Fin 8) (n : Fin 2048) (k : Fin 1024) : EReal :=
  if j.val = 3 then dx A B F X Z M W n k * Y (ix2 n k)
  else if j.val = 2 then ds A B F M n k * xn X n k
  else if j.val = 1 then dh A B F n k * (xn X n k * W (ix2 0 k))
  else if j.val = 0 then dh A B F n k else 0

def G9 (A B : FVec Ideal S2048x2816 .bf16) (F : FVec Ideal S5632x1024 .bf16) (X Z : FVec Ideal S2048x1024 .f32) (M : FVec Ideal S8x1024 .f32)
    (W : FVec Ideal S1x1024 .f32) : FVec Ideal S2048x1024 .f32 := fun i => dx A B F X Z M W (i 0) (i 1)

def G10 (A B : FVec Ideal S2048x2816 .bf16) (F : FVec Ideal S5632x1024 .bf16) (X Z : FVec Ideal S2048x1024 .f32) (M : FVec Ideal S8x1024 .f32)
    (W : FVec Ideal S1x1024 .f32) : FVec Ideal S2048x1024 .bf16 := fun i => dx A B F X Z M W (i 0) (i 1) * M (ix2 2 (i 1))

def G11 (A B : FVec Ideal S2048x2816 .bf16) (F : FVec Ideal S5632x1024 .bf16) (X Z : FVec Ideal S2048x1024 .f32) (M : FVec Ideal S8x1024 .f32)
    (W : FVec Ideal S1x1024 .f32) (Y : FVec Ideal S2048x1024 .f32) : FVec Ideal S8x1024 .f32 := fun i => ∑ n : Fin 2048, row A B F X Z M W Y (i 0) n (i 1)

theorem pay4_at (x0 : Vec Ideal S256x2816 .bf16) (x1 : Vec Ideal S2816x1024 .bf16) (x2 : Vec Ideal S256x2816 .bf16) (x3 : Vec Ideal S2816x1024 .bf16) (n : Fin 256) (k : Fin 1024) :
    k0_pay4 x0 x1 x2 x3 (ix2 n k) = ∑ q : Fin 2816, x0 (ix2 n q) * x1 (ix2 q k) + ∑ q : Fin 2816, x2 (ix2 n q) * x3 (ix2 q k) := by pointwise [k0_pay4]

theorem pay6_at (x : Vec Ideal S256x1024 .f32) (n : Fin 256) (k : Fin 1024) :
    k0_pay6 x (ix2 n k) = x (ix2 n k) * rinv (fun q => x (ix2 n q)) := by pointwise [k0_pay6, k0_pay5, rinv]

theorem pay7_at (x : Vec Ideal S256x1024 .f32) (w : Vec Ideal S1x1024 .f32) (n : Fin 256) (k : Fin 1024) :
    k0_pay7 x w (ix2 n k) = x (ix2 n k) * rinv (fun q => x (ix2 n q)) * w (ix2 0 k) := by pointwise [k0_pay7, k0_pay6, k0_pay5, rinv]

theorem pay8_at (v : Vec Ideal S1x1024 .f32) (k : Fin 1024) : k0_pay8 v (ix2 0 k) = 1 + v (ix2 0 k) := by pointwise [k0_pay8]

theorem pay13_at (v9 : FVec Ideal S256x1024 .f32) (x : Vec Ideal S256x1024 .f32) (v26 : FVec Ideal S1x1024 .f32) (w : Vec Ideal S1x1024 .f32) (z : Vec Ideal S256x1024 .f32) (n : Fin 256) (k : Fin 1024) :
    k0_pay13 v9 (k0_pay5 x) (k0_pay6 x) v26 w z (ix2 n k)
      = back (fun q => x (ix2 n q)) (fun q => v9 (ix2 n q) * v26 (ix2 0 q) * w (ix2 0 q)) k + z (ix2 n k) := by
  pointwise [k0_pay13, k0_pay11, k0_pay6, k0_pay5, back, rinv]

theorem pay9_at (x0 : Vec Ideal S256x2816 .bf16) (x1 : Vec Ideal S2816x1024 .bf16) (x2 : Vec Ideal S256x2816 .bf16) (x3 : Vec Ideal S2816x1024 .bf16) (w : Vec Ideal S1x1024 .f32) (k : Fin 1024) :
    k0_pay9 x0 x1 x2 x3 w (ix2 0 k) = w (ix2 0 k) + ∑ n : Fin 256, k0_pay4 x0 x1 x2 x3 (ix2 n k) := by pointwise [k0_pay9]

theorem pay10_at (v9 v23 : FVec Ideal S256x1024 .f32) (w : Vec Ideal S1x1024 .f32) (k : Fin 1024) :
    k0_pay10 v9 v23 w (ix2 0 k) = w (ix2 0 k) + ∑ n : Fin 256, v9 (ix2 n k) * v23 (ix2 n k) := by pointwise [k0_pay10]

theorem pay12_at (v9 v20 : FVec Ideal S256x1024 .f32) (v26 : FVec Ideal S1x1024 .f32) (w : Vec Ideal S1x1024 .f32) (k : Fin 1024) :
    k0_pay12 v9 v20 v26 w (ix2 0 k) = w (ix2 0 k) + ∑ n : Fin 256, v9 (ix2 n k) * v26 (ix2 0 k) * v20 (ix2 n k) := by pointwise [k0_pay12, k0_pay11]

theorem pay1_at (v63 v67 : FVec Ideal S256x1024 .f32) (w : Vec Ideal S1x1024 .f32) (k : Fin 1024) :
    k0_pay1 v63 (k0_pay14 w) v67 (ix2 0 k) = w (ix2 0 k) + ∑ n : Fin 256, v63 (ix2 n k) * v67 (ix2 n k) := by pointwise [k0_pay1, k0_pay14]

theorem pay2_at (v63 : FVec Ideal S256x1024 .f32) (w : Vec Ideal S1x1024 .f32) (n : Fin 256) (k : Fin 1024) :
    k0_pay2 v63 w (ix2 n k) = v63 (ix2 n k) * w (ix2 0 k) := by pointwise [k0_pay2]

theorem pay3_at (j : Fin 8) (k : Fin 1024) : k0_pay3 (F := Ideal) (ix2 j k) = 0 := by pointwise [k0_pay3]

abbrev a0 (c : Dev nD) : FVec Ideal S2048x2816 .bf16 := m ((c : Thread nD τ).loc main_arg0)
abbrev a1 (c : Dev nD) : FVec Ideal S2048x2816 .bf16 := m ((c : Thread nD τ).loc main_arg1)
abbrev a2 (c : Dev nD) : FVec Ideal S5632x1024 .bf16 := m ((c : Thread nD τ).loc main_arg2)
abbrev a3 (c : Dev nD) : FVec Ideal S2048x1024 .f32 := m ((c : Thread nD τ).loc main_arg3)
abbrev a4 (c : Dev nD) : FVec Ideal S2048x1024 .f32 := m ((c : Thread nD τ).loc main_arg4)
abbrev a5 (c : Dev nD) : FVec Ideal S8x1024 .f32 := m ((c : Thread nD τ).loc main_arg5)
abbrev a6 (c : Dev nD) : FVec Ideal S1x1024 .f32 := m ((c : Thread nD τ).loc main_arg6)
abbrev a7 (c : Dev nD) : FVec Ideal S2048x1024 .f32 := m ((c : Thread nD τ).loc main_arg7)

/-- Token `n` of point `t`. -/
def tok (t : Fin cfg0.N) (n : Fin 256) : Fin 2048 := ⟨t.val * 256 + n.val, by have := (idx t).2.2.2.2.2.2.2.2.2.2.2.2; omega⟩

theorem dh_blk (c : Dev nD) (t : Fin cfg0.N) (n : Fin 256) (k : Fin 1024) :
    k0_pay4 (F := Ideal) (iblk m c 0 t) (iblk m c 1 t) (iblk m c 2 t) (iblk m c 3 t) (ix2 n k) = dh (a0 m c) (a1 m c) (a2 m c) (tok t n) k := by
  have ht := (idx t).2.2.2.2.2.2.2.2.2.2.2.2
  rw [pay4_at]
  unfold dh
  refine congrArg₂ (· + ·) (Fin.sum_fin_congr fun q => congrArg₂ (· * ·) ?_ ?_) (Fin.sum_fin_congr fun q => congrArg₂ (· * ·) ?_ ?_) <;> blk_point [iblk, V, idx t, tok]

theorem x_blk (c : Dev nD) (t : Fin cfg0.N) (n : Fin 256) (k : Fin 1024) :
    (show FVec Ideal S256x1024 .f32 from iblk m c 4 t) (ix2 n k) = a3 m c (ix2 (tok t n) k) := by
  blk_point [iblk, V, idx t, tok]

theorem z_blk (c : Dev nD) (t : Fin cfg0.N) (n : Fin 256) (k : Fin 1024) :
    (show FVec Ideal S256x1024 .f32 from iblk m c 5 t) (ix2 n k) = a4 m c (ix2 (tok t n) k) := by
  blk_point [iblk, V, idx t, tok]

theorem y_blk (c : Dev nD) (t : Fin cfg0.N) (n : Fin 256) (k : Fin 1024) :
    (show FVec Ideal S256x1024 .f32 from iblk m c 8 t) (ix2 n k) = a7 m c (ix2 (tok t n) k) := by
  blk_point [iblk, V, idx t, tok]

theorem w_blk (c : Dev nD) (t : Fin cfg0.N) (k : Fin 1024) :
    (show FVec Ideal S1x1024 .f32 from iblk m c 7 t) (ix2 0 k) = a6 m c (ix2 0 k) := by
  blk_point [iblk, V, idx t, tok]

theorem m_blk (c : Dev nD) (t : Fin cfg0.N) (j : Fin 8) (k : Fin 1024) :
    (show FVec Ideal S8x1024 .f32 from iblk m c 6 t) (ix2 j k) = a5 m c (ix2 j k) := by
  blk_point [iblk, V, idx t, tok]

theorem sc_blk (c : Dev nD) (t : Fin cfg0.N) (h) (k : Fin 1024) :
    k0_pay8 (F := Ideal) (View.ld (show FVec Ideal S8x1024 .f32 from iblk m c 6 t) (Rect.unit (s := S8x1024) ![4, 0] ![1, 1024] h)) (ix2 0 k) = 1 + a5 m c (ix2 4 k) := by
  rw [pay8_at]
  exact congrArg (1 + ·) ((Cert.Rows.ld_row 4 h (show FVec Ideal S8x1024 .f32 from iblk m c 6 t) 4 k rfl).trans (m_blk m c t 4 k))

theorem xn_blk (c : Dev nD) (t : Fin cfg0.N) (n : Fin 256) (k : Fin 1024) :
    k0_pay6 (F := Ideal) (iblk m c 4 t) (ix2 n k) = xn (a3 m c) (tok t n) k := by
  rw [pay6_at]
  unfold xn
  exact congrArg₂ (· * ·) (x_blk m c t n k) (congrArg rinv (funext fun q => x_blk m c t n q))

theorem xnw_blk (c : Dev nD) (t : Fin cfg0.N) (n : Fin 256) (k : Fin 1024) :
    k0_pay7 (F := Ideal) (iblk m c 4 t) (iblk m c 7 t) (ix2 n k) = xn (a3 m c) (tok t n) k * a6 m c (ix2 0 k) := by
  rw [pay7_at]
  unfold xn
  exact congrArg₂ (· * ·) (congrArg₂ (· * ·) (x_blk m c t n k) (congrArg rinv (funext fun q => x_blk m c t n q))) (w_blk m c t k)

/-- The gradient of the residual stream, as one point computes it. -/
def pdx (c : Dev nD) (t : Fin cfg0.N) (h : ∀ a, ![4, 0] a + ![1, 1024] a ≤ S8x1024.size a) : FVec Ideal S256x1024 .f32 :=
  k0_pay13 (k0_pay4 (F := Ideal) (iblk m c 0 t) (iblk m c 1 t) (iblk m c 2 t) (iblk m c 3 t)) (k0_pay5 (F := Ideal) (iblk m c 4 t)) (k0_pay6 (F := Ideal) (iblk m c 4 t))
    (k0_pay8 (F := Ideal) (View.ld (show FVec Ideal S8x1024 .f32 from iblk m c 6 t) (Rect.unit (s := S8x1024) ![4, 0] ![1, 1024] h))) (iblk m c 7 t) (iblk m c 5 t)

theorem dx_blk (c : Dev nD) (t : Fin cfg0.N) (h) (n : Fin 256) (k : Fin 1024) :
    pdx m c t h (ix2 n k) = dx (a0 m c) (a1 m c) (a2 m c) (a3 m c) (a4 m c) (a5 m c) (a6 m c) (tok t n) k := by
  unfold pdx
  rw [pay13_at]
  unfold dx ds
  exact congrArg₂ (· + ·) (congrArg₂ (fun u v => back u v k) (funext fun q => x_blk m c t n q)
    (funext fun q => congrArg₂ (· * ·) (congrArg₂ (· * ·) (dh_blk m c t n q) (sc_blk m c t h q)) (w_blk m c t q))) (z_blk m c t n k)

abbrev trow (c : Dev nD) (j : Fin 8) (n : Fin 2048) (k : Fin 1024) : EReal :=
  row (a0 m c) (a1 m c) (a2 m c) (a3 m c) (a4 m c) (a5 m c) (a6 m c) (a7 m c) j n k

/-- What one point adds to the vector gradients. -/
def term (c : Dev nD) (t : Fin cfg0.N) (i : S8x1024.Idx) : EReal := ∑ n : Fin 256, trow m c (i 0) (tok t n) (i 1)

theorem rows_step (c : Dev nD) (t : Fin cfg0.N) (P : FVec Ideal S8x1024 .f32) (h h0 h1 h2 h3) (j : Fin 8) (k : Fin 1024) :
    (if j.val = 3 then k0_pay1 (pdx m c t h) (k0_pay14 (View.ld P (Rect.unit (s := S8x1024) ![3, 0] ![1, 1024] h3))) (iblk m c 8 t) (ix2 0 k)
      else if j.val = 2 then k0_pay12 (k0_pay4 (F := Ideal) (iblk m c 0 t) (iblk m c 1 t) (iblk m c 2 t) (iblk m c 3 t)) (k0_pay6 (F := Ideal) (iblk m c 4 t))
        (k0_pay8 (F := Ideal) (View.ld (show FVec Ideal S8x1024 .f32 from iblk m c 6 t) (Rect.unit (s := S8x1024) ![4, 0] ![1, 1024] h)))
        (View.ld P (Rect.unit (s := S8x1024) ![2, 0] ![1, 1024] h2)) (ix2 0 k)
      else if j.val = 1 then k0_pay10 (k0_pay4 (F := Ideal) (iblk m c 0 t) (iblk m c 1 t) (iblk m c 2 t) (iblk m c 3 t)) (k0_pay7 (F := Ideal) (iblk m c 4 t) (iblk m c 7 t))
        (View.ld P (Rect.unit (s := S8x1024) ![1, 0] ![1, 1024] h1)) (ix2 0 k)
      else if j.val = 0 then k0_pay9 (F := Ideal) (iblk m c 0 t) (iblk m c 1 t) (iblk m c 2 t) (iblk m c 3 t)
        (View.ld P (Rect.unit (s := S8x1024) ![0, 0] ![1, 1024] h0)) (ix2 0 k)
      else P (ix2 j k)) = P (ix2 j k) + ∑ n : Fin 256, trow m c j (tok t n) k := by
  unfold trow row
  by_cases e3 : j.val = 3
  · simp only [if_pos e3]
    refine (pay1_at _ _ _ k).trans ?_
    exact congrArg₂ (· + ·) (Cert.Rows.ld_row 3 h3 P j k e3) (Fin.sum_fin_congr fun n => congrArg₂ (· * ·) (dx_blk m c t h n k) (y_blk m c t n k))
  by_cases e2 : j.val = 2
  · simp only [if_neg e3, if_pos e2]
    refine (pay12_at _ _ _ _ k).trans ?_
    exact congrArg₂ (· + ·) (Cert.Rows.ld_row 2 h2 P j k e2) (Fin.sum_fin_congr fun n => congrArg₂ (· * ·) (congrArg₂ (· * ·) (dh_blk m c t n k) (sc_blk m c t h k)) (xn_blk m c t n k))
  by_cases e1 : j.val = 1
  · simp only [if_neg e3, if_neg e2, if_pos e1]
    refine (pay10_at _ _ _ k).trans ?_
    exact congrArg₂ (· + ·) (Cert.Rows.ld_row 1 h1 P j k e1) (Fin.sum_fin_congr fun n => congrArg₂ (· * ·) (dh_blk m c t n k) (xnw_blk m c t n k))
  by_cases e0 : j.val = 0
  · simp only [if_neg e3, if_neg e2, if_neg e1, if_pos e0]
    refine (pay9_at _ _ _ _ _ k).trans ?_
    exact congrArg₂ (· + ·) (Cert.Rows.ld_row 0 h0 P j k e0) (Fin.sum_fin_congr fun n => dh_blk m c t n k)
  · simp only [if_neg e3, if_neg e2, if_neg e1, if_neg e0, Finset.sum_const_zero, add_zero]

theorem reset (c : Dev nD) (t : Fin cfg0.N) (h0 : t.val % 8 = 0) (y : S8x1024.Idx) : (outsAt0 m c t.val t.isLt).2.2 y = 0 + term m c t y := by
  obtain ⟨j, k, rfl⟩ : ∃ (j : Fin 8) (k : Fin 1024), y = ix2 j k := ⟨y 0, y 1, eq_ix2 y⟩
  rw [outsAt0_A m c t h0]
  frame_out
  simp (disch := decide) only [↓ View.readCov_skip, ↓ View.readCov_cons_toLoadRect, ↓ View.readCov_fill]
  refine (Cert.Rows.canon_row 3 _ _ _ j k).trans ?_
  refine (congrArg (ite _ _) ((Cert.Rows.canon_row 2 _ _ _ j k).trans (congrArg (ite _ _) ((Cert.Rows.canon_row 1 _ _ _ j k).trans
    (congrArg (ite _ _) ((Cert.Rows.canon_row 0 _ _ _ j k).trans (congrArg (ite _ _) (Cert.Rows.canon_whole _ _ _ j k)))))))).trans ?_
  refine (rows_step m c t (k0_pay3 (F := Ideal)) _ _ _ _ _ j k).trans ?_
  rw [pay3_at]
  rfl

theorem step (c : Dev nD) (t : Fin cfg0.N) (h0 : ¬ t.val % 8 = 0) (y : S8x1024.Idx) :
    (outsAt0 m c t.val t.isLt).2.2 y = (outsAt0 m c (t.val - 1) (by have := t.isLt; omega)).2.2 y + term m c t y := by
  obtain ⟨j, k, rfl⟩ : ∃ (j : Fin 8) (k : Fin 1024), y = ix2 j k := ⟨y 0, y 1, eq_ix2 y⟩
  rw [outsAt0_B m c t h0]
  frame_out
  refine (Cert.Rows.read_row _ _ 3 _ _ _ j k).trans ?_
  refine (congrArg (ite _ _) ((Cert.Rows.read_row _ _ 2 _ _ _ j k).trans (congrArg (ite _ _) ((Cert.Rows.read_row _ _ 1 _ _ _ j k).trans
    (congrArg (ite _ _) ((Cert.Rows.read_row _ _ 0 _ _ _ j k).trans (congrArg (ite _ _) (congrFun (Memref.IsWhole.read_unread _ _) (ix2 j k))))))))).trans ?_
  exact rows_step m c t (outsAt0 m c (t.val - 1) (by have := t.isLt; omega)).2.2 _ _ _ _ _ j k

theorem out9 (c : Dev nD) (t : Fin cfg0.N) (n : Fin 256) (k : Fin 1024) :
    (outsAt0 m c t.val t.isLt).1 (ix2 n k) = dx (a0 m c) (a1 m c) (a2 m c) (a3 m c) (a4 m c) (a5 m c) (a6 m c) (tok t n) k := by
  by_cases h0 : t.val % 8 = 0
  · rw [outsAt0_A m c t h0]
    frame_out
    exact dx_blk m c t _ n k
  · rw [outsAt0_B m c t h0]
    frame_out
    exact dx_blk m c t _ n k

theorem out10 (c : Dev nD) (t : Fin cfg0.N) (n : Fin 256) (k : Fin 1024) :
    (outsAt0 m c t.val t.isLt).2.1 (ix2 n k) = dx (a0 m c) (a1 m c) (a2 m c) (a3 m c) (a4 m c) (a5 m c) (a6 m c) (tok t n) k * a5 m c (ix2 2 k) := by
  by_cases h0 : t.val % 8 = 0
  · rw [outsAt0_A m c t h0]
    frame_out
    refine (pay2_at _ _ n k).trans ?_
    exact congrArg₂ (· * ·) (dx_blk m c t _ n k) ((Cert.Rows.ld_row 2 _ (show FVec Ideal S8x1024 .f32 from iblk m c 6 t) 2 k rfl).trans (m_blk m c t 2 k))
  · rw [outsAt0_B m c t h0]
    frame_out
    refine (pay2_at _ _ n k).trans ?_
    exact congrArg₂ (· * ·) (dx_blk m c t _ n k) ((Cert.Rows.ld_row 2 _ (show FVec Ideal S8x1024 .f32 from iblk m c 6 t) 2 k rfl).trans (m_blk m c t 2 k))

theorem final9 (c : Dev nD) : (dats m 0 c).arrAt 9 (cfgs 0).N = G9 (a0 m c) (a1 m c) (a2 m c) (a3 m c) (a4 m c) (a5 m c) (a6 m c) := by
  refine (dats m 0 c).arrAt_eq_of_covers 9 _ (by decide +kernel) fun t _ y => ?_
  have ht := (idx t).2.2.2.2.2.2.2.2.2.2.2.2
  have e0 : ((((cfg0.win 9).blk t).view.emb y) 0).val = t.val * 256 + (y 0).val := by blk_simp [idx t]
  have e1 : ((((cfg0.win 9).blk t).view.emb y) 1).val = (y 1).val := by blk_simp [idx t]
  blk_simp
  rw [after0_9]
  revert e0 e1
  generalize ((cfg0.win 9).blk t).view.emb y = z
  intro e0 e1
  obtain ⟨n, k, rfl⟩ : ∃ (n : Fin 256) (k : Fin 1024), y = ix2 n k := ⟨y 0, y 1, eq_ix2 y⟩
  refine (out9 m c t n k).trans ?_
  unfold G9
  rw [show z 0 = tok t n from Fin.ext e0, show z 1 = k from Fin.ext e1]

theorem final10 (c : Dev nD) : (dats m 0 c).arrAt 10 (cfgs 0).N = G10 (a0 m c) (a1 m c) (a2 m c) (a3 m c) (a4 m c) (a5 m c) (a6 m c) := by
  refine (dats m 0 c).arrAt_eq_of_covers 10 _ (by decide +kernel) fun t _ y => ?_
  have ht := (idx t).2.2.2.2.2.2.2.2.2.2.2.2
  have e0 : ((((cfg0.win 10).blk t).view.emb y) 0).val = t.val * 256 + (y 0).val := by blk_simp [idx t]
  have e1 : ((((cfg0.win 10).blk t).view.emb y) 1).val = (y 1).val := by blk_simp [idx t]
  blk_simp
  rw [after0_10]
  revert e0 e1
  generalize ((cfg0.win 10).blk t).view.emb y = z
  intro e0 e1
  obtain ⟨n, k, rfl⟩ : ∃ (n : Fin 256) (k : Fin 1024), y = ix2 n k := ⟨y 0, y 1, eq_ix2 y⟩
  refine (out10 m c t n k).trans ?_
  unfold G10
  rw [show z 0 = tok t n from Fin.ext e0, show z 1 = k from Fin.ext e1]

theorem final11 (c : Dev nD) : (dats m 0 c).arrAt 11 (cfgs 0).N = G11 (a0 m c) (a1 m c) (a2 m c) (a3 m c) (a4 m c) (a5 m c) (a6 m c) (a7 m c) := by
  refine (dats m 0 c).arrAt_eq_of_covers 11 _ (by decide +kernel) fun t hf y => ?_
  have ht := (idx t).2.2.2.2.2.2.2.2.2.2.2.2
  have e0 : ((((cfg0.win 11).blk t).view.emb y) 0).val = (y 0).val := by blk_simp [idx t]
  have e1 : ((((cfg0.win 11).blk t).view.emb y) 1).val = (y 1).val := by blk_simp [idx t]
  blk_simp
  rw [after0_11, Pipeline.eq_sum_fin_of_reset_step_apply_of_flush (fun n h => (outsAt0 m c n h).2.2) 8 (fun _ => 0) (term m c)
    (fun t h j => reset m c t h j) (fun t h j => step m c t h j) t ((flush0_11 t).mp hf) _, zero_add]
  revert e0 e1
  generalize ((cfg0.win 11).blk t).view.emb y = z
  intro e0 e1
  unfold G11
  rw [show z 0 = y 0 from Fin.ext e0, show z 1 = y 1 from Fin.ext e1]
  refine Fin.sum_mul_add_congr fun s k hl => ?_
  have hs := Pipeline.run_point_lt_of_flush t ((flush0_11 t).mp hf) s
  refine congrArg (fun q => trow m c (y 0) q (y 1)) (Fin.ext ?_)
  show (8 * (t.val / 8) + s.val) * 256 + k.val = s.val * 256 + k.val
  rw [Nat.div_eq_of_lt ht]
  omega

end Cert.Norm2BwdIdeal.Sum

namespace Cert.Norm2
open Cert.Norm2GradIdeal Cert.Norm2GradIdeal.Read Cert.Norm2BwdIdeal.Sum Cert.Rms

variable (A B : FVec Ideal Cert.Norm2GradIdeal.S2048x2816 .bf16) (F : FVec Ideal Cert.Norm2GradIdeal.S5632x1024 .bf16) (X Z : FVec Ideal Cert.Norm2GradIdeal.S2048x1024 .f32)
  (M : FVec Ideal Cert.Norm2GradIdeal.S8x1024 .f32) (W : FVec Ideal Cert.Norm2GradIdeal.S1x1024 .f32) (Y : FVec Ideal Cert.Norm2GradIdeal.S2048x1024 .f32)

theorem dh_at (n : Fin 2048) (k : Fin 1024) : val_main_v28 (F := Ideal) A B F (ix2 n k) = dh A B F n k := by
  pointwise [val_main_v28, val_main_v1, val_main_v0, val_main_v26, val_main_v25]
  rfl

theorem xn_at (n : Fin 2048) (k : Fin 1024) : val_main_v16 (F := Ideal) X (ix2 n k) = xn X n k := by
  pointwise [val_main_v16, val_main_v15, val_main_v11, val_main_v10, val_main_v9, val_main_cst_1, val_main_v8, val_main_v7, val_main_cst_0, val_main_v6, val_main_v5, val_main_cst, val_main_v4, xn, rinv]

theorem xnw_at (n : Fin 2048) (k : Fin 1024) : val_main_v18 (F := Ideal) X W (ix2 n k) = xn X n k * W (ix2 0 k) := by
  pointwise [val_main_v18, val_main_v17]
  exact congrArg (· * _) (xn_at X n k)

theorem ds_at (n : Fin 2048) (k : Fin 1024) : val_main_v35 (F := Ideal) A B F M (ix2 n k) = ds A B F M n k := by
  pointwise [val_main_v35, val_main_v34, val_main_v20, val_main_v19, val_main_cst_3, val_main_v3, ds]
  exact congrArg (· * _) (dh_at A B F n k)

theorem dn_at (n : Fin 2048) (k : Fin 1024) : val_main_v40 (F := Ideal) A B F M W (ix2 n k) = ds A B F M n k * W (ix2 0 k) := by
  pointwise [val_main_v40, val_main_v39]
  exact congrArg (· * _) (ds_at A B F M n k)

theorem c_at (n : Fin 2048) (k : Fin 1024) : val_main_v50 (F := Ideal) A B F X M W (ix2 n k) = (Ideal.div
        ((∑ x, X (ix2 n x) * (ds A B F M n x * W (ix2 0 x))) *
          (Ideal.ofBits FTy.f32 3204448256#32 *
            Ideal.div (rinv (fun q => X (ix2 n q)))
              (Ideal.div (∑ x, X (ix2 n x) * X (ix2 n x)) (Ideal.ofBits FTy.f32 1149239296#32) +
                Ideal.ofBits FTy.f32 897988541#32)))
        (Ideal.ofBits FTy.f32 1149239296#32)) := by
  pointwise [val_main_v50, val_main_v49, val_main_cst_9, val_main_v48, val_main_v47, val_main_cst_8, val_main_v46, val_main_v43, val_main_v42, val_main_cst_7, val_main_v41, val_main_v14, val_main_v13, val_main_cst_2, val_main_v12, val_main_v11, val_main_v10, val_main_v9, val_main_cst_1, val_main_v8, val_main_v7, val_main_cst_0, val_main_v6, val_main_v5, val_main_cst, val_main_v4]
  refine (Fin.sum_univ_one _).trans ?_
  simp only [dn_at, rinv]

theorem dx_at (n : Fin 2048) (k : Fin 1024) : val_main_v55 (F := Ideal) A B F X Z M W (ix2 n k) = dx A B F X Z M W n k := by
  pointwise [val_main_v55, val_main_v54, val_main_v53, val_main_v52, val_main_v51, val_main_v45, val_main_v44, val_main_v11, val_main_v10, val_main_v9, val_main_cst_1, val_main_v8, val_main_v7, val_main_cst_0, val_main_v6, val_main_v5, val_main_cst, val_main_v4]
  rw [c_at, dn_at]
  unfold dx back
  exact congrArg (· + _) (bwd (fun q => X (ix2 n q)) (fun q => ds A B F M n q * W (ix2 0 q)) k _ _ rfl rfl).symm

theorem at9 : val_main_v55 (F := Ideal) A B F X Z M W = G9 A B F X Z M W := by
  funext (y : Cert.Norm2GradIdeal.S2048x1024.Idx)
  obtain ⟨n, k, rfl⟩ : ∃ (n : Fin 2048) (k : Fin 1024), y = ix2 n k := ⟨y 0, y 1, eq_ix2 y⟩
  exact dx_at A B F X Z M W n k

theorem at10 : val_main_v64 (F := Ideal) A B F X Z M W = G10 A B F X Z M W := by
  funext (y : Cert.Norm2GradIdeal.S2048x1024.Idx)
  obtain ⟨n, k, rfl⟩ : ∃ (n : Fin 2048) (k : Fin 1024), y = ix2 n k := ⟨y 0, y 1, eq_ix2 y⟩
  pointwise [val_main_v64, val_main_v60, val_main_v59, val_main_v56]
  rw [dx_at]
  exact mul_comm _ _

theorem at11 : val_main_v66 (F := Ideal) A B F X Z M W Y = G11 A B F X Z M W Y := by
  funext (y : Cert.Norm2GradIdeal.S8x1024.Idx)
  obtain ⟨j, k, rfl⟩ : ∃ (j : Fin 8) (k : Fin 1024), y = ix2 j k := ⟨y 0, y 1, eq_ix2 y⟩
  pointwise [val_main_v66, val_main_v65, val_main_cst_11, val_main_v63, val_main_v62, val_main_cst_10, val_main_v61, val_main_v38, val_main_v37, val_main_cst_6, val_main_v36, val_main_v33, val_main_v32, val_main_cst_5, val_main_v31, val_main_v30, val_main_v29, val_main_cst_4]
  unfold G11 row
  simp only [dh_at, xn_at, xnw_at, ds_at, dx_at]
  rcases j with ⟨_ | _ | _ | _ | j, hj⟩
  · simp
  · simp
    exact Finset.sum_congr rfl fun n _ => mul_comm _ _
  · simp
    exact Finset.sum_congr rfl fun n _ => mul_comm _ _
  · simp
  · simp

/-- The reference leaves its arguments alone, and it has no semaphore. -/
theorem reference_frame : Cert.quiescent_Norm2GradIdeal := by
  intro m g _
  exact (θ_run _ _ _).mono (fun r h => ⟨fun c => (h c).2.2.2, sem_eq_zero_of_no_sems (by decide) r.2⟩) (Cert.Norm2GradIdeal.Value.run m g)

theorem algebraic : Cert.algebraic_Norm2BwdIdeal_Norm2GradIdeal := by
  intro m g m' g' hpre hagree
  refine ⟨fun c => G9 (a0 m c) (a1 m c) (a2 m c) (a3 m c) (a4 m c) (a5 m c) (a6 m c), fun c => G10 (a0 m c) (a1 m c) (a2 m c) (a3 m c) (a4 m c) (a5 m c) (a6 m c), fun c => G11 (a0 m c) (a1 m c) (a2 m c) (a3 m c) (a4 m c) (a5 m c) (a6 m c) (a7 m c), ?_, ?_⟩
  · exact (θ_run _ _ _).mono (fun r h c => ⟨(h c).1.trans (final9 m c), (h c).2.1.trans (final10 m c), (h c).2.2.1.trans (final11 m c), (h c).2.2.2⟩) (Cert.Norm2BwdIdeal.Value.run_blocks m g)
  · refine (θ_run _ _ _).mono (fun r h c => ⟨(h c).1.trans ?_, (h c).2.1.trans ?_, (h c).2.2.1.trans ?_, (h c).2.2.2⟩) (Cert.Norm2GradIdeal.Value.run m' g')
    · refine (Cert.Norm2GradIdeal.Read.val_main_v55_eq m' c).trans ?_
      rw [(hagree c).1, (hagree c).2.1, (hagree c).2.2.1, (hagree c).2.2.2.1, (hagree c).2.2.2.2.1, (hagree c).2.2.2.2.2.1, (hagree c).2.2.2.2.2.2.1]
      exact at9 _ _ _ _ _ _ _
    · refine (Cert.Norm2GradIdeal.Read.val_main_v64_eq m' c).trans ?_
      rw [(hagree c).1, (hagree c).2.1, (hagree c).2.2.1, (hagree c).2.2.2.1, (hagree c).2.2.2.2.1, (hagree c).2.2.2.2.2.1, (hagree c).2.2.2.2.2.2.1]
      exact at10 _ _ _ _ _ _ _
    · refine (Cert.Norm2GradIdeal.Read.val_main_v66_eq m' c).trans ?_
      rw [(hagree c).1, (hagree c).2.1, (hagree c).2.2.1, (hagree c).2.2.2.1, (hagree c).2.2.2.2.1, (hagree c).2.2.2.2.2.1, (hagree c).2.2.2.2.2.2.1, (hagree c).2.2.2.2.2.2.2]
      exact at11 _ _ _ _ _ _ _ _

end Cert.Norm2

end
-- ==== Proof.Norm1Value.lean ====
module

public import proofs.«01_k».proof.Defs
public import proofs.«01_k».proof.Proof.Rms
public import proofs.«01_k».proof.Proof.Rows
public import proofs.«01_k».proof.Proof.Gen.Norm1BwdIdeal.Value
public import proofs.«01_k».proof.Proof.Gen.Norm1GradIdeal.Read
public import Idealize.ShloMosaic.Lib.Pipeline.ValueKit
public import Idealize.ShloMosaic.Lib.Pipeline.ReadBack
public import Idealize.ShloMosaic.Lib.Pointwise
public import Idealize.ShloMosaic.Lib.Claim
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.Norm1BwdIdeal.Sum
open Cert.Norm1BwdIdeal Cert.Norm1BwdIdeal.Gen Cert.Rms

variable (m : (ℓ : Loc nD τ sig) → Buf (Elt Ideal) ℓ)

theorem idx : ∀ t : Fin cfg0.N, win0_0.index t = ![t.val, 0] ∧ win0_1.index t = ![0, 0] ∧ win0_2.index t = ![t.val, 0]
    ∧ win0_3.index t = ![0, 0] ∧ win0_4.index t = ![t.val, 0] ∧ win0_5.index t = ![0, 0] ∧ win0_6.index t = ![t.val, 0] ∧ win0_7.index t = ![1, 0]
    ∧ win0_8.index t = ![t.val, 0] ∧ win0_9.index t = ![0, 0] ∧ win0_10.index t = ![t.val, 0] ∧ win0_11.index t = ![t.val, 0]
    ∧ win0_12.index t = ![0, 0] ∧ win0_13.index t = ![0, 0] ∧ win0_14.index t = ![t.val, 0] ∧ win0_15.index t = ![0, 0] ∧ t.val < 8 :=
  (by decide +kernel : ∀ t : Fin grid0.N, _)

/-- The cotangents of the five parts of the projection and their weights: the gradient that reaches the modulated norm, entry `k` of one token. -/
def dh (Z : FVec Ideal S2048x1024 .bf16) (T : FVec Ideal S2048x128 .bf16) (A B : FVec Ideal S2048x1024 .bf16) (C : FVec Ideal S2048x1536 .bf16) (F : FVec Ideal S4624x1024 .bf16) (n : Fin 2048) (k : Fin 1024) : EReal :=
  ∑ q : Fin 1024, Z (ix2 n q) * F (ix2 ⟨q.val, by omega⟩ k) + ∑ q : Fin 16, T (ix2 n ⟨q.val, by omega⟩) * F (ix2 ⟨2560 + q.val, by omega⟩ k)
    + ∑ q : Fin 1024, A (ix2 n q) * F (ix2 ⟨2576 + q.val, by omega⟩ k) + ∑ q : Fin 1024, B (ix2 n q) * F (ix2 ⟨3600 + q.val, by omega⟩ k)
    + ∑ q : Fin 1536, C (ix2 n q) * F (ix2 ⟨1024 + q.val, by omega⟩ k)

/-- The normalised row, before the weight. -/
def xn (X : FVec Ideal S2048x1024 .f32) (n : Fin 2048) (k : Fin 1024) : EReal := X (ix2 n k) * rinv (fun q => X (ix2 n q))

/-- The gradient before the modulation's scale. -/
def ds (Z : FVec Ideal S2048x1024 .bf16) (T : FVec Ideal S2048x128 .bf16) (A B : FVec Ideal S2048x1024 .bf16) (C : FVec Ideal S2048x1536 .bf16) (F : FVec Ideal S4624x1024 .bf16) (M : FVec Ideal S8x1024 .f32) (n : Fin 2048) (k : Fin 1024) : EReal :=
  dh Z T A B C F n k * (1 + M (ix2 1 k))

/-- The gradient of the block's input at token `n`. -/
def dx (Z : FVec Ideal S2048x1024 .bf16) (T : FVec Ideal S2048x128 .bf16) (A B : FVec Ideal S2048x1024 .bf16) (C : FVec Ideal S2048x1536 .bf16) (F : FVec Ideal S4624x1024 .bf16) (X R : FVec Ideal S2048x1024 .f32) (M : FVec Ideal S8x1024 .f32)
    (W : FVec Ideal S1x1024 .f32) (n : Fin 2048) (k : Fin 1024) : EReal :=
  back (fun q => X (ix2 n q)) (fun q => ds Z T A B C F M n q * W (ix2 0 q)) k + R (ix2 n k)

/-- What token `n` adds to row `j` of the vector gradients: shift, scale, norm weight, and nothing below. -/
def row (Z : FVec Ideal S2048x1024 .bf16) (T : FVec Ideal S2048x128 .bf16) (A B : FVec Ideal S2048x1024 .bf16) (C : FVec Ideal S2048x1536 .bf16) (F : FVec Ideal S4624x1024 .bf16) (X : FVec Ideal S2048x1024 .f32) (M : FVec Ideal S8x1024 .f32)
    (W : FVec Ideal S1x1024 .f32) (j : Fin 8) (n : Fin 2048) (k : Fin 1024) : EReal :=
  if j.val = 2 then ds Z T A B C F M n k * xn X n k
  else if j.val = 1 then dh Z T A B C F n k * (xn X n k * W (ix2 0 k))
  else if j.val = 0 then dh Z T A B C F n k else 0

def G14 (Z : FVec Ideal S2048x1024 .bf16) (T : FVec Ideal S2048x128 .bf16) (A B : FVec Ideal S2048x1024 .bf16) (C : FVec Ideal S2048x1536 .bf16) (F : FVec Ideal S4624x1024 .bf16) (X R : FVec Ideal S2048x1024 .f32) (M : FVec Ideal S8x1024 .f32)
    (W : FVec Ideal S1x1024 .f32) : FVec Ideal S2048x1024 .f32 := fun i => dx Z T A B C F X R M W (i 0) (i 1)

def G15 (Z : FVec Ideal S2048x1024 .bf16) (T : FVec Ideal S2048x128 .bf16) (A B : FVec Ideal S2048x1024 .bf16) (C : FVec Ideal S2048x1536 .bf16) (F : FVec Ideal S4624x1024 .bf16) (X : FVec Ideal S2048x1024 .f32) (M : FVec Ideal S8x1024 .f32)
    (W : FVec Ideal S1x1024 .f32) : FVec Ideal S8x1024 .f32 := fun i => ∑ n : Fin 2048, row Z T A B C F X M W (i 0) n (i 1)

theorem pay3_at (z : Vec Ideal S256x1024 .bf16) (wz : Vec Ideal S1024x1024 .bf16) (d : Vec Ideal S256x128 .bf16) (wd : Vec Ideal S128x1024 .bf16)
    (a : Vec Ideal S256x1024 .bf16) (wa : Vec Ideal S1024x1024 .bf16) (b : Vec Ideal S256x1024 .bf16) (wb : Vec Ideal S1024x1024 .bf16)
    (x : Vec Ideal S256x1536 .bf16) (wx : Vec Ideal S1536x1024 .bf16) (n : Fin 256) (k : Fin 1024) :
    k0_pay3 z wz d wd a wa b wb x wx (ix2 n k) = ∑ q : Fin 1024, z (ix2 n q) * wz (ix2 q k) + ∑ q : Fin 128, d (ix2 n q) * wd (ix2 q k)
      + ∑ q : Fin 1024, a (ix2 n q) * wa (ix2 q k) + ∑ q : Fin 1024, b (ix2 n q) * wb (ix2 q k) + ∑ q : Fin 1536, x (ix2 n q) * wx (ix2 q k) := by
  pointwise [k0_pay3]

theorem pay6_at (x : Vec Ideal S256x1024 .f32) (n : Fin 256) (k : Fin 1024) :
    k0_pay6 x (k0_pay4 x) (ix2 n k) = x (ix2 n k) * rinv (fun q => x (ix2 n q)) := by pointwise [k0_pay6, k0_pay5, k0_pay4, rinv]

theorem pay9_at (v : FVec Ideal S256x1024 .f32) (s : Vec Ideal S1x1024 .f32) (n : Fin 256) (k : Fin 1024) :
    k0_pay9 v s (ix2 n k) = v (ix2 n k) * (1 + s (ix2 0 k)) := by pointwise [k0_pay9]

theorem pay1_at (v57 : FVec Ideal S256x1024 .f32) (x : Vec Ideal S256x1024 .f32) (w : Vec Ideal S1x1024 .f32) (z : Vec Ideal S256x1024 .f32) (n : Fin 256) (k : Fin 1024) :
    k0_pay1 (F := Ideal) (k0_pay5 (k0_pay4 x)) (k0_pay6 x (k0_pay4 x)) v57 w z (ix2 n k)
      = back (fun q => x (ix2 n q)) (fun q => v57 (ix2 n q) * w (ix2 0 q)) k + z (ix2 n k) := by
  pointwise [k0_pay1, k0_pay6, k0_pay5, k0_pay4, back, rinv]

theorem pay7_at (v : FVec Ideal S256x1024 .f32) (w : Vec Ideal S1x1024 .f32) (k : Fin 1024) :
    k0_pay7 v w (ix2 0 k) = w (ix2 0 k) + ∑ n : Fin 256, v (ix2 n k) := by pointwise [k0_pay7]

theorem pay8_at (v : FVec Ideal S256x1024 .f32) (x : Vec Ideal S256x1024 .f32) (a w : Vec Ideal S1x1024 .f32) (k : Fin 1024) :
    k0_pay8 v x (k0_pay4 x) a w (ix2 0 k) = w (ix2 0 k) + ∑ n : Fin 256, v (ix2 n k) * (k0_pay6 x (k0_pay4 x) (ix2 n k) * a (ix2 0 k)) := by pointwise [k0_pay8]

theorem pay10_at (v : FVec Ideal S256x1024 .f32) (x : Vec Ideal S256x1024 .f32) (s w : Vec Ideal S1x1024 .f32) (k : Fin 1024) :
    k0_pay10 v x (k0_pay4 x) s w (ix2 0 k) = w (ix2 0 k) + ∑ n : Fin 256, k0_pay9 v s (ix2 n k) * k0_pay6 x (k0_pay4 x) (ix2 n k) := by pointwise [k0_pay10]

theorem pay2_at (j : Fin 8) (k : Fin 1024) : k0_pay2 (F := Ideal) (ix2 j k) = 0 := by pointwise [k0_pay2]

abbrev a0 (c : Dev nD) : FVec Ideal S2048x1024 .bf16 := m ((c : Thread nD τ).loc main_arg0)
abbrev a1 (c : Dev nD) : FVec Ideal S2048x128 .bf16 := m ((c : Thread nD τ).loc main_arg1)
abbrev a2 (c : Dev nD) : FVec Ideal S2048x1024 .bf16 := m ((c : Thread nD τ).loc main_arg2)
abbrev a3 (c : Dev nD) : FVec Ideal S2048x1024 .bf16 := m ((c : Thread nD τ).loc main_arg3)
abbrev a4 (c : Dev nD) : FVec Ideal S2048x1536 .bf16 := m ((c : Thread nD τ).loc main_arg4)
abbrev a5 (c : Dev nD) : FVec Ideal S4624x1024 .bf16 := m ((c : Thread nD τ).loc main_arg5)
abbrev a6 (c : Dev nD) : FVec Ideal S2048x1024 .f32 := m ((c : Thread nD τ).loc main_arg6)
abbrev a7 (c : Dev nD) : FVec Ideal S2048x1024 .f32 := m ((c : Thread nD τ).loc main_arg7)
abbrev a8 (c : Dev nD) : FVec Ideal S8x1024 .f32 := m ((c : Thread nD τ).loc main_arg8)
abbrev a9 (c : Dev nD) : FVec Ideal S1x1024 .f32 := m ((c : Thread nD τ).loc main_arg9)

theorem tlt (t : Fin cfg0.N) : t.val < 8 := (idx t).2.2.2.2.2.2.2.2.2.2.2.2.2.2.2.2

/-- Token `n` of point `t`. -/
def tok (t : Fin cfg0.N) (n : Fin 256) : Fin 2048 := ⟨t.val * 256 + n.val, by have := tlt t; omega⟩

/-- The host's padded weight of the time-step columns. -/
theorem pad_val (c : Dev nD) : (V m c main_v2 : FVec Ideal S128x1024 .bf16) = pad S128x1024 ![0, 0] ![112, 0] ![0, 0]
    (extractStridedSlice S16x1024 ![2560, 0] (a5 m c) slices_S4624x1024_S16x1024_2560_0)
    (show FVec Ideal S_ .bf16 from sitofp FTy.bf16 (constantI S_ 32 0#32)) pads_S16x1024_S128x1024_01120_000 h_S_ := by
  show StableHlo.after [hostOps0, hostOps0_1, hostOps0_2].flatten (fun b => m (c, b)) (Proc.tc.devRef main_v2) = _
  simp only [hostOps0, hostOps0_1, hostOps0_2, List.flatten_cons, List.flatten_nil, List.append_nil, List.cons_append, List.nil_append]
  after_results_simp
  rfl

theorem pad_at (c : Dev nD) (a : Fin 128) (b : Fin 1024) :
    (V m c main_v2 : FVec Ideal S128x1024 .bf16) (ix2 a b) = if h : a.val < 16 then a5 m c (ix2 ⟨2560 + a.val, by omega⟩ b) else 0 := by
  rw [pad_val]
  have hz : FloatOps.sitofp (F := Ideal) (w := 32) FTy.bf16 0#32 = (0 : EReal) := by
    show (((0#32 : BitVec 32).toInt : ℝ) : EReal) = 0
    norm_num
  rw [← hz]
  pointwise []

theorem w3_blk (c : Dev nD) (t : Fin cfg0.N) (a : Fin 128) (b : Fin 1024) :
    (show FVec Ideal S128x1024 .bf16 from iblk m c 3 t) (ix2 a b) = if h : a.val < 16 then a5 m c (ix2 ⟨2560 + a.val, by omega⟩ b) else 0 := by
  refine Eq.trans ?_ (pad_at m c a b)
  have e0 : (((win0_3.blk t).view.emb (ix2 a b)) 0).val = a.val := by blk_simp [idx t]
  have e1 : (((win0_3.blk t).view.emb (ix2 a b)) 1).val = b.val := by blk_simp [idx t]
  show (V m c main_v2 : FVec Ideal S128x1024 .bf16) ((win0_3.blk t).view.emb (ix2 a b)) = _
  refine congrArg _ ?_
  funext q
  fin_cases q
  · exact Fin.ext e0
  · exact Fin.ext e1

theorem cf_val (c : Dev nD) : (V m c main_v1 : FVec Ideal S2048x1024 .bf16) = extractStridedSlice S2048x1024 ![2576, 0] (a5 m c) slices_S4624x1024_S2048x1024_2576_0 := by
  show StableHlo.after [hostOps0, hostOps0_1, hostOps0_2].flatten (fun b => m (c, b)) (Proc.tc.devRef main_v1) = _
  simp only [hostOps0, hostOps0_1, hostOps0_2, List.flatten_cons, List.flatten_nil, List.append_nil, List.cons_append, List.nil_append]
  after_results_simp

theorem cf_at (c : Dev nD) (z : S2048x1024.Idx) (a : Fin 2048) (b : Fin 1024) (e0 : (z 0).val = a.val) (e1 : (z 1).val = b.val) :
    (V m c main_v1 : FVec Ideal S2048x1024 .bf16) z = a5 m c (ix2 ⟨2576 + a.val, by omega⟩ b) := by
  obtain ⟨p, q, rfl⟩ : ∃ (p : Fin 2048) (q : Fin 1024), z = ix2 p q := ⟨z 0, z 1, eq_ix2 z⟩
  obtain rfl : p = a := Fin.ext e0
  obtain rfl : q = b := Fin.ext e1
  rw [cf_val]
  pointwise []

theorem w5_blk (c : Dev nD) (t : Fin cfg0.N) (a : Fin 1024) (b : Fin 1024) :
    (show FVec Ideal S1024x1024 .bf16 from iblk m c 5 t) (ix2 a b) = a5 m c (ix2 ⟨2576 + a.val, by omega⟩ b) := by
  have e0 : (((win0_5.blk t).view.emb (ix2 a b)) 0).val = a.val := by blk_simp [idx t]
  have e1 : (((win0_5.blk t).view.emb (ix2 a b)) 1).val = b.val := by blk_simp [idx t]
  exact cf_at m c _ ⟨a.val, by omega⟩ b e0 e1

theorem w7_blk (c : Dev nD) (t : Fin cfg0.N) (a : Fin 1024) (b : Fin 1024) :
    (show FVec Ideal S1024x1024 .bf16 from iblk m c 7 t) (ix2 a b) = a5 m c (ix2 ⟨3600 + a.val, by omega⟩ b) := by
  have e0 : (((win0_7.blk t).view.emb (ix2 a b)) 0).val = 1024 + a.val := by blk_simp [idx t]
  have e1 : (((win0_7.blk t).view.emb (ix2 a b)) 1).val = b.val := by blk_simp [idx t]
  refine (cf_at m c _ ⟨1024 + a.val, by omega⟩ b e0 e1).trans (congrArg (fun r => a5 m c (ix2 r b)) (Fin.ext ?_))
  show 2576 + (1024 + a.val) = 3600 + a.val
  omega

theorem xbc_val (c : Dev nD) : (V m c main_v3 : FVec Ideal S1536x1024 .bf16) = extractStridedSlice S1536x1024 ![1024, 0] (a5 m c) slices_S4624x1024_S1536x1024_1024_0 := by
  show StableHlo.after [hostOps0, hostOps0_1, hostOps0_2].flatten (fun b => m (c, b)) (Proc.tc.devRef main_v3) = _
  simp only [hostOps0, hostOps0_1, hostOps0_2, List.flatten_cons, List.flatten_nil, List.append_nil, List.cons_append, List.nil_append]
  after_results_simp

theorem w9_blk (c : Dev nD) (t : Fin cfg0.N) (a : Fin 1536) (b : Fin 1024) :
    (show FVec Ideal S1536x1024 .bf16 from iblk m c 9 t) (ix2 a b) = a5 m c (ix2 ⟨1024 + a.val, by omega⟩ b) := by
  have e0 : (((win0_9.blk t).view.emb (ix2 a b)) 0).val = a.val := by blk_simp [idx t]
  have e1 : (((win0_9.blk t).view.emb (ix2 a b)) 1).val = b.val := by blk_simp [idx t]
  show (V m c main_v3 : FVec Ideal S1536x1024 .bf16) ((win0_9.blk t).view.emb (ix2 a b)) = _
  revert e0 e1
  generalize (win0_9.blk t).view.emb (ix2 a b) = z
  intro e0 e1
  obtain ⟨p, q, rfl⟩ : ∃ (p : Fin 1536) (q : Fin 1024), z = ix2 p q := ⟨z 0, z 1, eq_ix2 z⟩
  obtain rfl : p = a := Fin.ext e0
  obtain rfl : q = b := Fin.ext e1
  rw [xbc_val]
  pointwise []

theorem w1_blk (c : Dev nD) (t : Fin cfg0.N) (a : Fin 1024) (b : Fin 1024) :
    (show FVec Ideal S1024x1024 .bf16 from X0_1 m c t) (ix2 a b) = a5 m c (ix2 ⟨a.val, by omega⟩ b) := by
  show X0_1 m c t (ix2 a b) = _
  unfold X0_1 Pipeline.Window.fill
  rw [dif_pos (moved0_1 t _)]
  blk_point [iblk, V, idx t]

/-- The padded rows add nothing. -/
theorem sum_pad (d : Fin 128 → EReal) (g : Fin 16 → EReal) :
    ∑ q : Fin 128, d q * (if h : q.val < 16 then g ⟨q.val, h⟩ else 0) = ∑ q : Fin 16, d ⟨q.val, by omega⟩ * g q := by
  refine (Fin.sum_univ_add (a := 16) (b := 112) (M := EReal) _).trans ?_
  have e : ∀ q : Fin 112, d (Fin.natAdd 16 q) * (if h : (Fin.natAdd 16 q).val < 16 then g ⟨(Fin.natAdd 16 q).val, h⟩ else 0) = 0 := fun q => by
    rw [dif_neg (by show ¬ 16 + q.val < 16; omega), mul_zero]
  refine (congrArg₂ (· + ·) rfl (Finset.sum_congr rfl fun q _ => e q)).trans ?_
  rw [Finset.sum_const_zero, add_zero]
  refine Finset.sum_congr rfl fun q _ => ?_
  rw [dif_pos (show (Fin.castAdd 112 q).val < 16 from q.isLt)]
  rfl

abbrev pdh (c : Dev nD) (t : Fin cfg0.N) : FVec Ideal S256x1024 .f32 :=
  k0_pay3 (F := Ideal) (iblk m c 0 t) (X0_1 m c t) (iblk m c 2 t) (iblk m c 3 t) (iblk m c 4 t) (iblk m c 5 t) (iblk m c 6 t) (iblk m c 7 t) (iblk m c 8 t) (iblk m c 9 t)

theorem dh_blk (c : Dev nD) (t : Fin cfg0.N) (n : Fin 256) (k : Fin 1024) :
    pdh m c t (ix2 n k) = dh (a0 m c) (a1 m c) (a2 m c) (a3 m c) (a4 m c) (a5 m c) (tok t n) k := by
  have ht := tlt t
  refine (pay3_at _ _ _ _ _ _ _ _ _ _ n k).trans ?_
  unfold dh
  refine congrArg₂ (· + ·) (congrArg₂ (· + ·) (congrArg₂ (· + ·) (congrArg₂ (· + ·) (Fin.sum_fin_congr fun q => congrArg₂ (· * ·) ?_ (w1_blk m c t q k)) ?_)
    (Fin.sum_fin_congr fun q => congrArg₂ (· * ·) ?_ (w5_blk m c t q k))) (Fin.sum_fin_congr fun q => congrArg₂ (· * ·) ?_ (w7_blk m c t q k)))
    (Fin.sum_fin_congr fun q => congrArg₂ (· * ·) ?_ (w9_blk m c t q k))
  · blk_point [iblk, V, idx t, tok]
  · refine Eq.trans (Fin.sum_fin_congr fun q => congrArg₂ (· * ·) (x' := a1 m c (ix2 (tok t n) q)) ?_ (w3_blk m c t q k)) (sum_pad (fun q => a1 m c (ix2 (tok t n) q)) (fun q => a5 m c (ix2 ⟨2560 + q.val, by omega⟩ k)))
    blk_point [iblk, V, idx t, tok]
  · blk_point [iblk, V, idx t, tok]
  · blk_point [iblk, V, idx t, tok]
  · blk_point [iblk, V, idx t, tok]

theorem x_blk (c : Dev nD) (t : Fin cfg0.N) (n : Fin 256) (k : Fin 1024) :
    (show FVec Ideal S256x1024 .f32 from iblk m c 10 t) (ix2 n k) = a6 m c (ix2 (tok t n) k) := by
  blk_point [iblk, V, idx t, tok]

theorem z_blk (c : Dev nD) (t : Fin cfg0.N) (n : Fin 256) (k : Fin 1024) :
    (show FVec Ideal S256x1024 .f32 from iblk m c 11 t) (ix2 n k) = a7 m c (ix2 (tok t n) k) := by
  blk_point [iblk, V, idx t, tok]

theorem w_blk (c : Dev nD) (t : Fin cfg0.N) (k : Fin 1024) :
    (show FVec Ideal S1x1024 .f32 from iblk m c 13 t) (ix2 0 k) = a9 m c (ix2 0 k) := by
  blk_point [iblk, V, idx t, tok]

theorem m_blk (c : Dev nD) (t : Fin cfg0.N) (j : Fin 8) (k : Fin 1024) :
    (show FVec Ideal S8x1024 .f32 from iblk m c 12 t) (ix2 j k) = a8 m c (ix2 j k) := by
  blk_point [iblk, V, idx t, tok]

theorem xn_blk (c : Dev nD) (t : Fin cfg0.N) (n : Fin 256) (k : Fin 1024) :
    k0_pay6 (F := Ideal) (iblk m c 10 t) (k0_pay4 (F := Ideal) (iblk m c 10 t)) (ix2 n k) = xn (a6 m c) (tok t n) k := by
  rw [pay6_at]
  unfold xn
  exact congrArg₂ (· * ·) (x_blk m c t n k) (congrArg rinv (funext fun q => x_blk m c t n q))

theorem ds_blk (c : Dev nD) (t : Fin cfg0.N) (h) (n : Fin 256) (k : Fin 1024) :
    k0_pay9 (F := Ideal) (pdh m c t) (View.ld (show FVec Ideal S8x1024 .f32 from iblk m c 12 t) (Rect.unit (s := S8x1024) ![1, 0] ![1, 1024] h)) (ix2 n k) = ds (a0 m c) (a1 m c) (a2 m c) (a3 m c) (a4 m c) (a5 m c) (a8 m c) (tok t n) k := by
  rw [pay9_at]
  exact congrArg₂ (· * ·) (dh_blk m c t n k) (congrArg (1 + ·) ((Cert.Rows.ld_row 1 h (show FVec Ideal S8x1024 .f32 from iblk m c 12 t) 1 k rfl).trans (m_blk m c t 1 k)))

theorem dx_blk (c : Dev nD) (t : Fin cfg0.N) (h) (n : Fin 256) (k : Fin 1024) :
    k0_pay1 (F := Ideal) (k0_pay5 (k0_pay4 (F := Ideal) (iblk m c 10 t))) (k0_pay6 (F := Ideal) (iblk m c 10 t) (k0_pay4 (F := Ideal) (iblk m c 10 t)))
      (k0_pay9 (F := Ideal) (pdh m c t) (View.ld (show FVec Ideal S8x1024 .f32 from iblk m c 12 t) (Rect.unit (s := S8x1024) ![1, 0] ![1, 1024] h))) (iblk m c 13 t) (iblk m c 11 t) (ix2 n k) = dx (a0 m c) (a1 m c) (a2 m c) (a3 m c) (a4 m c) (a5 m c) (a6 m c) (a7 m c) (a8 m c) (a9 m c) (tok t n) k := by
  refine (pay1_at _ _ _ _ n k).trans ?_
  unfold dx
  exact congrArg₂ (· + ·) (congrArg₂ (fun u v => back u v k) (funext fun q => x_blk m c t n q)
    (funext fun q => congrArg₂ (· * ·) (ds_blk m c t h n q) (w_blk m c t q))) (z_blk m c t n k)

abbrev trow (c : Dev nD) (j : Fin 8) (n : Fin 2048) (k : Fin 1024) : EReal :=
  row (a0 m c) (a1 m c) (a2 m c) (a3 m c) (a4 m c) (a5 m c) (a6 m c) (a8 m c) (a9 m c) j n k

/-- What one point adds to the vector gradients. -/
def term (c : Dev nD) (t : Fin cfg0.N) (i : S8x1024.Idx) : EReal := ∑ n : Fin 256, trow m c (i 0) (tok t n) (i 1)

theorem rows_step (c : Dev nD) (t : Fin cfg0.N) (P : FVec Ideal S8x1024 .f32) (h h0 h1 h2) (j : Fin 8) (k : Fin 1024) :
    (if j.val = 2 then k0_pay10 (F := Ideal) (pdh m c t) (iblk m c 10 t) (k0_pay4 (F := Ideal) (iblk m c 10 t)) (View.ld (show FVec Ideal S8x1024 .f32 from iblk m c 12 t) (Rect.unit (s := S8x1024) ![1, 0] ![1, 1024] h))
        (View.ld P (Rect.unit (s := S8x1024) ![2, 0] ![1, 1024] h2)) (ix2 0 k)
      else if j.val = 1 then k0_pay8 (F := Ideal) (pdh m c t) (iblk m c 10 t) (k0_pay4 (F := Ideal) (iblk m c 10 t)) (iblk m c 13 t)
        (View.ld P (Rect.unit (s := S8x1024) ![1, 0] ![1, 1024] h1)) (ix2 0 k)
      else if j.val = 0 then k0_pay7 (F := Ideal) (pdh m c t)
        (View.ld P (Rect.unit (s := S8x1024) ![0, 0] ![1, 1024] h0)) (ix2 0 k)
      else P (ix2 j k)) = P (ix2 j k) + ∑ n : Fin 256, trow m c j (tok t n) k := by
  unfold trow row
  by_cases e2 : j.val = 2
  · simp only [if_pos e2]
    refine (pay10_at _ _ _ _ k).trans ?_
    exact congrArg₂ (· + ·) (Cert.Rows.ld_row 2 h2 P j k e2) (Fin.sum_fin_congr fun n => congrArg₂ (· * ·) (ds_blk m c t h n k) (xn_blk m c t n k))
  by_cases e1 : j.val = 1
  · simp only [if_neg e2, if_pos e1]
    refine (pay8_at _ _ _ _ k).trans ?_
    exact congrArg₂ (· + ·) (Cert.Rows.ld_row 1 h1 P j k e1) (Fin.sum_fin_congr fun n => congrArg₂ (· * ·) (dh_blk m c t n k) (congrArg₂ (· * ·) (xn_blk m c t n k) (w_blk m c t k)))
  by_cases e0 : j.val = 0
  · simp only [if_neg e2, if_neg e1, if_pos e0]
    refine (pay7_at _ _ k).trans ?_
    exact congrArg₂ (· + ·) (Cert.Rows.ld_row 0 h0 P j k e0) (Fin.sum_fin_congr fun n => dh_blk m c t n k)
  · simp only [if_neg e2, if_neg e1, if_neg e0, Finset.sum_const_zero, add_zero]

theorem reset (c : Dev nD) (t : Fin cfg0.N) (h0 : t.val % 8 = 0) (y : S8x1024.Idx) : (outsAt0 m c t.val t.isLt).2 y = 0 + term m c t y := by
  obtain ⟨j, k, rfl⟩ : ∃ (j : Fin 8) (k : Fin 1024), y = ix2 j k := ⟨y 0, y 1, eq_ix2 y⟩
  rw [outsAt0_A m c t h0]
  frame_out
  simp (disch := decide) only [↓ View.readCov_skip, ↓ View.readCov_cons_toLoadRect, ↓ View.readCov_fill]
  refine (Cert.Rows.canon_row 2 _ _ _ j k).trans ?_
  refine (congrArg (ite _ _) ((Cert.Rows.canon_row 1 _ _ _ j k).trans
    (congrArg (ite _ _) ((Cert.Rows.canon_row 0 _ _ _ j k).trans (congrArg (ite _ _) (Cert.Rows.canon_whole _ _ _ j k)))))).trans ?_
  refine (rows_step m c t (k0_pay2 (F := Ideal)) _ _ _ _ j k).trans ?_
  rw [pay2_at]
  rfl

theorem step (c : Dev nD) (t : Fin cfg0.N) (h0 : ¬ t.val % 8 = 0) (y : S8x1024.Idx) :
    (outsAt0 m c t.val t.isLt).2 y = (outsAt0 m c (t.val - 1) (by have := t.isLt; omega)).2 y + term m c t y := by
  obtain ⟨j, k, rfl⟩ : ∃ (j : Fin 8) (k : Fin 1024), y = ix2 j k := ⟨y 0, y 1, eq_ix2 y⟩
  rw [outsAt0_B m c t h0]
  frame_out
  refine (Cert.Rows.read_row _ _ 2 _ _ _ j k).trans ?_
  refine (congrArg (ite _ _) ((Cert.Rows.read_row _ _ 1 _ _ _ j k).trans
    (congrArg (ite _ _) ((Cert.Rows.read_row _ _ 0 _ _ _ j k).trans (congrArg (ite _ _) (congrFun (Memref.IsWhole.read_unread _ _) (ix2 j k))))))).trans ?_
  exact rows_step m c t (outsAt0 m c (t.val - 1) (by have := t.isLt; omega)).2 _ _ _ _ j k

theorem out14 (c : Dev nD) (t : Fin cfg0.N) (n : Fin 256) (k : Fin 1024) :
    (outsAt0 m c t.val t.isLt).1 (ix2 n k) = dx (a0 m c) (a1 m c) (a2 m c) (a3 m c) (a4 m c) (a5 m c) (a6 m c) (a7 m c) (a8 m c) (a9 m c) (tok t n) k := by
  by_cases h0 : t.val % 8 = 0
  · rw [outsAt0_A m c t h0]
    frame_out
    exact dx_blk m c t _ n k
  · rw [outsAt0_B m c t h0]
    frame_out
    exact dx_blk m c t _ n k

theorem final14 (c : Dev nD) : (dats m 0 c).arrAt 14 (cfgs 0).N = G14 (a0 m c) (a1 m c) (a2 m c) (a3 m c) (a4 m c) (a5 m c) (a6 m c) (a7 m c) (a8 m c) (a9 m c) := by
  refine (dats m 0 c).arrAt_eq_of_covers 14 _ (by decide +kernel) fun t _ y => ?_
  have ht := tlt t
  have e0 : ((((cfg0.win 14).blk t).view.emb y) 0).val = t.val * 256 + (y 0).val := by blk_simp [idx t]
  have e1 : ((((cfg0.win 14).blk t).view.emb y) 1).val = (y 1).val := by blk_simp [idx t]
  blk_simp
  rw [after0_14]
  revert e0 e1
  generalize ((cfg0.win 14).blk t).view.emb y = z
  intro e0 e1
  obtain ⟨n, k, rfl⟩ : ∃ (n : Fin 256) (k : Fin 1024), y = ix2 n k := ⟨y 0, y 1, eq_ix2 y⟩
  refine (out14 m c t n k).trans ?_
  unfold G14
  rw [show z 0 = tok t n from Fin.ext e0, show z 1 = k from Fin.ext e1]

theorem final15 (c : Dev nD) : (dats m 0 c).arrAt 15 (cfgs 0).N = G15 (a0 m c) (a1 m c) (a2 m c) (a3 m c) (a4 m c) (a5 m c) (a6 m c) (a8 m c) (a9 m c) := by
  refine (dats m 0 c).arrAt_eq_of_covers 15 _ (by decide +kernel) fun t hf y => ?_
  have ht := tlt t
  have e0 : ((((cfg0.win 15).blk t).view.emb y) 0).val = (y 0).val := by blk_simp [idx t]
  have e1 : ((((cfg0.win 15).blk t).view.emb y) 1).val = (y 1).val := by blk_simp [idx t]
  blk_simp
  rw [after0_15, Pipeline.eq_sum_fin_of_reset_step_apply_of_flush (fun n h => (outsAt0 m c n h).2) 8 (fun _ => 0) (term m c)
    (fun t h j => reset m c t h j) (fun t h j => step m c t h j) t ((flush0_15 t).mp hf) _, zero_add]
  revert e0 e1
  generalize ((cfg0.win 15).blk t).view.emb y = z
  intro e0 e1
  unfold G15
  rw [show z 0 = y 0 from Fin.ext e0, show z 1 = y 1 from Fin.ext e1]
  refine Fin.sum_mul_add_congr fun s k hl => ?_
  have hs := Pipeline.run_point_lt_of_flush t ((flush0_15 t).mp hf) s
  refine congrArg (fun q => trow m c (y 0) q (y 1)) (Fin.ext ?_)
  show (8 * (t.val / 8) + s.val) * 256 + k.val = s.val * 256 + k.val
  rw [Nat.div_eq_of_lt ht]
  omega

end Cert.Norm1BwdIdeal.Sum

namespace Cert.Norm1
open Cert.Norm1GradIdeal Cert.Norm1GradIdeal.Read Cert.Norm1BwdIdeal.Sum Cert.Rms

variable (Z : FVec Ideal Cert.Norm1GradIdeal.S2048x1024 .bf16) (T : FVec Ideal Cert.Norm1GradIdeal.S2048x128 .bf16) (A B : FVec Ideal Cert.Norm1GradIdeal.S2048x1024 .bf16) (C : FVec Ideal Cert.Norm1GradIdeal.S2048x1536 .bf16) (F : FVec Ideal Cert.Norm1GradIdeal.S4624x1024 .bf16)
  (X R : FVec Ideal Cert.Norm1GradIdeal.S2048x1024 .f32)
  (M : FVec Ideal Cert.Norm1GradIdeal.S8x1024 .f32) (W : FVec Ideal Cert.Norm1GradIdeal.S1x1024 .f32)

/-- A sum over the five parts of the projection's columns, laid end to end, splits into the five sums. -/
theorem five (z : Fin 1024 → EReal) (x : Fin 1536 → EReal) (d : Fin 16 → EReal) (a b : Fin 1024 → EReal) (f : Fin 4624 → EReal) :
    ∑ x_1 : Fin 4624, (if h : x_1.val < 1024 then z ⟨x_1.val, h⟩ else if h : x_1.val - 1024 < 1536 then x ⟨x_1.val - 1024, h⟩
      else if h : x_1.val - 1024 - 1536 < 16 then d ⟨x_1.val - 1024 - 1536, h⟩
      else if h : x_1.val - 1024 - 1536 - 16 < 1024 then a ⟨x_1.val - 1024 - 1536 - 16, h⟩ else b ⟨x_1.val - 1024 - 1536 - 16 - 1024, by omega⟩) * f x_1
      = ∑ q : Fin 1024, z q * f ⟨q.val, by omega⟩ + ∑ q : Fin 16, d q * f ⟨2560 + q.val, by omega⟩ + ∑ q : Fin 1024, a q * f ⟨2576 + q.val, by omega⟩
        + ∑ q : Fin 1024, b q * f ⟨3600 + q.val, by omega⟩ + ∑ q : Fin 1536, x q * f ⟨1024 + q.val, by omega⟩ := by
  refine (Fin.sum_univ_add (a := 1024) (b := 3600) (M := EReal) _).trans ?_
  refine (congrArg₂ (· + ·) rfl ((Fin.sum_univ_add (a := 1536) (b := 2064) (M := EReal) _).trans (congrArg₂ (· + ·) rfl
    ((Fin.sum_univ_add (a := 16) (b := 2048) (M := EReal) _).trans (congrArg₂ (· + ·) rfl (Fin.sum_univ_add (a := 1024) (b := 1024) (M := EReal) _)))))).trans ?_
  have h1 : ∀ q : Fin 1024, (Fin.castAdd 3600 q).val = q.val := fun _ => rfl
  have h2 : ∀ q : Fin 1536, (Fin.natAdd 1024 (Fin.castAdd 2064 q)).val = 1024 + q.val := fun _ => rfl
  have h3 : ∀ q : Fin 16, (Fin.natAdd 1024 (Fin.natAdd 1536 (Fin.castAdd 2048 q))).val = 2560 + q.val := fun q => by
    show 1024 + (1536 + q.val) = _
    omega
  have h4 : ∀ q : Fin 1024, (Fin.natAdd 1024 (Fin.natAdd 1536 (Fin.natAdd 16 (Fin.castAdd 1024 q)))).val = 2576 + q.val := fun q => by
    show 1024 + (1536 + (16 + q.val)) = _
    omega
  have h5 : ∀ q : Fin 1024, (Fin.natAdd 1024 (Fin.natAdd 1536 (Fin.natAdd 16 (Fin.natAdd 1024 q)))).val = 3600 + q.val := fun q => by
    show 1024 + (1536 + (16 + (1024 + q.val))) = _
    omega
  have s1 : ∀ q : Fin 1024, f (Fin.castAdd 3600 q) = f ⟨q.val, by omega⟩ := fun q => congrArg f (Fin.ext (h1 q))
  have s2 : ∀ q : Fin 1536, f (Fin.natAdd 1024 (Fin.castAdd 2064 q)) = f ⟨1024 + q.val, by omega⟩ := fun q => congrArg f (Fin.ext (h2 q))
  have s3 : ∀ q : Fin 16, f (Fin.natAdd 1024 (Fin.natAdd 1536 (Fin.castAdd 2048 q))) = f ⟨2560 + q.val, by omega⟩ := fun q => congrArg f (Fin.ext (h3 q))
  have s4 : ∀ q : Fin 1024, f (Fin.natAdd 1024 (Fin.natAdd 1536 (Fin.natAdd 16 (Fin.castAdd 1024 q)))) = f ⟨2576 + q.val, by omega⟩ := fun q => congrArg f (Fin.ext (h4 q))
  have s5 : ∀ q : Fin 1024, f (Fin.natAdd 1024 (Fin.natAdd 1536 (Fin.natAdd 16 (Fin.natAdd 1024 q)))) = f ⟨3600 + q.val, by omega⟩ := fun q => congrArg f (Fin.ext (h5 q))
  refine (congrArg₂ (· + ·) (x' := ∑ q : Fin 1024, z q * f ⟨q.val, by omega⟩) (Finset.sum_congr rfl fun q _ => ?_)
    (congrArg₂ (· + ·) (x' := ∑ q : Fin 1536, x q * f ⟨1024 + q.val, by omega⟩) (Finset.sum_congr rfl fun q _ => ?_)
    (congrArg₂ (· + ·) (x' := ∑ q : Fin 16, d q * f ⟨2560 + q.val, by omega⟩) (Finset.sum_congr rfl fun q _ => ?_)
    (congrArg₂ (· + ·) (x' := ∑ q : Fin 1024, a q * f ⟨2576 + q.val, by omega⟩) (y' := ∑ q : Fin 1024, b q * f ⟨3600 + q.val, by omega⟩) (Finset.sum_congr rfl fun q _ => ?_)
      (Finset.sum_congr rfl fun q _ => ?_))))).trans ?_
  · rw [s1, dif_pos (show (Fin.castAdd 3600 q).val < 1024 from q.isLt)]
    rfl
  · rw [s2, dif_neg (by rw [h2]; omega), dif_pos (by rw [h2]; omega)]
    exact congrArg (x · * _) (Fin.ext (by show 1024 + q.val - 1024 = _; omega))
  · rw [s3, dif_neg (by rw [h3]; omega), dif_neg (by rw [h3]; omega), dif_pos (by rw [h3]; omega)]
    exact congrArg (d · * _) (Fin.ext (by show (Fin.natAdd 1024 (Fin.natAdd 1536 (Fin.castAdd 2048 q))).val - 1024 - 1536 = _; rw [h3]; omega))
  · rw [s4, dif_neg (by rw [h4]; omega), dif_neg (by rw [h4]; omega), dif_neg (by rw [h4]; omega), dif_pos (by rw [h4]; omega)]
    exact congrArg (a · * _) (Fin.ext (by show (Fin.natAdd 1024 (Fin.natAdd 1536 (Fin.natAdd 16 (Fin.castAdd 1024 q)))).val - 1024 - 1536 - 16 = _; rw [h4]; omega))
  · rw [s5, dif_neg (by rw [h5]; omega), dif_neg (by rw [h5]; omega), dif_neg (by rw [h5]; omega), dif_neg (by rw [h5]; omega)]
    exact congrArg (b · * _) (Fin.ext (by show (Fin.natAdd 1024 (Fin.natAdd 1536 (Fin.natAdd 16 (Fin.natAdd 1024 q)))).val - 1024 - 1536 - 16 - 1024 = _; rw [h5]; omega))
  · ac_rfl

theorem dh_at (n : Fin 2048) (k : Fin 1024) : val_main_v29 (F := Ideal) Z T A B C F (ix2 n k) = dh Z T A B C F n k := by
  pointwise [val_main_v29, val_main_v2, val_main_v1, val_main_v0, val_main_v27, val_main_v26]
  unfold dh
  exact five (fun q => Z (ix2 n q)) (fun q => C (ix2 n q)) (fun q => T (ix2 n ⟨q.val, by omega⟩)) (fun q => A (ix2 n q)) (fun q => B (ix2 n q)) (fun x => F (ix2 x k))

theorem xn_at (n : Fin 2048) (k : Fin 1024) : val_main_v17 (F := Ideal) X (ix2 n k) = xn X n k := by
  pointwise [val_main_v17, val_main_v16, val_main_v12, val_main_v11, val_main_v10, val_main_cst_1, val_main_v9, val_main_v8, val_main_cst_0, val_main_v7, val_main_v6, val_main_cst, val_main_v5, xn, rinv]

theorem xnw_at (n : Fin 2048) (k : Fin 1024) : val_main_v19 (F := Ideal) X W (ix2 n k) = xn X n k * W (ix2 0 k) := by
  pointwise [val_main_v19, val_main_v18]
  exact congrArg (· * _) (xn_at X n k)

theorem ds_at (n : Fin 2048) (k : Fin 1024) : val_main_v36 (F := Ideal) Z T A B C F M (ix2 n k) = ds Z T A B C F M n k := by
  pointwise [val_main_v36, val_main_v35, val_main_v21, val_main_v20, val_main_cst_3, val_main_v4, ds]
  exact congrArg (· * _) (dh_at Z T A B C F n k)

theorem dn_at (n : Fin 2048) (k : Fin 1024) : val_main_v41 (F := Ideal) Z T A B C F M W (ix2 n k) = ds Z T A B C F M n k * W (ix2 0 k) := by
  pointwise [val_main_v41, val_main_v40]
  exact congrArg (· * _) (ds_at Z T A B C F M n k)

theorem c_at (n : Fin 2048) (k : Fin 1024) : val_main_v51 (F := Ideal) Z T A B C F X M W (ix2 n k) = (Ideal.div
        ((∑ x, X (ix2 n x) * (ds Z T A B C F M n x * W (ix2 0 x))) *
          (Ideal.ofBits FTy.f32 3204448256#32 *
            Ideal.div (rinv (fun q => X (ix2 n q)))
              (Ideal.div (∑ x, X (ix2 n x) * X (ix2 n x)) (Ideal.ofBits FTy.f32 1149239296#32) +
                Ideal.ofBits FTy.f32 897988541#32)))
        (Ideal.ofBits FTy.f32 1149239296#32)) := by
  pointwise [val_main_v51, val_main_v50, val_main_cst_9, val_main_v49, val_main_v48, val_main_cst_8, val_main_v47, val_main_v44, val_main_v43, val_main_cst_7, val_main_v42, val_main_v15, val_main_v14, val_main_cst_2, val_main_v13, val_main_v12, val_main_v11, val_main_v10, val_main_cst_1, val_main_v9, val_main_v8, val_main_cst_0, val_main_v7, val_main_v6, val_main_cst, val_main_v5]
  refine (Fin.sum_univ_one _).trans ?_
  simp only [dn_at, rinv]

theorem dx_at (n : Fin 2048) (k : Fin 1024) : val_main_v56 (F := Ideal) Z T A B C F X R M W (ix2 n k) = dx Z T A B C F X R M W n k := by
  pointwise [val_main_v56, val_main_v55, val_main_v54, val_main_v53, val_main_v52, val_main_v46, val_main_v45, val_main_v12, val_main_v11, val_main_v10, val_main_cst_1, val_main_v9, val_main_v8, val_main_cst_0, val_main_v7, val_main_v6, val_main_cst, val_main_v5]
  rw [c_at, dn_at]
  unfold dx back
  exact congrArg (· + _) (bwd (fun q => X (ix2 n q)) (fun q => ds Z T A B C F M n q * W (ix2 0 q)) k _ _ rfl rfl).symm

theorem at14 : val_main_v56 (F := Ideal) Z T A B C F X R M W = G14 Z T A B C F X R M W := by
  funext (y : Cert.Norm1GradIdeal.S2048x1024.Idx)
  obtain ⟨n, k, rfl⟩ : ∃ (n : Fin 2048) (k : Fin 1024), y = ix2 n k := ⟨y 0, y 1, eq_ix2 y⟩
  exact dx_at Z T A B C F X R M W n k

theorem at15 : val_main_v58 (F := Ideal) Z T A B C F X M W = G15 Z T A B C F X M W := by
  funext (y : Cert.Norm1GradIdeal.S8x1024.Idx)
  obtain ⟨j, k, rfl⟩ : ∃ (j : Fin 8) (k : Fin 1024), y = ix2 j k := ⟨y 0, y 1, eq_ix2 y⟩
  pointwise [val_main_v58, val_main_v57, val_main_cst_10, val_main_v39, val_main_v38, val_main_cst_6, val_main_v37, val_main_v34, val_main_v33, val_main_cst_5, val_main_v32, val_main_v31, val_main_v30, val_main_cst_4]
  unfold G15 row
  simp only [dh_at, xn_at, xnw_at, ds_at, dx_at]
  rcases j with ⟨_ | _ | _ | j, hj⟩
  · simp
  · simp
    exact Finset.sum_congr rfl fun n _ => mul_comm _ _
  · simp
    exact Finset.sum_congr rfl fun n _ => mul_comm _ _
  · simp

/-- The reference leaves its arguments alone, and it has no semaphore. -/
theorem reference_frame : Cert.quiescent_Norm1GradIdeal := by
  intro m g _
  exact (θ_run _ _ _).mono (fun r h => ⟨fun c => (h c).2.2, sem_eq_zero_of_no_sems (by decide) r.2⟩) (Cert.Norm1GradIdeal.Value.run m g)

theorem algebraic : Cert.algebraic_Norm1BwdIdeal_Norm1GradIdeal := by
  intro m g m' g' hpre hagree
  refine ⟨fun c => G14 (a0 m c) (a1 m c) (a2 m c) (a3 m c) (a4 m c) (a5 m c) (a6 m c) (a7 m c) (a8 m c) (a9 m c), fun c => G15 (a0 m c) (a1 m c) (a2 m c) (a3 m c) (a4 m c) (a5 m c) (a6 m c) (a8 m c) (a9 m c), ?_, ?_⟩
  · exact (θ_run _ _ _).mono (fun r h c => ⟨(h c).1.trans (final14 m c), (h c).2.1.trans (final15 m c), (h c).2.2⟩) (Cert.Norm1BwdIdeal.Value.run_blocks m g)
  · refine (θ_run _ _ _).mono (fun r h c => ⟨(h c).1.trans ?_, (h c).2.1.trans ?_, (h c).2.2⟩) (Cert.Norm1GradIdeal.Value.run m' g')
    · refine (Cert.Norm1GradIdeal.Read.val_main_v56_eq m' c).trans ?_
      rw [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2]
      exact at14 _ _ _ _ _ _ _ _ _ _
    · refine (Cert.Norm1GradIdeal.Read.val_main_v58_eq m' c).trans ?_
      rw [(hagree c).1, (hagree c).2.1, (hagree c).2.2.1, (hagree c).2.2.2.1, (hagree c).2.2.2.2.1, (hagree c).2.2.2.2.2.1, (hagree c).2.2.2.2.2.2.1, (hagree c).2.2.2.2.2.2.2.2.1, (hagree c).2.2.2.2.2.2.2.2.2]
      exact at15 _ _ _ _ _ _ _ _ _

end Cert.Norm1

end
-- ==== Proof.Adam.lean ====
module

public import Idealize.ShloMosaic.Lib.Pointwise

@[expose] public section

noncomputable section

open Idealize.ShloMosaic

/-! The AdamW step on one entry, with the constants of the program. -/

namespace Cert.Adam

/-- The first moment: nine tenths of the old one and a tenth of the gradient. -/
def mnew (g x : EReal) : EReal := Ideal.ofBits FTy.f32 1063675494#32 * x + Ideal.ofBits FTy.f32 1036831949#32 * g

/-- The second moment, with the gradient's square. -/
def vnew (g x : EReal) : EReal := Ideal.ofBits FTy.f32 1065336439#32 * x + Ideal.ofBits FTy.f32 981668463#32 * (g * g)

/-- The change of the weight: both moments corrected for the step number, the decay, the learning rate. -/
def delta (w g x y : EReal) : EReal :=
  Ideal.ofBits FTy.f32 3129152111#32 *
    (Ideal.div (Ideal.div (mnew g x) (Ideal.ofBits FTy.f32 1059503362#32))
        (Ideal.sqrt (Ideal.div (vnew g y) (Ideal.ofBits FTy.f32 1008933580#32)) + Ideal.ofBits FTy.f32 841731191#32)
      + Ideal.ofBits FTy.f32 1008981770#32 * w)

/-- The eight devices' parts, added in order. -/
theorem eight (f : Fin 8 → EReal) : f 0 + f 1 + f 2 + f 3 + f 4 + f 5 + f 6 + f 7 = ∑ q : Fin 8, f q := by
  rw [Fin.sum_univ_eight]

end Cert.Adam

end
-- ==== Proof.AdamInValue.lean ====
module

public import proofs.«01_k».proof.Defs
public import proofs.«01_k».proof.Proof.Adam
public import proofs.«01_k».proof.Proof.Gen.AdamInIdeal.Value
public import proofs.«01_k».proof.Proof.Gen.StepInIdeal.Read
public import Idealize.ShloMosaic.Lib.Pipeline.ValueKit
public import Idealize.ShloMosaic.Lib.Pipeline.ReadBack
public import Idealize.ShloMosaic.Lib.Pointwise
public import Idealize.ShloMosaic.Lib.Claim
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.AdamInIdeal.Sum
open Cert.AdamInIdeal Cert.AdamInIdeal.Gen Cert.Adam

variable (m : (ℓ : Loc nD τ sig) → Buf (Elt Ideal) ℓ)

theorem idx : ∀ t : Fin cfg0.N, win0_0.index t = ![0, t.val] ∧ win0_1.index t = ![0, 0, t.val] ∧ win0_2.index t = ![0, t.val]
    ∧ win0_3.index t = ![0, t.val] ∧ win0_4.index t = ![0, t.val] ∧ win0_5.index t = ![0, t.val] ∧ win0_6.index t = ![0, t.val]
    ∧ win0_7.index t = ![0, t.val] ∧ t.val < 2 :=
  (by decide +kernel : ∀ t : Fin grid0.N, _)

/-- The gradient: the eight devices' parts, added. -/
def grad (D : FVec Ideal S8x578x1024 .bf16) (n : Fin 578) (k : Fin 1024) : EReal := ∑ q : Fin 8, D (ix3 q n k)

/-- An entry of a weight or a moment, which the host turns round. -/
def ent (W : FVec Ideal S1x1024x578 .f32) (n : Fin 578) (k : Fin 1024) : EReal := W (ix3 0 k n)

def G4 (D : FVec Ideal S8x578x1024 .bf16) : FVec Ideal S578x1024 .f32 := fun i => grad D (i 0) (i 1)

def G5 (W : FVec Ideal S1x1024x578 .f32) (D : FVec Ideal S8x578x1024 .bf16) (M N : FVec Ideal S1x1024x578 .f32) : FVec Ideal S578x1024 .f32 := fun i =>
  delta (ent W (i 0) (i 1)) (grad D (i 0) (i 1)) (ent M (i 0) (i 1)) (ent N (i 0) (i 1))

def G6 (D : FVec Ideal S8x578x1024 .bf16) (M : FVec Ideal S1x1024x578 .f32) : FVec Ideal S578x1024 .f32 := fun i => mnew (grad D (i 0) (i 1)) (ent M (i 0) (i 1))

def G7 (D : FVec Ideal S8x578x1024 .bf16) (N : FVec Ideal S1x1024x578 .f32) : FVec Ideal S578x1024 .f32 := fun i => vnew (grad D (i 0) (i 1)) (ent N (i 0) (i 1))

theorem pay1_at (g x : Vec Ideal S578x512 .f32) (n : Fin 578) (k : Fin 512) :
    k0_pay1 (F := Ideal) g x (ix2 n k) = mnew (g (ix2 n k)) (x (ix2 n k)) := by pointwise [k0_pay1, mnew]

theorem pay2_at (g x : Vec Ideal S578x512 .f32) (n : Fin 578) (k : Fin 512) :
    k0_pay2 (F := Ideal) g x (ix2 n k) = vnew (g (ix2 n k)) (x (ix2 n k)) := by pointwise [k0_pay2, vnew]

theorem pay3_at (g w x y : Vec Ideal S578x512 .f32) (n : Fin 578) (k : Fin 512) :
    k0_pay3 (F := Ideal) g w x y (ix2 n k) = delta (w (ix2 n k)) (g (ix2 n k)) (x (ix2 n k)) (y (ix2 n k)) := by
  pointwise [k0_pay3]
  rw [pay1_at, pay2_at]
  rfl

theorem pay5_at (w : Vec Ideal S578x512 .f32) (s : Vec Ideal S8x578x512 .bf16) (x y : Vec Ideal S578x512 .f32) (n : Fin 578) (k : Fin 512) :
    k0_pay5 (F := Ideal) w s x y (ix2 n k) = ∑ q : Fin 8, s (ix3 q n k) := by
  pointwise [k0_pay5, k0_pay4]
  exact eight (fun q => s (ix3 q n k))

abbrev a0 (c : Dev nD) : FVec Ideal S1x1024x578 .f32 := m ((c : Thread nD τ).loc main_arg0)
abbrev a1 (c : Dev nD) : FVec Ideal S8x578x1024 .bf16 := m ((c : Thread nD τ).loc main_arg1)
abbrev a2 (c : Dev nD) : FVec Ideal S1x1024x578 .f32 := m ((c : Thread nD τ).loc main_arg2)
abbrev a3 (c : Dev nD) : FVec Ideal S1x1024x578 .f32 := m ((c : Thread nD τ).loc main_arg3)

theorem tlt (t : Fin cfg0.N) : t.val < 2 := (idx t).2.2.2.2.2.2.2.2

/-- Column `k` of point `t`. -/
def col (t : Fin cfg0.N) (k : Fin 512) : Fin 1024 := ⟨t.val * 512 + k.val, by have := tlt t; omega⟩

theorem host0 (c : Dev nD) : (V m c main_v1 : FVec Ideal S578x1024 .f32) = shapeCast S578x1024 (transpose S1x578x1024 [0, 2, 1] (a0 m c) transposes_S1x1024x578_S1x578x1024_0_2_1) shapeCasts_S1x578x1024_S578x1024 := by
  show StableHlo.after hostOps0 (fun b => m (c, b)) (Proc.tc.devRef main_v1) = _
  simp only [hostOps0]
  after_results_simp
  rfl

theorem blk0 (c : Dev nD) (t : Fin cfg0.N) (n : Fin 578) (k : Fin 512) :
    (show FVec Ideal S578x512 .f32 from iblk m c 0 t) (ix2 n k) = ent (a0 m c) n (col t k) := by
  have ht := tlt t
  have e0 : (((win0_0.blk t).view.emb (ix2 n k)) 0).val = n.val := by blk_simp [idx t]
  have e1 : (((win0_0.blk t).view.emb (ix2 n k)) 1).val = t.val * 512 + k.val := by blk_simp [idx t]
  show (V m c main_v1 : FVec Ideal S578x1024 .f32) ((win0_0.blk t).view.emb (ix2 n k)) = _
  revert e0 e1
  generalize (win0_0.blk t).view.emb (ix2 n k) = z
  intro e0 e1
  obtain ⟨p, q, rfl⟩ : ∃ (p : Fin 578) (q : Fin 1024), z = ix2 p q := ⟨z 0, z 1, eq_ix2 z⟩
  obtain rfl : p = n := Fin.ext e0
  obtain rfl : q = col t k := Fin.ext e1
  rw [host0]
  unfold ent
  pointwise []

theorem host2 (c : Dev nD) : (V m c main_v3 : FVec Ideal S578x1024 .f32) = shapeCast S578x1024 (transpose S1x578x1024 [0, 2, 1] (a2 m c) transposes_S1x1024x578_S1x578x1024_0_2_1) shapeCasts_S1x578x1024_S578x1024 := by
  show StableHlo.after hostOps0 (fun b => m (c, b)) (Proc.tc.devRef main_v3) = _
  simp only [hostOps0]
  after_results_simp
  rfl

theorem blk2 (c : Dev nD) (t : Fin cfg0.N) (n : Fin 578) (k : Fin 512) :
    (show FVec Ideal S578x512 .f32 from iblk m c 2 t) (ix2 n k) = ent (a2 m c) n (col t k) := by
  have ht := tlt t
  have e0 : (((win0_2.blk t).view.emb (ix2 n k)) 0).val = n.val := by blk_simp [idx t]
  have e1 : (((win0_2.blk t).view.emb (ix2 n k)) 1).val = t.val * 512 + k.val := by blk_simp [idx t]
  show (V m c main_v3 : FVec Ideal S578x1024 .f32) ((win0_2.blk t).view.emb (ix2 n k)) = _
  revert e0 e1
  generalize (win0_2.blk t).view.emb (ix2 n k) = z
  intro e0 e1
  obtain ⟨p, q, rfl⟩ : ∃ (p : Fin 578) (q : Fin 1024), z = ix2 p q := ⟨z 0, z 1, eq_ix2 z⟩
  obtain rfl : p = n := Fin.ext e0
  obtain rfl : q = col t k := Fin.ext e1
  rw [host2]
  unfold ent
  pointwise []

theorem host3 (c : Dev nD) : (V m c main_v5 : FVec Ideal S578x1024 .f32) = shapeCast S578x1024 (transpose S1x578x1024 [0, 2, 1] (a3 m c) transposes_S1x1024x578_S1x578x1024_0_2_1) shapeCasts_S1x578x1024_S578x1024 := by
  show StableHlo.after hostOps0 (fun b => m (c, b)) (Proc.tc.devRef main_v5) = _
  simp only [hostOps0]
  after_results_simp
  rfl

theorem blk3 (c : Dev nD) (t : Fin cfg0.N) (n : Fin 578) (k : Fin 512) :
    (show FVec Ideal S578x512 .f32 from iblk m c 3 t) (ix2 n k) = ent (a3 m c) n (col t k) := by
  have ht := tlt t
  have e0 : (((win0_3.blk t).view.emb (ix2 n k)) 0).val = n.val := by blk_simp [idx t]
  have e1 : (((win0_3.blk t).view.emb (ix2 n k)) 1).val = t.val * 512 + k.val := by blk_simp [idx t]
  show (V m c main_v5 : FVec Ideal S578x1024 .f32) ((win0_3.blk t).view.emb (ix2 n k)) = _
  revert e0 e1
  generalize (win0_3.blk t).view.emb (ix2 n k) = z
  intro e0 e1
  obtain ⟨p, q, rfl⟩ : ∃ (p : Fin 578) (q : Fin 1024), z = ix2 p q := ⟨z 0, z 1, eq_ix2 z⟩
  obtain rfl : p = n := Fin.ext e0
  obtain rfl : q = col t k := Fin.ext e1
  rw [host3]
  unfold ent
  pointwise []

theorem blk1 (c : Dev nD) (t : Fin cfg0.N) (q : Fin 8) (n : Fin 578) (k : Fin 512) :
    (show FVec Ideal S8x578x512 .bf16 from iblk m c 1 t) (ix3 q n k) = a1 m c (ix3 q n (col t k)) := by
  blk_point [iblk, V, idx t, col]

theorem grad_blk (c : Dev nD) (t : Fin cfg0.N) (n : Fin 578) (k : Fin 512) :
    k0_pay5 (F := Ideal) (iblk m c 0 t) (iblk m c 1 t) (iblk m c 2 t) (iblk m c 3 t) (ix2 n k) = grad (a1 m c) n (col t k) := by
  refine (pay5_at _ _ _ _ n k).trans ?_
  exact Finset.sum_congr rfl fun q _ => blk1 m c t q n k

theorem out4 (c : Dev nD) (t : Fin cfg0.N) (n : Fin 578) (k : Fin 512) :
    out0_4 (F := Ideal) (iblk m c 0 t) (iblk m c 1 t) (iblk m c 2 t) (iblk m c 3 t) (ix2 n k) = grad (a1 m c) n (col t k) := by
  refine Eq.trans ?_ (grad_blk m c t n k)
  unfold out0_4 k0_pay5
  frame_out

theorem out5 (c : Dev nD) (t : Fin cfg0.N) (n : Fin 578) (k : Fin 512) :
    out0_5 (F := Ideal) (iblk m c 0 t) (iblk m c 1 t) (iblk m c 2 t) (iblk m c 3 t) (ix2 n k)
      = delta (ent (a0 m c) n (col t k)) (grad (a1 m c) n (col t k)) (ent (a2 m c) n (col t k)) (ent (a3 m c) n (col t k)) := by
  unfold out0_5
  frame_out
  refine (pay3_at _ _ _ _ n k).trans ?_
  rw [grad_blk]
  exact congr (congrArg₂ (fun u v => delta u (grad (a1 m c) n (col t k)) v) (blk0 m c t n k) (blk2 m c t n k)) (blk3 m c t n k)

theorem out6 (c : Dev nD) (t : Fin cfg0.N) (n : Fin 578) (k : Fin 512) :
    out0_6 (F := Ideal) (iblk m c 0 t) (iblk m c 1 t) (iblk m c 2 t) (iblk m c 3 t) (ix2 n k) = mnew (grad (a1 m c) n (col t k)) (ent (a2 m c) n (col t k)) := by
  unfold out0_6
  frame_out
  refine (pay1_at _ _ n k).trans ?_
  exact congrArg₂ mnew (grad_blk m c t n k) (blk2 m c t n k)

theorem out7 (c : Dev nD) (t : Fin cfg0.N) (n : Fin 578) (k : Fin 512) :
    out0_7 (F := Ideal) (iblk m c 0 t) (iblk m c 1 t) (iblk m c 2 t) (iblk m c 3 t) (ix2 n k) = vnew (grad (a1 m c) n (col t k)) (ent (a3 m c) n (col t k)) := by
  unfold out0_7
  frame_out
  refine (pay2_at _ _ n k).trans ?_
  exact congrArg₂ vnew (grad_blk m c t n k) (blk3 m c t n k)

theorem final4 (c : Dev nD) : (dats m 0 c).arrAt 4 (cfgs 0).N = G4 (a1 m c) := by
  refine (dats m 0 c).arrAt_eq_of_covers 4 _ (by decide +kernel) fun t _ y => ?_
  have ht := tlt t
  have e0 : ((((cfg0.win 4).blk t).view.emb y) 0).val = (y 0).val := by blk_simp [idx t]
  have e1 : ((((cfg0.win 4).blk t).view.emb y) 1).val = t.val * 512 + (y 1).val := by blk_simp [idx t]
  blk_simp
  rw [after0_4]
  revert e0 e1
  generalize ((cfg0.win 4).blk t).view.emb y = z
  intro e0 e1
  obtain ⟨n, k, rfl⟩ : ∃ (n : Fin 578) (k : Fin 512), y = ix2 n k := ⟨y 0, y 1, eq_ix2 y⟩
  refine (out4 m c t n k).trans ?_
  unfold G4
  rw [show z 0 = n from Fin.ext e0, show z 1 = col t k from Fin.ext e1]

theorem final5 (c : Dev nD) : (dats m 0 c).arrAt 5 (cfgs 0).N = G5 (a0 m c) (a1 m c) (a2 m c) (a3 m c) := by
  refine (dats m 0 c).arrAt_eq_of_covers 5 _ (by decide +kernel) fun t _ y => ?_
  have ht := tlt t
  have e0 : ((((cfg0.win 5).blk t).view.emb y) 0).val = (y 0).val := by blk_simp [idx t]
  have e1 : ((((cfg0.win 5).blk t).view.emb y) 1).val = t.val * 512 + (y 1).val := by blk_simp [idx t]
  blk_simp
  rw [after0_5]
  revert e0 e1
  generalize ((cfg0.win 5).blk t).view.emb y = z
  intro e0 e1
  obtain ⟨n, k, rfl⟩ : ∃ (n : Fin 578) (k : Fin 512), y = ix2 n k := ⟨y 0, y 1, eq_ix2 y⟩
  refine (out5 m c t n k).trans ?_
  unfold G5
  rw [show z 0 = n from Fin.ext e0, show z 1 = col t k from Fin.ext e1]

theorem final6 (c : Dev nD) : (dats m 0 c).arrAt 6 (cfgs 0).N = G6 (a1 m c) (a2 m c) := by
  refine (dats m 0 c).arrAt_eq_of_covers 6 _ (by decide +kernel) fun t _ y => ?_
  have ht := tlt t
  have e0 : ((((cfg0.win 6).blk t).view.emb y) 0).val = (y 0).val := by blk_simp [idx t]
  have e1 : ((((cfg0.win 6).blk t).view.emb y) 1).val = t.val * 512 + (y 1).val := by blk_simp [idx t]
  blk_simp
  rw [after0_6]
  revert e0 e1
  generalize ((cfg0.win 6).blk t).view.emb y = z
  intro e0 e1
  obtain ⟨n, k, rfl⟩ : ∃ (n : Fin 578) (k : Fin 512), y = ix2 n k := ⟨y 0, y 1, eq_ix2 y⟩
  refine (out6 m c t n k).trans ?_
  unfold G6
  rw [show z 0 = n from Fin.ext e0, show z 1 = col t k from Fin.ext e1]

theorem final7 (c : Dev nD) : (dats m 0 c).arrAt 7 (cfgs 0).N = G7 (a1 m c) (a3 m c) := by
  refine (dats m 0 c).arrAt_eq_of_covers 7 _ (by decide +kernel) fun t _ y => ?_
  have ht := tlt t
  have e0 : ((((cfg0.win 7).blk t).view.emb y) 0).val = (y 0).val := by blk_simp [idx t]
  have e1 : ((((cfg0.win 7).blk t).view.emb y) 1).val = t.val * 512 + (y 1).val := by blk_simp [idx t]
  blk_simp
  rw [after0_7]
  revert e0 e1
  generalize ((cfg0.win 7).blk t).view.emb y = z
  intro e0 e1
  obtain ⟨n, k, rfl⟩ : ∃ (n : Fin 578) (k : Fin 512), y = ix2 n k := ⟨y 0, y 1, eq_ix2 y⟩
  refine (out7 m c t n k).trans ?_
  unfold G7
  rw [show z 0 = n from Fin.ext e0, show z 1 = col t k from Fin.ext e1]

end Cert.AdamInIdeal.Sum

namespace Cert.AIn
open Cert.StepInIdeal Cert.StepInIdeal.Read Cert.AdamInIdeal.Sum Cert.Adam

variable (W : FVec Ideal Cert.StepInIdeal.S1x1024x578 .f32) (D : FVec Ideal Cert.StepInIdeal.S8x578x1024 .bf16) (M N : FVec Ideal Cert.StepInIdeal.S1x1024x578 .f32)

theorem at4 : val_main_v1 (F := Ideal) D = G4 D := by
  funext (y : Cert.StepInIdeal.S578x1024.Idx)
  obtain ⟨n, k, rfl⟩ : ∃ (n : Fin 578) (k : Fin 1024), y = ix2 n k := ⟨y 0, y 1, eq_ix2 y⟩
  pointwise [Read.val_main_v31, Read.val_main_v30, Read.val_main_cst_8, Read.val_main_v29, Read.val_main_v28, Read.val_main_v27, Read.val_main_cst_7, Read.val_main_v26, Read.val_main_v25, Read.val_main_v24, Read.val_main_cst_6, Read.val_main_v23, Read.val_main_v22, Read.val_main_v21, Read.val_main_cst_5, Read.val_main_v20, Read.val_main_v19, Read.val_main_cst_4, Read.val_main_v18, Read.val_main_v17, Read.val_main_v16, Read.val_main_cst_3, Read.val_main_v15, Read.val_main_v14, Read.val_main_v13, Read.val_main_cst_2, Read.val_main_v12, Read.val_main_v11, Read.val_main_v10, Read.val_main_cst_1, Read.val_main_v9, Read.val_main_v8, Read.val_main_cst_0, Read.val_main_v7, Read.val_main_v6, Read.val_main_v5, Read.val_main_v4, Read.val_main_v3, Read.val_main_v2, Read.val_main_v1, Read.val_main_cst, Read.val_main_v0]
  rfl

theorem at5 : val_main_v31 (F := Ideal) W D M N = G5 W D M N := by
  funext (y : Cert.StepInIdeal.S578x1024.Idx)
  obtain ⟨n, k, rfl⟩ : ∃ (n : Fin 578) (k : Fin 1024), y = ix2 n k := ⟨y 0, y 1, eq_ix2 y⟩
  pointwise [Read.val_main_v31, Read.val_main_v30, Read.val_main_cst_8, Read.val_main_v29, Read.val_main_v28, Read.val_main_v27, Read.val_main_cst_7, Read.val_main_v26, Read.val_main_v25, Read.val_main_v24, Read.val_main_cst_6, Read.val_main_v23, Read.val_main_v22, Read.val_main_v21, Read.val_main_cst_5, Read.val_main_v20, Read.val_main_v19, Read.val_main_cst_4, Read.val_main_v18, Read.val_main_v17, Read.val_main_v16, Read.val_main_cst_3, Read.val_main_v15, Read.val_main_v14, Read.val_main_v13, Read.val_main_cst_2, Read.val_main_v12, Read.val_main_v11, Read.val_main_v10, Read.val_main_cst_1, Read.val_main_v9, Read.val_main_v8, Read.val_main_cst_0, Read.val_main_v7, Read.val_main_v6, Read.val_main_v5, Read.val_main_v4, Read.val_main_v3, Read.val_main_v2, Read.val_main_v1, Read.val_main_cst, Read.val_main_v0]
  rfl

theorem at6 : val_main_v12 (F := Ideal) D M = G6 D M := by
  funext (y : Cert.StepInIdeal.S578x1024.Idx)
  obtain ⟨n, k, rfl⟩ : ∃ (n : Fin 578) (k : Fin 1024), y = ix2 n k := ⟨y 0, y 1, eq_ix2 y⟩
  pointwise [Read.val_main_v31, Read.val_main_v30, Read.val_main_cst_8, Read.val_main_v29, Read.val_main_v28, Read.val_main_v27, Read.val_main_cst_7, Read.val_main_v26, Read.val_main_v25, Read.val_main_v24, Read.val_main_cst_6, Read.val_main_v23, Read.val_main_v22, Read.val_main_v21, Read.val_main_cst_5, Read.val_main_v20, Read.val_main_v19, Read.val_main_cst_4, Read.val_main_v18, Read.val_main_v17, Read.val_main_v16, Read.val_main_cst_3, Read.val_main_v15, Read.val_main_v14, Read.val_main_v13, Read.val_main_cst_2, Read.val_main_v12, Read.val_main_v11, Read.val_main_v10, Read.val_main_cst_1, Read.val_main_v9, Read.val_main_v8, Read.val_main_cst_0, Read.val_main_v7, Read.val_main_v6, Read.val_main_v5, Read.val_main_v4, Read.val_main_v3, Read.val_main_v2, Read.val_main_v1, Read.val_main_cst, Read.val_main_v0]
  rfl

theorem at7 : val_main_v18 (F := Ideal) D N = G7 D N := by
  funext (y : Cert.StepInIdeal.S578x1024.Idx)
  obtain ⟨n, k, rfl⟩ : ∃ (n : Fin 578) (k : Fin 1024), y = ix2 n k := ⟨y 0, y 1, eq_ix2 y⟩
  pointwise [Read.val_main_v31, Read.val_main_v30, Read.val_main_cst_8, Read.val_main_v29, Read.val_main_v28, Read.val_main_v27, Read.val_main_cst_7, Read.val_main_v26, Read.val_main_v25, Read.val_main_v24, Read.val_main_cst_6, Read.val_main_v23, Read.val_main_v22, Read.val_main_v21, Read.val_main_cst_5, Read.val_main_v20, Read.val_main_v19, Read.val_main_cst_4, Read.val_main_v18, Read.val_main_v17, Read.val_main_v16, Read.val_main_cst_3, Read.val_main_v15, Read.val_main_v14, Read.val_main_v13, Read.val_main_cst_2, Read.val_main_v12, Read.val_main_v11, Read.val_main_v10, Read.val_main_cst_1, Read.val_main_v9, Read.val_main_v8, Read.val_main_cst_0, Read.val_main_v7, Read.val_main_v6, Read.val_main_v5, Read.val_main_v4, Read.val_main_v3, Read.val_main_v2, Read.val_main_v1, Read.val_main_cst, Read.val_main_v0]
  rfl

/-- The reference leaves its arguments alone, and it has no semaphore. -/
theorem reference_frame : Cert.quiescent_StepInIdeal := by
  intro m g _
  exact (θ_run _ _ _).mono (fun r h => ⟨fun c => (h c).2.2.2.2, sem_eq_zero_of_no_sems (by decide) r.2⟩) (Cert.StepInIdeal.Value.run m g)

theorem algebraic : Cert.algebraic_AdamInIdeal_StepInIdeal := by
  intro m g m' g' hpre hagree
  refine ⟨fun c => G4 (a1 m c), fun c => G5 (a0 m c) (a1 m c) (a2 m c) (a3 m c), fun c => G6 (a1 m c) (a2 m c), fun c => G7 (a1 m c) (a3 m c), ?_, ?_⟩
  · exact (θ_run _ _ _).mono (fun r h c => ⟨(h c).1.trans (final4 m c), (h c).2.1.trans (final5 m c), (h c).2.2.1.trans (final6 m c), (h c).2.2.2.1.trans (final7 m c), (h c).2.2.2.2⟩) (Cert.AdamInIdeal.Value.run_blocks m g)
  · refine (θ_run _ _ _).mono (fun r h c => ⟨(h c).1.trans ?_, (h c).2.1.trans ?_, (h c).2.2.1.trans ?_, (h c).2.2.2.1.trans ?_, (h c).2.2.2.2⟩) (Cert.StepInIdeal.Value.run m' g')
    · refine (Cert.StepInIdeal.Read.val_main_v1_eq _).trans ?_
      rw [(hagree c).2.1]
      exact at4 _
    · refine (Cert.StepInIdeal.Read.val_main_v31_eq _ _ _ _).trans ?_
      rw [(hagree c).1, (hagree c).2.1, (hagree c).2.2.1, (hagree c).2.2.2]
      exact at5 _ _ _ _
    · refine (Cert.StepInIdeal.Read.val_main_v12_eq _ _).trans ?_
      rw [(hagree c).2.1, (hagree c).2.2.1]
      exact at6 _ _
    · refine (Cert.StepInIdeal.Read.val_main_v18_eq _ _).trans ?_
      rw [(hagree c).2.1, (hagree c).2.2.2]
      exact at7 _ _

end Cert.AIn

end
-- ==== Proof.AdamUpValue.lean ====
module

public import proofs.«01_k».proof.Defs
public import proofs.«01_k».proof.Proof.Adam
public import proofs.«01_k».proof.Proof.Gen.AdamUpIdeal.Value
public import proofs.«01_k».proof.Proof.Gen.StepUpIdeal.Read
public import Idealize.ShloMosaic.Lib.Pipeline.ValueKit
public import Idealize.ShloMosaic.Lib.Pipeline.ReadBack
public import Idealize.ShloMosaic.Lib.Pointwise
public import Idealize.ShloMosaic.Lib.Claim
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.AdamUpIdeal.Sum
open Cert.AdamUpIdeal Cert.AdamUpIdeal.Gen Cert.Adam

variable (m : (ℓ : Loc nD τ sig) → Buf (Elt Ideal) ℓ)

theorem idx : ∀ t : Fin cfg0.N, win0_0.index t = ![0, t.val] ∧ win0_1.index t = ![0, 0, t.val] ∧ win0_2.index t = ![0, t.val]
    ∧ win0_3.index t = ![0, t.val] ∧ win0_4.index t = ![0, t.val] ∧ win0_5.index t = ![0, t.val] ∧ win0_6.index t = ![0, t.val]
    ∧ win0_7.index t = ![0, t.val] ∧ t.val < 2 :=
  (by decide +kernel : ∀ t : Fin grid0.N, _)

/-- The gradient: the eight devices' parts, added. -/
def grad (D : FVec Ideal S8x704x1024 .bf16) (n : Fin 704) (k : Fin 1024) : EReal := ∑ q : Fin 8, D (ix3 q n k)

/-- An entry of a weight or a moment, which the host turns round. -/
def ent (W : FVec Ideal S1x1024x704 .f32) (n : Fin 704) (k : Fin 1024) : EReal := W (ix3 0 k n)

def G4 (D : FVec Ideal S8x704x1024 .bf16) : FVec Ideal S704x1024 .f32 := fun i => grad D (i 0) (i 1)

def G5 (W : FVec Ideal S1x1024x704 .f32) (D : FVec Ideal S8x704x1024 .bf16) (M N : FVec Ideal S1x1024x704 .f32) : FVec Ideal S704x1024 .f32 := fun i =>
  delta (ent W (i 0) (i 1)) (grad D (i 0) (i 1)) (ent M (i 0) (i 1)) (ent N (i 0) (i 1))

def G6 (D : FVec Ideal S8x704x1024 .bf16) (M : FVec Ideal S1x1024x704 .f32) : FVec Ideal S704x1024 .f32 := fun i => mnew (grad D (i 0) (i 1)) (ent M (i 0) (i 1))

def G7 (D : FVec Ideal S8x704x1024 .bf16) (N : FVec Ideal S1x1024x704 .f32) : FVec Ideal S704x1024 .f32 := fun i => vnew (grad D (i 0) (i 1)) (ent N (i 0) (i 1))

theorem pay1_at (g x : Vec Ideal S704x512 .f32) (n : Fin 704) (k : Fin 512) :
    k0_pay1 (F := Ideal) g x (ix2 n k) = mnew (g (ix2 n k)) (x (ix2 n k)) := by pointwise [k0_pay1, mnew]

theorem pay2_at (g x : Vec Ideal S704x512 .f32) (n : Fin 704) (k : Fin 512) :
    k0_pay2 (F := Ideal) g x (ix2 n k) = vnew (g (ix2 n k)) (x (ix2 n k)) := by pointwise [k0_pay2, vnew]

theorem pay3_at (g w x y : Vec Ideal S704x512 .f32) (n : Fin 704) (k : Fin 512) :
    k0_pay3 (F := Ideal) g w x y (ix2 n k) = delta (w (ix2 n k)) (g (ix2 n k)) (x (ix2 n k)) (y (ix2 n k)) := by
  pointwise [k0_pay3]
  rw [pay1_at, pay2_at]
  rfl

theorem pay5_at (w : Vec Ideal S704x512 .f32) (s : Vec Ideal S8x704x512 .bf16) (x y : Vec Ideal S704x512 .f32) (n : Fin 704) (k : Fin 512) :
    k0_pay5 (F := Ideal) w s x y (ix2 n k) = ∑ q : Fin 8, s (ix3 q n k) := by
  pointwise [k0_pay5, k0_pay4]
  exact eight (fun q => s (ix3 q n k))

abbrev a0 (c : Dev nD) : FVec Ideal S1x1024x704 .f32 := m ((c : Thread nD τ).loc main_arg0)
abbrev a1 (c : Dev nD) : FVec Ideal S8x704x1024 .bf16 := m ((c : Thread nD τ).loc main_arg1)
abbrev a2 (c : Dev nD) : FVec Ideal S1x1024x704 .f32 := m ((c : Thread nD τ).loc main_arg2)
abbrev a3 (c : Dev nD) : FVec Ideal S1x1024x704 .f32 := m ((c : Thread nD τ).loc main_arg3)

theorem tlt (t : Fin cfg0.N) : t.val < 2 := (idx t).2.2.2.2.2.2.2.2

/-- Column `k` of point `t`. -/
def col (t : Fin cfg0.N) (k : Fin 512) : Fin 1024 := ⟨t.val * 512 + k.val, by have := tlt t; omega⟩

theorem host0 (c : Dev nD) : (V m c main_v1 : FVec Ideal S704x1024 .f32) = shapeCast S704x1024 (transpose S1x704x1024 [0, 2, 1] (a0 m c) transposes_S1x1024x704_S1x704x1024_0_2_1) shapeCasts_S1x704x1024_S704x1024 := by
  show StableHlo.after hostOps0 (fun b => m (c, b)) (Proc.tc.devRef main_v1) = _
  simp only [hostOps0]
  after_results_simp
  rfl

theorem blk0 (c : Dev nD) (t : Fin cfg0.N) (n : Fin 704) (k : Fin 512) :
    (show FVec Ideal S704x512 .f32 from iblk m c 0 t) (ix2 n k) = ent (a0 m c) n (col t k) := by
  have ht := tlt t
  have e0 : (((win0_0.blk t).view.emb (ix2 n k)) 0).val = n.val := by blk_simp [idx t]
  have e1 : (((win0_0.blk t).view.emb (ix2 n k)) 1).val = t.val * 512 + k.val := by blk_simp [idx t]
  show (V m c main_v1 : FVec Ideal S704x1024 .f32) ((win0_0.blk t).view.emb (ix2 n k)) = _
  revert e0 e1
  generalize (win0_0.blk t).view.emb (ix2 n k) = z
  intro e0 e1
  obtain ⟨p, q, rfl⟩ : ∃ (p : Fin 704) (q : Fin 1024), z = ix2 p q := ⟨z 0, z 1, eq_ix2 z⟩
  obtain rfl : p = n := Fin.ext e0
  obtain rfl : q = col t k := Fin.ext e1
  rw [host0]
  unfold ent
  pointwise []

theorem host2 (c : Dev nD) : (V m c main_v3 : FVec Ideal S704x1024 .f32) = shapeCast S704x1024 (transpose S1x704x1024 [0, 2, 1] (a2 m c) transposes_S1x1024x704_S1x704x1024_0_2_1) shapeCasts_S1x704x1024_S704x1024 := by
  show StableHlo.after hostOps0 (fun b => m (c, b)) (Proc.tc.devRef main_v3) = _
  simp only [hostOps0]
  after_results_simp
  rfl

theorem blk2 (c : Dev nD) (t : Fin cfg0.N) (n : Fin 704) (k : Fin 512) :
    (show FVec Ideal S704x512 .f32 from iblk m c 2 t) (ix2 n k) = ent (a2 m c) n (col t k) := by
  have ht := tlt t
  have e0 : (((win0_2.blk t).view.emb (ix2 n k)) 0).val = n.val := by blk_simp [idx t]
  have e1 : (((win0_2.blk t).view.emb (ix2 n k)) 1).val = t.val * 512 + k.val := by blk_simp [idx t]
  show (V m c main_v3 : FVec Ideal S704x1024 .f32) ((win0_2.blk t).view.emb (ix2 n k)) = _
  revert e0 e1
  generalize (win0_2.blk t).view.emb (ix2 n k) = z
  intro e0 e1
  obtain ⟨p, q, rfl⟩ : ∃ (p : Fin 704) (q : Fin 1024), z = ix2 p q := ⟨z 0, z 1, eq_ix2 z⟩
  obtain rfl : p = n := Fin.ext e0
  obtain rfl : q = col t k := Fin.ext e1
  rw [host2]
  unfold ent
  pointwise []

theorem host3 (c : Dev nD) : (V m c main_v5 : FVec Ideal S704x1024 .f32) = shapeCast S704x1024 (transpose S1x704x1024 [0, 2, 1] (a3 m c) transposes_S1x1024x704_S1x704x1024_0_2_1) shapeCasts_S1x704x1024_S704x1024 := by
  show StableHlo.after hostOps0 (fun b => m (c, b)) (Proc.tc.devRef main_v5) = _
  simp only [hostOps0]
  after_results_simp
  rfl

theorem blk3 (c : Dev nD) (t : Fin cfg0.N) (n : Fin 704) (k : Fin 512) :
    (show FVec Ideal S704x512 .f32 from iblk m c 3 t) (ix2 n k) = ent (a3 m c) n (col t k) := by
  have ht := tlt t
  have e0 : (((win0_3.blk t).view.emb (ix2 n k)) 0).val = n.val := by blk_simp [idx t]
  have e1 : (((win0_3.blk t).view.emb (ix2 n k)) 1).val = t.val * 512 + k.val := by blk_simp [idx t]
  show (V m c main_v5 : FVec Ideal S704x1024 .f32) ((win0_3.blk t).view.emb (ix2 n k)) = _
  revert e0 e1
  generalize (win0_3.blk t).view.emb (ix2 n k) = z
  intro e0 e1
  obtain ⟨p, q, rfl⟩ : ∃ (p : Fin 704) (q : Fin 1024), z = ix2 p q := ⟨z 0, z 1, eq_ix2 z⟩
  obtain rfl : p = n := Fin.ext e0
  obtain rfl : q = col t k := Fin.ext e1
  rw [host3]
  unfold ent
  pointwise []

theorem blk1 (c : Dev nD) (t : Fin cfg0.N) (q : Fin 8) (n : Fin 704) (k : Fin 512) :
    (show FVec Ideal S8x704x512 .bf16 from iblk m c 1 t) (ix3 q n k) = a1 m c (ix3 q n (col t k)) := by
  blk_point [iblk, V, idx t, col]

theorem grad_blk (c : Dev nD) (t : Fin cfg0.N) (n : Fin 704) (k : Fin 512) :
    k0_pay5 (F := Ideal) (iblk m c 0 t) (iblk m c 1 t) (iblk m c 2 t) (iblk m c 3 t) (ix2 n k) = grad (a1 m c) n (col t k) := by
  refine (pay5_at _ _ _ _ n k).trans ?_
  exact Finset.sum_congr rfl fun q _ => blk1 m c t q n k

theorem out4 (c : Dev nD) (t : Fin cfg0.N) (n : Fin 704) (k : Fin 512) :
    out0_4 (F := Ideal) (iblk m c 0 t) (iblk m c 1 t) (iblk m c 2 t) (iblk m c 3 t) (ix2 n k) = grad (a1 m c) n (col t k) := by
  refine Eq.trans ?_ (grad_blk m c t n k)
  unfold out0_4 k0_pay5
  frame_out

theorem out5 (c : Dev nD) (t : Fin cfg0.N) (n : Fin 704) (k : Fin 512) :
    out0_5 (F := Ideal) (iblk m c 0 t) (iblk m c 1 t) (iblk m c 2 t) (iblk m c 3 t) (ix2 n k)
      = delta (ent (a0 m c) n (col t k)) (grad (a1 m c) n (col t k)) (ent (a2 m c) n (col t k)) (ent (a3 m c) n (col t k)) := by
  unfold out0_5
  frame_out
  refine (pay3_at _ _ _ _ n k).trans ?_
  rw [grad_blk]
  exact congr (congrArg₂ (fun u v => delta u (grad (a1 m c) n (col t k)) v) (blk0 m c t n k) (blk2 m c t n k)) (blk3 m c t n k)

theorem out6 (c : Dev nD) (t : Fin cfg0.N) (n : Fin 704) (k : Fin 512) :
    out0_6 (F := Ideal) (iblk m c 0 t) (iblk m c 1 t) (iblk m c 2 t) (iblk m c 3 t) (ix2 n k) = mnew (grad (a1 m c) n (col t k)) (ent (a2 m c) n (col t k)) := by
  unfold out0_6
  frame_out
  refine (pay1_at _ _ n k).trans ?_
  exact congrArg₂ mnew (grad_blk m c t n k) (blk2 m c t n k)

theorem out7 (c : Dev nD) (t : Fin cfg0.N) (n : Fin 704) (k : Fin 512) :
    out0_7 (F := Ideal) (iblk m c 0 t) (iblk m c 1 t) (iblk m c 2 t) (iblk m c 3 t) (ix2 n k) = vnew (grad (a1 m c) n (col t k)) (ent (a3 m c) n (col t k)) := by
  unfold out0_7
  frame_out
  refine (pay2_at _ _ n k).trans ?_
  exact congrArg₂ vnew (grad_blk m c t n k) (blk3 m c t n k)

theorem final4 (c : Dev nD) : (dats m 0 c).arrAt 4 (cfgs 0).N = G4 (a1 m c) := by
  refine (dats m 0 c).arrAt_eq_of_covers 4 _ (by decide +kernel) fun t _ y => ?_
  have ht := tlt t
  have e0 : ((((cfg0.win 4).blk t).view.emb y) 0).val = (y 0).val := by blk_simp [idx t]
  have e1 : ((((cfg0.win 4).blk t).view.emb y) 1).val = t.val * 512 + (y 1).val := by blk_simp [idx t]
  blk_simp
  rw [after0_4]
  revert e0 e1
  generalize ((cfg0.win 4).blk t).view.emb y = z
  intro e0 e1
  obtain ⟨n, k, rfl⟩ : ∃ (n : Fin 704) (k : Fin 512), y = ix2 n k := ⟨y 0, y 1, eq_ix2 y⟩
  refine (out4 m c t n k).trans ?_
  unfold G4
  rw [show z 0 = n from Fin.ext e0, show z 1 = col t k from Fin.ext e1]

theorem final5 (c : Dev nD) : (dats m 0 c).arrAt 5 (cfgs 0).N = G5 (a0 m c) (a1 m c) (a2 m c) (a3 m c) := by
  refine (dats m 0 c).arrAt_eq_of_covers 5 _ (by decide +kernel) fun t _ y => ?_
  have ht := tlt t
  have e0 : ((((cfg0.win 5).blk t).view.emb y) 0).val = (y 0).val := by blk_simp [idx t]
  have e1 : ((((cfg0.win 5).blk t).view.emb y) 1).val = t.val * 512 + (y 1).val := by blk_simp [idx t]
  blk_simp
  rw [after0_5]
  revert e0 e1
  generalize ((cfg0.win 5).blk t).view.emb y = z
  intro e0 e1
  obtain ⟨n, k, rfl⟩ : ∃ (n : Fin 704) (k : Fin 512), y = ix2 n k := ⟨y 0, y 1, eq_ix2 y⟩
  refine (out5 m c t n k).trans ?_
  unfold G5
  rw [show z 0 = n from Fin.ext e0, show z 1 = col t k from Fin.ext e1]

theorem final6 (c : Dev nD) : (dats m 0 c).arrAt 6 (cfgs 0).N = G6 (a1 m c) (a2 m c) := by
  refine (dats m 0 c).arrAt_eq_of_covers 6 _ (by decide +kernel) fun t _ y => ?_
  have ht := tlt t
  have e0 : ((((cfg0.win 6).blk t).view.emb y) 0).val = (y 0).val := by blk_simp [idx t]
  have e1 : ((((cfg0.win 6).blk t).view.emb y) 1).val = t.val * 512 + (y 1).val := by blk_simp [idx t]
  blk_simp
  rw [after0_6]
  revert e0 e1
  generalize ((cfg0.win 6).blk t).view.emb y = z
  intro e0 e1
  obtain ⟨n, k, rfl⟩ : ∃ (n : Fin 704) (k : Fin 512), y = ix2 n k := ⟨y 0, y 1, eq_ix2 y⟩
  refine (out6 m c t n k).trans ?_
  unfold G6
  rw [show z 0 = n from Fin.ext e0, show z 1 = col t k from Fin.ext e1]

theorem final7 (c : Dev nD) : (dats m 0 c).arrAt 7 (cfgs 0).N = G7 (a1 m c) (a3 m c) := by
  refine (dats m 0 c).arrAt_eq_of_covers 7 _ (by decide +kernel) fun t _ y => ?_
  have ht := tlt t
  have e0 : ((((cfg0.win 7).blk t).view.emb y) 0).val = (y 0).val := by blk_simp [idx t]
  have e1 : ((((cfg0.win 7).blk t).view.emb y) 1).val = t.val * 512 + (y 1).val := by blk_simp [idx t]
  blk_simp
  rw [after0_7]
  revert e0 e1
  generalize ((cfg0.win 7).blk t).view.emb y = z
  intro e0 e1
  obtain ⟨n, k, rfl⟩ : ∃ (n : Fin 704) (k : Fin 512), y = ix2 n k := ⟨y 0, y 1, eq_ix2 y⟩
  refine (out7 m c t n k).trans ?_
  unfold G7
  rw [show z 0 = n from Fin.ext e0, show z 1 = col t k from Fin.ext e1]

end Cert.AdamUpIdeal.Sum

namespace Cert.AUp
open Cert.StepUpIdeal Cert.StepUpIdeal.Read Cert.AdamUpIdeal.Sum Cert.Adam

variable (W : FVec Ideal Cert.StepUpIdeal.S1x1024x704 .f32) (D : FVec Ideal Cert.StepUpIdeal.S8x704x1024 .bf16) (M N : FVec Ideal Cert.StepUpIdeal.S1x1024x704 .f32)

theorem at4 : val_main_v1 (F := Ideal) D = G4 D := by
  funext (y : Cert.StepUpIdeal.S704x1024.Idx)
  obtain ⟨n, k, rfl⟩ : ∃ (n : Fin 704) (k : Fin 1024), y = ix2 n k := ⟨y 0, y 1, eq_ix2 y⟩
  pointwise [Read.val_main_v31, Read.val_main_v30, Read.val_main_cst_8, Read.val_main_v29, Read.val_main_v28, Read.val_main_v27, Read.val_main_cst_7, Read.val_main_v26, Read.val_main_v25, Read.val_main_v24, Read.val_main_cst_6, Read.val_main_v23, Read.val_main_v22, Read.val_main_v21, Read.val_main_cst_5, Read.val_main_v20, Read.val_main_v19, Read.val_main_cst_4, Read.val_main_v18, Read.val_main_v17, Read.val_main_v16, Read.val_main_cst_3, Read.val_main_v15, Read.val_main_v14, Read.val_main_v13, Read.val_main_cst_2, Read.val_main_v12, Read.val_main_v11, Read.val_main_v10, Read.val_main_cst_1, Read.val_main_v9, Read.val_main_v8, Read.val_main_cst_0, Read.val_main_v7, Read.val_main_v6, Read.val_main_v5, Read.val_main_v4, Read.val_main_v3, Read.val_main_v2, Read.val_main_v1, Read.val_main_cst, Read.val_main_v0]
  rfl

theorem at5 : val_main_v31 (F := Ideal) W D M N = G5 W D M N := by
  funext (y : Cert.StepUpIdeal.S704x1024.Idx)
  obtain ⟨n, k, rfl⟩ : ∃ (n : Fin 704) (k : Fin 1024), y = ix2 n k := ⟨y 0, y 1, eq_ix2 y⟩
  pointwise [Read.val_main_v31, Read.val_main_v30, Read.val_main_cst_8, Read.val_main_v29, Read.val_main_v28, Read.val_main_v27, Read.val_main_cst_7, Read.val_main_v26, Read.val_main_v25, Read.val_main_v24, Read.val_main_cst_6, Read.val_main_v23, Read.val_main_v22, Read.val_main_v21, Read.val_main_cst_5, Read.val_main_v20, Read.val_main_v19, Read.val_main_cst_4, Read.val_main_v18, Read.val_main_v17, Read.val_main_v16, Read.val_main_cst_3, Read.val_main_v15, Read.val_main_v14, Read.val_main_v13, Read.val_main_cst_2, Read.val_main_v12, Read.val_main_v11, Read.val_main_v10, Read.val_main_cst_1, Read.val_main_v9, Read.val_main_v8, Read.val_main_cst_0, Read.val_main_v7, Read.val_main_v6, Read.val_main_v5, Read.val_main_v4, Read.val_main_v3, Read.val_main_v2, Read.val_main_v1, Read.val_main_cst, Read.val_main_v0]
  rfl

theorem at6 : val_main_v12 (F := Ideal) D M = G6 D M := by
  funext (y : Cert.StepUpIdeal.S704x1024.Idx)
  obtain ⟨n, k, rfl⟩ : ∃ (n : Fin 704) (k : Fin 1024), y = ix2 n k := ⟨y 0, y 1, eq_ix2 y⟩
  pointwise [Read.val_main_v31, Read.val_main_v30, Read.val_main_cst_8, Read.val_main_v29, Read.val_main_v28, Read.val_main_v27, Read.val_main_cst_7, Read.val_main_v26, Read.val_main_v25, Read.val_main_v24, Read.val_main_cst_6, Read.val_main_v23, Read.val_main_v22, Read.val_main_v21, Read.val_main_cst_5, Read.val_main_v20, Read.val_main_v19, Read.val_main_cst_4, Read.val_main_v18, Read.val_main_v17, Read.val_main_v16, Read.val_main_cst_3, Read.val_main_v15, Read.val_main_v14, Read.val_main_v13, Read.val_main_cst_2, Read.val_main_v12, Read.val_main_v11, Read.val_main_v10, Read.val_main_cst_1, Read.val_main_v9, Read.val_main_v8, Read.val_main_cst_0, Read.val_main_v7, Read.val_main_v6, Read.val_main_v5, Read.val_main_v4, Read.val_main_v3, Read.val_main_v2, Read.val_main_v1, Read.val_main_cst, Read.val_main_v0]
  rfl

theorem at7 : val_main_v18 (F := Ideal) D N = G7 D N := by
  funext (y : Cert.StepUpIdeal.S704x1024.Idx)
  obtain ⟨n, k, rfl⟩ : ∃ (n : Fin 704) (k : Fin 1024), y = ix2 n k := ⟨y 0, y 1, eq_ix2 y⟩
  pointwise [Read.val_main_v31, Read.val_main_v30, Read.val_main_cst_8, Read.val_main_v29, Read.val_main_v28, Read.val_main_v27, Read.val_main_cst_7, Read.val_main_v26, Read.val_main_v25, Read.val_main_v24, Read.val_main_cst_6, Read.val_main_v23, Read.val_main_v22, Read.val_main_v21, Read.val_main_cst_5, Read.val_main_v20, Read.val_main_v19, Read.val_main_cst_4, Read.val_main_v18, Read.val_main_v17, Read.val_main_v16, Read.val_main_cst_3, Read.val_main_v15, Read.val_main_v14, Read.val_main_v13, Read.val_main_cst_2, Read.val_main_v12, Read.val_main_v11, Read.val_main_v10, Read.val_main_cst_1, Read.val_main_v9, Read.val_main_v8, Read.val_main_cst_0, Read.val_main_v7, Read.val_main_v6, Read.val_main_v5, Read.val_main_v4, Read.val_main_v3, Read.val_main_v2, Read.val_main_v1, Read.val_main_cst, Read.val_main_v0]
  rfl

/-- The reference leaves its arguments alone, and it has no semaphore. -/
theorem reference_frame : Cert.quiescent_StepUpIdeal := by
  intro m g _
  exact (θ_run _ _ _).mono (fun r h => ⟨fun c => (h c).2.2.2.2, sem_eq_zero_of_no_sems (by decide) r.2⟩) (Cert.StepUpIdeal.Value.run m g)

theorem algebraic : Cert.algebraic_AdamUpIdeal_StepUpIdeal := by
  intro m g m' g' hpre hagree
  refine ⟨fun c => G4 (a1 m c), fun c => G5 (a0 m c) (a1 m c) (a2 m c) (a3 m c), fun c => G6 (a1 m c) (a2 m c), fun c => G7 (a1 m c) (a3 m c), ?_, ?_⟩
  · exact (θ_run _ _ _).mono (fun r h c => ⟨(h c).1.trans (final4 m c), (h c).2.1.trans (final5 m c), (h c).2.2.1.trans (final6 m c), (h c).2.2.2.1.trans (final7 m c), (h c).2.2.2.2⟩) (Cert.AdamUpIdeal.Value.run_blocks m g)
  · refine (θ_run _ _ _).mono (fun r h c => ⟨(h c).1.trans ?_, (h c).2.1.trans ?_, (h c).2.2.1.trans ?_, (h c).2.2.2.1.trans ?_, (h c).2.2.2.2⟩) (Cert.StepUpIdeal.Value.run m' g')
    · refine (Cert.StepUpIdeal.Read.val_main_v1_eq _).trans ?_
      rw [(hagree c).2.1]
      exact at4 _
    · refine (Cert.StepUpIdeal.Read.val_main_v31_eq _ _ _ _).trans ?_
      rw [(hagree c).1, (hagree c).2.1, (hagree c).2.2.1, (hagree c).2.2.2]
      exact at5 _ _ _ _
    · refine (Cert.StepUpIdeal.Read.val_main_v12_eq _ _).trans ?_
      rw [(hagree c).2.1, (hagree c).2.2.1]
      exact at6 _ _
    · refine (Cert.StepUpIdeal.Read.val_main_v18_eq _ _).trans ?_
      rw [(hagree c).2.1, (hagree c).2.2.2]
      exact at7 _ _

end Cert.AUp

end
-- ==== Proof.AdamOutValue.lean ====
module

public import proofs.«01_k».proof.Defs
public import proofs.«01_k».proof.Proof.Adam
public import proofs.«01_k».proof.Proof.Gen.AdamOutIdeal.Value
public import proofs.«01_k».proof.Proof.Gen.StepOutIdeal.Read
public import Idealize.ShloMosaic.Lib.Pipeline.ValueKit
public import Idealize.ShloMosaic.Lib.Pipeline.ReadBack
public import Idealize.ShloMosaic.Lib.Pointwise
public import Idealize.ShloMosaic.Lib.Claim
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.AdamOutIdeal.Sum
open Cert.AdamOutIdeal Cert.AdamOutIdeal.Gen Cert.Adam

variable (m : (ℓ : Loc nD τ sig) → Buf (Elt Ideal) ℓ)

theorem idx : ∀ t : Fin cfg0.N, win0_0.index t = ![0, t.val] ∧ win0_1.index t = ![0, 0, t.val] ∧ win0_2.index t = ![0, t.val]
    ∧ win0_3.index t = ![0, t.val] ∧ win0_4.index t = ![0, t.val] ∧ win0_5.index t = ![0, t.val] ∧ win0_6.index t = ![0, t.val]
    ∧ win0_7.index t = ![0, t.val] ∧ t.val < 2 :=
  (by decide +kernel : ∀ t : Fin grid0.N, _)

/-- The gradient: the eight devices' parts, added. -/
def grad (D : FVec Ideal S8x256x1024 .bf16) (n : Fin 256) (k : Fin 1024) : EReal := ∑ q : Fin 8, D (ix3 q n k)

/-- An entry of a weight or a moment. -/
def ent (W : FVec Ideal S1x256x1024 .f32) (n : Fin 256) (k : Fin 1024) : EReal := W (ix3 0 n k)

def G4 (D : FVec Ideal S8x256x1024 .bf16) : FVec Ideal S256x1024 .f32 := fun i => grad D (i 0) (i 1)

def G5 (W : FVec Ideal S1x256x1024 .f32) (D : FVec Ideal S8x256x1024 .bf16) (M N : FVec Ideal S1x256x1024 .f32) : FVec Ideal S256x1024 .f32 := fun i =>
  delta (ent W (i 0) (i 1)) (grad D (i 0) (i 1)) (ent M (i 0) (i 1)) (ent N (i 0) (i 1))

def G6 (D : FVec Ideal S8x256x1024 .bf16) (M : FVec Ideal S1x256x1024 .f32) : FVec Ideal S256x1024 .f32 := fun i => mnew (grad D (i 0) (i 1)) (ent M (i 0) (i 1))

def G7 (D : FVec Ideal S8x256x1024 .bf16) (N : FVec Ideal S1x256x1024 .f32) : FVec Ideal S256x1024 .f32 := fun i => vnew (grad D (i 0) (i 1)) (ent N (i 0) (i 1))

theorem pay1_at (g x : Vec Ideal S256x512 .f32) (n : Fin 256) (k : Fin 512) :
    k0_pay1 (F := Ideal) g x (ix2 n k) = mnew (g (ix2 n k)) (x (ix2 n k)) := by pointwise [k0_pay1, mnew]

theorem pay2_at (g x : Vec Ideal S256x512 .f32) (n : Fin 256) (k : Fin 512) :
    k0_pay2 (F := Ideal) g x (ix2 n k) = vnew (g (ix2 n k)) (x (ix2 n k)) := by pointwise [k0_pay2, vnew]

theorem pay3_at (g w x y : Vec Ideal S256x512 .f32) (n : Fin 256) (k : Fin 512) :
    k0_pay3 (F := Ideal) g w x y (ix2 n k) = delta (w (ix2 n k)) (g (ix2 n k)) (x (ix2 n k)) (y (ix2 n k)) := by
  pointwise [k0_pay3]
  rw [pay1_at, pay2_at]
  rfl

theorem pay5_at (w : Vec Ideal S256x512 .f32) (s : Vec Ideal S8x256x512 .bf16) (x y : Vec Ideal S256x512 .f32) (n : Fin 256) (k : Fin 512) :
    k0_pay5 (F := Ideal) w s x y (ix2 n k) = ∑ q : Fin 8, s (ix3 q n k) := by
  pointwise [k0_pay5, k0_pay4]
  exact eight (fun q => s (ix3 q n k))

abbrev a0 (c : Dev nD) : FVec Ideal S1x256x1024 .f32 := m ((c : Thread nD τ).loc main_arg0)
abbrev a1 (c : Dev nD) : FVec Ideal S8x256x1024 .bf16 := m ((c : Thread nD τ).loc main_arg1)
abbrev a2 (c : Dev nD) : FVec Ideal S1x256x1024 .f32 := m ((c : Thread nD τ).loc main_arg2)
abbrev a3 (c : Dev nD) : FVec Ideal S1x256x1024 .f32 := m ((c : Thread nD τ).loc main_arg3)

theorem tlt (t : Fin cfg0.N) : t.val < 2 := (idx t).2.2.2.2.2.2.2.2

/-- Column `k` of point `t`. -/
def col (t : Fin cfg0.N) (k : Fin 512) : Fin 1024 := ⟨t.val * 512 + k.val, by have := tlt t; omega⟩

theorem host0 (c : Dev nD) : (V m c main_v0 : FVec Ideal S256x1024 .f32) = shapeCast S256x1024 (a0 m c) shapeCasts_S1x256x1024_S256x1024 := by
  show StableHlo.after hostOps0 (fun b => m (c, b)) (Proc.tc.devRef main_v0) = _
  simp only [hostOps0]
  after_results_simp
  rfl

theorem blk0 (c : Dev nD) (t : Fin cfg0.N) (n : Fin 256) (k : Fin 512) :
    (show FVec Ideal S256x512 .f32 from iblk m c 0 t) (ix2 n k) = ent (a0 m c) n (col t k) := by
  have ht := tlt t
  have e0 : (((win0_0.blk t).view.emb (ix2 n k)) 0).val = n.val := by blk_simp [idx t]
  have e1 : (((win0_0.blk t).view.emb (ix2 n k)) 1).val = t.val * 512 + k.val := by blk_simp [idx t]
  show (V m c main_v0 : FVec Ideal S256x1024 .f32) ((win0_0.blk t).view.emb (ix2 n k)) = _
  revert e0 e1
  generalize (win0_0.blk t).view.emb (ix2 n k) = z
  intro e0 e1
  obtain ⟨p, q, rfl⟩ : ∃ (p : Fin 256) (q : Fin 1024), z = ix2 p q := ⟨z 0, z 1, eq_ix2 z⟩
  obtain rfl : p = n := Fin.ext e0
  obtain rfl : q = col t k := Fin.ext e1
  rw [host0]
  unfold ent
  pointwise []

theorem host2 (c : Dev nD) : (V m c main_v1 : FVec Ideal S256x1024 .f32) = shapeCast S256x1024 (a2 m c) shapeCasts_S1x256x1024_S256x1024 := by
  show StableHlo.after hostOps0 (fun b => m (c, b)) (Proc.tc.devRef main_v1) = _
  simp only [hostOps0]
  after_results_simp
  rfl

theorem blk2 (c : Dev nD) (t : Fin cfg0.N) (n : Fin 256) (k : Fin 512) :
    (show FVec Ideal S256x512 .f32 from iblk m c 2 t) (ix2 n k) = ent (a2 m c) n (col t k) := by
  have ht := tlt t
  have e0 : (((win0_2.blk t).view.emb (ix2 n k)) 0).val = n.val := by blk_simp [idx t]
  have e1 : (((win0_2.blk t).view.emb (ix2 n k)) 1).val = t.val * 512 + k.val := by blk_simp [idx t]
  show (V m c main_v1 : FVec Ideal S256x1024 .f32) ((win0_2.blk t).view.emb (ix2 n k)) = _
  revert e0 e1
  generalize (win0_2.blk t).view.emb (ix2 n k) = z
  intro e0 e1
  obtain ⟨p, q, rfl⟩ : ∃ (p : Fin 256) (q : Fin 1024), z = ix2 p q := ⟨z 0, z 1, eq_ix2 z⟩
  obtain rfl : p = n := Fin.ext e0
  obtain rfl : q = col t k := Fin.ext e1
  rw [host2]
  unfold ent
  pointwise []

theorem host3 (c : Dev nD) : (V m c main_v2 : FVec Ideal S256x1024 .f32) = shapeCast S256x1024 (a3 m c) shapeCasts_S1x256x1024_S256x1024 := by
  show StableHlo.after hostOps0 (fun b => m (c, b)) (Proc.tc.devRef main_v2) = _
  simp only [hostOps0]
  after_results_simp
  rfl

theorem blk3 (c : Dev nD) (t : Fin cfg0.N) (n : Fin 256) (k : Fin 512) :
    (show FVec Ideal S256x512 .f32 from iblk m c 3 t) (ix2 n k) = ent (a3 m c) n (col t k) := by
  have ht := tlt t
  have e0 : (((win0_3.blk t).view.emb (ix2 n k)) 0).val = n.val := by blk_simp [idx t]
  have e1 : (((win0_3.blk t).view.emb (ix2 n k)) 1).val = t.val * 512 + k.val := by blk_simp [idx t]
  show (V m c main_v2 : FVec Ideal S256x1024 .f32) ((win0_3.blk t).view.emb (ix2 n k)) = _
  revert e0 e1
  generalize (win0_3.blk t).view.emb (ix2 n k) = z
  intro e0 e1
  obtain ⟨p, q, rfl⟩ : ∃ (p : Fin 256) (q : Fin 1024), z = ix2 p q := ⟨z 0, z 1, eq_ix2 z⟩
  obtain rfl : p = n := Fin.ext e0
  obtain rfl : q = col t k := Fin.ext e1
  rw [host3]
  unfold ent
  pointwise []

theorem blk1 (c : Dev nD) (t : Fin cfg0.N) (q : Fin 8) (n : Fin 256) (k : Fin 512) :
    (show FVec Ideal S8x256x512 .bf16 from iblk m c 1 t) (ix3 q n k) = a1 m c (ix3 q n (col t k)) := by
  blk_point [iblk, V, idx t, col]

theorem grad_blk (c : Dev nD) (t : Fin cfg0.N) (n : Fin 256) (k : Fin 512) :
    k0_pay5 (F := Ideal) (iblk m c 0 t) (iblk m c 1 t) (iblk m c 2 t) (iblk m c 3 t) (ix2 n k) = grad (a1 m c) n (col t k) := by
  refine (pay5_at _ _ _ _ n k).trans ?_
  exact Finset.sum_congr rfl fun q _ => blk1 m c t q n k

theorem out4 (c : Dev nD) (t : Fin cfg0.N) (n : Fin 256) (k : Fin 512) :
    out0_4 (F := Ideal) (iblk m c 0 t) (iblk m c 1 t) (iblk m c 2 t) (iblk m c 3 t) (ix2 n k) = grad (a1 m c) n (col t k) := by
  refine Eq.trans ?_ (grad_blk m c t n k)
  unfold out0_4 k0_pay5
  frame_out

theorem out5 (c : Dev nD) (t : Fin cfg0.N) (n : Fin 256) (k : Fin 512) :
    out0_5 (F := Ideal) (iblk m c 0 t) (iblk m c 1 t) (iblk m c 2 t) (iblk m c 3 t) (ix2 n k)
      = delta (ent (a0 m c) n (col t k)) (grad (a1 m c) n (col t k)) (ent (a2 m c) n (col t k)) (ent (a3 m c) n (col t k)) := by
  unfold out0_5
  frame_out
  refine (pay3_at _ _ _ _ n k).trans ?_
  rw [grad_blk]
  exact congr (congrArg₂ (fun u v => delta u (grad (a1 m c) n (col t k)) v) (blk0 m c t n k) (blk2 m c t n k)) (blk3 m c t n k)

theorem out6 (c : Dev nD) (t : Fin cfg0.N) (n : Fin 256) (k : Fin 512) :
    out0_6 (F := Ideal) (iblk m c 0 t) (iblk m c 1 t) (iblk m c 2 t) (iblk m c 3 t) (ix2 n k) = mnew (grad (a1 m c) n (col t k)) (ent (a2 m c) n (col t k)) := by
  unfold out0_6
  frame_out
  refine (pay1_at _ _ n k).trans ?_
  exact congrArg₂ mnew (grad_blk m c t n k) (blk2 m c t n k)

theorem out7 (c : Dev nD) (t : Fin cfg0.N) (n : Fin 256) (k : Fin 512) :
    out0_7 (F := Ideal) (iblk m c 0 t) (iblk m c 1 t) (iblk m c 2 t) (iblk m c 3 t) (ix2 n k) = vnew (grad (a1 m c) n (col t k)) (ent (a3 m c) n (col t k)) := by
  unfold out0_7
  frame_out
  refine (pay2_at _ _ n k).trans ?_
  exact congrArg₂ vnew (grad_blk m c t n k) (blk3 m c t n k)

theorem final4 (c : Dev nD) : (dats m 0 c).arrAt 4 (cfgs 0).N = G4 (a1 m c) := by
  refine (dats m 0 c).arrAt_eq_of_covers 4 _ (by decide +kernel) fun t _ y => ?_
  have ht := tlt t
  have e0 : ((((cfg0.win 4).blk t).view.emb y) 0).val = (y 0).val := by blk_simp [idx t]
  have e1 : ((((cfg0.win 4).blk t).view.emb y) 1).val = t.val * 512 + (y 1).val := by blk_simp [idx t]
  blk_simp
  rw [after0_4]
  revert e0 e1
  generalize ((cfg0.win 4).blk t).view.emb y = z
  intro e0 e1
  obtain ⟨n, k, rfl⟩ : ∃ (n : Fin 256) (k : Fin 512), y = ix2 n k := ⟨y 0, y 1, eq_ix2 y⟩
  refine (out4 m c t n k).trans ?_
  unfold G4
  rw [show z 0 = n from Fin.ext e0, show z 1 = col t k from Fin.ext e1]

theorem final5 (c : Dev nD) : (dats m 0 c).arrAt 5 (cfgs 0).N = G5 (a0 m c) (a1 m c) (a2 m c) (a3 m c) := by
  refine (dats m 0 c).arrAt_eq_of_covers 5 _ (by decide +kernel) fun t _ y => ?_
  have ht := tlt t
  have e0 : ((((cfg0.win 5).blk t).view.emb y) 0).val = (y 0).val := by blk_simp [idx t]
  have e1 : ((((cfg0.win 5).blk t).view.emb y) 1).val = t.val * 512 + (y 1).val := by blk_simp [idx t]
  blk_simp
  rw [after0_5]
  revert e0 e1
  generalize ((cfg0.win 5).blk t).view.emb y = z
  intro e0 e1
  obtain ⟨n, k, rfl⟩ : ∃ (n : Fin 256) (k : Fin 512), y = ix2 n k := ⟨y 0, y 1, eq_ix2 y⟩
  refine (out5 m c t n k).trans ?_
  unfold G5
  rw [show z 0 = n from Fin.ext e0, show z 1 = col t k from Fin.ext e1]

theorem final6 (c : Dev nD) : (dats m 0 c).arrAt 6 (cfgs 0).N = G6 (a1 m c) (a2 m c) := by
  refine (dats m 0 c).arrAt_eq_of_covers 6 _ (by decide +kernel) fun t _ y => ?_
  have ht := tlt t
  have e0 : ((((cfg0.win 6).blk t).view.emb y) 0).val = (y 0).val := by blk_simp [idx t]
  have e1 : ((((cfg0.win 6).blk t).view.emb y) 1).val = t.val * 512 + (y 1).val := by blk_simp [idx t]
  blk_simp
  rw [after0_6]
  revert e0 e1
  generalize ((cfg0.win 6).blk t).view.emb y = z
  intro e0 e1
  obtain ⟨n, k, rfl⟩ : ∃ (n : Fin 256) (k : Fin 512), y = ix2 n k := ⟨y 0, y 1, eq_ix2 y⟩
  refine (out6 m c t n k).trans ?_
  unfold G6
  rw [show z 0 = n from Fin.ext e0, show z 1 = col t k from Fin.ext e1]

theorem final7 (c : Dev nD) : (dats m 0 c).arrAt 7 (cfgs 0).N = G7 (a1 m c) (a3 m c) := by
  refine (dats m 0 c).arrAt_eq_of_covers 7 _ (by decide +kernel) fun t _ y => ?_
  have ht := tlt t
  have e0 : ((((cfg0.win 7).blk t).view.emb y) 0).val = (y 0).val := by blk_simp [idx t]
  have e1 : ((((cfg0.win 7).blk t).view.emb y) 1).val = t.val * 512 + (y 1).val := by blk_simp [idx t]
  blk_simp
  rw [after0_7]
  revert e0 e1
  generalize ((cfg0.win 7).blk t).view.emb y = z
  intro e0 e1
  obtain ⟨n, k, rfl⟩ : ∃ (n : Fin 256) (k : Fin 512), y = ix2 n k := ⟨y 0, y 1, eq_ix2 y⟩
  refine (out7 m c t n k).trans ?_
  unfold G7
  rw [show z 0 = n from Fin.ext e0, show z 1 = col t k from Fin.ext e1]

end Cert.AdamOutIdeal.Sum

namespace Cert.AOut
open Cert.StepOutIdeal Cert.StepOutIdeal.Read Cert.AdamOutIdeal.Sum Cert.Adam

variable (W : FVec Ideal Cert.StepOutIdeal.S1x256x1024 .f32) (D : FVec Ideal Cert.StepOutIdeal.S8x256x1024 .bf16) (M N : FVec Ideal Cert.StepOutIdeal.S1x256x1024 .f32)

theorem at4 : val_main_v1 (F := Ideal) D = G4 D := by
  funext (y : Cert.StepOutIdeal.S256x1024.Idx)
  obtain ⟨n, k, rfl⟩ : ∃ (n : Fin 256) (k : Fin 1024), y = ix2 n k := ⟨y 0, y 1, eq_ix2 y⟩
  pointwise [Read.val_main_v28, Read.val_main_v27, Read.val_main_cst_8, Read.val_main_v26, Read.val_main_v25, Read.val_main_v24, Read.val_main_cst_7, Read.val_main_v23, Read.val_main_v22, Read.val_main_v21, Read.val_main_cst_6, Read.val_main_v20, Read.val_main_v19, Read.val_main_v18, Read.val_main_cst_5, Read.val_main_v17, Read.val_main_v16, Read.val_main_cst_4, Read.val_main_v15, Read.val_main_v14, Read.val_main_v13, Read.val_main_cst_3, Read.val_main_v12, Read.val_main_v11, Read.val_main_v10, Read.val_main_cst_2, Read.val_main_v9, Read.val_main_v8, Read.val_main_v7, Read.val_main_cst_1, Read.val_main_v6, Read.val_main_v5, Read.val_main_cst_0, Read.val_main_v4, Read.val_main_v3, Read.val_main_v2, Read.val_main_v1, Read.val_main_cst, Read.val_main_v0]
  rfl

theorem at5 : val_main_v28 (F := Ideal) W D M N = G5 W D M N := by
  funext (y : Cert.StepOutIdeal.S256x1024.Idx)
  obtain ⟨n, k, rfl⟩ : ∃ (n : Fin 256) (k : Fin 1024), y = ix2 n k := ⟨y 0, y 1, eq_ix2 y⟩
  pointwise [Read.val_main_v28, Read.val_main_v27, Read.val_main_cst_8, Read.val_main_v26, Read.val_main_v25, Read.val_main_v24, Read.val_main_cst_7, Read.val_main_v23, Read.val_main_v22, Read.val_main_v21, Read.val_main_cst_6, Read.val_main_v20, Read.val_main_v19, Read.val_main_v18, Read.val_main_cst_5, Read.val_main_v17, Read.val_main_v16, Read.val_main_cst_4, Read.val_main_v15, Read.val_main_v14, Read.val_main_v13, Read.val_main_cst_3, Read.val_main_v12, Read.val_main_v11, Read.val_main_v10, Read.val_main_cst_2, Read.val_main_v9, Read.val_main_v8, Read.val_main_v7, Read.val_main_cst_1, Read.val_main_v6, Read.val_main_v5, Read.val_main_cst_0, Read.val_main_v4, Read.val_main_v3, Read.val_main_v2, Read.val_main_v1, Read.val_main_cst, Read.val_main_v0]
  rfl

theorem at6 : val_main_v9 (F := Ideal) D M = G6 D M := by
  funext (y : Cert.StepOutIdeal.S256x1024.Idx)
  obtain ⟨n, k, rfl⟩ : ∃ (n : Fin 256) (k : Fin 1024), y = ix2 n k := ⟨y 0, y 1, eq_ix2 y⟩
  pointwise [Read.val_main_v28, Read.val_main_v27, Read.val_main_cst_8, Read.val_main_v26, Read.val_main_v25, Read.val_main_v24, Read.val_main_cst_7, Read.val_main_v23, Read.val_main_v22, Read.val_main_v21, Read.val_main_cst_6, Read.val_main_v20, Read.val_main_v19, Read.val_main_v18, Read.val_main_cst_5, Read.val_main_v17, Read.val_main_v16, Read.val_main_cst_4, Read.val_main_v15, Read.val_main_v14, Read.val_main_v13, Read.val_main_cst_3, Read.val_main_v12, Read.val_main_v11, Read.val_main_v10, Read.val_main_cst_2, Read.val_main_v9, Read.val_main_v8, Read.val_main_v7, Read.val_main_cst_1, Read.val_main_v6, Read.val_main_v5, Read.val_main_cst_0, Read.val_main_v4, Read.val_main_v3, Read.val_main_v2, Read.val_main_v1, Read.val_main_cst, Read.val_main_v0]
  rfl

theorem at7 : val_main_v15 (F := Ideal) D N = G7 D N := by
  funext (y : Cert.StepOutIdeal.S256x1024.Idx)
  obtain ⟨n, k, rfl⟩ : ∃ (n : Fin 256) (k : Fin 1024), y = ix2 n k := ⟨y 0, y 1, eq_ix2 y⟩
  pointwise [Read.val_main_v28, Read.val_main_v27, Read.val_main_cst_8, Read.val_main_v26, Read.val_main_v25, Read.val_main_v24, Read.val_main_cst_7, Read.val_main_v23, Read.val_main_v22, Read.val_main_v21, Read.val_main_cst_6, Read.val_main_v20, Read.val_main_v19, Read.val_main_v18, Read.val_main_cst_5, Read.val_main_v17, Read.val_main_v16, Read.val_main_cst_4, Read.val_main_v15, Read.val_main_v14, Read.val_main_v13, Read.val_main_cst_3, Read.val_main_v12, Read.val_main_v11, Read.val_main_v10, Read.val_main_cst_2, Read.val_main_v9, Read.val_main_v8, Read.val_main_v7, Read.val_main_cst_1, Read.val_main_v6, Read.val_main_v5, Read.val_main_cst_0, Read.val_main_v4, Read.val_main_v3, Read.val_main_v2, Read.val_main_v1, Read.val_main_cst, Read.val_main_v0]
  rfl

/-- The reference leaves its arguments alone, and it has no semaphore. -/
theorem reference_frame : Cert.quiescent_StepOutIdeal := by
  intro m g _
  exact (θ_run _ _ _).mono (fun r h => ⟨fun c => (h c).2.2.2.2, sem_eq_zero_of_no_sems (by decide) r.2⟩) (Cert.StepOutIdeal.Value.run m g)

theorem algebraic : Cert.algebraic_AdamOutIdeal_StepOutIdeal := by
  intro m g m' g' hpre hagree
  refine ⟨fun c => G4 (a1 m c), fun c => G5 (a0 m c) (a1 m c) (a2 m c) (a3 m c), fun c => G6 (a1 m c) (a2 m c), fun c => G7 (a1 m c) (a3 m c), ?_, ?_⟩
  · exact (θ_run _ _ _).mono (fun r h c => ⟨(h c).1.trans (final4 m c), (h c).2.1.trans (final5 m c), (h c).2.2.1.trans (final6 m c), (h c).2.2.2.1.trans (final7 m c), (h c).2.2.2.2⟩) (Cert.AdamOutIdeal.Value.run_blocks m g)
  · refine (θ_run _ _ _).mono (fun r h c => ⟨(h c).1.trans ?_, (h c).2.1.trans ?_, (h c).2.2.1.trans ?_, (h c).2.2.2.1.trans ?_, (h c).2.2.2.2⟩) (Cert.StepOutIdeal.Value.run m' g')
    · refine (Cert.StepOutIdeal.Read.val_main_v1_eq _).trans ?_
      rw [(hagree c).2.1]
      exact at4 _
    · refine (Cert.StepOutIdeal.Read.val_main_v28_eq _ _ _ _).trans ?_
      rw [(hagree c).1, (hagree c).2.1, (hagree c).2.2.1, (hagree c).2.2.2]
      exact at5 _ _ _ _
    · refine (Cert.StepOutIdeal.Read.val_main_v9_eq _ _).trans ?_
      rw [(hagree c).2.1, (hagree c).2.2.1]
      exact at6 _ _
    · refine (Cert.StepOutIdeal.Read.val_main_v15_eq _ _).trans ?_
      rw [(hagree c).2.1, (hagree c).2.2.2]
      exact at7 _ _

end Cert.AOut

end
-- ==== Proof.AdamDownValue.lean ====
module

public import proofs.«01_k».proof.Defs
public import proofs.«01_k».proof.Proof.Adam
public import proofs.«01_k».proof.Proof.Gen.AdamDownIdeal.Value
public import proofs.«01_k».proof.Proof.Gen.StepDownIdeal.Read
public import Idealize.ShloMosaic.Lib.Pipeline.ValueKit
public import Idealize.ShloMosaic.Lib.Pipeline.ReadBack
public import Idealize.ShloMosaic.Lib.Pointwise
public import Idealize.ShloMosaic.Lib.Claim
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.AdamDownIdeal.Sum
open Cert.AdamDownIdeal Cert.AdamDownIdeal.Gen Cert.Adam

variable (m : (ℓ : Loc nD τ sig) → Buf (Elt Ideal) ℓ)

theorem idx : ∀ t : Fin cfg0.N, win0_0.index t = ![0, t.val] ∧ win0_1.index t = ![0, 0, t.val] ∧ win0_2.index t = ![0, t.val]
    ∧ win0_3.index t = ![0, t.val] ∧ win0_4.index t = ![0, t.val] ∧ win0_5.index t = ![0, t.val] ∧ win0_6.index t = ![0, t.val]
    ∧ win0_7.index t = ![0, t.val] ∧ t.val < 2 :=
  (by decide +kernel : ∀ t : Fin grid0.N, _)

/-- The gradient: the eight devices' parts, added. -/
def grad (D : FVec Ideal S8x352x1024 .bf16) (n : Fin 352) (k : Fin 1024) : EReal := ∑ q : Fin 8, D (ix3 q n k)

/-- An entry of a weight or a moment. -/
def ent (W : FVec Ideal S1x352x1024 .f32) (n : Fin 352) (k : Fin 1024) : EReal := W (ix3 0 n k)

def G4 (D : FVec Ideal S8x352x1024 .bf16) : FVec Ideal S352x1024 .f32 := fun i => grad D (i 0) (i 1)

def G5 (W : FVec Ideal S1x352x1024 .f32) (D : FVec Ideal S8x352x1024 .bf16) (M N : FVec Ideal S1x352x1024 .f32) : FVec Ideal S352x1024 .f32 := fun i =>
  delta (ent W (i 0) (i 1)) (grad D (i 0) (i 1)) (ent M (i 0) (i 1)) (ent N (i 0) (i 1))

def G6 (D : FVec Ideal S8x352x1024 .bf16) (M : FVec Ideal S1x352x1024 .f32) : FVec Ideal S352x1024 .f32 := fun i => mnew (grad D (i 0) (i 1)) (ent M (i 0) (i 1))

def G7 (D : FVec Ideal S8x352x1024 .bf16) (N : FVec Ideal S1x352x1024 .f32) : FVec Ideal S352x1024 .f32 := fun i => vnew (grad D (i 0) (i 1)) (ent N (i 0) (i 1))

theorem pay1_at (g x : Vec Ideal S352x512 .f32) (n : Fin 352) (k : Fin 512) :
    k0_pay1 (F := Ideal) g x (ix2 n k) = mnew (g (ix2 n k)) (x (ix2 n k)) := by pointwise [k0_pay1, mnew]

theorem pay2_at (g x : Vec Ideal S352x512 .f32) (n : Fin 352) (k : Fin 512) :
    k0_pay2 (F := Ideal) g x (ix2 n k) = vnew (g (ix2 n k)) (x (ix2 n k)) := by pointwise [k0_pay2, vnew]

theorem pay3_at (g w x y : Vec Ideal S352x512 .f32) (n : Fin 352) (k : Fin 512) :
    k0_pay3 (F := Ideal) g w x y (ix2 n k) = delta (w (ix2 n k)) (g (ix2 n k)) (x (ix2 n k)) (y (ix2 n k)) := by
  pointwise [k0_pay3]
  rw [pay1_at, pay2_at]
  rfl

theorem pay5_at (w : Vec Ideal S352x512 .f32) (s : Vec Ideal S8x352x512 .bf16) (x y : Vec Ideal S352x512 .f32) (n : Fin 352) (k : Fin 512) :
    k0_pay5 (F := Ideal) w s x y (ix2 n k) = ∑ q : Fin 8, s (ix3 q n k) := by
  pointwise [k0_pay5, k0_pay4]
  exact eight (fun q => s (ix3 q n k))

abbrev a0 (c : Dev nD) : FVec Ideal S1x352x1024 .f32 := m ((c : Thread nD τ).loc main_arg0)
abbrev a1 (c : Dev nD) : FVec Ideal S8x352x1024 .bf16 := m ((c : Thread nD τ).loc main_arg1)
abbrev a2 (c : Dev nD) : FVec Ideal S1x352x1024 .f32 := m ((c : Thread nD τ).loc main_arg2)
abbrev a3 (c : Dev nD) : FVec Ideal S1x352x1024 .f32 := m ((c : Thread nD τ).loc main_arg3)

theorem tlt (t : Fin cfg0.N) : t.val < 2 := (idx t).2.2.2.2.2.2.2.2

/-- Column `k` of point `t`. -/
def col (t : Fin cfg0.N) (k : Fin 512) : Fin 1024 := ⟨t.val * 512 + k.val, by have := tlt t; omega⟩

theorem host0 (c : Dev nD) : (V m c main_v0 : FVec Ideal S352x1024 .f32) = shapeCast S352x1024 (a0 m c) shapeCasts_S1x352x1024_S352x1024 := by
  show StableHlo.after hostOps0 (fun b => m (c, b)) (Proc.tc.devRef main_v0) = _
  simp only [hostOps0]
  after_results_simp
  rfl

theorem blk0 (c : Dev nD) (t : Fin cfg0.N) (n : Fin 352) (k : Fin 512) :
    (show FVec Ideal S352x512 .f32 from iblk m c 0 t) (ix2 n k) = ent (a0 m c) n (col t k) := by
  have ht := tlt t
  have e0 : (((win0_0.blk t).view.emb (ix2 n k)) 0).val = n.val := by blk_simp [idx t]
  have e1 : (((win0_0.blk t).view.emb (ix2 n k)) 1).val = t.val * 512 + k.val := by blk_simp [idx t]
  show (V m c main_v0 : FVec Ideal S352x1024 .f32) ((win0_0.blk t).view.emb (ix2 n k)) = _
  revert e0 e1
  generalize (win0_0.blk t).view.emb (ix2 n k) = z
  intro e0 e1
  obtain ⟨p, q, rfl⟩ : ∃ (p : Fin 352) (q : Fin 1024), z = ix2 p q := ⟨z 0, z 1, eq_ix2 z⟩
  obtain rfl : p = n := Fin.ext e0
  obtain rfl : q = col t k := Fin.ext e1
  rw [host0]
  unfold ent
  pointwise []

theorem host2 (c : Dev nD) : (V m c main_v1 : FVec Ideal S352x1024 .f32) = shapeCast S352x1024 (a2 m c) shapeCasts_S1x352x1024_S352x1024 := by
  show StableHlo.after hostOps0 (fun b => m (c, b)) (Proc.tc.devRef main_v1) = _
  simp only [hostOps0]
  after_results_simp
  rfl

theorem blk2 (c : Dev nD) (t : Fin cfg0.N) (n : Fin 352) (k : Fin 512) :
    (show FVec Ideal S352x512 .f32 from iblk m c 2 t) (ix2 n k) = ent (a2 m c) n (col t k) := by
  have ht := tlt t
  have e0 : (((win0_2.blk t).view.emb (ix2 n k)) 0).val = n.val := by blk_simp [idx t]
  have e1 : (((win0_2.blk t).view.emb (ix2 n k)) 1).val = t.val * 512 + k.val := by blk_simp [idx t]
  show (V m c main_v1 : FVec Ideal S352x1024 .f32) ((win0_2.blk t).view.emb (ix2 n k)) = _
  revert e0 e1
  generalize (win0_2.blk t).view.emb (ix2 n k) = z
  intro e0 e1
  obtain ⟨p, q, rfl⟩ : ∃ (p : Fin 352) (q : Fin 1024), z = ix2 p q := ⟨z 0, z 1, eq_ix2 z⟩
  obtain rfl : p = n := Fin.ext e0
  obtain rfl : q = col t k := Fin.ext e1
  rw [host2]
  unfold ent
  pointwise []

theorem host3 (c : Dev nD) : (V m c main_v2 : FVec Ideal S352x1024 .f32) = shapeCast S352x1024 (a3 m c) shapeCasts_S1x352x1024_S352x1024 := by
  show StableHlo.after hostOps0 (fun b => m (c, b)) (Proc.tc.devRef main_v2) = _
  simp only [hostOps0]
  after_results_simp
  rfl

theorem blk3 (c : Dev nD) (t : Fin cfg0.N) (n : Fin 352) (k : Fin 512) :
    (show FVec Ideal S352x512 .f32 from iblk m c 3 t) (ix2 n k) = ent (a3 m c) n (col t k) := by
  have ht := tlt t
  have e0 : (((win0_3.blk t).view.emb (ix2 n k)) 0).val = n.val := by blk_simp [idx t]
  have e1 : (((win0_3.blk t).view.emb (ix2 n k)) 1).val = t.val * 512 + k.val := by blk_simp [idx t]
  show (V m c main_v2 : FVec Ideal S352x1024 .f32) ((win0_3.blk t).view.emb (ix2 n k)) = _
  revert e0 e1
  generalize (win0_3.blk t).view.emb (ix2 n k) = z
  intro e0 e1
  obtain ⟨p, q, rfl⟩ : ∃ (p : Fin 352) (q : Fin 1024), z = ix2 p q := ⟨z 0, z 1, eq_ix2 z⟩
  obtain rfl : p = n := Fin.ext e0
  obtain rfl : q = col t k := Fin.ext e1
  rw [host3]
  unfold ent
  pointwise []

theorem blk1 (c : Dev nD) (t : Fin cfg0.N) (q : Fin 8) (n : Fin 352) (k : Fin 512) :
    (show FVec Ideal S8x352x512 .bf16 from iblk m c 1 t) (ix3 q n k) = a1 m c (ix3 q n (col t k)) := by
  blk_point [iblk, V, idx t, col]

theorem grad_blk (c : Dev nD) (t : Fin cfg0.N) (n : Fin 352) (k : Fin 512) :
    k0_pay5 (F := Ideal) (iblk m c 0 t) (iblk m c 1 t) (iblk m c 2 t) (iblk m c 3 t) (ix2 n k) = grad (a1 m c) n (col t k) := by
  refine (pay5_at _ _ _ _ n k).trans ?_
  exact Finset.sum_congr rfl fun q _ => blk1 m c t q n k

theorem out4 (c : Dev nD) (t : Fin cfg0.N) (n : Fin 352) (k : Fin 512) :
    out0_4 (F := Ideal) (iblk m c 0 t) (iblk m c 1 t) (iblk m c 2 t) (iblk m c 3 t) (ix2 n k) = grad (a1 m c) n (col t k) := by
  refine Eq.trans ?_ (grad_blk m c t n k)
  unfold out0_4 k0_pay5
  frame_out

theorem out5 (c : Dev nD) (t : Fin cfg0.N) (n : Fin 352) (k : Fin 512) :
    out0_5 (F := Ideal) (iblk m c 0 t) (iblk m c 1 t) (iblk m c 2 t) (iblk m c 3 t) (ix2 n k)
      = delta (ent (a0 m c) n (col t k)) (grad (a1 m c) n (col t k)) (ent (a2 m c) n (col t k)) (ent (a3 m c) n (col t k)) := by
  unfold out0_5
  frame_out
  refine (pay3_at _ _ _ _ n k).trans ?_
  rw [grad_blk]
  exact congr (congrArg₂ (fun u v => delta u (grad (a1 m c) n (col t k)) v) (blk0 m c t n k) (blk2 m c t n k)) (blk3 m c t n k)

theorem out6 (c : Dev nD) (t : Fin cfg0.N) (n : Fin 352) (k : Fin 512) :
    out0_6 (F := Ideal) (iblk m c 0 t) (iblk m c 1 t) (iblk m c 2 t) (iblk m c 3 t) (ix2 n k) = mnew (grad (a1 m c) n (col t k)) (ent (a2 m c) n (col t k)) := by
  unfold out0_6
  frame_out
  refine (pay1_at _ _ n k).trans ?_
  exact congrArg₂ mnew (grad_blk m c t n k) (blk2 m c t n k)

theorem out7 (c : Dev nD) (t : Fin cfg0.N) (n : Fin 352) (k : Fin 512) :
    out0_7 (F := Ideal) (iblk m c 0 t) (iblk m c 1 t) (iblk m c 2 t) (iblk m c 3 t) (ix2 n k) = vnew (grad (a1 m c) n (col t k)) (ent (a3 m c) n (col t k)) := by
  unfold out0_7
  frame_out
  refine (pay2_at _ _ n k).trans ?_
  exact congrArg₂ vnew (grad_blk m c t n k) (blk3 m c t n k)

theorem final4 (c : Dev nD) : (dats m 0 c).arrAt 4 (cfgs 0).N = G4 (a1 m c) := by
  refine (dats m 0 c).arrAt_eq_of_covers 4 _ (by decide +kernel) fun t _ y => ?_
  have ht := tlt t
  have e0 : ((((cfg0.win 4).blk t).view.emb y) 0).val = (y 0).val := by blk_simp [idx t]
  have e1 : ((((cfg0.win 4).blk t).view.emb y) 1).val = t.val * 512 + (y 1).val := by blk_simp [idx t]
  blk_simp
  rw [after0_4]
  revert e0 e1
  generalize ((cfg0.win 4).blk t).view.emb y = z
  intro e0 e1
  obtain ⟨n, k, rfl⟩ : ∃ (n : Fin 352) (k : Fin 512), y = ix2 n k := ⟨y 0, y 1, eq_ix2 y⟩
  refine (out4 m c t n k).trans ?_
  unfold G4
  rw [show z 0 = n from Fin.ext e0, show z 1 = col t k from Fin.ext e1]

theorem final5 (c : Dev nD) : (dats m 0 c).arrAt 5 (cfgs 0).N = G5 (a0 m c) (a1 m c) (a2 m c) (a3 m c) := by
  refine (dats m 0 c).arrAt_eq_of_covers 5 _ (by decide +kernel) fun t _ y => ?_
  have ht := tlt t
  have e0 : ((((cfg0.win 5).blk t).view.emb y) 0).val = (y 0).val := by blk_simp [idx t]
  have e1 : ((((cfg0.win 5).blk t).view.emb y) 1).val = t.val * 512 + (y 1).val := by blk_simp [idx t]
  blk_simp
  rw [after0_5]
  revert e0 e1
  generalize ((cfg0.win 5).blk t).view.emb y = z
  intro e0 e1
  obtain ⟨n, k, rfl⟩ : ∃ (n : Fin 352) (k : Fin 512), y = ix2 n k := ⟨y 0, y 1, eq_ix2 y⟩
  refine (out5 m c t n k).trans ?_
  unfold G5
  rw [show z 0 = n from Fin.ext e0, show z 1 = col t k from Fin.ext e1]

theorem final6 (c : Dev nD) : (dats m 0 c).arrAt 6 (cfgs 0).N = G6 (a1 m c) (a2 m c) := by
  refine (dats m 0 c).arrAt_eq_of_covers 6 _ (by decide +kernel) fun t _ y => ?_
  have ht := tlt t
  have e0 : ((((cfg0.win 6).blk t).view.emb y) 0).val = (y 0).val := by blk_simp [idx t]
  have e1 : ((((cfg0.win 6).blk t).view.emb y) 1).val = t.val * 512 + (y 1).val := by blk_simp [idx t]
  blk_simp
  rw [after0_6]
  revert e0 e1
  generalize ((cfg0.win 6).blk t).view.emb y = z
  intro e0 e1
  obtain ⟨n, k, rfl⟩ : ∃ (n : Fin 352) (k : Fin 512), y = ix2 n k := ⟨y 0, y 1, eq_ix2 y⟩
  refine (out6 m c t n k).trans ?_
  unfold G6
  rw [show z 0 = n from Fin.ext e0, show z 1 = col t k from Fin.ext e1]

theorem final7 (c : Dev nD) : (dats m 0 c).arrAt 7 (cfgs 0).N = G7 (a1 m c) (a3 m c) := by
  refine (dats m 0 c).arrAt_eq_of_covers 7 _ (by decide +kernel) fun t _ y => ?_
  have ht := tlt t
  have e0 : ((((cfg0.win 7).blk t).view.emb y) 0).val = (y 0).val := by blk_simp [idx t]
  have e1 : ((((cfg0.win 7).blk t).view.emb y) 1).val = t.val * 512 + (y 1).val := by blk_simp [idx t]
  blk_simp
  rw [after0_7]
  revert e0 e1
  generalize ((cfg0.win 7).blk t).view.emb y = z
  intro e0 e1
  obtain ⟨n, k, rfl⟩ : ∃ (n : Fin 352) (k : Fin 512), y = ix2 n k := ⟨y 0, y 1, eq_ix2 y⟩
  refine (out7 m c t n k).trans ?_
  unfold G7
  rw [show z 0 = n from Fin.ext e0, show z 1 = col t k from Fin.ext e1]

end Cert.AdamDownIdeal.Sum

namespace Cert.ADown
open Cert.StepDownIdeal Cert.StepDownIdeal.Read Cert.AdamDownIdeal.Sum Cert.Adam

variable (W : FVec Ideal Cert.StepDownIdeal.S1x352x1024 .f32) (D : FVec Ideal Cert.StepDownIdeal.S8x352x1024 .bf16) (M N : FVec Ideal Cert.StepDownIdeal.S1x352x1024 .f32)

theorem at4 : val_main_v1 (F := Ideal) D = G4 D := by
  funext (y : Cert.StepDownIdeal.S352x1024.Idx)
  obtain ⟨n, k, rfl⟩ : ∃ (n : Fin 352) (k : Fin 1024), y = ix2 n k := ⟨y 0, y 1, eq_ix2 y⟩
  pointwise [Read.val_main_v28, Read.val_main_v27, Read.val_main_cst_8, Read.val_main_v26, Read.val_main_v25, Read.val_main_v24, Read.val_main_cst_7, Read.val_main_v23, Read.val_main_v22, Read.val_main_v21, Read.val_main_cst_6, Read.val_main_v20, Read.val_main_v19, Read.val_main_v18, Read.val_main_cst_5, Read.val_main_v17, Read.val_main_v16, Read.val_main_cst_4, Read.val_main_v15, Read.val_main_v14, Read.val_main_v13, Read.val_main_cst_3, Read.val_main_v12, Read.val_main_v11, Read.val_main_v10, Read.val_main_cst_2, Read.val_main_v9, Read.val_main_v8, Read.val_main_v7, Read.val_main_cst_1, Read.val_main_v6, Read.val_main_v5, Read.val_main_cst_0, Read.val_main_v4, Read.val_main_v3, Read.val_main_v2, Read.val_main_v1, Read.val_main_cst, Read.val_main_v0]
  rfl

theorem at5 : val_main_v28 (F := Ideal) W D M N = G5 W D M N := by
  funext (y : Cert.StepDownIdeal.S352x1024.Idx)
  obtain ⟨n, k, rfl⟩ : ∃ (n : Fin 352) (k : Fin 1024), y = ix2 n k := ⟨y 0, y 1, eq_ix2 y⟩
  pointwise [Read.val_main_v28, Read.val_main_v27, Read.val_main_cst_8, Read.val_main_v26, Read.val_main_v25, Read.val_main_v24, Read.val_main_cst_7, Read.val_main_v23, Read.val_main_v22, Read.val_main_v21, Read.val_main_cst_6, Read.val_main_v20, Read.val_main_v19, Read.val_main_v18, Read.val_main_cst_5, Read.val_main_v17, Read.val_main_v16, Read.val_main_cst_4, Read.val_main_v15, Read.val_main_v14, Read.val_main_v13, Read.val_main_cst_3, Read.val_main_v12, Read.val_main_v11, Read.val_main_v10, Read.val_main_cst_2, Read.val_main_v9, Read.val_main_v8, Read.val_main_v7, Read.val_main_cst_1, Read.val_main_v6, Read.val_main_v5, Read.val_main_cst_0, Read.val_main_v4, Read.val_main_v3, Read.val_main_v2, Read.val_main_v1, Read.val_main_cst, Read.val_main_v0]
  rfl

theorem at6 : val_main_v9 (F := Ideal) D M = G6 D M := by
  funext (y : Cert.StepDownIdeal.S352x1024.Idx)
  obtain ⟨n, k, rfl⟩ : ∃ (n : Fin 352) (k : Fin 1024), y = ix2 n k := ⟨y 0, y 1, eq_ix2 y⟩
  pointwise [Read.val_main_v28, Read.val_main_v27, Read.val_main_cst_8, Read.val_main_v26, Read.val_main_v25, Read.val_main_v24, Read.val_main_cst_7, Read.val_main_v23, Read.val_main_v22, Read.val_main_v21, Read.val_main_cst_6, Read.val_main_v20, Read.val_main_v19, Read.val_main_v18, Read.val_main_cst_5, Read.val_main_v17, Read.val_main_v16, Read.val_main_cst_4, Read.val_main_v15, Read.val_main_v14, Read.val_main_v13, Read.val_main_cst_3, Read.val_main_v12, Read.val_main_v11, Read.val_main_v10, Read.val_main_cst_2, Read.val_main_v9, Read.val_main_v8, Read.val_main_v7, Read.val_main_cst_1, Read.val_main_v6, Read.val_main_v5, Read.val_main_cst_0, Read.val_main_v4, Read.val_main_v3, Read.val_main_v2, Read.val_main_v1, Read.val_main_cst, Read.val_main_v0]
  rfl

theorem at7 : val_main_v15 (F := Ideal) D N = G7 D N := by
  funext (y : Cert.StepDownIdeal.S352x1024.Idx)
  obtain ⟨n, k, rfl⟩ : ∃ (n : Fin 352) (k : Fin 1024), y = ix2 n k := ⟨y 0, y 1, eq_ix2 y⟩
  pointwise [Read.val_main_v28, Read.val_main_v27, Read.val_main_cst_8, Read.val_main_v26, Read.val_main_v25, Read.val_main_v24, Read.val_main_cst_7, Read.val_main_v23, Read.val_main_v22, Read.val_main_v21, Read.val_main_cst_6, Read.val_main_v20, Read.val_main_v19, Read.val_main_v18, Read.val_main_cst_5, Read.val_main_v17, Read.val_main_v16, Read.val_main_cst_4, Read.val_main_v15, Read.val_main_v14, Read.val_main_v13, Read.val_main_cst_3, Read.val_main_v12, Read.val_main_v11, Read.val_main_v10, Read.val_main_cst_2, Read.val_main_v9, Read.val_main_v8, Read.val_main_v7, Read.val_main_cst_1, Read.val_main_v6, Read.val_main_v5, Read.val_main_cst_0, Read.val_main_v4, Read.val_main_v3, Read.val_main_v2, Read.val_main_v1, Read.val_main_cst, Read.val_main_v0]
  rfl

/-- The reference leaves its arguments alone, and it has no semaphore. -/
theorem reference_frame : Cert.quiescent_StepDownIdeal := by
  intro m g _
  exact (θ_run _ _ _).mono (fun r h => ⟨fun c => (h c).2.2.2.2, sem_eq_zero_of_no_sems (by decide) r.2⟩) (Cert.StepDownIdeal.Value.run m g)

theorem algebraic : Cert.algebraic_AdamDownIdeal_StepDownIdeal := by
  intro m g m' g' hpre hagree
  refine ⟨fun c => G4 (a1 m c), fun c => G5 (a0 m c) (a1 m c) (a2 m c) (a3 m c), fun c => G6 (a1 m c) (a2 m c), fun c => G7 (a1 m c) (a3 m c), ?_, ?_⟩
  · exact (θ_run _ _ _).mono (fun r h c => ⟨(h c).1.trans (final4 m c), (h c).2.1.trans (final5 m c), (h c).2.2.1.trans (final6 m c), (h c).2.2.2.1.trans (final7 m c), (h c).2.2.2.2⟩) (Cert.AdamDownIdeal.Value.run_blocks m g)
  · refine (θ_run _ _ _).mono (fun r h c => ⟨(h c).1.trans ?_, (h c).2.1.trans ?_, (h c).2.2.1.trans ?_, (h c).2.2.2.1.trans ?_, (h c).2.2.2.2⟩) (Cert.StepDownIdeal.Value.run m' g')
    · refine (Cert.StepDownIdeal.Read.val_main_v1_eq _).trans ?_
      rw [(hagree c).2.1]
      exact at4 _
    · refine (Cert.StepDownIdeal.Read.val_main_v28_eq _ _ _ _).trans ?_
      rw [(hagree c).1, (hagree c).2.1, (hagree c).2.2.1, (hagree c).2.2.2]
      exact at5 _ _ _ _
    · refine (Cert.StepDownIdeal.Read.val_main_v9_eq _ _).trans ?_
      rw [(hagree c).2.1, (hagree c).2.2.1]
      exact at6 _ _
    · refine (Cert.StepDownIdeal.Read.val_main_v15_eq _ _).trans ?_
      rw [(hagree c).2.1, (hagree c).2.2.2]
      exact at7 _ _

end Cert.ADown

end
-- ==== Proof.AdaValue.lean ====
module

public import proofs.«01_k».proof.Defs
public import proofs.«01_k».proof.Proof.Gen.AdaWgradIdeal.Value
public import proofs.«01_k».proof.Proof.Gen.AdaGradIdeal.Read
public import Idealize.ShloMosaic.Lib.Pipeline.ValueKit
public import Idealize.ShloMosaic.Lib.Pipeline.ReadBack
public import Idealize.ShloMosaic.Lib.Pointwise
public import Idealize.ShloMosaic.Lib.Claim
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.AdaWgradIdeal.Sum
open Cert.AdaWgradIdeal Cert.AdaWgradIdeal.Gen

variable (m : (ℓ : Loc nD τ sig) → Buf (Elt Ideal) ℓ)

theorem idx : ∀ t : Fin cfg0.N, win0_0.index t = ![0, 0] ∧ win0_1.index t = ![0, 0] ∧ win0_2.index t = ![0, 0] :=
  (by decide +kernel : ∀ t : Fin grid0.N, _)

/-- The product of the conditioning rows, turned round, with the modulation's cotangents. -/
def G2 (C : FVec Ideal S8x1024 .f32) (D : FVec Ideal S8x768 .f32) : FVec Ideal S1024x768 .f32 := fun i =>
  ∑ q : Fin 8, C (ix2 q (i 0)) * D (ix2 q (i 1))

abbrev a0 (c : Dev nD) : FVec Ideal S8x1024 .f32 := m ((c : Thread nD τ).loc main_arg0)
abbrev a1 (c : Dev nD) : FVec Ideal S8x768 .f32 := m ((c : Thread nD τ).loc main_arg1)

theorem pay1_at (x : Vec Ideal S8x1024 .f32) (y : Vec Ideal S8x768 .f32) (n : Fin 1024) (k : Fin 768) :
    k0_pay1 (F := Ideal) x y (ix2 n k) = ∑ q : Fin 8, x (ix2 q n) * y (ix2 q k) := by pointwise [k0_pay1]

theorem out2 (c : Dev nD) (t : Fin cfg0.N) (n : Fin 1024) (k : Fin 768) :
    out0_2 (F := Ideal) (iblk m c 0 t) (iblk m c 1 t) (ix2 n k) = ∑ q : Fin 8, a0 m c (ix2 q n) * a1 m c (ix2 q k) := by
  unfold out0_2
  frame_out
  refine (pay1_at _ _ n k).trans ?_
  refine Fin.sum_fin_congr fun q => congrArg₂ (· * ·) ?_ ?_
  · blk_point [iblk, V, idx t]
  · blk_point [iblk, V, idx t]

theorem final2 (c : Dev nD) : (dats m 0 c).arrAt 2 (cfgs 0).N = G2 (a0 m c) (a1 m c) := by
  refine (dats m 0 c).arrAt_eq_of_covers 2 _ (by decide +kernel) fun t _ y => ?_
  have e0 : ((((cfg0.win 2).blk t).view.emb y) 0).val = (y 0).val := by blk_simp [idx t]
  have e1 : ((((cfg0.win 2).blk t).view.emb y) 1).val = (y 1).val := by blk_simp [idx t]
  blk_simp
  rw [after0_2]
  revert e0 e1
  generalize ((cfg0.win 2).blk t).view.emb y = z
  intro e0 e1
  obtain ⟨n, k, rfl⟩ : ∃ (n : Fin 1024) (k : Fin 768), y = ix2 n k := ⟨y 0, y 1, eq_ix2 y⟩
  refine (out2 m c t n k).trans ?_
  unfold G2
  rw [show z 0 = n from Fin.ext e0, show z 1 = k from Fin.ext e1]

end Cert.AdaWgradIdeal.Sum

namespace Cert.Ada
open Cert.AdaGradIdeal Cert.AdaGradIdeal.Read Cert.AdaWgradIdeal.Sum

theorem at2 (C : FVec Ideal Cert.AdaGradIdeal.S8x1024 .f32) (D : FVec Ideal Cert.AdaGradIdeal.S8x768 .f32) : val_main_v3 (F := Ideal) C D = G2 C D := by
  funext (y : Cert.AdaGradIdeal.S1024x768.Idx)
  obtain ⟨n, k, rfl⟩ : ∃ (n : Fin 1024) (k : Fin 768), y = ix2 n k := ⟨y 0, y 1, eq_ix2 y⟩
  pointwise [Read.val_main_v3, Read.val_main_v2, Read.val_main_v1, Read.val_main_v0, Read.val_main_cst]
  unfold G2
  exact Finset.sum_congr rfl fun q _ => mul_comm _ _

/-- The reference leaves its arguments alone, and it has no semaphore. -/
theorem reference_frame : Cert.quiescent_AdaGradIdeal := by
  intro m g _
  exact (θ_run _ _ _).mono (fun r h => ⟨fun c => (h c).2, sem_eq_zero_of_no_sems (by decide) r.2⟩) (Cert.AdaGradIdeal.Value.run m g)

theorem algebraic : Cert.algebraic_AdaWgradIdeal_AdaGradIdeal := by
  intro m g m' g' hpre hagree
  refine ⟨fun c => G2 (a0 m c) (a1 m c), ?_, ?_⟩
  · exact (θ_run _ _ _).mono (fun r h c => ⟨(h c).1.trans (final2 m c), (h c).2⟩) (Cert.AdaWgradIdeal.Value.run_blocks m g)
  · refine (θ_run _ _ _).mono (fun r h c => ⟨(h c).1.trans ?_, (h c).2⟩) (Cert.AdaGradIdeal.Value.run m' g')
    · refine (Cert.AdaGradIdeal.Read.val_main_v3_eq _ _).trans ?_
      rw [(hagree c).1, (hagree c).2]
      exact at2 _ _

end Cert.Ada

end
-- ==== Proof.SmallValue.lean ====
module

public import proofs.«01_k».proof.Defs
public import proofs.«01_k».proof.Proof.Adam
public import proofs.«01_k».proof.Proof.Gen.SmallSumIdeal.Value
public import proofs.«01_k».proof.Proof.Gen.SmallGradIdeal.Read
public import Idealize.ShloMosaic.Lib.Pipeline.ValueKit
public import Idealize.ShloMosaic.Lib.Pipeline.ReadBack
public import Idealize.ShloMosaic.Lib.Pointwise
public import Idealize.ShloMosaic.Lib.Claim
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.SmallSumIdeal.Sum
open Cert.SmallSumIdeal Cert.SmallSumIdeal.Gen

variable (m : (ℓ : Loc nD τ sig) → Buf (Elt Ideal) ℓ)

theorem idx : ∀ t : Fin cfg0.N, win0_0.index t = ![0, 0, 0] ∧ win0_1.index t = ![0, 0, 0] ∧ win0_2.index t = ![0, 0, 0] ∧ win0_3.index t = ![0, 0, 0]
    ∧ win0_4.index t = ![0, 0] ∧ win0_5.index t = ![0, 0] ∧ win0_6.index t = ![0, 0] ∧ win0_7.index t = ![0, 0] :=
  (by decide +kernel : ∀ t : Fin grid0.N, _)

/-- The eight devices' parts, added. -/
def G4 (D : FVec Ideal S8x32x1024 .f32) : FVec Ideal S32x1024 .f32 := fun i => ∑ q : Fin 8, D (ix3 q (i 0) (i 1))

abbrev a0 (c : Dev nD) : FVec Ideal S8x32x1024 .f32 := m ((c : Thread nD τ).loc main_arg0)

/-- The eight devices' parts, added. -/
def G5 (D : FVec Ideal S8x4x192 .f32) : FVec Ideal S4x192 .f32 := fun i => ∑ q : Fin 8, D (ix3 q (i 0) (i 1))

abbrev a1 (c : Dev nD) : FVec Ideal S8x4x192 .f32 := m ((c : Thread nD τ).loc main_arg1)

/-- The eight devices' parts, added. -/
def G6 (D : FVec Ideal S8x31x128 .f32) : FVec Ideal S31x128 .f32 := fun i => ∑ q : Fin 8, D (ix3 q (i 0) (i 1))

abbrev a2 (c : Dev nD) : FVec Ideal S8x31x128 .f32 := m ((c : Thread nD τ).loc main_arg2)

/-- The eight devices' parts, added. -/
def G7 (D : FVec Ideal S8x3x704 .f32) : FVec Ideal S3x704 .f32 := fun i => ∑ q : Fin 8, D (ix3 q (i 0) (i 1))

abbrev a3 (c : Dev nD) : FVec Ideal S8x3x704 .f32 := m ((c : Thread nD τ).loc main_arg3)

theorem pay4_at (x0 : Vec Ideal S8x32x1024 .f32) (x1 : Vec Ideal S8x4x192 .f32) (x2 : Vec Ideal S8x31x128 .f32) (x3 : Vec Ideal S8x3x704 .f32) (n : Fin 32) (k : Fin 1024) :
    out0_4 (F := Ideal) x0 x1 x2 x3 (ix2 n k) = ∑ q : Fin 8, x0 (ix3 q n k) := by
  unfold out0_4
  frame_out
  pointwise [k0_pay2]
  exact Cert.Adam.eight (fun q => x0 (ix3 q n k))

theorem out4 (c : Dev nD) (t : Fin cfg0.N) (n : Fin 32) (k : Fin 1024) :
    out0_4 (F := Ideal) (iblk m c 0 t) (iblk m c 1 t) (iblk m c 2 t) (iblk m c 3 t) (ix2 n k) = ∑ q : Fin 8, a0 m c (ix3 q n k) := by
  refine (pay4_at _ _ _ _ n k).trans ?_
  refine Finset.sum_congr rfl fun q _ => ?_
  blk_point [iblk, V, idx t]

theorem final4 (c : Dev nD) : (dats m 0 c).arrAt 4 (cfgs 0).N = G4 (a0 m c) := by
  refine (dats m 0 c).arrAt_eq_of_covers 4 _ (by decide +kernel) fun t _ y => ?_
  have e0 : ((((cfg0.win 4).blk t).view.emb y) 0).val = (y 0).val := by blk_simp [idx t]
  have e1 : ((((cfg0.win 4).blk t).view.emb y) 1).val = (y 1).val := by blk_simp [idx t]
  blk_simp
  rw [after0_4]
  revert e0 e1
  generalize ((cfg0.win 4).blk t).view.emb y = z
  intro e0 e1
  obtain ⟨n, k, rfl⟩ : ∃ (n : Fin 32) (k : Fin 1024), y = ix2 n k := ⟨y 0, y 1, eq_ix2 y⟩
  refine (out4 m c t n k).trans ?_
  unfold G4
  rw [show z 0 = n from Fin.ext e0, show z 1 = k from Fin.ext e1]

theorem pay5_at (x0 : Vec Ideal S8x32x1024 .f32) (x1 : Vec Ideal S8x4x192 .f32) (x2 : Vec Ideal S8x31x128 .f32) (x3 : Vec Ideal S8x3x704 .f32) (n : Fin 4) (k : Fin 192) :
    out0_5 (F := Ideal) x0 x1 x2 x3 (ix2 n k) = ∑ q : Fin 8, x1 (ix3 q n k) := by
  unfold out0_5
  frame_out
  pointwise [k0_pay4, k0_pay3]
  exact Cert.Adam.eight (fun q => x1 (ix3 q n k))

theorem out5 (c : Dev nD) (t : Fin cfg0.N) (n : Fin 4) (k : Fin 192) :
    out0_5 (F := Ideal) (iblk m c 0 t) (iblk m c 1 t) (iblk m c 2 t) (iblk m c 3 t) (ix2 n k) = ∑ q : Fin 8, a1 m c (ix3 q n k) := by
  refine (pay5_at _ _ _ _ n k).trans ?_
  refine Finset.sum_congr rfl fun q _ => ?_
  blk_point [iblk, V, idx t]

theorem final5 (c : Dev nD) : (dats m 0 c).arrAt 5 (cfgs 0).N = G5 (a1 m c) := by
  refine (dats m 0 c).arrAt_eq_of_covers 5 _ (by decide +kernel) fun t _ y => ?_
  have e0 : ((((cfg0.win 5).blk t).view.emb y) 0).val = (y 0).val := by blk_simp [idx t]
  have e1 : ((((cfg0.win 5).blk t).view.emb y) 1).val = (y 1).val := by blk_simp [idx t]
  blk_simp
  rw [after0_5]
  revert e0 e1
  generalize ((cfg0.win 5).blk t).view.emb y = z
  intro e0 e1
  obtain ⟨n, k, rfl⟩ : ∃ (n : Fin 4) (k : Fin 192), y = ix2 n k := ⟨y 0, y 1, eq_ix2 y⟩
  refine (out5 m c t n k).trans ?_
  unfold G5
  rw [show z 0 = n from Fin.ext e0, show z 1 = k from Fin.ext e1]

theorem pay6_at (x0 : Vec Ideal S8x32x1024 .f32) (x1 : Vec Ideal S8x4x192 .f32) (x2 : Vec Ideal S8x31x128 .f32) (x3 : Vec Ideal S8x3x704 .f32) (n : Fin 31) (k : Fin 128) :
    out0_6 (F := Ideal) x0 x1 x2 x3 (ix2 n k) = ∑ q : Fin 8, x2 (ix3 q n k) := by
  unfold out0_6
  frame_out
  pointwise [k0_pay6, k0_pay5]
  exact Cert.Adam.eight (fun q => x2 (ix3 q n k))

theorem out6 (c : Dev nD) (t : Fin cfg0.N) (n : Fin 31) (k : Fin 128) :
    out0_6 (F := Ideal) (iblk m c 0 t) (iblk m c 1 t) (iblk m c 2 t) (iblk m c 3 t) (ix2 n k) = ∑ q : Fin 8, a2 m c (ix3 q n k) := by
  refine (pay6_at _ _ _ _ n k).trans ?_
  refine Finset.sum_congr rfl fun q _ => ?_
  blk_point [iblk, V, idx t]

theorem final6 (c : Dev nD) : (dats m 0 c).arrAt 6 (cfgs 0).N = G6 (a2 m c) := by
  refine (dats m 0 c).arrAt_eq_of_covers 6 _ (by decide +kernel) fun t _ y => ?_
  have e0 : ((((cfg0.win 6).blk t).view.emb y) 0).val = (y 0).val := by blk_simp [idx t]
  have e1 : ((((cfg0.win 6).blk t).view.emb y) 1).val = (y 1).val := by blk_simp [idx t]
  blk_simp
  rw [after0_6]
  revert e0 e1
  generalize ((cfg0.win 6).blk t).view.emb y = z
  intro e0 e1
  obtain ⟨n, k, rfl⟩ : ∃ (n : Fin 31) (k : Fin 128), y = ix2 n k := ⟨y 0, y 1, eq_ix2 y⟩
  refine (out6 m c t n k).trans ?_
  unfold G6
  rw [show z 0 = n from Fin.ext e0, show z 1 = k from Fin.ext e1]

theorem pay7_at (x0 : Vec Ideal S8x32x1024 .f32) (x1 : Vec Ideal S8x4x192 .f32) (x2 : Vec Ideal S8x31x128 .f32) (x3 : Vec Ideal S8x3x704 .f32) (n : Fin 3) (k : Fin 704) :
    out0_7 (F := Ideal) x0 x1 x2 x3 (ix2 n k) = ∑ q : Fin 8, x3 (ix3 q n k) := by
  unfold out0_7
  frame_out
  pointwise [k0_pay1, k0_pay7]
  exact Cert.Adam.eight (fun q => x3 (ix3 q n k))

theorem out7 (c : Dev nD) (t : Fin cfg0.N) (n : Fin 3) (k : Fin 704) :
    out0_7 (F := Ideal) (iblk m c 0 t) (iblk m c 1 t) (iblk m c 2 t) (iblk m c 3 t) (ix2 n k) = ∑ q : Fin 8, a3 m c (ix3 q n k) := by
  refine (pay7_at _ _ _ _ n k).trans ?_
  refine Finset.sum_congr rfl fun q _ => ?_
  blk_point [iblk, V, idx t]

theorem final7 (c : Dev nD) : (dats m 0 c).arrAt 7 (cfgs 0).N = G7 (a3 m c) := by
  refine (dats m 0 c).arrAt_eq_of_covers 7 _ (by decide +kernel) fun t _ y => ?_
  have e0 : ((((cfg0.win 7).blk t).view.emb y) 0).val = (y 0).val := by blk_simp [idx t]
  have e1 : ((((cfg0.win 7).blk t).view.emb y) 1).val = (y 1).val := by blk_simp [idx t]
  blk_simp
  rw [after0_7]
  revert e0 e1
  generalize ((cfg0.win 7).blk t).view.emb y = z
  intro e0 e1
  obtain ⟨n, k, rfl⟩ : ∃ (n : Fin 3) (k : Fin 704), y = ix2 n k := ⟨y 0, y 1, eq_ix2 y⟩
  refine (out7 m c t n k).trans ?_
  unfold G7
  rw [show z 0 = n from Fin.ext e0, show z 1 = k from Fin.ext e1]

end Cert.SmallSumIdeal.Sum

namespace Cert.Small
open Cert.SmallGradIdeal Cert.SmallGradIdeal.Read Cert.SmallSumIdeal.Sum

theorem at4 (D : FVec Ideal Cert.SmallGradIdeal.S8x32x1024 .f32) : val_main_v0 (F := Ideal) D = G4 D := by
  funext (y : Cert.SmallGradIdeal.S32x1024.Idx)
  obtain ⟨n, k, rfl⟩ : ∃ (n : Fin 32) (k : Fin 1024), y = ix2 n k := ⟨y 0, y 1, eq_ix2 y⟩
  pointwise [Read.val_main_v0, Read.val_main_cst]
  rfl

theorem at5 (D : FVec Ideal Cert.SmallGradIdeal.S8x4x192 .f32) : val_main_v1 (F := Ideal) D = G5 D := by
  funext (y : Cert.SmallGradIdeal.S4x192.Idx)
  obtain ⟨n, k, rfl⟩ : ∃ (n : Fin 4) (k : Fin 192), y = ix2 n k := ⟨y 0, y 1, eq_ix2 y⟩
  pointwise [Read.val_main_v1, Read.val_main_cst_0]
  rfl

theorem at6 (D : FVec Ideal Cert.SmallGradIdeal.S8x31x128 .f32) : val_main_v2 (F := Ideal) D = G6 D := by
  funext (y : Cert.SmallGradIdeal.S31x128.Idx)
  obtain ⟨n, k, rfl⟩ : ∃ (n : Fin 31) (k : Fin 128), y = ix2 n k := ⟨y 0, y 1, eq_ix2 y⟩
  pointwise [Read.val_main_v2, Read.val_main_cst_1]
  rfl

theorem at7 (D : FVec Ideal Cert.SmallGradIdeal.S8x3x704 .f32) : val_main_v3 (F := Ideal) D = G7 D := by
  funext (y : Cert.SmallGradIdeal.S3x704.Idx)
  obtain ⟨n, k, rfl⟩ : ∃ (n : Fin 3) (k : Fin 704), y = ix2 n k := ⟨y 0, y 1, eq_ix2 y⟩
  pointwise [Read.val_main_v3, Read.val_main_cst_2]
  rfl

/-- The reference leaves its arguments alone, and it has no semaphore. -/
theorem reference_frame : Cert.quiescent_SmallGradIdeal := by
  intro m g _
  exact (θ_run _ _ _).mono (fun r h => ⟨fun c => (h c).2.2.2.2, sem_eq_zero_of_no_sems (by decide) r.2⟩) (Cert.SmallGradIdeal.Value.run m g)

theorem algebraic : Cert.algebraic_SmallSumIdeal_SmallGradIdeal := by
  intro m g m' g' hpre hagree
  refine ⟨fun c => G4 (a0 m c), fun c => G5 (a1 m c), fun c => G6 (a2 m c), fun c => G7 (a3 m c), ?_, ?_⟩
  · exact (θ_run _ _ _).mono (fun r h c => ⟨(h c).1.trans (final4 m c), (h c).2.1.trans (final5 m c), (h c).2.2.1.trans (final6 m c), (h c).2.2.2.1.trans (final7 m c), (h c).2.2.2.2⟩) (Cert.SmallSumIdeal.Value.run_blocks m g)
  · refine (θ_run _ _ _).mono (fun r h c => ⟨(h c).1.trans ?_, (h c).2.1.trans ?_, (h c).2.2.1.trans ?_, (h c).2.2.2.1.trans ?_, (h c).2.2.2.2⟩) (Cert.SmallGradIdeal.Value.run m' g')
    · refine (Cert.SmallGradIdeal.Read.val_main_v0_eq _).trans ?_
      rw [(hagree c).1]
      exact at4 _
    · refine (Cert.SmallGradIdeal.Read.val_main_v1_eq _).trans ?_
      rw [(hagree c).2.1]
      exact at5 _
    · refine (Cert.SmallGradIdeal.Read.val_main_v2_eq _).trans ?_
      rw [(hagree c).2.2.1]
      exact at6 _
    · refine (Cert.SmallGradIdeal.Read.val_main_v3_eq _).trans ?_
      rw [(hagree c).2.2.2]
      exact at7 _

end Cert.Small

end
-- ==== Proof.LossValue.lean ====
module

public import proofs.«01_k».proof.Defs
public import proofs.«01_k».proof.Proof.Rms
public import proofs.«01_k».proof.Proof.Rows
public import proofs.«01_k».proof.Proof.Gen.DownLossIdeal.Value
public import proofs.«01_k».proof.Proof.Gen.LossGradIdeal.Read
public import Idealize.ShloMosaic.Lib.Pipeline.ValueKit
public import Idealize.ShloMosaic.Lib.Pipeline.ReadBack
public import Idealize.ShloMosaic.Lib.Pointwise
public import Idealize.ShloMosaic.Lib.Claim
public import Idealize.ShloMosaic.Lib.Quiescent

@[expose] public section

set_option maxRecDepth 16384

noncomputable section

open Idealize.ShloMosaic Idealize.ShloMosaic.TcCoe Idealize.SL.Sem
open Idealize.ShloMosaic.Pipeline (Dat)

/-! The down projection, the last norm and the loss's derivative: what one grid point computes, the sums over the tiles of tokens, and the same values read off the reference. -/

namespace Cert.DownLossIdeal.Sum
open Cert.DownLossIdeal Cert.DownLossIdeal.Gen Cert.Rms

variable (m : (ℓ : Loc nD τ sig) → Buf (Elt Ideal) ℓ)

theorem idx : ∀ t : Fin cfg0.N, win0_0.index t = ![t.val, 0] ∧ win0_1.index t = ![0, 0] ∧ win0_2.index t = ![t.val, 0]
    ∧ win0_3.index t = ![0, 0] ∧ win0_4.index t = ![0, 0] ∧ win0_5.index t = ![t.val, 0]
    ∧ win0_6.index t = ![t.val, 0] ∧ win0_7.index t = ![t.val, 0] ∧ win0_8.index t = ![t.val, 0] ∧ win0_9.index t = ![0, 0] ∧ t.val < 8 :=
  (by decide +kernel : ∀ t : Fin grid0.N, _)

section values
variable (A : FVec Ideal S2048x2816 .bf16) (D : FVec Ideal S2816x1024 .bf16) (X : FVec Ideal S2048x1024 .f32) (M : FVec Ideal S8x1024 .f32)
  (W : FVec Ideal S1x1024 .f32) (T : FVec Ideal S2048x1024 .f32)

/-- The down projection. -/
def ff (n : Fin 2048) (k : Fin 1024) : EReal := ∑ q : Fin 2816, A (ix2 n q) * D (ix2 q k)

/-- The residual stream after the layer. -/
def x2 (n : Fin 2048) (k : Fin 1024) : EReal := X (ix2 n k) + M (ix2 5 k) * ff A D n k

/-- The normalised row, before the weight. -/
def xn (n : Fin 2048) (k : Fin 1024) : EReal := x2 A D X M n k * rinv (fun q => x2 A D X M n q)

/-- The error of the output. -/
def er (n : Fin 2048) (k : Fin 1024) : EReal := xn A D X M n k * W (ix2 0 k) - T (ix2 n k)

/-- The loss's derivative in the output. -/
def dy (n : Fin 2048) (k : Fin 1024) : EReal := er A D X M W T n k * Ideal.ofBits FTy.f32 981467136#32

/-- The loss's derivative in the residual stream. -/
def dx (n : Fin 2048) (k : Fin 1024) : EReal := back (fun q => x2 A D X M n q) (fun q => dy A D X M W T n q * W (ix2 0 q)) k

/-- What token `n` adds to row `j` of the vector results: norm weight, gate, squared error, and nothing below. -/
def row (j : Fin 8) (n : Fin 2048) (k : Fin 1024) : EReal :=
  if j.val = 2 then er A D X M W T n k * er A D X M W T n k
  else if j.val = 1 then dx A D X M W T n k * ff A D n k
  else if j.val = 0 then dy A D X M W T n k * xn A D X M n k else 0

def G6 : FVec Ideal S2048x1024 .f32 := fun i => dx A D X M W T (i 0) (i 1)

def G7 : FVec Ideal S2048x1024 .bf16 := fun i => dx A D X M W T (i 0) (i 1) * M (ix2 5 (i 1))

def G8 : FVec Ideal S2048x2816 .f32 := fun i => ∑ k : Fin 1024, dx A D X M W T (i 0) k * M (ix2 5 k) * D (ix2 (i 1) k)

def G9 : FVec Ideal S8x1024 .f32 := fun i => ∑ n : Fin 2048, row A D X M W T (i 0) n (i 1)

end values

section payloads
variable (x0 : Vec Ideal S256x2816 .bf16) (x1 : Vec Ideal S2816x1024 .bf16) (g : Vec Ideal S1x1024 .f32) (x : Vec Ideal S256x1024 .f32)
  (w w' : Vec Ideal S1x1024 .f32) (z : Vec Ideal S256x1024 .f32)

theorem pay3_at (n : Fin 256) (k : Fin 1024) : k0_pay3 x0 x1 (ix2 n k) = ∑ q : Fin 2816, x0 (ix2 n q) * x1 (ix2 q k) := by pointwise [k0_pay3]

theorem pay4_at (n : Fin 256) (k : Fin 1024) : k0_pay4 x0 x1 g x (ix2 n k) = x (ix2 n k) + g (ix2 0 k) * k0_pay3 x0 x1 (ix2 n k) := by pointwise [k0_pay4]

theorem pay6_at (n : Fin 256) (k : Fin 1024) :
    k0_pay6 x0 x1 g x (ix2 n k) = k0_pay4 x0 x1 g x (ix2 n k) * rinv (fun q => k0_pay4 x0 x1 g x (ix2 n q)) := by pointwise [k0_pay6, k0_pay5, rinv]

theorem pay7_at (n : Fin 256) (k : Fin 1024) :
    k0_pay7 x0 x1 g x w z (ix2 n k) = k0_pay6 x0 x1 g x (ix2 n k) * w (ix2 0 k) - z (ix2 n k) := by pointwise [k0_pay7]

theorem pay8_at (n : Fin 256) (k : Fin 1024) :
    k0_pay8 x0 x1 g x w z (ix2 n k) = k0_pay7 x0 x1 g x w z (ix2 n k) * Ideal.ofBits FTy.f32 981467136#32 := by pointwise [k0_pay8]

theorem pay9_at (n : Fin 256) (k : Fin 1024) :
    k0_pay9 x0 x1 g x w z w' (ix2 n k) = k0_pay8 x0 x1 g x w z (ix2 n k) * w' (ix2 0 k) := by pointwise [k0_pay9]

theorem pay12_at (n : Fin 256) (k : Fin 1024) :
    k0_pay12 (k0_pay5 x0 x1 g x) (k0_pay6 x0 x1 g x) (k0_pay9 x0 x1 g x w z w') (k0_pay10 x0 x1 g x w z w') (k0_pay11 (F := Ideal)) (ix2 n k)
      = back (fun q => k0_pay4 x0 x1 g x (ix2 n q)) (fun q => k0_pay9 x0 x1 g x w z w' (ix2 n q)) k := by
  pointwise [k0_pay12, k0_pay10, k0_pay11, k0_pay6, k0_pay5, back, rinv]

theorem pay13_at (v20 v27 : FVec Ideal S256x1024 .f32) (k : Fin 1024) :
    k0_pay13 v20 v27 w (ix2 0 k) = w (ix2 0 k) + ∑ n : Fin 256, v27 (ix2 n k) * v20 (ix2 n k) := by pointwise [k0_pay13]

theorem pay14_at (v5 : FVec Ideal S256x1024 .f32) (v18 : FVec Ideal S256x1 .f32) (v20 v30 : FVec Ideal S256x1024 .f32) (v33 v34 : FVec Ideal S256x1 .f32) (k : Fin 1024) :
    k0_pay14 v5 v18 v20 v30 v33 v34 w (ix2 0 k) = w (ix2 0 k) + ∑ n : Fin 256, k0_pay12 v18 v20 v30 v33 v34 (ix2 n k) * v5 (ix2 n k) := by pointwise [k0_pay14]

theorem pay15_at (v25 : FVec Ideal S256x1024 .f32) (k : Fin 1024) :
    k0_pay15 v25 w (ix2 0 k) = w (ix2 0 k) + ∑ n : Fin 256, v25 (ix2 n k) * v25 (ix2 n k) := by pointwise [k0_pay15]

theorem pay16_at (v18 : FVec Ideal S256x1 .f32) (v20 v30 : FVec Ideal S256x1024 .f32) (v33 v34 : FVec Ideal S256x1 .f32) (n : Fin 256) (k : Fin 1024) :
    k0_pay16 g v18 v20 v30 v33 v34 (ix2 n k) = k0_pay12 v18 v20 v30 v33 v34 (ix2 n k) * g (ix2 0 k) := by pointwise [k0_pay16]

theorem pay1_at (v65 : FVec Ideal S256x1024 .bf16) (n : Fin 256) (q : Fin 2816) :
    k0_pay1 v65 x1 (constant S256x2816 .f32 0x00000000#32) (ix2 n q) = ∑ k : Fin 1024, v65 (ix2 n k) * x1 (ix2 q k) := by pointwise [k0_pay1]

theorem pay2_at (j : Fin 8) (k : Fin 1024) : k0_pay2 (F := Ideal) (ix2 j k) = 0 := by pointwise [k0_pay2]

end payloads

abbrev a0 (c : Dev nD) : FVec Ideal S2048x2816 .bf16 := m ((c : Thread nD τ).loc main_arg0)
abbrev a1 (c : Dev nD) : FVec Ideal S2816x1024 .bf16 := m ((c : Thread nD τ).loc main_arg1)
abbrev a2 (c : Dev nD) : FVec Ideal S2048x1024 .f32 := m ((c : Thread nD τ).loc main_arg2)
abbrev a3 (c : Dev nD) : FVec Ideal S8x1024 .f32 := m ((c : Thread nD τ).loc main_arg3)
abbrev a4 (c : Dev nD) : FVec Ideal S1x1024 .f32 := m ((c : Thread nD τ).loc main_arg4)
abbrev a5 (c : Dev nD) : FVec Ideal S2048x1024 .f32 := m ((c : Thread nD τ).loc main_arg5)

/-- Token `n` of point `t`. -/
def tok (t : Fin cfg0.N) (n : Fin 256) : Fin 2048 := ⟨t.val * 256 + n.val, by have := (idx t).2.2.2.2.2.2.2.2.2.2; omega⟩

theorem d_blk (c : Dev nD) (t : Fin cfg0.N) (q : Fin 2816) (k : Fin 1024) :
    (show FVec Ideal S2816x1024 .bf16 from iblk m c 1 t) (ix2 q k) = a1 m c (ix2 q k) := by
  blk_point [iblk, V, idx t, tok]

theorem x_blk (c : Dev nD) (t : Fin cfg0.N) (n : Fin 256) (k : Fin 1024) :
    (show FVec Ideal S256x1024 .f32 from iblk m c 2 t) (ix2 n k) = a2 m c (ix2 (tok t n) k) := by
  blk_point [iblk, V, idx t, tok]

theorem m_blk (c : Dev nD) (t : Fin cfg0.N) (j : Fin 8) (k : Fin 1024) :
    (show FVec Ideal S8x1024 .f32 from iblk m c 3 t) (ix2 j k) = a3 m c (ix2 j k) := by
  blk_point [iblk, V, idx t, tok]

theorem w_blk (c : Dev nD) (t : Fin cfg0.N) (k : Fin 1024) :
    (show FVec Ideal S1x1024 .f32 from iblk m c 4 t) (ix2 0 k) = a4 m c (ix2 0 k) := by
  blk_point [iblk, V, idx t, tok]

theorem t_blk (c : Dev nD) (t : Fin cfg0.N) (n : Fin 256) (k : Fin 1024) :
    (show FVec Ideal S256x1024 .f32 from iblk m c 5 t) (ix2 n k) = a5 m c (ix2 (tok t n) k) := by
  blk_point [iblk, V, idx t, tok]

theorem ff_blk (c : Dev nD) (t : Fin cfg0.N) (n : Fin 256) (k : Fin 1024) :
    k0_pay3 (F := Ideal) (iblk m c 0 t) (iblk m c 1 t) (ix2 n k) = ff (a0 m c) (a1 m c) (tok t n) k := by
  have ht := (idx t).2.2.2.2.2.2.2.2.2.2
  rw [pay3_at]
  unfold ff
  refine Fin.sum_fin_congr fun q => congrArg₂ (· * ·) ?_ ?_ <;> blk_point [iblk, V, idx t, tok]

section point
variable (c : Dev nD) (t : Fin cfg0.N) (h : ∀ a, ![5, 0] a + ![1, 1024] a ≤ S8x1024.size a)

/-- The gate's row of the modulation, as a point loads it. -/
abbrev gl : Vec Ideal S1x1024 .f32 := View.ld (show FVec Ideal S8x1024 .f32 from iblk m c 3 t) (Rect.unit (s := S8x1024) ![5, 0] ![1, 1024] h)

theorem gl_at (k : Fin 1024) : gl m c t h (ix2 0 k) = a3 m c (ix2 5 k) :=
  (Cert.Rows.ld_row 5 h (show FVec Ideal S8x1024 .f32 from iblk m c 3 t) 5 k rfl).trans (m_blk m c t 5 k)

theorem x2_blk (n : Fin 256) (k : Fin 1024) :
    k0_pay4 (F := Ideal) (iblk m c 0 t) (iblk m c 1 t) (gl m c t h) (iblk m c 2 t) (ix2 n k) = x2 (a0 m c) (a1 m c) (a2 m c) (a3 m c) (tok t n) k := by
  rw [pay4_at]
  unfold x2
  exact congrArg₂ (· + ·) (x_blk m c t n k) (congrArg₂ (· * ·) (gl_at m c t h k) (ff_blk m c t n k))

theorem xn_blk (n : Fin 256) (k : Fin 1024) :
    k0_pay6 (F := Ideal) (iblk m c 0 t) (iblk m c 1 t) (gl m c t h) (iblk m c 2 t) (ix2 n k) = xn (a0 m c) (a1 m c) (a2 m c) (a3 m c) (tok t n) k := by
  rw [pay6_at]
  unfold xn
  exact congrArg₂ (· * ·) (x2_blk m c t h n k) (congrArg rinv (funext fun q => x2_blk m c t h n q))

theorem er_blk (n : Fin 256) (k : Fin 1024) :
    k0_pay7 (F := Ideal) (iblk m c 0 t) (iblk m c 1 t) (gl m c t h) (iblk m c 2 t) (iblk m c 4 t) (iblk m c 5 t) (ix2 n k)
      = er (a0 m c) (a1 m c) (a2 m c) (a3 m c) (a4 m c) (a5 m c) (tok t n) k := by
  rw [pay7_at]
  unfold er
  exact congrArg₂ (· - ·) (congrArg₂ (· * ·) (xn_blk m c t h n k) (w_blk m c t k)) (t_blk m c t n k)

theorem dy_blk (n : Fin 256) (k : Fin 1024) :
    k0_pay8 (F := Ideal) (iblk m c 0 t) (iblk m c 1 t) (gl m c t h) (iblk m c 2 t) (iblk m c 4 t) (iblk m c 5 t) (ix2 n k)
      = dy (a0 m c) (a1 m c) (a2 m c) (a3 m c) (a4 m c) (a5 m c) (tok t n) k := by
  rw [pay8_at]
  unfold dy
  exact congrArg (· * _) (er_blk m c t h n k)

theorem dn_blk (n : Fin 256) (k : Fin 1024) :
    k0_pay9 (F := Ideal) (iblk m c 0 t) (iblk m c 1 t) (gl m c t h) (iblk m c 2 t) (iblk m c 4 t) (iblk m c 5 t) (iblk m c 4 t) (ix2 n k)
      = dy (a0 m c) (a1 m c) (a2 m c) (a3 m c) (a4 m c) (a5 m c) (tok t n) k * a4 m c (ix2 0 k) := by
  rw [pay9_at]
  exact congrArg₂ (· * ·) (dy_blk m c t h n k) (w_blk m c t k)

/-- The gradient of the residual stream, as one point computes it. -/
abbrev pdx : FVec Ideal S256x1024 .f32 :=
  k0_pay12 (k0_pay5 (F := Ideal) (iblk m c 0 t) (iblk m c 1 t) (gl m c t h) (iblk m c 2 t)) (k0_pay6 (F := Ideal) (iblk m c 0 t) (iblk m c 1 t) (gl m c t h) (iblk m c 2 t))
    (k0_pay9 (F := Ideal) (iblk m c 0 t) (iblk m c 1 t) (gl m c t h) (iblk m c 2 t) (iblk m c 4 t) (iblk m c 5 t) (iblk m c 4 t))
    (k0_pay10 (F := Ideal) (iblk m c 0 t) (iblk m c 1 t) (gl m c t h) (iblk m c 2 t) (iblk m c 4 t) (iblk m c 5 t) (iblk m c 4 t)) (k0_pay11 (F := Ideal))

theorem dx_blk (n : Fin 256) (k : Fin 1024) :
    pdx m c t h (ix2 n k) = dx (a0 m c) (a1 m c) (a2 m c) (a3 m c) (a4 m c) (a5 m c) (tok t n) k := by
  refine (pay12_at _ _ _ _ _ _ _ n k).trans ?_
  unfold dx
  exact congrArg₂ (fun u v => back u v k) (funext fun q => x2_blk m c t h n q) (funext fun q => dn_blk m c t h n q)

/-- The gradient of the down projection, as one point computes it. -/
abbrev pdf : FVec Ideal S256x1024 .bf16 :=
  k0_pay16 (gl m c t h) (k0_pay5 (F := Ideal) (iblk m c 0 t) (iblk m c 1 t) (gl m c t h) (iblk m c 2 t)) (k0_pay6 (F := Ideal) (iblk m c 0 t) (iblk m c 1 t) (gl m c t h) (iblk m c 2 t))
    (k0_pay9 (F := Ideal) (iblk m c 0 t) (iblk m c 1 t) (gl m c t h) (iblk m c 2 t) (iblk m c 4 t) (iblk m c 5 t) (iblk m c 4 t))
    (k0_pay10 (F := Ideal) (iblk m c 0 t) (iblk m c 1 t) (gl m c t h) (iblk m c 2 t) (iblk m c 4 t) (iblk m c 5 t) (iblk m c 4 t)) (k0_pay11 (F := Ideal))

theorem df_blk (n : Fin 256) (k : Fin 1024) :
    pdf m c t h (ix2 n k) = dx (a0 m c) (a1 m c) (a2 m c) (a3 m c) (a4 m c) (a5 m c) (tok t n) k * a3 m c (ix2 5 k) := by
  refine (pay16_at _ _ _ _ _ _ n k).trans ?_
  exact congrArg₂ (· * ·) (dx_blk m c t h n k) (gl_at m c t h k)

theorem da_blk (n : Fin 256) (q : Fin 2816) :
    k0_pay1 (pdf m c t h) (iblk m c 1 t) (constant S256x2816 .f32 0x00000000#32) (ix2 n q)
      = ∑ k : Fin 1024, dx (a0 m c) (a1 m c) (a2 m c) (a3 m c) (a4 m c) (a5 m c) (tok t n) k * a3 m c (ix2 5 k) * a1 m c (ix2 q k) := by
  refine (pay1_at _ _ n q).trans ?_
  exact Fin.sum_fin_congr fun k => congrArg₂ (· * ·) (df_blk m c t h n k) (d_blk m c t q k)

end point

abbrev trow (c : Dev nD) (j : Fin 8) (n : Fin 2048) (k : Fin 1024) : EReal :=
  row (a0 m c) (a1 m c) (a2 m c) (a3 m c) (a4 m c) (a5 m c) j n k

/-- What one point adds to the vector results. -/
def term (c : Dev nD) (t : Fin cfg0.N) (i : S8x1024.Idx) : EReal := ∑ n : Fin 256, trow m c (i 0) (tok t n) (i 1)

theorem rows_step (c : Dev nD) (t : Fin cfg0.N) (P : FVec Ideal S8x1024 .f32) (h h0 h1 h2) (j : Fin 8) (k : Fin 1024) :
    (if j.val = 2 then k0_pay15 (k0_pay7 (F := Ideal) (iblk m c 0 t) (iblk m c 1 t) (gl m c t h) (iblk m c 2 t) (iblk m c 4 t) (iblk m c 5 t))
        (View.ld P (Rect.unit (s := S8x1024) ![2, 0] ![1, 1024] h2)) (ix2 0 k)
      else if j.val = 1 then k0_pay14 (k0_pay3 (F := Ideal) (iblk m c 0 t) (iblk m c 1 t))
        (k0_pay5 (F := Ideal) (iblk m c 0 t) (iblk m c 1 t) (gl m c t h) (iblk m c 2 t)) (k0_pay6 (F := Ideal) (iblk m c 0 t) (iblk m c 1 t) (gl m c t h) (iblk m c 2 t))
        (k0_pay9 (F := Ideal) (iblk m c 0 t) (iblk m c 1 t) (gl m c t h) (iblk m c 2 t) (iblk m c 4 t) (iblk m c 5 t) (iblk m c 4 t))
        (k0_pay10 (F := Ideal) (iblk m c 0 t) (iblk m c 1 t) (gl m c t h) (iblk m c 2 t) (iblk m c 4 t) (iblk m c 5 t) (iblk m c 4 t)) (k0_pay11 (F := Ideal))
        (View.ld P (Rect.unit (s := S8x1024) ![1, 0] ![1, 1024] h1)) (ix2 0 k)
      else if j.val = 0 then k0_pay13 (k0_pay6 (F := Ideal) (iblk m c 0 t) (iblk m c 1 t) (gl m c t h) (iblk m c 2 t))
        (k0_pay8 (F := Ideal) (iblk m c 0 t) (iblk m c 1 t) (gl m c t h) (iblk m c 2 t) (iblk m c 4 t) (iblk m c 5 t))
        (View.ld P (Rect.unit (s := S8x1024) ![0, 0] ![1, 1024] h0)) (ix2 0 k)
      else P (ix2 j k)) = P (ix2 j k) + ∑ n : Fin 256, trow m c j (tok t n) k := by
  unfold trow row
  by_cases e2 : j.val = 2
  · simp only [if_pos e2]
    refine (pay15_at _ _ k).trans ?_
    exact congrArg₂ (· + ·) (Cert.Rows.ld_row 2 h2 P j k e2) (Fin.sum_fin_congr fun n => congrArg₂ (· * ·) (er_blk m c t h n k) (er_blk m c t h n k))
  by_cases e1 : j.val = 1
  · simp only [if_neg e2, if_pos e1]
    refine (pay14_at _ _ _ _ _ _ _ k).trans ?_
    exact congrArg₂ (· + ·) (Cert.Rows.ld_row 1 h1 P j k e1) (Fin.sum_fin_congr fun n => congrArg₂ (· * ·) (dx_blk m c t h n k) (ff_blk m c t n k))
  by_cases e0 : j.val = 0
  · simp only [if_neg e2, if_neg e1, if_pos e0]
    refine (pay13_at _ _ _ k).trans ?_
    exact congrArg₂ (· + ·) (Cert.Rows.ld_row 0 h0 P j k e0) (Fin.sum_fin_congr fun n => congrArg₂ (· * ·) (dy_blk m c t h n k) (xn_blk m c t h n k))
  · simp only [if_neg e2, if_neg e1, if_neg e0, Finset.sum_const_zero, add_zero]

theorem reset (c : Dev nD) (t : Fin cfg0.N) (h0 : t.val % 8 = 0) (y : S8x1024.Idx) : (outsAt0 m c t.val t.isLt).2.2.2 y = 0 + term m c t y := by
  obtain ⟨j, k, rfl⟩ : ∃ (j : Fin 8) (k : Fin 1024), y = ix2 j k := ⟨y 0, y 1, eq_ix2 y⟩
  rw [outsAt0_A m c t h0]
  frame_out
  simp (disch := decide) only [↓ View.readCov_skip, ↓ View.readCov_cons_toLoadRect, ↓ View.readCov_fill]
  refine (Cert.Rows.canon_row 2 _ _ _ j k).trans ?_
  refine (congrArg (ite _ _) ((Cert.Rows.canon_row 1 _ _ _ j k).trans
    (congrArg (ite _ _) ((Cert.Rows.canon_row 0 _ _ _ j k).trans (congrArg (ite _ _) (Cert.Rows.canon_whole _ _ _ j k)))))).trans ?_
  refine (rows_step m c t (k0_pay2 (F := Ideal)) _ _ _ _ j k).trans ?_
  rw [pay2_at]
  rfl

theorem step (c : Dev nD) (t : Fin cfg0.N) (h0 : ¬ t.val % 8 = 0) (y : S8x1024.Idx) :
    (outsAt0 m c t.val t.isLt).2.2.2 y = (outsAt0 m c (t.val - 1) (by have := t.isLt; omega)).2.2.2 y + term m c t y := by
  obtain ⟨j, k, rfl⟩ : ∃ (j : Fin 8) (k : Fin 1024), y = ix2 j k := ⟨y 0, y 1, eq_ix2 y⟩
  rw [outsAt0_B m c t h0]
  frame_out
  refine (Cert.Rows.read_row _ _ 2 _ _ _ j k).trans ?_
  refine (congrArg (ite _ _) ((Cert.Rows.read_row _ _ 1 _ _ _ j k).trans
    (congrArg (ite _ _) ((Cert.Rows.read_row _ _ 0 _ _ _ j k).trans (congrArg (ite _ _) (congrFun (Memref.IsWhole.read_unread _ _) (ix2 j k))))))).trans ?_
  exact rows_step m c t (outsAt0 m c (t.val - 1) (by have := t.isLt; omega)).2.2.2 _ _ _ _ j k

theorem out6 (c : Dev nD) (t : Fin cfg0.N) (n : Fin 256) (k : Fin 1024) :
    (outsAt0 m c t.val t.isLt).1 (ix2 n k) = dx (a0 m c) (a1 m c) (a2 m c) (a3 m c) (a4 m c) (a5 m c) (tok t n) k := by
  by_cases h0 : t.val % 8 = 0
  · rw [outsAt0_A m c t h0]
    frame_out
    exact dx_blk m c t _ n k
  · rw [outsAt0_B m c t h0]
    frame_out
    exact dx_blk m c t _ n k

theorem final6 (c : Dev nD) : (dats m 0 c).arrAt 6 (cfgs 0).N = G6 (a0 m c) (a1 m c) (a2 m c) (a3 m c) (a4 m c) (a5 m c) := by
  refine (dats m 0 c).arrAt_eq_of_covers 6 _ (by decide +kernel) fun t _ y => ?_
  have ht := (idx t).2.2.2.2.2.2.2.2.2.2
  have e0 : ((((cfg0.win 6).blk t).view.emb y) 0).val = t.val * 256 + (y 0).val := by blk_simp [idx t]
  have e1 : ((((cfg0.win 6).blk t).view.emb y) 1).val = (y 1).val := by blk_simp [idx t]
  blk_simp
  rw [after0_6]
  revert e0 e1
  generalize ((cfg0.win 6).blk t).view.emb y = z
  intro e0 e1
  obtain ⟨n, k, rfl⟩ : ∃ (n : Fin 256) (k : Fin 1024), y = ix2 n k := ⟨y 0, y 1, eq_ix2 y⟩
  refine (out6 m c t n k).trans ?_
  unfold G6
  rw [show z 0 = tok t n from Fin.ext e0, show z 1 = k from Fin.ext e1]

theorem out7 (c : Dev nD) (t : Fin cfg0.N) (n : Fin 256) (k : Fin 1024) :
    (outsAt0 m c t.val t.isLt).2.1 (ix2 n k) = dx (a0 m c) (a1 m c) (a2 m c) (a3 m c) (a4 m c) (a5 m c) (tok t n) k * a3 m c (ix2 5 k) := by
  by_cases h0 : t.val % 8 = 0
  · rw [outsAt0_A m c t h0]
    frame_out
    exact df_blk m c t _ n k
  · rw [outsAt0_B m c t h0]
    frame_out
    exact df_blk m c t _ n k

theorem final7 (c : Dev nD) : (dats m 0 c).arrAt 7 (cfgs 0).N = G7 (a0 m c) (a1 m c) (a2 m c) (a3 m c) (a4 m c) (a5 m c) := by
  refine (dats m 0 c).arrAt_eq_of_covers 7 _ (by decide +kernel) fun t _ y => ?_
  have ht := (idx t).2.2.2.2.2.2.2.2.2.2
  have e0 : ((((cfg0.win 7).blk t).view.emb y) 0).val = t.val * 256 + (y 0).val := by blk_simp [idx t]
  have e1 : ((((cfg0.win 7).blk t).view.emb y) 1).val = (y 1).val := by blk_simp [idx t]
  blk_simp
  rw [after0_7]
  revert e0 e1
  generalize ((cfg0.win 7).blk t).view.emb y = z
  intro e0 e1
  obtain ⟨n, k, rfl⟩ : ∃ (n : Fin 256) (k : Fin 1024), y = ix2 n k := ⟨y 0, y 1, eq_ix2 y⟩
  refine (out7 m c t n k).trans ?_
  unfold G7
  rw [show z 0 = tok t n from Fin.ext e0, show z 1 = k from Fin.ext e1]

theorem out8 (c : Dev nD) (t : Fin cfg0.N) (n : Fin 256) (k : Fin 2816) :
    (outsAt0 m c t.val t.isLt).2.2.1 (ix2 n k) = ∑ q : Fin 1024, dx (a0 m c) (a1 m c) (a2 m c) (a3 m c) (a4 m c) (a5 m c) (tok t n) q * a3 m c (ix2 5 q) * a1 m c (ix2 k q) := by
  by_cases h0 : t.val % 8 = 0
  · rw [outsAt0_A m c t h0]
    frame_out
    exact da_blk m c t _ n k
  · rw [outsAt0_B m c t h0]
    frame_out
    exact da_blk m c t _ n k

theorem final8 (c : Dev nD) : (dats m 0 c).arrAt 8 (cfgs 0).N = G8 (a0 m c) (a1 m c) (a2 m c) (a3 m c) (a4 m c) (a5 m c) := by
  refine (dats m 0 c).arrAt_eq_of_covers 8 _ (by decide +kernel) fun t _ y => ?_
  have ht := (idx t).2.2.2.2.2.2.2.2.2.2
  have e0 : ((((cfg0.win 8).blk t).view.emb y) 0).val = t.val * 256 + (y 0).val := by blk_simp [idx t]
  have e1 : ((((cfg0.win 8).blk t).view.emb y) 1).val = (y 1).val := by blk_simp [idx t]
  blk_simp
  rw [after0_8]
  revert e0 e1
  generalize ((cfg0.win 8).blk t).view.emb y = z
  intro e0 e1
  obtain ⟨n, k, rfl⟩ : ∃ (n : Fin 256) (k : Fin 2816), y = ix2 n k := ⟨y 0, y 1, eq_ix2 y⟩
  refine (out8 m c t n k).trans ?_
  unfold G8
  rw [show z 0 = tok t n from Fin.ext e0, show z 1 = k from Fin.ext e1]

theorem final9 (c : Dev nD) : (dats m 0 c).arrAt 9 (cfgs 0).N = G9 (a0 m c) (a1 m c) (a2 m c) (a3 m c) (a4 m c) (a5 m c) := by
  refine (dats m 0 c).arrAt_eq_of_covers 9 _ (by decide +kernel) fun t hf y => ?_
  have ht := (idx t).2.2.2.2.2.2.2.2.2.2
  have e0 : ((((cfg0.win 9).blk t).view.emb y) 0).val = (y 0).val := by blk_simp [idx t]
  have e1 : ((((cfg0.win 9).blk t).view.emb y) 1).val = (y 1).val := by blk_simp [idx t]
  blk_simp
  rw [after0_9, Pipeline.eq_sum_fin_of_reset_step_apply_of_flush (fun n h => (outsAt0 m c n h).2.2.2) 8 (fun _ => 0) (term m c)
    (fun t h j => reset m c t h j) (fun t h j => step m c t h j) t ((flush0_9 t).mp hf) _, zero_add]
  revert e0 e1
  generalize ((cfg0.win 9).blk t).view.emb y = z
  intro e0 e1
  unfold G9
  rw [show z 0 = y 0 from Fin.ext e0, show z 1 = y 1 from Fin.ext e1]
  refine Fin.sum_mul_add_congr fun s k hl => ?_
  have hs := Pipeline.run_point_lt_of_flush t ((flush0_9 t).mp hf) s
  refine congrArg (fun q => trow m c (y 0) q (y 1)) (Fin.ext ?_)
  show (8 * (t.val / 8) + s.val) * 256 + k.val = s.val * 256 + k.val
  rw [Nat.div_eq_of_lt ht]
  omega

end Cert.DownLossIdeal.Sum

namespace Cert.Loss
open Cert.LossGradIdeal Cert.LossGradIdeal.Read Cert.DownLossIdeal.Sum Cert.Rms

variable (A : FVec Ideal Cert.LossGradIdeal.S2048x2816 .bf16) (D : FVec Ideal Cert.LossGradIdeal.S2816x1024 .bf16) (X : FVec Ideal Cert.LossGradIdeal.S2048x1024 .f32)
  (M : FVec Ideal Cert.LossGradIdeal.S8x1024 .f32) (W : FVec Ideal Cert.LossGradIdeal.S1x1024 .f32) (T : FVec Ideal Cert.LossGradIdeal.S2048x1024 .f32)

/-- The derivative of half the mean of the squares: the factors one half and two cancel. -/
theorem scale (z : EReal) : Ideal.div (Ideal.ofBits FTy.f32 1056964608#32) (Ideal.ofBits FTy.f32 1149239296#32)
    * (Ideal.ofBits FTy.f32 1073741824#32 * z) = z * Ideal.ofBits FTy.f32 981467136#32 := by
  have h1 : Ideal.ofBits FTy.f32 1056964608#32 = ((1 / 2 : ℝ) : EReal) := by
    simp [Ideal.ofBits, Ideal.ieee]
    rw [← EReal.coe_mul]
    norm_num
  have h3 : Ideal.ofBits FTy.f32 1073741824#32 = ((2 : ℝ) : EReal) := by
    simp [Ideal.ofBits, Ideal.ieee]
    rw [← EReal.coe_mul]
    norm_num
  have h4 : Ideal.ofBits FTy.f32 981467136#32 = ((1 / 1024 : ℝ) : EReal) := by
    simp [Ideal.ofBits, Ideal.ieee]
    rw [← EReal.coe_mul]
    norm_num
  rw [h1, h3, h4, lit_1024, Ideal.div_coe (by norm_num), ← mul_assoc, mul_comm z, ← EReal.coe_mul, ← EReal.coe_mul]
  norm_num

theorem ff_at (n : Fin 2048) (k : Fin 1024) : val_main_v2 (F := Ideal) A D (ix2 n k) = ff A D n k := by
  pointwise [val_main_v2, val_main_v1, val_main_v0, ff]

theorem x2_at (n : Fin 2048) (k : Fin 1024) : val_main_v6 (F := Ideal) A D X M (ix2 n k) = x2 A D X M n k := by
  pointwise [val_main_v6, val_main_v5, val_main_v4, val_main_v3]
  rw [ff_at]
  rfl

theorem xn_at (n : Fin 2048) (k : Fin 1024) : val_main_v19 (F := Ideal) A D X M (ix2 n k) = xn A D X M n k := by
  pointwise [val_main_v19, val_main_v18, val_main_v14, val_main_v13, val_main_v12, val_main_cst_1, val_main_v11, val_main_v10, val_main_cst_0, val_main_v9, val_main_v8, val_main_cst, val_main_v7, xn, rinv]
  simp only [x2_at]

theorem er_at (n : Fin 2048) (k : Fin 1024) : val_main_v22 (F := Ideal) A D X M W T (ix2 n k) = er A D X M W T n k := by
  pointwise [val_main_v22, val_main_v21, val_main_v20, er]
  simp only [xn_at]

theorem dy_at (n : Fin 2048) (k : Fin 1024) : val_main_v36 (F := Ideal) A D X M W T (ix2 n k) = dy A D X M W T n k := by
  pointwise [val_main_v36, val_main_v35, val_main_v34, val_main_v33, val_main_cst_10, val_main_v32, val_main_v31, val_main_cst_8, val_main_cst_9, val_main_v25, val_main_v24, val_main_cst_3]
  rw [er_at]
  exact scale _

theorem dn_at (n : Fin 2048) (k : Fin 1024) : val_main_v41 (F := Ideal) A D X M W T (ix2 n k) = dy A D X M W T n k * W (ix2 0 k) := by
  pointwise [val_main_v41, val_main_v40]
  rw [dy_at]

theorem c_at (n : Fin 2048) (k : Fin 1024) : val_main_v51 (F := Ideal) A D X M W T (ix2 n k) = (Ideal.div
        ((∑ q, x2 A D X M n q * (dy A D X M W T n q * W (ix2 0 q))) *
          (Ideal.ofBits FTy.f32 3204448256#32 *
            Ideal.div (rinv (fun q => x2 A D X M n q))
              (Ideal.div (∑ q, x2 A D X M n q * x2 A D X M n q) (Ideal.ofBits FTy.f32 1149239296#32) +
                Ideal.ofBits FTy.f32 897988541#32)))
        (Ideal.ofBits FTy.f32 1149239296#32)) := by
  pointwise [val_main_v51, val_main_v50, val_main_cst_14, val_main_v49, val_main_v48, val_main_cst_13, val_main_v47, val_main_v44, val_main_v43, val_main_cst_12, val_main_v42, val_main_v17, val_main_v16, val_main_cst_2, val_main_v15, val_main_v14, val_main_v13, val_main_v12, val_main_cst_1, val_main_v11, val_main_v10, val_main_cst_0, val_main_v9, val_main_v8, val_main_cst, val_main_v7]
  refine (Fin.sum_univ_one _).trans ?_
  simp only [dn_at, x2_at, rinv]

theorem dx_at (n : Fin 2048) (k : Fin 1024) : val_main_v55 (F := Ideal) A D X M W T (ix2 n k) = dx A D X M W T n k := by
  pointwise [val_main_v55, val_main_v54, val_main_v53, val_main_v52, val_main_v46, val_main_v45, val_main_v14, val_main_v13, val_main_v12, val_main_cst_1, val_main_v11, val_main_v10, val_main_cst_0, val_main_v9, val_main_v8, val_main_cst, val_main_v7]
  rw [c_at, dn_at]
  simp only [x2_at]
  unfold dx back
  exact (bwd (fun q => x2 A D X M n q) (fun q => dy A D X M W T n q * W (ix2 0 q)) k _ _ rfl rfl).symm

theorem df_at (n : Fin 2048) (k : Fin 1024) : val_main_v57 (F := Ideal) A D X M W T (ix2 n k) = dx A D X M W T n k * M (ix2 5 k) := by
  pointwise [val_main_v57, val_main_v56, val_main_v3]
  rw [dx_at]
  exact mul_comm _ _

theorem at6 : val_main_v55 (F := Ideal) A D X M W T = G6 A D X M W T := by
  funext (y : Cert.LossGradIdeal.S2048x1024.Idx)
  obtain ⟨n, k, rfl⟩ : ∃ (n : Fin 2048) (k : Fin 1024), y = ix2 n k := ⟨y 0, y 1, eq_ix2 y⟩
  exact dx_at A D X M W T n k

theorem at7 : val_main_v65 (F := Ideal) A D X M W T = G7 A D X M W T := by
  funext (y : Cert.LossGradIdeal.S2048x1024.Idx)
  obtain ⟨n, k, rfl⟩ : ∃ (n : Fin 2048) (k : Fin 1024), y = ix2 n k := ⟨y 0, y 1, eq_ix2 y⟩
  pointwise [val_main_v65]
  exact df_at A D X M W T n k

theorem at8 : val_main_v61 (F := Ideal) A D X M W T = G8 A D X M W T := by
  funext (y : Cert.LossGradIdeal.S2048x2816.Idx)
  obtain ⟨n, k, rfl⟩ : ∃ (n : Fin 2048) (k : Fin 2816), y = ix2 n k := ⟨y 0, y 1, eq_ix2 y⟩
  pointwise [val_main_v61, val_main_v1]
  simp only [df_at]
  rfl

theorem at9 : val_main_v67 (F := Ideal) A D X M W T = G9 A D X M W T := by
  funext (y : Cert.LossGradIdeal.S8x1024.Idx)
  obtain ⟨j, k, rfl⟩ : ∃ (j : Fin 8) (k : Fin 1024), y = ix2 j k := ⟨y 0, y 1, eq_ix2 y⟩
  pointwise [val_main_v67, val_main_v66, val_main_cst_17, val_main_v64, val_main_v63, val_main_cst_16, val_main_v62, val_main_v60, val_main_v59, val_main_cst_15, val_main_v58, val_main_v39, val_main_v38, val_main_cst_11, val_main_v37]
  unfold G9 row
  simp only [ff_at, xn_at, er_at, dy_at, dx_at]
  rcases j with ⟨_ | _ | _ | j, hj⟩
  · simp
    exact Finset.sum_congr rfl fun n _ => mul_comm _ _
  · simp
  · simp
  · simp

/-- The reference leaves its arguments alone, and it has no semaphore. -/
theorem reference_frame : Cert.quiescent_LossGradIdeal := by
  intro m g _
  exact (θ_run _ _ _).mono (fun r h => ⟨fun c => (h c).2.2.2.2, sem_eq_zero_of_no_sems (by decide) r.2⟩) (Cert.LossGradIdeal.Value.run m g)

theorem algebraic : Cert.algebraic_DownLossIdeal_LossGradIdeal := by
  intro m g m' g' hpre hagree
  refine ⟨fun c => G6 (a0 m c) (a1 m c) (a2 m c) (a3 m c) (a4 m c) (a5 m c), fun c => G7 (a0 m c) (a1 m c) (a2 m c) (a3 m c) (a4 m c) (a5 m c), fun c => G8 (a0 m c) (a1 m c) (a2 m c) (a3 m c) (a4 m c) (a5 m c), fun c => G9 (a0 m c) (a1 m c) (a2 m c) (a3 m c) (a4 m c) (a5 m c), ?_, ?_⟩
  · exact (θ_run _ _ _).mono (fun r h c => ⟨(h c).1.trans (final6 m c), (h c).2.1.trans (final7 m c), (h c).2.2.1.trans (final8 m c), (h c).2.2.2.1.trans (final9 m c), (h c).2.2.2.2⟩) (Cert.DownLossIdeal.Value.run_blocks m g)
  · refine (θ_run _ _ _).mono (fun r h c => ⟨(h c).1.trans ?_, (h c).2.1.trans ?_, (h c).2.2.1.trans ?_, (h c).2.2.2.1.trans ?_, (h c).2.2.2.2⟩) (Cert.LossGradIdeal.Value.run m' g')
    · refine (Cert.LossGradIdeal.Read.val_main_v55_eq m' c).trans ?_
      rw [(hagree c).1, (hagree c).2.1, (hagree c).2.2.1, (hagree c).2.2.2.1, (hagree c).2.2.2.2.1, (hagree c).2.2.2.2.2]
      exact at6 _ _ _ _ _ _
    · refine (Cert.LossGradIdeal.Read.val_main_v65_eq m' c).trans ?_
      rw [(hagree c).1, (hagree c).2.1, (hagree c).2.2.1, (hagree c).2.2.2.1, (hagree c).2.2.2.2.1, (hagree c).2.2.2.2.2]
      exact at7 _ _ _ _ _ _
    · refine (Cert.LossGradIdeal.Read.val_main_v61_eq m' c).trans ?_
      rw [(hagree c).1, (hagree c).2.1, (hagree c).2.2.1, (hagree c).2.2.2.1, (hagree c).2.2.2.2.1, (hagree c).2.2.2.2.2]
      exact at8 _ _ _ _ _ _
    · refine (Cert.LossGradIdeal.Read.val_main_v67_eq m' c).trans ?_
      rw [(hagree c).1, (hagree c).2.1, (hagree c).2.2.1, (hagree c).2.2.2.1, (hagree c).2.2.2.2.1, (hagree c).2.2.2.2.2]
      exact at9 _ _ _ _ _ _

end Cert.Loss

end
-- ==== Proof.MixValue.lean ====
module

public import proofs.«01_k».proof.Defs
public import proofs.«01_k».proof.Proof.Rms
public import proofs.«01_k».proof.Proof.Rows
public import proofs.«01_k».proof.Proof.Gen.MixOutIdeal.Value
public import proofs.«01_k».proof.Proof.Gen.MixIdeal.Read
public import Idealize.ShloMosaic.Lib.Pipeline.ValueKit
public import Idealize.ShloMosaic.Lib.Pipeline.ReadBack
public import Idealize.ShloMosaic.Lib.Pointwise
public import Idealize.ShloMosaic.Lib.Claim
public import Idealize.ShloMosaic.Lib.Quiescent

@[expose] public section

set_option maxRecDepth 16384

noncomputable section

open Idealize.ShloMosaic Idealize.ShloMosaic.TcCoe Idealize.SL.Sem
open Idealize.ShloMosaic.Pipeline (Dat)

/-! The end of the Conformer branch, the output projection, its gated residual and the second norm: one tile of tokens, and the same values read off the reference. -/

namespace Cert.MixOutIdeal.Sum
open Cert.MixOutIdeal Cert.MixOutIdeal.Gen Cert.Rms

variable (m : (ℓ : Loc nD τ sig) → Buf (Elt Ideal) ℓ)

theorem idx : ∀ t : Fin cfg0.N, win0_0.index t = ![t.val, 0] ∧ win0_1.index t = ![t.val, 0] ∧ win0_2.index t = ![0, 0]
    ∧ win0_3.index t = ![0, 0] ∧ win0_4.index t = ![0, 0] ∧ win0_5.index t = ![t.val, 0] ∧ win0_6.index t = ![0, 0] ∧ win0_7.index t = ![0, 0]
    ∧ win0_8.index t = ![t.val, 0] ∧ win0_9.index t = ![t.val, 0] ∧ win0_10.index t = ![t.val, 0] ∧ win0_11.index t = ![t.val, 0] ∧ t.val < 4 :=
  (by decide +kernel : ∀ t : Fin grid0.N, _)

/-- The mean of a row. -/
def mu (x : Fin 1024 → EReal) : EReal := Ideal.div (∑ q, x q) (Ideal.ofBits FTy.f32 1149239296#32)

/-- The layer norm of the row `x`, with weight and bias. -/
def ln (x w b : Fin 1024 → EReal) (k : Fin 1024) : EReal :=
  (x k - mu x) * Ideal.rsqrt (Ideal.div (∑ q, (x q - mu x) * (x q - mu x)) (Ideal.ofBits FTy.f32 1149239296#32) + Ideal.ofBits FTy.f32 925353388#32) * w k + b k

/-- The gate `z · σ(z)`. -/
def sil (z : EReal) : EReal := z * Ideal.div 1 (1 + Ideal.exp (-z))

section values
variable (Y : FVec Ideal S2048x1024 .bf16) (U : FVec Ideal S2048x1024 .f32) (P B : FVec Ideal S1x1024 .f32) (D : FVec Ideal S2048x1024 .bf16)
  (X : FVec Ideal S2048x1024 .f32) (M : FVec Ideal S8x1024 .f32) (N : FVec Ideal S1x1024 .f32)

/-- The Conformer branch's output. -/
def u (n : Fin 2048) (k : Fin 1024) : EReal := sil (ln (fun q => U (ix2 n q)) (fun q => P (ix2 0 q)) (fun q => B (ix2 0 q)) k)

/-- The output projection of the two branches. -/
def mix (n : Fin 2048) (k : Fin 1024) : EReal :=
  ∑ q : Fin 1024, Y (ix2 n q) * D (ix2 ⟨q.val, by omega⟩ k) + ∑ q : Fin 1024, u U P B n q * D (ix2 ⟨1024 + q.val, by omega⟩ k)

/-- The residual stream after the mixer. -/
def x1 (n : Fin 2048) (k : Fin 1024) : EReal := X (ix2 n k) + M (ix2 2 k) * mix Y U P B D n k

/-- The second norm, modulated. -/
def h2 (n : Fin 2048) (k : Fin 1024) : EReal :=
  x1 Y U P B D X M n k * rinv (fun q => x1 Y U P B D X M n q) * N (ix2 0 k) * (1 + M (ix2 4 k)) + M (ix2 3 k)

def G8 : FVec Ideal S2048x1024 .f32 := fun i => mix Y U P B D (i 0) (i 1)

def G9 : FVec Ideal S2048x1024 .bf16 := fun i => u U P B (i 0) (i 1)

def G10 : FVec Ideal S2048x1024 .f32 := fun i => x1 Y U P B D X M (i 0) (i 1)

def G11 : FVec Ideal S2048x1024 .bf16 := fun i => h2 Y U P B D X M N (i 0) (i 1)

end values

section payloads
variable (v : FVec Ideal S512x1024 .bf16) (y : Vec Ideal S512x1024 .bf16) (d d' : Vec Ideal S1024x1024 .bf16) (x : Vec Ideal S512x1024 .f32)
  (g w s b : Vec Ideal S1x1024 .f32)

theorem pay1_at (n : Fin 512) (k : Fin 1024) :
    k0_pay1 x w b (ix2 n k) = sil (ln (fun q => x (ix2 n q)) (fun q => w (ix2 0 q)) (fun q => b (ix2 0 q)) k) := by
  pointwise [k0_pay1, sil, ln, mu]
  rw [zero_sub]

theorem pay2_at (n : Fin 512) (k : Fin 1024) :
    k0_pay2 v y d (constant S512x1024 .f32 0x00000000#32) d' (ix2 n k) = ∑ q : Fin 1024, y (ix2 n q) * d (ix2 q k) + ∑ q : Fin 1024, v (ix2 n q) * d' (ix2 q k) := by
  pointwise [k0_pay2]

theorem pay3_at (z : FVec Ideal S512x1024 .f32) (n : Fin 512) (k : Fin 1024) :
    k0_pay3 v y d z d' x g (ix2 n k) = x (ix2 n k) + g (ix2 0 k) * k0_pay2 v y d z d' (ix2 n k) := by pointwise [k0_pay3]

theorem pay4_at (z : FVec Ideal S512x1024 .f32) (n : Fin 512) (k : Fin 1024) :
    k0_pay4 v y d z d' x g w s b (ix2 n k)
      = k0_pay3 v y d z d' x g (ix2 n k) * rinv (fun q => k0_pay3 v y d z d' x g (ix2 n q)) * w (ix2 0 k) * (1 + s (ix2 0 k)) + b (ix2 0 k) := by
  pointwise [k0_pay4, rinv]

end payloads

abbrev a0 (c : Dev nD) : FVec Ideal S2048x1024 .bf16 := m ((c : Thread nD τ).loc main_arg0)
abbrev a1 (c : Dev nD) : FVec Ideal S2048x1024 .f32 := m ((c : Thread nD τ).loc main_arg1)
abbrev a2 (c : Dev nD) : FVec Ideal S1x1024 .f32 := m ((c : Thread nD τ).loc main_arg2)
abbrev a3 (c : Dev nD) : FVec Ideal S1x1024 .f32 := m ((c : Thread nD τ).loc main_arg3)
abbrev a4 (c : Dev nD) : FVec Ideal S2048x1024 .bf16 := m ((c : Thread nD τ).loc main_arg4)
abbrev a5 (c : Dev nD) : FVec Ideal S2048x1024 .f32 := m ((c : Thread nD τ).loc main_arg5)
abbrev a6 (c : Dev nD) : FVec Ideal S8x1024 .f32 := m ((c : Thread nD τ).loc main_arg6)
abbrev a7 (c : Dev nD) : FVec Ideal S1x1024 .f32 := m ((c : Thread nD τ).loc main_arg7)

/-- Token `n` of point `t`. -/
def tok (t : Fin cfg0.N) (n : Fin 512) : Fin 2048 := ⟨t.val * 512 + n.val, by have := (idx t).2.2.2.2.2.2.2.2.2.2.2.2; omega⟩

theorem y_blk (c : Dev nD) (t : Fin cfg0.N) (n : Fin 512) (k : Fin 1024) :
    (show FVec Ideal S512x1024 .bf16 from iblk m c 0 t) (ix2 n k) = a0 m c (ix2 (tok t n) k) := by
  blk_point [iblk, V, idx t, tok]

theorem c_blk (c : Dev nD) (t : Fin cfg0.N) (n : Fin 512) (k : Fin 1024) :
    (show FVec Ideal S512x1024 .f32 from iblk m c 1 t) (ix2 n k) = a1 m c (ix2 (tok t n) k) := by
  blk_point [iblk, V, idx t, tok]

theorem p_blk (c : Dev nD) (t : Fin cfg0.N) (k : Fin 1024) :
    (show FVec Ideal S1x1024 .f32 from iblk m c 2 t) (ix2 0 k) = a2 m c (ix2 0 k) := by
  blk_point [iblk, V, idx t, tok]

theorem b_blk (c : Dev nD) (t : Fin cfg0.N) (k : Fin 1024) :
    (show FVec Ideal S1x1024 .f32 from iblk m c 3 t) (ix2 0 k) = a3 m c (ix2 0 k) := by
  blk_point [iblk, V, idx t, tok]

theorem d_blk (c : Dev nD) (t : Fin cfg0.N) (q : Fin 2048) (k : Fin 1024) :
    (show FVec Ideal S2048x1024 .bf16 from iblk m c 4 t) (ix2 q k) = a4 m c (ix2 q k) := by
  blk_point [iblk, V, idx t, tok]

theorem x_blk (c : Dev nD) (t : Fin cfg0.N) (n : Fin 512) (k : Fin 1024) :
    (show FVec Ideal S512x1024 .f32 from iblk m c 5 t) (ix2 n k) = a5 m c (ix2 (tok t n) k) := by
  blk_point [iblk, V, idx t, tok]

theorem m_blk (c : Dev nD) (t : Fin cfg0.N) (j : Fin 8) (k : Fin 1024) :
    (show FVec Ideal S8x1024 .f32 from iblk m c 6 t) (ix2 j k) = a6 m c (ix2 j k) := by
  blk_point [iblk, V, idx t, tok]

theorem n_blk (c : Dev nD) (t : Fin cfg0.N) (k : Fin 1024) :
    (show FVec Ideal S1x1024 .f32 from iblk m c 7 t) (ix2 0 k) = a7 m c (ix2 0 k) := by
  blk_point [iblk, V, idx t, tok]

theorem ld_half (o : ℕ) (h : ∀ a, ![o, 0] a + S1024x1024.size a ≤ S2048x1024.size a) (F : Vec Ideal S2048x1024 .bf16) (q k : Fin 1024) (r : Fin 2048) (hr : r.val = o + q.val) :
    View.ld F (Rect.unit (s := S2048x1024) ![o, 0] S1024x1024.size h) (ix2 q k) = F (ix2 r k) := by
  refine congrArg F (funext fun a => Fin.ext ?_)
  fin_cases a
  · show o + 1 * q.val = r.val
    omega
  · show 0 + 1 * k.val = k.val
    omega

section point
variable (c : Dev nD) (t : Fin cfg0.N)

/-- The branch's output, as one point computes it. -/
abbrev pu : FVec Ideal S512x1024 .bf16 := k0_pay1 (F := Ideal) (iblk m c 1 t) (iblk m c 2 t) (iblk m c 3 t)

theorem u_blk (n : Fin 512) (k : Fin 1024) : pu m c t (ix2 n k) = u (a1 m c) (a2 m c) (a3 m c) (tok t n) k := by
  refine (pay1_at _ _ _ n k).trans ?_
  unfold u
  refine congrArg sil ?_
  rw [funext fun q => c_blk m c t n q, funext fun q => p_blk m c t q, funext fun q => b_blk m c t q]

abbrev dlo : Vec Ideal S1024x1024 .bf16 := View.ld (show FVec Ideal S2048x1024 .bf16 from iblk m c 4 t) r0_2
abbrev dhi : Vec Ideal S1024x1024 .bf16 := View.ld (show FVec Ideal S2048x1024 .bf16 from iblk m c 4 t) r0_3

theorem mix_blk (n : Fin 512) (k : Fin 1024) :
    k0_pay2 (F := Ideal) (pu m c t) (iblk m c 0 t) (dlo m c t) (constant S512x1024 .f32 0x00000000#32) (dhi m c t) (ix2 n k)
      = mix (a0 m c) (a1 m c) (a2 m c) (a3 m c) (a4 m c) (tok t n) k := by
  refine (pay2_at _ _ _ _ n k).trans ?_
  unfold mix
  exact congrArg₂ (· + ·)
    (Fin.sum_fin_congr fun q => congrArg₂ (· * ·) (y_blk m c t n q) ((ld_half 0 _ _ q k ⟨q.val, by omega⟩ (by show q.val = 0 + q.val; omega)).trans (d_blk m c t _ k)))
    (Fin.sum_fin_congr fun q => congrArg₂ (· * ·) (u_blk m c t n q) ((ld_half 1024 _ _ q k ⟨1024 + q.val, by omega⟩ rfl).trans (d_blk m c t _ k)))

abbrev mrow (o : ℕ) (h : ∀ a, ![o, 0] a + ![1, 1024] a ≤ S8x1024.size a) : Vec Ideal S1x1024 .f32 :=
  View.ld (show FVec Ideal S8x1024 .f32 from iblk m c 6 t) (Rect.unit (s := S8x1024) ![o, 0] ![1, 1024] h)

theorem mrow_at (o : ℕ) (h) (j : Fin 8) (hj : j.val = o) (k : Fin 1024) : mrow m c t o h (ix2 0 k) = a6 m c (ix2 j k) :=
  (Cert.Rows.ld_row o h (show FVec Ideal S8x1024 .f32 from iblk m c 6 t) j k hj).trans (m_blk m c t j k)

theorem x1_blk (h) (n : Fin 512) (k : Fin 1024) :
    k0_pay3 (F := Ideal) (pu m c t) (iblk m c 0 t) (dlo m c t) (constant S512x1024 .f32 0x00000000#32) (dhi m c t) (iblk m c 5 t) (mrow m c t 2 h) (ix2 n k)
      = x1 (a0 m c) (a1 m c) (a2 m c) (a3 m c) (a4 m c) (a5 m c) (a6 m c) (tok t n) k := by
  refine (pay3_at _ _ _ _ _ _ _ n k).trans ?_
  unfold x1
  exact congrArg₂ (· + ·) (x_blk m c t n k) (congrArg₂ (· * ·) (mrow_at m c t 2 h 2 rfl k) (mix_blk m c t n k))

theorem h2_blk (h h' h'') (n : Fin 512) (k : Fin 1024) :
    k0_pay4 (F := Ideal) (pu m c t) (iblk m c 0 t) (dlo m c t) (constant S512x1024 .f32 0x00000000#32) (dhi m c t) (iblk m c 5 t) (mrow m c t 2 h) (iblk m c 7 t)
        (mrow m c t 4 h') (mrow m c t 3 h'') (ix2 n k)
      = h2 (a0 m c) (a1 m c) (a2 m c) (a3 m c) (a4 m c) (a5 m c) (a6 m c) (a7 m c) (tok t n) k := by
  refine (pay4_at _ _ _ _ _ _ _ _ _ _ n k).trans ?_
  unfold h2
  exact congrArg₂ (· + ·) (congrArg₂ (· * ·) (congrArg₂ (· * ·) (congrArg₂ (· * ·) (x1_blk m c t h n k) (congrArg rinv (funext fun q => x1_blk m c t h n q))) (n_blk m c t k))
    (congrArg (1 + ·) (mrow_at m c t 4 h' 4 rfl k))) (mrow_at m c t 3 h'' 3 rfl k)

end point

theorem final8 (c : Dev nD) : (dats m 0 c).arrAt 8 (cfgs 0).N = G8 (a0 m c) (a1 m c) (a2 m c) (a3 m c) (a4 m c) := by
  refine (dats m 0 c).arrAt_eq_of_covers 8 _ (by decide +kernel) fun t _ y => ?_
  have ht := (idx t).2.2.2.2.2.2.2.2.2.2.2.2
  have e0 : ((((cfg0.win 8).blk t).view.emb y) 0).val = t.val * 512 + (y 0).val := by blk_simp [idx t]
  have e1 : ((((cfg0.win 8).blk t).view.emb y) 1).val = (y 1).val := by blk_simp [idx t]
  blk_simp
  rw [after0_8]
  revert e0 e1
  generalize ((cfg0.win 8).blk t).view.emb y = z
  intro e0 e1
  obtain ⟨n, k, rfl⟩ : ∃ (n : Fin 512) (k : Fin 1024), y = ix2 n k := ⟨y 0, y 1, eq_ix2 y⟩
  unfold_out out0_8
  frame_out
  refine (mix_blk m c t n k).trans ?_
  unfold G8
  rw [show z 0 = tok t n from Fin.ext e0, show z 1 = k from Fin.ext e1]

theorem final9 (c : Dev nD) : (dats m 0 c).arrAt 9 (cfgs 0).N = G9 (a1 m c) (a2 m c) (a3 m c) := by
  refine (dats m 0 c).arrAt_eq_of_covers 9 _ (by decide +kernel) fun t _ y => ?_
  have ht := (idx t).2.2.2.2.2.2.2.2.2.2.2.2
  have e0 : ((((cfg0.win 9).blk t).view.emb y) 0).val = t.val * 512 + (y 0).val := by blk_simp [idx t]
  have e1 : ((((cfg0.win 9).blk t).view.emb y) 1).val = (y 1).val := by blk_simp [idx t]
  blk_simp
  rw [after0_9]
  revert e0 e1
  generalize ((cfg0.win 9).blk t).view.emb y = z
  intro e0 e1
  obtain ⟨n, k, rfl⟩ : ∃ (n : Fin 512) (k : Fin 1024), y = ix2 n k := ⟨y 0, y 1, eq_ix2 y⟩
  unfold_out out0_9
  frame_out
  refine (u_blk m c t n k).trans ?_
  unfold G9
  rw [show z 0 = tok t n from Fin.ext e0, show z 1 = k from Fin.ext e1]

theorem final10 (c : Dev nD) : (dats m 0 c).arrAt 10 (cfgs 0).N = G10 (a0 m c) (a1 m c) (a2 m c) (a3 m c) (a4 m c) (a5 m c) (a6 m c) := by
  refine (dats m 0 c).arrAt_eq_of_covers 10 _ (by decide +kernel) fun t _ y => ?_
  have ht := (idx t).2.2.2.2.2.2.2.2.2.2.2.2
  have e0 : ((((cfg0.win 10).blk t).view.emb y) 0).val = t.val * 512 + (y 0).val := by blk_simp [idx t]
  have e1 : ((((cfg0.win 10).blk t).view.emb y) 1).val = (y 1).val := by blk_simp [idx t]
  blk_simp
  rw [after0_10]
  revert e0 e1
  generalize ((cfg0.win 10).blk t).view.emb y = z
  intro e0 e1
  obtain ⟨n, k, rfl⟩ : ∃ (n : Fin 512) (k : Fin 1024), y = ix2 n k := ⟨y 0, y 1, eq_ix2 y⟩
  unfold_out out0_10
  frame_out
  refine (x1_blk m c t _ n k).trans ?_
  unfold G10
  rw [show z 0 = tok t n from Fin.ext e0, show z 1 = k from Fin.ext e1]

theorem final11 (c : Dev nD) : (dats m 0 c).arrAt 11 (cfgs 0).N = G11 (a0 m c) (a1 m c) (a2 m c) (a3 m c) (a4 m c) (a5 m c) (a6 m c) (a7 m c) := by
  refine (dats m 0 c).arrAt_eq_of_covers 11 _ (by decide +kernel) fun t _ y => ?_
  have ht := (idx t).2.2.2.2.2.2.2.2.2.2.2.2
  have e0 : ((((cfg0.win 11).blk t).view.emb y) 0).val = t.val * 512 + (y 0).val := by blk_simp [idx t]
  have e1 : ((((cfg0.win 11).blk t).view.emb y) 1).val = (y 1).val := by blk_simp [idx t]
  blk_simp
  rw [after0_11]
  revert e0 e1
  generalize ((cfg0.win 11).blk t).view.emb y = z
  intro e0 e1
  obtain ⟨n, k, rfl⟩ : ∃ (n : Fin 512) (k : Fin 1024), y = ix2 n k := ⟨y 0, y 1, eq_ix2 y⟩
  unfold_out out0_11
  frame_out
  refine (h2_blk m c t _ _ _ n k).trans ?_
  unfold G11
  rw [show z 0 = tok t n from Fin.ext e0, show z 1 = k from Fin.ext e1]

end Cert.MixOutIdeal.Sum

namespace Cert.MixO
open Cert.MixIdeal Cert.MixIdeal.Read Cert.MixOutIdeal.Sum Cert.Rms

variable (Y : FVec Ideal Cert.MixIdeal.S2048x1024 .bf16) (U : FVec Ideal Cert.MixIdeal.S2048x1024 .f32) (P B : FVec Ideal Cert.MixIdeal.S1x1024 .f32)
  (D : FVec Ideal Cert.MixIdeal.S2048x1024 .bf16) (X : FVec Ideal Cert.MixIdeal.S2048x1024 .f32) (M : FVec Ideal Cert.MixIdeal.S8x1024 .f32) (N : FVec Ideal Cert.MixIdeal.S1x1024 .f32)

theorem mean_at (n : Fin 2048) (q : Fin 1) : val_main_v3 (F := Ideal) U (ix2 n q) = mu (fun q => U (ix2 n q)) := by
  pointwise [val_main_v3, val_main_v2, val_main_cst_0, val_main_v1, val_main_v0, val_main_cst, mu]

theorem ln_at (n : Fin 2048) (k : Fin 1024) : val_main_v21 (F := Ideal) U P B (ix2 n k) = ln (fun q => U (ix2 n q)) (fun q => P (ix2 0 q)) (fun q => B (ix2 0 q)) k := by
  pointwise [val_main_v21, val_main_v20, val_main_v19, val_main_v18, val_main_v17, val_main_v16, val_main_v15, val_main_v14, val_main_v13, val_main_cst_3, val_main_v12, val_main_v11, val_main_v10, val_main_v9, val_main_cst_2, val_main_v8, val_main_v7, val_main_cst_1, val_main_v6, val_main_v5, val_main_v4, ln]
  simp only [mean_at]

theorem u_at (n : Fin 2048) (k : Fin 1024) : val_main_v22 (F := Ideal) U P B (ix2 n k) = u U P B n k := by
  pointwise [val_main_v22, val_main_call0_v5, val_main_call0_v4, val_main_call0_cst_0, val_main_call0_v3, val_main_call0_v2, val_main_call0_cst, val_main_call0_v1, val_main_call0_v0]
  simp only [ln_at]
  rfl

theorem halves (f : ℕ → EReal) : ∑ s : Fin 2048, f s.val = ∑ s : Fin 1024, f s.val + ∑ s : Fin 1024, f (1024 + s.val) :=
  Fin.sum_univ_add (a := 1024) (b := 1024) fun s => f s.val

theorem mix_at (n : Fin 2048) (k : Fin 1024) : val_main_v26 (F := Ideal) Y U P B D (ix2 n k) = mix Y U P B D n k := by
  pointwise [val_main_v26, val_main_v25, val_main_v24, val_main_v23]
  simp only [u_at]
  rfl

theorem x1_at (n : Fin 2048) (k : Fin 1024) : val_main_v30 (F := Ideal) Y U P B D X M (ix2 n k) = x1 Y U P B D X M n k := by
  pointwise [val_main_v30, val_main_v29, val_main_v28, val_main_v27]
  rw [mix_at]
  rfl

theorem h2_at (n : Fin 2048) (k : Fin 1024) : val_main_v50 (F := Ideal) Y U P B D X M N (ix2 n k) = h2 Y U P B D X M N n k := by
  pointwise [val_main_v50, val_main_v49, val_main_v48, val_main_v47, val_main_v46, val_main_v45, val_main_v44, val_main_cst_7, val_main_v43, val_main_v42, val_main_v41, val_main_v40, val_main_v39, val_main_v38, val_main_v37, val_main_v36, val_main_cst_6, val_main_v35, val_main_v34, val_main_cst_5, val_main_v33, val_main_v32, val_main_cst_4, val_main_v31, h2, rinv]
  simp only [x1_at]

theorem at8 : val_main_v26 (F := Ideal) Y U P B D = G8 Y U P B D := by
  funext (y : Cert.MixIdeal.S2048x1024.Idx)
  obtain ⟨n, k, rfl⟩ : ∃ (n : Fin 2048) (k : Fin 1024), y = ix2 n k := ⟨y 0, y 1, eq_ix2 y⟩
  exact mix_at Y U P B D n k

theorem at9 : val_main_v51 (F := Ideal) U P B = G9 U P B := by
  funext (y : Cert.MixIdeal.S2048x1024.Idx)
  obtain ⟨n, k, rfl⟩ : ∃ (n : Fin 2048) (k : Fin 1024), y = ix2 n k := ⟨y 0, y 1, eq_ix2 y⟩
  pointwise [val_main_v51]
  exact u_at U P B n k

theorem at10 : val_main_v30 (F := Ideal) Y U P B D X M = G10 Y U P B D X M := by
  funext (y : Cert.MixIdeal.S2048x1024.Idx)
  obtain ⟨n, k, rfl⟩ : ∃ (n : Fin 2048) (k : Fin 1024), y = ix2 n k := ⟨y 0, y 1, eq_ix2 y⟩
  exact x1_at Y U P B D X M n k

theorem at11 : val_main_v52 (F := Ideal) Y U P B D X M N = G11 Y U P B D X M N := by
  funext (y : Cert.MixIdeal.S2048x1024.Idx)
  obtain ⟨n, k, rfl⟩ : ∃ (n : Fin 2048) (k : Fin 1024), y = ix2 n k := ⟨y 0, y 1, eq_ix2 y⟩
  pointwise [val_main_v52]
  exact h2_at Y U P B D X M N n k

/-- The reference leaves its arguments alone, and it has no semaphore. -/
theorem reference_frame : Cert.quiescent_MixIdeal := by
  intro m g _
  exact (θ_run _ _ _).mono (fun r h => ⟨fun c => (h c).2.2.2.2, sem_eq_zero_of_no_sems (by decide) r.2⟩) (Cert.MixIdeal.Value.run m g)

theorem algebraic : Cert.algebraic_MixOutIdeal_MixIdeal := by
  intro m g m' g' hpre hagree
  refine ⟨fun c => G8 (a0 m c) (a1 m c) (a2 m c) (a3 m c) (a4 m c), fun c => G9 (a1 m c) (a2 m c) (a3 m c), fun c => G10 (a0 m c) (a1 m c) (a2 m c) (a3 m c) (a4 m c) (a5 m c) (a6 m c), fun c => G11 (a0 m c) (a1 m c) (a2 m c) (a3 m c) (a4 m c) (a5 m c) (a6 m c) (a7 m c), ?_, ?_⟩
  · exact (θ_run _ _ _).mono (fun r h c => ⟨(h c).1.trans (final8 m c), (h c).2.1.trans (final9 m c), (h c).2.2.1.trans (final10 m c), (h c).2.2.2.1.trans (final11 m c), (h c).2.2.2.2⟩) (Cert.MixOutIdeal.Value.run_blocks m g)
  · refine (θ_run _ _ _).mono (fun r h c => ⟨(h c).1.trans ?_, (h c).2.1.trans ?_, (h c).2.2.1.trans ?_, (h c).2.2.2.1.trans ?_, (h c).2.2.2.2⟩) (Cert.MixIdeal.Value.run m' g')
    · refine (Cert.MixIdeal.Read.val_main_v26_eq m' c).trans ?_
      rw [(hagree c).1, (hagree c).2.1, (hagree c).2.2.1, (hagree c).2.2.2.1, (hagree c).2.2.2.2.1]
      exact at8 _ _ _ _ _
    · refine (Cert.MixIdeal.Read.val_main_v51_eq _ _ _).trans ?_
      rw [(hagree c).2.1, (hagree c).2.2.1, (hagree c).2.2.2.1]
      exact at9 _ _ _
    · refine (Cert.MixIdeal.Read.val_main_v30_eq m' c).trans ?_
      rw [(hagree c).1, (hagree c).2.1, (hagree c).2.2.1, (hagree c).2.2.2.1, (hagree c).2.2.2.2.1, (hagree c).2.2.2.2.2.1, (hagree c).2.2.2.2.2.2.1]
      exact at10 _ _ _ _ _ _ _
    · refine (Cert.MixIdeal.Read.val_main_v52_eq m' c).trans ?_
      rw [(hagree c).1, (hagree c).2.1, (hagree c).2.2.1, (hagree c).2.2.2.1, (hagree c).2.2.2.2.1, (hagree c).2.2.2.2.2.1, (hagree c).2.2.2.2.2.2.1, (hagree c).2.2.2.2.2.2.2]
      exact at11 _ _ _ _ _ _ _ _

end Cert.MixO

end
-- ==== Proof.Halo.lean ====
module

public import proofs.«01_k».proof.Proof.Gen.SsdConvIdeal.Value
public import Idealize.ShloMosaic.Lib.Pipeline.ValueKit
public import Idealize.ShloMosaic.Lib.Pipeline.ReadBack
public import Idealize.ShloMosaic.Lib.Pointwise
public import Idealize.ShloMosaic.Lib.KernelVsHost
public import Idealize.ShloMosaic.Lib.Claim
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.Halo

abbrev T2056x256 : Shape := ⟨2, ![2056, 256]⟩
abbrev T2048x256 : Shape := ⟨2, ![2048, 256]⟩
abbrev T8x256 : Shape := ⟨2, ![8, 256]⟩

/-- 8 rows followed by 2048 rows. -/
def joinH (b : Vec Ideal T8x256 .f32) (a : Vec Ideal T2048x256 .f32) : Vec Ideal T2056x256 .f32 :=
  fun y => if h : (y 0).val < 8 then b (ix2 ⟨(y 0).val, h⟩ (y 1)) else a (ix2 ⟨(y 0).val - 8, by have := (y 0).isLt; change _ < 2056 at this; omega⟩ (y 1))

/-- A load of the whole scratch after the two stores that fill it reads the two pieces one after the other. -/
theorem readH {sig' : RefSig} {κ : Kind} {sp : Space} (v : View sig' κ sp T2056x256 .f32) (a : Vec Ideal T2048x256 .f32) (b : Vec Ideal T8x256 .f32) (h1 h2 h3) :
    v.readCov (Val := Elt Ideal) [⟨Rect.unit (s := T2056x256) ![8, 0] ![2048, 256] h1, a⟩, ⟨Rect.unit (s := T2056x256) ![0, 0] ![8, 256] h2, b⟩]
      (Rect.unit (s := T2056x256) ![0, 0] ![2056, 256] h3).toLoadRect = joinH b a := by
  rw [View.readCov_eq_canon']
  funext j
  have e : (Rect.unit (s := T2056x256) ![0, 0] ![2056, 256] h3).idx j = j := by
    funext a; apply Fin.ext
    fin_cases a <;> simp [LoadRect.idx]
  show View.canon _ ((Rect.unit (s := T2056x256) ![0, 0] ![2056, 256] h3).idx j) = _
  rw [e]
  clear e
  revert j
  intro (j : T2056x256.Idx)
  have hb0 := (j 0).isLt
  change _ < 2056 at hb0
  have hb1 := (j 1).isLt
  change _ < 256 at hb1
  have hc : ∃ p ∈ ([⟨Rect.unit ![8, 0] ![2048, 256] h1, a⟩, ⟨Rect.unit ![0, 0] ![8, 256] h2, b⟩] : List (View.Piece (Elt Ideal) T2056x256 .f32)), j ∈ p.fst.set := by
    by_cases hj : (j 0).val < 8
    · have mm : j ∈ (Rect.unit (s := T2056x256) ![0, 0] ![8, 256] h2).set := Rect.mem_set_unit.mpr fun q => by
        fin_cases q
        · show 0 ≤ (j 0).val ∧ (j 0).val < 0 + 8
          omega
        · show 0 ≤ (j 1).val ∧ (j 1).val < 0 + 256
          omega
      exact ⟨⟨Rect.unit (s := T2056x256) ![0, 0] ![8, 256] h2, b⟩, by simp, mm⟩
    · have mm : j ∈ (Rect.unit (s := T2056x256) ![8, 0] ![2048, 256] h1).set := Rect.mem_set_unit.mpr fun q => by
        fin_cases q
        · show 8 ≤ (j 0).val ∧ (j 0).val < 8 + 2048
          omega
        · show 0 ≤ (j 1).val ∧ (j 1).val < 0 + 256
          omega
      exact ⟨⟨Rect.unit (s := T2056x256) ![8, 0] ![2048, 256] h1, a⟩, by simp, mm⟩
  canon_tiles x h using hc
  · show a x = dite _ _ _
    rw [dif_neg (by omega)]
    congr 1
    funext q
    fin_cases q
    · apply Fin.ext
      show (x 0).val = (j 0).val - 8
      omega
    · apply Fin.ext
      show (x 1).val = (j 1).val
      omega
  · show b x = dite _ _ _
    rw [dif_pos (by omega)]
    congr 1
    funext q
    fin_cases q
    · apply Fin.ext
      show (x 0).val = (j 0).val
      omega
    · apply Fin.ext
      show (x 1).val = (j 1).val
      omega

/-- A column of a scratch, as a function of the row's number. -/
def eAt (E : Vec Ideal T2056x256 .f32) (c : Fin 256) (n : ℕ) : EReal := if h : n < 2056 then E (ix2 ⟨n, h⟩ c) else 0

theorem eAt_eq (E : Vec Ideal T2056x256 .f32) (c : Fin 256) (n : Fin 2056) : E (ix2 n c) = eAt E c n.val := by
  unfold eAt; rw [dif_pos n.isLt]

/-- The rows that the rotations and slices read, as plain offsets. -/
theorem shifts (n : ℕ) (hn : n < 2048) :
    ((n + 2056 - 2051) % 2056 = n + 5) ∧
    ((n + 2056 - 2050) % 2056 = n + 6) ∧
    ((n + 2056 - 2049) % 2056 = n + 7) ∧
    (8 + n = n + 8) := by
  omega

end Cert.Halo

end
-- ==== Proof.FfnValue.lean ====
module

public import proofs.«01_k».proof.Defs
public import proofs.«01_k».proof.Proof.Gen.FfnConvIdeal.Value
public import proofs.«01_k».proof.Proof.Gen.FfnIdeal.Read
public import proofs.«01_k».proof.Proof.Halo
public import Idealize.ShloMosaic.Lib.Pipeline.ValueKit
public import Idealize.ShloMosaic.Lib.Pipeline.ReadBack
public import Idealize.ShloMosaic.Lib.Pointwise
public import Idealize.ShloMosaic.Lib.KernelVsHost
public import Idealize.ShloMosaic.Lib.Claim
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.FfnConvIdeal.Ffn
open Cert.FfnConvIdeal Cert.FfnConvIdeal.Gen Cert.Halo

/-- The input two rows up, zero before the first row. -/
def gX (P : FVec Ideal S2048x5632 .f32) (q k : ℕ) : EReal :=
  if h : (2 ≤ q ∧ q < 2050) ∧ k < 5632 then P (ix2 ⟨q - 2, by omega⟩ ⟨k, h.2⟩) else 0

/-- The causal convolution with its bias, at row `n` and column `k`. -/
def pre (P : FVec Ideal S2048x5632 .f32) (W : FVec Ideal S3x5632 .f32) (B : FVec Ideal S1x5632 .f32) (n : Fin 2048) (k : Fin 5632) : EReal :=
  (∑ j : Fin 3, W (ix2 j k) * gX P (n.val + j.val) k.val) + B (ix2 0 k)

/-- The gate's half activated, times the value's half. -/
def gate (P : FVec Ideal S2048x5632 .f32) (W : FVec Ideal S3x5632 .f32) (B : FVec Ideal S1x5632 .f32) (n : Fin 2048) (k : Fin 2816) : EReal :=
  pre P W B n ⟨k.val, by omega⟩ * Ideal.logistic (pre P W B n ⟨k.val, by omega⟩) * pre P W B n ⟨k.val + 2816, by omega⟩

def G (P : FVec Ideal S2048x5632 .f32) (W : FVec Ideal S3x5632 .f32) (B : FVec Ideal S1x5632 .f32) : FVec Ideal S2048x2816 .bf16 :=
  fun i => gate P W B (i 0) (i 1)

/-- The convolution of a tile, from its scratch. -/
def tpre (E : Vec Ideal S2056x256 .f32) (w : Vec Ideal S3x256 .f32) (b : Vec Ideal S1x256 .f32) (n : Fin 2048) (c : Fin 256) : EReal :=
  (∑ j : Fin 3, w (ix2 j c) * eAt E c (n.val + (j.val + 6))) + b (ix2 0 c)

/-- The nested payloads of the body, from a scratch, its taps and its bias: the gate's convolution, the activation's denominator and the value's convolution. -/
def bodyG (E : Vec Ideal S2056x256 .f32) (w : Vec Ideal S3x256 .f32) (b : Vec Ideal S1x256 .f32) : FVec Ideal S2048x256 .f32 :=
  k0_pay8 E (k0_pay6 E (View.ld w (Rect.unit ![2, 0] ![1, 256] inb_S3x256_S1x256_2_0))) (k0_pay7 E) (View.ld w (Rect.unit ![0, 0] ![1, 256] inb_S3x256_S1x256_0_0)) (View.ld w (Rect.unit ![1, 0] ![1, 256] inb_S3x256_S1x256_1_0)) b

def bodyZ (E : Vec Ideal S2056x256 .f32) (w : Vec Ideal S3x256 .f32) (b : Vec Ideal S1x256 .f32) : FVec Ideal S2048x256 .f32 :=
  k0_pay10 E (k0_pay6 E (View.ld w (Rect.unit ![2, 0] ![1, 256] inb_S3x256_S1x256_2_0))) (k0_pay7 E) (View.ld w (Rect.unit ![0, 0] ![1, 256] inb_S3x256_S1x256_0_0)) (View.ld w (Rect.unit ![1, 0] ![1, 256] inb_S3x256_S1x256_1_0)) b

def bodyV (E : Vec Ideal S2056x256 .f32) (w : Vec Ideal S3x256 .f32) (b : Vec Ideal S1x256 .f32) : FVec Ideal S2048x256 .f32 :=
  k0_pay9 E (View.ld w (Rect.unit ![2, 0] ![1, 256] inb_S3x256_S1x256_2_0)) (View.ld w (Rect.unit ![0, 0] ![1, 256] inb_S3x256_S1x256_0_0)) (View.ld w (Rect.unit ![1, 0] ![1, 256] inb_S3x256_S1x256_1_0)) b

theorem sum3 (w : Vec Ideal S3x256 .f32) (E : Vec Ideal S2056x256 .f32) (n : Fin 2048) (c : Fin 256) (b : EReal) :
    w (ix2 2 c) * eAt E c (n.val + 8) + w (ix2 0 c) * eAt E c (n.val + 6) + w (ix2 1 c) * eAt E c (n.val + 7) + b
      = (∑ j : Fin 3, w (ix2 j c) * eAt E c (n.val + (j.val + 6))) + b := by
  rw [Fin.sum_univ_three]
  refine Eq.trans ?_ (b := w (ix2 0 c) * eAt E c (n.val + 6) + w (ix2 1 c) * eAt E c (n.val + 7) + w (ix2 2 c) * eAt E c (n.val + 8) + b) rfl
  ac_rfl

theorem bodyG_at (E : Vec Ideal S2056x256 .f32) (w : Vec Ideal S3x256 .f32) (b : Vec Ideal S1x256 .f32) (n : Fin 2048) (c : Fin 256) :
    bodyG E w b (ix2 n c) = tpre E w b n c := by
  unfold bodyG tpre
  unfold_payloads
  pointwise
  simp only [eAt_eq]
  obtain ⟨f1, f2, f3, f4⟩ := shifts n.val n.isLt
  try simp only [f2, f3]
  try simp only [f4]
  exact sum3 w E n c (b (ix2 0 c))

theorem bodyV_at (E : Vec Ideal S2056x256 .f32) (w : Vec Ideal S3x256 .f32) (b : Vec Ideal S1x256 .f32) (n : Fin 2048) (c : Fin 256) :
    bodyV E w b (ix2 n c) = tpre E w b n c := by
  unfold bodyV tpre
  unfold_payloads
  pointwise
  simp only [eAt_eq]
  obtain ⟨f1, f2, f3, f4⟩ := shifts n.val n.isLt
  try simp only [f2, f3]
  try simp only [f4]
  exact sum3 w E n c (b (ix2 0 c))

theorem pay1_at (E : Vec Ideal S2056x256 .f32) (w : Vec Ideal S3x256 .f32) (b : Vec Ideal S1x256 .f32) (V : FVec Ideal S2048x256 .f32) (n : Fin 2048) (c : Fin 256) :
    k0_pay1 (bodyG E w b) V (bodyZ E w b) (Scalar.ofBits .f32 0x3F800000#32) (ix2 n c) = bodyG E w b (ix2 n c) * Ideal.logistic (bodyG E w b (ix2 n c)) * V (ix2 n c) := by
  have e : bodyZ E w b (ix2 n c) = 1 + Ideal.exp (-(bodyG E w b (ix2 n c))) := by
    unfold bodyZ k0_pay10
    change FloatOps.addf (F := Ideal) _ _ = _
    rw [show k0_pay8 (F := Ideal) E _ _ _ _ b = bodyG E w b from rfl]
    generalize bodyG E w b = A
    pointwise
    rw [zero_sub]
  generalize hZ : bodyZ E w b = Z at *
  pointwise [k0_pay1]
  rw [e]
  rfl

section
variable (c : Dev nD) (i : grid0.Coords) (arg2 : Memref sig .tc .vmem S8x256 .f32) (harg2 : arg2.IsWhole) (arg3 : Memref sig .tc .vmem S2048x256 .f32) (harg3 : arg3.IsWhole) (arg4 : Memref sig .tc .vmem S8x256 .f32) (harg4 : arg4.IsWhole) (arg5 : Memref sig .tc .vmem S2048x256 .f32) (harg5 : arg5.IsWhole) (arg6 : Memref sig .tc .vmem S3x256 .f32) (harg6 : arg6.IsWhole) (arg7 : Memref sig .tc .vmem S3x256 .f32) (harg7 : arg7.IsWhole) (arg8 : Memref sig .tc .vmem S1x256 .f32) (harg8 : arg8.IsWhole) (arg9 : Memref sig .tc .vmem S1x256 .f32) (harg9 : arg9.IsWhole) (arg10 : Memref sig .tc .vmem S2048x256 .bf16) (harg10 : arg10.IsWhole) (arg11 : Memref sig .tc .vmem S2056x256 .f32) (harg11 : arg11.IsWhole) (arg12 : Memref sig .tc .vmem S2056x256 .f32) (harg12 : arg12.IsWhole)
    (x0 : Vec Ideal S8x256 .f32) (x1 : Vec Ideal S2048x256 .f32) (x2 : Vec Ideal S8x256 .f32) (x3 : Vec Ideal S2048x256 .f32) (x4 : Vec Ideal S3x256 .f32) (x5 : Vec Ideal S3x256 .f32) (x6 : Vec Ideal S1x256 .f32) (x7 : Vec Ideal S1x256 .f32)

theorem out_eq (y : S2048x256.Idx) : out0_A_8 c i arg2 harg2 arg3 harg3 arg4 harg4 arg5 harg5 arg6 harg6 arg7 harg7 arg8 harg8 arg9 harg9 arg10 harg10 arg11 harg11 arg12 harg12 x0 x1 x2 x3 x4 x5 x6 x7 y
    = k0_pay1 (bodyG (joinH (k0_pay2 i x0) (k0_pay3 x1)) x4 x6) (bodyV (joinH (k0_pay4 i x2) (k0_pay5 x3)) x5 x7) (bodyZ (joinH (k0_pay2 i x0) (k0_pay3 x1)) x4 x6) (Scalar.ofBits .f32 0x3F800000#32) y := by
  frame_open
  simp (disch := decide) only [↓ View.readCov_skip, ↓ View.readCov_cons_toLoadRect, ↓ View.readCov_fill]
  frame_out
  simp only [readH]
  rfl
end

variable (m : (ℓ : Loc nD τ sig) → Buf (Elt Ideal) ℓ)

theorem idx : ∀ t : Fin cfg0.N, win0_0.index t = ![0, t.val] ∧ win0_1.index t = ![0, t.val] ∧ win0_2.index t = ![0, t.val + 11]
    ∧ win0_3.index t = ![0, t.val + 11] ∧ win0_4.index t = ![0, t.val] ∧ win0_5.index t = ![0, t.val + 11] ∧ win0_6.index t = ![0, t.val]
    ∧ win0_7.index t = ![0, t.val + 11] ∧ win0_8.index t = ![0, t.val] ∧ t.val < 11 :=
  (by decide +kernel : ∀ t : Fin grid0.N, _)

theorem coord1 : ∀ t : Fin cfg0.N, (grid0.coords t 1).val = 0 := (by decide +kernel : ∀ t : Fin grid0.N, _)

abbrev a0 (c : Dev nD) : FVec Ideal S2048x5632 .f32 := m ((c : Thread nD τ).loc main_arg0)
abbrev a1 (c : Dev nD) : FVec Ideal S3x5632 .f32 := m ((c : Thread nD τ).loc main_arg1)
abbrev a2 (c : Dev nD) : FVec Ideal S1x5632 .f32 := m ((c : Thread nD τ).loc main_arg2)

theorem pay2_zero (i : grid0.Coords) (hi : (i 1).val = 0) (a : Vec Ideal S8x256 .f32) (y : S8x256.Idx) : k0_pay2 i a y = 0 := by
  unfold k0_pay2
  rw [hi]
  pointwise
  rfl

theorem pay4_zero (i : grid0.Coords) (hi : (i 1).val = 0) (a : Vec Ideal S8x256 .f32) (y : S8x256.Idx) : k0_pay4 i a y = 0 := by
  unfold k0_pay4
  rw [hi]
  pointwise
  rfl

theorem pay3_at (a : Vec Ideal S2048x256 .f32) (y : S2048x256.Idx) : k0_pay3 a y = a y := by pointwise [k0_pay3]

theorem pay5_at (a : Vec Ideal S2048x256 .f32) (y : S2048x256.Idx) : k0_pay5 a y = a y := by pointwise [k0_pay5]

/-- The gate's scratch at point `t`, from its row 6 on, holds the input's rows from two rows before the first on. -/
theorem tileG (c : Dev nD) (t : Fin cfg0.N) (k : Fin 256) (r : ℕ) (hr : r + 6 < 2056) :
    eAt (joinH (k0_pay2 (grid0.coords t) (iblk m c 0 t)) (k0_pay3 (iblk m c 1 t))) k (r + 6) = gX (a0 m c) r (t.val * 256 + k.val) := by
  have hk := k.isLt
  have ht := (idx t).2.2.2.2.2.2.2.2.2
  unfold eAt
  rw [dif_pos hr]
  by_cases h : r + 6 < 8
  · refine Eq.trans (dif_pos h) ?_
    rw [pay2_zero _ (coord1 t)]
    unfold gX
    rw [dif_neg (by omega)]
  · refine Eq.trans (dif_neg h) ?_
    rw [pay3_at]
    unfold gX
    rw [dif_pos ⟨⟨by omega, by omega⟩, by omega⟩]
    blk_ext [iblk, V, idx t]

theorem preG (c : Dev nD) (t : Fin cfg0.N) (n : Fin 2048) (k : Fin 256) (kk : Fin 5632) (hk : kk.val = t.val * 256 + k.val) :
    tpre (joinH (k0_pay2 (grid0.coords t) (iblk m c 0 t)) (k0_pay3 (iblk m c 1 t))) (iblk m c 4 t) (iblk m c 6 t) n k = pre (a0 m c) (a1 m c) (a2 m c) n kk := by
  have ht := (idx t).2.2.2.2.2.2.2.2.2
  unfold tpre pre
  have eb : (iblk m c 6 t : Vec Ideal S1x256 .f32) (ix2 0 k) = a2 m c (ix2 0 kk) := by blk_ext [iblk, V, idx t]
  rw [eb]
  refine congrArg (fun z : EReal => z + _) (Finset.sum_congr rfl fun j _ => ?_)
  have ew : (iblk m c 4 t : Vec Ideal S3x256 .f32) (ix2 j k) = a1 m c (ix2 j kk) := by blk_ext [iblk, V, idx t]
  rw [ew, ← Nat.add_assoc, tileG m c t k _ (by have := j.isLt; have := n.isLt; omega), hk]

/-- The value's scratch at point `t`, from its row 6 on, holds the input's rows from two rows before the first on. -/
theorem tileV (c : Dev nD) (t : Fin cfg0.N) (k : Fin 256) (r : ℕ) (hr : r + 6 < 2056) :
    eAt (joinH (k0_pay4 (grid0.coords t) (iblk m c 2 t)) (k0_pay5 (iblk m c 3 t))) k (r + 6) = gX (a0 m c) r ((t.val + 11) * 256 + k.val) := by
  have hk := k.isLt
  have ht := (idx t).2.2.2.2.2.2.2.2.2
  unfold eAt
  rw [dif_pos hr]
  by_cases h : r + 6 < 8
  · refine Eq.trans (dif_pos h) ?_
    rw [pay4_zero _ (coord1 t)]
    unfold gX
    rw [dif_neg (by omega)]
  · refine Eq.trans (dif_neg h) ?_
    rw [pay5_at]
    unfold gX
    rw [dif_pos ⟨⟨by omega, by omega⟩, by omega⟩]
    blk_ext [iblk, V, idx t]

theorem preV (c : Dev nD) (t : Fin cfg0.N) (n : Fin 2048) (k : Fin 256) (kk : Fin 5632) (hk : kk.val = (t.val + 11) * 256 + k.val) :
    tpre (joinH (k0_pay4 (grid0.coords t) (iblk m c 2 t)) (k0_pay5 (iblk m c 3 t))) (iblk m c 5 t) (iblk m c 7 t) n k = pre (a0 m c) (a1 m c) (a2 m c) n kk := by
  have ht := (idx t).2.2.2.2.2.2.2.2.2
  unfold tpre pre
  have eb : (iblk m c 7 t : Vec Ideal S1x256 .f32) (ix2 0 k) = a2 m c (ix2 0 kk) := by blk_ext [iblk, V, idx t]
  rw [eb]
  refine congrArg (fun z : EReal => z + _) (Finset.sum_congr rfl fun j _ => ?_)
  have ew : (iblk m c 5 t : Vec Ideal S3x256 .f32) (ix2 j k) = a1 m c (ix2 j kk) := by blk_ext [iblk, V, idx t]
  rw [ew, ← Nat.add_assoc, tileV m c t k _ (by have := j.isLt; have := n.isLt; omega), hk]

theorem tileOut (c : Dev nD) (t : Fin cfg0.N) (n : Fin 2048) (k : Fin 256) (q : Fin 2048) (kk : Fin 2816) (hq : q.val = n.val) (hk : kk.val = t.val * 256 + k.val) :
    outsAt0 m c t (ix2 n k) = G (a0 m c) (a1 m c) (a2 m c) (ix2 q kk) := by
  obtain rfl : q = n := Fin.ext hq
  unfold outsAt0
  rw [out_eq, pay1_at, bodyG_at, bodyV_at]
  rw [preG m c t q k ⟨kk.val, by omega⟩ hk, preV m c t q k ⟨kk.val + 2816, by omega⟩ (by show kk.val + 2816 = _; omega)]
  rfl

theorem final (c : Dev nD) : (dats m 0 c).arrAt 8 (cfgs 0).N = G (a0 m c) (a1 m c) (a2 m c) := by
  refine (dats m 0 c).arrAt_eq_of_covers 8 _ (by decide +kernel) fun t _ (y : S2048x256.Idx) => ?_
  have e0 : ((((cfg0.win 8).blk t).view.emb y) 0).val = (y 0).val := by blk_simp [idx t]
  have e1 : ((((cfg0.win 8).blk t).view.emb y) 1).val = t.val * 256 + (y 1).val := by blk_simp [idx t]
  blk_simp
  rw [after0_8]
  revert e0 e1
  generalize ((cfg0.win 8).blk t).view.emb y = z
  intro e0 e1
  obtain ⟨n, k, rfl⟩ : ∃ (n : Fin 2048) (k : Fin 256), y = ix2 n k := ⟨y 0, y 1, eq_ix2 y⟩
  refine (tileOut m c t n k (z 0) (z 1) e0 e1).trans ?_
  exact congrArg (G (a0 m c) (a1 m c) (a2 m c)) (eq_ix2 z).symm

end Cert.FfnConvIdeal.Ffn

namespace Cert.Ffn
open Cert.FfnIdeal Cert.FfnIdeal.Gen Cert.FfnIdeal.Read
open Cert.FfnConvIdeal.Ffn (gX pre gate G final a0 a1 a2)

/-- The input with two zero rows before it. -/
theorem pad_at (x0 : FVec Ideal S2048x5632 .f32) (q : Fin 2050) (k : Fin 5632) :
    val_main_v1 (F := Ideal) x0 (ix2 q k) = gX x0 q.val k.val := by
  pointwise [val_main_v1]
  unfold gX
  by_cases h : q.val < 2
  · rw [dif_pos h, dif_neg (by omega)]
    pointwise [val_main_v0, val_main_cst]
  · rw [dif_neg h, dif_pos ⟨⟨by omega, by omega⟩, by omega⟩]

/-- Plane `j` of the stacked taps is the input from row `j` on. -/
theorem tap_at (x0 : FVec Ideal S2048x5632 .f32) (j : ℕ) (h : S2050x5632.Slices ![j, 0] S2048x5632) (b) (n : Fin 2048) (k : Fin 5632) (hj : j < 3) :
    broadcastInDim S1x2048x5632 ![1, 2] b (extractStridedSlice S2048x5632 ![j, 0] (val_main_v1 (F := Ideal) x0) h) (ix3 0 n k) = gX x0 (n.val + j) k.val := by
  have := pad_at x0 ⟨j + n.val, by omega⟩ k
  pointwise
  rw [Nat.add_comm n.val j]
  exact this

theorem stack_at (x0 : FVec Ideal S2048x5632 .f32) (j : Fin 3) (n : Fin 2048) (k : Fin 5632) :
    val_main_v8 (F := Ideal) x0 (ix3 j n k) = gX x0 (n.val + j.val) k.val := by
  refine Eq.trans (concatenate_ofFn_unit_apply (t := S3x2048x5632) (s₁ := S1x2048x5632) (0 : Fin 3) (N := 3) ![val_main_v5 (F := Ideal) x0, val_main_v6 (F := Ideal) x0, val_main_v7 (F := Ideal) x0] _ rfl rfl (ix3 j n k) j rfl (ix3 0 n k) ?_) ?_
  · intro b hb
    fin_cases b
    · exact absurd rfl hb
    · rfl
    · rfl
  · fin_cases j
    · exact tap_at x0 0 slices_S2050x5632_S2048x5632_0_0 bcast_S2048x5632_S1x2048x5632_1_2 n k (by omega)
    · exact tap_at x0 1 slices_S2050x5632_S2048x5632_1_0 bcast_S2048x5632_S1x2048x5632_1_2 n k (by omega)
    · exact tap_at x0 2 slices_S2050x5632_S2048x5632_2_0 bcast_S2048x5632_S1x2048x5632_1_2 n k (by omega)

theorem pre_at (x0 : FVec Ideal S2048x5632 .f32) (x1 : FVec Ideal S3x5632 .f32) (x2 : FVec Ideal S1x5632 .f32) (n : Fin 2048) (k : Fin 5632) :
    val_main_v14 (F := Ideal) x0 x1 x2 (ix2 n k) = pre x0 x1 x2 n k := by
  unfold pre
  pointwise [val_main_v14, val_main_v13, val_main_v12, val_main_v11, val_main_v10, val_main_v9, val_main_cst_0]
  simp only [stack_at]

theorem gate_at (x0 : FVec Ideal S2048x5632 .f32) (x1 : FVec Ideal S3x5632 .f32) (x2 : FVec Ideal S1x5632 .f32) (n : Fin 2048) (k : Fin 2816) :
    val_main_v15 (F := Ideal) x0 x1 x2 (ix2 n k) = pre x0 x1 x2 n ⟨k.val, by omega⟩ := by
  rw [← pre_at]
  pointwise [val_main_v15]
  try blk_ext

theorem value_at (x0 : FVec Ideal S2048x5632 .f32) (x1 : FVec Ideal S3x5632 .f32) (x2 : FVec Ideal S1x5632 .f32) (n : Fin 2048) (k : Fin 2816) :
    val_main_v16 (F := Ideal) x0 x1 x2 (ix2 n k) = pre x0 x1 x2 n ⟨k.val + 2816, by omega⟩ := by
  rw [← pre_at]
  pointwise [val_main_v16]
  try blk_ext

theorem at_G (x0 : FVec Ideal S2048x5632 .f32) (x1 : FVec Ideal S3x5632 .f32) (x2 : FVec Ideal S1x5632 .f32) : val_main_v19 (F := Ideal) x0 x1 x2 = G x0 x1 x2 := by
  funext (y : S2048x2816.Idx)
  obtain ⟨n, k, rfl⟩ : ∃ (n : Fin 2048) (k : Fin 2816), y = ix2 n k := ⟨y 0, y 1, eq_ix2 y⟩
  show _ = pre x0 x1 x2 n ⟨k.val, by omega⟩ * Ideal.logistic (pre x0 x1 x2 n ⟨k.val, by omega⟩) * pre x0 x1 x2 n ⟨k.val + 2816, by omega⟩
  rw [← gate_at, ← value_at]
  pointwise [val_main_v19, val_main_v18, val_main_v17, val_main_call0_v5, val_main_call0_v4, val_main_call0_cst_0, val_main_call0_v3, val_main_call0_v2, val_main_call0_cst, val_main_call0_v1, val_main_call0_v0]
  rfl

/-- The reference leaves its arguments alone, and it has no semaphore. -/
theorem reference_frame : Cert.quiescent_FfnIdeal := by
  intro m g _
  exact (θ_run _ _ _).mono (fun r h => ⟨fun c => (h c).2, sem_eq_zero_of_no_sems (by decide) r.2⟩) (Cert.FfnIdeal.Value.run m g)

theorem algebraic : Cert.algebraic_FfnConvIdeal_FfnIdeal := by
  intro m g m' g' hpre hagree
  refine ⟨fun c => G (a0 m c) (a1 m c) (a2 m c), ?_, ?_⟩
  · exact (θ_run _ _ _).mono (fun r h c => ⟨(h c).1.trans (final m c), (h c).2⟩) (Cert.FfnConvIdeal.Value.run_blocks m g)
  · refine (θ_run _ _ _).mono (fun r h c => ⟨(h c).1.trans ?_, (h c).2⟩) (Cert.FfnIdeal.Value.run m' g')
    · refine (Cert.FfnIdeal.Read.val_main_v19_eq m' c).trans ?_
      rw [(hagree c).1, (hagree c).2.1, (hagree c).2.2]
      exact at_G _ _ _

end Cert.Ffn

end
-- ==== Proof.XbcValue.lean ====
module

public import proofs.«01_k».proof.Defs
public import proofs.«01_k».proof.Proof.Gen.SsdConvIdeal.Value
public import proofs.«01_k».proof.Proof.Gen.XbcIdeal.Read
public import proofs.«01_k».proof.Proof.Halo
public import Idealize.ShloMosaic.Lib.Pipeline.ValueKit
public import Idealize.ShloMosaic.Lib.Pipeline.ReadBack
public import Idealize.ShloMosaic.Lib.Pointwise
public import Idealize.ShloMosaic.Lib.KernelVsHost
public import Idealize.ShloMosaic.Lib.Claim
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.SsdConvIdeal.Xbc
open Cert.SsdConvIdeal Cert.SsdConvIdeal.Gen Cert.Halo

/-- The input three rows up, in the columns from 1024 on, zero before the first row. -/
def gX (P : FVec Ideal S2048x2560 .f32) (q k : ℕ) : EReal :=
  if h : (3 ≤ q ∧ q < 2051) ∧ k < 1536 then P (ix2 ⟨q - 3, by omega⟩ ⟨k + 1024, by omega⟩) else 0

/-- The causal convolution with its bias, at row `n` and column `k`. -/
def pre (P : FVec Ideal S2048x2560 .f32) (W : FVec Ideal S4x1536 .f32) (B : FVec Ideal S1x1536 .f32) (n : Fin 2048) (k : Fin 1536) : EReal :=
  (∑ j : Fin 4, W (ix2 j k) * gX P (n.val + j.val) k.val) + B (ix2 0 k)

def G (P : FVec Ideal S2048x2560 .f32) (W : FVec Ideal S4x1536 .f32) (B : FVec Ideal S1x1536 .f32) : FVec Ideal S2048x1536 .f32 :=
  fun i => pre P W B (i 0) (i 1) * Ideal.logistic (pre P W B (i 0) (i 1))

/-- The convolution of a tile, from its scratch. -/
def tpre (E : Vec Ideal S2056x256 .f32) (w : Vec Ideal S4x256 .f32) (b : Vec Ideal S1x256 .f32) (n : Fin 2048) (c : Fin 256) : EReal :=
  (∑ j : Fin 4, w (ix2 j c) * eAt E c (n.val + (j.val + 5))) + b (ix2 0 c)

/-- The nested payload of the body, from the scratch, the taps and the bias. -/
def body (E : Vec Ideal S2056x256 .f32) (w : Vec Ideal S4x256 .f32) (b : Vec Ideal S1x256 .f32) : FVec Ideal S2048x256 .f32 :=
  k0_pay1 (k0_pay4 E (View.ld w (Rect.unit ![3, 0] ![1, 256] inb_S4x256_S1x256_3_0)) (View.ld w (Rect.unit ![0, 0] ![1, 256] inb_S4x256_S1x256_0_0)) (View.ld w (Rect.unit ![1, 0] ![1, 256] inb_S4x256_S1x256_1_0)))
    (k0_pay5 E (View.ld w (Rect.unit ![2, 0] ![1, 256] inb_S4x256_S1x256_2_0))) b

theorem pay45_at (E : Vec Ideal S2056x256 .f32) (w : Vec Ideal S4x256 .f32) (b : Vec Ideal S1x256 .f32) (n : Fin 2048) (c : Fin 256) :
    (k0_pay4 E (View.ld w (Rect.unit ![3, 0] ![1, 256] inb_S4x256_S1x256_3_0)) (View.ld w (Rect.unit ![0, 0] ![1, 256] inb_S4x256_S1x256_0_0)) (View.ld w (Rect.unit ![1, 0] ![1, 256] inb_S4x256_S1x256_1_0)) (ix2 n c) : EReal)
      + k0_pay5 E (View.ld w (Rect.unit ![2, 0] ![1, 256] inb_S4x256_S1x256_2_0)) (ix2 n c) = ∑ j : Fin 4, w (ix2 j c) * eAt E c (n.val + (j.val + 5)) := by
  unfold_payloads
  pointwise
  simp only [eAt_eq]
  obtain ⟨f1, f2, f3, f4⟩ := shifts n.val n.isLt
  try simp only [f1, f2, f3]
  try simp only [f4]
  rw [Fin.sum_univ_four]
  refine Eq.trans (b := w (ix2 3 c) * eAt E c (n.val + 8) + w (ix2 0 c) * eAt E c (n.val + 5) + w (ix2 1 c) * eAt E c (n.val + 6) + w (ix2 2 c) * eAt E c (n.val + 7)) rfl ?_
  refine Eq.trans ?_ (b := w (ix2 0 c) * eAt E c (n.val + 5) + w (ix2 1 c) * eAt E c (n.val + 6) + w (ix2 2 c) * eAt E c (n.val + 7) + w (ix2 3 c) * eAt E c (n.val + 8)) rfl
  ac_rfl

theorem pay1_at (A B : FVec Ideal S2048x256 .f32) (b : Vec Ideal S1x256 .f32) (n : Fin 2048) (c : Fin 256) :
    k0_pay1 A B b (ix2 n c) = (A (ix2 n c) + B (ix2 n c) + b (ix2 0 c)) * Ideal.logistic (A (ix2 n c) + B (ix2 n c) + b (ix2 0 c)) := by
  pointwise [k0_pay1]
  rw [zero_sub]
  rfl

theorem body_at (E : Vec Ideal S2056x256 .f32) (w : Vec Ideal S4x256 .f32) (b : Vec Ideal S1x256 .f32) (n : Fin 2048) (c : Fin 256) :
    body E w b (ix2 n c) = tpre E w b n c * Ideal.logistic (tpre E w b n c) := by
  unfold body tpre
  rw [pay1_at, pay45_at E w b n c]

section
variable (c : Dev nD) (i : grid0.Coords) (arg2 : Memref sig .tc .vmem S8x256 .f32) (harg2 : arg2.IsWhole) (arg3 : Memref sig .tc .vmem S2048x256 .f32) (harg3 : arg3.IsWhole) (arg4 : Memref sig .tc .vmem S4x256 .f32) (harg4 : arg4.IsWhole) (arg5 : Memref sig .tc .vmem S1x256 .f32) (harg5 : arg5.IsWhole) (arg6 : Memref sig .tc .vmem S2048x256 .f32) (harg6 : arg6.IsWhole) (arg7 : Memref sig .tc .vmem S2056x256 .f32) (harg7 : arg7.IsWhole)
    (x0 : Vec Ideal S8x256 .f32) (x1 : Vec Ideal S2048x256 .f32) (x2 : Vec Ideal S4x256 .f32) (x3 : Vec Ideal S1x256 .f32)

theorem out_eq (y : S2048x256.Idx) : out0_A_4 c i arg2 harg2 arg3 harg3 arg4 harg4 arg5 harg5 arg6 harg6 arg7 harg7 x0 x1 x2 x3 y
    = body (joinH (k0_pay2 i x0) (k0_pay3 x1)) x2 x3 y := by
  frame_open
  simp (disch := decide) only [↓ View.readCov_skip, ↓ View.readCov_cons_toLoadRect, ↓ View.readCov_fill]
  frame_out
  simp only [readH]
  rfl
end

variable (m : (ℓ : Loc nD τ sig) → Buf (Elt Ideal) ℓ)

theorem idx : ∀ t : Fin cfg0.N, win0_0.index t = ![0, t.val + 4] ∧ win0_1.index t = ![0, t.val + 4] ∧ win0_2.index t = ![0, t.val]
    ∧ win0_3.index t = ![0, t.val] ∧ win0_4.index t = ![0, t.val] ∧ t.val < 6 :=
  (by decide +kernel : ∀ t : Fin grid0.N, _)

theorem coord1 : ∀ t : Fin cfg0.N, (grid0.coords t 1).val = 0 := (by decide +kernel : ∀ t : Fin grid0.N, _)

abbrev a0 (c : Dev nD) : FVec Ideal S2048x2560 .f32 := m ((c : Thread nD τ).loc main_arg0)
abbrev a1 (c : Dev nD) : FVec Ideal S4x1536 .f32 := m ((c : Thread nD τ).loc main_arg1)
abbrev a2 (c : Dev nD) : FVec Ideal S1x1536 .f32 := m ((c : Thread nD τ).loc main_arg2)

theorem pay2_zero (i : grid0.Coords) (hi : (i 1).val = 0) (a : Vec Ideal S8x256 .f32) (y : S8x256.Idx) : k0_pay2 i a y = 0 := by
  unfold k0_pay2
  rw [hi]
  pointwise
  rfl

theorem pay3_at (a : Vec Ideal S2048x256 .f32) (y : S2048x256.Idx) : k0_pay3 a y = a y := by pointwise [k0_pay3]

/-- The scratch at point `t`, from its row 5 on, holds the input's rows from three rows before the first on. -/
theorem tileX (c : Dev nD) (t : Fin cfg0.N) (k : Fin 256) (r : ℕ) (hr : r + 5 < 2056) :
    eAt (joinH (k0_pay2 (grid0.coords t) (iblk m c 0 t)) (k0_pay3 (iblk m c 1 t))) k (r + 5) = gX (a0 m c) r (t.val * 256 + k.val) := by
  have hk := k.isLt
  have ht := (idx t).2.2.2.2.2
  unfold eAt
  rw [dif_pos hr]
  by_cases h : r + 5 < 8
  · refine Eq.trans (dif_pos h) ?_
    rw [pay2_zero _ (coord1 t)]
    unfold gX
    rw [dif_neg (by omega)]
  · refine Eq.trans (dif_neg h) ?_
    rw [pay3_at]
    unfold gX
    rw [dif_pos ⟨⟨by omega, by omega⟩, by omega⟩]
    blk_ext [iblk, V, idx t]

theorem tileOut (c : Dev nD) (t : Fin cfg0.N) (n : Fin 2048) (k : Fin 256) (q : Fin 2048) (kk : Fin 1536) (hq : q.val = n.val) (hk : kk.val = t.val * 256 + k.val) :
    outsAt0 m c t (ix2 n k) = G (a0 m c) (a1 m c) (a2 m c) (ix2 q kk) := by
  obtain rfl : q = n := Fin.ext hq
  have ht := (idx t).2.2.2.2.2
  unfold outsAt0
  rw [out_eq, body_at]
  have e : tpre (joinH (k0_pay2 (grid0.coords t) (iblk m c 0 t)) (k0_pay3 (iblk m c 1 t))) (iblk m c 2 t) (iblk m c 3 t) q k = pre (a0 m c) (a1 m c) (a2 m c) q kk := by
    unfold tpre pre
    have eb : (iblk m c 3 t : Vec Ideal S1x256 .f32) (ix2 0 k) = a2 m c (ix2 0 kk) := by blk_ext [iblk, V, idx t]
    rw [eb]
    refine congrArg (fun z : EReal => z + _) (Finset.sum_congr rfl fun j _ => ?_)
    have ew : (iblk m c 2 t : Vec Ideal S4x256 .f32) (ix2 j k) = a1 m c (ix2 j kk) := by blk_ext [iblk, V, idx t]
    rw [ew, ← Nat.add_assoc, tileX m c t k _ (by have := j.isLt; have := q.isLt; omega), hk]
  rw [e]
  rfl

theorem final (c : Dev nD) : (dats m 0 c).arrAt 4 (cfgs 0).N = G (a0 m c) (a1 m c) (a2 m c) := by
  refine (dats m 0 c).arrAt_eq_of_covers 4 _ (by decide +kernel) fun t _ (y : S2048x256.Idx) => ?_
  have e0 : ((((cfg0.win 4).blk t).view.emb y) 0).val = (y 0).val := by blk_simp [idx t]
  have e1 : ((((cfg0.win 4).blk t).view.emb y) 1).val = t.val * 256 + (y 1).val := by blk_simp [idx t]
  blk_simp
  rw [after0_4]
  revert e0 e1
  generalize ((cfg0.win 4).blk t).view.emb y = z
  intro e0 e1
  obtain ⟨n, k, rfl⟩ : ∃ (n : Fin 2048) (k : Fin 256), y = ix2 n k := ⟨y 0, y 1, eq_ix2 y⟩
  refine (tileOut m c t n k (z 0) (z 1) e0 e1).trans ?_
  exact congrArg (G (a0 m c) (a1 m c) (a2 m c)) (eq_ix2 z).symm

end Cert.SsdConvIdeal.Xbc

namespace Cert.Xbc
open Cert.XbcIdeal Cert.XbcIdeal.Gen Cert.XbcIdeal.Read
open Cert.SsdConvIdeal.Xbc (gX pre G final a0 a1 a2)

/-- The input with three zero rows before it. -/
theorem pad_at (x0 : FVec Ideal S2048x2560 .f32) (q : Fin 2051) (k : Fin 1536) :
    val_main_v2 (F := Ideal) x0 (ix2 q k) = gX x0 q.val k.val := by
  pointwise [val_main_v2]
  unfold gX
  by_cases h : q.val < 3
  · rw [dif_pos h, dif_neg (by omega)]
    pointwise [val_main_v1, val_main_cst]
  · rw [dif_neg h, dif_pos ⟨⟨by omega, by omega⟩, by omega⟩]
    pointwise [val_main_v0]
    blk_ext

/-- Plane `j` of the stacked taps is the input from row `j` on. -/
theorem tap_at (x0 : FVec Ideal S2048x2560 .f32) (j : ℕ) (h : S2051x1536.Slices ![j, 0] S2048x1536) (b) (n : Fin 2048) (k : Fin 1536) (hj : j < 4) :
    broadcastInDim S1x2048x1536 ![1, 2] b (extractStridedSlice S2048x1536 ![j, 0] (val_main_v2 (F := Ideal) x0) h) (ix3 0 n k) = gX x0 (n.val + j) k.val := by
  have := pad_at x0 ⟨j + n.val, by omega⟩ k
  pointwise
  rw [Nat.add_comm n.val j]
  exact this

theorem stack_at (x0 : FVec Ideal S2048x2560 .f32) (j : Fin 4) (n : Fin 2048) (k : Fin 1536) :
    val_main_v11 (F := Ideal) x0 (ix3 j n k) = gX x0 (n.val + j.val) k.val := by
  refine Eq.trans (concatenate_ofFn_unit_apply (t := S4x2048x1536) (s₁ := S1x2048x1536) (0 : Fin 3) (N := 4) ![val_main_v7 (F := Ideal) x0, val_main_v8 (F := Ideal) x0, val_main_v9 (F := Ideal) x0, val_main_v10 (F := Ideal) x0] _ rfl rfl (ix3 j n k) j rfl (ix3 0 n k) ?_) ?_
  · intro b hb
    fin_cases b
    · exact absurd rfl hb
    · rfl
    · rfl
  · fin_cases j
    · exact tap_at x0 0 slices_S2051x1536_S2048x1536_0_0 bcast_S2048x1536_S1x2048x1536_1_2 n k (by omega)
    · exact tap_at x0 1 slices_S2051x1536_S2048x1536_1_0 bcast_S2048x1536_S1x2048x1536_1_2 n k (by omega)
    · exact tap_at x0 2 slices_S2051x1536_S2048x1536_2_0 bcast_S2048x1536_S1x2048x1536_1_2 n k (by omega)
    · exact tap_at x0 3 slices_S2051x1536_S2048x1536_3_0 bcast_S2048x1536_S1x2048x1536_1_2 n k (by omega)

theorem pre_at (x0 : FVec Ideal S2048x2560 .f32) (x1 : FVec Ideal S4x1536 .f32) (x2 : FVec Ideal S1x1536 .f32) (n : Fin 2048) (k : Fin 1536) :
    val_main_v17 (F := Ideal) x0 x1 x2 (ix2 n k) = pre x0 x1 x2 n k := by
  unfold pre
  pointwise [val_main_v17, val_main_v16, val_main_v15, val_main_v14, val_main_v13, val_main_v12, val_main_cst_0]
  simp only [stack_at]

theorem at_G (x0 : FVec Ideal S2048x2560 .f32) (x1 : FVec Ideal S4x1536 .f32) (x2 : FVec Ideal S1x1536 .f32) : val_main_v18 (F := Ideal) x0 x1 x2 = G x0 x1 x2 := by
  funext (y : S2048x1536.Idx)
  obtain ⟨n, k, rfl⟩ : ∃ (n : Fin 2048) (k : Fin 1536), y = ix2 n k := ⟨y 0, y 1, eq_ix2 y⟩
  have e := pre_at x0 x1 x2 n k
  show _ = pre x0 x1 x2 n k * Ideal.logistic (pre x0 x1 x2 n k)
  rw [← e]
  pointwise [val_main_v18, val_main_call0_v5, val_main_call0_v4, val_main_call0_cst_0, val_main_call0_v3, val_main_call0_v2, val_main_call0_cst, val_main_call0_v1, val_main_call0_v0]
  rfl

/-- The reference leaves its arguments alone, and it has no semaphore. -/
theorem reference_frame : Cert.quiescent_XbcIdeal := by
  intro m g _
  exact (θ_run _ _ _).mono (fun r h => ⟨fun c => (h c).2, sem_eq_zero_of_no_sems (by decide) r.2⟩) (Cert.XbcIdeal.Value.run m g)

theorem algebraic : Cert.algebraic_SsdConvIdeal_XbcIdeal := by
  intro m g m' g' hpre hagree
  refine ⟨fun c => G (a0 m c) (a1 m c) (a2 m c), ?_, ?_⟩
  · exact (θ_run _ _ _).mono (fun r h c => ⟨(h c).1.trans (final m c), (h c).2⟩) (Cert.SsdConvIdeal.Value.run_blocks m g)
  · refine (θ_run _ _ _).mono (fun r h c => ⟨(h c).1.trans ?_, (h c).2⟩) (Cert.XbcIdeal.Value.run m' g')
    · refine (Cert.XbcIdeal.Read.val_main_v18_eq m' c).trans ?_
      rw [(hagree c).1, (hagree c).2.1, (hagree c).2.2]
      exact at_G _ _ _

end Cert.Xbc

end
-- ==== Proof.ModValue.lean ====
module

public import proofs.«01_k».proof.Defs
public import proofs.«01_k».proof.Proof.Gen.AdaModIdeal.Value
public import proofs.«01_k».proof.Proof.Gen.ModulIdeal.Read
public import Idealize.ShloMosaic.Lib.Pipeline.ValueKit
public import Idealize.ShloMosaic.Lib.Pipeline.ReadBack
public import Idealize.ShloMosaic.Lib.Pointwise
public import Idealize.ShloMosaic.Lib.Claim
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.AdaModIdeal.Mod
open Cert.AdaModIdeal Cert.AdaModIdeal.Gen

variable (m : (ℓ : Loc nD τ sig) → Buf (Elt Ideal) ℓ)

theorem idx : ∀ t : Fin cfg0.N, win0_0.index t = ![0, 0] ∧ win0_1.index t = ![0, 0] ∧ win0_2.index t = ![0, 0] ∧ win0_3.index t = ![0, 0] ∧ win0_4.index t = ![0, 0] :=
  (by decide +kernel : ∀ t : Fin grid0.N, _)

/-- The activation of the conditioning rows. -/
def G4 (C : FVec Ideal S8x1024 .f32) : FVec Ideal S8x1024 .f32 := fun i => C i * Ideal.logistic (C i)

/-- The activated rows projected, and the bias. -/
def G3 (C : FVec Ideal S8x1024 .f32) (W : FVec Ideal S1024x768 .f32) (B : FVec Ideal S1x768 .f32) : FVec Ideal S8x768 .f32 := fun i =>
  (∑ q : Fin 1024, G4 C (ix2 (i 0) q) * W (ix2 q (i 1))) + B (ix2 0 (i 1))

abbrev a0 (c : Dev nD) : FVec Ideal S8x1024 .f32 := m ((c : Thread nD τ).loc main_arg0)
abbrev a1 (c : Dev nD) : FVec Ideal S1024x768 .f32 := m ((c : Thread nD τ).loc main_arg1)
abbrev a2 (c : Dev nD) : FVec Ideal S1x768 .f32 := m ((c : Thread nD τ).loc main_arg2)

theorem pay1_at (x : Vec Ideal S8x1024 .f32) (y : S8x1024.Idx) : k0_pay1 (F := Ideal) x y = x y * Ideal.logistic (x y) := by
  pointwise [k0_pay1]
  rw [zero_sub]
  rfl

theorem pay2_at (x : Vec Ideal S8x1024 .f32) (w : Vec Ideal S1024x768 .f32) (b : Vec Ideal S1x768 .f32) (n : Fin 8) (k : Fin 768) :
    k0_pay2 (F := Ideal) x w b (ix2 n k) = (∑ q : Fin 1024, k0_pay1 (F := Ideal) x (ix2 n q) * w (ix2 q k)) + b (ix2 0 k) := by pointwise [k0_pay2]

theorem x0_at (c : Dev nD) (t : Fin cfg0.N) (n : Fin 8) (q : Fin 1024) : (iblk m c 0 t : Vec Ideal S8x1024 .f32) (ix2 n q) = a0 m c (ix2 n q) := by
  blk_point [iblk, V, idx t]

theorem x1_at (c : Dev nD) (t : Fin cfg0.N) (q : Fin 1024) (k : Fin 768) : (iblk m c 1 t : Vec Ideal S1024x768 .f32) (ix2 q k) = a1 m c (ix2 q k) := by
  blk_point [iblk, V, idx t]

theorem x2_at (c : Dev nD) (t : Fin cfg0.N) (k : Fin 768) : (iblk m c 2 t : Vec Ideal S1x768 .f32) (ix2 0 k) = a2 m c (ix2 0 k) := by
  blk_point [iblk, V, idx t]

theorem out3 (c : Dev nD) (t : Fin cfg0.N) (n : Fin 8) (k : Fin 768) :
    out0_3 (F := Ideal) (iblk m c 0 t) (iblk m c 1 t) (iblk m c 2 t) (ix2 n k) = G3 (a0 m c) (a1 m c) (a2 m c) (ix2 n k) := by
  unfold out0_3
  frame_out
  refine (pay2_at _ _ _ n k).trans ?_
  show _ = (∑ q : Fin 1024, G4 (a0 m c) (ix2 n q) * a1 m c (ix2 q k)) + a2 m c (ix2 0 k)
  refine congrArg₂ (fun a b : EReal => a + b) (Finset.sum_congr rfl fun q _ => congrArg₂ (fun a b : EReal => a * b) ?_ (x1_at m c t q k)) (x2_at m c t k)
  rw [pay1_at]
  unfold G4
  rw [← x0_at m c t n q]

theorem out4 (c : Dev nD) (t : Fin cfg0.N) (n : Fin 8) (k : Fin 1024) :
    out0_4 (F := Ideal) (iblk m c 0 t) (iblk m c 1 t) (iblk m c 2 t) (ix2 n k) = G4 (a0 m c) (ix2 n k) := by
  unfold out0_4
  frame_out
  rw [pay1_at]
  unfold G4
  rw [← x0_at m c t n k]

theorem final3 (c : Dev nD) : (dats m 0 c).arrAt 3 (cfgs 0).N = G3 (a0 m c) (a1 m c) (a2 m c) := by
  refine (dats m 0 c).arrAt_eq_of_covers 3 _ (by decide +kernel) fun t _ y => ?_
  have e0 : ((((cfg0.win 3).blk t).view.emb y) 0).val = (y 0).val := by blk_simp [idx t]
  have e1 : ((((cfg0.win 3).blk t).view.emb y) 1).val = (y 1).val := by blk_simp [idx t]
  blk_simp
  rw [after0_3]
  revert e0 e1
  generalize ((cfg0.win 3).blk t).view.emb y = z
  intro e0 e1
  obtain ⟨n, k, rfl⟩ : ∃ (n : Fin 8) (k : Fin 768), y = ix2 n k := ⟨y 0, y 1, eq_ix2 y⟩
  refine (out3 m c t n k).trans ?_
  exact congrArg (G3 (a0 m c) (a1 m c) (a2 m c)) (show (ix2 n k : (⟨2, ![8, 768]⟩ : Shape).Idx) = z from (by
    rw [eq_ix2 z]
    exact congrArg₂ ix2 (Fin.ext e0.symm) (Fin.ext e1.symm)))

theorem final4 (c : Dev nD) : (dats m 0 c).arrAt 4 (cfgs 0).N = G4 (a0 m c) := by
  refine (dats m 0 c).arrAt_eq_of_covers 4 _ (by decide +kernel) fun t _ y => ?_
  have e0 : ((((cfg0.win 4).blk t).view.emb y) 0).val = (y 0).val := by blk_simp [idx t]
  have e1 : ((((cfg0.win 4).blk t).view.emb y) 1).val = (y 1).val := by blk_simp [idx t]
  blk_simp
  rw [after0_4]
  revert e0 e1
  generalize ((cfg0.win 4).blk t).view.emb y = z
  intro e0 e1
  obtain ⟨n, k, rfl⟩ : ∃ (n : Fin 8) (k : Fin 1024), y = ix2 n k := ⟨y 0, y 1, eq_ix2 y⟩
  refine (out4 m c t n k).trans ?_
  exact congrArg (G4 (a0 m c)) (show (ix2 n k : (⟨2, ![8, 1024]⟩ : Shape).Idx) = z from (by
    rw [eq_ix2 z]
    exact congrArg₂ ix2 (Fin.ext e0.symm) (Fin.ext e1.symm)))

end Cert.AdaModIdeal.Mod

namespace Cert.Modu
open Cert.ModulIdeal Cert.ModulIdeal.Read Cert.AdaModIdeal.Mod

theorem at4 (C : FVec Ideal Cert.ModulIdeal.S8x1024 .f32) : val_main_v0 (F := Ideal) C = G4 C := by
  funext (y : Cert.ModulIdeal.S8x1024.Idx)
  obtain ⟨n, k, rfl⟩ : ∃ (n : Fin 8) (k : Fin 1024), y = ix2 n k := ⟨y 0, y 1, eq_ix2 y⟩
  pointwise [Read.val_main_v0, Read.val_main_call0_v5, Read.val_main_call0_v4, Read.val_main_call0_cst_0, Read.val_main_call0_v3, Read.val_main_call0_v2, Read.val_main_call0_cst, Read.val_main_call0_v1, Read.val_main_call0_v0]
  rfl

theorem at3 (C : FVec Ideal Cert.ModulIdeal.S8x1024 .f32) (W : FVec Ideal Cert.ModulIdeal.S1024x768 .f32) (B : FVec Ideal Cert.ModulIdeal.S1x768 .f32) : val_main_v3 (F := Ideal) C W B = G3 C W B := by
  funext (y : Cert.ModulIdeal.S8x768.Idx)
  obtain ⟨n, k, rfl⟩ : ∃ (n : Fin 8) (k : Fin 768), y = ix2 n k := ⟨y 0, y 1, eq_ix2 y⟩
  pointwise [Read.val_main_v3, Read.val_main_v2, Read.val_main_v1]
  rw [at4]
  rfl

/-- The reference leaves its arguments alone, and it has no semaphore. -/
theorem reference_frame : Cert.quiescent_ModulIdeal := by
  intro m g _
  exact (θ_run _ _ _).mono (fun r h => ⟨fun c => (h c).2.2, sem_eq_zero_of_no_sems (by decide) r.2⟩) (Cert.ModulIdeal.Value.run m g)

theorem algebraic : Cert.algebraic_AdaModIdeal_ModulIdeal := by
  intro m g m' g' hpre hagree
  refine ⟨fun c => G3 (a0 m c) (a1 m c) (a2 m c), fun c => G4 (a0 m c), ?_, ?_⟩
  · exact (θ_run _ _ _).mono (fun r h c => ⟨(h c).1.trans (final3 m c), (h c).2.1.trans (final4 m c), (h c).2.2⟩) (Cert.AdaModIdeal.Value.run_blocks m g)
  · refine (θ_run _ _ _).mono (fun r h c => ⟨(h c).1.trans ?_, (h c).2.1.trans ?_, (h c).2.2⟩) (Cert.ModulIdeal.Value.run m' g')
    · refine (Cert.ModulIdeal.Read.val_main_v3_eq _ _ _).trans ?_
      rw [(hagree c).1, (hagree c).2.1, (hagree c).2.2]
      exact at3 _ _ _
    · refine (Cert.ModulIdeal.Read.val_main_v0_eq _).trans ?_
      rw [(hagree c).1]
      exact at4 _

end Cert.Modu

end
-- ==== Proof.lean ====
module

public import proofs.«01_k».proof.Defs
public import proofs.«01_k».proof.Proof.Gen.ConfBwd
public import proofs.«01_k».proof.Proof.Gen.ConfBwd.Skeleton
public import proofs.«01_k».proof.Proof.Gen.ConfBwd.Launch
public import proofs.«01_k».proof.Proof.Gen.ConfBwd.Points
public import proofs.«01_k».proof.Proof.Gen.ConfBwd.Frame
public import proofs.«01_k».proof.Proof.Gen.ConfBwdIdeal
public import proofs.«01_k».proof.Proof.Gen.ConfBwdIdeal.Skeleton
public import proofs.«01_k».proof.Proof.Gen.ConfBwdIdeal.Launch
public import proofs.«01_k».proof.Proof.Gen.ConfBwdIdeal.Points
public import proofs.«01_k».proof.Proof.Gen.ConfBwdIdeal.Frame
public import proofs.«01_k».proof.Proof.Gen.ConfBwdIdeal.Value
public import proofs.«01_k».proof.Proof.Gen.ConfGradIdeal
public import proofs.«01_k».proof.Proof.Gen.ConfGradIdeal.Run
public import proofs.«01_k».proof.Proof.Gen.ConfGradIdeal.Read
public import proofs.«01_k».proof.Proof.Gen.DownWgrad
public import proofs.«01_k».proof.Proof.Gen.DownWgrad.Skeleton
public import proofs.«01_k».proof.Proof.Gen.DownWgrad.Launch
public import proofs.«01_k».proof.Proof.Gen.DownWgrad.Points
public import proofs.«01_k».proof.Proof.Gen.DownWgrad.Frame
public import proofs.«01_k».proof.Proof.Gen.DownWgradIdeal
public import proofs.«01_k».proof.Proof.Gen.DownWgradIdeal.Skeleton
public import proofs.«01_k».proof.Proof.Gen.DownWgradIdeal.Launch
public import proofs.«01_k».proof.Proof.Gen.DownWgradIdeal.Points
public import proofs.«01_k».proof.Proof.Gen.DownWgradIdeal.Frame
public import proofs.«01_k».proof.Proof.Gen.DownWgradIdeal.Value
public import proofs.«01_k».proof.Proof.Gen.DownGradIdeal
public import proofs.«01_k».proof.Proof.Gen.DownGradIdeal.Run
public import proofs.«01_k».proof.Proof.Gen.DownGradIdeal.Read
public import proofs.«01_k».proof.Proof.Gen.UpWgrad
public import proofs.«01_k».proof.Proof.Gen.UpWgrad.Skeleton
public import proofs.«01_k».proof.Proof.Gen.UpWgrad.Launch
public import proofs.«01_k».proof.Proof.Gen.UpWgrad.Points
public import proofs.«01_k».proof.Proof.Gen.UpWgrad.Frame
public import proofs.«01_k».proof.Proof.Gen.UpWgradIdeal
public import proofs.«01_k».proof.Proof.Gen.UpWgradIdeal.Skeleton
public import proofs.«01_k».proof.Proof.Gen.UpWgradIdeal.Launch
public import proofs.«01_k».proof.Proof.Gen.UpWgradIdeal.Points
public import proofs.«01_k».proof.Proof.Gen.UpWgradIdeal.Frame
public import proofs.«01_k».proof.Proof.Gen.UpWgradIdeal.Value
public import proofs.«01_k».proof.Proof.Gen.UpGradIdeal
public import proofs.«01_k».proof.Proof.Gen.UpGradIdeal.Run
public import proofs.«01_k».proof.Proof.Gen.UpGradIdeal.Read
public import proofs.«01_k».proof.Proof.Gen.OutWgrad
public import proofs.«01_k».proof.Proof.Gen.OutWgrad.Skeleton
public import proofs.«01_k».proof.Proof.Gen.OutWgrad.Launch
public import proofs.«01_k».proof.Proof.Gen.OutWgrad.Points
public import proofs.«01_k».proof.Proof.Gen.OutWgrad.Frame
public import proofs.«01_k».proof.Proof.Gen.OutWgradIdeal
public import proofs.«01_k».proof.Proof.Gen.OutWgradIdeal.Skeleton
public import proofs.«01_k».proof.Proof.Gen.OutWgradIdeal.Launch
public import proofs.«01_k».proof.Proof.Gen.OutWgradIdeal.Points
public import proofs.«01_k».proof.Proof.Gen.OutWgradIdeal.Frame
public import proofs.«01_k».proof.Proof.Gen.OutWgradIdeal.Value
public import proofs.«01_k».proof.Proof.Gen.OutGradIdeal
public import proofs.«01_k».proof.Proof.Gen.OutGradIdeal.Run
public import proofs.«01_k».proof.Proof.Gen.OutGradIdeal.Read
public import proofs.«01_k».proof.Proof.Gen.InWgrad
public import proofs.«01_k».proof.Proof.Gen.InWgrad.Skeleton
public import proofs.«01_k».proof.Proof.Gen.InWgrad.Launch
public import proofs.«01_k».proof.Proof.Gen.InWgrad.Points
public import proofs.«01_k».proof.Proof.Gen.InWgrad.Frame
public import proofs.«01_k».proof.Proof.Gen.InWgradIdeal
public import proofs.«01_k».proof.Proof.Gen.InWgradIdeal.Skeleton
public import proofs.«01_k».proof.Proof.Gen.InWgradIdeal.Launch
public import proofs.«01_k».proof.Proof.Gen.InWgradIdeal.Points
public import proofs.«01_k».proof.Proof.Gen.InWgradIdeal.Frame
public import proofs.«01_k».proof.Proof.Gen.InWgradIdeal.Value
public import proofs.«01_k».proof.Proof.Gen.InGradIdeal
public import proofs.«01_k».proof.Proof.Gen.InGradIdeal.Run
public import proofs.«01_k».proof.Proof.Gen.InGradIdeal.Read
public import proofs.«01_k».proof.Proof.Gen.UpProj
public import proofs.«01_k».proof.Proof.Gen.UpProj.Skeleton
public import proofs.«01_k».proof.Proof.Gen.UpProj.Launch
public import proofs.«01_k».proof.Proof.Gen.UpProj.Points
public import proofs.«01_k».proof.Proof.Gen.UpProj.Frame
public import proofs.«01_k».proof.Proof.Gen.UpProjIdeal
public import proofs.«01_k».proof.Proof.Gen.UpProjIdeal.Skeleton
public import proofs.«01_k».proof.Proof.Gen.UpProjIdeal.Launch
public import proofs.«01_k».proof.Proof.Gen.UpProjIdeal.Points
public import proofs.«01_k».proof.Proof.Gen.UpProjIdeal.Frame
public import proofs.«01_k».proof.Proof.Gen.UpProjIdeal.Value
public import proofs.«01_k».proof.Proof.Gen.UpIdeal
public import proofs.«01_k».proof.Proof.Gen.UpIdeal.Run
public import proofs.«01_k».proof.Proof.Gen.UpIdeal.Read
public import proofs.«01_k».proof.Proof.Gen.InProj
public import proofs.«01_k».proof.Proof.Gen.InProj.Skeleton
public import proofs.«01_k».proof.Proof.Gen.InProj.Launch
public import proofs.«01_k».proof.Proof.Gen.InProj.Points
public import proofs.«01_k».proof.Proof.Gen.InProj.Frame
public import proofs.«01_k».proof.Proof.Gen.InProjIdeal
public import proofs.«01_k».proof.Proof.Gen.InProjIdeal.Skeleton
public import proofs.«01_k».proof.Proof.Gen.InProjIdeal.Launch
public import proofs.«01_k».proof.Proof.Gen.InProjIdeal.Points
public import proofs.«01_k».proof.Proof.Gen.InProjIdeal.Frame
public import proofs.«01_k».proof.Proof.Gen.InProjIdeal.Value
public import proofs.«01_k».proof.Proof.Gen.InIdeal
public import proofs.«01_k».proof.Proof.Gen.InIdeal.Run
public import proofs.«01_k».proof.Proof.Gen.InIdeal.Read
public import proofs.«01_k».proof.Proof.Gen.Norm2Bwd
public import proofs.«01_k».proof.Proof.Gen.Norm2Bwd.Skeleton
public import proofs.«01_k».proof.Proof.Gen.Norm2Bwd.Launch
public import proofs.«01_k».proof.Proof.Gen.Norm2Bwd.Points
public import proofs.«01_k».proof.Proof.Gen.Norm2Bwd.Frame
public import proofs.«01_k».proof.Proof.Gen.Norm2BwdIdeal
public import proofs.«01_k».proof.Proof.Gen.Norm2BwdIdeal.Skeleton
public import proofs.«01_k».proof.Proof.Gen.Norm2BwdIdeal.Launch
public import proofs.«01_k».proof.Proof.Gen.Norm2BwdIdeal.Points
public import proofs.«01_k».proof.Proof.Gen.Norm2BwdIdeal.Frame
public import proofs.«01_k».proof.Proof.Gen.Norm2BwdIdeal.Value
public import proofs.«01_k».proof.Proof.Gen.Norm2GradIdeal
public import proofs.«01_k».proof.Proof.Gen.Norm2GradIdeal.Run
public import proofs.«01_k».proof.Proof.Gen.Norm2GradIdeal.Read
public import proofs.«01_k».proof.Proof.Gen.Norm1Bwd
public import proofs.«01_k».proof.Proof.Gen.Norm1Bwd.Skeleton
public import proofs.«01_k».proof.Proof.Gen.Norm1Bwd.Launch
public import proofs.«01_k».proof.Proof.Gen.Norm1Bwd.Points
public import proofs.«01_k».proof.Proof.Gen.Norm1Bwd.Frame
public import proofs.«01_k».proof.Proof.Gen.Norm1BwdIdeal
public import proofs.«01_k».proof.Proof.Gen.Norm1BwdIdeal.Skeleton
public import proofs.«01_k».proof.Proof.Gen.Norm1BwdIdeal.Launch
public import proofs.«01_k».proof.Proof.Gen.Norm1BwdIdeal.Points
public import proofs.«01_k».proof.Proof.Gen.Norm1BwdIdeal.Frame
public import proofs.«01_k».proof.Proof.Gen.Norm1BwdIdeal.Value
public import proofs.«01_k».proof.Proof.Gen.Norm1GradIdeal
public import proofs.«01_k».proof.Proof.Gen.Norm1GradIdeal.Run
public import proofs.«01_k».proof.Proof.Gen.Norm1GradIdeal.Read
public import proofs.«01_k».proof.Proof.Gen.AdamIn
public import proofs.«01_k».proof.Proof.Gen.AdamIn.Skeleton
public import proofs.«01_k».proof.Proof.Gen.AdamIn.Launch
public import proofs.«01_k».proof.Proof.Gen.AdamIn.Points
public import proofs.«01_k».proof.Proof.Gen.AdamIn.Frame
public import proofs.«01_k».proof.Proof.Gen.AdamInIdeal
public import proofs.«01_k».proof.Proof.Gen.AdamInIdeal.Skeleton
public import proofs.«01_k».proof.Proof.Gen.AdamInIdeal.Launch
public import proofs.«01_k».proof.Proof.Gen.AdamInIdeal.Points
public import proofs.«01_k».proof.Proof.Gen.AdamInIdeal.Frame
public import proofs.«01_k».proof.Proof.Gen.AdamInIdeal.Value
public import proofs.«01_k».proof.Proof.Gen.StepInIdeal
public import proofs.«01_k».proof.Proof.Gen.StepInIdeal.Run
public import proofs.«01_k».proof.Proof.Gen.StepInIdeal.Read
public import proofs.«01_k».proof.Proof.Gen.AdamUp
public import proofs.«01_k».proof.Proof.Gen.AdamUp.Skeleton
public import proofs.«01_k».proof.Proof.Gen.AdamUp.Launch
public import proofs.«01_k».proof.Proof.Gen.AdamUp.Points
public import proofs.«01_k».proof.Proof.Gen.AdamUp.Frame
public import proofs.«01_k».proof.Proof.Gen.AdamUpIdeal
public import proofs.«01_k».proof.Proof.Gen.AdamUpIdeal.Skeleton
public import proofs.«01_k».proof.Proof.Gen.AdamUpIdeal.Launch
public import proofs.«01_k».proof.Proof.Gen.AdamUpIdeal.Points
public import proofs.«01_k».proof.Proof.Gen.AdamUpIdeal.Frame
public import proofs.«01_k».proof.Proof.Gen.AdamUpIdeal.Value
public import proofs.«01_k».proof.Proof.Gen.StepUpIdeal
public import proofs.«01_k».proof.Proof.Gen.StepUpIdeal.Run
public import proofs.«01_k».proof.Proof.Gen.StepUpIdeal.Read
public import proofs.«01_k».proof.Proof.Gen.AdamOut
public import proofs.«01_k».proof.Proof.Gen.AdamOut.Skeleton
public import proofs.«01_k».proof.Proof.Gen.AdamOut.Launch
public import proofs.«01_k».proof.Proof.Gen.AdamOut.Points
public import proofs.«01_k».proof.Proof.Gen.AdamOut.Frame
public import proofs.«01_k».proof.Proof.Gen.AdamOutIdeal
public import proofs.«01_k».proof.Proof.Gen.AdamOutIdeal.Skeleton
public import proofs.«01_k».proof.Proof.Gen.AdamOutIdeal.Launch
public import proofs.«01_k».proof.Proof.Gen.AdamOutIdeal.Points
public import proofs.«01_k».proof.Proof.Gen.AdamOutIdeal.Frame
public import proofs.«01_k».proof.Proof.Gen.AdamOutIdeal.Value
public import proofs.«01_k».proof.Proof.Gen.StepOutIdeal
public import proofs.«01_k».proof.Proof.Gen.StepOutIdeal.Run
public import proofs.«01_k».proof.Proof.Gen.StepOutIdeal.Read
public import proofs.«01_k».proof.Proof.Gen.AdamDown
public import proofs.«01_k».proof.Proof.Gen.AdamDown.Skeleton
public import proofs.«01_k».proof.Proof.Gen.AdamDown.Launch
public import proofs.«01_k».proof.Proof.Gen.AdamDown.Points
public import proofs.«01_k».proof.Proof.Gen.AdamDown.Frame
public import proofs.«01_k».proof.Proof.Gen.AdamDownIdeal
public import proofs.«01_k».proof.Proof.Gen.AdamDownIdeal.Skeleton
public import proofs.«01_k».proof.Proof.Gen.AdamDownIdeal.Launch
public import proofs.«01_k».proof.Proof.Gen.AdamDownIdeal.Points
public import proofs.«01_k».proof.Proof.Gen.AdamDownIdeal.Frame
public import proofs.«01_k».proof.Proof.Gen.AdamDownIdeal.Value
public import proofs.«01_k».proof.Proof.Gen.StepDownIdeal
public import proofs.«01_k».proof.Proof.Gen.StepDownIdeal.Run
public import proofs.«01_k».proof.Proof.Gen.StepDownIdeal.Read
public import proofs.«01_k».proof.Proof.Gen.AdaWgrad
public import proofs.«01_k».proof.Proof.Gen.AdaWgrad.Skeleton
public import proofs.«01_k».proof.Proof.Gen.AdaWgrad.Launch
public import proofs.«01_k».proof.Proof.Gen.AdaWgrad.Points
public import proofs.«01_k».proof.Proof.Gen.AdaWgrad.Frame
public import proofs.«01_k».proof.Proof.Gen.AdaWgradIdeal
public import proofs.«01_k».proof.Proof.Gen.AdaWgradIdeal.Skeleton
public import proofs.«01_k».proof.Proof.Gen.AdaWgradIdeal.Launch
public import proofs.«01_k».proof.Proof.Gen.AdaWgradIdeal.Points
public import proofs.«01_k».proof.Proof.Gen.AdaWgradIdeal.Frame
public import proofs.«01_k».proof.Proof.Gen.AdaWgradIdeal.Value
public import proofs.«01_k».proof.Proof.Gen.AdaGradIdeal
public import proofs.«01_k».proof.Proof.Gen.AdaGradIdeal.Run
public import proofs.«01_k».proof.Proof.Gen.AdaGradIdeal.Read
public import proofs.«01_k».proof.Proof.Gen.SmallSum
public import proofs.«01_k».proof.Proof.Gen.SmallSum.Skeleton
public import proofs.«01_k».proof.Proof.Gen.SmallSum.Launch
public import proofs.«01_k».proof.Proof.Gen.SmallSum.Points
public import proofs.«01_k».proof.Proof.Gen.SmallSum.Frame
public import proofs.«01_k».proof.Proof.Gen.SmallSumIdeal
public import proofs.«01_k».proof.Proof.Gen.SmallSumIdeal.Skeleton
public import proofs.«01_k».proof.Proof.Gen.SmallSumIdeal.Launch
public import proofs.«01_k».proof.Proof.Gen.SmallSumIdeal.Points
public import proofs.«01_k».proof.Proof.Gen.SmallSumIdeal.Frame
public import proofs.«01_k».proof.Proof.Gen.SmallSumIdeal.Value
public import proofs.«01_k».proof.Proof.Gen.SmallGradIdeal
public import proofs.«01_k».proof.Proof.Gen.SmallGradIdeal.Run
public import proofs.«01_k».proof.Proof.Gen.SmallGradIdeal.Read
public import proofs.«01_k».proof.Proof.Gen.DownLoss
public import proofs.«01_k».proof.Proof.Gen.DownLoss.Skeleton
public import proofs.«01_k».proof.Proof.Gen.DownLoss.Launch
public import proofs.«01_k».proof.Proof.Gen.DownLoss.Points
public import proofs.«01_k».proof.Proof.Gen.DownLoss.Frame
public import proofs.«01_k».proof.Proof.Gen.DownLossIdeal
public import proofs.«01_k».proof.Proof.Gen.DownLossIdeal.Skeleton
public import proofs.«01_k».proof.Proof.Gen.DownLossIdeal.Launch
public import proofs.«01_k».proof.Proof.Gen.DownLossIdeal.Points
public import proofs.«01_k».proof.Proof.Gen.DownLossIdeal.Frame
public import proofs.«01_k».proof.Proof.Gen.DownLossIdeal.Value
public import proofs.«01_k».proof.Proof.Gen.LossGradIdeal
public import proofs.«01_k».proof.Proof.Gen.LossGradIdeal.Run
public import proofs.«01_k».proof.Proof.Gen.LossGradIdeal.Read
public import proofs.«01_k».proof.Proof.Gen.MixOut
public import proofs.«01_k».proof.Proof.Gen.MixOut.Skeleton
public import proofs.«01_k».proof.Proof.Gen.MixOut.Launch
public import proofs.«01_k».proof.Proof.Gen.MixOut.Points
public import proofs.«01_k».proof.Proof.Gen.MixOut.Frame
public import proofs.«01_k».proof.Proof.Gen.MixOutIdeal
public import proofs.«01_k».proof.Proof.Gen.MixOutIdeal.Skeleton
public import proofs.«01_k».proof.Proof.Gen.MixOutIdeal.Launch
public import proofs.«01_k».proof.Proof.Gen.MixOutIdeal.Points
public import proofs.«01_k».proof.Proof.Gen.MixOutIdeal.Frame
public import proofs.«01_k».proof.Proof.Gen.MixOutIdeal.Value
public import proofs.«01_k».proof.Proof.Gen.MixIdeal
public import proofs.«01_k».proof.Proof.Gen.MixIdeal.Run
public import proofs.«01_k».proof.Proof.Gen.MixIdeal.Read
public import proofs.«01_k».proof.Proof.Gen.FfnConv
public import proofs.«01_k».proof.Proof.Gen.FfnConv.Skeleton
public import proofs.«01_k».proof.Proof.Gen.FfnConv.Launch
public import proofs.«01_k».proof.Proof.Gen.FfnConv.Points
public import proofs.«01_k».proof.Proof.Gen.FfnConv.Frame
public import proofs.«01_k».proof.Proof.Gen.FfnConvIdeal
public import proofs.«01_k».proof.Proof.Gen.FfnConvIdeal.Skeleton
public import proofs.«01_k».proof.Proof.Gen.FfnConvIdeal.Launch
public import proofs.«01_k».proof.Proof.Gen.FfnConvIdeal.Points
public import proofs.«01_k».proof.Proof.Gen.FfnConvIdeal.Frame
public import proofs.«01_k».proof.Proof.Gen.FfnConvIdeal.Value
public import proofs.«01_k».proof.Proof.Gen.FfnIdeal
public import proofs.«01_k».proof.Proof.Gen.FfnIdeal.Run
public import proofs.«01_k».proof.Proof.Gen.FfnIdeal.Read
public import proofs.«01_k».proof.Proof.Gen.SsdConv
public import proofs.«01_k».proof.Proof.Gen.SsdConv.Skeleton
public import proofs.«01_k».proof.Proof.Gen.SsdConv.Launch
public import proofs.«01_k».proof.Proof.Gen.SsdConv.Points
public import proofs.«01_k».proof.Proof.Gen.SsdConv.Frame
public import proofs.«01_k».proof.Proof.Gen.SsdConvIdeal
public import proofs.«01_k».proof.Proof.Gen.SsdConvIdeal.Skeleton
public import proofs.«01_k».proof.Proof.Gen.SsdConvIdeal.Launch
public import proofs.«01_k».proof.Proof.Gen.SsdConvIdeal.Points
public import proofs.«01_k».proof.Proof.Gen.SsdConvIdeal.Frame
public import proofs.«01_k».proof.Proof.Gen.SsdConvIdeal.Value
public import proofs.«01_k».proof.Proof.Gen.XbcIdeal
public import proofs.«01_k».proof.Proof.Gen.XbcIdeal.Run
public import proofs.«01_k».proof.Proof.Gen.XbcIdeal.Read
public import proofs.«01_k».proof.Proof.Gen.AdaMod
public import proofs.«01_k».proof.Proof.Gen.AdaMod.Skeleton
public import proofs.«01_k».proof.Proof.Gen.AdaMod.Launch
public import proofs.«01_k».proof.Proof.Gen.AdaMod.Points
public import proofs.«01_k».proof.Proof.Gen.AdaMod.Frame
public import proofs.«01_k».proof.Proof.Gen.AdaModIdeal
public import proofs.«01_k».proof.Proof.Gen.AdaModIdeal.Skeleton
public import proofs.«01_k».proof.Proof.Gen.AdaModIdeal.Launch
public import proofs.«01_k».proof.Proof.Gen.AdaModIdeal.Points
public import proofs.«01_k».proof.Proof.Gen.AdaModIdeal.Frame
public import proofs.«01_k».proof.Proof.Gen.AdaModIdeal.Value
public import proofs.«01_k».proof.Proof.Gen.ModulIdeal
public import proofs.«01_k».proof.Proof.Gen.ModulIdeal.Run
public import proofs.«01_k».proof.Proof.Gen.ModulIdeal.Read
public import proofs.«01_k».proof.Proof.ConfValue
public import proofs.«01_k».proof.Proof.DownValue
public import proofs.«01_k».proof.Proof.UpValue
public import proofs.«01_k».proof.Proof.OutValue
public import proofs.«01_k».proof.Proof.InWgrad
public import proofs.«01_k».proof.Proof.UpProjValue
public import proofs.«01_k».proof.Proof.InProjValue
public import proofs.«01_k».proof.Proof.Norm2Value
public import proofs.«01_k».proof.Proof.Norm1Value
public import proofs.«01_k».proof.Proof.AdamInValue
public import proofs.«01_k».proof.Proof.AdamUpValue
public import proofs.«01_k».proof.Proof.AdamOutValue
public import proofs.«01_k».proof.Proof.AdamDownValue
public import proofs.«01_k».proof.Proof.AdaValue
public import proofs.«01_k».proof.Proof.SmallValue
public import proofs.«01_k».proof.Proof.LossValue
public import proofs.«01_k».proof.Proof.MixValue
public import proofs.«01_k».proof.Proof.FfnValue
public import proofs.«01_k».proof.Proof.XbcValue
public import proofs.«01_k».proof.Proof.ModValue
public import Idealize.ShloMosaic.Adequacy
public import Idealize.ShloMosaic.Init

@[expose] public section

noncomputable section

-- The claims about a program also say that every semaphore counter ends at zero; these programs signal nothing, so each counter stays where it starts.

namespace Cert.Proof

open Idealize.ShloMosaic Idealize.SL.Sem

theorem claim : Cert.Claim := ⟨Cert.ConfBwd.Gen.facts,
  Cert.ConfBwdIdeal.Gen.facts,
  Cert.ConfGradIdeal.Gen.facts,
  Cert.DownWgrad.Gen.facts,
  Cert.DownWgradIdeal.Gen.facts,
  Cert.DownGradIdeal.Gen.facts,
  Cert.UpWgrad.Gen.facts,
  Cert.UpWgradIdeal.Gen.facts,
  Cert.UpGradIdeal.Gen.facts,
  Cert.OutWgrad.Gen.facts,
  Cert.OutWgradIdeal.Gen.facts,
  Cert.OutGradIdeal.Gen.facts,
  Cert.InWgrad.Gen.facts,
  Cert.InWgradIdeal.Gen.facts,
  Cert.InGradIdeal.Gen.facts,
  Cert.UpProj.Gen.facts,
  Cert.UpProjIdeal.Gen.facts,
  Cert.UpIdeal.Gen.facts,
  Cert.InProj.Gen.facts,
  Cert.InProjIdeal.Gen.facts,
  Cert.InIdeal.Gen.facts,
  Cert.Norm2Bwd.Gen.facts,
  Cert.Norm2BwdIdeal.Gen.facts,
  Cert.Norm2GradIdeal.Gen.facts,
  Cert.Norm1Bwd.Gen.facts,
  Cert.Norm1BwdIdeal.Gen.facts,
  Cert.Norm1GradIdeal.Gen.facts,
  Cert.AdamIn.Gen.facts,
  Cert.AdamInIdeal.Gen.facts,
  Cert.StepInIdeal.Gen.facts,
  Cert.AdamUp.Gen.facts,
  Cert.AdamUpIdeal.Gen.facts,
  Cert.StepUpIdeal.Gen.facts,
  Cert.AdamOut.Gen.facts,
  Cert.AdamOutIdeal.Gen.facts,
  Cert.StepOutIdeal.Gen.facts,
  Cert.AdamDown.Gen.facts,
  Cert.AdamDownIdeal.Gen.facts,
  Cert.StepDownIdeal.Gen.facts,
  Cert.AdaWgrad.Gen.facts,
  Cert.AdaWgradIdeal.Gen.facts,
  Cert.AdaGradIdeal.Gen.facts,
  Cert.SmallSum.Gen.facts,
  Cert.SmallSumIdeal.Gen.facts,
  Cert.SmallGradIdeal.Gen.facts,
  Cert.DownLoss.Gen.facts,
  Cert.DownLossIdeal.Gen.facts,
  Cert.LossGradIdeal.Gen.facts,
  Cert.MixOut.Gen.facts,
  Cert.MixOutIdeal.Gen.facts,
  Cert.MixIdeal.Gen.facts,
  Cert.FfnConv.Gen.facts,
  Cert.FfnConvIdeal.Gen.facts,
  Cert.FfnIdeal.Gen.facts,
  Cert.SsdConv.Gen.facts,
  Cert.SsdConvIdeal.Gen.facts,
  Cert.XbcIdeal.Gen.facts,
  Cert.AdaMod.Gen.facts,
  Cert.AdaModIdeal.Gen.facts,
  Cert.ModulIdeal.Gen.facts,
  fun m ρ _ => Cert.ConfBwd.Gen.frame m ρ,
  fun m ρ _ => Cert.ConfBwdIdeal.Gen.frame m ρ,
  Cert.Conf.reference_frame,
  fun m ρ _ => Cert.DownWgrad.Gen.frame m ρ,
  fun m ρ _ => Cert.DownWgradIdeal.Gen.frame m ρ,
  Cert.Down.reference_frame,
  fun m ρ _ => Cert.UpWgrad.Gen.frame m ρ,
  fun m ρ _ => Cert.UpWgradIdeal.Gen.frame m ρ,
  Cert.Up.reference_frame,
  fun m ρ _ => Cert.OutWgrad.Gen.frame m ρ,
  fun m ρ _ => Cert.OutWgradIdeal.Gen.frame m ρ,
  Cert.Out.reference_frame,
  fun m ρ _ => Cert.InWgrad.Gen.frame m ρ,
  fun m ρ _ => Cert.InWgradIdeal.Gen.frame m ρ,
  Cert.In5.reference_frame,
  fun m ρ _ => Cert.UpProj.Gen.frame m ρ,
  fun m ρ _ => Cert.UpProjIdeal.Gen.frame m ρ,
  Cert.UpP.reference_frame,
  fun m ρ _ => Cert.InProj.Gen.frame m ρ,
  fun m ρ _ => Cert.InProjIdeal.Gen.frame m ρ,
  Cert.InI.reference_frame,
  fun m ρ _ => Cert.Norm2Bwd.Gen.frame m ρ,
  fun m ρ _ => Cert.Norm2BwdIdeal.Gen.frame m ρ,
  Cert.Norm2.reference_frame,
  fun m ρ _ => Cert.Norm1Bwd.Gen.frame m ρ,
  fun m ρ _ => Cert.Norm1BwdIdeal.Gen.frame m ρ,
  Cert.Norm1.reference_frame,
  fun m ρ _ => Cert.AdamIn.Gen.frame m ρ,
  fun m ρ _ => Cert.AdamInIdeal.Gen.frame m ρ,
  Cert.AIn.reference_frame,
  fun m ρ _ => Cert.AdamUp.Gen.frame m ρ,
  fun m ρ _ => Cert.AdamUpIdeal.Gen.frame m ρ,
  Cert.AUp.reference_frame,
  fun m ρ _ => Cert.AdamOut.Gen.frame m ρ,
  fun m ρ _ => Cert.AdamOutIdeal.Gen.frame m ρ,
  Cert.AOut.reference_frame,
  fun m ρ _ => Cert.AdamDown.Gen.frame m ρ,
  fun m ρ _ => Cert.AdamDownIdeal.Gen.frame m ρ,
  Cert.ADown.reference_frame,
  fun m ρ _ => Cert.AdaWgrad.Gen.frame m ρ,
  fun m ρ _ => Cert.AdaWgradIdeal.Gen.frame m ρ,
  Cert.Ada.reference_frame,
  fun m ρ _ => Cert.SmallSum.Gen.frame m ρ,
  fun m ρ _ => Cert.SmallSumIdeal.Gen.frame m ρ,
  Cert.Small.reference_frame,
  fun m ρ _ => Cert.DownLoss.Gen.frame m ρ,
  fun m ρ _ => Cert.DownLossIdeal.Gen.frame m ρ,
  Cert.Loss.reference_frame,
  fun m ρ _ => Cert.MixOut.Gen.frame m ρ,
  fun m ρ _ => Cert.MixOutIdeal.Gen.frame m ρ,
  Cert.MixO.reference_frame,
  fun m ρ _ => Cert.FfnConv.Gen.frame m ρ,
  fun m ρ _ => Cert.FfnConvIdeal.Gen.frame m ρ,
  Cert.Ffn.reference_frame,
  fun m ρ _ => Cert.SsdConv.Gen.frame m ρ,
  fun m ρ _ => Cert.SsdConvIdeal.Gen.frame m ρ,
  Cert.Xbc.reference_frame,
  fun m ρ _ => Cert.AdaMod.Gen.frame m ρ,
  fun m ρ _ => Cert.AdaModIdeal.Gen.frame m ρ,
  Cert.Modu.reference_frame,
  trivial,
  Cert.Conf.algebraic,
  trivial,
  Cert.Down.algebraic,
  trivial,
  Cert.Up.algebraic,
  trivial,
  Cert.Out.algebraic,
  trivial,
  Cert.In5.algebraic,
  trivial,
  Cert.UpP.algebraic,
  trivial,
  Cert.InI.algebraic,
  trivial,
  Cert.Norm2.algebraic,
  trivial,
  Cert.Norm1.algebraic,
  trivial,
  Cert.AIn.algebraic,
  trivial,
  Cert.AUp.algebraic,
  trivial,
  Cert.AOut.algebraic,
  trivial,
  Cert.ADown.algebraic,
  trivial,
  Cert.Ada.algebraic,
  trivial,
  Cert.Small.algebraic,
  trivial,
  Cert.Loss.algebraic,
  trivial,
  Cert.MixO.algebraic,
  trivial,
  Cert.Ffn.algebraic,
  trivial,
  Cert.Xbc.algebraic,
  trivial,
  Cert.Modu.algebraic⟩

end Cert.Proof

end
